-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_row [hPre_ones_row : Cert.Pre_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_row [hPre_ones_row : Cert.Pre_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_branches [hPre_finite_branches : Cert.Pre_finite_branches.Facts] (m : (ℓ : Loc Cert.MergeIdeal.nD Cert.MergeIdeal.τ Cert.MergeIdeal.sig) → Buf (Elt Ideal) ℓ) : Prop :=
  ∀ c : Dev Cert.MergeIdeal.nD,
    (Cert.Pre_finite_branches.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_branches [hPre_finite_branches : Cert.Pre_finite_branches.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_branches.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_norm [hPre_finite_norm : Cert.Pre_finite_norm.Facts] (m : (ℓ : Loc Cert.ConvIdeal.nD Cert.ConvIdeal.τ Cert.ConvIdeal.sig) → Buf (Elt Ideal) ℓ) : Prop :=
  ∀ c : Dev Cert.ConvIdeal.nD,
    (Cert.Pre_finite_norm.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_norm [hPre_finite_norm : Cert.Pre_finite_norm.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_norm.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepIdeal_finite_gates [hPre_finite_gates : Cert.Pre_finite_gates.Facts] (m : (ℓ : Loc Cert.FoxPrepIdeal.nD Cert.FoxPrepIdeal.τ Cert.FoxPrepIdeal.sig) → Buf (Elt Ideal) ℓ) : Prop :=
  ∀ c : Dev Cert.FoxPrepIdeal.nD,
    (Cert.Pre_finite_gates.fn (F := Ideal) (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1)) (m ((c.tc : Thread Cert.FoxPrepIdeal.nD Cert.FoxPrepIdeal.τ).loc Cert.FoxPrepIdeal.main_arg2)) (m ((c.tc : Thread Cert.FoxPrepIdeal.nD Cert.FoxPrepIdeal.τ).loc Cert.FoxPrepIdeal.main_arg3)) (m ((c.tc : Thread Cert.FoxPrepIdeal.nD Cert.FoxPrepIdeal.τ).loc Cert.FoxPrepIdeal.main_arg4))) = (fun _ => 1#1)

def Pre_FoxPrepRefIdeal (m : (ℓ : Loc Cert.FoxPrepRefIdeal.nD Cert.FoxPrepRefIdeal.τ Cert.FoxPrepRefIdeal.sig) → Buf (Elt Ideal) ℓ) : Prop :=
  True

def Pre_FoxPrepRefIdeal_finite_gates [hPre_finite_gates : Cert.Pre_finite_gates.Facts] (m : (ℓ : Loc Cert.FoxPrepRefIdeal.nD Cert.FoxPrepRefIdeal.τ Cert.FoxPrepRefIdeal.sig) → Buf (Elt Ideal) ℓ) : Prop :=
  ∀ c : Dev Cert.FoxPrepRefIdeal.nD,
    (Cert.Pre_finite_gates.fn (F := Ideal) (m ((c.tc : Thread Cert.FoxPrepRefIdeal.nD Cert.FoxPrepRefIdeal.τ).loc Cert.FoxPrepRefIdeal.main_arg0)) (m ((c.tc : Thread Cert.FoxPrepRefIdeal.nD Cert.FoxPrepRefIdeal.τ).loc Cert.FoxPrepRefIdeal.main_arg1)) (m ((c.tc : Thread Cert.FoxPrepRefIdeal.nD Cert.FoxPrepRefIdeal.τ).loc Cert.FoxPrepRefIdeal.main_arg2)) (m ((c.tc : Thread Cert.FoxPrepRefIdeal.nD Cert.FoxPrepRefIdeal.τ).loc Cert.FoxPrepRefIdeal.main_arg3)) (m ((c.tc : Thread Cert.FoxPrepRefIdeal.nD Cert.FoxPrepRefIdeal.τ).loc Cert.FoxPrepRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ones_row [hKernelIdeal : Cert.KernelIdeal.Facts] [hPre_ones_row : Cert.Pre_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ones_row [hReferenceIdeal : Cert.ReferenceIdeal.Facts] [hPre_ones_row : Cert.Pre_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_branches [hMergeIdeal : Cert.MergeIdeal.Facts] [hPre_finite_branches : Cert.Pre_finite_branches.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_branches m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_branches [hMergeRefIdeal : Cert.MergeRefIdeal.Facts] [hPre_finite_branches : Cert.Pre_finite_branches.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_branches m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_finite_norm [hConvIdeal : Cert.ConvIdeal.Facts] [hPre_finite_norm : Cert.Pre_finite_norm.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_norm m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvRefIdeal_pre_finite_norm [hConvRefIdeal : Cert.ConvRefIdeal.Facts] [hPre_finite_norm : Cert.Pre_finite_norm.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_norm m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1)
      ∧ r.2.mem ((c.tc : Thread Cert.FoxPrep.nD Cert.FoxPrep.τ).loc Cert.FoxPrep.main_arg2) = m ((c.tc : Thread Cert.FoxPrep.nD Cert.FoxPrep.τ).loc Cert.FoxPrep.main_arg2)
      ∧ r.2.mem ((c.tc : Thread Cert.FoxPrep.nD Cert.FoxPrep.τ).loc Cert.FoxPrep.main_arg3) = m ((c.tc : Thread Cert.FoxPrep.nD Cert.FoxPrep.τ).loc Cert.FoxPrep.main_arg3)
      ∧ r.2.mem ((c.tc : Thread Cert.FoxPrep.nD Cert.FoxPrep.τ).loc Cert.FoxPrep.main_arg4) = m ((c.tc : Thread Cert.FoxPrep.nD Cert.FoxPrep.τ).loc Cert.FoxPrep.main_arg4))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1)
      ∧ r.2.mem ((c.tc : Thread Cert.FoxPrepIdeal.nD Cert.FoxPrepIdeal.τ).loc Cert.FoxPrepIdeal.main_arg2) = m ((c.tc : Thread Cert.FoxPrepIdeal.nD Cert.FoxPrepIdeal.τ).loc Cert.FoxPrepIdeal.main_arg2)
      ∧ r.2.mem ((c.tc : Thread Cert.FoxPrepIdeal.nD Cert.FoxPrepIdeal.τ).loc Cert.FoxPrepIdeal.main_arg3) = m ((c.tc : Thread Cert.FoxPrepIdeal.nD Cert.FoxPrepIdeal.τ).loc Cert.FoxPrepIdeal.main_arg3)
      ∧ r.2.mem ((c.tc : Thread Cert.FoxPrepIdeal.nD Cert.FoxPrepIdeal.τ).loc Cert.FoxPrepIdeal.main_arg4) = m ((c.tc : Thread Cert.FoxPrepIdeal.nD Cert.FoxPrepIdeal.τ).loc Cert.FoxPrepIdeal.main_arg4))
      ∧ r.2.sem = fun _ => 0)

def quiescent_FoxPrepIdeal_pre_finite_gates [hFoxPrepIdeal : Cert.FoxPrepIdeal.Facts] [hPre_finite_gates : Cert.Pre_finite_gates.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal_finite_gates m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1)
      ∧ r.2.mem ((c.tc : Thread Cert.FoxPrepIdeal.nD Cert.FoxPrepIdeal.τ).loc Cert.FoxPrepIdeal.main_arg2) = m ((c.tc : Thread Cert.FoxPrepIdeal.nD Cert.FoxPrepIdeal.τ).loc Cert.FoxPrepIdeal.main_arg2)
      ∧ r.2.mem ((c.tc : Thread Cert.FoxPrepIdeal.nD Cert.FoxPrepIdeal.τ).loc Cert.FoxPrepIdeal.main_arg3) = m ((c.tc : Thread Cert.FoxPrepIdeal.nD Cert.FoxPrepIdeal.τ).loc Cert.FoxPrepIdeal.main_arg3)
      ∧ r.2.mem ((c.tc : Thread Cert.FoxPrepIdeal.nD Cert.FoxPrepIdeal.τ).loc Cert.FoxPrepIdeal.main_arg4) = m ((c.tc : Thread Cert.FoxPrepIdeal.nD Cert.FoxPrepIdeal.τ).loc Cert.FoxPrepIdeal.main_arg4))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1)
      ∧ r.2.mem ((c.tc : Thread Cert.FoxPrepRefIdeal.nD Cert.FoxPrepRefIdeal.τ).loc Cert.FoxPrepRefIdeal.main_arg2) = m ((c.tc : Thread Cert.FoxPrepRefIdeal.nD Cert.FoxPrepRefIdeal.τ).loc Cert.FoxPrepRefIdeal.main_arg2)
      ∧ r.2.mem ((c.tc : Thread Cert.FoxPrepRefIdeal.nD Cert.FoxPrepRefIdeal.τ).loc Cert.FoxPrepRefIdeal.main_arg3) = m ((c.tc : Thread Cert.FoxPrepRefIdeal.nD Cert.FoxPrepRefIdeal.τ).loc Cert.FoxPrepRefIdeal.main_arg3)
      ∧ r.2.mem ((c.tc : Thread Cert.FoxPrepRefIdeal.nD Cert.FoxPrepRefIdeal.τ).loc Cert.FoxPrepRefIdeal.main_arg4) = m ((c.tc : Thread Cert.FoxPrepRefIdeal.nD Cert.FoxPrepRefIdeal.τ).loc Cert.FoxPrepRefIdeal.main_arg4))
      ∧ r.2.sem = fun _ => 0)

def quiescent_FoxPrepRefIdeal_pre_finite_gates [hFoxPrepRefIdeal : Cert.FoxPrepRefIdeal.Facts] [hPre_finite_gates : Cert.Pre_finite_gates.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal_finite_gates m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1)
      ∧ r.2.mem ((c.tc : Thread Cert.FoxPrepRefIdeal.nD Cert.FoxPrepRefIdeal.τ).loc Cert.FoxPrepRefIdeal.main_arg2) = m ((c.tc : Thread Cert.FoxPrepRefIdeal.nD Cert.FoxPrepRefIdeal.τ).loc Cert.FoxPrepRefIdeal.main_arg2)
      ∧ r.2.mem ((c.tc : Thread Cert.FoxPrepRefIdeal.nD Cert.FoxPrepRefIdeal.τ).loc Cert.FoxPrepRefIdeal.main_arg3) = m ((c.tc : Thread Cert.FoxPrepRefIdeal.nD Cert.FoxPrepRefIdeal.τ).loc Cert.FoxPrepRefIdeal.main_arg3)
      ∧ r.2.mem ((c.tc : Thread Cert.FoxPrepRefIdeal.nD Cert.FoxPrepRefIdeal.τ).loc Cert.FoxPrepRefIdeal.main_arg4) = m ((c.tc : Thread Cert.FoxPrepRefIdeal.nD Cert.FoxPrepRefIdeal.τ).loc Cert.FoxPrepRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ones_row [hKernelIdeal : Cert.KernelIdeal.Facts] [hReferenceIdeal : Cert.ReferenceIdeal.Facts] [hPre_ones_row : Cert.Pre_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_v24) = v4 c
          ∧ r.2.mem ((c.tc : Thread Cert.InProjRefIdeal.nD Cert.InProjRefIdeal.τ).loc Cert.InProjRefIdeal.main_v25) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal_pre_finite_branches [hMergeIdeal : Cert.MergeIdeal.Facts] [hMergeRefIdeal : Cert.MergeRefIdeal.Facts] [hPre_finite_branches : Cert.Pre_finite_branches.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_branches m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_v49) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Conv_ConvIdeal : Prop :=
  True

def algebraic_ConvIdeal_ConvRefIdeal_pre_finite_norm [hConvIdeal : Cert.ConvIdeal.Facts] [hConvRefIdeal : Cert.ConvRefIdeal.Facts] [hPre_finite_norm : Cert.Pre_finite_norm.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_norm m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v257) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v21) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def preserves_FoxPrep_FoxPrepIdeal : Prop :=
  True

def algebraic_FoxPrepIdeal_FoxPrepRefIdeal_pre_finite_gates [hFoxPrepIdeal : Cert.FoxPrepIdeal.Facts] [hFoxPrepRefIdeal : Cert.FoxPrepRefIdeal.Facts] [hPre_finite_gates : Cert.Pre_finite_gates.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal_finite_gates m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)
      ∧ m' ((c.tc : Thread Cert.FoxPrepRefIdeal.nD Cert.FoxPrepRefIdeal.τ).loc Cert.FoxPrepRefIdeal.main_arg2) = m ((c.tc : Thread Cert.FoxPrepIdeal.nD Cert.FoxPrepIdeal.τ).loc Cert.FoxPrepIdeal.main_arg2)
      ∧ m' ((c.tc : Thread Cert.FoxPrepRefIdeal.nD Cert.FoxPrepRefIdeal.τ).loc Cert.FoxPrepRefIdeal.main_arg3) = m ((c.tc : Thread Cert.FoxPrepIdeal.nD Cert.FoxPrepIdeal.τ).loc Cert.FoxPrepIdeal.main_arg3)
      ∧ m' ((c.tc : Thread Cert.FoxPrepRefIdeal.nD Cert.FoxPrepRefIdeal.τ).loc Cert.FoxPrepRefIdeal.main_arg4) = m ((c.tc : Thread Cert.FoxPrepIdeal.nD Cert.FoxPrepIdeal.τ).loc Cert.FoxPrepIdeal.main_arg4)) →
    ∃ (v0 : (c : Dev Cert.FoxPrepIdeal.nD) → Buf (Elt Ideal) ((c.tc : Thread Cert.FoxPrepIdeal.nD Cert.FoxPrepIdeal.τ).loc Cert.FoxPrepIdeal.main_v3_0)) (v1 : (c : Dev Cert.FoxPrepIdeal.nD) → Buf (Elt Ideal) ((c.tc : Thread Cert.FoxPrepIdeal.nD Cert.FoxPrepIdeal.τ).loc Cert.FoxPrepIdeal.main_v3_1)) (v2 : (c : Dev Cert.FoxPrepIdeal.nD) → Buf (Elt Ideal) ((c.tc : Thread Cert.FoxPrepIdeal.nD Cert.FoxPrepIdeal.τ).loc Cert.FoxPrepIdeal.main_v3_2)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v3_0) = v0 c
          ∧ r.2.mem ((c.tc : Thread Cert.FoxPrepIdeal.nD Cert.FoxPrepIdeal.τ).loc Cert.FoxPrepIdeal.main_v3_1) = v1 c
          ∧ r.2.mem ((c.tc : Thread Cert.FoxPrepIdeal.nD Cert.FoxPrepIdeal.τ).loc Cert.FoxPrepIdeal.main_v3_2) = v2 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1)
          ∧ r.2.mem ((c.tc : Thread Cert.FoxPrepIdeal.nD Cert.FoxPrepIdeal.τ).loc Cert.FoxPrepIdeal.main_arg2) = m ((c.tc : Thread Cert.FoxPrepIdeal.nD Cert.FoxPrepIdeal.τ).loc Cert.FoxPrepIdeal.main_arg2)
          ∧ r.2.mem ((c.tc : Thread Cert.FoxPrepIdeal.nD Cert.FoxPrepIdeal.τ).loc Cert.FoxPrepIdeal.main_arg3) = m ((c.tc : Thread Cert.FoxPrepIdeal.nD Cert.FoxPrepIdeal.τ).loc Cert.FoxPrepIdeal.main_arg3)
          ∧ r.2.mem ((c.tc : Thread Cert.FoxPrepIdeal.nD Cert.FoxPrepIdeal.τ).loc Cert.FoxPrepIdeal.main_arg4) = m ((c.tc : Thread Cert.FoxPrepIdeal.nD Cert.FoxPrepIdeal.τ).loc Cert.FoxPrepIdeal.main_arg4))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v73) = v0 c
          ∧ r.2.mem ((c.tc : Thread Cert.FoxPrepRefIdeal.nD Cert.FoxPrepRefIdeal.τ).loc Cert.FoxPrepRefIdeal.main_v74) = v1 c
          ∧ r.2.mem ((c.tc : Thread Cert.FoxPrepRefIdeal.nD Cert.FoxPrepRefIdeal.τ).loc Cert.FoxPrepRefIdeal.main_v75) = v2 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1)
          ∧ r.2.mem ((c.tc : Thread Cert.FoxPrepRefIdeal.nD Cert.FoxPrepRefIdeal.τ).loc Cert.FoxPrepRefIdeal.main_arg2) = m' ((c.tc : Thread Cert.FoxPrepRefIdeal.nD Cert.FoxPrepRefIdeal.τ).loc Cert.FoxPrepRefIdeal.main_arg2)
          ∧ r.2.mem ((c.tc : Thread Cert.FoxPrepRefIdeal.nD Cert.FoxPrepRefIdeal.τ).loc Cert.FoxPrepRefIdeal.main_arg3) = m' ((c.tc : Thread Cert.FoxPrepRefIdeal.nD Cert.FoxPrepRefIdeal.τ).loc Cert.FoxPrepRefIdeal.main_arg3)
          ∧ r.2.mem ((c.tc : Thread Cert.FoxPrepRefIdeal.nD Cert.FoxPrepRefIdeal.τ).loc Cert.FoxPrepRefIdeal.main_arg4) = m' ((c.tc : Thread Cert.FoxPrepRefIdeal.nD Cert.FoxPrepRefIdeal.τ).loc Cert.FoxPrepRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hConv : Cert.Conv.Facts) (hConvIdeal : Cert.ConvIdeal.Facts) (hConvRefIdeal : Cert.ConvRefIdeal.Facts) (hPrep : Cert.Prep.Facts) (hPrepIdeal : Cert.PrepIdeal.Facts) (hPrepRefIdeal : Cert.PrepRefIdeal.Facts) (hFoxPrep : Cert.FoxPrep.Facts) (hFoxPrepIdeal : Cert.FoxPrepIdeal.Facts) (hFoxPrepRefIdeal : Cert.FoxPrepRefIdeal.Facts) (hPre_ones_row : Cert.Pre_ones_row.Facts) (hPre_finite_branches : Cert.Pre_finite_branches.Facts) (hPre_finite_norm : Cert.Pre_finite_norm.Facts) (hPre_finite_gates : Cert.Pre_finite_gates.Facts),
    quiescent_Kernel (hKernel := hKernel)
    ∧ quiescent_KernelIdeal (hKernelIdeal := hKernelIdeal)
    ∧ quiescent_KernelIdeal_pre_ones_row (hKernelIdeal := hKernelIdeal) (hPre_ones_row := hPre_ones_row)
    ∧ quiescent_ReferenceIdeal (hReferenceIdeal := hReferenceIdeal)
    ∧ quiescent_ReferenceIdeal_pre_ones_row (hReferenceIdeal := hReferenceIdeal) (hPre_ones_row := hPre_ones_row)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeIdeal_pre_finite_branches (hMergeIdeal := hMergeIdeal) (hPre_finite_branches := hPre_finite_branches)
    ∧ quiescent_MergeRefIdeal (hMergeRefIdeal := hMergeRefIdeal)
    ∧ quiescent_MergeRefIdeal_pre_finite_branches (hMergeRefIdeal := hMergeRefIdeal) (hPre_finite_branches := hPre_finite_branches)
    ∧ quiescent_Conv (hConv := hConv)
    ∧ quiescent_ConvIdeal (hConvIdeal := hConvIdeal)
    ∧ quiescent_ConvIdeal_pre_finite_norm (hConvIdeal := hConvIdeal) (hPre_finite_norm := hPre_finite_norm)
    ∧ quiescent_ConvRefIdeal (hConvRefIdeal := hConvRefIdeal)
    ∧ quiescent_ConvRefIdeal_pre_finite_norm (hConvRefIdeal := hConvRefIdeal) (hPre_finite_norm := hPre_finite_norm)
    ∧ quiescent_Prep (hPrep := hPrep)
    ∧ quiescent_PrepIdeal (hPrepIdeal := hPrepIdeal)
    ∧ quiescent_PrepRefIdeal (hPrepRefIdeal := hPrepRefIdeal)
    ∧ quiescent_FoxPrep (hFoxPrep := hFoxPrep)
    ∧ quiescent_FoxPrepIdeal (hFoxPrepIdeal := hFoxPrepIdeal)
    ∧ quiescent_FoxPrepIdeal_pre_finite_gates (hFoxPrepIdeal := hFoxPrepIdeal) (hPre_finite_gates := hPre_finite_gates)
    ∧ quiescent_FoxPrepRefIdeal (hFoxPrepRefIdeal := hFoxPrepRefIdeal)
    ∧ quiescent_FoxPrepRefIdeal_pre_finite_gates (hFoxPrepRefIdeal := hFoxPrepRefIdeal) (hPre_finite_gates := hPre_finite_gates)
    ∧ preserves_Kernel_KernelIdeal
    ∧ algebraic_KernelIdeal_ReferenceIdeal_pre_ones_row (hKernelIdeal := hKernelIdeal) (hReferenceIdeal := hReferenceIdeal) (hPre_ones_row := hPre_ones_row)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal_pre_finite_branches (hMergeIdeal := hMergeIdeal) (hMergeRefIdeal := hMergeRefIdeal) (hPre_finite_branches := hPre_finite_branches)
    ∧ preserves_Conv_ConvIdeal
    ∧ algebraic_ConvIdeal_ConvRefIdeal_pre_finite_norm (hConvIdeal := hConvIdeal) (hConvRefIdeal := hConvRefIdeal) (hPre_finite_norm := hPre_finite_norm)
    ∧ preserves_Prep_PrepIdeal
    ∧ algebraic_PrepIdeal_PrepRefIdeal (hPrepIdeal := hPrepIdeal) (hPrepRefIdeal := hPrepRefIdeal)
    ∧ preserves_FoxPrep_FoxPrepIdeal
    ∧ algebraic_FoxPrepIdeal_FoxPrepRefIdeal_pre_finite_gates (hFoxPrepIdeal := hFoxPrepIdeal) (hFoxPrepRefIdeal := hFoxPrepRefIdeal) (hPre_finite_gates := hPre_finite_gates)
-- ==== Pre_finite_branches.lean ====
abbrev S65536x384 : Shape := ⟨2, ![65536, 384]⟩
abbrev S65536x512 : Shape := ⟨2, ![65536, 512]⟩
abbrev S65536x256 : Shape := ⟨2, ![65536, 256]⟩
abbrev S65536x3072 : Shape := ⟨2, ![65536, 3072]⟩
abbrev S1x3072 : Shape := ⟨2, ![1, 3072]⟩
abbrev S65536x1024 : Shape := ⟨2, ![65536, 1024]⟩
abbrev S384x1024 : Shape := ⟨2, ![384, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S65536x384 : S_.BroadcastsInDim S65536x384 (![] : Fin 0 → Fin S65536x384.rank)
  reducesTo_S65536x384_S_d0_1 : S65536x384.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S65536x256 : S_.BroadcastsInDim S65536x256 (![] : Fin 0 → Fin S65536x256.rank)
  reducesTo_S65536x256_S_d0_1 : S65536x256.ReducesTo [0, 1] S_
  bcast_S_S384x1024 : S_.BroadcastsInDim S384x1024 (![] : Fin 0 → Fin S384x1024.rank)
  reducesTo_S384x1024_S_d0_1 : S384x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg7 : FVec F S512x1024 .bf16) (main_arg8 : FVec F S256x1024 .bf16) (main_v16 : IVec S_ 1) (main_v17 : FVec F S384x1024 .f32) : IVec S_ 1 :=
  let main_v18 : FVec F S384x1024 .f32 := Host.absf main_v17
  let main_cst_4 : FVec F S_ .f32 := constant S_ .f32 0x7F800000#32
  let main_v19 : FVec F S384x1024 .f32 := broadcastInDim S384x1024 ![] bcast_S_S384x1024 main_cst_4
  let main_v20 : IVec S384x1024 1 := cmpf .olt main_v18 main_v19
  let main_c_5 : IVec S_ 1 := constantI S_ 1 1#1
  let main_v21 : IVec S_ 1 := (fun x v => Host.reduce IntOp.andi x v reducesTo_S384x1024_S_d0_1 h_S_) main_v20 main_c_5
  let main_v22 : IVec S_ 1 := andi main_v16 main_v21
  let main_v23 : FVec F S512x1024 .f32 := (extf .f32 · bitsLt_bf16_f32) main_arg7
  let main_v24 : FVec F S512x1024 .f32 := Host.absf main_v23
  let main_cst_6 : FVec F S_ .f32 := constant S_ .f32 0x7F800000#32
  let main_v25 : FVec F S512x1024 .f32 := broadcastInDim S512x1024 ![] bcast_S_S512x1024 main_cst_6
  let main_v26 : IVec S512x1024 1 := cmpf .olt main_v24 main_v25
  let main_c_7 : IVec S_ 1 := constantI S_ 1 1#1
  let main_v27 : IVec S_ 1 := (fun x v => Host.reduce IntOp.andi x v reducesTo_S512x1024_S_d0_1 h_S_) main_v26 main_c_7
  let main_v28 : IVec S_ 1 := andi main_v22 main_v27
  let main_v29 : FVec F S256x1024 .f32 := (extf .f32 · bitsLt_bf16_f32) main_arg8
  let main_v30 : FVec F S256x1024 .f32 := Host.absf main_v29
  let main_cst_8 : FVec F S_ .f32 := constant S_ .f32 0x7F800000#32
  let main_v31 : FVec F S256x1024 .f32 := broadcastInDim S256x1024 ![] bcast_S_S256x1024 main_cst_8
  let main_v32 : IVec S256x1024 1 := cmpf .olt main_v30 main_v31
  let main_c_9 : IVec S_ 1 := constantI S_ 1 1#1
  let main_v33 : IVec S_ 1 := (fun x v => Host.reduce IntOp.andi x v reducesTo_S256x1024_S_d0_1 h_S_) main_v32 main_c_9
  let main_v34 : IVec S_ 1 := andi main_v28 main_v33
  main_v34

def fn {F : FTy → Type} [FloatOps F] (main_arg0 : FVec F S65536x384 .bf16) (main_arg1 : FVec F S65536x512 .bf16) (main_arg2 : FVec F S65536x256 .bf16) (main_arg3 : FVec F S65536x3072 .bf16) (main_arg4 : FVec F S1x3072 .f32) (main_arg5 : FVec F S65536x1024 .f32) (main_arg6 : FVec F S384x1024 .bf16) (main_arg7 : FVec F S512x1024 .bf16) (main_arg8 : FVec F S256x1024 .bf16) (main_arg9 : FVec F S1024x1024 .bf16) (main_arg10 : FVec F S1x1024 .f32) : IVec S_ 1 :=
  let main_v0 : FVec F S65536x384 .f32 := (extf .f32 · bitsLt_bf16_f32) main_arg0
  let main_v1 : FVec F S65536x384 .f32 := Host.absf main_v0
  let main_cst : FVec F S_ .f32 := constant S_ .f32 0x7F800000#32
  let main_v2 : FVec F S65536x384 .f32 := broadcastInDim S65536x384 ![] bcast_S_S65536x384 main_cst
  let main_v3 : IVec S65536x384 1 := cmpf .olt main_v1 main_v2
  let main_c : IVec S_ 1 := constantI S_ 1 1#1
  let main_v4 : IVec S_ 1 := (fun x v => Host.reduce IntOp.andi x v reducesTo_S65536x384_S_d0_1 h_S_) main_v3 main_c
  let main_v5 : FVec F S65536x512 .f32 := (extf .f32 · bitsLt_bf16_f32) main_arg1
  let main_v6 : FVec F S65536x512 .f32 := Host.absf main_v5
  let main_cst_0 : FVec F S_ .f32 := constant S_ .f32 0x7F800000#32
  let main_v7 : FVec F S65536x512 .f32 := broadcastInDim S65536x512 ![] bcast_S_S65536x512 main_cst_0
  let main_v8 : IVec S65536x512 1 := cmpf .olt main_v6 main_v7
  let main_c_1 : IVec S_ 1 := constantI S_ 1 1#1
  let main_v9 : IVec S_ 1 := (fun x v => Host.reduce IntOp.andi x v reducesTo_S65536x512_S_d0_1 h_S_) main_v8 main_c_1
  let main_v10 : IVec S_ 1 := andi main_v4 main_v9
  let main_v11 : FVec F S65536x256 .f32 := (extf .f32 · bitsLt_bf16_f32) main_arg2
  let main_v12 : FVec F S65536x256 .f32 := Host.absf main_v11
  let main_cst_2 : FVec F S_ .f32 := constant S_ .f32 0x7F800000#32
  let main_v13 : FVec F S65536x256 .f32 := broadcastInDim S65536x256 ![] bcast_S_S65536x256 main_cst_2
  let main_v14 : IVec S65536x256 1 := cmpf .olt main_v12 main_v13
  let main_c_3 : IVec S_ 1 := constantI S_ 1 1#1
  let main_v15 : IVec S_ 1 := (fun x v => Host.reduce IntOp.andi x v reducesTo_S65536x256_S_d0_1 h_S_) main_v14 main_c_3
  let main_v16 : IVec S_ 1 := andi main_v10 main_v15
  let main_v17 : FVec F S384x1024 .f32 := (extf .f32 · bitsLt_bf16_f32) main_arg6
  fn_part1 (F := F) main_arg7 main_arg8 main_v16 main_v17
-- ==== Pre_finite_gates.lean ====
abbrev S16x4096x1152 : Shape := ⟨3, ![16, 4096, 1152]⟩
abbrev S16x4096x128 : Shape := ⟨3, ![16, 4096, 128]⟩
abbrev S1x128 : Shape := ⟨2, ![1, 128]⟩
abbrev S1x384 : Shape := ⟨2, ![1, 384]⟩
abbrev S16x4096x6 : Shape := ⟨3, ![16, 4096, 6]⟩
abbrev S_ : Shape := ⟨0, ![]⟩
abbrev S1x6 : Shape := ⟨2, ![1, 6]⟩

class Facts : Prop where
  slices_S16x4096x128_S16x4096x6_0_0_0 : S16x4096x128.Slices ![0, 0, 0] S16x4096x6
  bcast_S_S16x4096x6 : S_.BroadcastsInDim S16x4096x6 (![] : Fin 0 → Fin S16x4096x6.rank)
  reducesTo_S16x4096x6_S_d0_1_2 : S16x4096x6.ReducesTo [0, 1, 2] S_
  h_S_ : 0 < S_.numel
  slices_S1x128_S1x6_0_0 : S1x128.Slices ![0, 0] S1x6
  bcast_S_S1x6 : S_.BroadcastsInDim S1x6 (![] : Fin 0 → Fin S1x6.rank)
  reducesTo_S1x6_S_d0_1 : S1x6.ReducesTo [0, 1] S_

variable [Facts]

def fn {F : FTy → Type} [FloatOps F] (main_arg0 : FVec F S16x4096x1152 .bf16) (main_arg1 : FVec F S16x4096x128 .f32) (main_arg2 : FVec F S1x128 .f32) (main_arg3 : FVec F S1x384 .f32) (main_arg4 : FVec F S1x384 .f32) : IVec S_ 1 :=
  let main_v0 : FVec F S16x4096x6 .f32 := (extractStridedSlice S16x4096x6 ![0, 0, 0] · slices_S16x4096x128_S16x4096x6_0_0_0) main_arg1
  let main_v1 : FVec F S16x4096x6 .f32 := Host.absf main_v0
  let main_cst : FVec F S_ .f32 := constant S_ .f32 0x7F800000#32
  let main_v2 : FVec F S16x4096x6 .f32 := broadcastInDim S16x4096x6 ![] bcast_S_S16x4096x6 main_cst
  let main_v3 : IVec S16x4096x6 1 := cmpf .olt main_v1 main_v2
  let main_c : IVec S_ 1 := constantI S_ 1 1#1
  let main_v4 : IVec S_ 1 := (fun x v => Host.reduce IntOp.andi x v reducesTo_S16x4096x6_S_d0_1_2 h_S_) main_v3 main_c
  let main_v5 : FVec F S1x6 .f32 := (extractStridedSlice S1x6 ![0, 0] · slices_S1x128_S1x6_0_0) main_arg2
  let main_v6 : FVec F S1x6 .f32 := Host.absf main_v5
  let main_cst_0 : FVec F S_ .f32 := constant S_ .f32 0x7F800000#32
  let main_v7 : FVec F S1x6 .f32 := broadcastInDim S1x6 ![] bcast_S_S1x6 main_cst_0
  let main_v8 : IVec S1x6 1 := cmpf .olt main_v6 main_v7
  let main_c_1 : IVec S_ 1 := constantI S_ 1 1#1
  let main_v9 : IVec S_ 1 := (fun x v => Host.reduce IntOp.andi x v reducesTo_S1x6_S_d0_1 h_S_) main_v8 main_c_1
  let main_v10 : IVec S_ 1 := andi main_v4 main_v9
  main_v10
-- ==== Pre_finite_norm.lean ====
abbrev S16x4096x512 : Shape := ⟨3, ![16, 4096, 512]⟩
abbrev S31x256 : Shape := ⟨2, ![31, 256]⟩
abbrev S1x256 : Shape := ⟨2, ![1, 256]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel

variable [Facts]

def fn {F : FTy → Type} [FloatOps F] (main_arg0 : FVec F S16x4096x512 .bf16) (main_arg1 : FVec F S31x256 .f32) (main_arg2 : FVec F S1x256 .f32) (main_arg3 : FVec F S1x256 .f32) (main_arg4 : FVec F S1x256 .f32) : IVec S_ 1 :=
  let main_v0 : FVec F S1x256 .f32 := Host.absf main_arg3
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S1x256 .f32 := Host.absf main_arg4
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Pre_ones_row.lean ====
abbrev S16x6x4096x128 : Shape := ⟨4, ![16, 6, 4096, 128]⟩
abbrev S16x6x80x4096 : Shape := ⟨4, ![16, 6, 80, 4096]⟩
abbrev S_ : Shape := ⟨0, ![]⟩
abbrev S16x6x1x4096 : Shape := ⟨4, ![16, 6, 1, 4096]⟩
abbrev S16x6x4096 : Shape := ⟨3, ![16, 6, 4096]⟩

class Facts : Prop where
  bitsLt_bf16_f32 : FTy.bits .bf16 < FTy.bits .f32
  bcast_S_S16x6x4096x128 : S_.BroadcastsInDim S16x6x4096x128 (![] : Fin 0 → Fin S16x6x4096x128.rank)
  reducesTo_S16x6x4096x128_S_d0_1_2_3 : S16x6x4096x128.ReducesTo [0, 1, 2, 3] S_
  h_S_ : 0 < S_.numel
  slices_S16x6x80x4096_S16x6x1x4096_0_0_64_0 : S16x6x80x4096.Slices ![0, 0, 64, 0] S16x6x1x4096
  shapeCasts_S16x6x1x4096_S16x6x4096 : S16x6x1x4096.ShapeCasts S16x6x4096
  bcast_S_S16x6x4096 : S_.BroadcastsInDim S16x6x4096 (![] : Fin 0 → Fin S16x6x4096.rank)
  reducesTo_S16x6x4096_S_d0_1_2 : S16x6x4096.ReducesTo [0, 1, 2] S_

variable [Facts]

def fn {F : FTy → Type} [FloatOps F] (main_arg0 : FVec F S16x6x4096x128 .bf16) (main_arg1 : FVec F S16x6x4096x128 .bf16) (main_arg2 : FVec F S16x6x80x4096 .bf16) : IVec S_ 1 :=
  let main_v0 : FVec F S16x6x4096x128 .f32 := (extf .f32 · bitsLt_bf16_f32) main_arg0
  let main_v1 : FVec F S16x6x4096x128 .f32 := Host.absf main_v0
  let main_cst : FVec F S_ .f32 := constant S_ .f32 0x7F800000#32
  let main_v2 : FVec F S16x6x4096x128 .f32 := broadcastInDim S16x6x4096x128 ![] bcast_S_S16x6x4096x128 main_cst
  let main_v3 : IVec S16x6x4096x128 1 := cmpf .olt main_v1 main_v2
  let main_c : IVec S_ 1 := constantI S_ 1 1#1
  let main_v4 : IVec S_ 1 := (fun x v => Host.reduce IntOp.andi x v reducesTo_S16x6x4096x128_S_d0_1_2_3 h_S_) main_v3 main_c
  let main_v5 : FVec F S16x6x4096x128 .f32 := (extf .f32 · bitsLt_bf16_f32) main_arg1
  let main_v6 : FVec F S16x6x4096x128 .f32 := Host.absf main_v5
  let main_cst_0 : FVec F S_ .f32 := constant S_ .f32 0x7F800000#32
  let main_v7 : FVec F S16x6x4096x128 .f32 := broadcastInDim S16x6x4096x128 ![] bcast_S_S16x6x4096x128 main_cst_0
  let main_v8 : IVec S16x6x4096x128 1 := cmpf .olt main_v6 main_v7
  let main_c_1 : IVec S_ 1 := constantI S_ 1 1#1
  let main_v9 : IVec S_ 1 := (fun x v => Host.reduce IntOp.andi x v reducesTo_S16x6x4096x128_S_d0_1_2_3 h_S_) main_v8 main_c_1
  let main_v10 : FVec F S16x6x1x4096 .bf16 := (extractStridedSlice S16x6x1x4096 ![0, 0, 64, 0] · slices_S16x6x80x4096_S16x6x1x4096_0_0_64_0) main_arg2
  let main_v11 : FVec F S16x6x4096 .bf16 := shapeCast S16x6x4096 main_v10 shapeCasts_S16x6x1x4096_S16x6x4096
  let main_v12 : FVec F S16x6x4096 .f32 := (extf .f32 · bitsLt_bf16_f32) main_v11
  let main_cst_2 : FVec F S_ .f32 := constant S_ .f32 0x3F800000#32
  let main_v13 : FVec F S16x6x4096 .f32 := broadcastInDim S16x6x4096 ![] bcast_S_S16x6x4096 main_cst_2
  let main_v14 : IVec S16x6x4096 1 := cmpf .oeq main_v12 main_v13
  let main_c_3 : IVec S_ 1 := constantI S_ 1 1#1
  let main_v15 : IVec S_ 1 := (fun x v => Host.reduce IntOp.andi x v reducesTo_S16x6x4096_S_d0_1_2 h_S_) main_v14 main_c_3
  let main_v16 : IVec S_ 1 := andi main_v4 main_v9
  let main_v17 : IVec S_ 1 := andi main_v16 main_v15
  main_v17
-- ==== Kernel.lean ====
abbrev S16x6x4096x128 : Shape := ⟨4, ![16, 6, 4096, 128]⟩
abbrev S16x6x80x4096 : Shape := ⟨4, ![16, 6, 80, 4096]⟩
abbrev S16x4096x384 : Shape := ⟨3, ![16, 4096, 384]⟩
abbrev S1x2x1024x128 : Shape := ⟨4, ![1, 2, 1024, 128]⟩
abbrev S1x2x4096x128 : Shape := ⟨4, ![1, 2, 4096, 128]⟩
abbrev S1x2x80x4096 : Shape := ⟨4, ![1, 2, 80, 4096]⟩
abbrev S1x1024x128 : Shape := ⟨3, ![1, 1024, 128]⟩
abbrev S2x1x1024 : Shape := ⟨3, ![2, 1, 1024]⟩
abbrev S2x80x1024 : Shape := ⟨3, ![2, 80, 1024]⟩
abbrev S2x2x256x1024 : Shape := ⟨4, ![2, 2, 256, 1024]⟩
abbrev S256x256 : Shape := ⟨2, ![256, 256]⟩
abbrev S1x1x256x128 : Shape := ⟨4, ![1, 1, 256, 128]⟩
abbrev S256x128 : Shape := ⟨2, ![256, 128]⟩
abbrev S1x1x1024x128 : Shape := ⟨4, ![1, 1, 1024, 128]⟩
abbrev S1024x128 : Shape := ⟨2, ![1024, 128]⟩
abbrev S256x1024 : Shape := ⟨2, ![256, 1024]⟩
abbrev S1x1x256x1024 : Shape := ⟨4, ![1, 1, 256, 1024]⟩
abbrev S1x1x1024 : Shape := ⟨3, ![1, 1, 1024]⟩
abbrev S1x1024 : Shape := ⟨2, ![1, 1024]⟩
abbrev S1024 : Shape := ⟨1, ![1024]⟩
abbrev S1x1x80x256 : Shape := ⟨4, ![1, 1, 80, 256]⟩
abbrev S80x256 : Shape := ⟨2, ![80, 256]⟩
abbrev S80x1024 : Shape := ⟨2, ![80, 1024]⟩
abbrev S1x80x1024 : Shape := ⟨3, ![1, 80, 1024]⟩
abbrev S1x1x768x128 : Shape := ⟨4, ![1, 1, 768, 128]⟩
abbrev S768x128 : Shape := ⟨2, ![768, 128]⟩
abbrev S256x768 : Shape := ⟨2, ![256, 768]⟩
abbrev S1x1x256x768 : Shape := ⟨4, ![1, 1, 256, 768]⟩
abbrev S1x1x512x128 : Shape := ⟨4, ![1, 1, 512, 128]⟩
abbrev S512x128 : Shape := ⟨2, ![512, 128]⟩
abbrev S256x512 : Shape := ⟨2, ![256, 512]⟩
abbrev S1x1x256x512 : Shape := ⟨4, ![1, 1, 256, 512]⟩
abbrev S1x1x768 : Shape := ⟨3, ![1, 1, 768]⟩
abbrev S1x768 : Shape := ⟨2, ![1, 768]⟩
abbrev S768 : Shape := ⟨1, ![768]⟩
abbrev S80x768 : Shape := ⟨2, ![80, 768]⟩
abbrev S1x80x768 : Shape := ⟨3, ![1, 80, 768]⟩
abbrev S1x1x256x256 : Shape := ⟨4, ![1, 1, 256, 256]⟩
abbrev S1x1x512 : Shape := ⟨3, ![1, 1, 512]⟩
abbrev S1x512 : Shape := ⟨2, ![1, 512]⟩
abbrev S512 : Shape := ⟨1, ![512]⟩
abbrev S80x512 : Shape := ⟨2, ![80, 512]⟩
abbrev S1x80x512 : Shape := ⟨3, ![1, 80, 512]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S1x64x1024 : Shape := ⟨3, ![1, 64, 1024]⟩
abbrev S64x1024 : Shape := ⟨2, ![64, 1024]⟩
abbrev S128x1024 : Shape := ⟨2, ![128, 1024]⟩

abbrev nBuf : Space → Nat
  | .hbm => 4
  | .vmem => 11
  | .smem => 0
  | _ => 0

abbrev bufTy : (tb : Table) → Fin (tcTables nBuf tb) → BufTy
  | .hbm, ⟨0, _⟩ => ⟨S16x6x4096x128, .bf16⟩
  | .hbm, ⟨1, _⟩ => ⟨S16x6x4096x128, .bf16⟩
  | .hbm, ⟨2, _⟩ => ⟨S16x6x80x4096, .bf16⟩
  | .hbm, ⟨3, _⟩ => ⟨S16x4096x384, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x80x4096, .bf16⟩
  | .local _ .vmem, ⟨5, _⟩ => ⟨S1x2x80x4096, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1x1024, .f32⟩
  | .local _ .vmem, ⟨9, _⟩ => ⟨S2x80x1024, .f32⟩
  | .local _ .vmem, ⟨10, _⟩ => ⟨S2x2x256x1024, .f32⟩
  | _, _ => ⟨S16x6x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 3, 4], ![false, false, false]⟩

def k0_mult1 : BitVec 32 :=
  let c0_i32 : BitVec 32 := 0#32
  c0_i32
def k0_mult2 : BitVec 32 :=
  let c0_i32_18 : BitVec 32 := 0#32
  c0_i32_18
@[reducible] def k0_t1_loop (i : grid0.Coords) : Scf.Loop 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_32 : BitVec 32 := 1#32
  ⟨c0_i32_31, v36, c1_i32_32⟩
def k0_mult3 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c0_i32_325 : BitVec 32 := 0#32
  let v416 : BitVec 32 := Scalar.addi v415 c0_i32_325
  let c1_i32_326 : BitVec 32 := 1#32
  let v417 : BitVec 32 := Scalar.addi v416 c1_i32_326
  let c256_i32_327 : BitVec 32 := 256#32
  let v418 : BitVec 32 := Scalar.muli v417 c256_i32_327
  v418
def k0_off1 (i : grid0.Coords) (k0_t1 : Fin (k0_t1_loop i).trips) (c0_i32_325 : BitVec 32) : Fin 4 → Nat :=
  let c0_328 : Index := 0#32
  let c0_329 : Index := 0#32
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let v416 : BitVec 32 := Scalar.addi v415 c0_i32_325
  let c1_i32_326 : BitVec 32 := 1#32
  let v417 : BitVec 32 := Scalar.addi v416 c1_i32_326
  let c256_i32_327 : BitVec 32 := 256#32
  let v418 : BitVec 32 := Scalar.muli v417 c256_i32_327
  let v419 : BitVec 32 := v418
  let v420 : Index := Scalar.indexCast v419
  let c0_330 : Index := 0#32
  ![0, 0, v420.toNat, 0]
def k0_mult4 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c0_i32_340 : BitVec 32 := 0#32
  let v429 : BitVec 32 := Scalar.addi v415 c0_i32_340
  let c256_i32_345 : BitVec 32 := 256#32
  let v432 : BitVec 32 := Scalar.muli v429 c256_i32_345
  v432
def k0_off2 (i : grid0.Coords) (k0_t1 : Fin (k0_t1_loop i).trips) (c0_i32_340 : BitVec 32) : Fin 4 → Nat :=
  let c0_350 : Index := 0#32
  let c0_351 : Index := 0#32
  let c0_352 : Index := 0#32
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let v429 : BitVec 32 := Scalar.addi v415 c0_i32_340
  let c256_i32_345 : BitVec 32 := 256#32
  let v432 : BitVec 32 := Scalar.muli v429 c256_i32_345
  let v433 : BitVec 32 := v432
  let v443 : Index := Scalar.indexCast v433
  ![0, 0, 0, v443.toNat]
def k0_mult5 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c0_i32_363 : BitVec 32 := 0#32
  let v460 : BitVec 32 := Scalar.addi v415 c0_i32_363
  let c1_i32_364 : BitVec 32 := 1#32
  let v461 : BitVec 32 := Scalar.addi v460 c1_i32_364
  let c256_i32_365 : BitVec 32 := 256#32
  let v462 : BitVec 32 := Scalar.muli v461 c256_i32_365
  v462
def k0_off3 (i : grid0.Coords) (k0_t1 : Fin (k0_t1_loop i).trips) (c0_i32_363 : BitVec 32) : Fin 4 → Nat :=
  let c0_366 : Index := 0#32
  let c1_367 : Index := 1#32
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let v460 : BitVec 32 := Scalar.addi v415 c0_i32_363
  let c1_i32_364 : BitVec 32 := 1#32
  let v461 : BitVec 32 := Scalar.addi v460 c1_i32_364
  let c256_i32_365 : BitVec 32 := 256#32
  let v462 : BitVec 32 := Scalar.muli v461 c256_i32_365
  let v463 : BitVec 32 := v462
  let v464 : Index := Scalar.indexCast v463
  let c0_368 : Index := 0#32
  ![0, 1, v464.toNat, 0]
def k0_mult6 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c0_i32_378 : BitVec 32 := 0#32
  let v473 : BitVec 32 := Scalar.addi v415 c0_i32_378
  let c256_i32_383 : BitVec 32 := 256#32
  let v476 : BitVec 32 := Scalar.muli v473 c256_i32_383
  v476
def k0_off4 (i : grid0.Coords) (k0_t1 : Fin (k0_t1_loop i).trips) (c0_i32_378 : BitVec 32) : Fin 4 → Nat :=
  let c0_388 : Index := 0#32
  let c1_389 : Index := 1#32
  let c0_390 : Index := 0#32
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let v473 : BitVec 32 := Scalar.addi v415 c0_i32_378
  let c256_i32_383 : BitVec 32 := 256#32
  let v476 : BitVec 32 := Scalar.muli v473 c256_i32_383
  let v477 : BitVec 32 := v476
  let v487 : Index := Scalar.indexCast v477
  ![0, 1, 0, v487.toNat]
def k0_mult7 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c1_i32_401 : BitVec 32 := 1#32
  let v504 : BitVec 32 := Scalar.addi v415 c1_i32_401
  let c1_i32_402 : BitVec 32 := 1#32
  let v505 : BitVec 32 := Scalar.addi v504 c1_i32_402
  let c256_i32_403 : BitVec 32 := 256#32
  let v506 : BitVec 32 := Scalar.muli v505 c256_i32_403
  v506
def k0_mult8 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c1_i32_416 : BitVec 32 := 1#32
  let v517 : BitVec 32 := Scalar.addi v415 c1_i32_416
  let c256_i32_421 : BitVec 32 := 256#32
  let v520 : BitVec 32 := Scalar.muli v517 c256_i32_421
  v520
def k0_mult9 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c1_i32_439 : BitVec 32 := 1#32
  let v548 : BitVec 32 := Scalar.addi v415 c1_i32_439
  let c1_i32_440 : BitVec 32 := 1#32
  let v549 : BitVec 32 := Scalar.addi v548 c1_i32_440
  let c256_i32_441 : BitVec 32 := 256#32
  let v550 : BitVec 32 := Scalar.muli v549 c256_i32_441
  v550
def k0_mult10 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c1_i32_454 : BitVec 32 := 1#32
  let v561 : BitVec 32 := Scalar.addi v415 c1_i32_454
  let c256_i32_459 : BitVec 32 := 256#32
  let v564 : BitVec 32 := Scalar.muli v561 c256_i32_459
  v564
def k0_mult11 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c2_i32_477 : BitVec 32 := 2#32
  let v592 : BitVec 32 := Scalar.addi v415 c2_i32_477
  let c1_i32_478 : BitVec 32 := 1#32
  let v593 : BitVec 32 := Scalar.addi v592 c1_i32_478
  let c256_i32_479 : BitVec 32 := 256#32
  let v594 : BitVec 32 := Scalar.muli v593 c256_i32_479
  v594
def k0_mult12 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c2_i32_492 : BitVec 32 := 2#32
  let v605 : BitVec 32 := Scalar.addi v415 c2_i32_492
  let c256_i32_497 : BitVec 32 := 256#32
  let v608 : BitVec 32 := Scalar.muli v605 c256_i32_497
  v608
def k0_mult13 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c2_i32_515 : BitVec 32 := 2#32
  let v636 : BitVec 32 := Scalar.addi v415 c2_i32_515
  let c1_i32_516 : BitVec 32 := 1#32
  let v637 : BitVec 32 := Scalar.addi v636 c1_i32_516
  let c256_i32_517 : BitVec 32 := 256#32
  let v638 : BitVec 32 := Scalar.muli v637 c256_i32_517
  v638
def k0_mult14 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c2_i32_530 : BitVec 32 := 2#32
  let v649 : BitVec 32 := Scalar.addi v415 c2_i32_530
  let c256_i32_535 : BitVec 32 := 256#32
  let v652 : BitVec 32 := Scalar.muli v649 c256_i32_535
  v652
def k0_mult15 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c3_i32_553 : BitVec 32 := 3#32
  let v680 : BitVec 32 := Scalar.addi v415 c3_i32_553
  let c1_i32_554 : BitVec 32 := 1#32
  let v681 : BitVec 32 := Scalar.addi v680 c1_i32_554
  let c256_i32_555 : BitVec 32 := 256#32
  let v682 : BitVec 32 := Scalar.muli v681 c256_i32_555
  v682
def k0_mult16 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c3_i32_568 : BitVec 32 := 3#32
  let v693 : BitVec 32 := Scalar.addi v415 c3_i32_568
  let c256_i32_573 : BitVec 32 := 256#32
  let v696 : BitVec 32 := Scalar.muli v693 c256_i32_573
  v696
def k0_mult17 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c3_i32_591 : BitVec 32 := 3#32
  let v724 : BitVec 32 := Scalar.addi v415 c3_i32_591
  let c1_i32_592 : BitVec 32 := 1#32
  let v725 : BitVec 32 := Scalar.addi v724 c1_i32_592
  let c256_i32_593 : BitVec 32 := 256#32
  let v726 : BitVec 32 := Scalar.muli v725 c256_i32_593
  v726
def k0_mult18 (i : grid0.Coords) (k0_t1 : Fin (k0_t1_loop i).trips) : BitVec 32 :=
  let c0_i32_31 : BitVec 32 := 0#32
  let c1_i32_32 : BitVec 32 := 1#32
  let arg10 : BitVec 32 := Scf.iv c0_i32_31 c1_i32_32 k0_t1
  let c4_i32_324 : BitVec 32 := 4#32
  let v415 : BitVec 32 := Scalar.muli arg10 c4_i32_324
  let c3_i32_606 : BitVec 32 := 3#32
  let v737 : BitVec 32 := Scalar.addi v415 c3_i32_606
  let c256_i32_611 : BitVec 32 := 256#32
  let v740 : BitVec 32 := Scalar.muli v737 c256_i32_611
  v740
@[reducible] def k0_t2_loop (i : grid0.Coords) : Scf.Loop 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let v33 : BitVec 32 := Scalar.addi c0_i32_31 v32
  let c1_i32_33 : BitVec 32 := 1#32
  ⟨v36, v33, c1_i32_33⟩
def k0_mult19 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c0_i32_325 : BitVec 32 := 0#32
  let v416 : BitVec 32 := Scalar.addi v415 c0_i32_325
  let c1_i32_326 : BitVec 32 := 1#32
  let v417 : BitVec 32 := Scalar.addi v416 c1_i32_326
  let c256_i32_327 : BitVec 32 := 256#32
  let v418 : BitVec 32 := Scalar.muli v417 c256_i32_327
  v418
def k0_off5 (i : grid0.Coords) (k0_t2 : Fin (k0_t2_loop i).trips) (c0_i32_325 : BitVec 32) : Fin 4 → Nat :=
  let c0_328 : Index := 0#32
  let c0_329 : Index := 0#32
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let v416 : BitVec 32 := Scalar.addi v415 c0_i32_325
  let c1_i32_326 : BitVec 32 := 1#32
  let v417 : BitVec 32 := Scalar.addi v416 c1_i32_326
  let c256_i32_327 : BitVec 32 := 256#32
  let v418 : BitVec 32 := Scalar.muli v417 c256_i32_327
  let v419 : BitVec 32 := v418
  let v420 : Index := Scalar.indexCast v419
  let c0_330 : Index := 0#32
  ![0, 0, v420.toNat, 0]
def k0_mult20 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c0_i32_340 : BitVec 32 := 0#32
  let v429 : BitVec 32 := Scalar.addi v415 c0_i32_340
  let c256_i32_345 : BitVec 32 := 256#32
  let v432 : BitVec 32 := Scalar.muli v429 c256_i32_345
  v432
def k0_off6 (i : grid0.Coords) (k0_t2 : Fin (k0_t2_loop i).trips) (c0_i32_340 : BitVec 32) : Fin 4 → Nat :=
  let c0_350 : Index := 0#32
  let c0_351 : Index := 0#32
  let c0_352 : Index := 0#32
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let v429 : BitVec 32 := Scalar.addi v415 c0_i32_340
  let c256_i32_345 : BitVec 32 := 256#32
  let v432 : BitVec 32 := Scalar.muli v429 c256_i32_345
  let v433 : BitVec 32 := v432
  let v443 : Index := Scalar.indexCast v433
  ![0, 0, 0, v443.toNat]
def k0_mult21 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c0_i32_363 : BitVec 32 := 0#32
  let v460 : BitVec 32 := Scalar.addi v415 c0_i32_363
  let c1_i32_364 : BitVec 32 := 1#32
  let v461 : BitVec 32 := Scalar.addi v460 c1_i32_364
  let c256_i32_365 : BitVec 32 := 256#32
  let v462 : BitVec 32 := Scalar.muli v461 c256_i32_365
  v462
def k0_off7 (i : grid0.Coords) (k0_t2 : Fin (k0_t2_loop i).trips) (c0_i32_363 : BitVec 32) : Fin 4 → Nat :=
  let c0_366 : Index := 0#32
  let c1_367 : Index := 1#32
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let v460 : BitVec 32 := Scalar.addi v415 c0_i32_363
  let c1_i32_364 : BitVec 32 := 1#32
  let v461 : BitVec 32 := Scalar.addi v460 c1_i32_364
  let c256_i32_365 : BitVec 32 := 256#32
  let v462 : BitVec 32 := Scalar.muli v461 c256_i32_365
  let v463 : BitVec 32 := v462
  let v464 : Index := Scalar.indexCast v463
  let c0_368 : Index := 0#32
  ![0, 1, v464.toNat, 0]
def k0_mult22 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c0_i32_378 : BitVec 32 := 0#32
  let v473 : BitVec 32 := Scalar.addi v415 c0_i32_378
  let c256_i32_383 : BitVec 32 := 256#32
  let v476 : BitVec 32 := Scalar.muli v473 c256_i32_383
  v476
def k0_off8 (i : grid0.Coords) (k0_t2 : Fin (k0_t2_loop i).trips) (c0_i32_378 : BitVec 32) : Fin 4 → Nat :=
  let c0_388 : Index := 0#32
  let c1_389 : Index := 1#32
  let c0_390 : Index := 0#32
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let v473 : BitVec 32 := Scalar.addi v415 c0_i32_378
  let c256_i32_383 : BitVec 32 := 256#32
  let v476 : BitVec 32 := Scalar.muli v473 c256_i32_383
  let v477 : BitVec 32 := v476
  let v487 : Index := Scalar.indexCast v477
  ![0, 1, 0, v487.toNat]
def k0_mult23 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c1_i32_401 : BitVec 32 := 1#32
  let v504 : BitVec 32 := Scalar.addi v415 c1_i32_401
  let c1_i32_402 : BitVec 32 := 1#32
  let v505 : BitVec 32 := Scalar.addi v504 c1_i32_402
  let c256_i32_403 : BitVec 32 := 256#32
  let v506 : BitVec 32 := Scalar.muli v505 c256_i32_403
  v506
def k0_mult24 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c1_i32_416 : BitVec 32 := 1#32
  let v517 : BitVec 32 := Scalar.addi v415 c1_i32_416
  let c256_i32_421 : BitVec 32 := 256#32
  let v520 : BitVec 32 := Scalar.muli v517 c256_i32_421
  v520
def k0_mult25 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c1_i32_439 : BitVec 32 := 1#32
  let v548 : BitVec 32 := Scalar.addi v415 c1_i32_439
  let c1_i32_440 : BitVec 32 := 1#32
  let v549 : BitVec 32 := Scalar.addi v548 c1_i32_440
  let c256_i32_441 : BitVec 32 := 256#32
  let v550 : BitVec 32 := Scalar.muli v549 c256_i32_441
  v550
def k0_mult26 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c1_i32_454 : BitVec 32 := 1#32
  let v561 : BitVec 32 := Scalar.addi v415 c1_i32_454
  let c256_i32_459 : BitVec 32 := 256#32
  let v564 : BitVec 32 := Scalar.muli v561 c256_i32_459
  v564
def k0_mult27 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c2_i32_477 : BitVec 32 := 2#32
  let v592 : BitVec 32 := Scalar.addi v415 c2_i32_477
  let c1_i32_478 : BitVec 32 := 1#32
  let v593 : BitVec 32 := Scalar.addi v592 c1_i32_478
  let c256_i32_479 : BitVec 32 := 256#32
  let v594 : BitVec 32 := Scalar.muli v593 c256_i32_479
  v594
def k0_mult28 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c2_i32_492 : BitVec 32 := 2#32
  let v605 : BitVec 32 := Scalar.addi v415 c2_i32_492
  let c256_i32_497 : BitVec 32 := 256#32
  let v608 : BitVec 32 := Scalar.muli v605 c256_i32_497
  v608
def k0_mult29 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c2_i32_515 : BitVec 32 := 2#32
  let v636 : BitVec 32 := Scalar.addi v415 c2_i32_515
  let c1_i32_516 : BitVec 32 := 1#32
  let v637 : BitVec 32 := Scalar.addi v636 c1_i32_516
  let c256_i32_517 : BitVec 32 := 256#32
  let v638 : BitVec 32 := Scalar.muli v637 c256_i32_517
  v638
def k0_mult30 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c2_i32_530 : BitVec 32 := 2#32
  let v649 : BitVec 32 := Scalar.addi v415 c2_i32_530
  let c256_i32_535 : BitVec 32 := 256#32
  let v652 : BitVec 32 := Scalar.muli v649 c256_i32_535
  v652
def k0_mult31 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c3_i32_553 : BitVec 32 := 3#32
  let v680 : BitVec 32 := Scalar.addi v415 c3_i32_553
  let c1_i32_554 : BitVec 32 := 1#32
  let v681 : BitVec 32 := Scalar.addi v680 c1_i32_554
  let c256_i32_555 : BitVec 32 := 256#32
  let v682 : BitVec 32 := Scalar.muli v681 c256_i32_555
  v682
def k0_mult32 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c3_i32_568 : BitVec 32 := 3#32
  let v693 : BitVec 32 := Scalar.addi v415 c3_i32_568
  let c256_i32_573 : BitVec 32 := 256#32
  let v696 : BitVec 32 := Scalar.muli v693 c256_i32_573
  v696
def k0_mult33 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c3_i32_591 : BitVec 32 := 3#32
  let v724 : BitVec 32 := Scalar.addi v415 c3_i32_591
  let c1_i32_592 : BitVec 32 := 1#32
  let v725 : BitVec 32 := Scalar.addi v724 c1_i32_592
  let c256_i32_593 : BitVec 32 := 256#32
  let v726 : BitVec 32 := Scalar.muli v725 c256_i32_593
  v726
def k0_mult34 (i : grid0.Coords) (k0_t2 : Fin (k0_t2_loop i).trips) : BitVec 32 :=
  let c0_i32_31 : BitVec 32 := 0#32
  let arg2 : BitVec 32 := BitVec.ofNat 32 (i 2).val
  let v32 : BitVec 32 := Scalar.subi arg2 c0_i32_31
  let c1_i32 : BitVec 32 := 1#32
  let v34 : BitVec 32 := Scalar.divsi v32 c1_i32
  let v35 : BitVec 32 := Scalar.muli v34 c1_i32
  let v36 : BitVec 32 := Scalar.addi c0_i32_31 v35
  let c1_i32_33 : BitVec 32 := 1#32
  let arg10 : BitVec 32 := Scf.iv v36 c1_i32_33 k0_t2
  let c4_i32_324 : BitVec 32 := 4#32
  let v415 : BitVec 32 := Scalar.muli arg10 c4_i32_324
  let c3_i32_606 : BitVec 32 := 3#32
  let v737 : BitVec 32 := Scalar.addi v415 c3_i32_606
  let c256_i32_611 : BitVec 32 := 256#32
  let v740 : BitVec 32 := Scalar.muli v737 c256_i32_611
  v740
def k0_mult35 (i : grid0.Coords) : BitVec 32 :=
  let arg2 : BitVec 32 := BitVec.ofNat 32 (i 2).val
  let c4_i32 : BitVec 32 := 4#32
  let v11 : BitVec 32 := Scalar.muli arg2 c4_i32
  let c0_i32_34 : BitVec 32 := 0#32
  let v37 : BitVec 32 := Scalar.addi v11 c0_i32_34
  let c1_i32_35 : BitVec 32 := 1#32
  let v38 : BitVec 32 := Scalar.addi v37 c1_i32_35
  let c256_i32 : BitVec 32 := 256#32
  let v39 : BitVec 32 := Scalar.muli v38 c256_i32
  v39
def k0_off9 (i : grid0.Coords) (c0_i32_34 : BitVec 32) : Fin 4 → Nat :=
  let c0_36 : Index := 0#32
  let c0_37 : Index := 0#32
  let arg2 : BitVec 32 := BitVec.ofNat 32 (i 2).val
  let c4_i32 : BitVec 32 := 4#32
  let v11 : BitVec 32 := Scalar.muli arg2 c4_i32
  let v37 : BitVec 32 := Scalar.addi v11 c0_i32_34
  let c1_i32_35 : BitVec 32 := 1#32
  let v38 : BitVec 32 := Scalar.addi v37 c1_i32_35
  let c256_i32 : BitVec 32 := 256#32
  let v39 : BitVec 32 := Scalar.muli v38 c256_i32
  let v40 : BitVec 32 := v39
  let v41 : Index := Scalar.indexCast v40
  let c0_38 : Index := 0#32
  ![0, 0, v41.toNat, 0]
def k0_mult36 (i : grid0.Coords) : BitVec 32 :=
  let arg2 : BitVec 32 := BitVec.ofNat 32 (i 2).val
  let c4_i32 : BitVec 32 := 4#32
  let v11 : BitVec 32 := Scalar.muli arg2 c4_i32
  let c0_i32_47 : BitVec 32 := 0#32
  let v50 : BitVec 32 := Scalar.addi v11 c0_i32_47
  let c256_i32_52 : BitVec 32 := 256#32
  let v53 : BitVec 32 := Scalar.muli v50 c256_i32_52
  v53
def k0_off10 (i : grid0.Coords) (c0_i32_47 : BitVec 32) : Fin 4 → Nat :=
  let c0_58 : Index := 0#32
  let c0_59 : Index := 0#32
  let c0_60 : Index := 0#32
  let arg2 : BitVec 32 := BitVec.ofNat 32 (i 2).val
  let c4_i32 : BitVec 32 := 4#32
  let v11 : BitVec 32 := Scalar.muli arg2 c4_i32
  let v50 : BitVec 32 := Scalar.addi v11 c0_i32_47
  let c256_i32_52 : BitVec 32 := 256#32
  let v53 : BitVec 32 := Scalar.muli v50 c256_i32_52
  let v54 : BitVec 32 := v53
  let v69 : Index := Scalar.indexCast v54
  ![0, 0, 0, v69.toNat]
def k0_mult37 (i : grid0.Coords) : BitVec 32 :=
  let arg2 : BitVec 32 := BitVec.ofNat 32 (i 2).val
  let c4_i32 : BitVec 32 := 4#32
  let v11 : BitVec 32 := Scalar.muli arg2 c4_i32
  let c0_i32_71 : BitVec 32 := 0#32
  let v86 : BitVec 32 := Scalar.addi v11 c0_i32_71
  let c1_i32_72 : BitVec 32 := 1#32
  let v87 : BitVec 32 := Scalar.addi v86 c1_i32_72
  let c256_i32_73 : BitVec 32 := 256#32
  let v88 : BitVec 32 := Scalar.muli v87 c256_i32_73
  v88
def k0_off11 (i : grid0.Coords) (c0_i32_71 : BitVec 32) : Fin 4 → Nat :=
  let c0_74 : Index := 0#32
  let c1_75 : Index := 1#32
  let arg2 : BitVec 32 := BitVec.ofNat 32 (i 2).val
  let c4_i32 : BitVec 32 := 4#32
  let v11 : BitVec 32 := Scalar.muli arg2 c4_i32
  let v86 : BitVec 32 := Scalar.addi v11 c0_i32_71
  let c1_i32_72 : BitVec 32 := 1#32
  let v87 : BitVec 32 := Scalar.addi v86 c1_i32_72
  let c256_i32_73 : BitVec 32 := 256#32
  let v88 : BitVec 32 := Scalar.muli v87 c256_i32_73
  let v89 : BitVec 32 := v88
  let v90 : Index := Scalar.indexCast v89
  let c0_76 : Index := 0#32
  ![0, 1, v90.toNat, 0]
def k0_mult38 (i : grid0.Coords) : BitVec 32 :=
  let arg2 : BitVec 32 := BitVec.ofNat 32 (i 2).val
  let c4_i32 : BitVec 32 := 4#32
  let v11 : BitVec 32 := Scalar.muli arg2 c4_i32
  let c0_i32_86 : BitVec 32 := 0#32
  let v99 : BitVec 32 := Scalar.addi v11 c0_i32_86
  let c256_i32_91 : BitVec 32 := 256#32
  let v102 : BitVec 32 := Scalar.muli v99 c256_i32_91
  v102
def k0_off12 (i : grid0.Coords) (c0_i32_86 : BitVec 32) : Fin 4 → Nat :=
  let c0_97 : Index := 0#32
  let c1_98 : Index := 1#32
  let c0_99 : Index := 0#32
  let arg2 : BitVec 32 := BitVec.ofNat 32 (i 2).val
  let c4_i32 : BitVec 32 := 4#32
  let v11 : BitVec 32 := Scalar.muli arg2 c4_i32
  let v99 : BitVec 32 := Scalar.addi v11 c0_i32_86
  let c256_i32_91 : BitVec 32 := 256#32
  let v102 : BitVec 32 := Scalar.muli v99 c256_i32_91
  let v103 : BitVec 32 := v102
  let v118 : Index := Scalar.indexCast v103
  ![0, 1, 0, v118.toNat]
def k0_mult39 (i : grid0.Coords) : BitVec 32 :=
  let arg2 : BitVec 32 := BitVec.ofNat 32 (i 2).val
  let c4_i32 : BitVec 32 := 4#32
  let v11 : BitVec 32 := Scalar.muli arg2 c4_i32
  let c1_i32_110 : BitVec 32 := 1#32
  let v135 : BitVec 32 := Scalar.addi v11 c1_i32_110
  let c1_i32_111 : BitVec 32 := 1#32
  let v136 : BitVec 32 := Scalar.addi v135 c1_i32_111
  let c256_i32_112 : BitVec 32 := 256#32
  let v137 : BitVec 32 := Scalar.muli v136 c256_i32_112
  v137
def k0_mult40 (i : grid0.Coords) : BitVec 32 :=
  let arg2 : BitVec 32 := BitVec.ofNat 32 (i 2).val
  let c4_i32 : BitVec 32 := 4#32
  let v11 : BitVec 32 := Scalar.muli arg2 c4_i32
  let c1_i32_124 : BitVec 32 := 1#32
  let v148 : BitVec 32 := Scalar.addi v11 c1_i32_124
  let c256_i32_129 : BitVec 32 := 256#32
  let v151 : BitVec 32 := Scalar.muli v148 c256_i32_129
  v151
def k0_mult41 (i : grid0.Coords) : BitVec 32 :=
  let arg2 : BitVec 32 := BitVec.ofNat 32 (i 2).val
  let c4_i32 : BitVec 32 := 4#32
  let v11 : BitVec 32 := Scalar.muli arg2 c4_i32
  let c1_i32_148 : BitVec 32 := 1#32
  let v184 : BitVec 32 := Scalar.addi v11 c1_i32_148
  let c1_i32_149 : BitVec 32 := 1#32
  let v185 : BitVec 32 := Scalar.addi v184 c1_i32_149
  let c256_i32_150 : BitVec 32 := 256#32
  let v186 : BitVec 32 := Scalar.muli v185 c256_i32_150
  v186
def k0_mult42 (i : grid0.Coords) : BitVec 32 :=
  let arg2 : BitVec 32 := BitVec.ofNat 32 (i 2).val
  let c4_i32 : BitVec 32 := 4#32
  let v11 : BitVec 32 := Scalar.muli arg2 c4_i32
  let c1_i32_163 : BitVec 32 := 1#32
  let v197 : BitVec 32 := Scalar.addi v11 c1_i32_163
  let c256_i32_168 : BitVec 32 := 256#32
  let v200 : BitVec 32 := Scalar.muli v197 c256_i32_168
  v200
def k0_mult43 (i : grid0.Coords) : BitVec 32 :=
  let arg2 : BitVec 32 := BitVec.ofNat 32 (i 2).val
  let c4_i32 : BitVec 32 := 4#32
  let v11 : BitVec 32 := Scalar.muli arg2 c4_i32
  let c2_i32 : BitVec 32 := 2#32
  let v233 : BitVec 32 := Scalar.addi v11 c2_i32
  let c1_i32_187 : BitVec 32 := 1#32
  let v234 : BitVec 32 := Scalar.addi v233 c1_i32_187
  let c256_i32_188 : BitVec 32 := 256#32
  let v235 : BitVec 32 := Scalar.muli v234 c256_i32_188
  v235
def k0_mult44 (i : grid0.Coords) : BitVec 32 :=
  let arg2 : BitVec 32 := BitVec.ofNat 32 (i 2).val
  let c4_i32 : BitVec 32 := 4#32
  let v11 : BitVec 32 := Scalar.muli arg2 c4_i32
  let c2_i32_200 : BitVec 32 := 2#32
  let v246 : BitVec 32 := Scalar.addi v11 c2_i32_200
  let c256_i32_205 : BitVec 32 := 256#32
  let v249 : BitVec 32 := Scalar.muli v246 c256_i32_205
  v249
def k0_mult45 (i : grid0.Coords) : BitVec 32 :=
  let arg2 : BitVec 32 := BitVec.ofNat 32 (i 2).val
  let c4_i32 : BitVec 32 := 4#32
  let v11 : BitVec 32 := Scalar.muli arg2 c4_i32
  let c2_i32_224 : BitVec 32 := 2#32
  let v282 : BitVec 32 := Scalar.addi v11 c2_i32_224
  let c1_i32_225 : BitVec 32 := 1#32
  let v283 : BitVec 32 := Scalar.addi v282 c1_i32_225
  let c256_i32_226 : BitVec 32 := 256#32
  let v284 : BitVec 32 := Scalar.muli v283 c256_i32_226
  v284
def k0_mult46 (i : grid0.Coords) : BitVec 32 :=
  let arg2 : BitVec 32 := BitVec.ofNat 32 (i 2).val
  let c4_i32 : BitVec 32 := 4#32
  let v11 : BitVec 32 := Scalar.muli arg2 c4_i32
  let c2_i32_239 : BitVec 32 := 2#32
  let v295 : BitVec 32 := Scalar.addi v11 c2_i32_239
  let c256_i32_244 : BitVec 32 := 256#32
  let v298 : BitVec 32 := Scalar.muli v295 c256_i32_244
  v298
def k0_mult47 (i : grid0.Coords) : BitVec 32 :=
  let arg2 : BitVec 32 := BitVec.ofNat 32 (i 2).val
  let c4_i32 : BitVec 32 := 4#32
  let v11 : BitVec 32 := Scalar.muli arg2 c4_i32
  let c3_i32 : BitVec 32 := 3#32
  let v331 : BitVec 32 := Scalar.addi v11 c3_i32
  let c256_i32_267 : BitVec 32 := 256#32
  let v334 : BitVec 32 := Scalar.muli v331 c256_i32_267
  v334
def k0_mult48 (i : grid0.Coords) : BitVec 32 :=
  let arg2 : BitVec 32 := BitVec.ofNat 32 (i 2).val
  let c4_i32 : BitVec 32 := 4#32
  let v11 : BitVec 32 := Scalar.muli arg2 c4_i32
  let c3_i32_286 : BitVec 32 := 3#32
  let v364 : BitVec 32 := Scalar.addi v11 c3_i32_286
  let c256_i32_291 : BitVec 32 := 256#32
  let v367 : BitVec 32 := Scalar.muli v364 c256_i32_291
  v367
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x6x4096x128 : Shape := ⟨4, ![16, 6, 4096, 128]⟩
abbrev S16x6x80x4096 : Shape := ⟨4, ![16, 6, 80, 4096]⟩
abbrev S16x6x64x4096 : Shape := ⟨4, ![16, 6, 64, 4096]⟩
abbrev S16x6x4096x4096 : Shape := ⟨4, ![16, 6, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x6x4096 : Shape := ⟨3, ![16, 6, 4096]⟩
abbrev S16x6x4096x1 : Shape := ⟨4, ![16, 6, 4096, 1]⟩
abbrev S16x6x4096x64 : Shape := ⟨4, ![16, 6, 4096, 64]⟩
abbrev S16x4096x6x64 : Shape := ⟨4, ![16, 4096, 6, 64]⟩
abbrev S16x4096x384 : Shape := ⟨3, ![16, 4096, 384]⟩

abbrev nBuf : Space → Nat
  | .hbm => 43
  | .vmem => 0
  | .smem => 0
  | _ => 0

abbrev bufTy : (tb : Table) → Fin (tcTables nBuf tb) → BufTy
  | .hbm, ⟨0, _⟩ => ⟨S16x6x4096x128, .bf16⟩
  | .hbm, ⟨1, _⟩ => ⟨S16x6x4096x128, .bf16⟩
  | .hbm, ⟨2, _⟩ => ⟨S16x6x80x4096, .bf16⟩
  | .hbm, ⟨3, _⟩ => ⟨S16x6x4096x128, .f32⟩
  | .hbm, ⟨4, _⟩ => ⟨S16x6x4096x128, .f32⟩
  | .hbm, ⟨5, _⟩ => ⟨S16x6x64x4096, .bf16⟩
  | .hbm, ⟨6, _⟩ => ⟨S16x6x64x4096, .f32⟩
  | .hbm, ⟨7, _⟩ => ⟨S16x6x4096x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x6x4096x4096, .f32⟩
  | .hbm, ⟨12, _⟩ => ⟨S16x6x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S16x6x4096x4096, .i1⟩
  | .hbm, ⟨23, _⟩ => ⟨S16x6x4096x4096, .f32⟩
  | .hbm, ⟨24, _⟩ => ⟨S16x6x4096x4096, .f32⟩
  | .hbm, ⟨25, _⟩ => ⟨S_, .f32⟩
  | .hbm, ⟨26, _⟩ => ⟨S16x6x4096, .f32⟩
  | .hbm, ⟨27, _⟩ => ⟨S_, .f32⟩
  | .hbm, ⟨28, _⟩ => ⟨S16x6x4096, .f32⟩
  | .hbm, ⟨29, _⟩ => ⟨S16x6x4096, .f32⟩
  | .hbm, ⟨30, _⟩ => ⟨S16x6x4096x1, .f32⟩
  | .hbm, ⟨31, _⟩ => ⟨S16x6x4096x4096, .f32⟩
  | .hbm, ⟨32, _⟩ => ⟨S16x6x4096x4096, .f32⟩
  | .hbm, ⟨33, _⟩ => ⟨S16x6x4096x4096, .f32⟩
  | .hbm, ⟨34, _⟩ => ⟨S_, .f32⟩
  | .hbm, ⟨35, _⟩ => ⟨S16x6x4096, .f32⟩
  | .hbm, ⟨36, _⟩ => ⟨S16x6x4096x1, .f32⟩
  | .hbm, ⟨37, _⟩ => ⟨S16x6x4096x4096, .f32⟩
  | .hbm, ⟨38, _⟩ => ⟨S16x6x4096x4096, .f32⟩
  | .hbm, ⟨39, _⟩ => ⟨S16x6x4096x64, .f32⟩
  | .hbm, ⟨40, _⟩ => ⟨S16x4096x6x64, .f32⟩
  | .hbm, ⟨41, _⟩ => ⟨S16x4096x384, .f32⟩
  | .hbm, ⟨42, _⟩ => ⟨S16x4096x384, .bf16⟩
  | _, _ => ⟨S16x6x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ffn.lean ====
abbrev S65536x1024 : Shape := ⟨2, ![65536, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S512x1024 : Shape := ⟨2, ![512, 1024]⟩
abbrev S16x1024 : Shape := ⟨2, ![16, 1024]⟩
abbrev S2x528x256 : Shape := ⟨3, ![2, 528, 256]⟩
abbrev S512x2816 : Shape := ⟨2, ![512, 2816]⟩
abbrev S528x1024 : Shape := ⟨2, ![528, 1024]⟩
abbrev S528x256 : Shape := ⟨2, ![528, 256]⟩
abbrev S1024x256 : Shape := ⟨2, ![1024, 256]⟩
abbrev S1x528x256 : Shape := ⟨3, ![1, 528, 256]⟩
abbrev S1x256 : Shape := ⟨2, ![1, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x5632, .bf16⟩
  | .hbm, ⟨3, _⟩ => ⟨S3x2816, .f32⟩
  | .hbm, ⟨4, _⟩ => ⟨S1x2816, .f32⟩
  | .hbm, ⟨5, _⟩ => ⟨S2816x1024, .bf16⟩
  | .hbm, ⟨6, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S2x528x256, .f32⟩
  | .local _ .vmem, ⟨13, _⟩ => ⟨S512x2816, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S65536x1024 : Shape := ⟨2, ![65536, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S65536x5632 : Shape := ⟨2, ![65536, 5632]⟩
abbrev S65536x2816 : Shape := ⟨2, ![65536, 2816]⟩
abbrev S16x4096x2816 : Shape := ⟨3, ![16, 4096, 2816]⟩
abbrev S_ : Shape := ⟨0, ![]⟩
abbrev S16x4098x2816 : Shape := ⟨3, ![16, 4098, 2816]⟩
abbrev S2816 : Shape := ⟨1, ![2816]⟩
abbrev S1x1x2816 : Shape := ⟨3, ![1, 1, 2816]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x5632, .bf16⟩
  | .hbm, ⟨3, _⟩ => ⟨S3x2816, .f32⟩
  | .hbm, ⟨4, _⟩ => ⟨S1x2816, .f32⟩
  | .hbm, ⟨5, _⟩ => ⟨S2816x1024, .bf16⟩
  | .hbm, ⟨6, _⟩ => ⟨S65536x5632, .f32⟩
  | .hbm, ⟨7, _⟩ => ⟨S65536x2816, .f32⟩
  | .hbm, ⟨8, _⟩ => ⟨S16x4096x2816, .f32⟩
  | .hbm, ⟨9, _⟩ => ⟨S65536x2816, .f32⟩
  | .hbm, ⟨10, _⟩ => ⟨S16x4096x2816, .f32⟩
  | .hbm, ⟨11, _⟩ => ⟨S_, .i32⟩
  | .hbm, ⟨12, _⟩ => ⟨S_, .f32⟩
  | .hbm, ⟨13, _⟩ => ⟨S16x4098x2816, .f32⟩
  | .hbm, ⟨14, _⟩ => ⟨S2816, .f32⟩
  | .hbm, ⟨15, _⟩ => ⟨S1x2816, .f32⟩
  | .hbm, ⟨16, _⟩ => ⟨S2816, .f32⟩
  | .hbm, ⟨17, _⟩ => ⟨S16x4096x2816, .f32⟩
  | .hbm, ⟨18, _⟩ => ⟨S1x1x2816, .f32⟩
  | .hbm, ⟨19, _⟩ => ⟨S16x4096x2816, .f32⟩
  | .hbm, ⟨20, _⟩ => ⟨S16x4096x2816, .f32⟩
  | .hbm, ⟨21, _⟩ => ⟨S1x1x2816, .f32⟩
  | .hbm, ⟨22, _⟩ => ⟨S16x4096x2816, .f32⟩
  | .hbm, ⟨23, _⟩ => ⟨S16x4096x2816, .f32⟩
  | .hbm, ⟨24, _⟩ => ⟨S1x2816, .f32⟩
  | .hbm, ⟨25, _⟩ => ⟨S2816, .f32⟩
  | .hbm, ⟨26, _⟩ => ⟨S16x4096x2816, .f32⟩
  | .hbm, ⟨27, _⟩ => ⟨S1x1x2816, .f32⟩
  | .hbm, ⟨28, _⟩ => ⟨S16x4096x2816, .f32⟩
  | .hbm, ⟨29, _⟩ => ⟨S16x4096x2816, .f32⟩
  | .hbm, ⟨30, _⟩ => ⟨S16x4096x2816, .f32⟩
  | .hbm, ⟨31, _⟩ => ⟨S1x2816, .f32⟩
  | .hbm, ⟨32, _⟩ => ⟨S2816, .f32⟩
  | .hbm, ⟨33, _⟩ => ⟨S16x4096x2816, .f32⟩
  | .hbm, ⟨34, _⟩ => ⟨S1x1x2816, .f32⟩
  | .hbm, ⟨35, _⟩ => ⟨S16x4096x2816, .f32⟩
  | .hbm, ⟨36, _⟩ => ⟨S16x4096x2816, .f32⟩
  | .hbm, ⟨37, _⟩ => ⟨S16x4096x2816, .f32⟩
  | .hbm, ⟨38, _⟩ => ⟨S16x4096x2816, .f32⟩
  | .hbm, ⟨39, _⟩ => ⟨S16x4096x2816, .f32⟩
  | .hbm, ⟨40, _⟩ => ⟨S_, .f32⟩
  | .hbm, ⟨41, _⟩ => ⟨S16x4096x2816, .f32⟩
  | .hbm, ⟨42, _⟩ => ⟨S16x4096x2816, .f32⟩
  | .hbm, ⟨43, _⟩ => ⟨S_, .f32⟩
  | .hbm, ⟨44, _⟩ => ⟨S16x4096x2816, .f32⟩
  | .hbm, ⟨45, _⟩ => ⟨S16x4096x2816, .f32⟩
  | .hbm, ⟨46, _⟩ => ⟨S16x4096x2816, .f32⟩
  | .hbm, ⟨47, _⟩ => ⟨S16x4096x2816, .f32⟩
  | .hbm, ⟨48, _⟩ => ⟨S65536x2816, .f32⟩
  | .hbm, ⟨49, _⟩ => ⟨S2816x1024, .f32⟩
  | .hbm, ⟨50, _⟩ => ⟨S65536x1024, .f32⟩
  | .hbm, ⟨51, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== InProj.lean ====
abbrev S65536x1024 : Shape := ⟨2, ![65536, 1024]⟩
abbrev S1x1024 : Shape := ⟨2, ![1, 1024]⟩
abbrev S2x1024x6912 : Shape := ⟨3, ![2, 1024, 6912]⟩
abbrev S65536x1152 : Shape := ⟨2, ![65536, 1152]⟩
abbrev S65536x128 : Shape := ⟨2, ![65536, 128]⟩
abbrev S65536x1536 : Shape := ⟨2, ![65536, 1536]⟩
abbrev S65536x512 : Shape := ⟨2, ![65536, 512]⟩
abbrev S65536x3072 : Shape := ⟨2, ![65536, 3072]⟩
abbrev S512x1024 : Shape := ⟨2, ![512, 1024]⟩
abbrev S1x1024x6912 : Shape := ⟨3, ![1, 1024, 6912]⟩
abbrev S512x1152 : Shape := ⟨2, ![512, 1152]⟩
abbrev S512x128 : Shape := ⟨2, ![512, 128]⟩
abbrev S512x1536 : Shape := ⟨2, ![512, 1536]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S1x1024x1280 : Shape := ⟨3, ![1, 1024, 1280]⟩
abbrev S1024x1280 : Shape := ⟨2, ![1024, 1280]⟩
abbrev S512x1280 : Shape := ⟨2, ![512, 1280]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S2x1024x6912, .bf16⟩
  | .hbm, ⟨3, _⟩ => ⟨S65536x1152, .bf16⟩
  | .hbm, ⟨4, _⟩ => ⟨S65536x128, .f32⟩
  | .hbm, ⟨5, _⟩ => ⟨S65536x1536, .bf16⟩
  | .hbm, ⟨6, _⟩ => ⟨S65536x512, .f32⟩
  | .hbm, ⟨7, _⟩ => ⟨S65536x512, .bf16⟩
  | .hbm, ⟨8, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6912, .bf16⟩
  | .local _ .vmem, ⟨4, _⟩ => ⟨S512x1152, .bf16⟩
  | .local _ .vmem, ⟨5, _⟩ => ⟨S512x1152, .bf16⟩
  | .local _ .vmem, ⟨6, _⟩ => ⟨S512x128, .f32⟩
  | .local _ .vmem, ⟨7, _⟩ => ⟨S512x128, .f32⟩
  | .local _ .vmem, ⟨8, _⟩ => ⟨S512x1536, .bf16⟩
  | .local _ .vmem, ⟨9, _⟩ => ⟨S512x1536, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x3072, .bf16⟩
  | .local _ .vmem, ⟨15, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S65536x1024 : Shape := ⟨2, ![65536, 1024]⟩
abbrev S1x1024 : Shape := ⟨2, ![1, 1024]⟩
abbrev S2x1024x6912 : Shape := ⟨3, ![2, 1024, 6912]⟩
abbrev S_ : Shape := ⟨0, ![]⟩
abbrev S65536 : Shape := ⟨1, ![65536]⟩
abbrev S65536x1 : Shape := ⟨2, ![65536, 1]⟩
abbrev S1x1024x6912 : Shape := ⟨3, ![1, 1024, 6912]⟩
abbrev S1024x6912 : Shape := ⟨2, ![1024, 6912]⟩
abbrev S65536x6912 : Shape := ⟨2, ![65536, 6912]⟩
abbrev S65536x1152 : Shape := ⟨2, ![65536, 1152]⟩
abbrev S65536x128 : Shape := ⟨2, ![65536, 128]⟩
abbrev S65536x1536 : Shape := ⟨2, ![65536, 1536]⟩
abbrev S65536x512 : Shape := ⟨2, ![65536, 512]⟩
abbrev S65536x3072 : Shape := ⟨2, ![65536, 3072]⟩

abbrev nBuf : Space → Nat
  | .hbm => 32
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S2x1024x6912, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1x1024x6912, .bf16⟩
  | .hbm, ⟨19, _⟩ => ⟨S1024x6912, .bf16⟩
  | .hbm, ⟨20, _⟩ => ⟨S1024x6912, .f32⟩
  | .hbm, ⟨21, _⟩ => ⟨S65536x6912, .f32⟩
  | .hbm, ⟨22, _⟩ => ⟨S65536x1152, .f32⟩
  | .hbm, ⟨23, _⟩ => ⟨S65536x128, .f32⟩
  | .hbm, ⟨24, _⟩ => ⟨S65536x1536, .f32⟩
  | .hbm, ⟨25, _⟩ => ⟨S65536x512, .f32⟩
  | .hbm, ⟨26, _⟩ => ⟨S65536x512, .f32⟩
  | .hbm, ⟨27, _⟩ => ⟨S65536x3072, .f32⟩
  | .hbm, ⟨28, _⟩ => ⟨S65536x1152, .bf16⟩
  | .hbm, ⟨29, _⟩ => ⟨S65536x1536, .bf16⟩
  | .hbm, ⟨30, _⟩ => ⟨S65536x512, .bf16⟩
  | .hbm, ⟨31, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Merge.lean ====
abbrev S65536x384 : Shape := ⟨2, ![65536, 384]⟩
abbrev S65536x512 : Shape := ⟨2, ![65536, 512]⟩
abbrev S65536x256 : Shape := ⟨2, ![65536, 256]⟩
abbrev S65536x3072 : Shape := ⟨2, ![65536, 3072]⟩
abbrev S1x3072 : Shape := ⟨2, ![1, 3072]⟩
abbrev S65536x1024 : Shape := ⟨2, ![65536, 1024]⟩
abbrev S384x1024 : Shape := ⟨2, ![384, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S512x384 : Shape := ⟨2, ![512, 384]⟩
abbrev S512x512 : Shape := ⟨2, ![512, 512]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S65536x384, .bf16⟩
  | .hbm, ⟨1, _⟩ => ⟨S65536x512, .bf16⟩
  | .hbm, ⟨2, _⟩ => ⟨S65536x256, .bf16⟩
  | .hbm, ⟨3, _⟩ => ⟨S65536x3072, .bf16⟩
  | .hbm, ⟨4, _⟩ => ⟨S1x3072, .f32⟩
  | .hbm, ⟨5, _⟩ => ⟨S65536x1024, .f32⟩
  | .hbm, ⟨6, _⟩ => ⟨S384x1024, .bf16⟩
  | .hbm, ⟨7, _⟩ => ⟨S512x1024, .bf16⟩
  | .hbm, ⟨8, _⟩ => ⟨S256x1024, .bf16⟩
  | .hbm, ⟨9, _⟩ => ⟨S1024x1024, .bf16⟩
  | .hbm, ⟨10, _⟩ => ⟨S1x1024, .f32⟩
  | .hbm, ⟨11, _⟩ => ⟨S65536x1024, .f32⟩
  | .hbm, ⟨12, _⟩ => ⟨S65536x1024, .bf16⟩
  | .local _ .vmem, ⟨0, _⟩ => ⟨S512x384, .bf16⟩
  | .local _ .vmem, ⟨1, _⟩ => ⟨S512x384, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x3072, .bf16⟩
  | .local _ .vmem, ⟨7, _⟩ => ⟨S512x3072, .bf16⟩
  | .local _ .vmem, ⟨8, _⟩ => ⟨S1x3072, .f32⟩
  | .local _ .vmem, ⟨9, _⟩ => ⟨S512x1024, .f32⟩
  | .local _ .vmem, ⟨10, _⟩ => ⟨S512x1024, .f32⟩
  | .local _ .vmem, ⟨11, _⟩ => ⟨S384x1024, .bf16⟩
  | .local _ .vmem, ⟨12, _⟩ => ⟨S512x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S65536x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S65536x384 : Shape := ⟨2, ![65536, 384]⟩
abbrev S65536x512 : Shape := ⟨2, ![65536, 512]⟩
abbrev S65536x256 : Shape := ⟨2, ![65536, 256]⟩
abbrev S65536x3072 : Shape := ⟨2, ![65536, 3072]⟩
abbrev S1x3072 : Shape := ⟨2, ![1, 3072]⟩
abbrev S65536x1024 : Shape := ⟨2, ![65536, 1024]⟩
abbrev S384x1024 : Shape := ⟨2, ![384, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S65536x3x1024 : Shape := ⟨3, ![65536, 3, 1024]⟩
abbrev S65536x1x1024 : Shape := ⟨3, ![65536, 1, 1024]⟩
abbrev S65536 : Shape := ⟨1, ![65536]⟩
abbrev S65536x1 : Shape := ⟨2, ![65536, 1]⟩

abbrev nBuf : Space → Nat
  | .hbm => 68
  | .vmem => 0
  | .smem => 0
  | _ => 0

abbrev bufTy : (tb : Table) → Fin (tcTables nBuf tb) → BufTy
  | .hbm, ⟨0, _⟩ => ⟨S65536x384, .bf16⟩
  | .hbm, ⟨1, _⟩ => ⟨S65536x512, .bf16⟩
  | .hbm, ⟨2, _⟩ => ⟨S65536x256, .bf16⟩
  | .hbm, ⟨3, _⟩ => ⟨S65536x3072, .bf16⟩
  | .hbm, ⟨4, _⟩ => ⟨S1x3072, .f32⟩
  | .hbm, ⟨5, _⟩ => ⟨S65536x1024, .f32⟩
  | .hbm, ⟨6, _⟩ => ⟨S384x1024, .bf16⟩
  | .hbm, ⟨7, _⟩ => ⟨S512x1024, .bf16⟩
  | .hbm, ⟨8, _⟩ => ⟨S256x1024, .bf16⟩
  | .hbm, ⟨9, _⟩ => ⟨S1024x1024, .bf16⟩
  | .hbm, ⟨10, _⟩ => ⟨S1x1024, .f32⟩
  | .hbm, ⟨11, _⟩ => ⟨S65536x3072, .f32⟩
  | .hbm, ⟨12, _⟩ => ⟨S65536x3072, .f32⟩
  | .hbm, ⟨13, _⟩ => ⟨S65536x3072, .f32⟩
  | .hbm, ⟨14, _⟩ => ⟨S_, .f32⟩
  | .hbm, ⟨15, _⟩ => ⟨S65536x3072, .f32⟩
  | .hbm, ⟨16, _⟩ => ⟨S65536x3072, .f32⟩
  | .hbm, ⟨17, _⟩ => ⟨S65536x3072, .f32⟩
  | .hbm, ⟨18, _⟩ => ⟨S65536x3072, .f32⟩
  | .hbm, ⟨19, _⟩ => ⟨S_, .f32⟩
  | .hbm, ⟨20, _⟩ => ⟨S65536x3072, .f32⟩
  | .hbm, ⟨21, _⟩ => ⟨S65536x3072, .f32⟩
  | .hbm, ⟨22, _⟩ => ⟨S_, .f32⟩
  | .hbm, ⟨23, _⟩ => ⟨S65536x3072, .f32⟩
  | .hbm, ⟨24, _⟩ => ⟨S65536x3072, .f32⟩
  | .hbm, ⟨25, _⟩ => ⟨S65536x3x1024, .f32⟩
  | .hbm, ⟨26, _⟩ => ⟨S65536x1x1024, .f32⟩
  | .hbm, ⟨27, _⟩ => ⟨S65536x1024, .f32⟩
  | .hbm, ⟨28, _⟩ => ⟨S65536x384, .f32⟩
  | .hbm, ⟨29, _⟩ => ⟨S384x1024, .f32⟩
  | .hbm, ⟨30, _⟩ => ⟨S65536x1024, .f32⟩
  | .hbm, ⟨31, _⟩ => ⟨S65536x1024, .f32⟩
  | .hbm, ⟨32, _⟩ => ⟨S65536x1x1024, .f32⟩
  | .hbm, ⟨33, _⟩ => ⟨S65536x1024, .f32⟩
  | .hbm, ⟨34, _⟩ => ⟨S65536x512, .f32⟩
  | .hbm, ⟨35, _⟩ => ⟨S512x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1x1024, .f32⟩
  | .hbm, ⟨40, _⟩ => ⟨S65536x1024, .f32⟩
  | .hbm, ⟨41, _⟩ => ⟨S65536x256, .f32⟩
  | .hbm, ⟨42, _⟩ => ⟨S256x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x1, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .bf16⟩
  | _, _ => ⟨S65536x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Conv.lean ====
abbrev S16x4096x512 : Shape := ⟨3, ![16, 4096, 512]⟩
abbrev S31x256 : Shape := ⟨2, ![31, 256]⟩
abbrev S1x256 : Shape := ⟨2, ![1, 256]⟩
abbrev S16x4096x256 : Shape := ⟨3, ![16, 4096, 256]⟩
abbrev S1x256x512 : Shape := ⟨3, ![1, 256, 512]⟩
abbrev S1x256x256 : Shape := ⟨3, ![1, 256, 256]⟩
abbrev S288x256 : Shape := ⟨2, ![288, 256]⟩
abbrev S7x280x256 : Shape := ⟨3, ![7, 280, 256]⟩
abbrev S32x256 : Shape := ⟨2, ![32, 256]⟩
abbrev S256x256 : Shape := ⟨2, ![256, 256]⟩
abbrev S280x256 : Shape := ⟨2, ![280, 256]⟩
abbrev S1x280x256 : Shape := ⟨3, ![1, 280, 256]⟩
abbrev S64x256 : Shape := ⟨2, ![64, 256]⟩
abbrev S64 : Shape := ⟨1, ![64]⟩
abbrev S64x1 : Shape := ⟨2, ![64, 1]⟩
abbrev S1x64x256 : Shape := ⟨3, ![1, 64, 256]⟩

abbrev nBuf : Space → Nat
  | .hbm => 6
  | .vmem => 10
  | .smem => 0
  | _ => 0

abbrev bufTy : (tb : Table) → Fin (tcTables nBuf tb) → BufTy
  | .hbm, ⟨0, _⟩ => ⟨S16x4096x512, .bf16⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S16x4096x256, .bf16⟩
  | .local _ .vmem, ⟨0, _⟩ => ⟨S1x256x512, .bf16⟩
  | .local _ .vmem, ⟨1, _⟩ => ⟨S1x256x512, .bf16⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256x256, .bf16⟩
  | .local _ .vmem, ⟨7, _⟩ => ⟨S1x256x256, .bf16⟩
  | .local _ .vmem, ⟨8, _⟩ => ⟨S288x256, .f32⟩
  | .local _ .vmem, ⟨9, _⟩ => ⟨S7x280x256, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16x4096x512 : Shape := ⟨3, ![16, 4096, 512]⟩
abbrev S31x256 : Shape := ⟨2, ![31, 256]⟩
abbrev S1x256 : Shape := ⟨2, ![1, 256]⟩
abbrev S16x4096x256 : Shape := ⟨3, ![16, 4096, 256]⟩
abbrev S_ : Shape := ⟨0, ![]⟩
abbrev S16x4126x256 : Shape := ⟨3, ![16, 4126, 256]⟩
abbrev S256 : Shape := ⟨1, ![256]⟩
abbrev S1x1x256 : Shape := ⟨3, ![1, 1, 256]⟩
abbrev S16x4096 : Shape := ⟨2, ![16, 4096]⟩
abbrev S16x4096x1 : Shape := ⟨3, ![16, 4096, 1]⟩

abbrev nBuf : Space → Nat
  | .hbm => 280
  | .vmem => 0
  | .smem => 0
  | _ => 0

abbrev hbmTy0_0 (i : Nat) : BufTy := match i % 128 with
  | 0 => ⟨S16x4096x512, .bf16⟩
  | 1 => ⟨S31x256, .f32⟩
  | 2 => ⟨S1x256, .f32⟩
  | 3 => ⟨S1x256, .f32⟩
  | 4 => ⟨S1x256, .f32⟩
  | 5 => ⟨S16x4096x256, .bf16⟩
  | 6 => ⟨S16x4096x256, .f32⟩
  | 7 => ⟨S16x4096x256, .bf16⟩
  | 8 => ⟨S16x4096x256, .f32⟩
  | 9 => ⟨S16x4096x256, .f32⟩
  | 10 => ⟨S16x4096x256, .f32⟩
  | 11 => ⟨S_, .f32⟩
  | 12 => ⟨S16x4096x256, .f32⟩
  | 13 => ⟨S16x4096x256, .f32⟩
  | 14 => ⟨S_, .f32⟩
  | 15 => ⟨S16x4096x256, .f32⟩
  | 16 => ⟨S16x4096x256, .f32⟩
  | 17 => ⟨S16x4096x256, .f32⟩
  | 18 => ⟨S_, .i32⟩
  | 19 => ⟨S_, .f32⟩
  | 20 => ⟨S16x4126x256, .f32⟩
  | 21 => ⟨S256, .f32⟩
  | 22 => ⟨S1x256, .f32⟩
  | 23 => ⟨S256, .f32⟩
  | 24 => ⟨S16x4096x256, .f32⟩
  | 25 => ⟨S1x1x256, .f32⟩
  | 26 => ⟨S16x4096x256, .f32⟩
  | 27 => ⟨S16x4096x256, .f32⟩
  | 28 => ⟨S1x1x256, .f32⟩
  | 29 => ⟨S16x4096x256, .f32⟩
  | 30 => ⟨S16x4096x256, .f32⟩
  | 31 => ⟨S1x256, .f32⟩
  | 32 => ⟨S256, .f32⟩
  | 33 => ⟨S16x4096x256, .f32⟩
  | 34 => ⟨S1x1x256, .f32⟩
  | 35 => ⟨S16x4096x256, .f32⟩
  | 36 => ⟨S16x4096x256, .f32⟩
  | 37 => ⟨S16x4096x256, .f32⟩
  | 38 => ⟨S1x256, .f32⟩
  | 39 => ⟨S256, .f32⟩
  | 40 => ⟨S16x4096x256, .f32⟩
  | 41 => ⟨S1x1x256, .f32⟩
  | 42 => ⟨S16x4096x256, .f32⟩
  | 43 => ⟨S16x4096x256, .f32⟩
  | 44 => ⟨S16x4096x256, .f32⟩
  | 45 => ⟨S1x256, .f32⟩
  | 46 => ⟨S256, .f32⟩
  | 47 => ⟨S16x4096x256, .f32⟩
  | 48 => ⟨S1x1x256, .f32⟩
  | 49 => ⟨S16x4096x256, .f32⟩
  | 50 => ⟨S16x4096x256, .f32⟩
  | 51 => ⟨S16x4096x256, .f32⟩
  | 52 => ⟨S1x256, .f32⟩
  | 53 => ⟨S256, .f32⟩
  | 54 => ⟨S16x4096x256, .f32⟩
  | 55 => ⟨S1x1x256, .f32⟩
  | 56 => ⟨S16x4096x256, .f32⟩
  | 57 => ⟨S16x4096x256, .f32⟩
  | 58 => ⟨S16x4096x256, .f32⟩
  | 59 => ⟨S1x256, .f32⟩
  | 60 => ⟨S256, .f32⟩
  | 61 => ⟨S16x4096x256, .f32⟩
  | 62 => ⟨S1x1x256, .f32⟩
  | 63 => ⟨S16x4096x256, .f32⟩
  | 64 => ⟨S16x4096x256, .f32⟩
  | 65 => ⟨S16x4096x256, .f32⟩
  | 66 => ⟨S1x256, .f32⟩
  | 67 => ⟨S256, .f32⟩
  | 68 => ⟨S16x4096x256, .f32⟩
  | 69 => ⟨S1x1x256, .f32⟩
  | 70 => ⟨S16x4096x256, .f32⟩
  | 71 => ⟨S16x4096x256, .f32⟩
  | 72 => ⟨S16x4096x256, .f32⟩
  | 73 => ⟨S1x256, .f32⟩
  | 74 => ⟨S256, .f32⟩
  | 75 => ⟨S16x4096x256, .f32⟩
  | 76 => ⟨S1x1x256, .f32⟩
  | 77 => ⟨S16x4096x256, .f32⟩
  | 78 => ⟨S16x4096x256, .f32⟩
  | 79 => ⟨S16x4096x256, .f32⟩
  | 80 => ⟨S1x256, .f32⟩
  | 81 => ⟨S256, .f32⟩
  | 82 => ⟨S16x4096x256, .f32⟩
  | 83 => ⟨S1x1x256, .f32⟩
  | 84 => ⟨S16x4096x256, .f32⟩
  | 85 => ⟨S16x4096x256, .f32⟩
  | 86 => ⟨S16x4096x256, .f32⟩
  | 87 => ⟨S1x256, .f32⟩
  | 88 => ⟨S256, .f32⟩
  | 89 => ⟨S16x4096x256, .f32⟩
  | 90 => ⟨S1x1x256, .f32⟩
  | 91 => ⟨S16x4096x256, .f32⟩
  | 92 => ⟨S16x4096x256, .f32⟩
  | 93 => ⟨S16x4096x256, .f32⟩
  | 94 => ⟨S1x256, .f32⟩
  | 95 => ⟨S256, .f32⟩
  | 96 => ⟨S16x4096x256, .f32⟩
  | 97 => ⟨S1x1x256, .f32⟩
  | 98 => ⟨S16x4096x256, .f32⟩
  | 99 => ⟨S16x4096x256, .f32⟩
  | 100 => ⟨S16x4096x256, .f32⟩
  | 101 => ⟨S1x256, .f32⟩
  | 102 => ⟨S256, .f32⟩
  | 103 => ⟨S16x4096x256, .f32⟩
  | 104 => ⟨S1x1x256, .f32⟩
  | 105 => ⟨S16x4096x256, .f32⟩
  | 106 => ⟨S16x4096x256, .f32⟩
  | 107 => ⟨S16x4096x256, .f32⟩
  | 108 => ⟨S1x256, .f32⟩
  | 109 => ⟨S256, .f32⟩
  | 110 => ⟨S16x4096x256, .f32⟩
  | 111 => ⟨S1x1x256, .f32⟩
  | 112 => ⟨S16x4096x256, .f32⟩
  | 113 => ⟨S16x4096x256, .f32⟩
  | 114 => ⟨S16x4096x256, .f32⟩
  | 115 => ⟨S1x256, .f32⟩
  | 116 => ⟨S256, .f32⟩
  | 117 => ⟨S16x4096x256, .f32⟩
  | 118 => ⟨S1x1x256, .f32⟩
  | 119 => ⟨S16x4096x256, .f32⟩
  | 120 => ⟨S16x4096x256, .f32⟩
  | 121 => ⟨S16x4096x256, .f32⟩
  | 122 => ⟨S1x256, .f32⟩
  | 123 => ⟨S256, .f32⟩
  | 124 => ⟨S16x4096x256, .f32⟩
  | 125 => ⟨S1x1x256, .f32⟩
  | 126 => ⟨S16x4096x256, .f32⟩
  | 127 => ⟨S16x4096x256, .f32⟩
  | _ => ⟨S16x4096x512, .bf16⟩

abbrev hbmTy0_1 (i : Nat) : BufTy := match i % 128 with
  | 0 => ⟨S16x4096x256, .f32⟩
  | 1 => ⟨S1x256, .f32⟩
  | 2 => ⟨S256, .f32⟩
  | 3 => ⟨S16x4096x256, .f32⟩
  | 4 => ⟨S1x1x256, .f32⟩
  | 5 => ⟨S16x4096x256, .f32⟩
  | 6 => ⟨S16x4096x256, .f32⟩
  | 7 => ⟨S16x4096x256, .f32⟩
  | 8 => ⟨S1x256, .f32⟩
  | 9 => ⟨S256, .f32⟩
  | 10 => ⟨S16x4096x256, .f32⟩
  | 11 => ⟨S1x1x256, .f32⟩
  | 12 => ⟨S16x4096x256, .f32⟩
  | 13 => ⟨S16x4096x256, .f32⟩
  | 14 => ⟨S16x4096x256, .f32⟩
  | 15 => ⟨S1x256, .f32⟩
  | 16 => ⟨S256, .f32⟩
  | 17 => ⟨S16x4096x256, .f32⟩
  | 18 => ⟨S1x1x256, .f32⟩
  | 19 => ⟨S16x4096x256, .f32⟩
  | 20 => ⟨S16x4096x256, .f32⟩
  | 21 => ⟨S16x4096x256, .f32⟩
  | 22 => ⟨S1x256, .f32⟩
  | 23 => ⟨S256, .f32⟩
  | 24 => ⟨S16x4096x256, .f32⟩
  | 25 => ⟨S1x1x256, .f32⟩
  | 26 => ⟨S16x4096x256, .f32⟩
  | 27 => ⟨S16x4096x256, .f32⟩
  | 28 => ⟨S16x4096x256, .f32⟩
  | 29 => ⟨S1x256, .f32⟩
  | 30 => ⟨S256, .f32⟩
  | 31 => ⟨S16x4096x256, .f32⟩
  | 32 => ⟨S1x1x256, .f32⟩
  | 33 => ⟨S16x4096x256, .f32⟩
  | 34 => ⟨S16x4096x256, .f32⟩
  | 35 => ⟨S16x4096x256, .f32⟩
  | 36 => ⟨S1x256, .f32⟩
  | 37 => ⟨S256, .f32⟩
  | 38 => ⟨S16x4096x256, .f32⟩
  | 39 => ⟨S1x1x256, .f32⟩
  | 40 => ⟨S16x4096x256, .f32⟩
  | 41 => ⟨S16x4096x256, .f32⟩
  | 42 => ⟨S16x4096x256, .f32⟩
  | 43 => ⟨S1x256, .f32⟩
  | 44 => ⟨S256, .f32⟩
  | 45 => ⟨S16x4096x256, .f32⟩
  | 46 => ⟨S1x1x256, .f32⟩
  | 47 => ⟨S16x4096x256, .f32⟩
  | 48 => ⟨S16x4096x256, .f32⟩
  | 49 => ⟨S16x4096x256, .f32⟩
  | 50 => ⟨S1x256, .f32⟩
  | 51 => ⟨S256, .f32⟩
  | 52 => ⟨S16x4096x256, .f32⟩
  | 53 => ⟨S1x1x256, .f32⟩
  | 54 => ⟨S16x4096x256, .f32⟩
  | 55 => ⟨S16x4096x256, .f32⟩
  | 56 => ⟨S16x4096x256, .f32⟩
  | 57 => ⟨S1x256, .f32⟩
  | 58 => ⟨S256, .f32⟩
  | 59 => ⟨S16x4096x256, .f32⟩
  | 60 => ⟨S1x1x256, .f32⟩
  | 61 => ⟨S16x4096x256, .f32⟩
  | 62 => ⟨S16x4096x256, .f32⟩
  | 63 => ⟨S16x4096x256, .f32⟩
  | 64 => ⟨S1x256, .f32⟩
  | 65 => ⟨S256, .f32⟩
  | 66 => ⟨S16x4096x256, .f32⟩
  | 67 => ⟨S1x1x256, .f32⟩
  | 68 => ⟨S16x4096x256, .f32⟩
  | 69 => ⟨S16x4096x256, .f32⟩
  | 70 => ⟨S16x4096x256, .f32⟩
  | 71 => ⟨S1x256, .f32⟩
  | 72 => ⟨S256, .f32⟩
  | 73 => ⟨S16x4096x256, .f32⟩
  | 74 => ⟨S1x1x256, .f32⟩
  | 75 => ⟨S16x4096x256, .f32⟩
  | 76 => ⟨S16x4096x256, .f32⟩
  | 77 => ⟨S16x4096x256, .f32⟩
  | 78 => ⟨S1x256, .f32⟩
  | 79 => ⟨S256, .f32⟩
  | 80 => ⟨S16x4096x256, .f32⟩
  | 81 => ⟨S1x1x256, .f32⟩
  | 82 => ⟨S16x4096x256, .f32⟩
  | 83 => ⟨S16x4096x256, .f32⟩
  | 84 => ⟨S16x4096x256, .f32⟩
  | 85 => ⟨S1x256, .f32⟩
  | 86 => ⟨S256, .f32⟩
  | 87 => ⟨S16x4096x256, .f32⟩
  | 88 => ⟨S1x1x256, .f32⟩
  | 89 => ⟨S16x4096x256, .f32⟩
  | 90 => ⟨S16x4096x256, .f32⟩
  | 91 => ⟨S16x4096x256, .f32⟩
  | 92 => ⟨S1x256, .f32⟩
  | 93 => ⟨S256, .f32⟩
  | 94 => ⟨S16x4096x256, .f32⟩
  | 95 => ⟨S1x1x256, .f32⟩
  | 96 => ⟨S16x4096x256, .f32⟩
  | 97 => ⟨S16x4096x256, .f32⟩
  | 98 => ⟨S16x4096x256, .f32⟩
  | 99 => ⟨S1x256, .f32⟩
  | 100 => ⟨S256, .f32⟩
  | 101 => ⟨S16x4096x256, .f32⟩
  | 102 => ⟨S1x1x256, .f32⟩
  | 103 => ⟨S16x4096x256, .f32⟩
  | 104 => ⟨S16x4096x256, .f32⟩
  | 105 => ⟨S16x4096x256, .f32⟩
  | 106 => ⟨S1x256, .f32⟩
  | 107 => ⟨S256, .f32⟩
  | 108 => ⟨S16x4096x256, .f32⟩
  | 109 => ⟨S1x1x256, .f32⟩
  | 110 => ⟨S16x4096x256, .f32⟩
  | 111 => ⟨S16x4096x256, .f32⟩
  | 112 => ⟨S16x4096x256, .f32⟩
  | 113 => ⟨S_, .f32⟩
  | 114 => ⟨S16x4096, .f32⟩
  | 115 => ⟨S16x4096x1, .f32⟩
  | 116 => ⟨S_, .f32⟩
  | 117 => ⟨S16x4096x1, .f32⟩
  | 118 => ⟨S16x4096x1, .f32⟩
  | 119 => ⟨S16x4096x256, .f32⟩
  | 120 => ⟨S16x4096x256, .f32⟩
  | 121 => ⟨S16x4096x256, .f32⟩
  | 122 => ⟨S_, .f32⟩
  | 123 => ⟨S16x4096, .f32⟩
  | 124 => ⟨S16x4096x1, .f32⟩
  | 125 => ⟨S_, .f32⟩
  | 126 => ⟨S16x4096x1, .f32⟩
  | 127 => ⟨S16x4096x1, .f32⟩
  | _ => ⟨S16x4096x512, .bf16⟩

abbrev hbmTy0_2 (i : Nat) : BufTy := match i % 128 with
  | 0 => ⟨S_, .f32⟩
  | 1 => ⟨S16x4096x1, .f32⟩
  | 2 => ⟨S16x4096x1, .f32⟩
  | 3 => ⟨S16x4096x1, .f32⟩
  | 4 => ⟨S16x4096x256, .f32⟩
  | 5 => ⟨S16x4096x256, .f32⟩
  | 6 => ⟨S256, .f32⟩
  | 7 => ⟨S1x1x256, .f32⟩
  | 8 => ⟨S16x4096x256, .f32⟩
  | 9 => ⟨S16x4096x256, .f32⟩
  | 10 => ⟨S256, .f32⟩
  | 11 => ⟨S1x1x256, .f32⟩
  | 12 => ⟨S16x4096x256, .f32⟩
  | 13 => ⟨S16x4096x256, .f32⟩
  | 14 => ⟨S16x4096x256, .f32⟩
  | 15 => ⟨S16x4096x256, .f32⟩
  | 16 => ⟨S_, .f32⟩
  | 17 => ⟨S16x4096x256, .f32⟩
  | 18 => ⟨S16x4096x256, .f32⟩
  | 19 => ⟨S_, .f32⟩
  | 20 => ⟨S16x4096x256, .f32⟩
  | 21 => ⟨S16x4096x256, .f32⟩
  | 22 => ⟨S16x4096x256, .f32⟩
  | 23 => ⟨S16x4096x256, .bf16⟩
  | _ => ⟨S16x4096x512, .bf16⟩

abbrev hbmTy (i : Nat) : BufTy := match i / 128 with
  | 0 => hbmTy0_0 i
  | 1 => hbmTy0_1 i
  | 2 => hbmTy0_2 i
  | _ => ⟨S16x4096x512, .bf16⟩

abbrev bufTy : (tb : Table) → Fin (tcTables nBuf tb) → BufTy
  | .hbm, ⟨i, _⟩ => hbmTy i
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_1 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_3 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Prep.lean ====
abbrev S2x1024x6534 : Shape := ⟨3, ![2, 1024, 6534]⟩
abbrev S2x1024x6912 : Shape := ⟨3, ![2, 1024, 6912]⟩
abbrev S1x128x6534 : Shape := ⟨3, ![1, 128, 6534]⟩
abbrev S1x128x6912 : Shape := ⟨3, ![1, 128, 6912]⟩
abbrev S1x128x1152 : Shape := ⟨3, ![1, 128, 1152]⟩
abbrev S128x1152 : Shape := ⟨2, ![128, 1152]⟩
abbrev S1x128x6 : Shape := ⟨3, ![1, 128, 6]⟩
abbrev S128x6 : Shape := ⟨2, ![128, 6]⟩
abbrev S128x122 : Shape := ⟨2, ![128, 122]⟩
abbrev S128x128 : Shape := ⟨2, ![128, 128]⟩
abbrev S1x128x512 : Shape := ⟨3, ![1, 128, 512]⟩
abbrev S128x512 : Shape := ⟨2, ![128, 512]⟩
abbrev S1x128x96 : Shape := ⟨3, ![1, 128, 96]⟩
abbrev S128x96 : Shape := ⟨2, ![128, 96]⟩
abbrev S128x32 : Shape := ⟨2, ![128, 32]⟩
abbrev S1x128x3072 : Shape := ⟨3, ![1, 128, 3072]⟩
abbrev S128x3072 : Shape := ⟨2, ![128, 3072]⟩
abbrev S1x128x128 : Shape := ⟨3, ![1, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x6534, .f32⟩
  | .hbm, ⟨1, _⟩ => ⟨S2x1024x6912, .bf16⟩
  | .local _ .vmem, ⟨0, _⟩ => ⟨S1x128x6534, .f32⟩
  | .local _ .vmem, ⟨1, _⟩ => ⟨S1x128x6534, .f32⟩
  | .local _ .vmem, ⟨2, _⟩ => ⟨S1x128x6912, .bf16⟩
  | .local _ .vmem, ⟨3, _⟩ => ⟨S1x128x6912, .bf16⟩
  | _, _ => ⟨S2x1024x6534, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x6534 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PrepRefIdeal.lean ====
abbrev S2x1024x6534 : Shape := ⟨3, ![2, 1024, 6534]⟩
abbrev S2x1024x384 : Shape := ⟨3, ![2, 1024, 384]⟩
abbrev S2x1024x6 : Shape := ⟨3, ![2, 1024, 6]⟩
abbrev S2x1024x512 : Shape := ⟨3, ![2, 1024, 512]⟩
abbrev S2x1024x256 : Shape := ⟨3, ![2, 1024, 256]⟩
abbrev S2x1024x3072 : Shape := ⟨3, ![2, 1024, 3072]⟩
abbrev S_ : Shape := ⟨0, ![]⟩
abbrev S2x1024x128 : Shape := ⟨3, ![2, 1024, 128]⟩
abbrev S2x1024x4x96 : Shape := ⟨4, ![2, 1024, 4, 96]⟩
abbrev S2x1024x4x128 : Shape := ⟨4, ![2, 1024, 4, 128]⟩
abbrev S2x1024x6912 : Shape := ⟨3, ![2, 1024, 6912]⟩

abbrev nBuf : Space → Nat
  | .hbm => 30
  | .vmem => 0
  | .smem => 0
  | _ => 0

abbrev bufTy : (tb : Table) → Fin (tcTables nBuf tb) → BufTy
  | .hbm, ⟨0, _⟩ => ⟨S2x1024x6534, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2x1024x6, .f32⟩
  | .hbm, ⟨5, _⟩ => ⟨S2x1024x512, .f32⟩
  | .hbm, ⟨6, _⟩ => ⟨S2x1024x512, .f32⟩
  | .hbm, ⟨7, _⟩ => ⟨S2x1024x384, .f32⟩
  | .hbm, ⟨8, _⟩ => ⟨S2x1024x384, .f32⟩
  | .hbm, ⟨9, _⟩ => ⟨S2x1024x256, .f32⟩
  | .hbm, ⟨10, _⟩ => ⟨S2x1024x256, .f32⟩
  | .hbm, ⟨11, _⟩ => ⟨S2x1024x3072, .f32⟩
  | .hbm, ⟨12, _⟩ => ⟨S_, .i32⟩
  | .hbm, ⟨13, _⟩ => ⟨S_, .f32⟩
  | .hbm, ⟨14, _⟩ => ⟨S2x1024x128, .f32⟩
  | .hbm, ⟨15, _⟩ => ⟨S2x1024x4x96, .f32⟩
  | .hbm, ⟨16, _⟩ => ⟨S_, .i32⟩
  | .hbm, ⟨17, _⟩ => ⟨S_, .f32⟩
  | .hbm, ⟨18, _⟩ => ⟨S2x1024x4x128, .f32⟩
  | .hbm, ⟨19, _⟩ => ⟨S2x1024x512, .f32⟩
  | .hbm, ⟨20, _⟩ => ⟨S2x1024x4x96, .f32⟩
  | .hbm, ⟨21, _⟩ => ⟨S_, .i32⟩
  | .hbm, ⟨22, _⟩ => ⟨S_, .f32⟩
  | .hbm, ⟨23, _⟩ => ⟨S2x1024x4x128, .f32⟩
  | .hbm, ⟨24, _⟩ => ⟨S2x1024x512, .f32⟩
  | .hbm, ⟨25, _⟩ => ⟨S_, .f32⟩
  | .hbm, ⟨26, _⟩ => ⟨S2x1024x3072, .f32⟩
  | .hbm, ⟨27, _⟩ => ⟨S2x1024x3072, .f32⟩
  | .hbm, ⟨28, _⟩ => ⟨S2x1024x6912, .f32⟩
  | .hbm, ⟨29, _⟩ => ⟨S2x1024x6912, .bf16⟩
  | _, _ => ⟨S2x1024x6534, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_call1_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_call2_v0 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== FoxPrep.lean ====
abbrev S16x4096x1152 : Shape := ⟨3, ![16, 4096, 1152]⟩
abbrev S16x4096x128 : Shape := ⟨3, ![16, 4096, 128]⟩
abbrev S1x128 : Shape := ⟨2, ![1, 128]⟩
abbrev S1x384 : Shape := ⟨2, ![1, 384]⟩
abbrev S_ : Shape := ⟨0, ![]⟩
abbrev S512x512 : Shape := ⟨2, ![512, 512]⟩
abbrev S16x6x4096x128 : Shape := ⟨4, ![16, 6, 4096, 128]⟩
abbrev S16x6x80x4096 : Shape := ⟨4, ![16, 6, 80, 4096]⟩
abbrev S1x512x1152 : Shape := ⟨3, ![1, 512, 1152]⟩
abbrev S1x512x128 : Shape := ⟨3, ![1, 512, 128]⟩
abbrev S1x6x512x128 : Shape := ⟨4, ![1, 6, 512, 128]⟩
abbrev S1x6x80x512 : Shape := ⟨4, ![1, 6, 80, 512]⟩
abbrev S512x128 : Shape := ⟨2, ![512, 128]⟩
abbrev S512x384 : Shape := ⟨2, ![512, 384]⟩
abbrev S512 : Shape := ⟨1, ![512]⟩
abbrev S512x1 : Shape := ⟨2, ![512, 1]⟩
abbrev S1x1x512x128 : Shape := ⟨4, ![1, 1, 512, 128]⟩
abbrev S1x512x384 : Shape := ⟨3, ![1, 512, 384]⟩
abbrev S384x512 : Shape := ⟨2, ![384, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 20
  | .vmem => 15
  | .smem => 0
  | _ => 0

abbrev bufTy : (tb : Table) → Fin (tcTables nBuf tb) → BufTy
  | .hbm, ⟨0, _⟩ => ⟨S16x4096x1152, .bf16⟩
  | .hbm, ⟨1, _⟩ => ⟨S16x4096x128, .f32⟩
  | .hbm, ⟨2, _⟩ => ⟨S1x128, .f32⟩
  | .hbm, ⟨3, _⟩ => ⟨S1x384, .f32⟩
  | .hbm, ⟨4, _⟩ => ⟨S1x384, .f32⟩
  | .hbm, ⟨5, _⟩ => ⟨S_, .f32⟩
  | .hbm, ⟨6, _⟩ => ⟨S512x512, .f32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S16x6x4096x128, .bf16⟩
  | .hbm, ⟨18, _⟩ => ⟨S16x6x4096x128, .bf16⟩
  | .hbm, ⟨19, _⟩ => ⟨S16x6x80x4096, .bf16⟩
  | .local _ .vmem, ⟨0, _⟩ => ⟨S1x512x1152, .bf16⟩
  | .local _ .vmem, ⟨1, _⟩ => ⟨S1x512x1152, .bf16⟩
  | .local _ .vmem, ⟨2, _⟩ => ⟨S1x512x128, .f32⟩
  | .local _ .vmem, ⟨3, _⟩ => ⟨S1x512x128, .f32⟩
  | .local _ .vmem, ⟨4, _⟩ => ⟨S1x128, .f32⟩
  | .local _ .vmem, ⟨5, _⟩ => ⟨S1x384, .f32⟩
  | .local _ .vmem, ⟨6, _⟩ => ⟨S1x384, .f32⟩
  | .local _ .vmem, ⟨7, _⟩ => ⟨S512x512, .bf16⟩
  | .local _ .vmem, ⟨8, _⟩ => ⟨S1x6x512x128, .bf16⟩
  | .local _ .vmem, ⟨9, _⟩ => ⟨S1x6x512x128, .bf16⟩
  | .local _ .vmem, ⟨10, _⟩ => ⟨S1x6x512x128, .bf16⟩
  | .local _ .vmem, ⟨11, _⟩ => ⟨S1x6x512x128, .bf16⟩
  | .local _ .vmem, ⟨12, _⟩ => ⟨S1x6x80x512, .bf16⟩
  | .local _ .vmem, ⟨13, _⟩ => ⟨S1x6x80x512, .bf16⟩
  | .local _ .vmem, ⟨14, _⟩ => ⟨S1x128, .f32⟩
  | _, _ => ⟨S16x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x6x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxPrepRefIdeal.lean ====
abbrev S16x4096x1152 : Shape := ⟨3, ![16, 4096, 1152]⟩
abbrev S16x4096x128 : Shape := ⟨3, ![16, 4096, 128]⟩
abbrev S1x128 : Shape := ⟨2, ![1, 128]⟩
abbrev S1x384 : Shape := ⟨2, ![1, 384]⟩
abbrev S16x4096x384 : Shape := ⟨3, ![16, 4096, 384]⟩
abbrev S16x4096x6x64 : Shape := ⟨4, ![16, 4096, 6, 64]⟩
abbrev S16x6x4096x64 : Shape := ⟨4, ![16, 6, 4096, 64]⟩
abbrev S6x1x64 : Shape := ⟨3, ![6, 1, 64]⟩
abbrev S_ : Shape := ⟨0, ![]⟩
abbrev S16x6x4096 : Shape := ⟨3, ![16, 6, 4096]⟩
abbrev S16x6x4096x1 : Shape := ⟨4, ![16, 6, 4096, 1]⟩
abbrev S1x6x1x64 : Shape := ⟨4, ![1, 6, 1, 64]⟩
abbrev S16x4096x6 : Shape := ⟨3, ![16, 4096, 6]⟩
abbrev S1x6 : Shape := ⟨2, ![1, 6]⟩
abbrev S6 : Shape := ⟨1, ![6]⟩
abbrev S1x1x6 : Shape := ⟨3, ![1, 1, 6]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x6x1x4096 : Shape := ⟨4, ![16, 6, 1, 4096]⟩
abbrev S16x6x4096x4096 : Shape := ⟨4, ![16, 6, 4096, 4096]⟩
abbrev S16x6x4096x2 : Shape := ⟨4, ![16, 6, 4096, 2]⟩
abbrev S16x6x4096x3 : Shape := ⟨4, ![16, 6, 4096, 3]⟩
abbrev S16x6x4096x58 : Shape := ⟨4, ![16, 6, 4096, 58]⟩
abbrev S16x6x4096x128 : Shape := ⟨4, ![16, 6, 4096, 128]⟩
abbrev S16x6x4096x60 : Shape := ⟨4, ![16, 6, 4096, 60]⟩
abbrev S16x6x4096x15 : Shape := ⟨4, ![16, 6, 4096, 15]⟩
abbrev S16x6x4096x80 : Shape := ⟨4, ![16, 6, 4096, 80]⟩
abbrev S16x6x80x4096 : Shape := ⟨4, ![16, 6, 80, 4096]⟩

abbrev nBuf : Space → Nat
  | .hbm => 117
  | .vmem => 0
  | .smem => 0
  | _ => 0

abbrev bufTy : (tb : Table) → Fin (tcTables nBuf tb) → BufTy
  | .hbm, ⟨0, _⟩ => ⟨S16x4096x1152, .bf16⟩
  | .hbm, ⟨1, _⟩ => ⟨S16x4096x128, .f32⟩
  | .hbm, ⟨2, _⟩ => ⟨S1x128, .f32⟩
  | .hbm, ⟨3, _⟩ => ⟨S1x384, .f32⟩
  | .hbm, ⟨4, _⟩ => ⟨S1x384, .f32⟩
  | .hbm, ⟨5, _⟩ => ⟨S16x4096x1152, .f32⟩
  | .hbm, ⟨6, _⟩ => ⟨S16x4096x384, .f32⟩
  | .hbm, ⟨7, _⟩ => ⟨S16x4096x384, .f32⟩
  | .hbm, ⟨8, _⟩ => ⟨S16x4096x384, .f32⟩
  | .hbm, ⟨9, _⟩ => ⟨S16x4096x6x64, .f32⟩
  | .hbm, ⟨10, _⟩ => ⟨S16x6x4096x64, .f32⟩
  | .hbm, ⟨11, _⟩ => ⟨S16x4096x6x64, .f32⟩
  | .hbm, ⟨12, _⟩ => ⟨S16x6x4096x64, .f32⟩
  | .hbm, ⟨13, _⟩ => ⟨S16x4096x6x64, .f32⟩
  | .hbm, ⟨14, _⟩ => ⟨S16x6x4096x64, .f32⟩
  | .hbm, ⟨15, _⟩ => ⟨S6x1x64, .f32⟩
  | .hbm, ⟨16, _⟩ => ⟨S16x6x4096x64, .f32⟩
  | .hbm, ⟨17, _⟩ => ⟨S_, .f32⟩
  | .hbm, ⟨18, _⟩ => ⟨S16x6x4096, .f32⟩
  | .hbm, ⟨19, _⟩ => ⟨S16x6x4096x1, .f32⟩
  | .hbm, ⟨20, _⟩ => ⟨S_, .f32⟩
  | .hbm, ⟨21, _⟩ => ⟨S16x6x4096x1, .f32⟩
  | .hbm, ⟨22, _⟩ => ⟨S16x6x4096x1, .f32⟩
  | .hbm, ⟨23, _⟩ => ⟨S_, .f32⟩
  | .hbm, ⟨24, _⟩ => ⟨S16x6x4096x1, .f32⟩
  | .hbm, ⟨25, _⟩ => ⟨S16x6x4096x1, .f32⟩
  | .hbm, ⟨26, _⟩ => ⟨S16x6x4096x1, .f32⟩
  | .hbm, ⟨27, _⟩ => ⟨S16x6x4096x64, .f32⟩
  | .hbm, ⟨28, _⟩ => ⟨S16x6x4096x64, .f32⟩
  | .hbm, ⟨29, _⟩ => ⟨S1x6x1x64, .f32⟩
  | .hbm, ⟨30, _⟩ => ⟨S16x6x4096x64, .f32⟩
  | .hbm, ⟨31, _⟩ => ⟨S16x6x4096x64, .f32⟩
  | .hbm, ⟨32, _⟩ => ⟨S_, .f32⟩
  | .hbm, ⟨33, _⟩ => ⟨S16x6x4096x64, .f32⟩
  | .hbm, ⟨34, _⟩ => ⟨S16x6x4096x64, .f32⟩
  | .hbm, ⟨35, _⟩ => ⟨S6x1x64, .f32⟩
  | .hbm, ⟨36, _⟩ => ⟨S16x6x4096x64, .f32⟩
  | .hbm, ⟨37, _⟩ => ⟨S_, .f32⟩
  | .hbm, ⟨38, _⟩ => ⟨S16x6x4096, .f32⟩
  | .hbm, ⟨39, _⟩ => ⟨S16x6x4096x1, .f32⟩
  | .hbm, ⟨40, _⟩ => ⟨S_, .f32⟩
  | .hbm, ⟨41, _⟩ => ⟨S16x6x4096x1, .f32⟩
  | .hbm, ⟨42, _⟩ => ⟨S16x6x4096x1, .f32⟩
  | .hbm, ⟨43, _⟩ => ⟨S_, .f32⟩
  | .hbm, ⟨44, _⟩ => ⟨S16x6x4096x1, .f32⟩
  | .hbm, ⟨45, _⟩ => ⟨S16x6x4096x1, .f32⟩
  | .hbm, ⟨46, _⟩ => ⟨S16x6x4096x1, .f32⟩
  | .hbm, ⟨47, _⟩ => ⟨S16x6x4096x64, .f32⟩
  | .hbm, ⟨48, _⟩ => ⟨S16x6x4096x64, .f32⟩
  | .hbm, ⟨49, _⟩ => ⟨S1x6x1x64, .f32⟩
  | .hbm, ⟨50, _⟩ => ⟨S16x6x4096x64, .f32⟩
  | .hbm, ⟨51, _⟩ => ⟨S16x6x4096x64, .f32⟩
  | .hbm, ⟨52, _⟩ => ⟨S16x4096x6, .f32⟩
  | .hbm, ⟨53, _⟩ => ⟨S1x6, .f32⟩
  | .hbm, ⟨54, _⟩ => ⟨S6, .f32⟩
  | .hbm, ⟨55, _⟩ => ⟨S1x1x6, .f32⟩
  | .hbm, ⟨56, _⟩ => ⟨S16x4096x6, .f32⟩
  | .hbm, ⟨57, _⟩ => ⟨S16x4096x6, .f32⟩
  | .hbm, ⟨58, _⟩ => ⟨S16x4096x6, .f32⟩
  | .hbm, ⟨59, _⟩ => ⟨S_, .f32⟩
  | .hbm, ⟨60, _⟩ => ⟨S16x4096x6, .f32⟩
  | .hbm, ⟨61, _⟩ => ⟨S16x4096x6, .f32⟩
  | .hbm, ⟨62, _⟩ => ⟨S16x4096x6, .f32⟩
  | .hbm, ⟨63, _⟩ => ⟨S16x4096x6, .f32⟩
  | .hbm, ⟨64, _⟩ => ⟨S16x4096x6, .i1⟩
  | .hbm, ⟨65, _⟩ => ⟨S16x4096x6, .f32⟩
  | .hbm, ⟨66, _⟩ => ⟨S16x4096x6, .f32⟩
  | .hbm, ⟨67, _⟩ => ⟨S16x4096x6, .f32⟩
  | .hbm, ⟨68, _⟩ => ⟨S16x4096x6, .f32⟩
  | .hbm, ⟨69, _⟩ => ⟨S16x4096x6, .f32⟩
  | .hbm, ⟨70, _⟩ => ⟨S16x4096x6, .f32⟩
  | .hbm, ⟨71, _⟩ => ⟨S16x4096x6, .f32⟩
  | .hbm, ⟨72, _⟩ => ⟨S16x4096x6, .f32⟩
  | .hbm, ⟨73, _⟩ => ⟨S16x4096x6, .f32⟩
  | .hbm, ⟨74, _⟩ => ⟨S16x6x4096, .f32⟩
  | .hbm, ⟨75, _⟩ => ⟨S4096, .i32⟩
  | .hbm, ⟨76, _⟩ => ⟨S4096x1, .i32⟩
  | .hbm, ⟨77, _⟩ => ⟨S4096, .i32⟩
  | .hbm, ⟨78, _⟩ => ⟨S1x4096, .i32⟩
  | .hbm, ⟨79, _⟩ => ⟨S4096x4096, .i32⟩
  | .hbm, ⟨80, _⟩ => ⟨S4096x4096, .i32⟩
  | .hbm, ⟨81, _⟩ => ⟨S4096x4096, .i1⟩
  | .hbm, ⟨82, _⟩ => ⟨S16x6x1x4096, .f32⟩
  | .hbm, ⟨83, _⟩ => ⟨S_, .f32⟩
  | .hbm, ⟨84, _⟩ => ⟨S_, .f32⟩
  | .hbm, ⟨85, _⟩ => ⟨S16x6x4096x4096, .i1⟩
  | .hbm, ⟨86, _⟩ => ⟨S16x6x4096x4096, .f32⟩
  | .hbm, ⟨87, _⟩ => ⟨S16x6x4096x4096, .f32⟩
  | .hbm, ⟨88, _⟩ => ⟨S16x6x4096x4096, .f32⟩
  | .hbm, ⟨89, _⟩ => ⟨S_, .f32⟩
  | .hbm, ⟨90, _⟩ => ⟨S16x6x4096, .f32⟩
  | .hbm, ⟨91, _⟩ => ⟨S16x6x4096x1, .f32⟩
  | .hbm, ⟨92, _⟩ => ⟨S_, .f32⟩
  | .hbm, ⟨93, _⟩ => ⟨S16x6x4096x1, .f32⟩
  | .hbm, ⟨94, _⟩ => ⟨S16x6x4096x1, .f32⟩
  | .hbm, ⟨95, _⟩ => ⟨S_, .f32⟩
  | .hbm, ⟨96, _⟩ => ⟨S16x6x4096x2, .f32⟩
  | .hbm, ⟨97, _⟩ => ⟨S_, .f32⟩
  | .hbm, ⟨98, _⟩ => ⟨S16x6x4096x3, .f32⟩
  | .hbm, ⟨99, _⟩ => ⟨S_, .f32⟩
  | .hbm, ⟨100, _⟩ => ⟨S16x6x4096x58, .f32⟩
  | .hbm, ⟨101, _⟩ => ⟨S16x6x4096x128, .f32⟩
  | .hbm, ⟨102, _⟩ => ⟨S_, .f32⟩
  | .hbm, ⟨103, _⟩ => ⟨S16x6x4096x3, .f32⟩
  | .hbm, ⟨104, _⟩ => ⟨S16x6x4096x1, .f32⟩
  | .hbm, ⟨105, _⟩ => ⟨S_, .f32⟩
  | .hbm, ⟨106, _⟩ => ⟨S16x6x4096x60, .f32⟩
  | .hbm, ⟨107, _⟩ => ⟨S16x6x4096x128, .f32⟩
  | .hbm, ⟨108, _⟩ => ⟨S_, .f32⟩
  | .hbm, ⟨109, _⟩ => ⟨S16x6x4096x1, .f32⟩
  | .hbm, ⟨110, _⟩ => ⟨S_, .f32⟩
  | .hbm, ⟨111, _⟩ => ⟨S16x6x4096x15, .f32⟩
  | .hbm, ⟨112, _⟩ => ⟨S16x6x4096x80, .f32⟩
  | .hbm, ⟨113, _⟩ => ⟨S16x6x80x4096, .f32⟩
  | .hbm, ⟨114, _⟩ => ⟨S16x6x4096x128, .bf16⟩
  | .hbm, ⟨115, _⟩ => ⟨S16x6x4096x128, .bf16⟩
  | .hbm, ⟨116, _⟩ => ⟨S16x6x80x4096, .bf16⟩
  | _, _ => ⟨S16x4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_cst_12 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_cst_14 : Ref sig .tc := ⟨.hbm, 108, rfl⟩
abbrev main_v69 : Ref sig .tc := ⟨.hbm, 109, rfl⟩
abbrev main_cst_15 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]
-- ==== Proof.KernelIdeal.Memrefs.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! The staging and scratch memrefs of the attention kernel, and its invariant over the scratch. -/

/-- Window 0's staging memref at a point, as the pipeline passes it, and its wholeness. -/
abbrev stg0 (t : Fin cfg0.N) : Memref sig .tc .vmem S1x2x1024x128 .bf16 := win0_0.stage (cfg0.slots t 0)
abbrev stgWhole0 (t : Fin cfg0.N) : (stg0 t).IsWhole := hstage0_0 ((cfg0.slots t 0).cast nbuf0_0)

/-- Window 1's staging memref at a point, as the pipeline passes it, and its wholeness. -/
abbrev stg1 (t : Fin cfg0.N) : Memref sig .tc .vmem S1x2x4096x128 .bf16 := win0_1.stage (cfg0.slots t 1)
abbrev stgWhole1 (t : Fin cfg0.N) : (stg1 t).IsWhole := hstage0_1 ((cfg0.slots t 1).cast nbuf0_1)

/-- Window 2's staging memref at a point, as the pipeline passes it, and its wholeness. -/
abbrev stg2 (t : Fin cfg0.N) : Memref sig .tc .vmem S1x2x80x4096 .bf16 := win0_2.stage (cfg0.slots t 2)
abbrev stgWhole2 (t : Fin cfg0.N) : (stg2 t).IsWhole := hstage0_2 ((cfg0.slots t 2).cast nbuf0_2)

/-- Window 3's staging memref at a point, as the pipeline passes it, and its wholeness. -/
abbrev stg3 (t : Fin cfg0.N) : Memref sig .tc .vmem S1x1024x128 .bf16 := win0_3.stage (cfg0.slots t 3)
abbrev stgWhole3 (t : Fin cfg0.N) : (stg3 t).IsWhole := hstage0_3 ((cfg0.slots t 3).cast nbuf0_3)

/-- The running maximum, the accumulator and the scores: whole buffers of the kernel's own. -/
abbrev mxM : Memref sig .tc .vmem S2x1x1024 .f32 := Memref.whole cc0_scratch0
abbrev acM : Memref sig .tc .vmem S2x80x1024 .f32 := Memref.whole cc0_scratch1
abbrev scM : Memref sig .tc .vmem S2x2x256x1024 .f32 := Memref.whole cc0_scratch2

/-- The invariant of the region holds each scratch buffer at some contents. -/
theorem invA_eq (c : Dev nD) :
    (Pipeline.ΦA spec0 c : sProp 𝕄)
      = iprop(iprop((∃ d, owns (c : Thread nD τ) mxM fullShare d) ∗ (∃ d, owns (c : Thread nD τ) acM fullShare d) ∗ (∃ d, owns (c : Thread nD τ) scM fullShare d)) ∗ (∃ r, prngReg c r)) := by
  unfold Pipeline.ΦA; rw [scopedRest0_eq]; simp only [mxM, acM, scM, owns_whole]; try rfl

end Cert.KernelIdeal.Fox

end
-- ==== Proof.KernelIdeal.BodyRun.lean ====
module

public import proofs.«01_k».proof.Proof.KernelIdeal.Memrefs

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- one proof term runs the whole body
set_option maxHeartbeats 4000000 in
/-- The body run once at any grid point, the score scratch at given contents `d9`: the inputs stay, the output block
    ends as the pieces the run finds, the scratch at some contents. -/
def bodyRun (c : Dev nD) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole)
    (x0 : Vec F S1x2x1024x128 .bf16) (x1 : Vec F S1x2x4096x128 .bf16) (x2 : Vec F S1x2x80x4096 .bf16) (d9 : Vec F S2x2x256x1024 .f32) :
    { L3 : List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d9
            ∗ (iprop(owns (c : Thread nD τ) arg3 fullShare x0 ∗ owns (c : Thread nD τ) arg4 fullShare x1 ∗ owns (c : Thread nD τ) arg5 fullShare x2 ∗ (∃ f, owns (c : Thread nD τ) arg6 fullShare (arg6.view.read (Elt F) (arg6.view.writes (Elt F) f L3))) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_attn i arg3 harg3 arg4 harg4 arg5 harg5 arg6 harg6 arg7 harg7 arg8 harg8 arg9 harg9) K } := by
  refine ⟨?_, fun E K => ?run⟩
  case run =>
    simp only [cc0_fox_attn_eq_skeleton]; unfold cc0_fox_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg9.eq_unread hfs2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Fox

end
-- ==== Proof.KernelIdeal.Frame.lean ====
module

public import proofs.«01_k».proof.Proof.KernelIdeal.BodyRun

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window's contents are left unnamed here. -/
def unnamedOut : Fin 4 → Bool := fun w => w.val == 3

/-- What the pipeline holds: the arrays as the region finds them, each input's block in its buffer. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem pdat_A (c : Dev nD) (w : Fin cfg0.W) : (pdat m 0 c).A w = V m c (Pipeline.arrRef spec0 w) := by
  dsimp only [pdat]
theorem pdat_after0 (c : Dev nD) (t : Fin cfg0.N) : (pdat m 0 c).after 0 t = iblk m c 0 t := by dsimp only [pdat]
theorem pdat_after1 (c : Dev nD) (t : Fin cfg0.N) : (pdat m 0 c).after 1 t = iblk m c 1 t := by dsimp only [pdat]
theorem pdat_after2 (c : Dev nD) (t : Fin cfg0.N) : (pdat m 0 c).after 2 t = iblk m c 2 t := by dsimp only [pdat]
theorem pdat_before0 (c : Dev nD) (t : Fin cfg0.N) (d) : (pdat m 0 c).before 0 t d = iblk m c 0 t :=
  before0_0_of m (pdat m 0 c) (pdat_A m c 0) (pdat_after0 m c) t d
theorem pdat_before1 (c : Dev nD) (t : Fin cfg0.N) (d) : (pdat m 0 c).before 1 t d = iblk m c 1 t :=
  before0_1_of m (pdat m 0 c) (pdat_A m c 1) (pdat_after1 m c) t d
theorem pdat_before2 (c : Dev nD) (t : Fin cfg0.N) (d) : (pdat m 0 c).before 2 t d = iblk m c 2 t :=
  before0_2_of m (pdat m 0 c) (pdat_A m c 2) (pdat_after2 m c) t d

/-- What the body finds at a point. -/
def pre (c : Dev nD) (t : Fin cfg0.N) : sProp 𝕄 :=
  iprop((pdat m 0 c).Φ t.castSucc ∗ (pdat m 0 c).owesAt () t.castSucc
    ∗ (∃ d, owns (c : Thread nD τ) (stg0 t) fullShare ((pdat m 0 c).before 0 t d))
    ∗ (∃ d, owns (c : Thread nD τ) (stg1 t) fullShare ((pdat m 0 c).before 1 t d))
    ∗ (∃ d, owns (c : Thread nD τ) (stg2 t) fullShare ((pdat m 0 c).before 2 t d))
    ∗ (∃ d, owns (c : Thread nD τ) (stg3 t) fullShare d))

/-- What the body leaves at a point. -/
def post (c : Dev nD) (t : Fin cfg0.N) : sProp 𝕄 :=
  iprop((pdat m 0 c).Φ t.succ ∗ (pdat m 0 c).owesAt () t.succ
    ∗ owns (c : Thread nD τ) (stg0 t) fullShare ((pdat m 0 c).after 0 t)
    ∗ owns (c : Thread nD τ) (stg1 t) fullShare ((pdat m 0 c).after 1 t)
    ∗ owns (c : Thread nD τ) (stg2 t) fullShare ((pdat m 0 c).after 2 t)
    ∗ (∃ d, owns (c : Thread nD τ) (stg3 t) fullShare d))

/-- The body at any point, from the one run of it. -/
theorem body_sound (c : Dev nD) (t : Fin cfg0.N) :
    pre m c t ⊢ wp frame (wpE (defs₀ (F := F)) Variants.none c none) Set.univ (bodyAt0 t) (fun _ => post m c t) := by
  unfold pre post bodyAt0
  simp only [pdat_before0, pdat_before1, pdat_before2]
  rw [show (pdat m 0 c).Φ t.succ = (pdat m 0 c).Φ t.castSucc from rfl,
    show (pdat m 0 c).owesAt () t.succ = (pdat m 0 c).owesAt () t.castSucc from rfl,
    pdat_after0, pdat_after1, pdat_after2]
  rw [show (pdat m 0 c).Φ t.castSucc = Pipeline.ΦA spec0 c from rfl, invA_eq]
  iintro ⟨⟨⟨HS0, HS1, ⟨%d9, HS2⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (iblk m c 0 t) (iblk m c 1 t) (iblk m c 2 t) d9).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%f3, H3⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexists _; iexact H3

/-- The body table's row at a point is the body. -/
theorem row_eq (t : Fin cfg0.N) :
    defs₀ (F := F) .tc cfg0.body (cfg0.bodyArgs t (cfg0.slots t)) = bodyAt0 t := by
  unfold defs₀; rw [Defs.onTc_tc]

/-- The obligation of the pipeline at every point. -/
theorem body_ob (c : Dev nD) : BodyObligation (pdat (F := F) m 0 c) (defs₀ (F := F)) Variants.none () Set.univ unnamedOut := fun t => by
  rw [bigSep_W0, bigSep_W0, row_eq]
  exact triple_restated (body_sound m c t) rfl .rfl fun _ => .rfl

set_option backward.isDefEq.respectTransparency.types false in
/-- The launch, with every counter at zero at the end. -/
theorem launch_zero : θ_run defs (onTc (τ := τ) (main (F := F))) (s₀ m ρ) (fun r => (Pipeline.RDat.FramePost (cfgs 0) (fun c => (pdat m 0 c).toRForget unnamedOut) (V m)) r ∧ r.2.sem = fun _ => 0) :=
  Pipeline.θ_run_frame_forget (Q' := _) cfgs (pdat m) (0 : Fin 1) launch0 defs₀ Variants.none unnamedOut m ρ main
    (hbody := fun c => (body_ob m c).loose) (hshare := fun c => (pdat m 0 c).share_full fun _ => rfl)
    (howed := fun _ _ => rfl) (V := V m) (hmain := hmain m Variants.none) (hA := pdat_A m) (hΦ := fun _ _ => rfl)

theorem launch_post : θ_run defs (onTc (τ := τ) (main (F := F))) (s₀ m ρ) (Pipeline.RDat.FramePost (cfgs 0) (fun c => (pdat m 0 c).toRForget unnamedOut) (V m)) :=
  (θ_run defs _ _).mono (fun _ h => h.1) (launch_zero m ρ)

/-- A forgetting post read at the three argument arrays, which are staged inputs. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((pdat_A m c 0).trans (V_main_arg0 m c)),
      (Pipeline.RDat.FramePost.arr_in h c 1 rfl).trans ((pdat_A m c 1).trans (V_main_arg1 m c)),
      (Pipeline.RDat.FramePost.arr_in h c 2 rfl).trans ((pdat_A m c 2).trans (V_main_arg2 m c))⟩) (launch_post m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (launch_zero m ρ))

end Cert.KernelIdeal.Fox

end
-- ==== Proof.Fox.Math.lean ====
module

public import Idealize.ShloMosaic.PureOps.Ideal
public import Idealize.ShloMosaic.Lib.IdealHost
public import Mathlib.Tactic.Ring
public import Mathlib.Algebra.BigOperators.Intervals

@[expose] public section

noncomputable section

namespace Cert.Fox

open Idealize.ShloMosaic

/-- The greatest of the first `n` logits. -/
def mx (s : ℕ → EReal) (n : ℕ) : EReal := (Finset.range n).sup s

/-- The values of the first `n` keys, weighted by powers of two of the logits over the greatest. -/
def ws (s v : ℕ → EReal) (n : ℕ) : EReal := ∑ k ∈ Finset.range n, v k * Ideal.exp2 (s k - mx s n)

theorem exp2_nonneg (x : EReal) : 0 ≤ Ideal.exp2 x := by
  induction x with
  | bot => simp
  | top => simp
  | coe r => rw [Ideal.exp2_coe]; exact_mod_cast Real.rpow_nonneg (by norm_num) r

/-- Below a bound the power of the difference is a real number. -/
theorem exp2_sub_real {s m : EReal} (h : s ≤ m) : ∃ r : ℝ, 0 ≤ r ∧ Ideal.exp2 (s - m) = (r : EReal) := by
  induction m with
  | bot => rw [le_bot_iff.mp h]; exact ⟨0, le_rfl, by simp [sub_eq_add_neg]⟩
  | top => exact ⟨0, le_rfl, by simp [sub_eq_add_neg]⟩
  | coe b =>
    induction s with
    | bot => exact ⟨0, le_rfl, by simp [sub_eq_add_neg]⟩
    | top => exact absurd h (by simp)
    | coe a => exact ⟨Real.rpow 2 (a - b), Real.rpow_nonneg (by norm_num) _, by rw [← EReal.coe_sub, Ideal.exp2_coe]⟩

/-- Powers over one bound, carried over to a greater bound. -/
theorem exp2_carry {s m m' : EReal} (h : s ≤ m) (h' : m ≤ m') :
    Ideal.exp2 (s - m) * Ideal.exp2 (m - m') = Ideal.exp2 (s - m') := by
  induction m' with
  | bot => rw [le_bot_iff.mp h'] at h ⊢; rw [le_bot_iff.mp h]; simp [sub_eq_add_neg]
  | top => simp [sub_eq_add_neg]
  | coe c =>
    induction m with
    | bot => rw [le_bot_iff.mp h]; simp [sub_eq_add_neg]
    | top => exact absurd h' (by simp)
    | coe b =>
      induction s with
      | bot => simp [sub_eq_add_neg]
      | top => exact absurd h (by simp)
      | coe a =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (b - c) = (2 : ℝ) ^ (a - c)
        rw [← Real.rpow_add (by norm_num)]; congr 1; ring

/-- A real number goes under a sum. -/
theorem real_mul_sum {ι : Type*} {r : ℝ} (hr : 0 ≤ r) (f : ι → EReal) (A : Finset ι) :
    (r : EReal) * ∑ k ∈ A, f k = ∑ k ∈ A, (r : EReal) * f k := by
  classical
  induction A using Finset.induction_on with
  | empty => simp
  | insert a A ha ih =>
    rw [Finset.sum_insert ha, Finset.sum_insert ha, EReal.left_distrib_of_nonneg_of_ne_top (by exact_mod_cast hr) (EReal.coe_ne_top r), ih]

/-- A weighted sum over one bound, carried over to a greater bound. -/
theorem carry_sum (s v : ℕ → EReal) (A : Finset ℕ) {m m' : EReal} (h : ∀ k ∈ A, s k ≤ m) (h' : m ≤ m') :
    Ideal.exp2 (m - m') * ∑ k ∈ A, v k * Ideal.exp2 (s k - m) = ∑ k ∈ A, v k * Ideal.exp2 (s k - m') := by
  obtain ⟨r, hr, e⟩ := exp2_sub_real h'
  rw [e, real_mul_sum hr]
  refine Finset.sum_congr rfl fun k hk => ?_
  rw [← exp2_carry (h k hk) h', e, mul_left_comm, mul_comm (r : EReal)]

theorem le_mx (s : ℕ → EReal) {n k : ℕ} (h : k < n) : s k ≤ mx s n :=
  Finset.le_sup (f := s) (Finset.mem_range.mpr h)

theorem mx_mono (s : ℕ → EReal) {n n' : ℕ} (h : n ≤ n') : mx s n ≤ mx s n' :=
  Finset.sup_mono (Finset.range_subset_range.mpr h)

theorem mx_zero (s : ℕ → EReal) : mx s 0 = ⊥ := by simp [mx]
theorem ws_zero (s v : ℕ → EReal) : ws s v 0 = 0 := by simp [ws]

/-- One tile's greatest joins the greatest so far. -/
theorem mx_tile (s : ℕ → EReal) (n T : ℕ) :
    max (mx s n) (Finset.univ.sup fun r : Fin T => s (n + r.val)) = mx s (n + T) := by
  apply le_antisymm
  · refine max_le (mx_mono s (Nat.le_add_right _ _)) (Finset.sup_le fun r _ => le_mx s (by omega))
  · refine Finset.sup_le fun k hk => ?_
    by_cases hkn : k < n
    · exact (le_mx s hkn).trans (le_max_left _ _)
    · have hk := Finset.mem_range.mp hk
      refine le_max_of_le_right ?_
      have := Finset.le_sup (f := fun r : Fin T => s (n + r.val)) (Finset.mem_univ (⟨k - n, by omega⟩ : Fin T))
      simpa [show n + (k - n) = k by omega] using this

/-- One tile's weighted sum joins the rescaled sum so far. -/
theorem ws_tile (s v : ℕ → EReal) (n T : ℕ) :
    Ideal.exp2 (mx s n - mx s (n + T)) * ws s v n + ∑ r : Fin T, v (n + r.val) * Ideal.exp2 (s (n + r.val) - mx s (n + T))
      = ws s v (n + T) := by
  unfold ws
  rw [carry_sum s v _ (fun k hk => le_mx s (Finset.mem_range.mp hk)) (mx_mono s (Nat.le_add_right _ _)),
    Finset.sum_range_add (fun k => v k * Ideal.exp2 (s k - mx s (n + T))) n T,
    Finset.sum_range (fun r => v (n + r) * Ideal.exp2 (s (n + r) - mx s (n + T)))]

theorem mx_congr {s s' : ℕ → EReal} {n : ℕ} (h : ∀ k < n, s k = s' k) : mx s n = mx s' n :=
  Finset.sup_congr rfl fun k hk => h k (Finset.mem_range.mp hk)

theorem ws_congr {s s' v v' : ℕ → EReal} {n : ℕ} (h : ∀ k < n, s k = s' k) (hv : ∀ k < n, v k = v' k) :
    ws s v n = ws s' v' n := by
  unfold ws
  rw [mx_congr h]
  exact Finset.sum_congr rfl fun k hk => by rw [h k (Finset.mem_range.mp hk), hv k (Finset.mem_range.mp hk)]

/-- Masked keys change nothing. -/
theorem mx_masked {s : ℕ → EReal} {n N : ℕ} (hn : n ≤ N) (h : ∀ k, n ≤ k → k < N → s k = ⊥) : mx s N = mx s n := by
  apply le_antisymm _ (mx_mono s hn)
  refine Finset.sup_le fun k hk => ?_
  by_cases hkn : k < n
  · exact le_mx s hkn
  · rw [h k (by omega) (Finset.mem_range.mp hk)]; exact bot_le

theorem ws_masked {s v : ℕ → EReal} {n N : ℕ} (hn : n ≤ N) (h : ∀ k, n ≤ k → k < N → s k = ⊥) : ws s v N = ws s v n := by
  unfold ws
  rw [mx_masked hn h]
  symm
  apply Finset.sum_subset (Finset.range_subset_range.mpr hn)
  intro k hk hk'
  rw [h k (by simpa using hk') (Finset.mem_range.mp hk)]
  simp [sub_eq_add_neg]

end Cert.Fox

end
-- ==== Proof.Fox.Ops.lean ====
module

public import proofs.«01_k».proof.Proof.Fox.Math
public import Idealize.ShloMosaic.Lib.MatmulPlain
public import Idealize.ShloMosaic.Lib.ValueLayout
public import Idealize.ShloMosaic.Lib.ValueIdx
public import Idealize.ShloMosaic.Lib.Pipeline.Value

@[expose] public section

noncomputable section

namespace Cert.Fox

open Idealize.ShloMosaic Idealize.ShloMosaic.ValueIdx
open scoped BigOperators

variable {α : Type}

theorem cast_drop2 {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 0 0 i j) :=
  shapeCast_apply x h _ _ (by
    rw [Shape.rowMajor_val_two, Shape.rowMajor_val_four]
    show ((0 * 1 + 0) * a + i.val) * b + j.val = i.val * b + j.val
    simp)

theorem cast_add2 {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 0 0 i j) = x (ix2 i j) :=
  shapeCast_apply x h _ _ (by
    rw [Shape.rowMajor_val_two, Shape.rowMajor_val_four]
    show i.val * b + j.val = ((0 * 1 + 0) * a + i.val) * b + j.val
    simp)

/-- The greatest of a column, as the reduction over the rows gives it. -/
theorem colmax {W : ℕ} (st : FVec Ideal ⟨2, ![256, W]⟩ .f32) (hr hφ hacc) (c : Fin W) :
    multiReduction .maximumf [0] ⟨1, ![W]⟩ st 0xFF800000#32 hr hφ hacc (ix1 c)
      = (Finset.univ.sup fun r : Fin 256 => (st (ix2 r c) : EReal)) := by
  refine (Ideal.multiReduction_maximumf_single st _ hr hφ hacc (ix1 c)).trans ?_
  rw [show (FloatOps.ofBits .f32 0xFF800000#32 : Ideal .f32) = (⊥ : EReal) from by
    show Ideal.ofBits .f32 0xFF800000#32 = ⊥
    simp [Ideal.ofBits, Ideal.ieee]]
  have e : ∀ r : Fin 256, Shape.Reduces.lift hr (ix1 c) r = ix2 r c := fun r => by
    funext a; apply Fin.ext
    match a with
    | ⟨0, _⟩ => rfl
    | ⟨1, _⟩ => rfl
  show Finset.fold max ⊥ _ _ = Finset.fold max ⊥ _ _
  refine Finset.fold_congr fun r _ => ?_
  exact congrArg st (e r)

/-- One tile's greatest joins the greatest so far, column by column. -/
theorem step_max {W : ℕ} (s : Fin W → ℕ → EReal) (T : ℕ) {T' : ℕ} (hT : T + 256 = T') {st : FVec Ideal ⟨2, ![256, W]⟩ .f32} {mo : FVec Ideal ⟨2, ![1, W]⟩ .f32}
    (hst : ∀ (r : Fin 256) (c : Fin W), st (ix2 r c) = s c (T + r)) (hmo : ∀ c : Fin W, mo (ix2 0 c) = mx (s c) T)
    (hr hφ hacc hc) (c : Fin W) :
    maximumf mo (shapeCast ⟨2, ![1, W]⟩ (multiReduction .maximumf [0] ⟨1, ![W]⟩ st 0xFF800000#32 hr hφ hacc) hc) (ix2 0 c)
      = mx (s c) T' := by
  subst hT
  rw [maximumf_apply, shapeCast_a_1a_apply, colmax, hmo, ← mx_tile]
  simp only [hst]

/-- One tile's weighted sum joins the rescaled sum so far, entry by entry. -/
theorem step_acc {W : ℕ} (s : Fin W → ℕ → EReal) (v : Fin 80 → ℕ → EReal) (T : ℕ) {T' : ℕ} (hT : T + 256 = T') {st : FVec Ideal ⟨2, ![256, W]⟩ .f32}
    {mo mn : FVec Ideal ⟨2, ![1, W]⟩ .f32} {vt : FVec Ideal ⟨2, ![80, 256]⟩ .bf16} {ac : FVec Ideal ⟨2, ![80, W]⟩ .f32}
    (hst : ∀ (r : Fin 256) (c : Fin W), st (ix2 r c) = s c (T + r)) (hmo : ∀ c : Fin W, mo (ix2 0 c) = mx (s c) T)
    (hmn : ∀ c : Fin W, mn (ix2 0 c) = mx (s c) T')
    (hvt : ∀ (d : Fin 80) (r : Fin 256), vt (ix2 d r) = v d (T + r))
    (hac : ∀ (d : Fin 80) (c : Fin W), ac (ix2 d c) = ws (s c) (v d) T)
    (hb hb' hbits) (d : Fin 80) (c : Fin W) :
    addf (mulf (broadcastTo ⟨2, ![80, W]⟩ (exp2 (subf mo mn)) hb) ac)
      (matmul (F := Ideal) (DotDims.plain 80 256 W) none vt (truncf .bf16 (exp2 (subf st (broadcastTo ⟨2, ![256, W]⟩ mn hb'))) hbits)
        (constant ⟨2, ![80, W]⟩ .f32 0x00000000#32)) (ix2 d c)
      = ws (s c) (v d) T' := by
  subst hT
  rw [← ws_tile, addf_apply, mulf_apply, broadcastTo_1b_ab_apply]
  refine congrArg₂ (· + ·) ?_ ?_
  · rw [hac, ← hmo, ← hmn]; rfl
  · refine (Ideal.matmul_plain_apply none vt _ _ d c).trans ?_
    rw [constant_apply, Ideal.ofBits_zero_f32, zero_add]
    refine Finset.sum_congr rfl fun r _ => ?_
    rw [hvt, ← hst, ← hmn, truncf_apply]
    show _ * Ideal.exp2 (st (ix2 r c) - broadcastTo ⟨2, ![256, W]⟩ mn hb' (ix2 r c)) = _
    rw [broadcastTo_1b_ab_apply]

/-- A score: a key's row with a query's row. -/
theorem score_apply {W : ℕ} (k : FVec Ideal ⟨2, ![256, 128]⟩ .bf16) (q : FVec Ideal ⟨2, ![W, 128]⟩ .bf16) (r : Fin 256) (c : Fin W) :
    matmul (F := Ideal) (DotDims.transposedRhs 256 128 W) none k q (constant ⟨2, ![256, W]⟩ .f32 0x00000000#32) (ix2 r c)
      = (∑ d : Fin 128, (k (ix2 r d) * q (ix2 c d) : EReal)) := by
  refine (Ideal.matmul_transposedRhs_apply none k q _ r c).trans ?_
  rw [constant_apply, Ideal.ofBits_zero_f32, zero_add]

/-- The causal mask of a tile on the diagonal. -/
theorem causal_apply (h0 h1) (r c : Fin 256) :
    cmpi .sle (iota .tc ⟨2, ![256, 256]⟩ 32 [0] h0) (iota .tc ⟨2, ![256, 256]⟩ 32 [1] h1) (ix2 r c)
      = if r.val ≤ c.val then 1#1 else 0#1 := by
  show BitVec.ofBool (BitVec.sle (BitVec.ofNat 32 (0 * 256 + r.val)) (BitVec.ofNat 32 (0 * 256 + c.val))) = _
  have h : BitVec.sle (BitVec.ofNat 32 (0 * 256 + r.val)) (BitVec.ofNat 32 (0 * 256 + c.val)) = decide (r.val ≤ c.val) := by
    rw [BitVec.sle_eq_decide, BitVec.toInt_ofNat', BitVec.toInt_ofNat', Int.bmod_eq_of_le, Int.bmod_eq_of_le]
    all_goals simp
    all_goals omega
  rw [h]
  by_cases hrc : r.val ≤ c.val <;> simp [hrc]

/-- The diagonal tile, masked in its first 256 columns. -/
theorem masked_apply {W W' : ℕ} (m : IVec ⟨2, ![256, 256]⟩ 1) (st : FVec Ideal ⟨2, ![256, W]⟩ .f32) (z : Ideal .f32) (h0 h1 hc)
    (hm : ∀ r c : Fin 256, m (ix2 r c) = if r.val ≤ c.val then 1#1 else 0#1) (r : Fin 256) (c : Fin W) :
    concatenate ⟨2, ![256, W]⟩ 1
      [⟨⟨2, ![256, 256]⟩, select m (extractStridedSlice ⟨2, ![256, 256]⟩ ![0, 0] st h0) (broadcast ⟨2, ![256, 256]⟩ z)⟩,
       ⟨⟨2, ![256, W']⟩, extractStridedSlice ⟨2, ![256, W']⟩ ![0, 256] st h1⟩] hc (ix2 r c)
      = if r.val ≤ c.val then st (ix2 r c) else z := by
  by_cases hlt : c.val < 256
  · refine (concatenate_pair_apply_left 1 _ _ hc (ix2 r c) rfl (ix2 r ⟨c.val, hlt⟩) (fun b => ?_)).trans ?_
    · match b with
      | ⟨0, _⟩ => rfl
      | ⟨1, _⟩ => rfl
    · rw [select_apply, hm]
      show Scalar.select (if r.val ≤ c.val then 1#1 else 0#1) _ _ = _
      rw [extractStridedSlice_apply ![0, 0] st h0 _ (ix2 r c) (fun a => by
        match a with
        | ⟨0, _⟩ => simp
        | ⟨1, _⟩ => simp)]
      split <;> rfl
  · have hW : W = 256 + W' := by
      have h : 256 + (W' + 0) = W := hc.2.2
      omega
    refine (concatenate_pair_apply_right 1 _ _ hc (ix2 r c) rfl rfl (ix2 r ⟨c.val - 256, by omega⟩) (fun b hb => ?_) ?_).trans ?_
    · match b, hb with
      | ⟨0, _⟩, _ => rfl
      | ⟨1, _⟩, hb => exact absurd rfl hb
    · show c.val - 256 + 256 = c.val
      omega
    · rw [if_pos (by omega), extractStridedSlice_apply ![0, 256] st h1 _ (ix2 r c) (fun a => by
        match a with
        | ⟨0, _⟩ => simp
        | ⟨1, _⟩ => show c.val = 256 + (c.val - 256); omega)]

end Cert.Fox

end
-- ==== Proof.Fox.Reads.lean ====
module

public import Idealize.ShloMosaic.Lib.WholeRead
public import Idealize.ShloMosaic.Lib.WritesUnit
public import Idealize.ShloMosaic.Lib.ValueIdxCore
public import Idealize.ShloMosaic.Lib.Exec.Geometry

@[expose] public section

noncomputable section

namespace Cert.Fox

open Idealize.ShloMosaic Idealize.ShloMosaic.ValueIdx

variable {sig : RefSig} {κ : Kind} {sp : Space} {s : Shape} {e : EltTy} {Val : EltTy → Type}

/-- A load at an offset from a whole memref, at an index. -/
theorem load_apply {m : Memref sig κ sp s e} (h : m.IsWhole) (X : s.Idx → Val e) {off off' size : Fin s.rank → ℕ}
    (inb : ∀ a, off a + size a ≤ s.size a) (ho : off = off') (x : (Rect.unit off size inb).shape.Idx) (y : s.Idx)
    (hy : ∀ a, (y a).val = off' a + (x a).val) :
    View.readAt Val m.view (Rect.unit off size inb).toLoadRect (h.unread X) x = X y := by
  subst ho
  refine (h.readAt_unread X _ x).trans (congrArg X (funext fun a => Fin.ext ?_))
  show off a + 1 * (x a).val = (y a).val
  rw [hy a, Nat.one_mul]

/-- A load at an offset, at an index. -/
theorem readAt_unit_apply (v : View sig κ sp s e) (f : v.ty.Contents Val) {off size : Fin s.rank → ℕ}
    (inb : ∀ a, off a + size a ≤ s.size a) (x : (Rect.unit off size inb).shape.Idx) (y : s.Idx)
    (hy : ∀ a, (y a).val = off a + (x a).val) :
    v.readAt Val (Rect.unit off size inb).toLoadRect f x = v.read Val f y := by
  refine congrArg (v.read Val f) (funext fun a => Fin.ext ?_)
  show off a + 1 * (x a).val = (y a).val
  rw [hy a, Nat.one_mul]

/-- The piece written last, read at one of its entries. -/
theorem hit (v : View sig κ sp s e) (f : v.ty.Contents Val) {off size : Fin s.rank → ℕ}
    (inb : ∀ a, off a + size a ≤ s.size a) (w : (Rect.unit off size inb).shape.Idx → Val e) (L : List (View.Piece Val s e))
    (y : s.Idx) (x : (Rect.unit off size inb).shape.Idx) (hx : ∀ a, (y a).val = off a + (x a).val) :
    v.read Val (v.writes Val f ((⟨Rect.unit off size inb, w⟩ : View.Piece Val s e) :: L)) y = w x :=
  View.read_writes_cons_unit_of_mem v f inb w L y x rfl hx

/-- A piece that misses an entry is read past. -/
theorem skip (v : View sig κ sp s e) (f : v.ty.Contents Val) {off size : Fin s.rank → ℕ}
    (inb : ∀ a, off a + size a ≤ s.size a) (w : (Rect.unit off size inb).shape.Idx → Val e) (L : List (View.Piece Val s e))
    (y : s.Idx) (a : Fin s.rank) (ha : (y a).val < off a ∨ off a + size a ≤ (y a).val) :
    v.read Val (v.writes Val f ((⟨Rect.unit off size inb, w⟩ : View.Piece Val s e) :: L)) y = v.read Val (v.writes Val f L) y :=
  View.read_writes_cons_unit_of_not_mem v f inb w L y rfl a ha

/-- What a load of covered pieces reads, at an index. -/
theorem cov [∀ e, Nonempty (Val e)] (v : View sig κ sp s e) (L : List (View.Piece Val s e)) {off size : Fin s.rank → ℕ}
    (inb : ∀ a, off a + size a ≤ s.size a) (x : (Rect.unit off size inb).shape.Idx) (y : s.Idx)
    (hy : ∀ a, (y a).val = off a + (x a).val) :
    v.readCov L (Rect.unit off size inb).toLoadRect x = v.read Val (v.writes Val v.junk L) y :=
  readAt_unit_apply v _ inb x y hy

/-- A place in a rank-4 array, coordinate by coordinate. -/
theorem pos4 {n0 n1 n2 n3 m0 m1 m2 m3 : ℕ} {y0 : Fin n0} {y1 : Fin n1} {y2 : Fin n2} {y3 : Fin n3} {x0 : Fin m0} {x1 : Fin m1}
    {x2 : Fin m2} {x3 : Fin m3} {o0 o1 o2 o3 : ℕ} (h0 : y0.val = o0 + x0.val) (h1 : y1.val = o1 + x1.val)
    (h2 : y2.val = o2 + x2.val) (h3 : y3.val = o3 + x3.val) (a : Fin 4) :
    (ix4 y0 y1 y2 y3 a).val = (![o0, o1, o2, o3] : Fin 4 → ℕ) a + (ix4 x0 x1 x2 x3 a).val :=
  match a with
  | ⟨0, _⟩ => h0
  | ⟨1, _⟩ => h1
  | ⟨2, _⟩ => h2
  | ⟨3, _⟩ => h3

/-- A place in a rank-3 array, coordinate by coordinate. -/
theorem pos3 {n0 n1 n2 m0 m1 m2 : ℕ} {y0 : Fin n0} {y1 : Fin n1} {y2 : Fin n2} {x0 : Fin m0} {x1 : Fin m1}
    {x2 : Fin m2} {o0 o1 o2 : ℕ} (h0 : y0.val = o0 + x0.val) (h1 : y1.val = o1 + x1.val)
    (h2 : y2.val = o2 + x2.val) (a : Fin 3) :
    (ix3 y0 y1 y2 a).val = (![o0, o1, o2] : Fin 3 → ℕ) a + (ix3 x0 x1 x2 a).val :=
  match a with
  | ⟨0, _⟩ => h0
  | ⟨1, _⟩ => h1
  | ⟨2, _⟩ => h2

end Cert.Fox

end
-- ==== Proof.KernelIdeal.Trip0.lean ====
module

public import proofs.«01_k».proof.Proof.KernelIdeal.BodyRun
public import proofs.«01_k».proof.Proof.Fox.Ops
public import proofs.«01_k».proof.Proof.Fox.Reads

@[expose] public section

set_option maxRecDepth 16384

noncomputable section

namespace Cert.KernelIdeal.Fox

open Idealize.ShloMosaic Idealize.ShloMosaic.TcCoe Idealize.ShloMosaic.ValueIdx
open Cert.KernelIdeal.Gen Cert.Fox
open scoped BigOperators

/-- The logit of a key and a query of a block, in units of log 2. -/
def sc (x0 : Vec Ideal S1x2x1024x128 .bf16) (x1 : Vec Ideal S1x2x4096x128 .bf16) (h : Fin 2) (c : Fin 1024) (key : ℕ) : EReal :=
  if hk : key < 4096 then ∑ d : Fin 128, (x1 (ix4 0 h ⟨key, hk⟩ d) * x0 (ix4 0 h c d) : EReal) else 0

/-- A row of the values of a block. -/
def vf (x2 : Vec Ideal S1x2x80x4096 .bf16) (h : Fin 2) (d : Fin 80) (key : ℕ) : EReal :=
  if hk : key < 4096 then x2 (ix4 0 h d ⟨key, hk⟩) else 0

theorem trips1 (i : grid0.Coords) : (k0_t1_loop i).trips = (i 2).val := by
  have h : ∀ q : Fin 4, Scf.trips (0#32) (Scalar.addi 0#32 (Scalar.muli (Scalar.divsi (Scalar.subi (BitVec.ofNat 32 q.val) 0#32) 1#32) 1#32)) 1#32 = q.val := by
    decide
  exact h (i 2)

theorem trips2 (i : grid0.Coords) : (k0_t2_loop i).trips = 0 := by
  have h : ∀ q : Fin 4, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
    decide
  exact h (i 2)

theorem qi_lt (i : grid0.Coords) : (i 2).val < 4 := (i 2).isLt

theorem trip_lt (i : grid0.Coords) (k : Fin (k0_t1_loop i).trips) : k.val < (i 2).val := by
  exact lt_of_lt_of_eq k.isLt (trips1 i)

/-- The key offset of a score tile computed in a trip. -/
theorem off1_eq (i : grid0.Coords) (k : Fin (k0_t1_loop i).trips) (u : ℕ) (hu : u < 4) {b : BitVec 32} (hb : BitVec.ofNat 32 u = b) {T : ℕ}
    (hT : 256 * (4 * k.val + u + 1) = T) : k0_off1 i k b = ![0, 0, T, 0] := by
  have h : ∀ (q u : Fin 4), (Scalar.indexCast (Scalar.muli (Scalar.addi (Scalar.addi (Scalar.muli (Scf.iv 0#32 1#32 q.val) 4#32) (BitVec.ofNat 32 u.val)) 1#32) 256#32) : Index).toNat
      = 256 * (4 * q.val + u.val + 1) := by decide
  have hk : k.val < 4 := by have := trip_lt i k; have := qi_lt i; omega
  subst hb hT
  unfold k0_off1
  dsimp only
  rw [h ⟨k.val, hk⟩ ⟨u, hu⟩]

theorem off3_eq (i : grid0.Coords) (k : Fin (k0_t1_loop i).trips) (u : ℕ) (hu : u < 4) {b : BitVec 32} (hb : BitVec.ofNat 32 u = b) {T : ℕ}
    (hT : 256 * (4 * k.val + u + 1) = T) : k0_off3 i k b = ![0, 1, T, 0] := by
  have h : ∀ (q u : Fin 4), (Scalar.indexCast (Scalar.muli (Scalar.addi (Scalar.addi (Scalar.muli (Scf.iv 0#32 1#32 q.val) 4#32) (BitVec.ofNat 32 u.val)) 1#32) 256#32) : Index).toNat
      = 256 * (4 * q.val + u.val + 1) := by decide
  have hk : k.val < 4 := by have := trip_lt i k; have := qi_lt i; omega
  subst hb hT
  unfold k0_off3
  dsimp only
  rw [h ⟨k.val, hk⟩ ⟨u, hu⟩]

/-- The key offset of a value tile taken in a trip. -/
theorem off2_eq (i : grid0.Coords) (k : Fin (k0_t1_loop i).trips) (u : ℕ) (hu : u < 4) {b : BitVec 32} (hb : BitVec.ofNat 32 u = b) {T : ℕ}
    (hT : 256 * (4 * k.val + u) = T) : k0_off2 i k b = ![0, 0, 0, T] := by
  have h : ∀ (q u : Fin 4), (Scalar.indexCast (Scalar.muli (Scalar.addi (Scalar.muli (Scf.iv 0#32 1#32 q.val) 4#32) (BitVec.ofNat 32 u.val)) 256#32) : Index).toNat
      = 256 * (4 * q.val + u.val) := by decide
  have hk : k.val < 4 := by have := trip_lt i k; have := qi_lt i; omega
  subst hb hT
  unfold k0_off2
  dsimp only
  rw [h ⟨k.val, hk⟩ ⟨u, hu⟩]

theorem off4_eq (i : grid0.Coords) (k : Fin (k0_t1_loop i).trips) (u : ℕ) (hu : u < 4) {b : BitVec 32} (hb : BitVec.ofNat 32 u = b) {T : ℕ}
    (hT : 256 * (4 * k.val + u) = T) : k0_off4 i k b = ![0, 1, 0, T] := by
  have h : ∀ (q u : Fin 4), (Scalar.indexCast (Scalar.muli (Scalar.addi (Scalar.muli (Scf.iv 0#32 1#32 q.val) 4#32) (BitVec.ofNat 32 u.val)) 256#32) : Index).toNat
      = 256 * (4 * q.val + u.val) := by decide
  have hk : k.val < 4 := by have := trip_lt i k; have := qi_lt i; omega
  subst hb hT
  unfold k0_off4
  dsimp only
  rw [h ⟨k.val, hk⟩ ⟨u, hu⟩]

section Loads

variable {W : ℕ}

/-- A tile of keys of one head, loaded and cast to a matrix. -/
theorem kslice {arg4 : Memref sig .tc .vmem S1x2x4096x128 .bf16} (harg4 : arg4.IsWhole) (x1 : Vec Ideal S1x2x4096x128 .bf16)
    {off : Fin 4 → ℕ} (inb) {h : Fin 2} {T : ℕ} (ho : off = ![0, h.val, T, 0]) (hc) (r : Fin 256) (d : Fin 128) (hT : T + r.val < 4096) :
    shapeCast S256x128 (View.readAt (Elt Ideal) arg4.view (Rect.unit (s := S1x2x4096x128) off S1x1x256x128.size inb).toLoadRect (harg4.unread x1)) hc (ix2 r d)
      = x1 (ix4 0 h ⟨T + r.val, hT⟩ d) :=
  (cast_drop2 _ hc r d).trans
    (load_apply harg4 x1 inb ho (ix4 0 0 r d) (ix4 0 h ⟨T + r.val, hT⟩ d) (pos4 rfl rfl rfl (Nat.zero_add _).symm))

/-- A tile of values of one head, loaded and cast to a matrix. -/
theorem vslice {arg5 : Memref sig .tc .vmem S1x2x80x4096 .bf16} (harg5 : arg5.IsWhole) (x2 : Vec Ideal S1x2x80x4096 .bf16)
    {off : Fin 4 → ℕ} (inb) {h : Fin 2} {T : ℕ} (ho : off = ![0, h.val, 0, T]) (hc) (d : Fin 80) (r : Fin 256) (hT : T + r.val < 4096) :
    shapeCast S80x256 (View.readAt (Elt Ideal) arg5.view (Rect.unit (s := S1x2x80x4096) off S1x1x80x256.size inb).toLoadRect (harg5.unread x2)) hc (ix2 d r)
      = vf x2 h d (T + r.val) := by
  unfold vf
  rw [dif_pos hT]
  exact (cast_drop2 _ hc d r).trans
    (load_apply harg5 x2 inb ho (ix4 0 0 d r) (ix4 0 h d ⟨T + r.val, hT⟩) (pos4 rfl rfl (Nat.zero_add _).symm rfl))

/-- The queries of one head from a column on, loaded and cast to a matrix. -/
theorem qslice {arg3 : Memref sig .tc .vmem S1x2x1024x128 .bf16} (harg3 : arg3.IsWhole) (x0 : Vec Ideal S1x2x1024x128 .bf16)
    {h : Fin 2} {lo : ℕ} (inb) (hc) (c : Fin W) (d : Fin 128) (hT : lo + c.val < 1024) :
    shapeCast ⟨2, ![W, 128]⟩ (View.readAt (Elt Ideal) arg3.view (Rect.unit (s := S1x2x1024x128) ![0, h.val, lo, 0] ![1, 1, W, 128] inb).toLoadRect (harg3.unread x0)) hc (ix2 c d)
      = x0 (ix4 0 h ⟨lo + c.val, hT⟩ d) :=
  (cast_drop2 _ hc c d).trans
    (load_apply harg3 x0 inb rfl (ix4 0 0 c d) (ix4 0 h ⟨lo + c.val, hT⟩ d) (pos4 rfl rfl rfl (Nat.zero_add _).symm))

/-- All the queries of one head, loaded and cast to a matrix. -/
theorem qfull {arg3 : Memref sig .tc .vmem S1x2x1024x128 .bf16} (harg3 : arg3.IsWhole) (x0 : Vec Ideal S1x2x1024x128 .bf16)
    {h : Fin 2} {off : Fin 4 → ℕ} (inb) (ho : off = ![0, h.val, 0, 0]) (hc) (c : Fin 1024) (d : Fin 128) :
    shapeCast S1024x128 (View.readAt (Elt Ideal) arg3.view (Rect.unit (s := S1x2x1024x128) off S1x1x1024x128.size inb).toLoadRect (harg3.unread x0)) hc (ix2 c d)
      = x0 (ix4 0 h c d) :=
  (cast_drop2 _ hc c d).trans
    (load_apply harg3 x0 inb ho (ix4 0 0 c d) (ix4 0 h c d) (pos4 rfl rfl (Nat.zero_add _).symm (Nat.zero_add _).symm))

/-- A tile of scores, from a tile of keys and the queries from a column on. -/
theorem score_tile (x0 : Vec Ideal S1x2x1024x128 .bf16) (x1 : Vec Ideal S1x2x4096x128 .bf16) (h : Fin 2) (T lo : ℕ)
    {k : FVec Ideal S256x128 .bf16} {q : FVec Ideal ⟨2, ![W, 128]⟩ .bf16} (hT : T + 256 ≤ 4096) (hW : lo + W ≤ 1024)
    (hk : ∀ (r : Fin 256) (d : Fin 128), k (ix2 r d) = x1 (ix4 0 h ⟨T + r.val, by omega⟩ d))
    (hq : ∀ (c : Fin W) (d : Fin 128), q (ix2 c d) = x0 (ix4 0 h ⟨lo + c.val, by omega⟩ d)) (r : Fin 256) (c : Fin W) :
    matmul (F := Ideal) (DotDims.transposedRhs 256 128 W) none k q (constant ⟨2, ![256, W]⟩ .f32 0x00000000#32) (ix2 r c)
      = sc x0 x1 h ⟨lo + c.val, by omega⟩ (T + r.val) := by
  unfold sc
  rw [score_apply, dif_pos (by omega)]
  simp only [hk, hq]

/-- A tile of scores over all the queries of a block. -/
theorem score_full (x0 : Vec Ideal S1x2x1024x128 .bf16) (x1 : Vec Ideal S1x2x4096x128 .bf16) (h : Fin 2) (T : ℕ)
    {k : FVec Ideal S256x128 .bf16} {q : FVec Ideal S1024x128 .bf16} (hT : T + 256 ≤ 4096)
    (hk : ∀ (r : Fin 256) (d : Fin 128), k (ix2 r d) = x1 (ix4 0 h ⟨T + r.val, by omega⟩ d))
    (hq : ∀ (c : Fin 1024) (d : Fin 128), q (ix2 c d) = x0 (ix4 0 h c d)) (r : Fin 256) (c : Fin 1024) :
    matmul (F := Ideal) (DotDims.transposedRhs 256 128 1024) none k q (constant S256x1024 .f32 0x00000000#32) (ix2 r c)
      = sc x0 x1 h c (T + r.val) := by
  unfold sc
  rw [dif_pos (by omega)]
  refine (score_apply k q r c).trans ?_
  simp only [hk, hq]

end Loads

end Cert.KernelIdeal.Fox

end
-- ==== Proof.KernelIdeal.Trip.lean ====
module

public import proofs.«01_k».proof.Proof.KernelIdeal.Trip0

@[expose] public section

set_option maxRecDepth 16384
set_option maxHeartbeats 4000000

noncomputable section

namespace Cert.KernelIdeal.Fox

open Idealize.ShloMosaic Idealize.ShloMosaic.TcCoe Idealize.ShloMosaic.ValueIdx
open Cert.KernelIdeal.Gen Cert.Fox
open scoped BigOperators

/-- What the running greatest logits, the running sums and the scores waiting hold before the keys from a tile on. -/
structure Upto {arg7 : Memref sig .tc .vmem S2x1x1024 .f32} {arg8 : Memref sig .tc .vmem S2x80x1024 .f32} {arg9 : Memref sig .tc .vmem S2x2x256x1024 .f32}
    (x0 : Vec Ideal S1x2x1024x128 .bf16) (x1 : Vec Ideal S1x2x4096x128 .bf16) (x2 : Vec Ideal S1x2x80x4096 .bf16) (T : ℕ)
    (f7 : BufTy.Contents (Elt Ideal) arg7.view.ty) (f8 : BufTy.Contents (Elt Ideal) arg8.view.ty) (f9 : BufTy.Contents (Elt Ideal) arg9.view.ty) : Prop where
  h7 : ∀ (h : Fin 2) (c : Fin 1024), arg7.view.read (Elt Ideal) f7 (ix3 h 0 c) = mx (sc x0 x1 h c) T
  h8 : ∀ (h : Fin 2) (d : Fin 80) (c : Fin 1024), arg8.view.read (Elt Ideal) f8 (ix3 h d c) = ws (sc x0 x1 h c) (vf x2 h d) T
  h9 : ∀ (h : Fin 2) (r : Fin 256) (c : Fin 1024), arg9.view.read (Elt Ideal) f9 (ix4 0 h r c) = sc x0 x1 h c (T + r.val)

/-- A trip of the loop takes the state on by four tiles of keys, whatever lies under what it writes. -/
theorem trip_upto (𝒱 : Variants) (c : Dev nD) (bd : Option 𝒱.V) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole) (arg2 v11 : BitVec 32) (v25 : FVec Ideal S256x128 .bf16)
    (x0 : Vec Ideal S1x2x1024x128 .bf16) (x1 : Vec Ideal S1x2x4096x128 .bf16) (x2 : Vec Ideal S1x2x80x4096 .bf16) (k : Fin (k0_t1_loop i).trips)
    (f_arg7 : BufTy.Contents (Elt Ideal) arg7.view.ty) (f_arg8 : BufTy.Contents (Elt Ideal) arg8.view.ty) (f_arg9 : BufTy.Contents (Elt Ideal) arg9.view.ty)
    (H : Upto (arg7 := arg7) (arg8 := arg8) (arg9 := arg9) x0 x1 x2 (256 * (4 * k.val)) f_arg7 f_arg8 f_arg9)
    (b7 : BufTy.Contents (Elt Ideal) arg7.view.ty) (b8 : BufTy.Contents (Elt Ideal) arg8.view.ty) (b9 : BufTy.Contents (Elt Ideal) arg9.view.ty) :
    let L := tripL_k0_t1 (F := Ideal) 𝒱 c bd i arg3 harg3 arg4 harg4 arg5 harg5 arg6 harg6 arg7 harg7 arg8 harg8 arg9 harg9 arg2 v11 v25 (harg3.unread x0) (harg4.unread x1) (harg5.unread x2) k f_arg7 f_arg8 f_arg9
    Upto (arg7 := arg7) (arg8 := arg8) (arg9 := arg9) x0 x1 x2 (256 * (4 * k.val) + 1024)
      (arg7.view.writes (Elt Ideal) b7 L.1) (arg8.view.writes (Elt Ideal) b8 L.2.1) (arg9.view.writes (Elt Ideal) b9 L.2.2) := by
  have hk : k.val < 3 := by have := trip_lt i k; have := qi_lt i; omega
  obtain ⟨h7, h8, h9⟩ := H
  have eQ0 : ∀ (c : Fin 1024) (d : Fin 128), trip_k0_t1.sl.v424 (F := Ideal) arg3 (harg3.unread x0) (ix2 c d) = x0 (ix4 0 0 c d) := fun c d =>
    qfull (h := 0) (off := ![0, 0, 0, 0]) harg3 x0 _ rfl _ c d
  have eK0 : ∀ (r : Fin 256) (d : Fin 128), trip_k0_t1.sl.v422 (F := Ideal) i arg4 (harg4.unread x1) k (ix2 r d) = x1 (ix4 0 0 ⟨256 * (4 * k.val) + 256 + r.val, by omega⟩ d) := fun r d =>
    kslice harg4 x1 _ (off1_eq i k 0 (by decide) rfl (by omega)) _ r d (by omega)
  have eL0 : ∀ (r : Fin 256) (c : Fin 1024), trip_k0_t1.sl.v425 (F := Ideal) i arg3 arg4 (harg3.unread x0) (harg4.unread x1) k (ix2 r c) = sc x0 x1 0 c (256 * (4 * k.val) + 256 + r.val) := fun r c =>
    score_full x0 x1 0 (256 * (4 * k.val) + 256) (by omega) eK0 eQ0 r c
  have eP0 : ∀ (r : Fin 256) (c : Fin 1024), trip_k0_t1.sl.v428 (F := Ideal) i arg3 arg4 (harg3.unread x0) (harg4.unread x1) k (ix4 0 0 r c) = sc x0 x1 0 c (256 * (4 * k.val) + 256 + r.val) := fun r c => by
    refine (cast_add2 _ _ r c).trans ?_
    exact eL0 r c
  have eS0 : ∀ (r : Fin 256) (c : Fin 1024), trip_k0_t1.sl.v431 (F := Ideal) arg9 f_arg9 (ix2 r c) = sc x0 x1 0 c (256 * (4 * k.val) + r.val) := fun r c => by
    refine (cast_drop2 _ _ r c).trans ?_
    refine (readAt_unit_apply arg9.view f_arg9 _ (ix4 0 0 r c) (ix4 0 0 r c) (pos4 rfl rfl (Nat.zero_add _).symm (Nat.zero_add _).symm)).trans ?_
    exact h9 0 r c
  have eO0 : ∀ c : Fin 1024, trip_k0_t1.sl.v435 (F := Ideal) arg7 f_arg7 (ix2 0 c) = mx (sc x0 x1 0 c) (256 * (4 * k.val)) := fun c => by
    refine (shapeCast_1ab_ab_apply _ _ 0 c).trans ?_
    refine (readAt_unit_apply arg7.view f_arg7 _ (ix3 0 0 c) (ix3 0 0 c) (pos3 rfl rfl (Nat.zero_add _).symm)).trans ?_
    exact h7 0 c
  have eN0 : ∀ c : Fin 1024, trip_k0_t1.sl.v438 (F := Ideal) arg7 arg9 f_arg7 f_arg9 (ix2 0 c) = mx (sc x0 x1 0 c) (256 * (4 * k.val) + 256) := fun c =>
    step_max (fun c => sc x0 x1 0 c) (256 * (4 * k.val)) (by omega) eS0 eO0 _ _ _ _ c
  have eC0 : ∀ c : Fin 1024, trip_k0_t1.sl.v459 (F := Ideal) arg7 arg9 f_arg7 f_arg9 (ix3 0 0 c) = mx (sc x0 x1 0 c) (256 * (4 * k.val) + 256) := fun c => by
    refine (shapeCast_ab_1ab_apply _ _ (0 : Fin 1) (0 : Fin 1) c).trans ?_
    exact eN0 c
  have eV0 : ∀ (d : Fin 80) (r : Fin 256), trip_k0_t1.sl.v445 (F := Ideal) i arg5 (harg5.unread x2) k (ix2 d r) = vf x2 0 d (256 * (4 * k.val) + r.val) := fun d r =>
    vslice harg5 x2 _ (off2_eq i k 0 (by decide) rfl (by omega)) _ d r (by omega)
  have eA0 : ∀ (d : Fin 80) (c : Fin 1024), trip_k0_t1.sl.v450 (F := Ideal) arg8 f_arg8 (ix2 d c) = ws (sc x0 x1 0 c) (vf x2 0 d) (256 * (4 * k.val)) := fun d c => by
    refine (shapeCast_1ab_ab_apply _ _ d c).trans ?_
    refine (readAt_unit_apply arg8.view f_arg8 _ (ix3 0 d c) (ix3 0 d c) (pos3 rfl (Nat.zero_add _).symm (Nat.zero_add _).symm)).trans ?_
    exact h8 0 d c
  have eB0 : ∀ (d : Fin 80) (c : Fin 1024), trip_k0_t1.sl.v453 (F := Ideal) i arg5 arg7 arg8 arg9 (harg5.unread x2) k f_arg7 f_arg8 f_arg9 (ix2 d c) = ws (sc x0 x1 0 c) (vf x2 0 d) (256 * (4 * k.val) + 256) := fun d c =>
    step_acc (fun c => sc x0 x1 0 c) (vf x2 0) (256 * (4 * k.val)) (by omega) eS0 eO0 eN0 eV0 eA0 _ _ _ d c
  have eD0 : ∀ (d : Fin 80) (c : Fin 1024), trip_k0_t1.sl.v456 (F := Ideal) i arg5 arg7 arg8 arg9 (harg5.unread x2) k f_arg7 f_arg8 f_arg9 (ix3 0 d c) = ws (sc x0 x1 0 c) (vf x2 0 d) (256 * (4 * k.val) + 256) := fun d c => by
    refine (shapeCast_ab_1ab_apply _ _ 0 d c).trans ?_
    exact eB0 d c
  have eQ1 : ∀ (c : Fin 1024) (d : Fin 128), trip_k0_t1.sl.v468 (F := Ideal) arg3 (harg3.unread x0) (ix2 c d) = x0 (ix4 0 1 c d) := fun c d =>
    qfull (h := 1) (off := ![0, 1, 0, 0]) harg3 x0 _ rfl _ c d
  have eK1 : ∀ (r : Fin 256) (d : Fin 128), trip_k0_t1.sl.v466 (F := Ideal) i arg4 (harg4.unread x1) k (ix2 r d) = x1 (ix4 0 1 ⟨256 * (4 * k.val) + 256 + r.val, by omega⟩ d) := fun r d =>
    kslice harg4 x1 _ (off3_eq i k 0 (by decide) rfl (by omega)) _ r d (by omega)
  have eL1 : ∀ (r : Fin 256) (c : Fin 1024), trip_k0_t1.sl.v469 (F := Ideal) i arg3 arg4 (harg3.unread x0) (harg4.unread x1) k (ix2 r c) = sc x0 x1 1 c (256 * (4 * k.val) + 256 + r.val) := fun r c =>
    score_full x0 x1 1 (256 * (4 * k.val) + 256) (by omega) eK1 eQ1 r c
  have eP1 : ∀ (r : Fin 256) (c : Fin 1024), trip_k0_t1.sl.v472 (F := Ideal) i arg3 arg4 (harg3.unread x0) (harg4.unread x1) k (ix4 0 0 r c) = sc x0 x1 1 c (256 * (4 * k.val) + 256 + r.val) := fun r c => by
    refine (cast_add2 _ _ r c).trans ?_
    exact eL1 r c
  have eS1 : ∀ (r : Fin 256) (c : Fin 1024), trip_k0_t1.sl.v475 (F := Ideal) arg9 f_arg9 (ix2 r c) = sc x0 x1 1 c (256 * (4 * k.val) + r.val) := fun r c => by
    refine (cast_drop2 _ _ r c).trans ?_
    refine (readAt_unit_apply arg9.view f_arg9 _ (ix4 0 0 r c) (ix4 0 1 r c) (pos4 rfl rfl (Nat.zero_add _).symm (Nat.zero_add _).symm)).trans ?_
    exact h9 1 r c
  have eO1 : ∀ c : Fin 1024, trip_k0_t1.sl.v479 (F := Ideal) arg7 f_arg7 (ix2 0 c) = mx (sc x0 x1 1 c) (256 * (4 * k.val)) := fun c => by
    refine (shapeCast_1ab_ab_apply _ _ 0 c).trans ?_
    refine (readAt_unit_apply arg7.view f_arg7 _ (ix3 0 0 c) (ix3 1 0 c) (pos3 rfl rfl (Nat.zero_add _).symm)).trans ?_
    exact h7 1 c
  have eN1 : ∀ c : Fin 1024, trip_k0_t1.sl.v482 (F := Ideal) arg7 arg9 f_arg7 f_arg9 (ix2 0 c) = mx (sc x0 x1 1 c) (256 * (4 * k.val) + 256) := fun c =>
    step_max (fun c => sc x0 x1 1 c) (256 * (4 * k.val)) (by omega) eS1 eO1 _ _ _ _ c
  have eC1 : ∀ c : Fin 1024, trip_k0_t1.sl.v503 (F := Ideal) arg7 arg9 f_arg7 f_arg9 (ix3 0 0 c) = mx (sc x0 x1 1 c) (256 * (4 * k.val) + 256) := fun c => by
    refine (shapeCast_ab_1ab_apply _ _ (0 : Fin 1) (0 : Fin 1) c).trans ?_
    exact eN1 c
  have eV1 : ∀ (d : Fin 80) (r : Fin 256), trip_k0_t1.sl.v489 (F := Ideal) i arg5 (harg5.unread x2) k (ix2 d r) = vf x2 1 d (256 * (4 * k.val) + r.val) := fun d r =>
    vslice harg5 x2 _ (off4_eq i k 0 (by decide) rfl (by omega)) _ d r (by omega)
  have eA1 : ∀ (d : Fin 80) (c : Fin 1024), trip_k0_t1.sl.v494 (F := Ideal) arg8 f_arg8 (ix2 d c) = ws (sc x0 x1 1 c) (vf x2 1 d) (256 * (4 * k.val)) := fun d c => by
    refine (shapeCast_1ab_ab_apply _ _ d c).trans ?_
    refine (readAt_unit_apply arg8.view f_arg8 _ (ix3 0 d c) (ix3 1 d c) (pos3 rfl (Nat.zero_add _).symm (Nat.zero_add _).symm)).trans ?_
    exact h8 1 d c
  have eB1 : ∀ (d : Fin 80) (c : Fin 1024), trip_k0_t1.sl.v497 (F := Ideal) i arg5 arg7 arg8 arg9 (harg5.unread x2) k f_arg7 f_arg8 f_arg9 (ix2 d c) = ws (sc x0 x1 1 c) (vf x2 1 d) (256 * (4 * k.val) + 256) := fun d c =>
    step_acc (fun c => sc x0 x1 1 c) (vf x2 1) (256 * (4 * k.val)) (by omega) eS1 eO1 eN1 eV1 eA1 _ _ _ d c
  have eD1 : ∀ (d : Fin 80) (c : Fin 1024), trip_k0_t1.sl.v500 (F := Ideal) i arg5 arg7 arg8 arg9 (harg5.unread x2) k f_arg7 f_arg8 f_arg9 (ix3 0 d c) = ws (sc x0 x1 1 c) (vf x2 1 d) (256 * (4 * k.val) + 256) := fun d c => by
    refine (shapeCast_ab_1ab_apply _ _ 0 d c).trans ?_
    exact eB1 d c
  have eK2 : ∀ (r : Fin 256) (d : Fin 128), trip_k0_t1.sl.v510 (F := Ideal) i arg4 (harg4.unread x1) k (ix2 r d) = x1 (ix4 0 0 ⟨256 * (4 * k.val) + 512 + r.val, by omega⟩ d) := fun r d =>
    kslice harg4 x1 _ (off1_eq i k 1 (by decide) rfl (by omega)) _ r d (by omega)
  have eL2 : ∀ (r : Fin 256) (c : Fin 1024), trip_k0_t1.sl.v513 (F := Ideal) i arg3 arg4 (harg3.unread x0) (harg4.unread x1) k (ix2 r c) = sc x0 x1 0 c (256 * (4 * k.val) + 512 + r.val) := fun r c =>
    score_full x0 x1 0 (256 * (4 * k.val) + 512) (by omega) eK2 eQ0 r c
  have eP2 : ∀ (r : Fin 256) (c : Fin 1024), trip_k0_t1.sl.v516 (F := Ideal) i arg3 arg4 (harg3.unread x0) (harg4.unread x1) k (ix4 0 0 r c) = sc x0 x1 0 c (256 * (4 * k.val) + 512 + r.val) := fun r c => by
    refine (cast_add2 _ _ r c).trans ?_
    exact eL2 r c
  have eS2 : ∀ (r : Fin 256) (c : Fin 1024), trip_k0_t1.sl.v519 (F := Ideal) i arg3 arg4 arg9 (harg3.unread x0) (harg4.unread x1) k (ix2 r c) = sc x0 x1 0 c (256 * (4 * k.val) + 256 + r.val) := fun r c => by
    refine (cast_drop2 _ _ r c).trans ?_
    refine (cov arg9.view _ _ (ix4 0 0 r c) (ix4 1 0 r c) (pos4 rfl rfl (Nat.zero_add _).symm (Nat.zero_add _).symm)).trans ?_
    refine (skip _ _ _ _ _ _ (0 : Fin 4) (Or.inr (Nat.le_refl 1))).trans ?_
    refine (skip _ _ _ _ _ _ (1 : Fin 4) (Or.inl Nat.zero_lt_one)).trans ?_
    refine (hit _ _ _ _ _ _ (ix4 0 0 r c) (pos4 rfl rfl (Nat.zero_add _).symm (Nat.zero_add _).symm)).trans ?_
    exact eP0 r c
  have eO2 : ∀ c : Fin 1024, trip_k0_t1.sl.v523 (F := Ideal) arg7 arg9 f_arg7 f_arg9 (ix2 0 c) = mx (sc x0 x1 0 c) (256 * (4 * k.val) + 256) := fun c => by
    refine (shapeCast_1ab_ab_apply _ _ 0 c).trans ?_
    refine (cov arg7.view _ _ (ix3 0 0 c) (ix3 0 0 c) (pos3 rfl rfl (Nat.zero_add _).symm)).trans ?_
    refine (skip _ _ _ _ _ _ (0 : Fin 3) (Or.inl Nat.zero_lt_one)).trans ?_
    refine (hit _ _ _ _ _ _ (ix3 0 0 c) (pos3 rfl rfl (Nat.zero_add _).symm)).trans ?_
    exact eC0 c
  have eN2 : ∀ c : Fin 1024, trip_k0_t1.sl.v526 (F := Ideal) i arg3 arg4 arg7 arg9 (harg3.unread x0) (harg4.unread x1) k f_arg7 f_arg9 (ix2 0 c) = mx (sc x0 x1 0 c) (256 * (4 * k.val) + 512) := fun c =>
    step_max (fun c => sc x0 x1 0 c) (256 * (4 * k.val) + 256) (by omega) eS2 eO2 _ _ _ _ c
  have eC2 : ∀ c : Fin 1024, trip_k0_t1.sl.v547 (F := Ideal) i arg3 arg4 arg7 arg9 (harg3.unread x0) (harg4.unread x1) k f_arg7 f_arg9 (ix3 0 0 c) = mx (sc x0 x1 0 c) (256 * (4 * k.val) + 512) := fun c => by
    refine (shapeCast_ab_1ab_apply _ _ (0 : Fin 1) (0 : Fin 1) c).trans ?_
    exact eN2 c
  have eV2 : ∀ (d : Fin 80) (r : Fin 256), trip_k0_t1.sl.v533 (F := Ideal) i arg5 (harg5.unread x2) k (ix2 d r) = vf x2 0 d (256 * (4 * k.val) + 256 + r.val) := fun d r =>
    vslice harg5 x2 _ (off2_eq i k 1 (by decide) rfl (by omega)) _ d r (by omega)
  have eA2 : ∀ (d : Fin 80) (c : Fin 1024), trip_k0_t1.sl.v538 (F := Ideal) i arg5 arg7 arg8 arg9 (harg5.unread x2) k f_arg7 f_arg8 f_arg9 (ix2 d c) = ws (sc x0 x1 0 c) (vf x2 0 d) (256 * (4 * k.val) + 256) := fun d c => by
    refine (shapeCast_1ab_ab_apply _ _ d c).trans ?_
    refine (cov arg8.view _ _ (ix3 0 d c) (ix3 0 d c) (pos3 rfl (Nat.zero_add _).symm (Nat.zero_add _).symm)).trans ?_
    refine (skip _ _ _ _ _ _ (0 : Fin 3) (Or.inl Nat.zero_lt_one)).trans ?_
    refine (hit _ _ _ _ _ _ (ix3 0 d c) (pos3 rfl (Nat.zero_add _).symm (Nat.zero_add _).symm)).trans ?_
    exact eD0 d c
  have eB2 : ∀ (d : Fin 80) (c : Fin 1024), trip_k0_t1.sl.v541 (F := Ideal) i arg3 arg4 arg5 arg7 arg8 arg9 (harg3.unread x0) (harg4.unread x1) (harg5.unread x2) k f_arg7 f_arg8 f_arg9 (ix2 d c) = ws (sc x0 x1 0 c) (vf x2 0 d) (256 * (4 * k.val) + 512) := fun d c =>
    step_acc (fun c => sc x0 x1 0 c) (vf x2 0) (256 * (4 * k.val) + 256) (by omega) eS2 eO2 eN2 eV2 eA2 _ _ _ d c
  have eD2 : ∀ (d : Fin 80) (c : Fin 1024), trip_k0_t1.sl.v544 (F := Ideal) i arg3 arg4 arg5 arg7 arg8 arg9 (harg3.unread x0) (harg4.unread x1) (harg5.unread x2) k f_arg7 f_arg8 f_arg9 (ix3 0 d c) = ws (sc x0 x1 0 c) (vf x2 0 d) (256 * (4 * k.val) + 512) := fun d c => by
    refine (shapeCast_ab_1ab_apply _ _ 0 d c).trans ?_
    exact eB2 d c
  have eK3 : ∀ (r : Fin 256) (d : Fin 128), trip_k0_t1.sl.v554 (F := Ideal) i arg4 (harg4.unread x1) k (ix2 r d) = x1 (ix4 0 1 ⟨256 * (4 * k.val) + 512 + r.val, by omega⟩ d) := fun r d =>
    kslice harg4 x1 _ (off3_eq i k 1 (by decide) rfl (by omega)) _ r d (by omega)
  have eL3 : ∀ (r : Fin 256) (c : Fin 1024), trip_k0_t1.sl.v557 (F := Ideal) i arg3 arg4 (harg3.unread x0) (harg4.unread x1) k (ix2 r c) = sc x0 x1 1 c (256 * (4 * k.val) + 512 + r.val) := fun r c =>
    score_full x0 x1 1 (256 * (4 * k.val) + 512) (by omega) eK3 eQ1 r c
  have eP3 : ∀ (r : Fin 256) (c : Fin 1024), trip_k0_t1.sl.v560 (F := Ideal) i arg3 arg4 (harg3.unread x0) (harg4.unread x1) k (ix4 0 0 r c) = sc x0 x1 1 c (256 * (4 * k.val) + 512 + r.val) := fun r c => by
    refine (cast_add2 _ _ r c).trans ?_
    exact eL3 r c
  have eS3 : ∀ (r : Fin 256) (c : Fin 1024), trip_k0_t1.sl.v563 (F := Ideal) i arg3 arg4 arg9 (harg3.unread x0) (harg4.unread x1) k (ix2 r c) = sc x0 x1 1 c (256 * (4 * k.val) + 256 + r.val) := fun r c => by
    refine (cast_drop2 _ _ r c).trans ?_
    refine (cov arg9.view _ _ (ix4 0 0 r c) (ix4 1 1 r c) (pos4 rfl rfl (Nat.zero_add _).symm (Nat.zero_add _).symm)).trans ?_
    refine (skip _ _ _ _ _ _ (0 : Fin 4) (Or.inr (Nat.le_refl 1))).trans ?_
    refine (skip _ _ _ _ _ _ (0 : Fin 4) (Or.inr (Nat.le_refl 1))).trans ?_
    refine (hit _ _ _ _ _ _ (ix4 0 0 r c) (pos4 rfl rfl (Nat.zero_add _).symm (Nat.zero_add _).symm)).trans ?_
    exact eP1 r c
  have eO3 : ∀ c : Fin 1024, trip_k0_t1.sl.v567 (F := Ideal) i arg3 arg4 arg7 arg9 (harg3.unread x0) (harg4.unread x1) k f_arg7 f_arg9 (ix2 0 c) = mx (sc x0 x1 1 c) (256 * (4 * k.val) + 256) := fun c => by
    refine (shapeCast_1ab_ab_apply _ _ 0 c).trans ?_
    refine (cov arg7.view _ _ (ix3 0 0 c) (ix3 1 0 c) (pos3 rfl rfl (Nat.zero_add _).symm)).trans ?_
    refine (skip _ _ _ _ _ _ (0 : Fin 3) (Or.inr (Nat.le_refl 1))).trans ?_
    refine (hit _ _ _ _ _ _ (ix3 0 0 c) (pos3 rfl rfl (Nat.zero_add _).symm)).trans ?_
    exact eC1 c
  have eN3 : ∀ c : Fin 1024, trip_k0_t1.sl.v570 (F := Ideal) i arg3 arg4 arg7 arg9 (harg3.unread x0) (harg4.unread x1) k f_arg7 f_arg9 (ix2 0 c) = mx (sc x0 x1 1 c) (256 * (4 * k.val) + 512) := fun c =>
    step_max (fun c => sc x0 x1 1 c) (256 * (4 * k.val) + 256) (by omega) eS3 eO3 _ _ _ _ c
  have eC3 : ∀ c : Fin 1024, trip_k0_t1.sl.v591 (F := Ideal) i arg3 arg4 arg7 arg9 (harg3.unread x0) (harg4.unread x1) k f_arg7 f_arg9 (ix3 0 0 c) = mx (sc x0 x1 1 c) (256 * (4 * k.val) + 512) := fun c => by
    refine (shapeCast_ab_1ab_apply _ _ (0 : Fin 1) (0 : Fin 1) c).trans ?_
    exact eN3 c
  have eV3 : ∀ (d : Fin 80) (r : Fin 256), trip_k0_t1.sl.v577 (F := Ideal) i arg5 (harg5.unread x2) k (ix2 d r) = vf x2 1 d (256 * (4 * k.val) + 256 + r.val) := fun d r =>
    vslice harg5 x2 _ (off4_eq i k 1 (by decide) rfl (by omega)) _ d r (by omega)
  have eA3 : ∀ (d : Fin 80) (c : Fin 1024), trip_k0_t1.sl.v582 (F := Ideal) i arg3 arg4 arg5 arg7 arg8 arg9 (harg3.unread x0) (harg4.unread x1) (harg5.unread x2) k f_arg7 f_arg8 f_arg9 (ix2 d c) = ws (sc x0 x1 1 c) (vf x2 1 d) (256 * (4 * k.val) + 256) := fun d c => by
    refine (shapeCast_1ab_ab_apply _ _ d c).trans ?_
    refine (cov arg8.view _ _ (ix3 0 d c) (ix3 1 d c) (pos3 rfl (Nat.zero_add _).symm (Nat.zero_add _).symm)).trans ?_
    refine (skip _ _ _ _ _ _ (0 : Fin 3) (Or.inr (Nat.le_refl 1))).trans ?_
    refine (hit _ _ _ _ _ _ (ix3 0 d c) (pos3 rfl (Nat.zero_add _).symm (Nat.zero_add _).symm)).trans ?_
    exact eD1 d c
  have eB3 : ∀ (d : Fin 80) (c : Fin 1024), trip_k0_t1.sl.v585 (F := Ideal) i arg3 arg4 arg5 arg7 arg8 arg9 (harg3.unread x0) (harg4.unread x1) (harg5.unread x2) k f_arg7 f_arg8 f_arg9 (ix2 d c) = ws (sc x0 x1 1 c) (vf x2 1 d) (256 * (4 * k.val) + 512) := fun d c =>
    step_acc (fun c => sc x0 x1 1 c) (vf x2 1) (256 * (4 * k.val) + 256) (by omega) eS3 eO3 eN3 eV3 eA3 _ _ _ d c
  have eD3 : ∀ (d : Fin 80) (c : Fin 1024), trip_k0_t1.sl.v588 (F := Ideal) i arg3 arg4 arg5 arg7 arg8 arg9 (harg3.unread x0) (harg4.unread x1) (harg5.unread x2) k f_arg7 f_arg8 f_arg9 (ix3 0 d c) = ws (sc x0 x1 1 c) (vf x2 1 d) (256 * (4 * k.val) + 512) := fun d c => by
    refine (shapeCast_ab_1ab_apply _ _ 0 d c).trans ?_
    exact eB3 d c
  have eK4 : ∀ (r : Fin 256) (d : Fin 128), trip_k0_t1.sl.v598 (F := Ideal) i arg4 (harg4.unread x1) k (ix2 r d) = x1 (ix4 0 0 ⟨256 * (4 * k.val) + 768 + r.val, by omega⟩ d) := fun r d =>
    kslice harg4 x1 _ (off1_eq i k 2 (by decide) rfl (by omega)) _ r d (by omega)
  have eL4 : ∀ (r : Fin 256) (c : Fin 1024), trip_k0_t1.sl.v601 (F := Ideal) i arg3 arg4 (harg3.unread x0) (harg4.unread x1) k (ix2 r c) = sc x0 x1 0 c (256 * (4 * k.val) + 768 + r.val) := fun r c =>
    score_full x0 x1 0 (256 * (4 * k.val) + 768) (by omega) eK4 eQ0 r c
  have eP4 : ∀ (r : Fin 256) (c : Fin 1024), trip_k0_t1.sl.v604 (F := Ideal) i arg3 arg4 (harg3.unread x0) (harg4.unread x1) k (ix4 0 0 r c) = sc x0 x1 0 c (256 * (4 * k.val) + 768 + r.val) := fun r c => by
    refine (cast_add2 _ _ r c).trans ?_
    exact eL4 r c
  have eS4 : ∀ (r : Fin 256) (c : Fin 1024), trip_k0_t1.sl.v607 (F := Ideal) i arg3 arg4 arg9 (harg3.unread x0) (harg4.unread x1) k (ix2 r c) = sc x0 x1 0 c (256 * (4 * k.val) + 512 + r.val) := fun r c => by
    refine (cast_drop2 _ _ r c).trans ?_
    refine (cov arg9.view _ _ (ix4 0 0 r c) (ix4 0 0 r c) (pos4 rfl rfl (Nat.zero_add _).symm (Nat.zero_add _).symm)).trans ?_
    refine (skip _ _ _ _ _ _ (0 : Fin 4) (Or.inl Nat.zero_lt_one)).trans ?_
    refine (skip _ _ _ _ _ _ (1 : Fin 4) (Or.inl Nat.zero_lt_one)).trans ?_
    refine (hit _ _ _ _ _ _ (ix4 0 0 r c) (pos4 rfl rfl (Nat.zero_add _).symm (Nat.zero_add _).symm)).trans ?_
    exact eP2 r c
  have eO4 : ∀ c : Fin 1024, trip_k0_t1.sl.v611 (F := Ideal) i arg3 arg4 arg7 arg9 (harg3.unread x0) (harg4.unread x1) k f_arg7 f_arg9 (ix2 0 c) = mx (sc x0 x1 0 c) (256 * (4 * k.val) + 512) := fun c => by
    refine (shapeCast_1ab_ab_apply _ _ 0 c).trans ?_
    refine (cov arg7.view _ _ (ix3 0 0 c) (ix3 0 0 c) (pos3 rfl rfl (Nat.zero_add _).symm)).trans ?_
    refine (skip _ _ _ _ _ _ (0 : Fin 3) (Or.inl Nat.zero_lt_one)).trans ?_
    refine (hit _ _ _ _ _ _ (ix3 0 0 c) (pos3 rfl rfl (Nat.zero_add _).symm)).trans ?_
    exact eC2 c
  have eN4 : ∀ c : Fin 1024, trip_k0_t1.sl.v614 (F := Ideal) i arg3 arg4 arg7 arg9 (harg3.unread x0) (harg4.unread x1) k f_arg7 f_arg9 (ix2 0 c) = mx (sc x0 x1 0 c) (256 * (4 * k.val) + 768) := fun c =>
    step_max (fun c => sc x0 x1 0 c) (256 * (4 * k.val) + 512) (by omega) eS4 eO4 _ _ _ _ c
  have eC4 : ∀ c : Fin 1024, trip_k0_t1.sl.v635 (F := Ideal) i arg3 arg4 arg7 arg9 (harg3.unread x0) (harg4.unread x1) k f_arg7 f_arg9 (ix3 0 0 c) = mx (sc x0 x1 0 c) (256 * (4 * k.val) + 768) := fun c => by
    refine (shapeCast_ab_1ab_apply _ _ (0 : Fin 1) (0 : Fin 1) c).trans ?_
    exact eN4 c
  have eV4 : ∀ (d : Fin 80) (r : Fin 256), trip_k0_t1.sl.v621 (F := Ideal) i arg5 (harg5.unread x2) k (ix2 d r) = vf x2 0 d (256 * (4 * k.val) + 512 + r.val) := fun d r =>
    vslice harg5 x2 _ (off2_eq i k 2 (by decide) rfl (by omega)) _ d r (by omega)
  have eA4 : ∀ (d : Fin 80) (c : Fin 1024), trip_k0_t1.sl.v626 (F := Ideal) i arg3 arg4 arg5 arg7 arg8 arg9 (harg3.unread x0) (harg4.unread x1) (harg5.unread x2) k f_arg7 f_arg8 f_arg9 (ix2 d c) = ws (sc x0 x1 0 c) (vf x2 0 d) (256 * (4 * k.val) + 512) := fun d c => by
    refine (shapeCast_1ab_ab_apply _ _ d c).trans ?_
    refine (cov arg8.view _ _ (ix3 0 d c) (ix3 0 d c) (pos3 rfl (Nat.zero_add _).symm (Nat.zero_add _).symm)).trans ?_
    refine (skip _ _ _ _ _ _ (0 : Fin 3) (Or.inl Nat.zero_lt_one)).trans ?_
    refine (hit _ _ _ _ _ _ (ix3 0 d c) (pos3 rfl (Nat.zero_add _).symm (Nat.zero_add _).symm)).trans ?_
    exact eD2 d c
  have eB4 : ∀ (d : Fin 80) (c : Fin 1024), trip_k0_t1.sl.v629 (F := Ideal) i arg3 arg4 arg5 arg7 arg8 arg9 (harg3.unread x0) (harg4.unread x1) (harg5.unread x2) k f_arg7 f_arg8 f_arg9 (ix2 d c) = ws (sc x0 x1 0 c) (vf x2 0 d) (256 * (4 * k.val) + 768) := fun d c =>
    step_acc (fun c => sc x0 x1 0 c) (vf x2 0) (256 * (4 * k.val) + 512) (by omega) eS4 eO4 eN4 eV4 eA4 _ _ _ d c
  have eD4 : ∀ (d : Fin 80) (c : Fin 1024), trip_k0_t1.sl.v632 (F := Ideal) i arg3 arg4 arg5 arg7 arg8 arg9 (harg3.unread x0) (harg4.unread x1) (harg5.unread x2) k f_arg7 f_arg8 f_arg9 (ix3 0 d c) = ws (sc x0 x1 0 c) (vf x2 0 d) (256 * (4 * k.val) + 768) := fun d c => by
    refine (shapeCast_ab_1ab_apply _ _ 0 d c).trans ?_
    exact eB4 d c
  have eK5 : ∀ (r : Fin 256) (d : Fin 128), trip_k0_t1.sl.v642 (F := Ideal) i arg4 (harg4.unread x1) k (ix2 r d) = x1 (ix4 0 1 ⟨256 * (4 * k.val) + 768 + r.val, by omega⟩ d) := fun r d =>
    kslice harg4 x1 _ (off3_eq i k 2 (by decide) rfl (by omega)) _ r d (by omega)
  have eL5 : ∀ (r : Fin 256) (c : Fin 1024), trip_k0_t1.sl.v645 (F := Ideal) i arg3 arg4 (harg3.unread x0) (harg4.unread x1) k (ix2 r c) = sc x0 x1 1 c (256 * (4 * k.val) + 768 + r.val) := fun r c =>
    score_full x0 x1 1 (256 * (4 * k.val) + 768) (by omega) eK5 eQ1 r c
  have eP5 : ∀ (r : Fin 256) (c : Fin 1024), trip_k0_t1.sl.v648 (F := Ideal) i arg3 arg4 (harg3.unread x0) (harg4.unread x1) k (ix4 0 0 r c) = sc x0 x1 1 c (256 * (4 * k.val) + 768 + r.val) := fun r c => by
    refine (cast_add2 _ _ r c).trans ?_
    exact eL5 r c
  have eS5 : ∀ (r : Fin 256) (c : Fin 1024), trip_k0_t1.sl.v651 (F := Ideal) i arg3 arg4 arg9 (harg3.unread x0) (harg4.unread x1) k (ix2 r c) = sc x0 x1 1 c (256 * (4 * k.val) + 512 + r.val) := fun r c => by
    refine (cast_drop2 _ _ r c).trans ?_
    refine (cov arg9.view _ _ (ix4 0 0 r c) (ix4 0 1 r c) (pos4 rfl rfl (Nat.zero_add _).symm (Nat.zero_add _).symm)).trans ?_
    refine (skip _ _ _ _ _ _ (0 : Fin 4) (Or.inl Nat.zero_lt_one)).trans ?_
    refine (skip _ _ _ _ _ _ (0 : Fin 4) (Or.inl Nat.zero_lt_one)).trans ?_
    refine (hit _ _ _ _ _ _ (ix4 0 0 r c) (pos4 rfl rfl (Nat.zero_add _).symm (Nat.zero_add _).symm)).trans ?_
    exact eP3 r c
  have eO5 : ∀ c : Fin 1024, trip_k0_t1.sl.v655 (F := Ideal) i arg3 arg4 arg7 arg9 (harg3.unread x0) (harg4.unread x1) k f_arg7 f_arg9 (ix2 0 c) = mx (sc x0 x1 1 c) (256 * (4 * k.val) + 512) := fun c => by
    refine (shapeCast_1ab_ab_apply _ _ 0 c).trans ?_
    refine (cov arg7.view _ _ (ix3 0 0 c) (ix3 1 0 c) (pos3 rfl rfl (Nat.zero_add _).symm)).trans ?_
    refine (skip _ _ _ _ _ _ (0 : Fin 3) (Or.inr (Nat.le_refl 1))).trans ?_
    refine (hit _ _ _ _ _ _ (ix3 0 0 c) (pos3 rfl rfl (Nat.zero_add _).symm)).trans ?_
    exact eC3 c
  have eN5 : ∀ c : Fin 1024, trip_k0_t1.sl.v658 (F := Ideal) i arg3 arg4 arg7 arg9 (harg3.unread x0) (harg4.unread x1) k f_arg7 f_arg9 (ix2 0 c) = mx (sc x0 x1 1 c) (256 * (4 * k.val) + 768) := fun c =>
    step_max (fun c => sc x0 x1 1 c) (256 * (4 * k.val) + 512) (by omega) eS5 eO5 _ _ _ _ c
  have eC5 : ∀ c : Fin 1024, trip_k0_t1.sl.v679 (F := Ideal) i arg3 arg4 arg7 arg9 (harg3.unread x0) (harg4.unread x1) k f_arg7 f_arg9 (ix3 0 0 c) = mx (sc x0 x1 1 c) (256 * (4 * k.val) + 768) := fun c => by
    refine (shapeCast_ab_1ab_apply _ _ (0 : Fin 1) (0 : Fin 1) c).trans ?_
    exact eN5 c
  have eV5 : ∀ (d : Fin 80) (r : Fin 256), trip_k0_t1.sl.v665 (F := Ideal) i arg5 (harg5.unread x2) k (ix2 d r) = vf x2 1 d (256 * (4 * k.val) + 512 + r.val) := fun d r =>
    vslice harg5 x2 _ (off4_eq i k 2 (by decide) rfl (by omega)) _ d r (by omega)
  have eA5 : ∀ (d : Fin 80) (c : Fin 1024), trip_k0_t1.sl.v670 (F := Ideal) i arg3 arg4 arg5 arg7 arg8 arg9 (harg3.unread x0) (harg4.unread x1) (harg5.unread x2) k f_arg7 f_arg8 f_arg9 (ix2 d c) = ws (sc x0 x1 1 c) (vf x2 1 d) (256 * (4 * k.val) + 512) := fun d c => by
    refine (shapeCast_1ab_ab_apply _ _ d c).trans ?_
    refine (cov arg8.view _ _ (ix3 0 d c) (ix3 1 d c) (pos3 rfl (Nat.zero_add _).symm (Nat.zero_add _).symm)).trans ?_
    refine (skip _ _ _ _ _ _ (0 : Fin 3) (Or.inr (Nat.le_refl 1))).trans ?_
    refine (hit _ _ _ _ _ _ (ix3 0 d c) (pos3 rfl (Nat.zero_add _).symm (Nat.zero_add _).symm)).trans ?_
    exact eD3 d c
  have eB5 : ∀ (d : Fin 80) (c : Fin 1024), trip_k0_t1.sl.v673 (F := Ideal) i arg3 arg4 arg5 arg7 arg8 arg9 (harg3.unread x0) (harg4.unread x1) (harg5.unread x2) k f_arg7 f_arg8 f_arg9 (ix2 d c) = ws (sc x0 x1 1 c) (vf x2 1 d) (256 * (4 * k.val) + 768) := fun d c =>
    step_acc (fun c => sc x0 x1 1 c) (vf x2 1) (256 * (4 * k.val) + 512) (by omega) eS5 eO5 eN5 eV5 eA5 _ _ _ d c
  have eD5 : ∀ (d : Fin 80) (c : Fin 1024), trip_k0_t1.sl.v676 (F := Ideal) i arg3 arg4 arg5 arg7 arg8 arg9 (harg3.unread x0) (harg4.unread x1) (harg5.unread x2) k f_arg7 f_arg8 f_arg9 (ix3 0 d c) = ws (sc x0 x1 1 c) (vf x2 1 d) (256 * (4 * k.val) + 768) := fun d c => by
    refine (shapeCast_ab_1ab_apply _ _ 0 d c).trans ?_
    exact eB5 d c
  have eK6 : ∀ (r : Fin 256) (d : Fin 128), trip_k0_t1.sl.v686 (F := Ideal) i arg4 (harg4.unread x1) k (ix2 r d) = x1 (ix4 0 0 ⟨256 * (4 * k.val) + 1024 + r.val, by omega⟩ d) := fun r d =>
    kslice harg4 x1 _ (off1_eq i k 3 (by decide) rfl (by omega)) _ r d (by omega)
  have eL6 : ∀ (r : Fin 256) (c : Fin 1024), trip_k0_t1.sl.v689 (F := Ideal) i arg3 arg4 (harg3.unread x0) (harg4.unread x1) k (ix2 r c) = sc x0 x1 0 c (256 * (4 * k.val) + 1024 + r.val) := fun r c =>
    score_full x0 x1 0 (256 * (4 * k.val) + 1024) (by omega) eK6 eQ0 r c
  have eP6 : ∀ (r : Fin 256) (c : Fin 1024), trip_k0_t1.sl.v692 (F := Ideal) i arg3 arg4 (harg3.unread x0) (harg4.unread x1) k (ix4 0 0 r c) = sc x0 x1 0 c (256 * (4 * k.val) + 1024 + r.val) := fun r c => by
    refine (cast_add2 _ _ r c).trans ?_
    exact eL6 r c
  have eS6 : ∀ (r : Fin 256) (c : Fin 1024), trip_k0_t1.sl.v695 (F := Ideal) i arg3 arg4 arg9 (harg3.unread x0) (harg4.unread x1) k (ix2 r c) = sc x0 x1 0 c (256 * (4 * k.val) + 768 + r.val) := fun r c => by
    refine (cast_drop2 _ _ r c).trans ?_
    refine (cov arg9.view _ _ (ix4 0 0 r c) (ix4 1 0 r c) (pos4 rfl rfl (Nat.zero_add _).symm (Nat.zero_add _).symm)).trans ?_
    refine (skip _ _ _ _ _ _ (0 : Fin 4) (Or.inr (Nat.le_refl 1))).trans ?_
    refine (skip _ _ _ _ _ _ (1 : Fin 4) (Or.inl Nat.zero_lt_one)).trans ?_
    refine (hit _ _ _ _ _ _ (ix4 0 0 r c) (pos4 rfl rfl (Nat.zero_add _).symm (Nat.zero_add _).symm)).trans ?_
    exact eP4 r c
  have eO6 : ∀ c : Fin 1024, trip_k0_t1.sl.v699 (F := Ideal) i arg3 arg4 arg7 arg9 (harg3.unread x0) (harg4.unread x1) k f_arg7 f_arg9 (ix2 0 c) = mx (sc x0 x1 0 c) (256 * (4 * k.val) + 768) := fun c => by
    refine (shapeCast_1ab_ab_apply _ _ 0 c).trans ?_
    refine (cov arg7.view _ _ (ix3 0 0 c) (ix3 0 0 c) (pos3 rfl rfl (Nat.zero_add _).symm)).trans ?_
    refine (skip _ _ _ _ _ _ (0 : Fin 3) (Or.inl Nat.zero_lt_one)).trans ?_
    refine (hit _ _ _ _ _ _ (ix3 0 0 c) (pos3 rfl rfl (Nat.zero_add _).symm)).trans ?_
    exact eC4 c
  have eN6 : ∀ c : Fin 1024, trip_k0_t1.sl.v702 (F := Ideal) i arg3 arg4 arg7 arg9 (harg3.unread x0) (harg4.unread x1) k f_arg7 f_arg9 (ix2 0 c) = mx (sc x0 x1 0 c) (256 * (4 * k.val) + 1024) := fun c =>
    step_max (fun c => sc x0 x1 0 c) (256 * (4 * k.val) + 768) (by omega) eS6 eO6 _ _ _ _ c
  have eC6 : ∀ c : Fin 1024, trip_k0_t1.sl.v723 (F := Ideal) i arg3 arg4 arg7 arg9 (harg3.unread x0) (harg4.unread x1) k f_arg7 f_arg9 (ix3 0 0 c) = mx (sc x0 x1 0 c) (256 * (4 * k.val) + 1024) := fun c => by
    refine (shapeCast_ab_1ab_apply _ _ (0 : Fin 1) (0 : Fin 1) c).trans ?_
    exact eN6 c
  have eV6 : ∀ (d : Fin 80) (r : Fin 256), trip_k0_t1.sl.v709 (F := Ideal) i arg5 (harg5.unread x2) k (ix2 d r) = vf x2 0 d (256 * (4 * k.val) + 768 + r.val) := fun d r =>
    vslice harg5 x2 _ (off2_eq i k 3 (by decide) rfl (by omega)) _ d r (by omega)
  have eA6 : ∀ (d : Fin 80) (c : Fin 1024), trip_k0_t1.sl.v714 (F := Ideal) i arg3 arg4 arg5 arg7 arg8 arg9 (harg3.unread x0) (harg4.unread x1) (harg5.unread x2) k f_arg7 f_arg8 f_arg9 (ix2 d c) = ws (sc x0 x1 0 c) (vf x2 0 d) (256 * (4 * k.val) + 768) := fun d c => by
    refine (shapeCast_1ab_ab_apply _ _ d c).trans ?_
    refine (cov arg8.view _ _ (ix3 0 d c) (ix3 0 d c) (pos3 rfl (Nat.zero_add _).symm (Nat.zero_add _).symm)).trans ?_
    refine (skip _ _ _ _ _ _ (0 : Fin 3) (Or.inl Nat.zero_lt_one)).trans ?_
    refine (hit _ _ _ _ _ _ (ix3 0 d c) (pos3 rfl (Nat.zero_add _).symm (Nat.zero_add _).symm)).trans ?_
    exact eD4 d c
  have eB6 : ∀ (d : Fin 80) (c : Fin 1024), trip_k0_t1.sl.v717 (F := Ideal) i arg3 arg4 arg5 arg7 arg8 arg9 (harg3.unread x0) (harg4.unread x1) (harg5.unread x2) k f_arg7 f_arg8 f_arg9 (ix2 d c) = ws (sc x0 x1 0 c) (vf x2 0 d) (256 * (4 * k.val) + 1024) := fun d c =>
    step_acc (fun c => sc x0 x1 0 c) (vf x2 0) (256 * (4 * k.val) + 768) (by omega) eS6 eO6 eN6 eV6 eA6 _ _ _ d c
  have eD6 : ∀ (d : Fin 80) (c : Fin 1024), trip_k0_t1.sl.v720 (F := Ideal) i arg3 arg4 arg5 arg7 arg8 arg9 (harg3.unread x0) (harg4.unread x1) (harg5.unread x2) k f_arg7 f_arg8 f_arg9 (ix3 0 d c) = ws (sc x0 x1 0 c) (vf x2 0 d) (256 * (4 * k.val) + 1024) := fun d c => by
    refine (shapeCast_ab_1ab_apply _ _ 0 d c).trans ?_
    exact eB6 d c
  have eK7 : ∀ (r : Fin 256) (d : Fin 128), trip_k0_t1.sl.v730 (F := Ideal) i arg4 (harg4.unread x1) k (ix2 r d) = x1 (ix4 0 1 ⟨256 * (4 * k.val) + 1024 + r.val, by omega⟩ d) := fun r d =>
    kslice harg4 x1 _ (off3_eq i k 3 (by decide) rfl (by omega)) _ r d (by omega)
  have eL7 : ∀ (r : Fin 256) (c : Fin 1024), trip_k0_t1.sl.v733 (F := Ideal) i arg3 arg4 (harg3.unread x0) (harg4.unread x1) k (ix2 r c) = sc x0 x1 1 c (256 * (4 * k.val) + 1024 + r.val) := fun r c =>
    score_full x0 x1 1 (256 * (4 * k.val) + 1024) (by omega) eK7 eQ1 r c
  have eP7 : ∀ (r : Fin 256) (c : Fin 1024), trip_k0_t1.sl.v736 (F := Ideal) i arg3 arg4 (harg3.unread x0) (harg4.unread x1) k (ix4 0 0 r c) = sc x0 x1 1 c (256 * (4 * k.val) + 1024 + r.val) := fun r c => by
    refine (cast_add2 _ _ r c).trans ?_
    exact eL7 r c
  have eS7 : ∀ (r : Fin 256) (c : Fin 1024), trip_k0_t1.sl.v739 (F := Ideal) i arg3 arg4 arg9 (harg3.unread x0) (harg4.unread x1) k (ix2 r c) = sc x0 x1 1 c (256 * (4 * k.val) + 768 + r.val) := fun r c => by
    refine (cast_drop2 _ _ r c).trans ?_
    refine (cov arg9.view _ _ (ix4 0 0 r c) (ix4 1 1 r c) (pos4 rfl rfl (Nat.zero_add _).symm (Nat.zero_add _).symm)).trans ?_
    refine (skip _ _ _ _ _ _ (0 : Fin 4) (Or.inr (Nat.le_refl 1))).trans ?_
    refine (skip _ _ _ _ _ _ (0 : Fin 4) (Or.inr (Nat.le_refl 1))).trans ?_
    refine (hit _ _ _ _ _ _ (ix4 0 0 r c) (pos4 rfl rfl (Nat.zero_add _).symm (Nat.zero_add _).symm)).trans ?_
    exact eP5 r c
  have eO7 : ∀ c : Fin 1024, trip_k0_t1.sl.v743 (F := Ideal) i arg3 arg4 arg7 arg9 (harg3.unread x0) (harg4.unread x1) k f_arg7 f_arg9 (ix2 0 c) = mx (sc x0 x1 1 c) (256 * (4 * k.val) + 768) := fun c => by
    refine (shapeCast_1ab_ab_apply _ _ 0 c).trans ?_
    refine (cov arg7.view _ _ (ix3 0 0 c) (ix3 1 0 c) (pos3 rfl rfl (Nat.zero_add _).symm)).trans ?_
    refine (skip _ _ _ _ _ _ (0 : Fin 3) (Or.inr (Nat.le_refl 1))).trans ?_
    refine (hit _ _ _ _ _ _ (ix3 0 0 c) (pos3 rfl rfl (Nat.zero_add _).symm)).trans ?_
    exact eC5 c
  have eN7 : ∀ c : Fin 1024, trip_k0_t1.sl.v746 (F := Ideal) i arg3 arg4 arg7 arg9 (harg3.unread x0) (harg4.unread x1) k f_arg7 f_arg9 (ix2 0 c) = mx (sc x0 x1 1 c) (256 * (4 * k.val) + 1024) := fun c =>
    step_max (fun c => sc x0 x1 1 c) (256 * (4 * k.val) + 768) (by omega) eS7 eO7 _ _ _ _ c
  have eC7 : ∀ c : Fin 1024, k0_pay117 (trip_k0_t1.sl.v746 (F := Ideal) i arg3 arg4 arg7 arg9 (harg3.unread x0) (harg4.unread x1) k f_arg7 f_arg9) (ix3 0 0 c) = mx (sc x0 x1 1 c) (256 * (4 * k.val) + 1024) := fun c => by
    unfold k0_pay117
    refine (shapeCast_ab_1ab_apply _ _ (0 : Fin 1) (0 : Fin 1) c).trans ?_
    exact eN7 c
  have eV7 : ∀ (d : Fin 80) (r : Fin 256), trip_k0_t1.sl.v753 (F := Ideal) i arg5 (harg5.unread x2) k (ix2 d r) = vf x2 1 d (256 * (4 * k.val) + 768 + r.val) := fun d r =>
    vslice harg5 x2 _ (off4_eq i k 3 (by decide) rfl (by omega)) _ d r (by omega)
  have eA7 : ∀ (d : Fin 80) (c : Fin 1024), shapeCast S80x1024 (trip_k0_t1.sl.v757 (F := Ideal) i arg3 arg4 arg5 arg7 arg8 arg9 (harg3.unread x0) (harg4.unread x1) (harg5.unread x2) k f_arg7 f_arg8 f_arg9) shapeCasts_S1x80x1024_S80x1024 (ix2 d c) = ws (sc x0 x1 1 c) (vf x2 1 d) (256 * (4 * k.val) + 768) := fun d c => by
    refine (shapeCast_1ab_ab_apply _ _ d c).trans ?_
    refine (cov arg8.view _ _ (ix3 0 d c) (ix3 1 d c) (pos3 rfl (Nat.zero_add _).symm (Nat.zero_add _).symm)).trans ?_
    refine (skip _ _ _ _ _ _ (0 : Fin 3) (Or.inr (Nat.le_refl 1))).trans ?_
    refine (hit _ _ _ _ _ _ (ix3 0 d c) (pos3 rfl (Nat.zero_add _).symm (Nat.zero_add _).symm)).trans ?_
    exact eD5 d c
  have eD7 : ∀ (d : Fin 80) (c : Fin 1024), k0_pay116 (trip_k0_t1.sl.v754 (F := Ideal) i arg3 arg4 arg5 arg7 arg9 (harg3.unread x0) (harg4.unread x1) (harg5.unread x2) k f_arg7 f_arg9) (trip_k0_t1.sl.v755 (F := Ideal) i arg3 arg4 arg7 arg9 (harg3.unread x0) (harg4.unread x1) k f_arg7 f_arg9) (trip_k0_t1.sl.v757 (F := Ideal) i arg3 arg4 arg5 arg7 arg8 arg9 (harg3.unread x0) (harg4.unread x1) (harg5.unread x2) k f_arg7 f_arg8 f_arg9) (ix3 0 d c) = ws (sc x0 x1 1 c) (vf x2 1 d) (256 * (4 * k.val) + 1024) := fun d c => by
    unfold k0_pay116
    exact (shapeCast_ab_1ab_apply _ _ (0 : Fin 1) d c).trans (step_acc (fun c => sc x0 x1 1 c) (vf x2 1) (256 * (4 * k.val) + 768) (by omega) eS7 eO7 eN7 eV7 eA7 _ _ _ d c)
  intro L
  refine ⟨fun h c => ?_, fun h d c => ?_, fun h r c => ?_⟩
  · have e0 : arg7.view.read (Elt Ideal) (arg7.view.writes (Elt Ideal) b7 L.1) (ix3 0 0 c) = mx (sc x0 x1 0 c) (256 * (4 * k.val) + 1024) := by
      dsimp only [L]
      unfold trip_k0_t1
      refine (skip _ _ _ _ _ _ (0 : Fin 3) (Or.inl Nat.zero_lt_one)).trans ?_
      refine (hit _ _ _ _ _ _ (ix3 0 0 c) (pos3 rfl rfl (Nat.zero_add _).symm)).trans ?_
      exact eC6 c
    have e1 : arg7.view.read (Elt Ideal) (arg7.view.writes (Elt Ideal) b7 L.1) (ix3 1 0 c) = mx (sc x0 x1 1 c) (256 * (4 * k.val) + 1024) := by
      dsimp only [L]
      unfold trip_k0_t1
      refine (hit _ _ _ _ _ _ (ix3 0 0 c) (pos3 rfl rfl (Nat.zero_add _).symm)).trans ?_
      exact eC7 c
    match h with
    | ⟨0, _⟩ => exact e0
    | ⟨1, _⟩ => exact e1
  · have e0 : arg8.view.read (Elt Ideal) (arg8.view.writes (Elt Ideal) b8 L.2.1) (ix3 0 d c) = ws (sc x0 x1 0 c) (vf x2 0 d) (256 * (4 * k.val) + 1024) := by
      dsimp only [L]
      unfold trip_k0_t1
      refine (skip _ _ _ _ _ _ (0 : Fin 3) (Or.inl Nat.zero_lt_one)).trans ?_
      refine (hit _ _ _ _ _ _ (ix3 0 d c) (pos3 rfl (Nat.zero_add _).symm (Nat.zero_add _).symm)).trans ?_
      exact eD6 d c
    have e1 : arg8.view.read (Elt Ideal) (arg8.view.writes (Elt Ideal) b8 L.2.1) (ix3 1 d c) = ws (sc x0 x1 1 c) (vf x2 1 d) (256 * (4 * k.val) + 1024) := by
      dsimp only [L]
      unfold trip_k0_t1
      refine (hit _ _ _ _ _ _ (ix3 0 d c) (pos3 rfl (Nat.zero_add _).symm (Nat.zero_add _).symm)).trans ?_
      exact eD7 d c
    match h with
    | ⟨0, _⟩ => exact e0
    | ⟨1, _⟩ => exact e1
  · have e0 : arg9.view.read (Elt Ideal) (arg9.view.writes (Elt Ideal) b9 L.2.2) (ix4 0 0 r c) = sc x0 x1 0 c (256 * (4 * k.val) + 1024 + r.val) := by
      dsimp only [L]
      unfold trip_k0_t1
      refine (skip _ _ _ _ _ _ (1 : Fin 4) (Or.inl Nat.zero_lt_one)).trans ?_
      refine (hit _ _ _ _ _ _ (ix4 0 0 r c) (pos4 rfl rfl (Nat.zero_add _).symm (Nat.zero_add _).symm)).trans ?_
      exact eP6 r c
    have e1 : arg9.view.read (Elt Ideal) (arg9.view.writes (Elt Ideal) b9 L.2.2) (ix4 0 1 r c) = sc x0 x1 1 c (256 * (4 * k.val) + 1024 + r.val) := by
      dsimp only [L]
      unfold trip_k0_t1
      refine (hit _ _ _ _ _ _ (ix4 0 0 r c) (pos4 rfl rfl (Nat.zero_add _).symm (Nat.zero_add _).symm)).trans ?_
      exact eP7 r c
    match h with
    | ⟨0, _⟩ => exact e0
    | ⟨1, _⟩ => exact e1

/-- The loop takes the state on by a block of queries' worth of keys a trip, whatever lay under what is
    written after its start. -/
theorem loop_upto (𝒱 : Variants) (c : Dev nD) (bd : Option 𝒱.V) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole) (arg2 v11 : BitVec 32) (v25 : FVec Ideal S256x128 .bf16)
    (x0 : Vec Ideal S1x2x1024x128 .bf16) (x1 : Vec Ideal S1x2x4096x128 .bf16) (x2 : Vec Ideal S1x2x80x4096 .bf16)
    (g7 : BufTy.Contents (Elt Ideal) arg7.view.ty) (g8 : BufTy.Contents (Elt Ideal) arg8.view.ty) (g9 : BufTy.Contents (Elt Ideal) arg9.view.ty)
    (H : Upto (arg7 := arg7) (arg8 := arg8) (arg9 := arg9) x0 x1 x2 0 g7 g8 g9) (n : ℕ) (hn : n ≤ (k0_t1_loop i).trips)
    (b7 : BufTy.Contents (Elt Ideal) arg7.view.ty) (b8 : BufTy.Contents (Elt Ideal) arg8.view.ty) (b9 : BufTy.Contents (Elt Ideal) arg9.view.ty)
    (Hb : Upto (arg7 := arg7) (arg8 := arg8) (arg9 := arg9) x0 x1 x2 0 b7 b8 b9) :
    let L := pb_k0_t1 (F := Ideal) 𝒱 c bd i arg3 harg3 arg4 harg4 arg5 harg5 arg6 harg6 arg7 harg7 arg8 harg8 arg9 harg9 arg2 v11 v25 (harg3.unread x0) (harg4.unread x1) (harg5.unread x2) g7 g8 g9 n
    Upto (arg7 := arg7) (arg8 := arg8) (arg9 := arg9) x0 x1 x2 (1024 * n)
      (arg7.view.writes (Elt Ideal) b7 L.1) (arg8.view.writes (Elt Ideal) b8 L.2.1) (arg9.view.writes (Elt Ideal) b9 L.2.2) := by
  induction n generalizing b7 b8 b9 with
  | zero => exact Hb
  | succ n ih =>
    have hT : 1024 * n = 256 * (4 * n) := by omega
    have hT' : 1024 * (n + 1) = 256 * (4 * n) + 1024 := by omega
    have hG := ih (by omega) g7 g8 g9 H
    rw [hT']
    rw [hT] at hG
    rw [pb_k0_t1_succ 𝒱 c bd i arg3 harg3 arg4 harg4 arg5 harg5 arg6 harg6 arg7 harg7 arg8 harg8 arg9 harg9 arg2 v11 v25 (harg3.unread x0) (harg4.unread x1) (harg5.unread x2) g7 g8 g9 ⟨n, hn⟩]
    intro L
    dsimp only [L]
    rw [View.writes_append, View.writes_append, View.writes_append]
    exact trip_upto 𝒱 c bd i arg3 harg3 arg4 harg4 arg5 harg5 arg6 harg6 arg7 harg7 arg8 harg8 arg9 harg9 arg2 v11 v25 x0 x1 x2 ⟨n, hn⟩ _ _ _ hG _ _ _

end Cert.KernelIdeal.Fox

end
-- ==== Proof.KernelIdeal.Diag0.lean ====
module

public import proofs.«01_k».proof.Proof.KernelIdeal.Trip

@[expose] public section

set_option maxRecDepth 16384
set_option maxHeartbeats 4000000

noncomputable section

namespace Cert.KernelIdeal.Fox

open Idealize.ShloMosaic Idealize.ShloMosaic.TcCoe Idealize.ShloMosaic.ValueIdx
open Cert.KernelIdeal.Gen Cert.Fox
open scoped BigOperators

/-- The logits of a query, the keys after it masked. -/
def sm (i : grid0.Coords) (x0 : Vec Ideal S1x2x1024x128 .bf16) (x1 : Vec Ideal S1x2x4096x128 .bf16) (h : Fin 2) (c : Fin 1024) (key : ℕ) : EReal :=
  if key ≤ 1024 * (i 2).val + c.val then sc x0 x1 h c key else ⊥

theorem sm_of_le (i : grid0.Coords) (x0 : Vec Ideal S1x2x1024x128 .bf16) (x1 : Vec Ideal S1x2x4096x128 .bf16) (h : Fin 2) (c : Fin 1024) {key : ℕ}
    (hk : key ≤ 1024 * (i 2).val + c.val) : sm i x0 x1 h c key = sc x0 x1 h c key := if_pos hk

theorem sm_of_lt (i : grid0.Coords) (x0 : Vec Ideal S1x2x1024x128 .bf16) (x1 : Vec Ideal S1x2x4096x128 .bf16) (h : Fin 2) (c : Fin 1024) {key : ℕ}
    (hk : 1024 * (i 2).val + c.val < key) : sm i x0 x1 h c key = ⊥ := if_neg (by omega)

theorem off9_eq (i : grid0.Coords) (u : ℕ) (hu : u < 4) {b : BitVec 32} (hb : BitVec.ofNat 32 u = b) {T : ℕ}
    (hT : 256 * (4 * (i 2).val + u + 1) = T) : k0_off9 i b = ![0, 0, T, 0] := by
  have h : ∀ (q u : Fin 4), (Scalar.indexCast (Scalar.muli (Scalar.addi (Scalar.addi (Scalar.muli (BitVec.ofNat 32 q.val) 4#32) (BitVec.ofNat 32 u.val)) 1#32) 256#32) : Index).toNat
      = 256 * (4 * q.val + u.val + 1) := by decide
  subst hb hT
  unfold k0_off9
  dsimp only
  exact congrArg (fun n => ![0, 0, n, 0]) (h (i 2) ⟨u, hu⟩)

theorem off11_eq (i : grid0.Coords) (u : ℕ) (hu : u < 4) {b : BitVec 32} (hb : BitVec.ofNat 32 u = b) {T : ℕ}
    (hT : 256 * (4 * (i 2).val + u + 1) = T) : k0_off11 i b = ![0, 1, T, 0] := by
  have h : ∀ (q u : Fin 4), (Scalar.indexCast (Scalar.muli (Scalar.addi (Scalar.addi (Scalar.muli (BitVec.ofNat 32 q.val) 4#32) (BitVec.ofNat 32 u.val)) 1#32) 256#32) : Index).toNat
      = 256 * (4 * q.val + u.val + 1) := by decide
  subst hb hT
  unfold k0_off11
  dsimp only
  exact congrArg (fun n => ![0, 1, n, 0]) (h (i 2) ⟨u, hu⟩)

theorem off10_eq (i : grid0.Coords) (u : ℕ) (hu : u < 4) {b : BitVec 32} (hb : BitVec.ofNat 32 u = b) {T : ℕ}
    (hT : 256 * (4 * (i 2).val + u) = T) : k0_off10 i b = ![0, 0, 0, T] := by
  have h : ∀ (q u : Fin 4), (Scalar.indexCast (Scalar.muli (Scalar.addi (Scalar.muli (BitVec.ofNat 32 q.val) 4#32) (BitVec.ofNat 32 u.val)) 256#32) : Index).toNat
      = 256 * (4 * q.val + u.val) := by decide
  subst hb hT
  unfold k0_off10
  dsimp only
  exact congrArg (fun n => ![0, 0, 0, n]) (h (i 2) ⟨u, hu⟩)

theorem off12_eq (i : grid0.Coords) (u : ℕ) (hu : u < 4) {b : BitVec 32} (hb : BitVec.ofNat 32 u = b) {T : ℕ}
    (hT : 256 * (4 * (i 2).val + u) = T) : k0_off12 i b = ![0, 1, 0, T] := by
  have h : ∀ (q u : Fin 4), (Scalar.indexCast (Scalar.muli (Scalar.addi (Scalar.muli (BitVec.ofNat 32 q.val) 4#32) (BitVec.ofNat 32 u.val)) 256#32) : Index).toNat
      = 256 * (4 * q.val + u.val) := by decide
  subst hb hT
  unfold k0_off12
  dsimp only
  exact congrArg (fun n => ![0, 1, 0, n]) (h (i 2) ⟨u, hu⟩)

/-- The mask of a diagonal tile. -/
theorem mask_apply (r c : Fin 256) : k0_pay110 (ix2 r c) = if r.val ≤ c.val then 1#1 else 0#1 := by
  unfold k0_pay110
  exact causal_apply _ _ r c

theorem named_mask : (Named.named (F := Ideal) κ "mask" (φ := .f32) 0xF149F2CA#32 : EReal) = ⊥ := rfl

/-- A diagonal tile's scores, masked: the masked logits. -/
theorem diag_tile {W W' lo : ℕ} (i : grid0.Coords) (x0 : Vec Ideal S1x2x1024x128 .bf16) (x1 : Vec Ideal S1x2x4096x128 .bf16) (h : Fin 2)
    (T : ℕ) (hT : T = 1024 * (i 2).val + lo) (hW : lo + W ≤ 1024) {st : FVec Ideal ⟨2, ![256, W]⟩ .f32}
    (hst : ∀ (r : Fin 256) (c : Fin W), st (ix2 r c) = sc x0 x1 h ⟨lo + c.val, by omega⟩ (T + r.val)) (h0 h1 hc) (r : Fin 256) (c : Fin W) :
    concatenate ⟨2, ![256, W]⟩ 1
      [⟨⟨2, ![256, 256]⟩, select k0_pay110 (extractStridedSlice ⟨2, ![256, 256]⟩ ![0, 0] st h0) (broadcast ⟨2, ![256, 256]⟩ (Named.named (F := Ideal) κ "mask" (φ := .f32) 0xF149F2CA#32))⟩,
       ⟨⟨2, ![256, W']⟩, extractStridedSlice ⟨2, ![256, W']⟩ ![0, 256] st h1⟩] hc (ix2 r c)
      = sm i x0 x1 h ⟨lo + c.val, by omega⟩ (T + r.val) := by
  rw [masked_apply k0_pay110 st _ h0 h1 hc mask_apply, hst]
  unfold sm
  subst hT
  by_cases hrc : r.val ≤ c.val
  · rw [if_pos hrc, if_pos (by show _ ≤ _ + (lo + c.val); omega)]
  · rw [if_neg hrc, if_neg (by show ¬ (_ ≤ _ + (lo + c.val)); omega)]
    exact named_mask

/-- The last diagonal tile's scores, masked. -/
theorem diag_tile_last (i : grid0.Coords) (x0 : Vec Ideal S1x2x1024x128 .bf16) (x1 : Vec Ideal S1x2x4096x128 .bf16) (h : Fin 2)
    (T : ℕ) (hT : T = 1024 * (i 2).val + 768) {st : FVec Ideal S256x256 .f32}
    (hst : ∀ (r c : Fin 256), st (ix2 r c) = sc x0 x1 h ⟨768 + c.val, by omega⟩ (T + r.val)) (r c : Fin 256) :
    select k0_pay110 st (broadcast S256x256 (Named.named (F := Ideal) κ "mask" (φ := .f32) 0xF149F2CA#32)) (ix2 r c)
      = sm i x0 x1 h ⟨768 + c.val, by omega⟩ (T + r.val) := by
  rw [select_apply, mask_apply]
  unfold sm
  subst hT
  by_cases hrc : r.val ≤ c.val
  · rw [if_pos hrc, if_pos (by show _ ≤ _ + (768 + c.val); omega), ← hst]; rfl
  · rw [if_neg hrc, if_neg (by show ¬ (_ ≤ _ + (768 + c.val)); omega)]
    exact named_mask

variable {arg7 : Memref sig .tc .vmem S2x1x1024 .f32} {arg8 : Memref sig .tc .vmem S2x80x1024 .f32} {arg9 : Memref sig .tc .vmem S2x2x256x1024 .f32}

/-- The state the loop starts from: nothing seen, the first scores in place. -/
theorem init_upto {arg3 : Memref sig .tc .vmem S1x2x1024x128 .bf16} (harg3 : arg3.IsWhole) {arg4 : Memref sig .tc .vmem S1x2x4096x128 .bf16} (harg4 : arg4.IsWhole)
    (x0 : Vec Ideal S1x2x1024x128 .bf16) (x1 : Vec Ideal S1x2x4096x128 .bf16) (x2 : Vec Ideal S1x2x80x4096 .bf16) (cd : Dev nD)
    (b7 : BufTy.Contents (Elt Ideal) arg7.view.ty) (b8 : BufTy.Contents (Elt Ideal) arg8.view.ty) (b9 : BufTy.Contents (Elt Ideal) arg9.view.ty) :
    Upto (arg7 := arg7) (arg8 := arg8) (arg9 := arg9) x0 x1 x2 0
      (arg7.view.writes (Elt Ideal) b7 (bodyRun.sl.HS0_1 (F := Ideal))) (arg8.view.writes (Elt Ideal) b8 (bodyRun.sl.HS1_1 (F := Ideal)))
      (arg9.view.writes (Elt Ideal) b9
        [⟨Rect.unit ![0, 1, 0, 0] S1x1x256x1024.size inb_S2x2x256x1024_S1x1x256x1024_0_1_0_0,
            k0_pay115 (F := Ideal) (bodyRun.sl.r cd arg4 harg4 x1)
              (View.readAt (Elt Ideal) arg3.view (Rect.unit (s := S1x2x1024x128) ![0, 1, 0, 0] S1x1x1024x128.size inb_S1x2x1024x128_S1x1x1024x128_0_1_0_0).toLoadRect (harg3.unread x0))⟩,
          ⟨Rect.unit ![0, 0, 0, 0] S1x1x256x1024.size inb_S2x2x256x1024_S1x1x256x1024_0_0_0_0,
            k0_pay113 (F := Ideal)
              (View.readAt (Elt Ideal) arg4.view (Rect.unit (s := S1x2x4096x128) ![0, 0, 0, 0] S1x1x256x128.size inb_S1x2x4096x128_S1x1x256x128_0_0_0_0).toLoadRect (harg4.unread x1))
              (View.readAt (Elt Ideal) arg3.view (Rect.unit (s := S1x2x1024x128) ![0, 0, 0, 0] S1x1x1024x128.size inb_S1x2x1024x128_S1x1x1024x128_0_0_0_0).toLoadRect (harg3.unread x0))⟩]) := by
  refine ⟨fun h c => ?_, fun h d c => ?_, fun h r c => ?_⟩
  · rw [mx_zero]
    refine (hit _ _ _ _ _ _ (ix3 h 0 c) (pos3 (Nat.zero_add _).symm (Nat.zero_add _).symm (Nat.zero_add _).symm)).trans ?_
    unfold k0_pay111
    exact (shapeCast_apply _ _ (ix3 h 0 c) (ix3 h 0 c) rfl).trans named_mask
  · rw [ws_zero]
    refine (hit _ _ _ _ _ _ (ix3 h d c) (pos3 (Nat.zero_add _).symm (Nat.zero_add _).symm (Nat.zero_add _).symm)).trans ?_
    unfold k0_pay112
    exact (shapeCast_apply _ _ (ix3 h d c) (ix3 h d c) rfl).trans Ideal.ofBits_zero_f32
  · match h with
    | ⟨0, _⟩ =>
      refine (skip _ _ _ _ _ _ (1 : Fin 4) (Or.inl Nat.zero_lt_one)).trans ?_
      refine (hit _ _ _ _ _ _ (ix4 0 0 r c) (pos4 rfl rfl (Nat.zero_add _).symm (Nat.zero_add _).symm)).trans ?_
      unfold k0_pay113
      refine (cast_add2 _ _ r c).trans ?_
      refine score_full x0 x1 0 0 (by omega) (fun r d => ?_) (fun c d => ?_) r c
      · exact kslice (h := 0) (T := 0) harg4 x1 _ rfl _ r d (by omega)
      · exact qfull (h := 0) harg3 x0 _ rfl _ c d
    | ⟨1, _⟩ =>
      refine (hit _ _ _ _ _ _ (ix4 0 0 r c) (pos4 rfl rfl (Nat.zero_add _).symm (Nat.zero_add _).symm)).trans ?_
      unfold k0_pay115
      refine (cast_add2 _ _ r c).trans ?_
      refine score_full x0 x1 1 0 (by omega) (fun r d => ?_) (fun c d => ?_) r c
      · unfold bodyRun.sl.r k0_pay114
        exact kslice (h := 1) (T := 0) harg4 x1 _ rfl _ r d (by omega)
      · exact qfull (h := 1) harg3 x0 _ rfl _ c d

/-- The state after the loop: all keys before the block of queries seen. -/
theorem end_upto (𝒱 : Variants) (c : Dev nD) (bd : Option 𝒱.V) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole)
    (arg2 v11 : BitVec 32) (v25 : FVec Ideal S256x128 .bf16) (v36 : BitVec 32)
    (x0 : Vec Ideal S1x2x1024x128 .bf16) (x1 : Vec Ideal S1x2x4096x128 .bf16) (x2 : Vec Ideal S1x2x80x4096 .bf16)
    (g7 b7 : BufTy.Contents (Elt Ideal) arg7.view.ty) (g8 b8 : BufTy.Contents (Elt Ideal) arg8.view.ty) (g9 b9 : BufTy.Contents (Elt Ideal) arg9.view.ty)
    (g7' : BufTy.Contents (Elt Ideal) arg7.view.ty) (g8' : BufTy.Contents (Elt Ideal) arg8.view.ty) (g9' : BufTy.Contents (Elt Ideal) arg9.view.ty)
    (I7 : List (View.Piece (Elt Ideal) S2x1x1024 .f32)) (I8 : List (View.Piece (Elt Ideal) S2x80x1024 .f32)) (I9 : List (View.Piece (Elt Ideal) S2x2x256x1024 .f32))
    (H : Upto (arg7 := arg7) (arg8 := arg8) (arg9 := arg9) x0 x1 x2 0 g7 g8 g9)
    (Hb : Upto (arg7 := arg7) (arg8 := arg8) (arg9 := arg9) x0 x1 x2 0 (arg7.view.writes (Elt Ideal) b7 I7) (arg8.view.writes (Elt Ideal) b8 I8) (arg9.view.writes (Elt Ideal) b9 I9)) :
    let A := pb_k0_t2 (F := Ideal) 𝒱 c bd i arg3 harg3 arg4 harg4 arg5 harg5 arg6 harg6 arg7 harg7 arg8 harg8 arg9 harg9 arg2 v11 v25 v36 (harg3.unread x0) (harg4.unread x1) (harg5.unread x2) g7' g8' g9' (Scf.trips (k0_t2_loop i).lb (k0_t2_loop i).ub (k0_t2_loop i).st)
    let L := pb_k0_t1 (F := Ideal) 𝒱 c bd i arg3 harg3 arg4 harg4 arg5 harg5 arg6 harg6 arg7 harg7 arg8 harg8 arg9 harg9 arg2 v11 v25 (harg3.unread x0) (harg4.unread x1) (harg5.unread x2) g7 g8 g9 (Scf.trips (k0_t1_loop i).lb (k0_t1_loop i).ub (k0_t1_loop i).st)
    Upto (arg7 := arg7) (arg8 := arg8) (arg9 := arg9) x0 x1 x2 (1024 * (i 2).val)
      (arg7.view.writes (Elt Ideal) b7 (A.1 ++ (L.1 ++ I7))) (arg8.view.writes (Elt Ideal) b8 (A.2.1 ++ (L.2.1 ++ I8))) (arg9.view.writes (Elt Ideal) b9 (A.2.2 ++ (L.2.2 ++ I9))) := by
  have h2 : Scf.trips (k0_t2_loop i).lb (k0_t2_loop i).ub (k0_t2_loop i).st = 0 := trips2 i
  have h1 : Scf.trips (k0_t1_loop i).lb (k0_t1_loop i).ub (k0_t1_loop i).st = (i 2).val := trips1 i
  rw [h2, h1]
  intro A L
  have hA : A = ([], [], []) := rfl
  rw [hA]
  show Upto _ _ _ _ (arg7.view.writes (Elt Ideal) b7 (L.1 ++ I7)) (arg8.view.writes (Elt Ideal) b8 (L.2.1 ++ I8)) (arg9.view.writes (Elt Ideal) b9 (L.2.2 ++ I9))
  rw [View.writes_append, View.writes_append, View.writes_append]
  exact loop_upto 𝒱 c bd i arg3 harg3 arg4 harg4 arg5 harg5 arg6 harg6 arg7 harg7 arg8 harg8 arg9 harg9 arg2 v11 v25 x0 x1 x2 g7 g8 g9 H _ (le_of_eq (trips1 i).symm) _ _ _ Hb

end Cert.KernelIdeal.Fox

end
-- ==== Proof.KernelIdeal.Diag.lean ====
module

public import proofs.«01_k».proof.Proof.KernelIdeal.Diag0

@[expose] public section

set_option maxRecDepth 16384
set_option maxHeartbeats 4000000

noncomputable section

namespace Cert.KernelIdeal.Fox

open Idealize.ShloMosaic Idealize.ShloMosaic.TcCoe Idealize.ShloMosaic.ValueIdx
open Cert.KernelIdeal.Gen Cert.Fox
open scoped BigOperators

variable (cd : Dev nD) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole)
    (x0 : Vec Ideal S1x2x1024x128 .bf16) (x1 : Vec Ideal S1x2x4096x128 .bf16) (x2 : Vec Ideal S1x2x80x4096 .bf16) (d9 : Vec Ideal S2x2x256x1024 .f32)

include cd i arg3 harg3 arg4 harg4 arg5 harg5 arg6 harg6 arg7 harg7 arg8 harg8 arg9 harg9 x0 x1 x2 d9

/-- A tile of scores made ahead of its step. -/
theorem ahead0 : ∀ (r : Fin 256) (c : Fin 768) (C : Fin 1024), C.val = 256 + c.val → k0_pay120 (F := Ideal) (View.readAt (Elt Ideal) arg4.view (Rect.unit (s := S1x2x4096x128) (k0_off9 i 0#32) S1x1x256x128.size (k0_off9_inb i 0)).toLoadRect (harg4.unread x1)) (View.readAt (Elt Ideal) arg3.view (Rect.unit (s := S1x2x1024x128) ![0, 0, 256, 0] S1x1x768x128.size inb_S1x2x1024x128_S1x1x768x128_0_0_256_0).toLoadRect (harg3.unread x0)) (ix4 0 0 r c) = sc x0 x1 0 C (1024 * (i 2).val + 256 + r.val) := by
  have hq : (i 2).val < 4 := qi_lt i
  intro r c C hC
  obtain rfl : C = ⟨256 + c.val, Nat.add_lt_add_left c.isLt 256⟩ := Fin.ext hC
  unfold k0_pay120
  refine (cast_add2 _ _ r c).trans ?_
  exact score_tile x0 x1 0 (1024 * (i 2).val + 256) 256 (by omega) (by omega) (fun r d => kslice (h := 0) harg4 x1 _ (off9_eq i 0 (by decide) rfl (by omega)) _ r d (by omega)) (fun c d => qslice (h := 0) (lo := 256) harg3 x0 _ _ c d (by omega)) r c

/-- A tile of scores made ahead of its step. -/
theorem ahead1 : ∀ (r : Fin 256) (c : Fin 768) (C : Fin 1024), C.val = 256 + c.val → k0_pay126 (F := Ideal) (View.readAt (Elt Ideal) arg4.view (Rect.unit (s := S1x2x4096x128) (k0_off11 i 0#32) S1x1x256x128.size (k0_off11_inb i 0)).toLoadRect (harg4.unread x1)) (View.readAt (Elt Ideal) arg3.view (Rect.unit (s := S1x2x1024x128) ![0, 1, 256, 0] S1x1x768x128.size inb_S1x2x1024x128_S1x1x768x128_0_1_256_0).toLoadRect (harg3.unread x0)) (ix4 0 0 r c) = sc x0 x1 1 C (1024 * (i 2).val + 256 + r.val) := by
  have hq : (i 2).val < 4 := qi_lt i
  intro r c C hC
  obtain rfl : C = ⟨256 + c.val, Nat.add_lt_add_left c.isLt 256⟩ := Fin.ext hC
  unfold k0_pay126
  refine (cast_add2 _ _ r c).trans ?_
  exact score_tile x0 x1 1 (1024 * (i 2).val + 256) 256 (by omega) (by omega) (fun r d => kslice (h := 1) harg4 x1 _ (off11_eq i 0 (by decide) rfl (by omega)) _ r d (by omega)) (fun c d => qslice (h := 1) (lo := 256) harg3 x0 _ _ c d (by omega)) r c

/-- A tile of scores made ahead of its step. -/
theorem ahead2 : ∀ (r : Fin 256) (c : Fin 512) (C : Fin 1024), C.val = 512 + c.val → k0_pay133 (F := Ideal) (View.readAt (Elt Ideal) arg4.view (Rect.unit (s := S1x2x4096x128) (k0_off9 i 1#32) S1x1x256x128.size (k0_off9_inb i 1)).toLoadRect (harg4.unread x1)) (View.readAt (Elt Ideal) arg3.view (Rect.unit (s := S1x2x1024x128) ![0, 0, 512, 0] S1x1x512x128.size inb_S1x2x1024x128_S1x1x512x128_0_0_512_0).toLoadRect (harg3.unread x0)) (ix4 0 0 r c) = sc x0 x1 0 C (1024 * (i 2).val + 512 + r.val) := by
  have hq : (i 2).val < 4 := qi_lt i
  intro r c C hC
  obtain rfl : C = ⟨512 + c.val, Nat.add_lt_add_left c.isLt 512⟩ := Fin.ext hC
  unfold k0_pay133
  refine (cast_add2 _ _ r c).trans ?_
  exact score_tile x0 x1 0 (1024 * (i 2).val + 512) 512 (by omega) (by omega) (fun r d => kslice (h := 0) harg4 x1 _ (off9_eq i 1 (by decide) rfl (by omega)) _ r d (by omega)) (fun c d => qslice (h := 0) (lo := 512) harg3 x0 _ _ c d (by omega)) r c

/-- A tile of scores made ahead of its step. -/
theorem ahead3 : ∀ (r : Fin 256) (c : Fin 512) (C : Fin 1024), C.val = 512 + c.val → k0_pay139 (F := Ideal) (View.readAt (Elt Ideal) arg4.view (Rect.unit (s := S1x2x4096x128) (k0_off11 i 1#32) S1x1x256x128.size (k0_off11_inb i 1)).toLoadRect (harg4.unread x1)) (View.readAt (Elt Ideal) arg3.view (Rect.unit (s := S1x2x1024x128) ![0, 1, 512, 0] S1x1x512x128.size inb_S1x2x1024x128_S1x1x512x128_0_1_512_0).toLoadRect (harg3.unread x0)) (ix4 0 0 r c) = sc x0 x1 1 C (1024 * (i 2).val + 512 + r.val) := by
  have hq : (i 2).val < 4 := qi_lt i
  intro r c C hC
  obtain rfl : C = ⟨512 + c.val, Nat.add_lt_add_left c.isLt 512⟩ := Fin.ext hC
  unfold k0_pay139
  refine (cast_add2 _ _ r c).trans ?_
  exact score_tile x0 x1 1 (1024 * (i 2).val + 512) 512 (by omega) (by omega) (fun r d => kslice (h := 1) harg4 x1 _ (off11_eq i 1 (by decide) rfl (by omega)) _ r d (by omega)) (fun c d => qslice (h := 1) (lo := 512) harg3 x0 _ _ c d (by omega)) r c

/-- A tile of scores made ahead of its step. -/
theorem ahead4 : ∀ (r : Fin 256) (c : Fin 256) (C : Fin 1024), C.val = 768 + c.val → k0_pay146 (F := Ideal) (View.readAt (Elt Ideal) arg4.view (Rect.unit (s := S1x2x4096x128) (k0_off9 i 2#32) S1x1x256x128.size (k0_off9_inb i 2)).toLoadRect (harg4.unread x1)) (View.readAt (Elt Ideal) arg3.view (Rect.unit (s := S1x2x1024x128) ![0, 0, 768, 0] S1x1x256x128.size inb_S1x2x1024x128_S1x1x256x128_0_0_768_0).toLoadRect (harg3.unread x0)) (ix4 0 0 r c) = sc x0 x1 0 C (1024 * (i 2).val + 768 + r.val) := by
  have hq : (i 2).val < 4 := qi_lt i
  intro r c C hC
  obtain rfl : C = ⟨768 + c.val, Nat.add_lt_add_left c.isLt 768⟩ := Fin.ext hC
  unfold k0_pay146
  refine (cast_add2 _ _ r c).trans ?_
  exact score_tile x0 x1 0 (1024 * (i 2).val + 768) 768 (by omega) (by omega) (fun r d => kslice (h := 0) harg4 x1 _ (off9_eq i 2 (by decide) rfl (by omega)) _ r d (by omega)) (fun c d => qslice (h := 0) (lo := 768) harg3 x0 _ _ c d (by omega)) r c

/-- A tile of scores made ahead of its step. -/
theorem ahead5 : ∀ (r : Fin 256) (c : Fin 256) (C : Fin 1024), C.val = 768 + c.val → k0_pay152 (F := Ideal) (View.readAt (Elt Ideal) arg4.view (Rect.unit (s := S1x2x4096x128) (k0_off11 i 2#32) S1x1x256x128.size (k0_off11_inb i 2)).toLoadRect (harg4.unread x1)) (View.readAt (Elt Ideal) arg3.view (Rect.unit (s := S1x2x1024x128) ![0, 1, 768, 0] S1x1x256x128.size inb_S1x2x1024x128_S1x1x256x128_0_1_768_0).toLoadRect (harg3.unread x0)) (ix4 0 0 r c) = sc x0 x1 1 C (1024 * (i 2).val + 768 + r.val) := by
  have hq : (i 2).val < 4 := qi_lt i
  intro r c C hC
  obtain rfl : C = ⟨768 + c.val, Nat.add_lt_add_left c.isLt 768⟩ := Fin.ext hC
  unfold k0_pay152
  refine (cast_add2 _ _ r c).trans ?_
  exact score_tile x0 x1 1 (1024 * (i 2).val + 768) 768 (by omega) (by omega) (fun r d => kslice (h := 1) harg4 x1 _ (off11_eq i 2 (by decide) rfl (by omega)) _ r d (by omega)) (fun c d => qslice (h := 1) (lo := 768) harg3 x0 _ _ c d (by omega)) r c

/-- The scores a step reads. -/
theorem scores0 : ∀ (r : Fin 256) (c : Fin 1024) (C : Fin 1024), C.val = 0 + c.val → (bodyRun.sl.v51 (F := Ideal) cd i arg3 harg3 arg4 harg4 arg5 harg5 arg6 harg6 arg7 harg7 arg8 harg8 arg9 harg9 x0 x1 x2 d9) (ix4 0 0 r c) = sc x0 x1 0 C (1024 * (i 2).val + 0 + r.val) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro r c C hC
  refine (cov arg9.view _ _ (ix4 0 0 r c) (ix4 0 0 r C) (pos4 rfl rfl (Nat.zero_add _).symm hC)).trans ?_
  refine (skip _ _ _ _ _ _ (0 : Fin 4) (Or.inl Nat.zero_lt_one)).trans ?_
  exact (E _ _ _).h9 0 r C

/-- The masked scores of a step. -/
theorem masked0 : ∀ (r : Fin 256) (c : Fin 1024), k0_pay121 (F := Ideal) k0_pay110 (bodyRun.sl.v51 (F := Ideal) cd i arg3 harg3 arg4 harg4 arg5 harg5 arg6 harg6 arg7 harg7 arg8 harg8 arg9 harg9 x0 x1 x2 d9) (ix2 r c) = sm i x0 x1 0 ⟨0 + c.val, by omega⟩ (1024 * (i 2).val + 0 + r.val) := by
  have hq : (i 2).val < 4 := qi_lt i
  intro r c
  unfold k0_pay121
  exact diag_tile i x0 x1 0 (1024 * (i 2).val + 0) rfl (by omega) (fun r c => (cast_drop2 _ _ r c).trans ((scores0 cd i arg3 harg3 arg4 harg4 arg5 harg5 arg6 harg6 arg7 harg7 arg8 harg8 arg9 harg9 x0 x1 x2 d9) r c _ rfl)) _ _ _ r c

/-- The maxima before a step. -/
theorem max_before0 : ∀ c : Fin 1024, k0_pay122 (F := Ideal) (bodyRun.sl.v60 (F := Ideal) cd i arg3 harg3 arg4 harg4 arg5 harg5 arg6 harg6 arg7 harg7 arg8 harg8 arg9 harg9 x0 x1 x2 d9) (ix2 0 c) = mx (sm i x0 x1 0 ⟨0 + c.val, by omega⟩) (1024 * (i 2).val + 0) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro c
  unfold k0_pay122
  refine (shapeCast_1ab_ab_apply _ _ (0 : Fin 1) c).trans ?_
  refine (cov arg7.view _ _ (ix3 0 0 c) (ix3 0 0 ⟨0 + c.val, by omega⟩) (pos3 rfl rfl rfl)).trans ?_
  refine ((E _ _ _).h7 0 _).trans (mx_congr fun k hk => (sm_of_le i x0 x1 0 _ ?_).symm)
  omega

/-- The maxima after a step. -/
theorem max_after0 : ∀ c : Fin 1024, k0_pay123 (F := Ideal) k0_pay110 (bodyRun.sl.v51 (F := Ideal) cd i arg3 harg3 arg4 harg4 arg5 harg5 arg6 harg6 arg7 harg7 arg8 harg8 arg9 harg9 x0 x1 x2 d9) (bodyRun.sl.v60 (F := Ideal) cd i arg3 harg3 arg4 harg4 arg5 harg5 arg6 harg6 arg7 harg7 arg8 harg8 arg9 harg9 x0 x1 x2 d9) (ix2 0 c) = mx (sm i x0 x1 0 ⟨0 + c.val, by omega⟩) (1024 * (i 2).val + 256) := by
  have hq : (i 2).val < 4 := qi_lt i
  intro c
  unfold k0_pay123
  exact step_max (fun c : Fin 1024 => sm i x0 x1 0 ⟨0 + c.val, by omega⟩) (1024 * (i 2).val + 0) (by omega) (masked0 cd i arg3 harg3 arg4 harg4 arg5 harg5 arg6 harg6 arg7 harg7 arg8 harg8 arg9 harg9 x0 x1 x2 d9) (max_before0 cd i arg3 harg3 arg4 harg4 arg5 harg5 arg6 harg6 arg7 harg7 arg8 harg8 arg9 harg9 x0 x1 x2 d9) _ _ _ _ c

/-- The maxima a step leaves. -/
theorem max_left0 : ∀ (c : Fin 1024) (C : Fin 1024), C.val = 0 + c.val → k0_pay125 (F := Ideal) k0_pay110 (bodyRun.sl.v51 (F := Ideal) cd i arg3 harg3 arg4 harg4 arg5 harg5 arg6 harg6 arg7 harg7 arg8 harg8 arg9 harg9 x0 x1 x2 d9) (bodyRun.sl.v60 (F := Ideal) cd i arg3 harg3 arg4 harg4 arg5 harg5 arg6 harg6 arg7 harg7 arg8 harg8 arg9 harg9 x0 x1 x2 d9) (ix3 0 0 c) = mx (sm i x0 x1 0 C) (1024 * (i 2).val + 256) := by
  have hq : (i 2).val < 4 := qi_lt i
  intro c C hC
  obtain rfl : C = ⟨0 + c.val, Nat.add_lt_add_left c.isLt 0⟩ := Fin.ext hC
  unfold k0_pay125
  exact (shapeCast_ab_1ab_apply _ _ (0 : Fin 1) (0 : Fin 1) c).trans ((max_after0 cd i arg3 harg3 arg4 harg4 arg5 harg5 arg6 harg6 arg7 harg7 arg8 harg8 arg9 harg9 x0 x1 x2 d9) c)

/-- The weighted sums before a step. -/
theorem sum_before0 : ∀ (d : Fin 80) (c : Fin 1024), (bodyRun.sl.v75 (F := Ideal) cd i arg3 harg3 arg4 harg4 arg5 harg5 arg6 harg6 arg7 harg7 arg8 harg8 arg9 harg9 x0 x1 x2 d9) (ix3 0 d c) = ws (sm i x0 x1 0 ⟨0 + c.val, by omega⟩) (vf x2 0 d) (1024 * (i 2).val + 0) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro d c
  refine (cov arg8.view _ _ (ix3 0 d c) (ix3 0 d ⟨0 + c.val, by omega⟩) (pos3 rfl (Nat.zero_add _).symm rfl)).trans ?_
  refine ((E _ _ _).h8 0 d _).trans (ws_congr (fun k hk => (sm_of_le i x0 x1 0 _ ?_).symm) fun _ _ => rfl)
  omega

/-- The weighted sums a step leaves. -/
theorem sum_left0 : ∀ (d : Fin 80) (c : Fin 1024) (C : Fin 1024), C.val = 0 + c.val → k0_pay124 (F := Ideal) k0_pay110 (bodyRun.sl.v51 (F := Ideal) cd i arg3 harg3 arg4 harg4 arg5 harg5 arg6 harg6 arg7 harg7 arg8 harg8 arg9 harg9 x0 x1 x2 d9) (bodyRun.sl.v60 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off10 i 0#32) S1x1x80x256.size (k0_off10_inb i 0)).toLoadRect (harg5.unread x2)) (bodyRun.sl.v75 (F := Ideal) cd i arg3 harg3 arg4 harg4 arg5 harg5 arg6 harg6 arg7 harg7 arg8 harg8 arg9 harg9 x0 x1 x2 d9) (ix3 0 d c) = ws (sm i x0 x1 0 C) (vf x2 0 d) (1024 * (i 2).val + 256) := by
  have hq : (i 2).val < 4 := qi_lt i
  intro d c C hC
  obtain rfl : C = ⟨0 + c.val, Nat.add_lt_add_left c.isLt 0⟩ := Fin.ext hC
  unfold k0_pay124
  refine (shapeCast_ab_1ab_apply _ _ (0 : Fin 1) d c).trans ?_
  exact step_acc (fun c : Fin 1024 => sm i x0 x1 0 ⟨0 + c.val, by omega⟩) (vf x2 0) (1024 * (i 2).val + 0) (by omega) (masked0 cd i arg3 harg3 arg4 harg4 arg5 harg5 arg6 harg6 arg7 harg7 arg8 harg8 arg9 harg9 x0 x1 x2 d9) (max_before0 cd i arg3 harg3 arg4 harg4 arg5 harg5 arg6 harg6 arg7 harg7 arg8 harg8 arg9 harg9 x0 x1 x2 d9) (max_after0 cd i arg3 harg3 arg4 harg4 arg5 harg5 arg6 harg6 arg7 harg7 arg8 harg8 arg9 harg9 x0 x1 x2 d9) (fun d r => vslice (h := 0) harg5 x2 _ (off10_eq i 0 (by decide) rfl (by omega)) _ d r (by omega)) (fun d c => (shapeCast_1ab_ab_apply _ _ d c).trans ((sum_before0 cd i arg3 harg3 arg4 harg4 arg5 harg5 arg6 harg6 arg7 harg7 arg8 harg8 arg9 harg9 x0 x1 x2 d9) d c)) _ _ _ d c

/-- The scores a step reads. -/
theorem scores1 : ∀ (r : Fin 256) (c : Fin 1024) (C : Fin 1024), C.val = 0 + c.val → (bodyRun.sl.v100 (F := Ideal) cd i arg3 harg3 arg4 harg4 arg5 harg5 arg6 harg6 arg7 harg7 arg8 harg8 arg9 harg9 x0 x1 x2 d9) (ix4 0 0 r c) = sc x0 x1 1 C (1024 * (i 2).val + 0 + r.val) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro r c C hC
  refine (cov arg9.view _ _ (ix4 0 0 r c) (ix4 0 1 r C) (pos4 rfl rfl (Nat.zero_add _).symm hC)).trans ?_
  refine (skip _ _ _ _ _ _ (0 : Fin 4) (Or.inl Nat.zero_lt_one)).trans ?_
  refine (skip _ _ _ _ _ _ (0 : Fin 4) (Or.inl Nat.zero_lt_one)).trans ?_
  exact (E _ _ _).h9 1 r C

/-- The masked scores of a step. -/
theorem masked1 : ∀ (r : Fin 256) (c : Fin 1024), k0_pay127 (F := Ideal) k0_pay110 (bodyRun.sl.v100 (F := Ideal) cd i arg3 harg3 arg4 harg4 arg5 harg5 arg6 harg6 arg7 harg7 arg8 harg8 arg9 harg9 x0 x1 x2 d9) (ix2 r c) = sm i x0 x1 1 ⟨0 + c.val, by omega⟩ (1024 * (i 2).val + 0 + r.val) := by
  have hq : (i 2).val < 4 := qi_lt i
  intro r c
  unfold k0_pay127
  exact diag_tile i x0 x1 1 (1024 * (i 2).val + 0) rfl (by omega) (fun r c => (cast_drop2 _ _ r c).trans ((scores1 cd i arg3 harg3 arg4 harg4 arg5 harg5 arg6 harg6 arg7 harg7 arg8 harg8 arg9 harg9 x0 x1 x2 d9) r c _ rfl)) _ _ _ r c

/-- The maxima before a step. -/
theorem max_before1 : ∀ c : Fin 1024, k0_pay128 (F := Ideal) (bodyRun.sl.v109 (F := Ideal) cd i arg3 harg3 arg4 harg4 arg5 harg5 arg6 harg6 arg7 harg7 arg8 harg8 arg9 harg9 x0 x1 x2 d9) (ix2 0 c) = mx (sm i x0 x1 1 ⟨0 + c.val, by omega⟩) (1024 * (i 2).val + 0) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro c
  unfold k0_pay128
  refine (shapeCast_1ab_ab_apply _ _ (0 : Fin 1) c).trans ?_
  refine (cov arg7.view _ _ (ix3 0 0 c) (ix3 1 0 ⟨0 + c.val, by omega⟩) (pos3 rfl rfl rfl)).trans ?_
  refine (skip _ _ _ _ _ _ (0 : Fin 3) (Or.inr (Nat.le_refl 1))).trans ?_
  refine ((E _ _ _).h7 1 _).trans (mx_congr fun k hk => (sm_of_le i x0 x1 1 _ ?_).symm)
  omega

/-- The maxima after a step. -/
theorem max_after1 : ∀ c : Fin 1024, k0_pay129 (F := Ideal) k0_pay110 (bodyRun.sl.v100 (F := Ideal) cd i arg3 harg3 arg4 harg4 arg5 harg5 arg6 harg6 arg7 harg7 arg8 harg8 arg9 harg9 x0 x1 x2 d9) (bodyRun.sl.v109 (F := Ideal) cd i arg3 harg3 arg4 harg4 arg5 harg5 arg6 harg6 arg7 harg7 arg8 harg8 arg9 harg9 x0 x1 x2 d9) (ix2 0 c) = mx (sm i x0 x1 1 ⟨0 + c.val, by omega⟩) (1024 * (i 2).val + 256) := by
  have hq : (i 2).val < 4 := qi_lt i
  intro c
  unfold k0_pay129
  exact step_max (fun c : Fin 1024 => sm i x0 x1 1 ⟨0 + c.val, by omega⟩) (1024 * (i 2).val + 0) (by omega) (masked1 cd i arg3 harg3 arg4 harg4 arg5 harg5 arg6 harg6 arg7 harg7 arg8 harg8 arg9 harg9 x0 x1 x2 d9) (max_before1 cd i arg3 harg3 arg4 harg4 arg5 harg5 arg6 harg6 arg7 harg7 arg8 harg8 arg9 harg9 x0 x1 x2 d9) _ _ _ _ c

/-- The maxima a step leaves. -/
theorem max_left1 : ∀ (c : Fin 1024) (C : Fin 1024), C.val = 0 + c.val → k0_pay132 (F := Ideal) (bodyRun.sl.r_2 (F := Ideal) cd i arg3 harg3 arg4 harg4 arg5 harg5 arg6 harg6 arg7 harg7 arg8 harg8 arg9 harg9 x0 x1 x2 d9) (ix3 0 0 c) = mx (sm i x0 x1 1 C) (1024 * (i 2).val + 256) := by
  have hq : (i 2).val < 4 := qi_lt i
  intro c C hC
  obtain rfl : C = ⟨0 + c.val, Nat.add_lt_add_left c.isLt 0⟩ := Fin.ext hC
  unfold bodyRun.sl.r_2 k0_pay132
  exact (shapeCast_ab_1ab_apply _ _ (0 : Fin 1) (0 : Fin 1) c).trans ((max_after1 cd i arg3 harg3 arg4 harg4 arg5 harg5 arg6 harg6 arg7 harg7 arg8 harg8 arg9 harg9 x0 x1 x2 d9) c)

/-- The weighted sums before a step. -/
theorem sum_before1 : ∀ (d : Fin 80) (c : Fin 1024), (bodyRun.sl.v124 (F := Ideal) cd i arg3 harg3 arg4 harg4 arg5 harg5 arg6 harg6 arg7 harg7 arg8 harg8 arg9 harg9 x0 x1 x2 d9) (ix3 0 d c) = ws (sm i x0 x1 1 ⟨0 + c.val, by omega⟩) (vf x2 1 d) (1024 * (i 2).val + 0) := by
  have hq : (i 2).val < 4 := qi_lt i
  have I := fun b9 => init_upto (arg7 := arg7) (arg8 := arg8) (arg9 := arg9) harg3 harg4 x0 x1 x2 cd arg7.view.junk arg8.view.junk b9
  have E := fun g7' g8' g9' => end_upto Variants.none cd none i arg3 harg3 arg4 harg4 arg5 harg5 arg6 harg6 arg7 harg7 arg8 harg8 arg9 harg9
    (BitVec.ofNat 32 (i 2).val) (bodyRun.sl.v11 i) (bodyRun.sl.r cd arg4 harg4 x1) (bodyRun.sl.v36 i) x0 x1 x2
    _ _ _ _ _ _ g7' g8' g9' _ _ _ (I (harg9.unread d9)) (I arg9.view.junk)
  intro d c
  refine (cov arg8.view _ _ (ix3 0 d c) (ix3 1 d ⟨0 + c.val, by omega⟩) (pos3 rfl (Nat.zero_add _).symm rfl)).trans ?_
  refine (skip _ _ _ _ _ _ (0 : Fin 3) (Or.inr (Nat.le_refl 1))).trans ?_
  refine ((E _ _ _).h8 1 d _).trans (ws_congr (fun k hk => (sm_of_le i x0 x1 1 _ ?_).symm) fun _ _ => rfl)
  omega

/-- The weighted sums a step leaves. -/
theorem sum_left1 : ∀ (d : Fin 80) (c : Fin 1024) (C : Fin 1024), C.val = 0 + c.val → k0_pay131 (F := Ideal) (bodyRun.sl.r_1 (F := Ideal) cd i arg3 harg3 arg4 harg4 arg5 harg5 arg6 harg6 arg7 harg7 arg8 harg8 arg9 harg9 x0 x1 x2 d9) (bodyRun.sl.r_2 (F := Ideal) cd i arg3 harg3 arg4 harg4 arg5 harg5 arg6 harg6 arg7 harg7 arg8 harg8 arg9 harg9 x0 x1 x2 d9) (bodyRun.sl.r_3 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off12 i 0#32) S1x1x80x256.size (k0_off12_inb i 0)).toLoadRect (harg5.unread x2)) (bodyRun.sl.v124 (F := Ideal) cd i arg3 harg3 arg4 harg4 arg5 harg5 arg6 harg6 arg7 harg7 arg8 harg8 arg9 harg9 x0 x1 x2 d9) (ix3 0 d c) = ws (sm i x0 x1 1 C) (vf x2 1 d) (1024 * (i 2).val + 256) := by
  have hq : (i 2).val < 4 := qi_lt i
  intro d c C hC
  obtain rfl : C = ⟨0 + c.val, Nat.add_lt_add_left c.isLt 0⟩ := Fin.ext hC
  unfold bodyRun.sl.r_1 bodyRun.sl.r_2 bodyRun.sl.r_3 k0_pay130 k0_pay131
  refine (shapeCast_ab_1ab_apply _ _ (0 : Fin 1) d c).trans ?_
  exact step_acc (fun c : Fin 1024 => sm i x0 x1 1 ⟨0 + c.val, by omega⟩) (vf x2 1) (1024 * (i 2).val + 0) (by omega) (masked1 cd i arg3 harg3 arg4 harg4 arg5 harg5 arg6 harg6 arg7 harg7 arg8 harg8 arg9 harg9 x0 x1 x2 d9) (max_before1 cd i arg3 harg3 arg4 harg4 arg5 harg5 arg6 harg6 arg7 harg7 arg8 harg8 arg9 harg9 x0 x1 x2 d9) (max_after1 cd i arg3 harg3 arg4 harg4 arg5 harg5 arg6 harg6 arg7 harg7 arg8 harg8 arg9 harg9 x0 x1 x2 d9) (fun d r => vslice (h := 1) harg5 x2 _ (off12_eq i 0 (by decide) rfl (by omega)) _ d r (by omega)) (fun d c => (shapeCast_1ab_ab_apply _ _ d c).trans ((sum_before1 cd i arg3 harg3 arg4 harg4 arg5 harg5 arg6 harg6 arg7 harg7 arg8 harg8 arg9 harg9 x0 x1 x2 d9) d c)) _ _ _ d c

/-- The scores a step reads. -/
theorem scores2 : ∀ (r : Fin 256) (c : Fin 768) (C : Fin 1024), C.val = 256 + c.val → (bodyRun.sl.v149 (F := Ideal) cd i arg3 harg3 arg4 harg4 arg5 harg5 arg6 harg6 arg7 harg7 arg8 harg8 arg9 harg9 x0 x1 x2 d9) (ix4 0 0 r c) = sc x0 x1 0 C (1024 * (i 2).val + 256 + r.val) := by
  have hq : (i 2).val < 4 := qi_lt i
  intro r c C hC
  refine (cov arg9.view _ _ (ix4 0 0 r c) (ix4 1 0 r C) (pos4 rfl rfl (Nat.zero_add _).symm hC)).trans ?_
  refine (skip _ _ _ _ _ _ (0 : Fin 4) (Or.inr (Nat.le_refl 1))).trans ?_
  refine (skip _ _ _ _ _ _ (1 : Fin 4) (Or.inl Nat.zero_lt_one)).trans ?_
  refine (hit _ _ _ _ _ _ (ix4 0 0 r c) (pos4 rfl rfl (Nat.zero_add _).symm hC)).trans ?_
  exact (ahead0 cd i arg3 harg3 arg4 harg4 arg5 harg5 arg6 harg6 arg7 harg7 arg8 harg8 arg9 harg9 x0 x1 x2 d9) r c C hC

/-- The masked scores of a step. -/
theorem masked2 : ∀ (r : Fin 256) (c : Fin 768), k0_pay134 (F := Ideal) k0_pay110 (bodyRun.sl.v149 (F := Ideal) cd i arg3 harg3 arg4 harg4 arg5 harg5 arg6 harg6 arg7 harg7 arg8 harg8 arg9 harg9 x0 x1 x2 d9) (ix2 r c) = sm i x0 x1 0 ⟨256 + c.val, by omega⟩ (1024 * (i 2).val + 256 + r.val) := by
  have hq : (i 2).val < 4 := qi_lt i
  intro r c
  unfold k0_pay134
  exact diag_tile i x0 x1 0 (1024 * (i 2).val + 256) rfl (by omega) (fun r c => (cast_drop2 _ _ r c).trans ((scores2 cd i arg3 harg3 arg4 harg4 arg5 harg5 arg6 harg6 arg7 harg7 arg8 harg8 arg9 harg9 x0 x1 x2 d9) r c _ rfl)) _ _ _ r c

/-- The maxima before a step. -/
theorem max_before2 : ∀ c : Fin 768, k0_pay135 (F := Ideal) (bodyRun.sl.v158 (F := Ideal) cd i arg3 harg3 arg4 harg4 arg5 harg5 arg6 harg6 arg7 harg7 arg8 harg8 arg9 harg9 x0 x1 x2 d9) (ix2 0 c) = mx (sm i x0 x1 0 ⟨256 + c.val, by omega⟩) (1024 * (i 2).val + 256) := by
  have hq : (i 2).val < 4 := qi_lt i
  intro c
  unfold k0_pay135
  refine (shapeCast_1ab_ab_apply _ _ (0 : Fin 1) c).trans ?_
  refine (cov arg7.view _ _ (ix3 0 0 c) (ix3 0 0 ⟨256 + c.val, by omega⟩) (pos3 rfl rfl rfl)).trans ?_
  refine (skip _ _ _ _ _ _ (0 : Fin 3) (Or.inl Nat.zero_lt_one)).trans ?_
  refine (hit _ _ _ _ _ _ (ix3 0 0 ⟨256 + c.val, by omega⟩) (pos3 rfl rfl (by show 256 + c.val = 0 + (256 + c.val); omega))).trans ?_
  exact (max_left0 cd i arg3 harg3 arg4 harg4 arg5 harg5 arg6 harg6 arg7 harg7 arg8 harg8 arg9 harg9 x0 x1 x2 d9) ⟨256 + c.val, by omega⟩ _ (by show 256 + c.val = 0 + (256 + c.val); omega)

/-- The maxima after a step. -/
theorem max_after2 : ∀ c : Fin 768, k0_pay136 (F := Ideal) k0_pay110 (bodyRun.sl.v149 (F := Ideal) cd i arg3 harg3 arg4 harg4 arg5 harg5 arg6 harg6 arg7 harg7 arg8 harg8 arg9 harg9 x0 x1 x2 d9) (bodyRun.sl.v158 (F := Ideal) cd i arg3 harg3 arg4 harg4 arg5 harg5 arg6 harg6 arg7 harg7 arg8 harg8 arg9 harg9 x0 x1 x2 d9) (ix2 0 c) = mx (sm i x0 x1 0 ⟨256 + c.val, by omega⟩) (1024 * (i 2).val + 512) := by
  have hq : (i 2).val < 4 := qi_lt i
  intro c
  unfold k0_pay136
  exact step_max (fun c : Fin 768 => sm i x0 x1 0 ⟨256 + c.val, by omega⟩) (1024 * (i 2).val + 256) (by omega) (masked2 cd i arg3 harg3 arg4 harg4 arg5 harg5 arg6 harg6 arg7 harg7 arg8 harg8 arg9 harg9 x0 x1 x2 d9) (max_before2 cd i arg3 harg3 arg4 harg4 arg5 harg5 arg6 harg6 arg7 harg7 arg8 harg8 arg9 harg9 x0 x1 x2 d9) _ _ _ _ c

/-- The maxima a step leaves. -/
theorem max_left2 : ∀ (c : Fin 768) (C : Fin 1024), C.val = 256 + c.val → k0_pay138 (F := Ideal) k0_pay110 (bodyRun.sl.v149 (F := Ideal) cd i arg3 harg3 arg4 harg4 arg5 harg5 arg6 harg6 arg7 harg7 arg8 harg8 arg9 harg9 x0 x1 x2 d9) (bodyRun.sl.v158 (F := Ideal) cd i arg3 harg3 arg4 harg4 arg5 harg5 arg6 harg6 arg7 harg7 arg8 harg8 arg9 harg9 x0 x1 x2 d9) (ix3 0 0 c) = mx (sm i x0 x1 0 C) (1024 * (i 2).val + 512) := by
  have hq : (i 2).val < 4 := qi_lt i
  intro c C hC
  obtain rfl : C = ⟨256 + c.val, Nat.add_lt_add_left c.isLt 256⟩ := Fin.ext hC
  unfold k0_pay138
  exact (shapeCast_ab_1ab_apply _ _ (0 : Fin 1) (0 : Fin 1) c).trans ((max_after2 cd i arg3 harg3 arg4 harg4 arg5 harg5 arg6 harg6 arg7 harg7 arg8 harg8 arg9 harg9 x0 x1 x2 d9) c)

/-- The weighted sums before a step. -/
theorem sum_before2 : ∀ (d : Fin 80) (c : Fin 768), (bodyRun.sl.v173 (F := Ideal) cd i arg3 harg3 arg4 harg4 arg5 harg5 arg6 harg6 arg7 harg7 arg8 harg8 arg9 harg9 x0 x1 x2 d9) (ix3 0 d c) = ws (sm i x0 x1 0 ⟨256 + c.val, by omega⟩) (vf x2 0 d) (1024 * (i 2).val + 256) := by
  have hq : (i 2).val < 4 := qi_lt i
  intro d c
  refine (cov arg8.view _ _ (ix3 0 d c) (ix3 0 d ⟨256 + c.val, by omega⟩) (pos3 rfl (Nat.zero_add _).symm rfl)).trans ?_
  refine (skip _ _ _ _ _ _ (0 : Fin 3) (Or.inl Nat.zero_lt_one)).trans ?_
  refine (hit _ _ _ _ _ _ (ix3 0 d ⟨256 + c.val, by omega⟩) (pos3 rfl (Nat.zero_add _).symm (by show 256 + c.val = 0 + (256 + c.val); omega))).trans ?_
  exact (sum_left0 cd i arg3 harg3 arg4 harg4 arg5 harg5 arg6 harg6 arg7 harg7 arg8 harg8 arg9 harg9 x0 x1 x2 d9) d ⟨256 + c.val, by omega⟩ _ (by show 256 + c.val = 0 + (256 + c.val); omega)

/-- The weighted sums a step leaves. -/
theorem sum_left2 : ∀ (d : Fin 80) (c : Fin 768) (C : Fin 1024), C.val = 256 + c.val → k0_pay137 (F := Ideal) k0_pay110 (bodyRun.sl.v149 (F := Ideal) cd i arg3 harg3 arg4 harg4 arg5 harg5 arg6 harg6 arg7 harg7 arg8 harg8 arg9 harg9 x0 x1 x2 d9) (bodyRun.sl.v158 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off10 i 1#32) S1x1x80x256.size (k0_off10_inb i 1)).toLoadRect (harg5.unread x2)) (bodyRun.sl.v173 (F := Ideal) cd i arg3 harg3 arg4 harg4 arg5 harg5 arg6 harg6 arg7 harg7 arg8 harg8 arg9 harg9 x0 x1 x2 d9) (ix3 0 d c) = ws (sm i x0 x1 0 C) (vf x2 0 d) (1024 * (i 2).val + 512) := by
  have hq : (i 2).val < 4 := qi_lt i
  intro d c C hC
  obtain rfl : C = ⟨256 + c.val, Nat.add_lt_add_left c.isLt 256⟩ := Fin.ext hC
  unfold k0_pay137
  refine (shapeCast_ab_1ab_apply _ _ (0 : Fin 1) d c).trans ?_
  exact step_acc (fun c : Fin 768 => sm i x0 x1 0 ⟨256 + c.val, by omega⟩) (vf x2 0) (1024 * (i 2).val + 256) (by omega) (masked2 cd i arg3 harg3 arg4 harg4 arg5 harg5 arg6 harg6 arg7 harg7 arg8 harg8 arg9 harg9 x0 x1 x2 d9) (max_before2 cd i arg3 harg3 arg4 harg4 arg5 harg5 arg6 harg6 arg7 harg7 arg8 harg8 arg9 harg9 x0 x1 x2 d9) (max_after2 cd i arg3 harg3 arg4 harg4 arg5 harg5 arg6 harg6 arg7 harg7 arg8 harg8 arg9 harg9 x0 x1 x2 d9) (fun d r => vslice (h := 0) harg5 x2 _ (off10_eq i 1 (by decide) rfl (by omega)) _ d r (by omega)) (fun d c => (shapeCast_1ab_ab_apply _ _ d c).trans ((sum_before2 cd i arg3 harg3 arg4 harg4 arg5 harg5 arg6 harg6 arg7 harg7 arg8 harg8 arg9 harg9 x0 x1 x2 d9) d c)) _ _ _ d c

/-- The scores a step reads. -/
theorem scores3 : ∀ (r : Fin 256) (c : Fin 768) (C : Fin 1024), C.val = 256 + c.val → (bodyRun.sl.v198 (F := Ideal) cd i arg3 harg3 arg4 harg4 arg5 harg5 arg6 harg6 arg7 harg7 arg8 harg8 arg9 harg9 x0 x1 x2 d9) (ix4 0 0 r c) = sc x0 x1 1 C (1024 * (i 2).val + 256 + r.val) := by
  have hq : (i 2).val < 4 := qi_lt i
  intro r c C hC
  refine (cov arg9.view _ _ (ix4 0 0 r c) (ix4 1 1 r C) (pos4 rfl rfl (Nat.zero_add _).symm hC)).trans ?_
  refine (skip _ _ _ _ _ _ (0 : Fin 4) (Or.inr (Nat.le_refl 1))).trans ?_
  refine (skip _ _ _ _ _ _ (0 : Fin 4) (Or.inr (Nat.le_refl 1))).trans ?_
  refine (hit _ _ _ _ _ _ (ix4 0 0 r c) (pos4 rfl rfl (Nat.zero_add _).symm hC)).trans ?_
  exact (ahead1 cd i arg3 harg3 arg4 harg4 arg5 harg5 arg6 harg6 arg7 harg7 arg8 harg8 arg9 harg9 x0 x1 x2 d9) r c C hC

/-- The masked scores of a step. -/
theorem masked3 : ∀ (r : Fin 256) (c : Fin 768), k0_pay140 (F := Ideal) k0_pay110 (bodyRun.sl.v198 (F := Ideal) cd i arg3 harg3 arg4 harg4 arg5 harg5 arg6 harg6 arg7 harg7 arg8 harg8 arg9 harg9 x0 x1 x2 d9) (ix2 r c) = sm i x0 x1 1 ⟨256 + c.val, by omega⟩ (1024 * (i 2).val + 256 + r.val) := by
  have hq : (i 2).val < 4 := qi_lt i
  intro r c
  unfold k0_pay140
  exact diag_tile i x0 x1 1 (1024 * (i 2).val + 256) rfl (by omega) (fun r c => (cast_drop2 _ _ r c).trans ((scores3 cd i arg3 harg3 arg4 harg4 arg5 harg5 arg6 harg6 arg7 harg7 arg8 harg8 arg9 harg9 x0 x1 x2 d9) r c _ rfl)) _ _ _ r c

/-- The maxima before a step. -/
theorem max_before3 : ∀ c : Fin 768, k0_pay141 (F := Ideal) (bodyRun.sl.v207 (F := Ideal) cd i arg3 harg3 arg4 harg4 arg5 harg5 arg6 harg6 arg7 harg7 arg8 harg8 arg9 harg9 x0 x1 x2 d9) (ix2 0 c) = mx (sm i x0 x1 1 ⟨256 + c.val, by omega⟩) (1024 * (i 2).val + 256) := by
  have hq : (i 2).val < 4 := qi_lt i
  intro c
  unfold k0_pay141
  refine (shapeCast_1ab_ab_apply _ _ (0 : Fin 1) c).trans ?_
  refine (cov arg7.view _ _ (ix3 0 0 c) (ix3 1 0 ⟨256 + c.val, by omega⟩) (pos3 rfl rfl rfl)).trans ?_
  refine (skip _ _ _ _ _ _ (0 : Fin 3) (Or.inr (Nat.le_refl 1))).trans ?_
  refine (hit _ _ _ _ _ _ (ix3 0 0 ⟨256 + c.val, by omega⟩) (pos3 rfl rfl (by show 256 + c.val = 0 + (256 + c.val); omega))).trans ?_
  exact (max_left1 cd i arg3 harg3 arg4 harg4 arg5 harg5 arg6 harg6 arg7 harg7 arg8 harg8 arg9 harg9 x0 x1 x2 d9) ⟨256 + c.val, by omega⟩ _ (by show 256 + c.val = 0 + (256 + c.val); omega)

/-- The maxima after a step. -/
theorem max_after3 : ∀ c : Fin 768, k0_pay142 (F := Ideal) k0_pay110 (bodyRun.sl.v198 (F := Ideal) cd i arg3 harg3 arg4 harg4 arg5 harg5 arg6 harg6 arg7 harg7 arg8 harg8 arg9 harg9 x0 x1 x2 d9) (bodyRun.sl.v207 (F := Ideal) cd i arg3 harg3 arg4 harg4 arg5 harg5 arg6 harg6 arg7 harg7 arg8 harg8 arg9 harg9 x0 x1 x2 d9) (ix2 0 c) = mx (sm i x0 x1 1 ⟨256 + c.val, by omega⟩) (1024 * (i 2).val + 512) := by
  have hq : (i 2).val < 4 := qi_lt i
  intro c
  unfold k0_pay142
  exact step_max (fun c : Fin 768 => sm i x0 x1 1 ⟨256 + c.val, by omega⟩) (1024 * (i 2).val + 256) (by omega) (masked3 cd i arg3 harg3 arg4 harg4 arg5 harg5 arg6 harg6 arg7 harg7 arg8 harg8 arg9 harg9 x0 x1 x2 d9) (max_before3 cd i arg3 harg3 arg4 harg4 arg5 harg5 arg6 harg6 arg7 harg7 arg8 harg8 arg9 harg9 x0 x1 x2 d9) _ _ _ _ c

/-- The maxima a step leaves. -/
theorem max_left3 : ∀ (c : Fin 768) (C : Fin 1024), C.val = 256 + c.val → k0_pay145 (F := Ideal) (bodyRun.sl.r_5 (F := Ideal) cd i arg3 harg3 arg4 harg4 arg5 harg5 arg6 harg6 arg7 harg7 arg8 harg8 arg9 harg9 x0 x1 x2 d9) (ix3 0 0 c) = mx (sm i x0 x1 1 C) (1024 * (i 2).val + 512) := by
  have hq : (i 2).val < 4 := qi_lt i
  intro c C hC
  obtain rfl : C = ⟨256 + c.val, Nat.add_lt_add_left c.isLt 256⟩ := Fin.ext hC
  unfold bodyRun.sl.r_5 k0_pay145
  exact (shapeCast_ab_1ab_apply _ _ (0 : Fin 1) (0 : Fin 1) c).trans ((max_after3 cd i arg3 harg3 arg4 harg4 arg5 harg5 arg6 harg6 arg7 harg7 arg8 harg8 arg9 harg9 x0 x1 x2 d9) c)

/-- The weighted sums before a step. -/
theorem sum_before3 : ∀ (d : Fin 80) (c : Fin 768), (bodyRun.sl.v222 (F := Ideal) cd i arg3 harg3 arg4 harg4 arg5 harg5 arg6 harg6 arg7 harg7 arg8 harg8 arg9 harg9 x0 x1 x2 d9) (ix3 0 d c) = ws (sm i x0 x1 1 ⟨256 + c.val, by omega⟩) (vf x2 1 d) (1024 * (i 2).val + 256) := by
  have hq : (i 2).val < 4 := qi_lt i
  intro d c
  refine (cov arg8.view _ _ (ix3 0 d c) (ix3 1 d ⟨256 + c.val, by omega⟩) (pos3 rfl (Nat.zero_add _).symm rfl)).trans ?_
  refine (skip _ _ _ _ _ _ (0 : Fin 3) (Or.inr (Nat.le_refl 1))).trans ?_
  refine (hit _ _ _ _ _ _ (ix3 0 d ⟨256 + c.val, by omega⟩) (pos3 rfl (Nat.zero_add _).symm (by show 256 + c.val = 0 + (256 + c.val); omega))).trans ?_
  exact (sum_left1 cd i arg3 harg3 arg4 harg4 arg5 harg5 arg6 harg6 arg7 harg7 arg8 harg8 arg9 harg9 x0 x1 x2 d9) d ⟨256 + c.val, by omega⟩ _ (by show 256 + c.val = 0 + (256 + c.val); omega)

/-- The weighted sums a step leaves. -/
theorem sum_left3 : ∀ (d : Fin 80) (c : Fin 768) (C : Fin 1024), C.val = 256 + c.val → k0_pay144 (F := Ideal) (bodyRun.sl.r_4 (F := Ideal) cd i arg3 harg3 arg4 harg4 arg5 harg5 arg6 harg6 arg7 harg7 arg8 harg8 arg9 harg9 x0 x1 x2 d9) (bodyRun.sl.r_5 (F := Ideal) cd i arg3 harg3 arg4 harg4 arg5 harg5 arg6 harg6 arg7 harg7 arg8 harg8 arg9 harg9 x0 x1 x2 d9) (bodyRun.sl.r_6 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off12 i 1#32) S1x1x80x256.size (k0_off12_inb i 1)).toLoadRect (harg5.unread x2)) (bodyRun.sl.v222 (F := Ideal) cd i arg3 harg3 arg4 harg4 arg5 harg5 arg6 harg6 arg7 harg7 arg8 harg8 arg9 harg9 x0 x1 x2 d9) (ix3 0 d c) = ws (sm i x0 x1 1 C) (vf x2 1 d) (1024 * (i 2).val + 512) := by
  have hq : (i 2).val < 4 := qi_lt i
  intro d c C hC
  obtain rfl : C = ⟨256 + c.val, Nat.add_lt_add_left c.isLt 256⟩ := Fin.ext hC
  unfold bodyRun.sl.r_4 bodyRun.sl.r_5 bodyRun.sl.r_6 k0_pay143 k0_pay144
  refine (shapeCast_ab_1ab_apply _ _ (0 : Fin 1) d c).trans ?_
  exact step_acc (fun c : Fin 768 => sm i x0 x1 1 ⟨256 + c.val, by omega⟩) (vf x2 1) (1024 * (i 2).val + 256) (by omega) (masked3 cd i arg3 harg3 arg4 harg4 arg5 harg5 arg6 harg6 arg7 harg7 arg8 harg8 arg9 harg9 x0 x1 x2 d9) (max_before3 cd i arg3 harg3 arg4 harg4 arg5 harg5 arg6 harg6 arg7 harg7 arg8 harg8 arg9 harg9 x0 x1 x2 d9) (max_after3 cd i arg3 harg3 arg4 harg4 arg5 harg5 arg6 harg6 arg7 harg7 arg8 harg8 arg9 harg9 x0 x1 x2 d9) (fun d r => vslice (h := 1) harg5 x2 _ (off12_eq i 1 (by decide) rfl (by omega)) _ d r (by omega)) (fun d c => (shapeCast_1ab_ab_apply _ _ d c).trans ((sum_before3 cd i arg3 harg3 arg4 harg4 arg5 harg5 arg6 harg6 arg7 harg7 arg8 harg8 arg9 harg9 x0 x1 x2 d9) d c)) _ _ _ d c

/-- The scores a step reads. -/
theorem scores4 : ∀ (r : Fin 256) (c : Fin 512) (C : Fin 1024), C.val = 512 + c.val → (bodyRun.sl.v247 (F := Ideal) cd i arg3 harg3 arg4 harg4 arg5 harg5 arg6 harg6 arg7 harg7 arg8 harg8 arg9 harg9 x0 x1 x2 d9) (ix4 0 0 r c) = sc x0 x1 0 C (1024 * (i 2).val + 512 + r.val) := by
  have hq : (i 2).val < 4 := qi_lt i
  intro r c C hC
  refine (cov arg9.view _ _ (ix4 0 0 r c) (ix4 0 0 r C) (pos4 rfl rfl (Nat.zero_add _).symm hC)).trans ?_
  refine (skip _ _ _ _ _ _ (0 : Fin 4) (Or.inl Nat.zero_lt_one)).trans ?_
  refine (skip _ _ _ _ _ _ (1 : Fin 4) (Or.inl Nat.zero_lt_one)).trans ?_
  refine (hit _ _ _ _ _ _ (ix4 0 0 r c) (pos4 rfl rfl (Nat.zero_add _).symm hC)).trans ?_
  exact (ahead2 cd i arg3 harg3 arg4 harg4 arg5 harg5 arg6 harg6 arg7 harg7 arg8 harg8 arg9 harg9 x0 x1 x2 d9) r c C hC

/-- The masked scores of a step. -/
theorem masked4 : ∀ (r : Fin 256) (c : Fin 512), k0_pay147 (F := Ideal) k0_pay110 (bodyRun.sl.v247 (F := Ideal) cd i arg3 harg3 arg4 harg4 arg5 harg5 arg6 harg6 arg7 harg7 arg8 harg8 arg9 harg9 x0 x1 x2 d9) (ix2 r c) = sm i x0 x1 0 ⟨512 + c.val, by omega⟩ (1024 * (i 2).val + 512 + r.val) := by
  have hq : (i 2).val < 4 := qi_lt i
  intro r c
  unfold k0_pay147
  exact diag_tile i x0 x1 0 (1024 * (i 2).val + 512) rfl (by omega) (fun r c => (cast_drop2 _ _ r c).trans ((scores4 cd i arg3 harg3 arg4 harg4 arg5 harg5 arg6 harg6 arg7 harg7 arg8 harg8 arg9 harg9 x0 x1 x2 d9) r c _ rfl)) _ _ _ r c

/-- The maxima before a step. -/
theorem max_before4 : ∀ c : Fin 512, k0_pay148 (F := Ideal) (bodyRun.sl.v256 (F := Ideal) cd i arg3 harg3 arg4 harg4 arg5 harg5 arg6 harg6 arg7 harg7 arg8 harg8 arg9 harg9 x0 x1 x2 d9) (ix2 0 c) = mx (sm i x0 x1 0 ⟨512 + c.val, by omega⟩) (1024 * (i 2).val + 512) := by
  have hq : (i 2).val < 4 := qi_lt i
  intro c
  unfold k0_pay148
  refine (shapeCast_1ab_ab_apply _ _ (0 : Fin 1) c).trans ?_
  refine (cov arg7.view _ _ (ix3 0 0 c) (ix3 0 0 ⟨512 + c.val, by omega⟩) (pos3 rfl rfl rfl)).trans ?_
  refine (skip _ _ _ _ _ _ (0 : Fin 3) (Or.inl Nat.zero_lt_one)).trans ?_
  refine (hit _ _ _ _ _ _ (ix3 0 0 ⟨256 + c.val, by omega⟩) (pos3 rfl rfl (by show 512 + c.val = 256 + (256 + c.val); omega))).trans ?_
  exact (max_left2 cd i arg3 harg3 arg4 harg4 arg5 harg5 arg6 harg6 arg7 harg7 arg8 harg8 arg9 harg9 x0 x1 x2 d9) ⟨256 + c.val, by omega⟩ _ (by show 512 + c.val = 256 + (256 + c.val); omega)

/-- The maxima after a step. -/
theorem max_after4 : ∀ c : Fin 512, k0_pay149 (F := Ideal) k0_pay110 (bodyRun.sl.v247 (F := Ideal) cd i arg3 harg3 arg4 harg4 arg5 harg5 arg6 harg6 arg7 harg7 arg8 harg8 arg9 harg9 x0 x1 x2 d9) (bodyRun.sl.v256 (F := Ideal) cd i arg3 harg3 arg4 harg4 arg5 harg5 arg6 harg6 arg7 harg7 arg8 harg8 arg9 harg9 x0 x1 x2 d9) (ix2 0 c) = mx (sm i x0 x1 0 ⟨512 + c.val, by omega⟩) (1024 * (i 2).val + 768) := by
  have hq : (i 2).val < 4 := qi_lt i
  intro c
  unfold k0_pay149
  exact step_max (fun c : Fin 512 => sm i x0 x1 0 ⟨512 + c.val, by omega⟩) (1024 * (i 2).val + 512) (by omega) (masked4 cd i arg3 harg3 arg4 harg4 arg5 harg5 arg6 harg6 arg7 harg7 arg8 harg8 arg9 harg9 x0 x1 x2 d9) (max_before4 cd i arg3 harg3 arg4 harg4 arg5 harg5 arg6 harg6 arg7 harg7 arg8 harg8 arg9 harg9 x0 x1 x2 d9) _ _ _ _ c

/-- The maxima a step leaves. -/
theorem max_left4 : ∀ (c : Fin 512) (C : Fin 1024), C.val = 512 + c.val → (bodyRun.sl.r_7 (F := Ideal) cd i arg3 harg3 arg4 harg4 arg5 harg5 arg6 harg6 arg7 harg7 arg8 harg8 arg9 harg9 x0 x1 x2 d9) (ix3 0 0 c) = mx (sm i x0 x1 0 C) (1024 * (i 2).val + 768) := by
  have hq : (i 2).val < 4 := qi_lt i
  intro c C hC
  obtain rfl : C = ⟨512 + c.val, Nat.add_lt_add_left c.isLt 512⟩ := Fin.ext hC
  unfold bodyRun.sl.r_7 k0_pay151
  exact (shapeCast_ab_1ab_apply _ _ (0 : Fin 1) (0 : Fin 1) c).trans ((max_after4 cd i arg3 harg3 arg4 harg4 arg5 harg5 arg6 harg6 arg7 harg7 arg8 harg8 arg9 harg9 x0 x1 x2 d9) c)

/-- The weighted sums before a step. -/
theorem sum_before4 : ∀ (d : Fin 80) (c : Fin 512), (bodyRun.sl.v271 (F := Ideal) cd i arg3 harg3 arg4 harg4 arg5 harg5 arg6 harg6 arg7 harg7 arg8 harg8 arg9 harg9 x0 x1 x2 d9) (ix3 0 d c) = ws (sm i x0 x1 0 ⟨512 + c.val, by omega⟩) (vf x2 0 d) (1024 * (i 2).val + 512) := by
  have hq : (i 2).val < 4 := qi_lt i
  intro d c
  refine (cov arg8.view _ _ (ix3 0 d c) (ix3 0 d ⟨512 + c.val, by omega⟩) (pos3 rfl (Nat.zero_add _).symm rfl)).trans ?_
  refine (skip _ _ _ _ _ _ (0 : Fin 3) (Or.inl Nat.zero_lt_one)).trans ?_
  refine (hit _ _ _ _ _ _ (ix3 0 d ⟨256 + c.val, by omega⟩) (pos3 rfl (Nat.zero_add _).symm (by show 512 + c.val = 256 + (256 + c.val); omega))).trans ?_
  exact (sum_left2 cd i arg3 harg3 arg4 harg4 arg5 harg5 arg6 harg6 arg7 harg7 arg8 harg8 arg9 harg9 x0 x1 x2 d9) d ⟨256 + c.val, by omega⟩ _ (by show 512 + c.val = 256 + (256 + c.val); omega)

/-- The weighted sums a step leaves. -/
theorem sum_left4 : ∀ (d : Fin 80) (c : Fin 512) (C : Fin 1024), C.val = 512 + c.val → k0_pay150 (F := Ideal) k0_pay110 (bodyRun.sl.v247 (F := Ideal) cd i arg3 harg3 arg4 harg4 arg5 harg5 arg6 harg6 arg7 harg7 arg8 harg8 arg9 harg9 x0 x1 x2 d9) (bodyRun.sl.v256 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off10 i 2#32) S1x1x80x256.size (k0_off10_inb i 2)).toLoadRect (harg5.unread x2)) (bodyRun.sl.v271 (F := Ideal) cd i arg3 harg3 arg4 harg4 arg5 harg5 arg6 harg6 arg7 harg7 arg8 harg8 arg9 harg9 x0 x1 x2 d9) (ix3 0 d c) = ws (sm i x0 x1 0 C) (vf x2 0 d) (1024 * (i 2).val + 768) := by
  have hq : (i 2).val < 4 := qi_lt i
  intro d c C hC
  obtain rfl : C = ⟨512 + c.val, Nat.add_lt_add_left c.isLt 512⟩ := Fin.ext hC
  unfold k0_pay150
  refine (shapeCast_ab_1ab_apply _ _ (0 : Fin 1) d c).trans ?_
  exact step_acc (fun c : Fin 512 => sm i x0 x1 0 ⟨512 + c.val, by omega⟩) (vf x2 0) (1024 * (i 2).val + 512) (by omega) (masked4 cd i arg3 harg3 arg4 harg4 arg5 harg5 arg6 harg6 arg7 harg7 arg8 harg8 arg9 harg9 x0 x1 x2 d9) (max_before4 cd i arg3 harg3 arg4 harg4 arg5 harg5 arg6 harg6 arg7 harg7 arg8 harg8 arg9 harg9 x0 x1 x2 d9) (max_after4 cd i arg3 harg3 arg4 harg4 arg5 harg5 arg6 harg6 arg7 harg7 arg8 harg8 arg9 harg9 x0 x1 x2 d9) (fun d r => vslice (h := 0) harg5 x2 _ (off10_eq i 2 (by decide) rfl (by omega)) _ d r (by omega)) (fun d c => (shapeCast_1ab_ab_apply _ _ d c).trans ((sum_before4 cd i arg3 harg3 arg4 harg4 arg5 harg5 arg6 harg6 arg7 harg7 arg8 harg8 arg9 harg9 x0 x1 x2 d9) d c)) _ _ _ d c

/-- The scores a step reads. -/
theorem scores5 : ∀ (r : Fin 256) (c : Fin 512) (C : Fin 1024), C.val = 512 + c.val → (bodyRun.sl.v296 (F := Ideal) cd i arg3 harg3 arg4 harg4 arg5 harg5 arg6 harg6 arg7 harg7 arg8 harg8 arg9 harg9 x0 x1 x2 d9) (ix4 0 0 r c) = sc x0 x1 1 C (1024 * (i 2).val + 512 + r.val) := by
  have hq : (i 2).val < 4 := qi_lt i
  intro r c C hC
  refine (cov arg9.view _ _ (ix4 0 0 r c) (ix4 0 1 r C) (pos4 rfl rfl (Nat.zero_add _).symm hC)).trans ?_
  refine (skip _ _ _ _ _ _ (0 : Fin 4) (Or.inl Nat.zero_lt_one)).trans ?_
  refine (skip _ _ _ _ _ _ (0 : Fin 4) (Or.inl Nat.zero_lt_one)).trans ?_
  refine (hit _ _ _ _ _ _ (ix4 0 0 r c) (pos4 rfl rfl (Nat.zero_add _).symm hC)).trans ?_
  exact (ahead3 cd i arg3 harg3 arg4 harg4 arg5 harg5 arg6 harg6 arg7 harg7 arg8 harg8 arg9 harg9 x0 x1 x2 d9) r c C hC

/-- The masked scores of a step. -/
theorem masked5 : ∀ (r : Fin 256) (c : Fin 512), k0_pay153 (F := Ideal) k0_pay110 (bodyRun.sl.v296 (F := Ideal) cd i arg3 harg3 arg4 harg4 arg5 harg5 arg6 harg6 arg7 harg7 arg8 harg8 arg9 harg9 x0 x1 x2 d9) (ix2 r c) = sm i x0 x1 1 ⟨512 + c.val, by omega⟩ (1024 * (i 2).val + 512 + r.val) := by
  have hq : (i 2).val < 4 := qi_lt i
  intro r c
  unfold k0_pay153
  exact diag_tile i x0 x1 1 (1024 * (i 2).val + 512) rfl (by omega) (fun r c => (cast_drop2 _ _ r c).trans ((scores5 cd i arg3 harg3 arg4 harg4 arg5 harg5 arg6 harg6 arg7 harg7 arg8 harg8 arg9 harg9 x0 x1 x2 d9) r c _ rfl)) _ _ _ r c

/-- The maxima before a step. -/
theorem max_before5 : ∀ c : Fin 512, k0_pay154 (F := Ideal) (bodyRun.sl.v305 (F := Ideal) cd i arg3 harg3 arg4 harg4 arg5 harg5 arg6 harg6 arg7 harg7 arg8 harg8 arg9 harg9 x0 x1 x2 d9) (ix2 0 c) = mx (sm i x0 x1 1 ⟨512 + c.val, by omega⟩) (1024 * (i 2).val + 512) := by
  have hq : (i 2).val < 4 := qi_lt i
  intro c
  unfold k0_pay154
  refine (shapeCast_1ab_ab_apply _ _ (0 : Fin 1) c).trans ?_
  refine (cov arg7.view _ _ (ix3 0 0 c) (ix3 1 0 ⟨512 + c.val, by omega⟩) (pos3 rfl rfl rfl)).trans ?_
  refine (skip _ _ _ _ _ _ (0 : Fin 3) (Or.inr (Nat.le_refl 1))).trans ?_
  refine (hit _ _ _ _ _ _ (ix3 0 0 ⟨256 + c.val, by omega⟩) (pos3 rfl rfl (by show 512 + c.val = 256 + (256 + c.val); omega))).trans ?_
  exact (max_left3 cd i arg3 harg3 arg4 harg4 arg5 harg5 arg6 harg6 arg7 harg7 arg8 harg8 arg9 harg9 x0 x1 x2 d9) ⟨256 + c.val, by omega⟩ _ (by show 512 + c.val = 256 + (256 + c.val); omega)

/-- The maxima after a step. -/
theorem max_after5 : ∀ c : Fin 512, k0_pay155 (F := Ideal) k0_pay110 (bodyRun.sl.v296 (F := Ideal) cd i arg3 harg3 arg4 harg4 arg5 harg5 arg6 harg6 arg7 harg7 arg8 harg8 arg9 harg9 x0 x1 x2 d9) (bodyRun.sl.v305 (F := Ideal) cd i arg3 harg3 arg4 harg4 arg5 harg5 arg6 harg6 arg7 harg7 arg8 harg8 arg9 harg9 x0 x1 x2 d9) (ix2 0 c) = mx (sm i x0 x1 1 ⟨512 + c.val, by omega⟩) (1024 * (i 2).val + 768) := by
  have hq : (i 2).val < 4 := qi_lt i
  intro c
  unfold k0_pay155
  exact step_max (fun c : Fin 512 => sm i x0 x1 1 ⟨512 + c.val, by omega⟩) (1024 * (i 2).val + 512) (by omega) (masked5 cd i arg3 harg3 arg4 harg4 arg5 harg5 arg6 harg6 arg7 harg7 arg8 harg8 arg9 harg9 x0 x1 x2 d9) (max_before5 cd i arg3 harg3 arg4 harg4 arg5 harg5 arg6 harg6 arg7 harg7 arg8 harg8 arg9 harg9 x0 x1 x2 d9) _ _ _ _ c

/-- The maxima a step leaves. -/
theorem max_left5 : ∀ (c : Fin 512) (C : Fin 1024), C.val = 512 + c.val → k0_pay158 (F := Ideal) (bodyRun.sl.r_9 (F := Ideal) cd i arg3 harg3 arg4 harg4 arg5 harg5 arg6 harg6 arg7 harg7 arg8 harg8 arg9 harg9 x0 x1 x2 d9) (ix3 0 0 c) = mx (sm i x0 x1 1 C) (1024 * (i 2).val + 768) := by
  have hq : (i 2).val < 4 := qi_lt i
  intro c C hC
  obtain rfl : C = ⟨512 + c.val, Nat.add_lt_add_left c.isLt 512⟩ := Fin.ext hC
  unfold bodyRun.sl.r_9 k0_pay158
  exact (shapeCast_ab_1ab_apply _ _ (0 : Fin 1) (0 : Fin 1) c).trans ((max_after5 cd i arg3 harg3 arg4 harg4 arg5 harg5 arg6 harg6 arg7 harg7 arg8 harg8 arg9 harg9 x0 x1 x2 d9) c)

/-- The weighted sums before a step. -/
theorem sum_before5 : ∀ (d : Fin 80) (c : Fin 512), (bodyRun.sl.v320 (F := Ideal) cd i arg3 harg3 arg4 harg4 arg5 harg5 arg6 harg6 arg7 harg7 arg8 harg8 arg9 harg9 x0 x1 x2 d9) (ix3 0 d c) = ws (sm i x0 x1 1 ⟨512 + c.val, by omega⟩) (vf x2 1 d) (1024 * (i 2).val + 512) := by
  have hq : (i 2).val < 4 := qi_lt i
  intro d c
  refine (cov arg8.view _ _ (ix3 0 d c) (ix3 1 d ⟨512 + c.val, by omega⟩) (pos3 rfl (Nat.zero_add _).symm rfl)).trans ?_
  refine (skip _ _ _ _ _ _ (0 : Fin 3) (Or.inr (Nat.le_refl 1))).trans ?_
  refine (hit _ _ _ _ _ _ (ix3 0 d ⟨256 + c.val, by omega⟩) (pos3 rfl (Nat.zero_add _).symm (by show 512 + c.val = 256 + (256 + c.val); omega))).trans ?_
  exact (sum_left3 cd i arg3 harg3 arg4 harg4 arg5 harg5 arg6 harg6 arg7 harg7 arg8 harg8 arg9 harg9 x0 x1 x2 d9) d ⟨256 + c.val, by omega⟩ _ (by show 512 + c.val = 256 + (256 + c.val); omega)

/-- The weighted sums a step leaves. -/
theorem sum_left5 : ∀ (d : Fin 80) (c : Fin 512) (C : Fin 1024), C.val = 512 + c.val → k0_pay157 (F := Ideal) (bodyRun.sl.r_8 (F := Ideal) cd i arg3 harg3 arg4 harg4 arg5 harg5 arg6 harg6 arg7 harg7 arg8 harg8 arg9 harg9 x0 x1 x2 d9) (bodyRun.sl.r_9 (F := Ideal) cd i arg3 harg3 arg4 harg4 arg5 harg5 arg6 harg6 arg7 harg7 arg8 harg8 arg9 harg9 x0 x1 x2 d9) (bodyRun.sl.r_10 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off12 i 2#32) S1x1x80x256.size (k0_off12_inb i 2)).toLoadRect (harg5.unread x2)) (bodyRun.sl.v320 (F := Ideal) cd i arg3 harg3 arg4 harg4 arg5 harg5 arg6 harg6 arg7 harg7 arg8 harg8 arg9 harg9 x0 x1 x2 d9) (ix3 0 d c) = ws (sm i x0 x1 1 C) (vf x2 1 d) (1024 * (i 2).val + 768) := by
  have hq : (i 2).val < 4 := qi_lt i
  intro d c C hC
  obtain rfl : C = ⟨512 + c.val, Nat.add_lt_add_left c.isLt 512⟩ := Fin.ext hC
  unfold bodyRun.sl.r_8 bodyRun.sl.r_9 bodyRun.sl.r_10 k0_pay156 k0_pay157
  refine (shapeCast_ab_1ab_apply _ _ (0 : Fin 1) d c).trans ?_
  exact step_acc (fun c : Fin 512 => sm i x0 x1 1 ⟨512 + c.val, by omega⟩) (vf x2 1) (1024 * (i 2).val + 512) (by omega) (masked5 cd i arg3 harg3 arg4 harg4 arg5 harg5 arg6 harg6 arg7 harg7 arg8 harg8 arg9 harg9 x0 x1 x2 d9) (max_before5 cd i arg3 harg3 arg4 harg4 arg5 harg5 arg6 harg6 arg7 harg7 arg8 harg8 arg9 harg9 x0 x1 x2 d9) (max_after5 cd i arg3 harg3 arg4 harg4 arg5 harg5 arg6 harg6 arg7 harg7 arg8 harg8 arg9 harg9 x0 x1 x2 d9) (fun d r => vslice (h := 1) harg5 x2 _ (off12_eq i 2 (by decide) rfl (by omega)) _ d r (by omega)) (fun d c => (shapeCast_1ab_ab_apply _ _ d c).trans ((sum_before5 cd i arg3 harg3 arg4 harg4 arg5 harg5 arg6 harg6 arg7 harg7 arg8 harg8 arg9 harg9 x0 x1 x2 d9) d c)) _ _ _ d c

/-- The scores a step reads. -/
theorem scores6 : ∀ (r : Fin 256) (c : Fin 256) (C : Fin 1024), C.val = 768 + c.val → (bodyRun.sl.v332 (F := Ideal) cd i arg3 harg3 arg4 harg4 arg5 harg5 arg6 harg6 arg7 harg7 arg8 harg8 arg9 harg9 x0 x1 x2 d9) (ix4 0 0 r c) = sc x0 x1 0 C (1024 * (i 2).val + 768 + r.val) := by
  have hq : (i 2).val < 4 := qi_lt i
  intro r c C hC
  refine (cov arg9.view _ _ (ix4 0 0 r c) (ix4 1 0 r C) (pos4 rfl rfl (Nat.zero_add _).symm hC)).trans ?_
  refine (skip _ _ _ _ _ _ (1 : Fin 4) (Or.inl Nat.zero_lt_one)).trans ?_
  refine (hit _ _ _ _ _ _ (ix4 0 0 r c) (pos4 rfl rfl (Nat.zero_add _).symm hC)).trans ?_
  exact (ahead4 cd i arg3 harg3 arg4 harg4 arg5 harg5 arg6 harg6 arg7 harg7 arg8 harg8 arg9 harg9 x0 x1 x2 d9) r c C hC

/-- The masked scores of a step. -/
theorem masked6 : ∀ (r : Fin 256) (c : Fin 256), k0_pay159 (F := Ideal) k0_pay110 (bodyRun.sl.v332 (F := Ideal) cd i arg3 harg3 arg4 harg4 arg5 harg5 arg6 harg6 arg7 harg7 arg8 harg8 arg9 harg9 x0 x1 x2 d9) (ix2 r c) = sm i x0 x1 0 ⟨768 + c.val, by omega⟩ (1024 * (i 2).val + 768 + r.val) := by
  have hq : (i 2).val < 4 := qi_lt i
  intro r c
  unfold k0_pay159
  exact diag_tile_last i x0 x1 0 (1024 * (i 2).val + 768) rfl (fun r c => (cast_drop2 _ _ r c).trans ((scores6 cd i arg3 harg3 arg4 harg4 arg5 harg5 arg6 harg6 arg7 harg7 arg8 harg8 arg9 harg9 x0 x1 x2 d9) r c _ rfl)) r c

/-- The maxima before a step. -/
theorem max_before6 : ∀ c : Fin 256, k0_pay160 (F := Ideal) (bodyRun.sl.v338 (F := Ideal) cd i arg3 harg3 arg4 harg4 arg5 harg5 arg6 harg6 arg7 harg7 arg8 harg8 arg9 harg9 x0 x1 x2 d9) (ix2 0 c) = mx (sm i x0 x1 0 ⟨768 + c.val, by omega⟩) (1024 * (i 2).val + 768) := by
  have hq : (i 2).val < 4 := qi_lt i
  intro c
  unfold k0_pay160
  refine (shapeCast_1ab_ab_apply _ _ (0 : Fin 1) c).trans ?_
  refine (cov arg7.view _ _ (ix3 0 0 c) (ix3 0 0 ⟨768 + c.val, by omega⟩) (pos3 rfl rfl rfl)).trans ?_
  refine (skip _ _ _ _ _ _ (0 : Fin 3) (Or.inl Nat.zero_lt_one)).trans ?_
  refine (hit _ _ _ _ _ _ (ix3 0 0 ⟨256 + c.val, by omega⟩) (pos3 rfl rfl (by show 768 + c.val = 512 + (256 + c.val); omega))).trans ?_
  exact (max_left4 cd i arg3 harg3 arg4 harg4 arg5 harg5 arg6 harg6 arg7 harg7 arg8 harg8 arg9 harg9 x0 x1 x2 d9) ⟨256 + c.val, by omega⟩ _ (by show 768 + c.val = 512 + (256 + c.val); omega)

/-- The maxima after a step. -/
theorem max_after6 : ∀ c : Fin 256, k0_pay161 (F := Ideal) k0_pay110 (bodyRun.sl.v332 (F := Ideal) cd i arg3 harg3 arg4 harg4 arg5 harg5 arg6 harg6 arg7 harg7 arg8 harg8 arg9 harg9 x0 x1 x2 d9) (bodyRun.sl.v338 (F := Ideal) cd i arg3 harg3 arg4 harg4 arg5 harg5 arg6 harg6 arg7 harg7 arg8 harg8 arg9 harg9 x0 x1 x2 d9) (ix2 0 c) = mx (sm i x0 x1 0 ⟨768 + c.val, by omega⟩) (1024 * (i 2).val + 1024) := by
  have hq : (i 2).val < 4 := qi_lt i
  intro c
  unfold k0_pay161
  exact step_max (fun c : Fin 256 => sm i x0 x1 0 ⟨768 + c.val, by omega⟩) (1024 * (i 2).val + 768) (by omega) (masked6 cd i arg3 harg3 arg4 harg4 arg5 harg5 arg6 harg6 arg7 harg7 arg8 harg8 arg9 harg9 x0 x1 x2 d9) (max_before6 cd i arg3 harg3 arg4 harg4 arg5 harg5 arg6 harg6 arg7 harg7 arg8 harg8 arg9 harg9 x0 x1 x2 d9) _ _ _ _ c

/-- The maxima a step leaves. -/
theorem max_left6 : ∀ (c : Fin 256) (C : Fin 1024), C.val = 768 + c.val → k0_pay164 (F := Ideal) (bodyRun.sl.r_12 (F := Ideal) cd i arg3 harg3 arg4 harg4 arg5 harg5 arg6 harg6 arg7 harg7 arg8 harg8 arg9 harg9 x0 x1 x2 d9) (ix3 0 0 c) = mx (sm i x0 x1 0 C) (1024 * (i 2).val + 1024) := by
  have hq : (i 2).val < 4 := qi_lt i
  intro c C hC
  obtain rfl : C = ⟨768 + c.val, Nat.add_lt_add_left c.isLt 768⟩ := Fin.ext hC
  unfold bodyRun.sl.r_12 k0_pay164
  exact (shapeCast_ab_1ab_apply _ _ (0 : Fin 1) (0 : Fin 1) c).trans ((max_after6 cd i arg3 harg3 arg4 harg4 arg5 harg5 arg6 harg6 arg7 harg7 arg8 harg8 arg9 harg9 x0 x1 x2 d9) c)

/-- The weighted sums before a step. -/
theorem sum_before6 : ∀ (d : Fin 80) (c : Fin 256), (bodyRun.sl.v353 (F := Ideal) cd i arg3 harg3 arg4 harg4 arg5 harg5 arg6 harg6 arg7 harg7 arg8 harg8 arg9 harg9 x0 x1 x2 d9) (ix3 0 d c) = ws (sm i x0 x1 0 ⟨768 + c.val, by omega⟩) (vf x2 0 d) (1024 * (i 2).val + 768) := by
  have hq : (i 2).val < 4 := qi_lt i
  intro d c
  refine (cov arg8.view _ _ (ix3 0 d c) (ix3 0 d ⟨768 + c.val, by omega⟩) (pos3 rfl (Nat.zero_add _).symm rfl)).trans ?_
  refine (skip _ _ _ _ _ _ (0 : Fin 3) (Or.inl Nat.zero_lt_one)).trans ?_
  refine (hit _ _ _ _ _ _ (ix3 0 d ⟨256 + c.val, by omega⟩) (pos3 rfl (Nat.zero_add _).symm (by show 768 + c.val = 512 + (256 + c.val); omega))).trans ?_
  exact (sum_left4 cd i arg3 harg3 arg4 harg4 arg5 harg5 arg6 harg6 arg7 harg7 arg8 harg8 arg9 harg9 x0 x1 x2 d9) d ⟨256 + c.val, by omega⟩ _ (by show 768 + c.val = 512 + (256 + c.val); omega)

/-- The weighted sums a step leaves. -/
theorem sum_left6 : ∀ (d : Fin 80) (c : Fin 256) (C : Fin 1024), C.val = 768 + c.val → k0_pay163 (F := Ideal) (bodyRun.sl.r_11 (F := Ideal) cd i arg3 harg3 arg4 harg4 arg5 harg5 arg6 harg6 arg7 harg7 arg8 harg8 arg9 harg9 x0 x1 x2 d9) (bodyRun.sl.r_12 (F := Ideal) cd i arg3 harg3 arg4 harg4 arg5 harg5 arg6 harg6 arg7 harg7 arg8 harg8 arg9 harg9 x0 x1 x2 d9) (bodyRun.sl.r_13 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off10 i 3#32) S1x1x80x256.size (k0_off10_inb i 3)).toLoadRect (harg5.unread x2)) (bodyRun.sl.v353 (F := Ideal) cd i arg3 harg3 arg4 harg4 arg5 harg5 arg6 harg6 arg7 harg7 arg8 harg8 arg9 harg9 x0 x1 x2 d9) (ix3 0 d c) = ws (sm i x0 x1 0 C) (vf x2 0 d) (1024 * (i 2).val + 1024) := by
  have hq : (i 2).val < 4 := qi_lt i
  intro d c C hC
  obtain rfl : C = ⟨768 + c.val, Nat.add_lt_add_left c.isLt 768⟩ := Fin.ext hC
  unfold bodyRun.sl.r_11 bodyRun.sl.r_12 bodyRun.sl.r_13 k0_pay162 k0_pay163
  refine (shapeCast_ab_1ab_apply _ _ (0 : Fin 1) d c).trans ?_
  exact step_acc (fun c : Fin 256 => sm i x0 x1 0 ⟨768 + c.val, by omega⟩) (vf x2 0) (1024 * (i 2).val + 768) (by omega) (masked6 cd i arg3 harg3 arg4 harg4 arg5 harg5 arg6 harg6 arg7 harg7 arg8 harg8 arg9 harg9 x0 x1 x2 d9) (max_before6 cd i arg3 harg3 arg4 harg4 arg5 harg5 arg6 harg6 arg7 harg7 arg8 harg8 arg9 harg9 x0 x1 x2 d9) (max_after6 cd i arg3 harg3 arg4 harg4 arg5 harg5 arg6 harg6 arg7 harg7 arg8 harg8 arg9 harg9 x0 x1 x2 d9) (fun d r => vslice (h := 0) harg5 x2 _ (off10_eq i 3 (by decide) rfl (by omega)) _ d r (by omega)) (fun d c => (shapeCast_1ab_ab_apply _ _ d c).trans ((sum_before6 cd i arg3 harg3 arg4 harg4 arg5 harg5 arg6 harg6 arg7 harg7 arg8 harg8 arg9 harg9 x0 x1 x2 d9) d c)) _ _ _ d c

/-- The scores a step reads. -/
theorem scores7 : ∀ (r : Fin 256) (c : Fin 256) (C : Fin 1024), C.val = 768 + c.val → (bodyRun.sl.v365 (F := Ideal) cd i arg3 harg3 arg4 harg4 arg5 harg5 arg6 harg6 arg7 harg7 arg8 harg8 arg9 harg9 x0 x1 x2 d9) (ix4 0 0 r c) = sc x0 x1 1 C (1024 * (i 2).val + 768 + r.val) := by
  have hq : (i 2).val < 4 := qi_lt i
  intro r c C hC
  refine (cov arg9.view _ _ (ix4 0 0 r c) (ix4 1 1 r C) (pos4 rfl rfl (Nat.zero_add _).symm hC)).trans ?_
  refine (hit _ _ _ _ _ _ (ix4 0 0 r c) (pos4 rfl rfl (Nat.zero_add _).symm hC)).trans ?_
  exact (ahead5 cd i arg3 harg3 arg4 harg4 arg5 harg5 arg6 harg6 arg7 harg7 arg8 harg8 arg9 harg9 x0 x1 x2 d9) r c C hC

/-- The masked scores of a step. -/
theorem masked7 : ∀ (r : Fin 256) (c : Fin 256), k0_pay165 (F := Ideal) k0_pay110 (bodyRun.sl.v365 (F := Ideal) cd i arg3 harg3 arg4 harg4 arg5 harg5 arg6 harg6 arg7 harg7 arg8 harg8 arg9 harg9 x0 x1 x2 d9) (ix2 r c) = sm i x0 x1 1 ⟨768 + c.val, by omega⟩ (1024 * (i 2).val + 768 + r.val) := by
  have hq : (i 2).val < 4 := qi_lt i
  intro r c
  unfold k0_pay165
  exact diag_tile_last i x0 x1 1 (1024 * (i 2).val + 768) rfl (fun r c => (cast_drop2 _ _ r c).trans ((scores7 cd i arg3 harg3 arg4 harg4 arg5 harg5 arg6 harg6 arg7 harg7 arg8 harg8 arg9 harg9 x0 x1 x2 d9) r c _ rfl)) r c

/-- The maxima before a step. -/
theorem max_before7 : ∀ c : Fin 256, k0_pay166 (F := Ideal) (bodyRun.sl.v371 (F := Ideal) cd i arg3 harg3 arg4 harg4 arg5 harg5 arg6 harg6 arg7 harg7 arg8 harg8 arg9 harg9 x0 x1 x2 d9) (ix2 0 c) = mx (sm i x0 x1 1 ⟨768 + c.val, by omega⟩) (1024 * (i 2).val + 768) := by
  have hq : (i 2).val < 4 := qi_lt i
  intro c
  unfold k0_pay166
  refine (shapeCast_1ab_ab_apply _ _ (0 : Fin 1) c).trans ?_
  refine (cov arg7.view _ _ (ix3 0 0 c) (ix3 1 0 ⟨768 + c.val, by omega⟩) (pos3 rfl rfl rfl)).trans ?_
  refine (skip _ _ _ _ _ _ (0 : Fin 3) (Or.inr (Nat.le_refl 1))).trans ?_
  refine (hit _ _ _ _ _ _ (ix3 0 0 ⟨256 + c.val, by omega⟩) (pos3 rfl rfl (by show 768 + c.val = 512 + (256 + c.val); omega))).trans ?_
  exact (max_left5 cd i arg3 harg3 arg4 harg4 arg5 harg5 arg6 harg6 arg7 harg7 arg8 harg8 arg9 harg9 x0 x1 x2 d9) ⟨256 + c.val, by omega⟩ _ (by show 768 + c.val = 512 + (256 + c.val); omega)

/-- The maxima after a step. -/
theorem max_after7 : ∀ c : Fin 256, k0_pay167 (F := Ideal) k0_pay110 (bodyRun.sl.v365 (F := Ideal) cd i arg3 harg3 arg4 harg4 arg5 harg5 arg6 harg6 arg7 harg7 arg8 harg8 arg9 harg9 x0 x1 x2 d9) (bodyRun.sl.v371 (F := Ideal) cd i arg3 harg3 arg4 harg4 arg5 harg5 arg6 harg6 arg7 harg7 arg8 harg8 arg9 harg9 x0 x1 x2 d9) (ix2 0 c) = mx (sm i x0 x1 1 ⟨768 + c.val, by omega⟩) (1024 * (i 2).val + 1024) := by
  have hq : (i 2).val < 4 := qi_lt i
  intro c
  unfold k0_pay167
  exact step_max (fun c : Fin 256 => sm i x0 x1 1 ⟨768 + c.val, by omega⟩) (1024 * (i 2).val + 768) (by omega) (masked7 cd i arg3 harg3 arg4 harg4 arg5 harg5 arg6 harg6 arg7 harg7 arg8 harg8 arg9 harg9 x0 x1 x2 d9) (max_before7 cd i arg3 harg3 arg4 harg4 arg5 harg5 arg6 harg6 arg7 harg7 arg8 harg8 arg9 harg9 x0 x1 x2 d9) _ _ _ _ c

/-- The weighted sums before a step. -/
theorem sum_before7 : ∀ (d : Fin 80) (c : Fin 256), (bodyRun.sl.v386 (F := Ideal) cd i arg3 harg3 arg4 harg4 arg5 harg5 arg6 harg6 arg7 harg7 arg8 harg8 arg9 harg9 x0 x1 x2 d9) (ix3 0 d c) = ws (sm i x0 x1 1 ⟨768 + c.val, by omega⟩) (vf x2 1 d) (1024 * (i 2).val + 768) := by
  have hq : (i 2).val < 4 := qi_lt i
  intro d c
  refine (cov arg8.view _ _ (ix3 0 d c) (ix3 1 d ⟨768 + c.val, by omega⟩) (pos3 rfl (Nat.zero_add _).symm rfl)).trans ?_
  refine (skip _ _ _ _ _ _ (0 : Fin 3) (Or.inr (Nat.le_refl 1))).trans ?_
  refine (hit _ _ _ _ _ _ (ix3 0 d ⟨256 + c.val, by omega⟩) (pos3 rfl (Nat.zero_add _).symm (by show 768 + c.val = 512 + (256 + c.val); omega))).trans ?_
  exact (sum_left5 cd i arg3 harg3 arg4 harg4 arg5 harg5 arg6 harg6 arg7 harg7 arg8 harg8 arg9 harg9 x0 x1 x2 d9) d ⟨256 + c.val, by omega⟩ _ (by show 768 + c.val = 512 + (256 + c.val); omega)

/-- The weighted sums a step leaves. -/
theorem sum_left7 : ∀ (d : Fin 80) (c : Fin 256) (C : Fin 1024), C.val = 768 + c.val → k0_pay169 (F := Ideal) (bodyRun.sl.r_14 (F := Ideal) cd i arg3 harg3 arg4 harg4 arg5 harg5 arg6 harg6 arg7 harg7 arg8 harg8 arg9 harg9 x0 x1 x2 d9) (bodyRun.sl.r_15 (F := Ideal) cd i arg3 harg3 arg4 harg4 arg5 harg5 arg6 harg6 arg7 harg7 arg8 harg8 arg9 harg9 x0 x1 x2 d9) (bodyRun.sl.r_16 (F := Ideal) cd i arg3 harg3 arg4 harg4 arg5 harg5 arg6 harg6 arg7 harg7 arg8 harg8 arg9 harg9 x0 x1 x2 d9) (View.readAt (Elt Ideal) arg5.view (Rect.unit (s := S1x2x80x4096) (k0_off12 i 3#32) S1x1x80x256.size (k0_off12_inb i 3)).toLoadRect (harg5.unread x2)) (bodyRun.sl.v386 (F := Ideal) cd i arg3 harg3 arg4 harg4 arg5 harg5 arg6 harg6 arg7 harg7 arg8 harg8 arg9 harg9 x0 x1 x2 d9) (ix3 0 d c) = ws (sm i x0 x1 1 C) (vf x2 1 d) (1024 * (i 2).val + 1024) := by
  have hq : (i 2).val < 4 := qi_lt i
  intro d c C hC
  obtain rfl : C = ⟨768 + c.val, Nat.add_lt_add_left c.isLt 768⟩ := Fin.ext hC
  unfold bodyRun.sl.r_14 bodyRun.sl.r_15 bodyRun.sl.r_16 k0_pay168 k0_pay169
  refine (shapeCast_ab_1ab_apply _ _ (0 : Fin 1) d c).trans ?_
  exact step_acc (fun c : Fin 256 => sm i x0 x1 1 ⟨768 + c.val, by omega⟩) (vf x2 1) (1024 * (i 2).val + 768) (by omega) (masked7 cd i arg3 harg3 arg4 harg4 arg5 harg5 arg6 harg6 arg7 harg7 arg8 harg8 arg9 harg9 x0 x1 x2 d9) (max_before7 cd i arg3 harg3 arg4 harg4 arg5 harg5 arg6 harg6 arg7 harg7 arg8 harg8 arg9 harg9 x0 x1 x2 d9) (max_after7 cd i arg3 harg3 arg4 harg4 arg5 harg5 arg6 harg6 arg7 harg7 arg8 harg8 arg9 harg9 x0 x1 x2 d9) (fun d r => vslice (h := 1) harg5 x2 _ (off12_eq i 3 (by decide) rfl (by omega)) _ d r (by omega)) (fun d c => (shapeCast_1ab_ab_apply _ _ d c).trans ((sum_before7 cd i arg3 harg3 arg4 harg4 arg5 harg5 arg6 harg6 arg7 harg7 arg8 harg8 arg9 harg9 x0 x1 x2 d9) d c)) _ _ _ d c

/-- The weighted sums a block ends with, of all the keys, those after a query masked. -/
theorem acc_final : ∀ (h : Fin 2) (d : Fin 80) (c' : Fin 1024),
    arg8.view.read (Elt Ideal) (arg8.view.writes (Elt Ideal) arg8.view.junk (bodyRun.sl.HS1_8 (F := Ideal) cd i arg3 harg3 arg4 harg4 arg5 harg5 arg6 harg6 arg7 harg7 arg8 harg8 arg9 harg9 x0 x1 x2 d9)) (ix3 h d c')
      = ws (sm i x0 x1 h c') (vf x2 h d) 4096 := by
  have hq : (i 2).val < 4 := qi_lt i
  intro h d c'
  match h with
  | ⟨0, _⟩ =>
    rcases Nat.lt_or_ge c'.val 256 with h1 | h1
    · refine (skip _ _ _ _ _ _ (0 : Fin 3) (Or.inl Nat.zero_lt_one)).trans ?_
      refine (skip _ _ _ _ _ _ (2 : Fin 3) (Or.inl (by show c'.val < 768; omega))).trans ?_
      refine (skip _ _ _ _ _ _ (0 : Fin 3) (Or.inl Nat.zero_lt_one)).trans ?_
      refine (skip _ _ _ _ _ _ (2 : Fin 3) (Or.inl (by show c'.val < 512; omega))).trans ?_
      refine (skip _ _ _ _ _ _ (0 : Fin 3) (Or.inl Nat.zero_lt_one)).trans ?_
      refine (skip _ _ _ _ _ _ (2 : Fin 3) (Or.inl (by show c'.val < 256; omega))).trans ?_
      refine (skip _ _ _ _ _ _ (0 : Fin 3) (Or.inl Nat.zero_lt_one)).trans ?_
      refine (hit _ _ _ _ _ _ (ix3 0 d ⟨c'.val - 0, by omega⟩) (pos3 rfl (Nat.zero_add _).symm (by show c'.val = 0 + (c'.val - 0); omega))).trans ?_
      refine ((sum_left0 cd i arg3 harg3 arg4 harg4 arg5 harg5 arg6 harg6 arg7 harg7 arg8 harg8 arg9 harg9 x0 x1 x2 d9) d ⟨c'.val - 0, by omega⟩ c' (by show c'.val = 0 + (c'.val - 0); omega)).trans ?_
      exact (ws_masked (by omega) fun k hk _ => sm_of_lt i x0 x1 0 c' (by omega)).symm
    rcases Nat.lt_or_ge c'.val 512 with h2 | h2
    · refine (skip _ _ _ _ _ _ (0 : Fin 3) (Or.inl Nat.zero_lt_one)).trans ?_
      refine (skip _ _ _ _ _ _ (2 : Fin 3) (Or.inl (by show c'.val < 768; omega))).trans ?_
      refine (skip _ _ _ _ _ _ (0 : Fin 3) (Or.inl Nat.zero_lt_one)).trans ?_
      refine (skip _ _ _ _ _ _ (2 : Fin 3) (Or.inl (by show c'.val < 512; omega))).trans ?_
      refine (skip _ _ _ _ _ _ (0 : Fin 3) (Or.inl Nat.zero_lt_one)).trans ?_
      refine (hit _ _ _ _ _ _ (ix3 0 d ⟨c'.val - 256, by omega⟩) (pos3 rfl (Nat.zero_add _).symm (by show c'.val = 256 + (c'.val - 256); omega))).trans ?_
      refine ((sum_left2 cd i arg3 harg3 arg4 harg4 arg5 harg5 arg6 harg6 arg7 harg7 arg8 harg8 arg9 harg9 x0 x1 x2 d9) d ⟨c'.val - 256, by omega⟩ c' (by show c'.val = 256 + (c'.val - 256); omega)).trans ?_
      exact (ws_masked (by omega) fun k hk _ => sm_of_lt i x0 x1 0 c' (by omega)).symm
    rcases Nat.lt_or_ge c'.val 768 with h3 | h3
    · refine (skip _ _ _ _ _ _ (0 : Fin 3) (Or.inl Nat.zero_lt_one)).trans ?_
      refine (skip _ _ _ _ _ _ (2 : Fin 3) (Or.inl (by show c'.val < 768; omega))).trans ?_
      refine (skip _ _ _ _ _ _ (0 : Fin 3) (Or.inl Nat.zero_lt_one)).trans ?_
      refine (hit _ _ _ _ _ _ (ix3 0 d ⟨c'.val - 512, by omega⟩) (pos3 rfl (Nat.zero_add _).symm (by show c'.val = 512 + (c'.val - 512); omega))).trans ?_
      refine ((sum_left4 cd i arg3 harg3 arg4 harg4 arg5 harg5 arg6 harg6 arg7 harg7 arg8 harg8 arg9 harg9 x0 x1 x2 d9) d ⟨c'.val - 512, by omega⟩ c' (by show c'.val = 512 + (c'.val - 512); omega)).trans ?_
      exact (ws_masked (by omega) fun k hk _ => sm_of_lt i x0 x1 0 c' (by omega)).symm
    refine (skip _ _ _ _ _ _ (0 : Fin 3) (Or.inl Nat.zero_lt_one)).trans ?_
    refine (hit _ _ _ _ _ _ (ix3 0 d ⟨c'.val - 768, by omega⟩) (pos3 rfl (Nat.zero_add _).symm (by show c'.val = 768 + (c'.val - 768); omega))).trans ?_
    refine ((sum_left6 cd i arg3 harg3 arg4 harg4 arg5 harg5 arg6 harg6 arg7 harg7 arg8 harg8 arg9 harg9 x0 x1 x2 d9) d ⟨c'.val - 768, by omega⟩ c' (by show c'.val = 768 + (c'.val - 768); omega)).trans ?_
    exact (ws_masked (by omega) fun k hk _ => sm_of_lt i x0 x1 0 c' (by omega)).symm
  | ⟨1, _⟩ =>
    rcases Nat.lt_or_ge c'.val 256 with h1 | h1
    · refine (skip _ _ _ _ _ _ (2 : Fin 3) (Or.inl (by show c'.val < 768; omega))).trans ?_
      refine (skip _ _ _ _ _ _ (0 : Fin 3) (Or.inr (Nat.le_refl 1))).trans ?_
      refine (skip _ _ _ _ _ _ (2 : Fin 3) (Or.inl (by show c'.val < 512; omega))).trans ?_
      refine (skip _ _ _ _ _ _ (0 : Fin 3) (Or.inr (Nat.le_refl 1))).trans ?_
      refine (skip _ _ _ _ _ _ (2 : Fin 3) (Or.inl (by show c'.val < 256; omega))).trans ?_
      refine (skip _ _ _ _ _ _ (0 : Fin 3) (Or.inr (Nat.le_refl 1))).trans ?_
      refine (hit _ _ _ _ _ _ (ix3 0 d ⟨c'.val - 0, by omega⟩) (pos3 rfl (Nat.zero_add _).symm (by show c'.val = 0 + (c'.val - 0); omega))).trans ?_
      refine ((sum_left1 cd i arg3 harg3 arg4 harg4 arg5 harg5 arg6 harg6 arg7 harg7 arg8 harg8 arg9 harg9 x0 x1 x2 d9) d ⟨c'.val - 0, by omega⟩ c' (by show c'.val = 0 + (c'.val - 0); omega)).trans ?_
      exact (ws_masked (by omega) fun k hk _ => sm_of_lt i x0 x1 1 c' (by omega)).symm
    rcases Nat.lt_or_ge c'.val 512 with h2 | h2
    · refine (skip _ _ _ _ _ _ (2 : Fin 3) (Or.inl (by show c'.val < 768; omega))).trans ?_
      refine (skip _ _ _ _ _ _ (0 : Fin 3) (Or.inr (Nat.le_refl 1))).trans ?_
      refine (skip _ _ _ _ _ _ (2 : Fin 3) (Or.inl (by show c'.val < 512; omega))).trans ?_
      refine (skip _ _ _ _ _ _ (0 : Fin 3) (Or.inr (Nat.le_refl 1))).trans ?_
      refine (hit _ _ _ _ _ _ (ix3 0 d ⟨c'.val - 256, by omega⟩) (pos3 rfl (Nat.zero_add _).symm (by show c'.val = 256 + (c'.val - 256); omega))).trans ?_
      refine ((sum_left3 cd i arg3 harg3 arg4 harg4 arg5 harg5 arg6 harg6 arg7 harg7 arg8 harg8 arg9 harg9 x0 x1 x2 d9) d ⟨c'.val - 256, by omega⟩ c' (by show c'.val = 256 + (c'.val - 256); omega)).trans ?_
      exact (ws_masked (by omega) fun k hk _ => sm_of_lt i x0 x1 1 c' (by omega)).symm
    rcases Nat.lt_or_ge c'.val 768 with h3 | h3
    · refine (skip _ _ _ _ _ _ (2 : Fin 3) (Or.inl (by show c'.val < 768; omega))).trans ?_
      refine (skip _ _ _ _ _ _ (0 : Fin 3) (Or.inr (Nat.le_refl 1))).trans ?_
      refine (hit _ _ _ _ _ _ (ix3 0 d ⟨c'.val - 512, by omega⟩) (pos3 rfl (Nat.zero_add _).symm (by show c'.val = 512 + (c'.val - 512); omega))).trans ?_
      refine ((sum_left5 cd i arg3 harg3 arg4 harg4 arg5 harg5 arg6 harg6 arg7 harg7 arg8 harg8 arg9 harg9 x0 x1 x2 d9) d ⟨c'.val - 512, by omega⟩ c' (by show c'.val = 512 + (c'.val - 512); omega)).trans ?_
      exact (ws_masked (by omega) fun k hk _ => sm_of_lt i x0 x1 1 c' (by omega)).symm
    refine (hit _ _ _ _ _ _ (ix3 0 d ⟨c'.val - 768, by omega⟩) (pos3 rfl (Nat.zero_add _).symm (by show c'.val = 768 + (c'.val - 768); omega))).trans ?_
    refine ((sum_left7 cd i arg3 harg3 arg4 harg4 arg5 harg5 arg6 harg6 arg7 harg7 arg8 harg8 arg9 harg9 x0 x1 x2 d9) d ⟨c'.val - 768, by omega⟩ c' (by show c'.val = 768 + (c'.val - 768); omega)).trans ?_
    exact (ws_masked (by omega) fun k hk _ => sm_of_lt i x0 x1 1 c' (by omega)).symm

end Cert.KernelIdeal.Fox

end
-- ==== Proof.KernelIdeal.Out.lean ====
module

public import proofs.«01_k».proof.Proof.KernelIdeal.Diag

@[expose] public section

set_option maxRecDepth 16384
set_option maxHeartbeats 4000000

noncomputable section

namespace Cert.KernelIdeal.Fox

open Idealize.ShloMosaic Idealize.ShloMosaic.TcCoe Idealize.ShloMosaic.ValueIdx
open Cert.KernelIdeal.Gen Cert.Fox
open scoped BigOperators

/-- A head's output at a query: the weighted sum of the values' row over that of the row of ones. -/
def headOut (i : grid0.Coords) (x0 : Vec Ideal S1x2x1024x128 .bf16) (x1 : Vec Ideal S1x2x4096x128 .bf16) (x2 : Vec Ideal S1x2x80x4096 .bf16)
    (h : Fin 2) (d : Fin 64) (q : Fin 1024) : EReal :=
  Ideal.div (ws (sm i x0 x1 h q) (vf x2 h ⟨d.val, by omega⟩) 4096) (ws (sm i x0 x1 h q) (vf x2 h 64) 4096)

/-- The block a grid point writes: the two heads' outputs side by side. -/
def blockOut (i : grid0.Coords) (x0 : Vec Ideal S1x2x1024x128 .bf16) (x1 : Vec Ideal S1x2x4096x128 .bf16) (x2 : Vec Ideal S1x2x80x4096 .bf16) :
    Vec Ideal S1x1024x128 .bf16 := fun y =>
  have hy : (y 2).val < 128 := (y 2).isLt
  headOut i x0 x1 x2 ⟨(y 2).val / 64, by omega⟩ ⟨(y 2).val % 64, by omega⟩ (y 1)

/-- The heads' quotients, one head. -/
theorem quotient_apply (n : FVec Ideal S1x64x1024 .f32) (l : FVec Ideal S1x1x1024 .f32) (h1 h2 h3) (d : Fin 64) (q : Fin 1024) :
    divf (F := Ideal) (shapeCast S64x1024 n h1) (broadcastTo S64x1024 (shapeCast S1x1024 l h2) h3) (ix2 d q)
      = Ideal.div (n (ix3 0 d q)) (l (ix3 0 0 q)) := by
  refine (ValueIdx.divf_apply _ _ _).trans ?_
  refine congrArg₂ Ideal.div (shapeCast_1ab_ab_apply _ _ d q) ?_
  refine (broadcastTo_1b_ab_apply _ _ d q).trans ?_
  exact shapeCast_1ab_ab_apply _ _ (0 : Fin 1) q

/-- The two heads' outputs, as stored. -/
theorem pair_apply (n0 n1 : Vec Ideal S1x64x1024 .f32) (l0 l1 : Vec Ideal S1x1x1024 .f32) (q : Fin 1024) (j : Fin 128) :
    k0_pay171 (F := Ideal) n0 l0 n1 l1 (ix2 q j)
      = if h : j.val < 64 then Ideal.div (n0 (ix3 0 ⟨j.val, h⟩ q)) (l0 (ix3 0 0 q))
        else Ideal.div (n1 (ix3 0 ⟨j.val - 64, by omega⟩ q)) (l1 (ix3 0 0 q)) := by
  unfold k0_pay171
  refine (ValueIdx.truncf_apply (ψ := .bf16) (φ := .f32) _ bitsLt_bf16_f32 (ix2 q j)).trans ?_
  refine (transpose_ix2_apply _ _ q j).trans ?_
  split
  · next h =>
    refine (concatenate_pair_apply_left (t := S128x1024) (s₁ := S64x1024) (s₂ := S64x1024) 0 _ _ _ (ix2 j q) rfl (ix2 (⟨j.val, h⟩ : Fin 64) q) (fun b => ?_)).trans ?_
    · match b with
      | ⟨0, _⟩ => rfl
      | ⟨1, _⟩ => rfl
    · exact quotient_apply n0 l0 _ _ _ ⟨j.val, h⟩ q
  · next h =>
    refine (concatenate_pair_apply_right (t := S128x1024) (s₁ := S64x1024) (s₂ := S64x1024) 0 _ _ _ (ix2 j q) rfl rfl (ix2 (⟨j.val - 64, by omega⟩ : Fin 64) q) (fun b hb => ?_) ?_).trans ?_
    · match b, hb with
      | ⟨0, _⟩, hb => exact absurd rfl hb
      | ⟨1, _⟩, _ => rfl
    · show j.val - 64 + 64 = j.val
      omega
    · exact quotient_apply n1 l1 _ _ _ _ q

variable (cd : Dev nD) (i : grid0.Coords) (arg3 : Memref sig .tc .vmem S1x2x1024x128 .bf16) (harg3 : arg3.IsWhole) (arg4 : Memref sig .tc .vmem S1x2x4096x128 .bf16) (harg4 : arg4.IsWhole) (arg5 : Memref sig .tc .vmem S1x2x80x4096 .bf16) (harg5 : arg5.IsWhole) (arg6 : Memref sig .tc .vmem S1x1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x2x256x1024 .f32) (harg9 : arg9.IsWhole)
    (x0 : Vec Ideal S1x2x1024x128 .bf16) (x1 : Vec Ideal S1x2x4096x128 .bf16) (x2 : Vec Ideal S1x2x80x4096 .bf16) (d9 : Vec Ideal S2x2x256x1024 .f32)

include cd i arg3 harg3 arg4 harg4 arg5 harg5 arg6 harg6 arg7 harg7 arg8 harg8 arg9 harg9 x0 x1 x2 d9

/-- What the body leaves in the output block. -/
theorem out_read (f : BufTy.Contents (Elt Ideal) arg6.view.ty) :
    arg6.view.read (Elt Ideal) (arg6.view.writes (Elt Ideal) f (bodyRun (F := Ideal) cd i arg3 harg3 arg4 harg4 arg5 harg5 arg6 harg6 arg7 harg7 arg8 harg8 arg9 harg9 x0 x1 x2 d9).1) = blockOut i x0 x1 x2 := by
  have hA := acc_final cd i arg3 harg3 arg4 harg4 arg5 harg5 arg6 harg6 arg7 harg7 arg8 harg8 arg9 harg9 x0 x1 x2 d9
  funext y
  obtain ⟨u, q, j, rfl⟩ : ∃ (u : Fin 1) (q : Fin 1024) (j : Fin 128), y = ix3 u q j := ⟨y 0, y 1, y 2, eq_ix3 y⟩
  obtain rfl : u = 0 := Subsingleton.elim _ _
  refine (hit _ _ _ _ _ _ (ix3 0 q j) (pos3 rfl (Nat.zero_add _).symm (Nat.zero_add _).symm)).trans ?_
  unfold k0_pay1
  refine (shapeCast_ab_1ab_apply _ _ (0 : Fin 1) q j).trans ?_
  unfold bodyRun.sl.r_17
  refine (pair_apply _ _ _ _ q j).trans ?_
  show _ = headOut i x0 x1 x2 ⟨j.val / 64, by omega⟩ ⟨j.val % 64, by omega⟩ q
  unfold headOut
  by_cases h : j.val < 64
  · rw [dif_pos h]
    have e1 : (⟨j.val / 64, by omega⟩ : Fin 2) = 0 := Fin.ext (by show j.val / 64 = 0; omega)
    rw [e1]
    refine congrArg₂ Ideal.div ?_ ?_
    · refine (cov arg8.view _ _ (ix3 0 ⟨j.val, h⟩ q) (ix3 0 ⟨j.val % 64, by omega⟩ q) (pos3 rfl (by show j.val % 64 = 0 + j.val; omega) (Nat.zero_add _).symm)).trans ?_
      exact hA 0 _ q
    · refine (cov arg8.view _ _ (ix3 0 0 q) (ix3 0 64 q) (pos3 rfl rfl (Nat.zero_add _).symm)).trans ?_
      exact hA 0 _ q
  · rw [dif_neg h]
    have e1 : (⟨j.val / 64, by omega⟩ : Fin 2) = 1 := Fin.ext (by show j.val / 64 = 1; omega)
    rw [e1]
    refine congrArg₂ Ideal.div ?_ ?_
    · refine (cov arg8.view _ _ (ix3 0 ⟨j.val - 64, by omega⟩ q) (ix3 1 ⟨j.val % 64, by omega⟩ q) (pos3 rfl (by show j.val % 64 = 0 + (j.val - 64); omega) (Nat.zero_add _).symm)).trans ?_
      exact hA 1 _ q
    · refine (cov arg8.view _ _ (ix3 0 0 q) (ix3 1 64 q) (pos3 rfl rfl (Nat.zero_add _).symm)).trans ?_
      exact hA 1 _ q

end Cert.KernelIdeal.Fox

end
-- ==== Proof.Fox.Spec.lean ====
module

public import proofs.«01_k».proof.Proof.Fox.Math
public import Idealize.ShloMosaic.Lib.ValueIdx

@[expose] public section

noncomputable section

namespace Cert.Fox

open Idealize.ShloMosaic Idealize.ShloMosaic.ValueIdx
open scoped BigOperators

/-- Queries, keys; the values with the row of ones; the heads' outputs side by side. -/
abbrev SQ : Shape := ⟨4, ![16, 6, 4096, 128]⟩
abbrev SV : Shape := ⟨4, ![16, 6, 80, 4096]⟩
abbrev SO : Shape := ⟨3, ![16, 4096, 384]⟩

/-- The logits of a query in units of log 2, the keys after it masked. -/
def lg (qa ka : SQ.Idx → EReal) (b : Fin 16) (h : Fin 6) (s : Fin 4096) (key : ℕ) : EReal :=
  if key ≤ s.val then (if hk : key < 4096 then ∑ d : Fin 128, (ka (ix4 b h ⟨key, hk⟩ d) * qa (ix4 b h s d) : EReal) else 0) else ⊥

/-- A row of the values. -/
def vr (vt : SV.Idx → EReal) (b : Fin 16) (h : Fin 6) (d : Fin 80) (key : ℕ) : EReal :=
  if hk : key < 4096 then vt (ix4 b h d ⟨key, hk⟩) else 0

/-- One entry of the attention: the weighted sum of the values over the weighted sum of the row of ones. -/
def attnAt (qa ka : SQ.Idx → EReal) (vt : SV.Idx → EReal) (b : Fin 16) (h : Fin 6) (s : Fin 4096) (d : Fin 64) : EReal :=
  Ideal.div (ws (lg qa ka b h s) (vr vt b h ⟨d.val, by omega⟩) 4096) (ws (lg qa ka b h s) (vr vt b h 64) 4096)

/-- The attention, entry by entry. -/
def attn (qa ka : SQ.Idx → EReal) (vt : SV.Idx → EReal) : SO.Idx → EReal := fun y =>
  have hy : (y 2).val < 384 := (y 2).isLt
  attnAt qa ka vt (y 0) ⟨(y 2).val / 64, by omega⟩ (y 1) ⟨(y 2).val % 64, by omega⟩

end Cert.Fox

end
-- ==== Proof.KernelIdeal.Value.lean ====
module

public import proofs.«01_k».proof.Proof.KernelIdeal.Frame
public import proofs.«01_k».proof.Proof.KernelIdeal.Out
public import proofs.«01_k».proof.Proof.Fox.Spec
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Fox
open scoped BigOperators

local notation "𝕄" => MT nD τ sig Unit (Elt Ideal) ℕ (UR sig nD τ) ℕ

variable (m : (ℓ : Loc nD τ sig) → Buf (Elt Ideal) ℓ) (ρ : Dev nD → PrngReg)

/-- What the pipeline holds, the output block of a point named. -/
def vdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (grid0.coords t) (iblk m c 0 t) (iblk m c 1 t) (iblk m c 2 t)
  Φ _ := Pipeline.ΦA spec0 c
  q _ := fullShare
  owed _ := 0

theorem vdat_A (c : Dev nD) (w : Fin cfg0.W) : (vdat m 0 c).A w = V m c (Pipeline.arrRef spec0 w) := by
  dsimp only [vdat]
theorem vdat_after0 (c : Dev nD) (t : Fin cfg0.N) : (vdat m 0 c).after 0 t = iblk m c 0 t := by dsimp only [vdat]
theorem vdat_after1 (c : Dev nD) (t : Fin cfg0.N) : (vdat m 0 c).after 1 t = iblk m c 1 t := by dsimp only [vdat]
theorem vdat_after2 (c : Dev nD) (t : Fin cfg0.N) : (vdat m 0 c).after 2 t = iblk m c 2 t := by dsimp only [vdat]
theorem vdat_before0 (c : Dev nD) (t : Fin cfg0.N) (d) : (vdat m 0 c).before 0 t d = iblk m c 0 t :=
  before0_0_of m (vdat m 0 c) (vdat_A m c 0) (vdat_after0 m c) t d
theorem vdat_before1 (c : Dev nD) (t : Fin cfg0.N) (d) : (vdat m 0 c).before 1 t d = iblk m c 1 t :=
  before0_1_of m (vdat m 0 c) (vdat_A m c 1) (vdat_after1 m c) t d
theorem vdat_before2 (c : Dev nD) (t : Fin cfg0.N) (d) : (vdat m 0 c).before 2 t d = iblk m c 2 t :=
  before0_2_of m (vdat m 0 c) (vdat_A m c 2) (vdat_after2 m c) t d

theorem vdat_after3 (c : Dev nD) (t : Fin cfg0.N) :
    (vdat m 0 c).after 3 t = blockOut (grid0.coords t) (iblk m c 0 t) (iblk m c 1 t) (iblk m c 2 t) := by dsimp only [vdat]

/-- What the body finds at a point. -/
def vpre (c : Dev nD) (t : Fin cfg0.N) : sProp 𝕄 :=
  iprop((vdat m 0 c).Φ t.castSucc ∗ (vdat m 0 c).owesAt () t.castSucc
    ∗ (∃ d, owns (c : Thread nD τ) (stg0 t) fullShare ((vdat m 0 c).before 0 t d))
    ∗ (∃ d, owns (c : Thread nD τ) (stg1 t) fullShare ((vdat m 0 c).before 1 t d))
    ∗ (∃ d, owns (c : Thread nD τ) (stg2 t) fullShare ((vdat m 0 c).before 2 t d))
    ∗ (∃ d, owns (c : Thread nD τ) (stg3 t) fullShare ((vdat m 0 c).before 3 t d)))

/-- What the body leaves at a point. -/
def vpost (c : Dev nD) (t : Fin cfg0.N) : sProp 𝕄 :=
  iprop((vdat m 0 c).Φ t.succ ∗ (vdat m 0 c).owesAt () t.succ
    ∗ owns (c : Thread nD τ) (stg0 t) fullShare ((vdat m 0 c).after 0 t)
    ∗ owns (c : Thread nD τ) (stg1 t) fullShare ((vdat m 0 c).after 1 t)
    ∗ owns (c : Thread nD τ) (stg2 t) fullShare ((vdat m 0 c).after 2 t)
    ∗ owns (c : Thread nD τ) (stg3 t) fullShare ((vdat m 0 c).after 3 t))

/-- The body at any point, from the one run of it. -/
theorem value_sound (c : Dev nD) (t : Fin cfg0.N) :
    vpre m c t ⊢ wp frame (wpE (defs₀ (F := Ideal)) Variants.none c none) Set.univ (bodyAt0 t) (fun _ => vpost m c t) := by
  unfold vpre vpost bodyAt0
  simp only [vdat_before0, vdat_before1, vdat_before2]
  rw [show (vdat m 0 c).Φ t.succ = (vdat m 0 c).Φ t.castSucc from rfl,
    show (vdat m 0 c).owesAt () t.succ = (vdat m 0 c).owesAt () t.castSucc from rfl,
    vdat_after0, vdat_after1, vdat_after2, vdat_after3]
  rw [show (vdat m 0 c).Φ t.castSucc = Pipeline.ΦA spec0 c from rfl, invA_eq]
  iintro ⟨⟨⟨HS0, HS1, ⟨%d9, HS2⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (iblk m c 0 t) (iblk m c 1 t) (iblk m c 2 t) d9).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%f3, H3⟩, HS0, HS1, HS2⟩
  simp only [out_read]
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The obligation of the pipeline at every point. -/
theorem value_ob (c : Dev nD) : BodyObligation (vdat m 0 c) (defs₀ (F := Ideal)) Variants.none () Set.univ := fun t => by
  rw [bigSep_W0, bigSep_W0, row_eq]
  exact triple_restated (value_sound m c t) rfl .rfl fun _ => .rfl

set_option backward.isDefEq.respectTransparency.types false in
/-- The launch, every array named at the end. -/
theorem value_post : θ_run defs (onTc (τ := τ) (main (F := Ideal))) (s₀ m ρ) (Pipeline.FramePost cfgs (vdat m) 0 (V m)) :=
  Pipeline.θ_run_frame cfgs (vdat m) (0 : Fin 1) launch0 defs₀ Variants.none m ρ main
    (hbody := fun c => (value_ob m c).loose) (hshare := fun c => (vdat m 0 c).share_full fun _ => rfl)
    (howed := fun _ _ => rfl) (V := V m) (hmain := hmain m Variants.none) (hA := vdat_A m) (hΦ := fun _ _ => rfl)

/-- A coordinate of the grid as a word. -/
theorem word_val {n : ℕ} (x : Fin n) (hn : n < 2 ^ 32) : (BitVec.ofNat 32 x.val).toNat = x.val := by
  rw [BitVec.toNat_ofNat]; exact Nat.mod_eq_of_lt (lt_trans x.isLt hn)

/-- The queries of a point. -/
theorem blk_q (c : Dev nD) (t : Fin cfg0.N) (h : Fin 2) (q : Fin 1024) (d : Fin 128)
    (h1 : 2 * (grid0.coords t 1).val + h.val < 6) (h2 : 1024 * (grid0.coords t 2).val + q.val < 4096) :
    iblk m c 0 t (ValueIdx.ix4 0 h q d) = m ((c : Thread nD τ).loc main_arg0)
      (ValueIdx.ix4 (grid0.coords t 0) ⟨2 * (grid0.coords t 1).val + h.val, h1⟩ ⟨1024 * (grid0.coords t 2).val + q.val, h2⟩ d) := by
  refine congrArg (V m c main_arg0) (funext fun a => Fin.ext ?_)
  refine (win0_0.rect_emb_val t _ a rfl).trans ?_
  match a with
  | ⟨0, _⟩ => show (BitVec.ofNat 32 (grid0.coords t 0).val).toNat * 1 + 0 = (grid0.coords t 0).val
              rw [word_val _ (by decide)]; omega
  | ⟨1, _⟩ => show (BitVec.ofNat 32 (grid0.coords t 1).val).toNat * 2 + h.val = 2 * (grid0.coords t 1).val + h.val
              rw [word_val _ (by decide)]; omega
  | ⟨2, _⟩ => show (BitVec.ofNat 32 (grid0.coords t 2).val).toNat * 1024 + q.val = 1024 * (grid0.coords t 2).val + q.val
              rw [word_val _ (by decide)]; omega
  | ⟨3, _⟩ => show 0 * 128 + d.val = d.val
              omega

/-- The keys of a point. -/
theorem blk_k (c : Dev nD) (t : Fin cfg0.N) (h : Fin 2) (k : Fin 4096) (d : Fin 128) (h1 : 2 * (grid0.coords t 1).val + h.val < 6) :
    iblk m c 1 t (ValueIdx.ix4 0 h k d) = m ((c : Thread nD τ).loc main_arg1)
      (ValueIdx.ix4 (grid0.coords t 0) ⟨2 * (grid0.coords t 1).val + h.val, h1⟩ k d) := by
  refine congrArg (V m c main_arg1) (funext fun a => Fin.ext ?_)
  refine (win0_1.rect_emb_val t _ a rfl).trans ?_
  match a with
  | ⟨0, _⟩ => show (BitVec.ofNat 32 (grid0.coords t 0).val).toNat * 1 + 0 = (grid0.coords t 0).val
              rw [word_val _ (by decide)]; omega
  | ⟨1, _⟩ => show (BitVec.ofNat 32 (grid0.coords t 1).val).toNat * 2 + h.val = 2 * (grid0.coords t 1).val + h.val
              rw [word_val _ (by decide)]; omega
  | ⟨2, _⟩ => show 0 * 4096 + k.val = k.val
              omega
  | ⟨3, _⟩ => show 0 * 128 + d.val = d.val
              omega

/-- The values of a point. -/
theorem blk_v (c : Dev nD) (t : Fin cfg0.N) (h : Fin 2) (d : Fin 80) (k : Fin 4096) (h1 : 2 * (grid0.coords t 1).val + h.val < 6) :
    iblk m c 2 t (ValueIdx.ix4 0 h d k) = m ((c : Thread nD τ).loc main_arg2)
      (ValueIdx.ix4 (grid0.coords t 0) ⟨2 * (grid0.coords t 1).val + h.val, h1⟩ d k) := by
  refine congrArg (V m c main_arg2) (funext fun a => Fin.ext ?_)
  refine (win0_2.rect_emb_val t _ a rfl).trans ?_
  match a with
  | ⟨0, _⟩ => show (BitVec.ofNat 32 (grid0.coords t 0).val).toNat * 1 + 0 = (grid0.coords t 0).val
              rw [word_val _ (by decide)]; omega
  | ⟨1, _⟩ => show (BitVec.ofNat 32 (grid0.coords t 1).val).toNat * 2 + h.val = 2 * (grid0.coords t 1).val + h.val
              rw [word_val _ (by decide)]; omega
  | ⟨2, _⟩ => show 0 * 80 + d.val = d.val
              omega
  | ⟨3, _⟩ => show 0 * 4096 + k.val = k.val
              omega

/-- A point's heads are those of the whole attention. -/
theorem head_eq (c : Dev nD) (t : Fin cfg0.N) (h : Fin 2) (d : Fin 64) (q : Fin 1024)
    (h1 : 2 * (grid0.coords t 1).val + h.val < 6) (h2 : 1024 * (grid0.coords t 2).val + q.val < 4096) :
    headOut (grid0.coords t) (iblk m c 0 t) (iblk m c 1 t) (iblk m c 2 t) h d q
      = attnAt (m ((c : Thread nD τ).loc main_arg0)) (m ((c : Thread nD τ).loc main_arg1)) (m ((c : Thread nD τ).loc main_arg2))
          (grid0.coords t 0) ⟨2 * (grid0.coords t 1).val + h.val, h1⟩ ⟨1024 * (grid0.coords t 2).val + q.val, h2⟩ d := by
  have es : sm (grid0.coords t) (iblk m c 0 t) (iblk m c 1 t) h q
      = lg (m ((c : Thread nD τ).loc main_arg0)) (m ((c : Thread nD τ).loc main_arg1)) (grid0.coords t 0)
          ⟨2 * (grid0.coords t 1).val + h.val, h1⟩ ⟨1024 * (grid0.coords t 2).val + q.val, h2⟩ := by
    funext key
    unfold sm lg sc
    refine if_congr Iff.rfl ?_ rfl
    split
    · exact Finset.sum_congr rfl fun d _ => congrArg₂ (fun a b : EReal => a * b) (blk_k m c t h _ d h1) (blk_q m c t h q d h1 h2)
    · rfl
  have ev : ∀ d, vf (iblk m c 2 t) h d
      = vr (m ((c : Thread nD τ).loc main_arg2)) (grid0.coords t 0) ⟨2 * (grid0.coords t 1).val + h.val, h1⟩ d := by
    intro d; funext key
    unfold vf vr
    split
    · exact blk_v m c t h d _ h1
    · rfl
  unfold headOut attnAt
  rw [es, ev, ev]

/-- The output array after the launch. -/
theorem arr_eq (c : Dev nD) : (vdat m 0 c).arrAt 3 cfg0.N
    = attn (m ((c : Thread nD τ).loc main_arg0)) (m ((c : Thread nD τ).loc main_arg1)) (m ((c : Thread nD τ).loc main_arg2)) := by
  refine (vdat m 0 c).arrAt_eq_of_covers 3 _ (by decide +kernel) fun t _ y => ?_
  obtain ⟨u, q, j, rfl⟩ : ∃ (u : Fin 1) (q : Fin 1024) (j : Fin 128), y = ValueIdx.ix3 u q j := ⟨y 0, y 1, y 2, ValueIdx.eq_ix3 y⟩
  have hi1 : (grid0.coords t 1).val < 3 := (grid0.coords t 1).isLt
  have hi2 : (grid0.coords t 2).val < 4 := (grid0.coords t 2).isLt
  have e0 : ((win0_3.blk t).view.emb (ValueIdx.ix3 u q j) 0 : ℕ) = (grid0.coords t 0).val := by
    refine (win0_3.rect_emb_val t _ 0 rfl).trans ?_
    show (BitVec.ofNat 32 (grid0.coords t 0).val).toNat * 1 + u.val = (grid0.coords t 0).val
    rw [word_val _ (by decide)]; omega
  have e1 : ((win0_3.blk t).view.emb (ValueIdx.ix3 u q j) 1 : ℕ) = 1024 * (grid0.coords t 2).val + q.val := by
    refine (win0_3.rect_emb_val t _ 1 rfl).trans ?_
    show (BitVec.ofNat 32 (grid0.coords t 2).val).toNat * 1024 + q.val = _
    rw [word_val _ (by decide)]; omega
  have e2 : ((win0_3.blk t).view.emb (ValueIdx.ix3 u q j) 2 : ℕ) = 128 * (grid0.coords t 1).val + j.val := by
    refine (win0_3.rect_emb_val t _ 2 rfl).trans ?_
    show (BitVec.ofNat 32 (grid0.coords t 1).val).toNat * 128 + j.val = _
    rw [word_val _ (by decide)]; omega
  show headOut (grid0.coords t) (iblk m c 0 t) (iblk m c 1 t) (iblk m c 2 t) ⟨j.val / 64, by omega⟩ ⟨j.val % 64, by omega⟩ q = _
  rw [head_eq m c t ⟨j.val / 64, by omega⟩ ⟨j.val % 64, by omega⟩ q (by show 2 * _ + j.val / 64 < 6; omega) (by omega)]
  show attnAt _ _ _ _ _ _ _ = attnAt _ _ _ _ _ _ _
  congr 1
  · exact Fin.ext e0.symm
  · exact Fin.ext (by show 2 * (grid0.coords t 1).val + j.val / 64 = _ / 64; rw [e2]; omega)
  · exact Fin.ext e1.symm
  · exact Fin.ext (by show j.val % 64 = _ % 64; rw [e2]; omega)

/-- The run of the kernel: the attention of its arguments, which end unchanged. -/
theorem run_value : θ_run defs (onTc (τ := τ) (main (F := Ideal))) ⟨m, fun _ => 0, ρ⟩ (fun r => ∀ c : Dev nD,
      r.2.mem ((c.tc : Thread nD τ).loc main_v0)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (arr_eq m c),
      ((h c).1 0).trans (((vdat m 0 c).arrAt_in 0 rfl _).trans ((vdat_A m c 0).trans (V_main_arg0 m c))),
      ((h c).1 1).trans (((vdat m 0 c).arrAt_in 1 rfl _).trans ((vdat_A m c 1).trans (V_main_arg1 m c))),
      ((h c).1 2).trans (((vdat m 0 c).arrAt_in 2 rfl _).trans ((vdat_A m c 2).trans (V_main_arg2 m c)))⟩) (value_post m ρ)

end Cert.KernelIdeal.Fox

end
-- ==== Proof.ReferenceIdeal.Frame.lean ====
module

public import proofs.«01_k».proof.Defs
public import proofs.«01_k».proof.Proof.Gen.ReferenceIdeal.Run
public import Idealize.ShloMosaic.Lib.Quiescent

@[expose] public section

noncomputable section

namespace Cert.ReferenceIdeal.Fox

open Idealize.ShloMosaic Idealize.SL.Sem

variable {F : FTy → Type} [FloatOps F]

/-- The reference runs, keeps its arguments, and has no counter to leave nonzero. -/
theorem frame_all (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.ReferenceIdeal.Fox

end
-- ==== Proof.Fox.Softmax.lean ====
module

public import proofs.«01_k».proof.Proof.Fox.Math
public import Mathlib.Analysis.SpecialFunctions.Pow.Real

@[expose] public section

noncomputable section

namespace Cert.Fox

open Idealize.ShloMosaic
open scoped BigOperators

/-- The logarithm of two, among the extended reals. -/
abbrev ln2 : EReal := ((Real.log 2 : ℝ) : EReal)

/-- Real logits up to key `n0` and masked ones after it. -/
def masked (a : ℕ → ℝ) (n0 : ℕ) (k : ℕ) : EReal := if k ≤ n0 then (a k : EReal) else ⊥

/-- The same logits in natural units. -/
def maskedLn (a : ℕ → ℝ) (n0 : ℕ) (k : ℕ) : EReal := if k ≤ n0 then (a k : EReal) * ln2 else ⊥

section

variable {a : ℕ → ℝ} {n0 N : ℕ} (hN : n0 < N)

include hN in
/-- The greatest logit is real and is one of the logits. -/
theorem mx_masked_real : ∃ μ : ℝ, mx (masked a n0) N = (μ : EReal) ∧ (∀ k ≤ n0, a k ≤ μ) ∧ ∃ k0 ≤ n0, a k0 = μ := by
  have hne : (Finset.range N).Nonempty := ⟨n0, Finset.mem_range.mpr hN⟩
  obtain ⟨k0, hk0, e⟩ := Finset.exists_mem_eq_sup (Finset.range N) hne (masked a n0)
  have hle : ∀ k ≤ n0, (a k : EReal) ≤ mx (masked a n0) N := fun k hk => by
    have := le_mx (masked a n0) (lt_of_le_of_lt hk hN)
    rwa [masked, if_pos hk] at this
  have e' : mx (masked a n0) N = masked a n0 k0 := e
  by_cases h : k0 ≤ n0
  · rw [masked, if_pos h] at e'
    refine ⟨a k0, e', fun k hk => ?_, k0, h, rfl⟩
    have := hle k hk
    rw [e'] at this
    exact_mod_cast this
  · rw [masked, if_neg h] at e'
    have := hle 0 (Nat.zero_le _)
    rw [e'] at this
    exact absurd (le_bot_iff.mp this) (EReal.coe_ne_bot _)

/-- The greatest logit in natural units. -/
theorem sup_maskedLn {μ : ℝ} (hle : ∀ k ≤ n0, a k ≤ μ) {k0 : ℕ} (hk0 : k0 ≤ n0) (e : a k0 = μ) (hN : n0 < N) :
    (Finset.univ.sup fun k : Fin N => maskedLn a n0 k.val) = (μ : EReal) * ln2 := by
  have hl : 0 ≤ Real.log 2 := Real.log_nonneg (by norm_num)
  apply le_antisymm
  · refine Finset.sup_le fun k _ => ?_
    unfold maskedLn
    split_ifs with h
    · have := mul_le_mul_of_nonneg_right (hle k h) hl
      exact_mod_cast this
    · exact bot_le
  · have := Finset.le_sup (f := fun k : Fin N => maskedLn a n0 k.val) (Finset.mem_univ ⟨k0, lt_of_le_of_lt hk0 hN⟩)
    simp only [maskedLn, if_pos hk0, e] at this
    exact this

/-- The natural exponential of a logit over the greatest is the power of two of the logit in units of log 2. -/
theorem exp_maskedLn (μ : ℝ) (k : ℕ) :
    Ideal.exp (maskedLn a n0 k - (μ : EReal) * ln2) = Ideal.exp2 (masked a n0 k - (μ : EReal)) := by
  unfold maskedLn masked
  split_ifs with h
  · rw [← EReal.coe_mul, ← EReal.coe_mul, ← EReal.coe_sub, ← EReal.coe_sub, Ideal.exp_coe, Ideal.exp2_coe]
    congr 1
    show _ = (2 : ℝ) ^ (a k - μ)
    rw [Real.rpow_def_of_pos (by norm_num)]
    congr 1
    ring
  · rw [← EReal.coe_mul]
    simp [sub_eq_add_neg, ← EReal.coe_neg]

include hN in
/-- The softmax of the logits in natural units, weighting the values, is the one weighted sum over the other. -/
theorem softmax_eq (v : ℕ → EReal) {m : EReal} (hm : m = Finset.univ.sup fun k : Fin N => maskedLn a n0 k.val) :
    (∑ k : Fin N, Ideal.div (Ideal.exp (maskedLn a n0 k.val - m)) (∑ k' : Fin N, Ideal.exp (maskedLn a n0 k'.val - m)) * v k.val)
      = Ideal.div (ws (masked a n0) v N) (ws (masked a n0) (fun _ => 1) N) := by
  obtain ⟨μ, hμ, hle, k0, hk0, e0⟩ := mx_masked_real (a := a) hN
  rw [sup_maskedLn hle hk0 e0 hN] at hm
  subst hm
  simp only [exp_maskedLn]
  unfold ws
  rw [hμ]
  simp only [one_mul]
  have hr : ∀ k, ∃ r : ℝ, 0 ≤ r ∧ Ideal.exp2 (masked a n0 k - (μ : EReal)) = (r : EReal) := fun k => by
    refine exp2_sub_real ?_
    unfold masked
    split_ifs with h
    · exact_mod_cast hle k h
    · exact bot_le
  choose r hr0 hre using hr
  simp only [hre]
  have hz : (∑ k ∈ Finset.range N, (r k : EReal)) = ((∑ k ∈ Finset.range N, r k : ℝ) : EReal) :=
    (map_sum (⟨⟨fun x : ℝ => (x : EReal), EReal.coe_zero⟩, EReal.coe_add⟩ : ℝ →+ EReal) r (Finset.range N)).symm
  have hone : r k0 = 1 := by
    have := hre k0
    rw [masked, if_pos hk0, e0, ← EReal.coe_sub, sub_self, Ideal.exp2_coe] at this
    have h1 : (Real.rpow 2 0 : ℝ) = r k0 := by exact_mod_cast this
    rw [← h1]
    exact Real.rpow_zero 2
  have hpos : 0 < ∑ k ∈ Finset.range N, r k :=
    lt_of_lt_of_le (by rw [hone]; norm_num) (Finset.single_le_sum (fun k _ => hr0 k) (Finset.mem_range.mpr (lt_of_le_of_lt hk0 hN)))
  rw [Fin.sum_univ_eq_sum_range (fun k => (r k : EReal)) N, hz, Ideal.div_coe hpos.ne',
    Fin.sum_univ_eq_sum_range (fun k => Ideal.div (r k : EReal) ((∑ k ∈ Finset.range N, r k : ℝ) : EReal) * v k) N,
    mul_comm, real_mul_sum (by positivity)]
  refine Finset.sum_congr rfl fun k _ => ?_
  rw [Ideal.div_coe hpos.ne', mul_comm (r k : EReal), mul_assoc, mul_comm (r k : EReal)]

end

end Cert.Fox

end
-- ==== Proof.ReferenceIdeal.Value.lean ====
module

public import proofs.«01_k».proof.Proof.Gen.ReferenceIdeal.Read
public import proofs.«01_k».proof.Proof.Fox.Spec
public import proofs.«01_k».proof.Proof.Fox.Softmax
public import Idealize.ShloMosaic.Lib.IdealHost
public import Idealize.ShloMosaic.Lib.WordCmp
public import Idealize.ShloMosaic.PureOps.Reduce

@[expose] public section

noncomputable section

namespace Cert.ReferenceIdeal.Fox

open Cert.ReferenceIdeal Cert.ReferenceIdeal.Gen Cert.ReferenceIdeal.Read Cert.Fox Idealize.ShloMosaic
open scoped BigOperators

variable (q k : SQ.Idx → EReal) (vt : SV.Idx → EReal)

/-- A logit of the reference, before the scale: a query with a key. -/
theorem dot_read (b : Fin 16) (h : Fin 6) (s t : Fin 4096) :
    val_main_v4 (F := Ideal) q k (ValueIdx.ix4 b h s t) = ∑ d : Fin 128, (k (ValueIdx.ix4 b h t d) * q (ValueIdx.ix4 b h s d) : EReal) := by
  rw [val_main_v4_apply]
  refine Finset.sum_congr rfl fun d _ => ?_
  rw [val_main_v0_apply, val_main_v1_apply]
  refine (mul_comm _ _).trans (congrArg₂ (· * ·) ?_ ?_)
  · exact congrArg k (ValueIdx.eq_ix4 _)
  · exact congrArg q (ValueIdx.eq_ix4 _)

/-- The scale is the logarithm of two. -/
theorem scale_read (i : S16x6x4096x4096.Idx) : val_main_v7 (F := Ideal) i = ln2 := by
  rw [val_main_v7_apply, val_main_v6_apply, val_main_v5_apply, val_main_cst_apply]
  show Ideal.log (Ideal.ofBits .f32 0x40000000#32) = _
  have e : Ideal.ofBits .f32 0x40000000#32 = ((2 : ℝ) : EReal) := by
    simp [Ideal.ofBits, Ideal.ieee]
    norm_cast
    norm_num
  rw [e, Ideal.log_coe, if_neg (by norm_num)]

/-- The mask: keys not after the query. -/
theorem mask_read (b : Fin 16) (h : Fin 6) (s t : Fin 4096) :
    val_main_call0_v1 (F := Ideal) (ValueIdx.ix4 b h s t) = if t.val ≤ s.val then 1#1 else 0#1 := by
  rw [val_main_call0_v1_apply, val_main_v15_apply, val_main_v13_apply, val_main_v14_apply, val_main_v10_apply, val_main_v12_apply,
    val_main_v9_apply, val_main_v11_apply]
  show IntOp.cmpi .sge (BitVec.ofNat 32 s.val) (BitVec.ofNat 32 t.val) = _
  split_ifs with hle
  · exact (WordCmp.cmpi_sge_ofNat_eq_one_iff (by omega) (by omega)).mpr hle
  · exact (WordCmp.cmpi_sge_ofNat_eq_zero_iff (by omega) (by omega)).mpr (by omega)

/-- The reals behind a query's logits. -/
def rlg (b : Fin 16) (h : Fin 6) (s : Fin 4096) (key : ℕ) : ℝ :=
  if hk : key < 4096 then (∑ d : Fin 128, (k (ValueIdx.ix4 b h ⟨key, hk⟩ d) * q (ValueIdx.ix4 b h s d) : EReal)).toReal else 0

variable (hq : ∀ i, ∃ r : ℝ, q i = (r : EReal)) (hk : ∀ i, ∃ r : ℝ, k i = (r : EReal))

section
include hq hk

/-- A query with a key is real. -/
theorem dot_real (b : Fin 16) (h : Fin 6) (s t : Fin 4096) :
    (∑ d : Fin 128, (k (ValueIdx.ix4 b h t d) * q (ValueIdx.ix4 b h s d) : EReal)) = ((rlg q k b h s t.val : ℝ) : EReal) := by
  choose rq eq using hq
  choose rk ek using hk
  have e : (∑ d : Fin 128, (k (ValueIdx.ix4 b h t d) * q (ValueIdx.ix4 b h s d) : EReal))
      = ((∑ d : Fin 128, rk (ValueIdx.ix4 b h t d) * rq (ValueIdx.ix4 b h s d) : ℝ) : EReal) := by
    rw [show ((∑ d : Fin 128, rk (ValueIdx.ix4 b h t d) * rq (ValueIdx.ix4 b h s d) : ℝ) : EReal)
        = ∑ d : Fin 128, ((rk (ValueIdx.ix4 b h t d) * rq (ValueIdx.ix4 b h s d) : ℝ) : EReal) from
      map_sum (⟨⟨fun x : ℝ => (x : EReal), EReal.coe_zero⟩, EReal.coe_add⟩ : ℝ →+ EReal) _ _]
    exact Finset.sum_congr rfl fun d _ => by rw [eq, ek, EReal.coe_mul]
  unfold rlg
  rw [dif_pos t.isLt, e]
  rfl

/-- The kernel's logits are these reals, masked after the query. -/
theorem lg_eq (b : Fin 16) (h : Fin 6) (s : Fin 4096) (key : ℕ) : lg q k b h s key = masked (rlg q k b h s) s.val key := by
  unfold lg masked
  split_ifs with hle hlt
  · exact dot_real q k hq hk b h s ⟨key, hlt⟩
  · omega
  · rfl

/-- The reference's logits, masked. -/
theorem logit_read (b : Fin 16) (h : Fin 6) (s t : Fin 4096) :
    val_main_v16 (F := Ideal) q k (ValueIdx.ix4 b h s t) = maskedLn (rlg q k b h s) s.val t.val := by
  rw [val_main_v16_apply, mask_read, val_main_v8_apply, scale_read, dot_read, dot_real q k hq hk, val_main_call0_v2_apply,
    val_main_call0_v0_apply, val_main_cst_0_apply]
  unfold maskedLn
  split_ifs with hle
  · rfl
  · show Ideal.ofBits .f32 0xFF800000#32 = ⊥
    simp [Ideal.ofBits, Ideal.ieee]

/-- The greatest logit of a query. -/
theorem rowmax_read (b : Fin 16) (h : Fin 6) (s t : Fin 4096) :
    val_main_v21 (F := Ideal) q k (ValueIdx.ix4 b h s t) = Finset.univ.sup fun t : Fin 4096 => maskedLn (rlg q k b h s) s.val t.val := by
  have hbot : Ideal.ofBits .f32 0xFF800000#32 = ⊥ := by simp [Ideal.ofBits, Ideal.ieee]
  rw [val_main_v21_apply, val_main_v20_apply, val_main_v19_apply, val_main_v18_apply, val_main_cst_2_apply]
  show max (Ideal.ofBits .f32 0xFF800000#32) _ = _
  rw [hbot, max_eq_right bot_le]
  unfold val_main_v17
  refine (Host.reduce_eq_fold_single FloatOps.maximumf _ _ _ (by decide) _ _).trans ?_
  rw [val_main_cst_1_apply]
  show Finset.fold max (Ideal.ofBits .f32 0xFF800000#32) _ _ = Finset.fold max ⊥ _ _
  rw [hbot]
  refine Finset.fold_congr fun t' _ => ?_
  refine Eq.trans (congrArg (val_main_v16 (F := Ideal) q k) ?_) (logit_read q k hq hk b h s t')
  refine (ValueIdx.eq_ix4 _).trans ?_
  rfl

/-- A weight before the division. -/
theorem weight_read (b : Fin 16) (h : Fin 6) (s t : Fin 4096) :
    val_main_v23 (F := Ideal) q k (ValueIdx.ix4 b h s t)
      = Ideal.exp (maskedLn (rlg q k b h s) s.val t.val - Finset.univ.sup fun t : Fin 4096 => maskedLn (rlg q k b h s) s.val t.val) := by
  rw [val_main_v23_apply, val_main_v22_apply, logit_read q k hq hk, rowmax_read q k hq hk]
  rfl

/-- The sum of a query's weights. -/
theorem total_read (b : Fin 16) (h : Fin 6) (s t : Fin 4096) :
    val_main_v26 (F := Ideal) q k (ValueIdx.ix4 b h s t)
      = ∑ t : Fin 4096, Ideal.exp (maskedLn (rlg q k b h s) s.val t.val - Finset.univ.sup fun t : Fin 4096 => maskedLn (rlg q k b h s) s.val t.val) := by
  rw [val_main_v26_apply, val_main_v25_apply, val_main_v24_apply, val_main_cst_3_apply]
  show Ideal.ofBits .f32 0x00000000#32 + _ = _
  rw [Ideal.ofBits_zero_f32, zero_add]
  refine Finset.sum_congr rfl fun t' _ => ?_
  rw [← weight_read q k hq hk]
  exact congrArg (val_main_v23 (F := Ideal) q k) (ValueIdx.eq_ix4 _)

/-- One head's output entry. -/
theorem head_read (b : Fin 16) (h : Fin 6) (s : Fin 4096) (d : Fin 64) :
    val_main_v28 (F := Ideal) q k vt (ValueIdx.ix4 b h s d)
      = Ideal.div (ws (lg q k b h s) (vr vt b h ⟨d.val, by omega⟩) 4096) (ws (lg q k b h s) (fun _ => 1) 4096) := by
  rw [ws_congr (fun key _ => lg_eq q k hq hk b h s key) (fun _ _ => rfl), ws_congr (fun key _ => lg_eq q k hq hk b h s key) (fun _ _ => rfl)]
  refine Eq.trans ?_ (softmax_eq s.isLt _ rfl)
  rw [val_main_v28_apply]
  refine Finset.sum_congr rfl fun t _ => congrArg₂ (· * ·) ?_ ?_
  · have e : lidx_main_v28 (ValueIdx.ix4 b h s d) t = ValueIdx.ix4 b h s t := ValueIdx.eq_ix4 _
    rw [e, val_main_v27_apply, weight_read q k hq hk, total_read q k hq hk]
    rfl
  · rw [val_main_v3_apply, val_main_v2_apply]
    unfold vr
    rw [dif_pos t.isLt]
    exact congrArg vt (ValueIdx.eq_ix4 _)

/-- The reference's result is the attention, where the values' row 64 is one throughout. -/
theorem res_eq (hv : ∀ b h s, vt (ValueIdx.ix4 b h 64 s) = 1) : val_main_v31 (F := Ideal) q k vt = attn q k vt := by
  funext y
  have hy : (y 2).val < 384 := (y 2).isLt
  have h0 : (y 0).val < 16 := (y 0).isLt
  have h1 : (y 1).val < 4096 := (y 1).isLt
  rw [val_main_v31_apply, val_main_v30_apply, val_main_v29_apply]
  have e : idx_main_v29 (idx_main_v30 y) = ValueIdx.ix4 (y 0) (⟨(y 2).val / 64, by omega⟩ : Fin 6) (y 1) (⟨(y 2).val % 64, by omega⟩ : Fin 64) := by
    funext a
    apply Fin.ext
    match a with
    | ⟨0, _⟩ => show (((y 0).val * 4096 + (y 1).val) * 384 + (y 2).val) / 1572864 = (y 0).val; omega
    | ⟨1, _⟩ => show (((y 0).val * 4096 + (y 1).val) * 384 + (y 2).val) / 64 % 6 = (y 2).val / 64; omega
    | ⟨2, _⟩ => show (((y 0).val * 4096 + (y 1).val) * 384 + (y 2).val) / 384 % 4096 = (y 1).val; omega
    | ⟨3, _⟩ => show (((y 0).val * 4096 + (y 1).val) * 384 + (y 2).val) % 64 = (y 2).val % 64; omega
  rw [e]
  refine (head_read q k vt hq hk _ _ _ _).trans ?_
  unfold attn attnAt
  refine congrArg (Ideal.div _) (ws_congr (fun _ _ => rfl) fun key hkey => ?_)
  unfold vr
  rw [dif_pos hkey]
  exact (hv _ _ _).symm

end

end Cert.ReferenceIdeal.Fox

end
-- ==== Proof.Fox.Pre.lean ====
module

public import proofs.«01_k».proof.Proof.Gen.Pre_ones_row
public import proofs.«01_k».proof.Proof.Fox.Spec
public import Idealize.ShloMosaic.Lib.IdealHost
public import Idealize.ShloMosaic.Lib.ReduceAll
public import Idealize.ShloMosaic.Lib.Pipeline.Value
public import Idealize.ShloMosaic.PureOps.Ideal.Laws

@[expose] public section

noncomputable section

namespace Cert.Fox

open Idealize.ShloMosaic
open Cert.Pre_ones_row Cert.Pre_ones_row.Gen

instance : Subsingleton (⟨0, ![]⟩ : Shape).Idx := ⟨fun a b => funext fun x => x.elim0⟩

/-- Below infinity in absolute value is real. -/
theorem real_of_abs {x : EReal} (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- What the precondition says: the queries and the keys are real, and the values' row 64 is one throughout. -/
theorem pre_read {q k : SQ.Idx → EReal} {vt : SV.Idx → EReal} (h : Cert.Pre_ones_row.fn (F := Ideal) q k vt = fun _ => 1#1) :
    (∀ i, ∃ r : ℝ, q i = (r : EReal)) ∧ (∀ i, ∃ r : ℝ, k i = (r : EReal)) ∧ ∀ b h s, vt (ValueIdx.ix4 b h 64 s) = 1 := by
  have h0 := congrFun h (fun a => a.elim0)
  unfold Cert.Pre_ones_row.fn at h0
  obtain ⟨h1, h4⟩ := IntOp.andi_eq_one.mp h0
  obtain ⟨h2, h3⟩ := IntOp.andi_eq_one.mp h1
  refine ⟨fun i => ?_, fun i => ?_, fun b hh s => ?_⟩
  · refine real_of_abs ?_
    exact Host.reduce_andi_all _ _ _ _ _ h2 i
  · refine real_of_abs ?_
    exact Host.reduce_andi_all _ _ _ _ _ h3 i
  · have := Host.reduce_andi_all _ _ _ _ _ h4 (ValueIdx.ix3 b hh s)
    have e1 : shapeCast S16x6x4096 (extractStridedSlice S16x6x1x4096 ![0, 0, 64, 0] vt Facts.slices_S16x6x80x4096_S16x6x1x4096_0_0_64_0)
        Facts.shapeCasts_S16x6x1x4096_S16x6x4096 (ValueIdx.ix3 b hh s) = vt (ValueIdx.ix4 b hh 64 s) := by
      refine (shapeCast_apply _ _ _ (ValueIdx.ix4 b hh (0 : Fin 1) s) ?_).trans ?_
      · rw [Shape.rowMajor_val_four, Shape.rowMajor_val_three]
        show ((b.val * 6 + hh.val) * 1 + 0) * 4096 + s.val = (b.val * 6 + hh.val) * 4096 + s.val
        omega
      · exact extractStridedSlice_apply _ vt _ _ _ (fun a => match a with
          | ⟨0, _⟩ => by show b.val = 0 + b.val; omega
          | ⟨1, _⟩ => by show hh.val = 0 + hh.val; omega
          | ⟨2, _⟩ => rfl
          | ⟨3, _⟩ => by show s.val = 0 + s.val; omega)
    have h5 : Ideal.cmp .oeq (vt (ValueIdx.ix4 b hh 64 s)) (Ideal.ofBits .f32 0x3F800000#32) = 1#1 := by
      rw [← e1]; exact this
    rw [Ideal.ofBits_one_f32] at h5
    by_contra hne
    simp [Ideal.cmp, hne] at h5

end Cert.Fox

end
-- ==== Proof.Ffn.Frame.lean ====
module

public import proofs.«01_k».proof.Proof.Gen.Ffn.Frame
-- ==== Proof.Rows.Ops.lean ====
module

public import Idealize.ShloMosaic.Lib.MatmulPlain
public import Idealize.ShloMosaic.Lib.ValueLayout
public import Idealize.ShloMosaic.Lib.ValueIdx
public import Idealize.ShloMosaic.Lib.Pipeline.Value
public import Idealize.ShloMosaic.PureOps.Ideal.Laws

@[expose] public section

noncomputable section

namespace Cert.Rows

open Idealize.ShloMosaic Idealize.ShloMosaic.ValueIdx
open scoped BigOperators

/-- An entry of a row divided by the row's root mean square, times a gain. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A column given to every entry of its row. -/
theorem spread_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector set up as a column. -/
theorem cast_col {α : Type} {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- The sum of a row, as the reduction over the columns gives it. -/
theorem row_sum {M : ℕ} (v : FVec Ideal ⟨2, ![M, 1024]⟩ .f32) (hr hφ hacc) (p : Fin M) :
    multiReduction .add [1] ⟨1, ![M]⟩ v 0x00000000#32 hr hφ hacc (ix1 p) = ∑ k : Fin 1024, (v (ix2 p k) : EReal) := by
  refine (Ideal.multiReduction_add_single v _ hr hφ hacc (ix1 p)).trans ?_
  refine Finset.sum_congr rfl fun k _ => congrArg v ?_
  funext a; apply Fin.ext
  match a with
  | ⟨0, _⟩ => rfl
  | ⟨1, _⟩ => rfl

/-- The normalized rows of a block, entry by entry. -/
theorem nrm_apply {M : ℕ} (x : FVec Ideal ⟨2, ![M, 1024]⟩ .f32) (g : FVec Ideal ⟨2, ![1, 1024]⟩ .f32) (hr hφ hacc hc hb hg)
    (p : Fin M) (k : Fin 1024) :
    mulf (mulf x (broadcastTo ⟨2, ![M, 1024]⟩
        (rsqrt (addf (divf (shapeCast ⟨2, ![M, 1]⟩ (multiReduction .add [1] ⟨1, ![M]⟩ (mulf x x) 0x00000000#32 hr hφ hacc) hc)
          (broadcast ⟨2, ![M, 1]⟩ (Scalar.ofBits .f32 0x44800000#32))) (broadcast ⟨2, ![M, 1]⟩ (Scalar.ofBits .f32 0x358637BD#32)))) hb))
      (broadcastTo ⟨2, ![M, 1024]⟩ g hg) (ix2 p k)
      = nrm (fun j => x (ix2 p j)) (fun j => g (ix2 0 j)) k := by
  show x (ix2 p k) * broadcastTo _ _ hb (ix2 p k) * broadcastTo _ g hg (ix2 p k) = _
  rw [spread_col, broadcastTo_1b_ab_apply]
  unfold nrm
  refine congrArg (fun s : EReal => x (ix2 p k) * Ideal.rsqrt (Ideal.div s (Ideal.ofBits .f32 0x44800000#32)
    + Ideal.ofBits .f32 0x358637BD#32) * g (ix2 0 k)) ?_
  rw [cast_col, row_sum]
  rfl

/-- A product of two matrices from nothing, entry by entry. -/
theorem dot_apply {M K N : ℕ} {φ₁ φ₂ : FTy} (a : FVec Ideal ⟨2, ![M, K]⟩ φ₁) (b : FVec Ideal ⟨2, ![K, N]⟩ φ₂) (p : Fin M) (n : Fin N) :
    matmul (F := Ideal) (DotDims.plain M K N) none a b (constant ⟨2, ![M, N]⟩ .f32 0x00000000#32) (ix2 p n)
      = ∑ k : Fin K, (a (ix2 p k) * b (ix2 k n) : EReal) := by
  refine (Ideal.matmul_plain_apply none a b _ p n).trans ?_
  show Ideal.ofBits .f32 0x00000000#32 + _ = _
  rw [Ideal.ofBits_zero_f32, zero_add]

end Cert.Rows

end
-- ==== Proof.Rows.Mixer.lean ====
module

public import proofs.«01_k».proof.Proof.Rows.Ops

@[expose] public section

noncomputable section

namespace Cert.Mixer

open Idealize.ShloMosaic Idealize.ShloMosaic.ValueIdx
open scoped BigOperators

/-- The shapes of the mixer's arguments. -/
abbrev SX : Shape := ⟨2, ![65536, 1024]⟩
abbrev SU : Shape := ⟨2, ![1024, 5632]⟩
abbrev SC : Shape := ⟨2, ![3, 2816]⟩
abbrev SB : Shape := ⟨2, ![1, 2816]⟩
abbrev SD : Shape := ⟨2, ![2816, 1024]⟩

variable (h x : SX.Idx → EReal) (u : SU.Idx → EReal) (cw : SC.Idx → EReal) (cb : SB.Idx → EReal) (wd : SD.Idx → EReal)

/-- A token of the up-projection's gate half. -/
def gateAt (r : Fin 65536) (n : Fin 2816) : EReal :=
  ∑ k : Fin 1024, h (ix2 r k) * u (ix2 k ⟨n.val, by omega⟩)

/-- A token of the up-projection's value half. -/
def valAt (r : Fin 65536) (n : Fin 2816) : EReal :=
  ∑ k : Fin 1024, h (ix2 r k) * u (ix2 k ⟨2816 + n.val, by omega⟩)

/-- The gate `d` tokens ago in the same sequence, zero before its start. -/
def backAt (d : ℕ) (r : Fin 65536) (n : Fin 2816) : EReal :=
  if d ≤ r.val % 4096 then gateAt h u ⟨r.val - d, by omega⟩ n else 0

/-- The causal convolution of the gate. -/
def convAt (r : Fin 65536) (n : Fin 2816) : EReal :=
  ((cb (ix2 0 n) + cw (ix2 0 n) * backAt h u 2 r n) + cw (ix2 1 n) * backAt h u 1 r n) + cw (ix2 2 n) * gateAt h u r n

/-- The mixer's activation. -/
def actAt (r : Fin 65536) (n : Fin 2816) : EReal :=
  (convAt h u cw cb r n * Ideal.logistic (convAt h u cw cb r n)) * valAt h u r n

/-- The mixer's result. -/
def mix : SX.Idx → EReal :=
  fun i => x i + ∑ n : Fin 2816, actAt h u cw cb (i 0) n * wd (ix2 n (i 1))

/-- One half. -/
theorem half : Ideal.ofBits .f32 0x3F000000#32 = ((1 / 2 : ℝ) : EReal) := by
  simp [Ideal.ofBits, Ideal.ieee]
  refine (EReal.coe_mul _ _).symm.trans (congrArg _ ?_)
  norm_num

/-- The logistic function by the hyperbolic tangent. -/
theorem logistic_tanh (t : EReal) :
    Ideal.ofBits .f32 0x3F000000#32 * Ideal.tanh (Ideal.ofBits .f32 0x3F000000#32 * t) + Ideal.ofBits .f32 0x3F000000#32 = Ideal.logistic t := by
  rw [half]
  have hp : (0 : ℝ) < 1 / 2 := by norm_num
  induction t using EReal.rec with
  | bot =>
    rw [EReal.coe_mul_bot_of_pos hp, Ideal.tanh_bot, Ideal.logistic_bot]
    rw [← EReal.coe_one, ← EReal.coe_neg, ← EReal.coe_mul, ← EReal.coe_add, ← EReal.coe_zero]
    norm_num
  | top =>
    rw [EReal.coe_mul_top_of_pos hp, Ideal.tanh_top, Ideal.logistic_top]
    rw [← EReal.coe_one, ← EReal.coe_mul, ← EReal.coe_add]
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have e1 : Real.exp (1 / 2 * r) = Real.exp r * Real.exp (-(1 / 2 * r)) := by rw [← Real.exp_add]; congr 1; ring
    have e2 : Real.exp (-r) = Real.exp (-(1 / 2 * r)) * Real.exp (-(1 / 2 * r)) := by rw [← Real.exp_add]; congr 1; ring
    have e3 : Real.exp (1 / 2 * r) * Real.exp (-(1 / 2 * r)) = 1 := by rw [← Real.exp_add]; simp
    rw [e2]
    set a := Real.exp (1 / 2 * r) with ha
    set b := Real.exp (-(1 / 2 * r)) with hb
    have pa : 0 < a := Real.exp_pos _
    have pb : 0 < b := Real.exp_pos _
    have hab : a + b ≠ 0 := by positivity
    have hbb : 1 + b * b ≠ 0 := by positivity
    field_simp
    nlinarith [e3]

end Cert.Mixer

end
-- ==== Proof.FfnIdeal.Tile.lean ====
module

public import proofs.«01_k».proof.Proof.Gen.FfnIdeal.Frame
public import proofs.«01_k».proof.Proof.Rows.Mixer
public import proofs.«01_k».proof.Proof.Fox.Reads
public import Idealize.ShloMosaic.Lib.Pipeline.ValueKit

@[expose] public section

set_option maxRecDepth 16384

noncomputable section

namespace Cert.FfnIdeal.Mixer

open Idealize.ShloMosaic Cert.FfnIdeal Cert.FfnIdeal.Gen Cert.Mixer
open scoped BigOperators

/-- The word that tells whether a point has tokens of its sequence before it. -/
def before (x : ℕ) : BitVec 1 :=
  let a : BitVec 32 := BitVec.ofNat 32 x
  let e : BitVec 32 := Scalar.select (Scalar.cmpi .eq 8#32 0#32) 1#32 8#32
  let r : BitVec 32 := Scalar.remsi a e
  let s : BitVec 1 := Scalar.andi (Scalar.xori (Scalar.cmpi .slt r 0#32) (Scalar.cmpi .slt e 0#32)) (Scalar.cmpi .ne r 0#32)
  Scalar.xori (Scalar.cmpi .eq (Scalar.select s (Scalar.addi r e) r) 0#32) 1#1

theorem before_eq : ∀ x : Fin 128, before x.val = if x.val % 8 = 0 then 0#1 else 1#1 := by decide +kernel

/-- The rows a point keeps: its own, and the ones before them unless its sequence starts there. -/
theorem keep_apply (i : grid0.Coords) (q : Fin 528) (n : Fin 256) :
    k0_pay4 i (ValueIdx.ix2 q n) = if 16 ≤ q.val ∨ (i 0).val % 8 ≠ 0 then 1#1 else 0#1 := by
  show IntOp.cmpi .sge (BitVec.ofNat 32 (0 * 528 + q.val)) (BitVec.ofNat 32 16) ||| before (i 0).val = _
  have hx : (i 0).val < 128 := (i 0).isLt
  have hb : before (i 0).val = if (i 0).val % 8 = 0 then 0#1 else 1#1 := before_eq ⟨(i 0).val, hx⟩
  rw [hb]
  have hq := q.isLt
  by_cases h : 16 ≤ q.val
  · rw [(WordCmp.cmpi_sge_ofNat_eq_one_iff (w := 32) (by omega) (by omega)).mpr (by omega), if_pos (Or.inl h)]
    by_cases h8 : (i 0).val % 8 = 0
    · rw [if_pos h8]; rfl
    · rw [if_neg h8]; rfl
  · rw [(WordCmp.cmpi_sge_ofNat_eq_zero_iff (w := 32) (by omega) (by omega)).mpr (by omega)]
    by_cases h8 : (i 0).val % 8 = 0
    · rw [if_pos h8, if_neg (by rintro (h' | h'); exacts [h h', h' h8])]; rfl
    · rw [if_neg h8, if_pos (Or.inr h8)]; rfl

/-- The rows before a point's own, then its own. -/
theorem ext_left (a : Vec Ideal S16x1024 .bf16) (b : Vec Ideal S512x1024 .bf16) (q : Fin 528) (k : Fin 1024) (h : q.val < 16) :
    k0_pay3 a b (ValueIdx.ix2 q k) = a (ValueIdx.ix2 ⟨q.val, h⟩ k) :=
  concatenate_pair_apply_left 0 a b concatenates_S16x1024_S512x1024_S528x1024_d0 (ValueIdx.ix2 q k) rfl (ValueIdx.ix2 ⟨q.val, h⟩ k) fun c => by
    match c with
    | ⟨0, _⟩ => rfl
    | ⟨1, _⟩ => rfl

theorem ext_right (a : Vec Ideal S16x1024 .bf16) (b : Vec Ideal S512x1024 .bf16) (q : Fin 528) (k : Fin 1024) (p : Fin 512) (h : q.val = 16 + p.val) :
    k0_pay3 a b (ValueIdx.ix2 q k) = b (ValueIdx.ix2 p k) :=
  concatenate_pair_apply_right 0 a b concatenates_S16x1024_S512x1024_S528x1024_d0 (ValueIdx.ix2 q k) rfl rfl (ValueIdx.ix2 p k) (fun c hc => by
    match c with
    | ⟨0, _⟩ => exact absurd rfl hc
    | ⟨1, _⟩ => rfl) (by show p.val + 16 = q.val; omega)

/-- What a tile stores of its gate for the rows after: zero where the sequence has not begun. -/
theorem kept_apply (i : grid0.Coords) (g : FVec Ideal S528x256 .f32) (q : Fin 528) (n : Fin 256) :
    k0_pay10 (k0_pay4 i) g (ValueIdx.ix3 0 q n) = if 16 ≤ q.val ∨ (i 0).val % 8 ≠ 0 then g (ValueIdx.ix2 q n) else (0 : EReal) := by
  unfold k0_pay10
  refine (shapeCast_apply _ shapeCasts_S528x256_S1x528x256 (ValueIdx.ix3 0 q n) (ValueIdx.ix2 q n) (by
    rw [Shape.rowMajor_val_two, Shape.rowMajor_val_three]
    show q.val * 256 + n.val = (0 * 528 + q.val) * 256 + n.val
    omega)).trans ?_
  show Scalar.select (k0_pay4 i (ValueIdx.ix2 q n)) (g (ValueIdx.ix2 q n)) (Ideal.ofBits .f32 0x00000000#32) = _
  rw [keep_apply, Ideal.ofBits_zero_f32]
  by_cases h : 16 ≤ q.val ∨ (i 0).val % 8 ≠ 0
  · rw [if_pos h, if_pos h]; rfl
  · rw [if_neg h, if_neg h]; rfl

/-- A load of rows of the slot stored last. -/
theorem slot_apply {v : View sig .tc .vmem S2x528x256 .f32} (s : ℕ) (inb) (h0 : ∀ a, (Rect.unit (s := S2x528x256) ![s, 0, 0] S1x528x256.size inb).stride a = 1)
    (P : (Rect.unit (s := S2x528x256) ![s, 0, 0] S1x528x256.size inb).shape.Idx → Elt Ideal .f32) (L : List (View.Piece (Elt Ideal) S2x528x256 .f32))
    (o : ℕ) (inb2) (h1 h2 hR) (p : Fin 512) (n : Fin 256) (ho : o + p.val < 528) :
    LoadRect.valAlong (lr := (Rect.unit (s := S528x256) ![o, 0] S512x256.size inb2).toLoadRect) hR
      (v.readCov ((⟨Rect.unit (s := S2x528x256) ![s, 0, 0] S1x528x256.size inb, P⟩ : View.Piece (Elt Ideal) S2x528x256 .f32) :: L)
        ((Rect.unit (s := S2x528x256) ![s, 0, 0] S1x528x256.size inb).withinL
          (LoadRect.consLift (Rect.unit (s := S528x256) ![o, 0] S512x256.size inb2).toLoadRect ![1, 528, 256] h1 h2) h0)) (ValueIdx.ix2 p n)
      = P (ValueIdx.ix3 (0 : Fin 1) ⟨o + p.val, ho⟩ n) := by
  refine (congrFun (View.readCov_eq_canon' v _ _) _).trans ?_
  refine (congrArg (View.canon _) (?_ : _ = (Rect.unit (s := S2x528x256) ![s, 0, 0] S1x528x256.size inb).emb (ValueIdx.ix3 (0 : Fin 1) ⟨o + p.val, ho⟩ n))).trans
    (View.canon_cons_emb _ P L _)
  refine (Rect.idx_withinL _ _ h0 _).trans (congrArg _ ?_)
  refine (congrArg (LoadRect.idx _) (Shape.reshapeEquiv_cons_one (d := ![512, 256]) hR (ValueIdx.ix2 p n))).trans (funext fun a => Fin.ext ?_)
  match a with
  | ⟨0, _⟩ => rfl
  | ⟨1, _⟩ => show o + 1 * p.val = o + p.val; omega
  | ⟨2, _⟩ => show 0 + 1 * n.val = n.val; omega

end Cert.FfnIdeal.Mixer

end
-- ==== Proof.FfnIdeal.Body.lean ====
module

public import proofs.«01_k».proof.Proof.FfnIdeal.Tile

@[expose] public section

set_option maxRecDepth 16384

noncomputable section

namespace Cert.FfnIdeal.Mixer

open Idealize.ShloMosaic Cert.FfnIdeal Cert.FfnIdeal.Gen Cert.Mixer
open scoped BigOperators

/-- One tile of the activation, from what it loads. -/
def tile (g : FVec Ideal S528x256 .f32) (b c2 c0 : Vec Ideal S1x256 .f32) (s0 : Vec Ideal S512x256 .f32) (c1 : Vec Ideal S1x256 .f32) (s1 : Vec Ideal S512x256 .f32)
    (h : Vec Ideal S512x1024 .bf16) (w : Vec Ideal S1024x256 .bf16) : FVec Ideal S512x256 .bf16 :=
  k0_pay14 (k0_pay11 g b c2 c0 s0 c1 s1) (k0_pay12 h w) (k0_pay13 g b c2 c0 s0 c1 s1)

/-- The tile's convolution, entry by entry. -/
theorem conv_apply (g : FVec Ideal S528x256 .f32) (b c2 c0 : Vec Ideal S1x256 .f32) (s0 : Vec Ideal S512x256 .f32) (c1 : Vec Ideal S1x256 .f32) (s1 : Vec Ideal S512x256 .f32)
    (p : Fin 512) (n : Fin 256) :
    k0_pay11 g b c2 c0 s0 c1 s1 (ValueIdx.ix2 p n)
      = (((b (ValueIdx.ix2 0 n) + c2 (ValueIdx.ix2 0 n) * g (ValueIdx.ix2 ⟨16 + p.val, by omega⟩ n)) + c0 (ValueIdx.ix2 0 n) * s0 (ValueIdx.ix2 p n))
        + c1 (ValueIdx.ix2 0 n) * s1 (ValueIdx.ix2 p n) : EReal) := by
  show broadcastTo S512x256 b broadcasts_S1x256_S512x256 (ValueIdx.ix2 p n)
      + broadcastTo S512x256 c2 broadcasts_S1x256_S512x256 (ValueIdx.ix2 p n) * extractStridedSlice S512x256 ![16, 0] g slices_S528x256_o16_0_S512x256 (ValueIdx.ix2 p n)
      + broadcastTo S512x256 c0 broadcasts_S1x256_S512x256 (ValueIdx.ix2 p n) * s0 (ValueIdx.ix2 p n)
      + broadcastTo S512x256 c1 broadcasts_S1x256_S512x256 (ValueIdx.ix2 p n) * s1 (ValueIdx.ix2 p n) = _
  rw [ValueIdx.broadcastTo_1b_ab_apply, ValueIdx.broadcastTo_1b_ab_apply, ValueIdx.broadcastTo_1b_ab_apply, ValueIdx.broadcastTo_1b_ab_apply,
    extractStridedSlice_apply ![16, 0] g _ _ (ValueIdx.ix2 (⟨16 + p.val, by omega⟩ : Fin 528) n) (fun a => by
      match a with
      | ⟨0, _⟩ => rfl
      | ⟨1, _⟩ => show n.val = 0 + n.val; omega)]

/-- A tile, entry by entry. -/
theorem tile_apply (g : FVec Ideal S528x256 .f32) (b c2 c0 : Vec Ideal S1x256 .f32) (s0 : Vec Ideal S512x256 .f32) (c1 : Vec Ideal S1x256 .f32) (s1 : Vec Ideal S512x256 .f32)
    (h : Vec Ideal S512x1024 .bf16) (w : Vec Ideal S1024x256 .bf16) (p : Fin 512) (n : Fin 256) (cv : EReal)
    (hc : k0_pay11 g b c2 c0 s0 c1 s1 (ValueIdx.ix2 p n) = cv) :
    tile g b c2 c0 s0 c1 s1 h w (ValueIdx.ix2 p n)
      = (cv * Ideal.logistic cv * ∑ k : Fin 1024, h (ValueIdx.ix2 p k) * w (ValueIdx.ix2 k n) : EReal) := by
  unfold tile k0_pay14
  refine (shapeCast_apply _ shapeCasts_S512x256_S512x256 (ValueIdx.ix2 p n) (ValueIdx.ix2 p n) rfl).trans ?_
  show k0_pay11 g b c2 c0 s0 c1 s1 (ValueIdx.ix2 p n)
      * (Ideal.ofBits .f32 0x3F000000#32 * Ideal.tanh (Ideal.ofBits .f32 0x3F000000#32 * k0_pay11 g b c2 c0 s0 c1 s1 (ValueIdx.ix2 p n)) + Ideal.ofBits .f32 0x3F000000#32)
      * k0_pay12 h w (ValueIdx.ix2 p n) = _
  rw [hc, logistic_tanh]
  exact congrArg (fun t : EReal => cv * Ideal.logistic cv * t) (Rows.dot_apply (φ₁ := .bf16) (φ₂ := .bf16) h w p n)

section Block

variable (i : grid0.Coords) (x0 : Vec Ideal S512x1024 .bf16) (x1 : Vec Ideal S16x1024 .bf16) (x3 : Vec Ideal S1024x5632 .bf16) (x4 : Vec Ideal S3x2816 .f32) (x5 : Vec Ideal S1x2816 .f32)

/-- The gate of the rows before a point's own and of its own. -/
def gExt (q : Fin 528) (n : Fin 2816) : EReal := ∑ k : Fin 1024, k0_pay3 x1 x0 (ValueIdx.ix2 q k) * x3 (ValueIdx.ix2 k ⟨n.val, by omega⟩)

/-- The same with zero before the sequence's start. -/
def sExt (q : Fin 528) (n : Fin 2816) : EReal := if 16 ≤ q.val ∨ (i 0).val % 8 ≠ 0 then gExt x0 x1 x3 q n else 0

/-- The convolution at a point. -/
def convBlk (p : Fin 512) (n : Fin 2816) : EReal :=
  ((x5 (ValueIdx.ix2 0 n) + x4 (ValueIdx.ix2 2 n) * gExt x0 x1 x3 ⟨16 + p.val, by omega⟩ n) + x4 (ValueIdx.ix2 0 n) * sExt i x0 x1 x3 ⟨14 + p.val, by omega⟩ n)
    + x4 (ValueIdx.ix2 1 n) * sExt i x0 x1 x3 ⟨15 + p.val, by omega⟩ n

/-- The activation at a point. -/
def actBlk (p : Fin 512) (n : Fin 2816) : EReal :=
  convBlk i x0 x1 x3 x4 x5 p n * Ideal.logistic (convBlk i x0 x1 x3 x4 x5 p n) * ∑ k : Fin 1024, x0 (ValueIdx.ix2 p k) * x3 (ValueIdx.ix2 k ⟨2816 + n.val, by omega⟩)

/-- The gate of a tile. -/
theorem gate_apply (w : Vec Ideal S1024x256 .bf16) (o : ℕ) (ho : o + 256 ≤ 2816)
    (hw : ∀ (k : Fin 1024) (n : Fin 256), w (ValueIdx.ix2 k n) = x3 (ValueIdx.ix2 k ⟨o + n.val, by omega⟩)) (q : Fin 528) (n : Fin 256) :
    k0_pay9 (k0_pay3 x1 x0) w (ValueIdx.ix2 q n) = gExt x0 x1 x3 q ⟨o + n.val, by omega⟩ := by
  refine (Rows.dot_apply (φ₁ := .bf16) (φ₂ := .bf16) (k0_pay3 x1 x0) w q n).trans (Finset.sum_congr rfl fun k _ => ?_)
  rw [hw]

/-- What a tile stores of its gate. -/
theorem slot_gate (w : Vec Ideal S1024x256 .bf16) (o : ℕ) (ho : o + 256 ≤ 2816)
    (hw : ∀ (k : Fin 1024) (n : Fin 256), w (ValueIdx.ix2 k n) = x3 (ValueIdx.ix2 k ⟨o + n.val, by omega⟩)) (q : Fin 528) (n : Fin 256) :
    k0_pay10 (k0_pay4 i) (k0_pay9 (k0_pay3 x1 x0) w) (ValueIdx.ix3 0 q n) = sExt i x0 x1 x3 q ⟨o + n.val, by omega⟩ := by
  rw [kept_apply, gate_apply x0 x1 x3 w o ho hw]
  rfl

variable (arg1 : Memref sig .tc .vmem S512x1024 .bf16) (harg1 : arg1.IsWhole) (arg2 : Memref sig .tc .vmem S16x1024 .bf16) (harg2 : arg2.IsWhole)
  (arg4 : Memref sig .tc .vmem S1024x5632 .bf16) (harg4 : arg4.IsWhole) (arg5 : Memref sig .tc .vmem S3x2816 .f32) (harg5 : arg5.IsWhole)
  (arg6 : Memref sig .tc .vmem S1x2816 .f32) (harg6 : arg6.IsWhole)

theorem rd1 (inb) : View.readAt (Elt Ideal) arg1.view (Rect.unit (s := S512x1024) ![0, 0] S512x1024.size inb).toLoadRect (harg1.unread x0) = x0 := funext fun y =>
  Fox.load_apply harg1 x0 _ rfl y y fun a => by
    match a with
    | ⟨0, _⟩ => exact (Nat.zero_add _).symm
    | ⟨1, _⟩ => exact (Nat.zero_add _).symm

theorem rd2 (inb) : View.readAt (Elt Ideal) arg2.view (Rect.unit (s := S16x1024) ![0, 0] S16x1024.size inb).toLoadRect (harg2.unread x1) = x1 := funext fun y =>
  Fox.load_apply harg2 x1 _ rfl y y fun a => by
    match a with
    | ⟨0, _⟩ => exact (Nat.zero_add _).symm
    | ⟨1, _⟩ => exact (Nat.zero_add _).symm

theorem rd4 (o : ℕ) (inb) (k : Fin 1024) (n : Fin 256) (h : o + n.val < 5632) :
    View.readAt (Elt Ideal) arg4.view (Rect.unit (s := S1024x5632) ![0, o] S1024x256.size inb).toLoadRect (harg4.unread x3) (ValueIdx.ix2 k n) = x3 (ValueIdx.ix2 k ⟨o + n.val, h⟩) :=
  Fox.load_apply harg4 x3 _ rfl (ValueIdx.ix2 k n) (ValueIdx.ix2 k ⟨o + n.val, h⟩) fun a => by
    match a with
    | ⟨0, _⟩ => exact (Nat.zero_add _).symm
    | ⟨1, _⟩ => rfl

theorem rd5 (r : ℕ) (j : Fin 3) (hj : j.val = r) (o : ℕ) (inb) (n : Fin 256) (h : o + n.val < 2816) :
    View.readAt (Elt Ideal) arg5.view (Rect.unit (s := S3x2816) ![r, o] S1x256.size inb).toLoadRect (harg5.unread x4) (ValueIdx.ix2 0 n) = x4 (ValueIdx.ix2 j ⟨o + n.val, h⟩) :=
  Fox.load_apply harg5 x4 _ rfl (ValueIdx.ix2 (0 : Fin 1) n) (ValueIdx.ix2 j ⟨o + n.val, h⟩) fun a => by
    match a with
    | ⟨0, _⟩ => exact hj
    | ⟨1, _⟩ => rfl

theorem rd6 (o : ℕ) (inb) (n : Fin 256) (h : o + n.val < 2816) :
    View.readAt (Elt Ideal) arg6.view (Rect.unit (s := S1x2816) ![0, o] S1x256.size inb).toLoadRect (harg6.unread x5) (ValueIdx.ix2 0 n) = x5 (ValueIdx.ix2 0 ⟨o + n.val, h⟩) :=
  Fox.load_apply harg6 x5 _ rfl (ValueIdx.ix2 (0 : Fin 1) n) (ValueIdx.ix2 0 ⟨o + n.val, h⟩) fun a => by
    match a with
    | ⟨0, _⟩ => rfl
    | ⟨1, _⟩ => rfl

/-- A tile of the body with its loads: the columns from `o` of the activation. -/
theorem tile_at (o o' : ℕ) (ho : o + 256 ≤ 2816) (ho' : o' = 2816 + o) (i1 i2 i4 i6 i52 i50 i51 i1' i4')
    (v : View sig .tc .vmem S2x528x256 .f32) (s : ℕ) (ib h0) (L : List (View.Piece (Elt Ideal) S2x528x256 .f32))
    (ib2 h1 h2 hR) (ib3 h1' h2' hR') (p : Fin 512) (n : Fin 256) :
    tile (k0_pay9 (k0_pay3 (View.readAt (Elt Ideal) arg2.view (Rect.unit (s := S16x1024) ![0, 0] S16x1024.size i2).toLoadRect (harg2.unread x1))
          (View.readAt (Elt Ideal) arg1.view (Rect.unit (s := S512x1024) ![0, 0] S512x1024.size i1).toLoadRect (harg1.unread x0)))
        (View.readAt (Elt Ideal) arg4.view (Rect.unit (s := S1024x5632) ![0, o] S1024x256.size i4).toLoadRect (harg4.unread x3)))
      (View.readAt (Elt Ideal) arg6.view (Rect.unit (s := S1x2816) ![0, o] S1x256.size i6).toLoadRect (harg6.unread x5))
      (View.readAt (Elt Ideal) arg5.view (Rect.unit (s := S3x2816) ![2, o] S1x256.size i52).toLoadRect (harg5.unread x4))
      (View.readAt (Elt Ideal) arg5.view (Rect.unit (s := S3x2816) ![0, o] S1x256.size i50).toLoadRect (harg5.unread x4))
      (LoadRect.valAlong (lr := (Rect.unit (s := S528x256) ![14, 0] S512x256.size ib2).toLoadRect) hR
        (v.readCov ((⟨Rect.unit (s := S2x528x256) ![s, 0, 0] S1x528x256.size ib,
            k0_pay10 (k0_pay4 i) (k0_pay9 (k0_pay3 (View.readAt (Elt Ideal) arg2.view (Rect.unit (s := S16x1024) ![0, 0] S16x1024.size i2).toLoadRect (harg2.unread x1))
              (View.readAt (Elt Ideal) arg1.view (Rect.unit (s := S512x1024) ![0, 0] S512x1024.size i1).toLoadRect (harg1.unread x0)))
              (View.readAt (Elt Ideal) arg4.view (Rect.unit (s := S1024x5632) ![0, o] S1024x256.size i4).toLoadRect (harg4.unread x3)))⟩ : View.Piece (Elt Ideal) S2x528x256 .f32) :: L)
          ((Rect.unit (s := S2x528x256) ![s, 0, 0] S1x528x256.size ib).withinL
            (LoadRect.consLift (Rect.unit (s := S528x256) ![14, 0] S512x256.size ib2).toLoadRect ![1, 528, 256] h1 h2) h0)))
      (View.readAt (Elt Ideal) arg5.view (Rect.unit (s := S3x2816) ![1, o] S1x256.size i51).toLoadRect (harg5.unread x4))
      (LoadRect.valAlong (lr := (Rect.unit (s := S528x256) ![15, 0] S512x256.size ib3).toLoadRect) hR'
        (v.readCov ((⟨Rect.unit (s := S2x528x256) ![s, 0, 0] S1x528x256.size ib,
            k0_pay10 (k0_pay4 i) (k0_pay9 (k0_pay3 (View.readAt (Elt Ideal) arg2.view (Rect.unit (s := S16x1024) ![0, 0] S16x1024.size i2).toLoadRect (harg2.unread x1))
              (View.readAt (Elt Ideal) arg1.view (Rect.unit (s := S512x1024) ![0, 0] S512x1024.size i1).toLoadRect (harg1.unread x0)))
              (View.readAt (Elt Ideal) arg4.view (Rect.unit (s := S1024x5632) ![0, o] S1024x256.size i4).toLoadRect (harg4.unread x3)))⟩ : View.Piece (Elt Ideal) S2x528x256 .f32) :: L)
          ((Rect.unit (s := S2x528x256) ![s, 0, 0] S1x528x256.size ib).withinL
            (LoadRect.consLift (Rect.unit (s := S528x256) ![15, 0] S512x256.size ib3).toLoadRect ![1, 528, 256] h1' h2') h0)))
      (View.readAt (Elt Ideal) arg1.view (Rect.unit (s := S512x1024) ![0, 0] S512x1024.size i1').toLoadRect (harg1.unread x0))
      (View.readAt (Elt Ideal) arg4.view (Rect.unit (s := S1024x5632) ![0, o'] S1024x256.size i4').toLoadRect (harg4.unread x3)) (ValueIdx.ix2 p n)
      = actBlk i x0 x1 x3 x4 x5 p ⟨o + n.val, by omega⟩ := by
  subst ho'
  rw [rd1, rd2]
  have hw : ∀ (k : Fin 1024) (n : Fin 256), View.readAt (Elt Ideal) arg4.view (Rect.unit (s := S1024x5632) ![0, o] S1024x256.size i4).toLoadRect (harg4.unread x3) (ValueIdx.ix2 k n)
      = x3 (ValueIdx.ix2 k ⟨o + n.val, by omega⟩) := fun k n => rd4 x3 arg4 harg4 o i4 k n _
  refine (tile_apply _ _ _ _ _ _ _ _ _ p n (convBlk i x0 x1 x3 x4 x5 p ⟨o + n.val, by omega⟩) ?_).trans ?_
  · refine (conv_apply _ _ _ _ _ _ _ p n).trans ?_
    rw [gate_apply x0 x1 x3 _ o ho hw, slot_apply s ib h0 _ L 14 ib2 h1 h2 hR p n (by omega), slot_apply s ib h0 _ L 15 ib3 h1' h2' hR' p n (by omega)]
    rw [slot_gate i x0 x1 x3 _ o ho hw, slot_gate i x0 x1 x3 _ o ho hw, rd6 x5 arg6 harg6 o i6 n (by omega)]
    rw [rd5 x4 arg5 harg5 2 2 rfl o i52 n (by omega), rd5 x4 arg5 harg5 0 0 rfl o i50 n (by omega), rd5 x4 arg5 harg5 1 1 rfl o i51 n (by omega)]
    rfl
  · unfold actBlk
    refine congrArg (fun t : EReal => convBlk i x0 x1 x3 x4 x5 p ⟨o + n.val, by omega⟩ * Ideal.logistic (convBlk i x0 x1 x3 x4 x5 p ⟨o + n.val, by omega⟩) * t)
      (Finset.sum_congr rfl fun k _ => congrArg (fun t : EReal => x0 (ValueIdx.ix2 p k) * t) ?_)
    refine (rd4 x3 arg4 harg4 (2816 + o) i4' k n (by omega)).trans (congrArg x3 (funext fun a => Fin.ext ?_))
    match a with
    | ⟨0, _⟩ => rfl
    | ⟨1, _⟩ => show 2816 + o + n.val = 2816 + (o + n.val); omega

end Block

end Cert.FfnIdeal.Mixer

end
-- ==== Proof.FfnIdeal.Pieces.lean ====
module

public import proofs.«01_k».proof.Proof.FfnIdeal.Body

@[expose] public section

set_option maxRecDepth 16384

noncomputable section

namespace Cert.FfnIdeal.Mixer

open Idealize.ShloMosaic Cert.FfnIdeal Cert.FfnIdeal.Gen Cert.Mixer

variable (c : Dev nD) (i : grid0.Coords) (x0 : Vec Ideal S512x1024 .bf16) (x1 : Vec Ideal S16x1024 .bf16) (x3 : Vec Ideal S1024x5632 .bf16) (x4 : Vec Ideal S3x2816 .f32) (x5 : Vec Ideal S1x2816 .f32)
  (arg1 : Memref sig .tc .vmem S512x1024 .bf16) (harg1 : arg1.IsWhole) (arg2 : Memref sig .tc .vmem S16x1024 .bf16) (harg2 : arg2.IsWhole)
  (arg4 : Memref sig .tc .vmem S1024x5632 .bf16) (harg4 : arg4.IsWhole) (arg5 : Memref sig .tc .vmem S3x2816 .f32) (harg5 : arg5.IsWhole)
  (arg6 : Memref sig .tc .vmem S1x2816 .f32) (harg6 : arg6.IsWhole) (arg9 : Memref sig .tc .vmem S2x528x256 .f32) (arg10 : Memref sig .tc .vmem S512x2816 .bf16)

/-- The activation of a point as one array. -/
def actArr : S512x2816.Idx → Elt Ideal .bf16 := fun y => actBlk i x0 x1 x3 x4 x5 (y 0) (y 1)

/-- A place of a tile in the activation. -/
theorem place (o : ℕ) (inb) (x : (Rect.unit (s := S512x2816) ![0, o] S512x256.size inb).shape.Idx) (p : Fin 512) (n : Fin 256) (hx : x = ValueIdx.ix2 p n) (h : o + n.val < 2816) :
    actArr i x0 x1 x3 x4 x5 ((Rect.unit (s := S512x2816) ![0, o] S512x256.size inb).emb x) = actBlk i x0 x1 x3 x4 x5 p ⟨o + n.val, h⟩ := by
  subst hx
  unfold actArr
  congr 1 <;> apply Fin.ext
  · show 0 + 1 * p.val = p.val; omega
  · show o + 1 * n.val = o + n.val; omega

/-- A piece is its part of the array. -/
theorem part (o : ℕ) (inb) (w : S512x256.Idx → Elt Ideal .bf16) (ho : o + 256 ≤ 2816)
    (hw : ∀ (p : Fin 512) (n : Fin 256), w (ValueIdx.ix2 p n) = actBlk i x0 x1 x3 x4 x5 p ⟨o + n.val, by omega⟩) (x : S512x256.Idx) :
    w x = actArr i x0 x1 x3 x4 x5 ((Rect.unit (s := S512x2816) ![0, o] S512x256.size inb).emb x) := by
  obtain ⟨p, n, rfl⟩ : ∃ (p : Fin 512) (n : Fin 256), x = ValueIdx.ix2 p n := ⟨x 0, x 1, ValueIdx.eq_ix2 x⟩
  exact (hw p n).trans (place i x0 x1 x3 x4 x5 o inb (ValueIdx.ix2 p n) p n rfl (by omega)).symm

/-- One more piece that is its part of the array. -/
theorem parts (o : ℕ) (inb) (w : S512x256.Idx → Elt Ideal .bf16) (L : List (View.Piece (Elt Ideal) S512x2816 .bf16)) (ho : o + 256 ≤ 2816)
    (hw : ∀ (p : Fin 512) (n : Fin 256), w (ValueIdx.ix2 p n) = actBlk i x0 x1 x3 x4 x5 p ⟨o + n.val, by omega⟩)
    (hL : ∀ pc ∈ L, ∀ x : pc.1.shape.Idx, pc.2 x = actArr i x0 x1 x3 x4 x5 (pc.1.emb x)) :
    ∀ pc ∈ (⟨Rect.unit (s := S512x2816) ![0, o] S512x256.size inb, w⟩ : View.Piece (Elt Ideal) S512x2816 .bf16) :: L, ∀ x : pc.1.shape.Idx, pc.2 x = actArr i x0 x1 x3 x4 x5 (pc.1.emb x) := by
  intro pc hpc
  rcases List.mem_cons.mp hpc with rfl | hpc
  · exact part i x0 x1 x3 x4 x5 o inb w ho hw
  · exact hL pc hpc

/-- Every piece of the activation is its part of the array. -/
theorem pieces : ∀ pc ∈ kernelRun0_A.sl.HS1_11 c i arg1 harg1 arg2 harg2 arg4 harg4 arg5 harg5 arg6 harg6 arg9 x0 x1 x3 x4 x5, ∀ x : pc.1.shape.Idx, pc.2 x = actArr i x0 x1 x3 x4 x5 (pc.1.emb x) := by
  unfold kernelRun0_A.sl.HS1_11
  refine parts i x0 x1 x3 x4 x5 2560 _ _ _ (by omega) (fun p n => ?_) ?_
  · exact tile_at i x0 x1 x3 x4 x5 arg1 harg1 arg2 harg2 arg4 harg4 arg5 harg5 arg6 harg6 2560 5376 (by omega) rfl
      inb_S512x1024_S512x1024_0_0 inb_S16x1024_S16x1024_0_0 inb_S1024x5632_S1024x256_0_2560 inb_S1x2816_S1x256_0_2560 inb_S3x2816_S1x256_2_2560 inb_S3x2816_S1x256_0_2560 inb_S3x2816_S1x256_1_2560
      inb_S512x1024_S512x1024_0_0 inb_S1024x5632_S1024x256_0_5376
      arg9.view 0 inb_S2x528x256_S1x528x256_0_0_0 (fun _ => rfl) (kernelRun0_A.sl.HS0_10 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 2304 _ _ _ (by omega) (fun p n => ?_) ?_
  · exact tile_at i x0 x1 x3 x4 x5 arg1 harg1 arg2 harg2 arg4 harg4 arg5 harg5 arg6 harg6 2304 5120 (by omega) rfl
      inb_S512x1024_S512x1024_0_0 inb_S16x1024_S16x1024_0_0 inb_S1024x5632_S1024x256_0_2304 inb_S1x2816_S1x256_0_2304 inb_S3x2816_S1x256_2_2304 inb_S3x2816_S1x256_0_2304 inb_S3x2816_S1x256_1_2304
      inb_S512x1024_S512x1024_0_0 inb_S1024x5632_S1024x256_0_5120
      arg9.view 1 inb_S2x528x256_S1x528x256_1_0_0 (fun _ => rfl) (kernelRun0_A.sl.HS0_9 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 2048 _ _ _ (by omega) (fun p n => ?_) ?_
  · exact tile_at i x0 x1 x3 x4 x5 arg1 harg1 arg2 harg2 arg4 harg4 arg5 harg5 arg6 harg6 2048 4864 (by omega) rfl
      inb_S512x1024_S512x1024_0_0 inb_S16x1024_S16x1024_0_0 inb_S1024x5632_S1024x256_0_2048 inb_S1x2816_S1x256_0_2048 inb_S3x2816_S1x256_2_2048 inb_S3x2816_S1x256_0_2048 inb_S3x2816_S1x256_1_2048
      inb_S512x1024_S512x1024_0_0 inb_S1024x5632_S1024x256_0_4864
      arg9.view 0 inb_S2x528x256_S1x528x256_0_0_0 (fun _ => rfl) (kernelRun0_A.sl.HS0_8 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 1792 _ _ _ (by omega) (fun p n => ?_) ?_
  · exact tile_at i x0 x1 x3 x4 x5 arg1 harg1 arg2 harg2 arg4 harg4 arg5 harg5 arg6 harg6 1792 4608 (by omega) rfl
      inb_S512x1024_S512x1024_0_0 inb_S16x1024_S16x1024_0_0 inb_S1024x5632_S1024x256_0_1792 inb_S1x2816_S1x256_0_1792 inb_S3x2816_S1x256_2_1792 inb_S3x2816_S1x256_0_1792 inb_S3x2816_S1x256_1_1792
      inb_S512x1024_S512x1024_0_0 inb_S1024x5632_S1024x256_0_4608
      arg9.view 1 inb_S2x528x256_S1x528x256_1_0_0 (fun _ => rfl) (kernelRun0_A.sl.HS0_7 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 1536 _ _ _ (by omega) (fun p n => ?_) ?_
  · exact tile_at i x0 x1 x3 x4 x5 arg1 harg1 arg2 harg2 arg4 harg4 arg5 harg5 arg6 harg6 1536 4352 (by omega) rfl
      inb_S512x1024_S512x1024_0_0 inb_S16x1024_S16x1024_0_0 inb_S1024x5632_S1024x256_0_1536 inb_S1x2816_S1x256_0_1536 inb_S3x2816_S1x256_2_1536 inb_S3x2816_S1x256_0_1536 inb_S3x2816_S1x256_1_1536
      inb_S512x1024_S512x1024_0_0 inb_S1024x5632_S1024x256_0_4352
      arg9.view 0 inb_S2x528x256_S1x528x256_0_0_0 (fun _ => rfl) (kernelRun0_A.sl.HS0_6 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 1280 _ _ _ (by omega) (fun p n => ?_) ?_
  · exact tile_at i x0 x1 x3 x4 x5 arg1 harg1 arg2 harg2 arg4 harg4 arg5 harg5 arg6 harg6 1280 4096 (by omega) rfl
      inb_S512x1024_S512x1024_0_0 inb_S16x1024_S16x1024_0_0 inb_S1024x5632_S1024x256_0_1280 inb_S1x2816_S1x256_0_1280 inb_S3x2816_S1x256_2_1280 inb_S3x2816_S1x256_0_1280 inb_S3x2816_S1x256_1_1280
      inb_S512x1024_S512x1024_0_0 inb_S1024x5632_S1024x256_0_4096
      arg9.view 1 inb_S2x528x256_S1x528x256_1_0_0 (fun _ => rfl) (kernelRun0_A.sl.HS0_5 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 1024 _ _ _ (by omega) (fun p n => ?_) ?_
  · exact tile_at i x0 x1 x3 x4 x5 arg1 harg1 arg2 harg2 arg4 harg4 arg5 harg5 arg6 harg6 1024 3840 (by omega) rfl
      inb_S512x1024_S512x1024_0_0 inb_S16x1024_S16x1024_0_0 inb_S1024x5632_S1024x256_0_1024 inb_S1x2816_S1x256_0_1024 inb_S3x2816_S1x256_2_1024 inb_S3x2816_S1x256_0_1024 inb_S3x2816_S1x256_1_1024
      inb_S512x1024_S512x1024_0_0 inb_S1024x5632_S1024x256_0_3840
      arg9.view 0 inb_S2x528x256_S1x528x256_0_0_0 (fun _ => rfl) (kernelRun0_A.sl.HS0_4 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 768 _ _ _ (by omega) (fun p n => ?_) ?_
  · exact tile_at i x0 x1 x3 x4 x5 arg1 harg1 arg2 harg2 arg4 harg4 arg5 harg5 arg6 harg6 768 3584 (by omega) rfl
      inb_S512x1024_S512x1024_0_0 inb_S16x1024_S16x1024_0_0 inb_S1024x5632_S1024x256_0_768 inb_S1x2816_S1x256_0_768 inb_S3x2816_S1x256_2_768 inb_S3x2816_S1x256_0_768 inb_S3x2816_S1x256_1_768
      inb_S512x1024_S512x1024_0_0 inb_S1024x5632_S1024x256_0_3584
      arg9.view 1 inb_S2x528x256_S1x528x256_1_0_0 (fun _ => rfl) (kernelRun0_A.sl.HS0_3 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 512 _ _ _ (by omega) (fun p n => ?_) ?_
  · exact tile_at i x0 x1 x3 x4 x5 arg1 harg1 arg2 harg2 arg4 harg4 arg5 harg5 arg6 harg6 512 3328 (by omega) rfl
      inb_S512x1024_S512x1024_0_0 inb_S16x1024_S16x1024_0_0 inb_S1024x5632_S1024x256_0_512 inb_S1x2816_S1x256_0_512 inb_S3x2816_S1x256_2_512 inb_S3x2816_S1x256_0_512 inb_S3x2816_S1x256_1_512
      inb_S512x1024_S512x1024_0_0 inb_S1024x5632_S1024x256_0_3328
      arg9.view 0 inb_S2x528x256_S1x528x256_0_0_0 (fun _ => rfl) (kernelRun0_A.sl.HS0_2 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 256 _ _ _ (by omega) (fun p n => ?_) ?_
  · exact tile_at i x0 x1 x3 x4 x5 arg1 harg1 arg2 harg2 arg4 harg4 arg5 harg5 arg6 harg6 256 3072 (by omega) rfl
      inb_S512x1024_S512x1024_0_0 inb_S16x1024_S16x1024_0_0 inb_S1024x5632_S1024x256_0_256 inb_S1x2816_S1x256_0_256 inb_S3x2816_S1x256_2_256 inb_S3x2816_S1x256_0_256 inb_S3x2816_S1x256_1_256
      inb_S512x1024_S512x1024_0_0 inb_S1024x5632_S1024x256_0_3072
      arg9.view 1 inb_S2x528x256_S1x528x256_1_0_0 (fun _ => rfl) (kernelRun0_A.sl.HS0_1 c i arg1 harg1 arg2 harg2 arg4 harg4 x0 x1 x3)
      inb_S528x256_S512x256_14_0 (by decide) (by decide) (by decide) inb_S528x256_S512x256_15_0 (by decide) (by decide) (by decide) p n
  refine parts i x0 x1 x3 x4 x5 0 _ _ _ (by omega) (fun p n => ?_) ?_
  · exact tile_at i x0 x1 x3 x4 x5 arg1 harg1 arg2 harg2 arg4 harg4 arg5 harg5 arg6 harg6 0 2816 (by omega) rfl
      inb_S512x1024_S512x1024_0_0 inb_S16x1024_S16x1024_0_0 inb_S1024x5632_S1024x256_0_0 inb_S1x2816_S1x256_0_0 inb_S3x2816_S1x256_2_0 inb_S3x2816_S1x256_0_0 inb_S3x2816_S1x256_1_0
      inb_S512x1024_S512x1024_0_0 inb_S1024x5632_S1024x256_0_2816
      arg9.view 0 inb_S2x528x256_S1x528x256_0_0_0 (fun _ => rfl) []
      inb_S528x256_S512x256_14_0 (by decide) (by decide) (by decide) inb_S528x256_S512x256_15_0 (by decide) (by decide) (by decide) p n
  intro pc hpc
  nomatch hpc

end Cert.FfnIdeal.Mixer

end
-- ==== Proof.FfnIdeal.Value.lean ====
module

public import proofs.«01_k».proof.Proof.FfnIdeal.Pieces
public import Idealize.ShloMosaic.Lib.Ring

@[expose] public section

set_option maxRecDepth 16384

noncomputable section

namespace Cert.FfnIdeal.Mixer

open Idealize.ShloMosaic Idealize.ShloMosaic.TcCoe Idealize.SL.Sem
open Cert.FfnIdeal Cert.FfnIdeal.Gen Cert.Mixer
open scoped BigOperators

section Point

variable (c : Dev nD) (i : grid0.Coords) (x0 : Vec Ideal S512x1024 .bf16) (x1 : Vec Ideal S16x1024 .bf16) (x2 : Vec Ideal S512x1024 .f32) (x3 : Vec Ideal S1024x5632 .bf16)
  (x4 : Vec Ideal S3x2816 .f32) (x5 : Vec Ideal S1x2816 .f32) (x6 : Vec Ideal S2816x1024 .bf16)
  (arg1 : Memref sig .tc .vmem S512x1024 .bf16) (harg1 : arg1.IsWhole) (arg2 : Memref sig .tc .vmem S16x1024 .bf16) (harg2 : arg2.IsWhole)
  (arg3 : Memref sig .tc .vmem S512x1024 .f32) (harg3 : arg3.IsWhole)
  (arg4 : Memref sig .tc .vmem S1024x5632 .bf16) (harg4 : arg4.IsWhole) (arg5 : Memref sig .tc .vmem S3x2816 .f32) (harg5 : arg5.IsWhole)
  (arg6 : Memref sig .tc .vmem S1x2816 .f32) (harg6 : arg6.IsWhole) (arg7 : Memref sig .tc .vmem S2816x1024 .bf16) (harg7 : arg7.IsWhole)
  (arg8 : Memref sig .tc .vmem S512x1024 .f32) (harg8 : arg8.IsWhole)
  (arg9 : Memref sig .tc .vmem S2x528x256 .f32) (harg9 : arg9.IsWhole) (arg10 : Memref sig .tc .vmem S512x2816 .bf16) (harg10 : arg10.IsWhole)

/-- The pieces of the activation leave no entry out. -/
theorem pieces_cover (y : S512x2816.Idx) : ∃ pc ∈ kernelRun0_A.sl.HS1_11 c i arg1 harg1 arg2 harg2 arg4 harg4 arg5 harg5 arg6 harg6 arg9 x0 x1 x3 x4 x5, y ∈ pc.1.set := by
  refine View.cover_of_tiledL (s := S512x2816) _ ![512, 256] ?_ y
  unfold kernelRun0_A.sl.HS1_11
  rfl

/-- The activation as it is read back. -/
theorem act_load (p : Fin 512) (n : Fin 2816) :
    kernelRun0_A.sl.v505 c i arg1 harg1 arg2 harg2 arg4 harg4 arg5 harg5 arg6 harg6 arg9 arg10 x0 x1 x3 x4 x5 (ValueIdx.ix2 p n) = actBlk i x0 x1 x3 x4 x5 p n := by
  unfold kernelRun0_A.sl.v505
  refine (congrFun (View.readCov_eq_canon' arg10.view _ _) _).trans ?_
  refine (View.canon_apply_of_pieces (Val := Elt Ideal) (e := .bf16) (actArr i x0 x1 x3 x4 x5) _ (pieces c i x0 x1 x3 x4 x5 arg1 harg1 arg2 harg2 arg4 harg4 arg5 harg5 arg6 harg6 arg9) _
    (pieces_cover c i x0 x1 x3 x4 x5 arg1 harg1 arg2 harg2 arg4 harg4 arg5 harg5 arg6 harg6 arg9 _)).trans ?_
  unfold actArr
  congr 1 <;> apply Fin.ext
  · show 0 + 1 * p.val = p.val; omega
  · show 0 + 1 * n.val = n.val; omega

theorem rd3 (inb) : View.readAt (Elt Ideal) arg3.view (Rect.unit (s := S512x1024) ![0, 0] S512x1024.size inb).toLoadRect (harg3.unread x2) = x2 := funext fun y =>
  Fox.load_apply harg3 x2 _ rfl y y fun a => by
    match a with
    | ⟨0, _⟩ => exact (Nat.zero_add _).symm
    | ⟨1, _⟩ => exact (Nat.zero_add _).symm

theorem rd7 (inb) : View.readAt (Elt Ideal) arg7.view (Rect.unit (s := S2816x1024) ![0, 0] S2816x1024.size inb).toLoadRect (harg7.unread x6) = x6 := funext fun y =>
  Fox.load_apply harg7 x6 _ rfl y y fun a => by
    match a with
    | ⟨0, _⟩ => exact (Nat.zero_add _).symm
    | ⟨1, _⟩ => exact (Nat.zero_add _).symm

/-- What a point leaves in its block of the result. -/
theorem out_apply (p : Fin 512) (m : Fin 1024) :
    out0_A_7 c i arg1 harg1 arg2 harg2 arg3 harg3 arg4 harg4 arg5 harg5 arg6 harg6 arg7 harg7 arg8 harg8 arg9 harg9 arg10 harg10 x0 x1 x2 x3 x4 x5 x6 (ValueIdx.ix2 p m)
      = (x2 (ValueIdx.ix2 p m) + ∑ n : Fin 2816, actBlk i x0 x1 x3 x4 x5 p n * x6 (ValueIdx.ix2 n m) : EReal) := by
  unfold out0_A_7 kernelRun0_A
  dsimp only
  refine (Fox.hit VO0_7 _ _ _ _ (ValueIdx.ix2 p m) (ValueIdx.ix2 p m) (fun a => by
    match a with
    | ⟨0, _⟩ => exact (Nat.zero_add _).symm
    | ⟨1, _⟩ => exact (Nat.zero_add _).symm)).trans ?_
  rw [rd3, rd7]
  refine congrArg (fun s : EReal => x2 (ValueIdx.ix2 p m) + s) ?_
  refine (Rows.dot_apply (φ₁ := .bf16) (φ₂ := .bf16) _ x6 p m).trans (Finset.sum_congr rfl fun n _ => ?_)
  exact congrArg (fun s : EReal => s * x6 (ValueIdx.ix2 n m)) (act_load c i x0 x1 x3 x4 x5 arg1 harg1 arg2 harg2 arg4 harg4 arg5 harg5 arg6 harg6 arg9 arg10 p n)

end Point

variable (m : (ℓ : Loc nD τ sig) → Buf (Elt Ideal) ℓ) (ρ : Dev nD → PrngReg)

/-- A coordinate of the grid as a word. -/
theorem word_val {n : ℕ} (x : Fin n) (hn : n < 2 ^ 32) : (BitVec.ofNat 32 x.val).toNat = x.val := by
  rw [BitVec.toNat_ofNat]; exact Nat.mod_eq_of_lt (lt_trans x.isLt hn)

/-- The block of rows before a point's own. -/
theorem lead_val : ∀ x : Fin 128, 1 ≤ x.val → (Scalar.maxsi (Scalar.subi (Scalar.muli (BitVec.ofNat 32 x.val) 32#32) 1#32) 0#32).toNat = 32 * x.val - 1 := by decide +kernel

/-- The tokens of a point. -/
theorem blk_h (c : Dev nD) (t : Fin cfg0.N) (p : Fin 512) (k : Fin 1024) (r : Fin 65536) (h : r.val = 512 * (grid0.coords t 0).val + p.val) :
    iblk m c 0 t (ValueIdx.ix2 p k) = m ((c : Thread nD τ).loc main_arg0) (ValueIdx.ix2 r k) := by
  refine congrArg (V m c main_arg0) (funext fun a => Fin.ext ?_)
  refine (win0_0.rect_emb_val t _ a rfl).trans ?_
  match a with
  | ⟨0, _⟩ => show (BitVec.ofNat 32 (grid0.coords t 0).val).toNat * 512 + p.val = r.val
              rw [word_val _ (by decide)]; omega
  | ⟨1, _⟩ => show 0 * 1024 + k.val = k.val
              omega

/-- The tokens before a point's own. -/
theorem blk_l (c : Dev nD) (t : Fin cfg0.N) (q : Fin 16) (k : Fin 1024) (r : Fin 65536) (h : r.val + 16 = 512 * (grid0.coords t 0).val + q.val) (ht : 1 ≤ (grid0.coords t 0).val) :
    iblk m c 1 t (ValueIdx.ix2 q k) = m ((c : Thread nD τ).loc main_arg0) (ValueIdx.ix2 r k) := by
  refine congrArg (V m c main_arg0) (funext fun a => Fin.ext ?_)
  refine (win0_1.rect_emb_val t _ a rfl).trans ?_
  match a with
  | ⟨0, _⟩ => show (Scalar.maxsi (Scalar.subi (Scalar.muli (BitVec.ofNat 32 (grid0.coords t 0).val) 32#32) 1#32) 0#32).toNat * 16 + q.val = r.val
              rw [lead_val (grid0.coords t 0) ht]; omega
  | ⟨1, _⟩ => show 0 * 1024 + k.val = k.val
              omega

/-- The residual's rows of a point. -/
theorem blk_x (c : Dev nD) (t : Fin cfg0.N) (p : Fin 512) (k : Fin 1024) (r : Fin 65536) (h : r.val = 512 * (grid0.coords t 0).val + p.val) :
    iblk m c 2 t (ValueIdx.ix2 p k) = m ((c : Thread nD τ).loc main_arg1) (ValueIdx.ix2 r k) := by
  refine congrArg (V m c main_arg1) (funext fun a => Fin.ext ?_)
  refine (win0_2.rect_emb_val t _ a rfl).trans ?_
  match a with
  | ⟨0, _⟩ => show (BitVec.ofNat 32 (grid0.coords t 0).val).toNat * 512 + p.val = r.val
              rw [word_val _ (by decide)]; omega
  | ⟨1, _⟩ => show 0 * 1024 + k.val = k.val
              omega

theorem blk_u (c : Dev nD) (t : Fin cfg0.N) (k : Fin 1024) (n : Fin 5632) : iblk m c 3 t (ValueIdx.ix2 k n) = m ((c : Thread nD τ).loc main_arg2) (ValueIdx.ix2 k n) := by
  refine congrArg (V m c main_arg2) (funext fun a => Fin.ext ?_)
  refine (win0_3.rect_emb_val t _ a rfl).trans ?_
  match a with
  | ⟨0, _⟩ => show 0 * 1024 + k.val = k.val; omega
  | ⟨1, _⟩ => show 0 * 5632 + n.val = n.val; omega

theorem blk_c (c : Dev nD) (t : Fin cfg0.N) (k : Fin 3) (n : Fin 2816) : iblk m c 4 t (ValueIdx.ix2 k n) = m ((c : Thread nD τ).loc main_arg3) (ValueIdx.ix2 k n) := by
  refine congrArg (V m c main_arg3) (funext fun a => Fin.ext ?_)
  refine (win0_4.rect_emb_val t _ a rfl).trans ?_
  match a with
  | ⟨0, _⟩ => show 0 * 3 + k.val = k.val; omega
  | ⟨1, _⟩ => show 0 * 2816 + n.val = n.val; omega

theorem blk_b (c : Dev nD) (t : Fin cfg0.N) (n : Fin 2816) : iblk m c 5 t (ValueIdx.ix2 0 n) = m ((c : Thread nD τ).loc main_arg4) (ValueIdx.ix2 0 n) := by
  refine congrArg (V m c main_arg4) (funext fun a => Fin.ext ?_)
  refine (win0_5.rect_emb_val t _ a rfl).trans ?_
  match a with
  | ⟨0, _⟩ => rfl
  | ⟨1, _⟩ => show 0 * 2816 + n.val = n.val; omega

theorem blk_d (c : Dev nD) (t : Fin cfg0.N) (k : Fin 2816) (n : Fin 1024) : iblk m c 6 t (ValueIdx.ix2 k n) = m ((c : Thread nD τ).loc main_arg5) (ValueIdx.ix2 k n) := by
  refine congrArg (V m c main_arg5) (funext fun a => Fin.ext ?_)
  refine (win0_6.rect_emb_val t _ a rfl).trans ?_
  match a with
  | ⟨0, _⟩ => show 0 * 2816 + k.val = k.val; omega
  | ⟨1, _⟩ => show 0 * 1024 + n.val = n.val; omega

/-- The gate of a row at a point is the gate of that token. -/
theorem gate_eq (c : Dev nD) (t : Fin cfg0.N) (q : Fin 528) (n : Fin 2816) (r : Fin 65536) (h : r.val + 16 = 512 * (grid0.coords t 0).val + q.val)
    (hq : 16 ≤ q.val ∨ (grid0.coords t 0).val % 8 ≠ 0) :
    gExt (iblk m c 0 t) (iblk m c 1 t) (iblk m c 3 t) q n
      = gateAt (m ((c : Thread nD τ).loc main_arg0)) (m ((c : Thread nD τ).loc main_arg2)) r n := by
  unfold gExt gateAt
  refine Finset.sum_congr rfl fun k _ => ?_
  refine congrArg₂ (fun a b : EReal => a * b) ?_ (blk_u m c t k _)
  have hql := q.isLt
  by_cases h16 : 16 ≤ q.val
  · exact (ext_right _ _ q k ⟨q.val - 16, by omega⟩ (by show q.val = 16 + (q.val - 16); omega)).trans
      (blk_h m c t _ k r (by show r.val = 512 * (grid0.coords t 0).val + (q.val - 16); omega))
  · exact (ext_left _ _ q k (by omega)).trans (blk_l m c t _ k r h (by omega))

/-- What a point keeps of a row before a token is the gate that many tokens ago. -/
theorem back_eq (c : Dev nD) (t : Fin cfg0.N) (d : ℕ) (hd : d ≤ 2) (p : Fin 512) (q : Fin 528) (hq : q.val + d = 16 + p.val) (n : Fin 2816) (r : Fin 65536)
    (h : r.val = 512 * (grid0.coords t 0).val + p.val) :
    sExt (grid0.coords t) (iblk m c 0 t) (iblk m c 1 t) (iblk m c 3 t) q n
      = backAt (m ((c : Thread nD τ).loc main_arg0)) (m ((c : Thread nD τ).loc main_arg2)) d r n := by
  unfold sExt backAt
  have hp := p.isLt
  by_cases hk : 16 ≤ q.val ∨ (grid0.coords t 0).val % 8 ≠ 0
  · have hr : d ≤ r.val % 4096 := by omega
    have hr' : d ≤ r.val := by omega
    rw [if_pos hk, if_pos hr]
    exact gate_eq m c t q n _ (by show r.val - d + 16 = _; omega) hk
  · rw [if_neg hk, if_neg (by omega)]

/-- A point's convolution is that of its tokens. -/
theorem conv_eq (c : Dev nD) (t : Fin cfg0.N) (p : Fin 512) (n : Fin 2816) (r : Fin 65536) (h : r.val = 512 * (grid0.coords t 0).val + p.val) :
    convBlk (grid0.coords t) (iblk m c 0 t) (iblk m c 1 t) (iblk m c 3 t) (iblk m c 4 t) (iblk m c 5 t) p n
      = convAt (m ((c : Thread nD τ).loc main_arg0)) (m ((c : Thread nD τ).loc main_arg2)) (m ((c : Thread nD τ).loc main_arg3)) (m ((c : Thread nD τ).loc main_arg4)) r n := by
  have hp := p.isLt
  unfold convBlk convAt
  rw [gate_eq m c t _ n r (by show r.val + 16 = 512 * (grid0.coords t 0).val + (16 + p.val); omega) (Or.inl (by show 16 ≤ 16 + p.val; omega)),
    back_eq m c t 2 (by omega) p _ (by show 14 + p.val + 2 = 16 + p.val; omega) n r h,
    back_eq m c t 1 (by omega) p _ (by show 15 + p.val + 1 = 16 + p.val; omega) n r h,
    show iblk m c 5 t (ValueIdx.ix2 0 n) = _ from blk_b m c t n, show iblk m c 4 t (ValueIdx.ix2 0 n) = _ from blk_c m c t 0 n,
    show iblk m c 4 t (ValueIdx.ix2 1 n) = _ from blk_c m c t 1 n, show iblk m c 4 t (ValueIdx.ix2 2 n) = _ from blk_c m c t 2 n]
  exact (congrArg (fun s : EReal => s + _) (add_right_comm _ _ _)).trans (add_right_comm _ _ _)

/-- A point's activation is that of its tokens. -/
theorem act_eq (c : Dev nD) (t : Fin cfg0.N) (p : Fin 512) (n : Fin 2816) (r : Fin 65536) (h : r.val = 512 * (grid0.coords t 0).val + p.val) :
    actBlk (grid0.coords t) (iblk m c 0 t) (iblk m c 1 t) (iblk m c 3 t) (iblk m c 4 t) (iblk m c 5 t) p n
      = actAt (m ((c : Thread nD τ).loc main_arg0)) (m ((c : Thread nD τ).loc main_arg2)) (m ((c : Thread nD τ).loc main_arg3)) (m ((c : Thread nD τ).loc main_arg4)) r n := by
  unfold actBlk actAt valAt
  rw [conv_eq m c t p n r h]
  refine congrArg (fun s : EReal => _ * s) (Finset.sum_congr rfl fun k _ => ?_)
  exact congrArg₂ (fun a b : EReal => a * b) (blk_h m c t p k r h) (blk_u m c t k _)

theorem arr7_eq (c : Dev nD) : (dats m 0 c).arrAt 7 cfg0.N
    = mix (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  obtain ⟨p, n, rfl⟩ : ∃ (p : Fin 512) (n : Fin 1024), y = ValueIdx.ix2 p n := ⟨y 0, y 1, ValueIdx.eq_ix2 y⟩
  have e0 : ((win0_7.blk t).view.emb (ValueIdx.ix2 p n) 0 : ℕ) = 512 * (grid0.coords t 0).val + p.val := by
    refine (win0_7.rect_emb_val t _ 0 rfl).trans ?_
    show (BitVec.ofNat 32 (grid0.coords t 0).val).toNat * 512 + p.val = _
    rw [word_val _ (by decide)]; omega
  have e1 : ((win0_7.blk t).view.emb (ValueIdx.ix2 p n) 1 : ℕ) = n.val := by
    refine (win0_7.rect_emb_val t _ 1 rfl).trans ?_
    show 0 * 1024 + n.val = _
    omega
  show (dats m 0 c).after 7 t (ValueIdx.ix2 p n) = mix _ _ _ _ _ _ _
  rw [after0_7]
  unfold outsAt0
  refine (out_apply c (grid0.coords t) _ _ _ _ _ _ _ _ _ _ _ _ _ _ _ _ _ _ _ _ _ _ _ _ _ _ _ p n).trans ?_
  obtain ⟨r, n', hrn⟩ : ∃ (r : Fin 65536) (n' : Fin 1024), (win0_7.blk t).view.emb (ValueIdx.ix2 p n) = ValueIdx.ix2 r n' := ⟨_, _, ValueIdx.eq_ix2 _⟩
  rw [hrn] at e0 e1 ⊢
  obtain rfl : n' = n := Fin.ext e1
  have hr : r.val = 512 * (grid0.coords t 0).val + p.val := e0
  unfold mix
  refine congrArg₂ (fun a b : EReal => a + b) (blk_x m c t p n' r hr) (Finset.sum_congr rfl fun k _ => ?_)
  exact congrArg₂ (fun a b : EReal => a * b) (act_eq m c t p k r hr) (blk_d m c t k n')

/-- The run of the kernel: the mixer's result, and the arguments unchanged. -/
theorem run_value : θ_run defs (onTc (τ := τ) (main (F := Ideal))) ⟨m, fun _ => 0, ρ⟩ (fun r => ∀ c : Dev nD,
      r.2.mem ((c.tc : Thread nD τ).loc main_v0) = mix (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 7).trans (arr7_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c)))⟩) (run_main m ρ)

end Cert.FfnIdeal.Mixer

end
-- ==== Proof.FfnRefIdeal.Value.lean ====
module

public import proofs.«01_k».proof.Proof.Gen.FfnRefIdeal.Read
public import proofs.«01_k».proof.Proof.Rows.Mixer
public import Idealize.ShloMosaic.Lib.KernelVsHost
public import Idealize.ShloMosaic.Lib.IdealHost
public import Idealize.ShloMosaic.Lib.Quiescent

@[expose] public section

noncomputable section

namespace Cert.FfnRefIdeal.Mixer

open Cert.FfnRefIdeal Cert.FfnRefIdeal.Gen Cert.FfnRefIdeal.Read Cert.Mixer Idealize.ShloMosaic Idealize.SL.Sem
open scoped BigOperators

variable (h x : SX.Idx → EReal) (u : SU.Idx → EReal) (cw : SC.Idx → EReal) (cb : SB.Idx → EReal) (wd : SD.Idx → EReal)

/-- The row of a token of a sequence. -/
abbrev row (b : Fin 16) (s : Fin 4096) : Fin 65536 := ⟨b.val * 4096 + s.val, by omega⟩

theorem up_read (r : Fin 65536) (n : Fin 5632) : val_main_v0 (F := Ideal) h u (ValueIdx.ix2 r n) = ∑ k : Fin 1024, h (ValueIdx.ix2 r k) * u (ValueIdx.ix2 k n) := by
  rw [val_main_v0_apply]
  refine Finset.sum_congr rfl fun k _ => ?_
  rw [show lidx_main_v0 (ValueIdx.ix2 r n) k = ValueIdx.ix2 r k from ValueIdx.eq_ix2 _,
    show ridx_main_v0 (ValueIdx.ix2 r n) k = ValueIdx.ix2 k n from ValueIdx.eq_ix2 _]

theorem gate_read (b : Fin 16) (s : Fin 4096) (n : Fin 2816) : val_main_v2 (F := Ideal) h u (ValueIdx.ix3 b s n) = gateAt h u (row b s) n := by
  rw [val_main_v2_apply, val_main_v1_apply]
  unfold gateAt
  refine Eq.trans ?_ (up_read h u (row b s) ⟨n.val, by omega⟩)
  refine congrArg (val_main_v0 (F := Ideal) h u) (funext fun a => Fin.ext ?_)
  match a with
  | ⟨0, _⟩ => show ((b.val * 4096 + s.val) * 2816 + n.val) / 2816 = b.val * 4096 + s.val; omega
  | ⟨1, _⟩ => show ((b.val * 4096 + s.val) * 2816 + n.val) % 2816 = n.val; omega

theorem value_read (b : Fin 16) (s : Fin 4096) (n : Fin 2816) : val_main_v4 (F := Ideal) h u (ValueIdx.ix3 b s n) = valAt h u (row b s) n := by
  rw [val_main_v4_apply, val_main_v3_apply]
  unfold valAt
  refine Eq.trans ?_ (up_read h u (row b s) ⟨2816 + n.val, by omega⟩)
  refine congrArg (val_main_v0 (F := Ideal) h u) (funext fun a => Fin.ext ?_)
  match a with
  | ⟨0, _⟩ => show ((b.val * 4096 + s.val) * 2816 + n.val) / 2816 = b.val * 4096 + s.val; omega
  | ⟨1, _⟩ => show 2816 + ((b.val * 4096 + s.val) * 2816 + n.val) % 2816 = 2816 + n.val; omega

/-- The gate behind its two leading zeros, at a token. -/
theorem past_read (d : ℕ) (hd : d ≤ 2) (b : Fin 16) (s : Fin 4096) (n : Fin 2816) :
    val_main_v5 (F := Ideal) h u (ValueIdx.ix3 b (⟨2 - d + s.val, by omega⟩ : Fin 4098) n) = backAt h u d (row b s) n := by
  unfold backAt
  have hm : (row b s).val % 4096 = s.val := by show (b.val * 4096 + s.val) % 4096 = s.val; omega
  unfold val_main_v5
  by_cases hs : d ≤ s.val
  · rw [if_pos (hm ▸ hs)]
    refine (pad_apply_of_inside _ _ _ _ _ _ _ _ (ValueIdx.ix3 b (⟨s.val - d, by omega⟩ : Fin 4096) n) (fun a => ?_)).trans ?_
    · match a with
      | ⟨0, _⟩ => show b.val = 0 + b.val * (0 + 1); omega
      | ⟨1, _⟩ => show 2 - d + s.val = 2 + (s.val - d) * (0 + 1); omega
      | ⟨2, _⟩ => show n.val = 0 + n.val * (0 + 1); omega
    · refine (gate_read h u b _ n).trans ?_
      refine congrArg (fun r => gateAt h u r n) (Fin.ext ?_)
      show b.val * 4096 + (s.val - d) = b.val * 4096 + s.val - d
      omega
  · rw [if_neg (hm ▸ hs)]
    refine (pad_apply_of_not_inside _ _ _ _ _ _ _ _ 1 (fun hh => hs ?_)).trans ?_
    · have h1 : 2 ≤ 2 - d + s.val := hh.1
      omega
    · show (((0#32 : BitVec 32).toInt : ℝ) : EReal) = 0
      simp

theorem conv_read (b : Fin 16) (s : Fin 4096) (n : Fin 2816) : val_main_v29 (F := Ideal) h u cw cb (ValueIdx.ix3 b s n) = convAt h u cw cb (row b s) n := by
  have hb : val_main_v14 (F := Ideal) cb (ValueIdx.ix3 b s n) = cb (ValueIdx.ix2 0 n) := by
    rw [val_main_v14_apply, val_main_v13_apply, val_main_v6_apply]
    refine congrArg cb (funext fun a => Fin.ext ?_)
    match a with
    | ⟨0, _⟩ => rfl
    | ⟨1, _⟩ => show n.val % 2816 = n.val; omega
  have h0 : val_main_v11 (F := Ideal) cw (ValueIdx.ix3 b s n) = cw (ValueIdx.ix2 0 n) := by
    rw [val_main_v11_apply, val_main_v10_apply, val_main_v8_apply, val_main_v7_apply]
    refine congrArg cw (funext fun a => Fin.ext ?_)
    match a with
    | ⟨0, _⟩ => rfl
    | ⟨1, _⟩ => show n.val % 2816 = n.val; omega
  have h1 : val_main_v20 (F := Ideal) cw (ValueIdx.ix3 b s n) = cw (ValueIdx.ix2 1 n) := by
    rw [val_main_v20_apply, val_main_v19_apply, val_main_v17_apply, val_main_v16_apply]
    refine congrArg cw (funext fun a => Fin.ext ?_)
    match a with
    | ⟨0, _⟩ => rfl
    | ⟨1, _⟩ => show n.val % 2816 = n.val; omega
  have h2 : val_main_v27 (F := Ideal) cw (ValueIdx.ix3 b s n) = cw (ValueIdx.ix2 2 n) := by
    rw [val_main_v27_apply, val_main_v26_apply, val_main_v24_apply, val_main_v23_apply]
    refine congrArg cw (funext fun a => Fin.ext ?_)
    match a with
    | ⟨0, _⟩ => rfl
    | ⟨1, _⟩ => show n.val % 2816 = n.val; omega
  have p2 : val_main_v9 (F := Ideal) h u (ValueIdx.ix3 b s n) = backAt h u 2 (row b s) n := by
    rw [val_main_v9_apply]
    refine Eq.trans (congrArg (val_main_v5 (F := Ideal) h u) (funext fun a => Fin.ext ?_)) (past_read h u 2 (by omega) b s n)
    match a with
    | ⟨0, _⟩ => rfl
    | ⟨1, _⟩ => show s.val = 2 - 2 + s.val; omega
    | ⟨2, _⟩ => rfl
  have p1 : val_main_v18 (F := Ideal) h u (ValueIdx.ix3 b s n) = backAt h u 1 (row b s) n := by
    rw [val_main_v18_apply]
    refine Eq.trans (congrArg (val_main_v5 (F := Ideal) h u) (funext fun a => Fin.ext ?_)) (past_read h u 1 (by omega) b s n)
    match a with
    | ⟨0, _⟩ => rfl
    | ⟨1, _⟩ => show 1 + s.val = 2 - 1 + s.val; omega
    | ⟨2, _⟩ => rfl
  have p0 : val_main_v25 (F := Ideal) h u (ValueIdx.ix3 b s n) = gateAt h u (row b s) n := by
    rw [val_main_v25_apply]
    refine (Eq.trans (congrArg (val_main_v5 (F := Ideal) h u) (funext fun a => Fin.ext ?_)) (past_read h u 0 (by omega) b s n)).trans ?_
    · match a with
      | ⟨0, _⟩ => rfl
      | ⟨1, _⟩ => show 2 + s.val = 2 - 0 + s.val; omega
      | ⟨2, _⟩ => rfl
    · unfold backAt
      rw [if_pos (Nat.zero_le _)]
      rfl
  rw [val_main_v29_apply, val_main_v28_apply, val_main_v22_apply, val_main_v21_apply, val_main_v15_apply, val_main_v12_apply,
    hb, h0, h1, h2, p2, p1, p0]
  rfl

theorem act_read (b : Fin 16) (s : Fin 4096) (n : Fin 2816) : val_main_v31 (F := Ideal) h u cw cb (ValueIdx.ix3 b s n) = actAt h u cw cb (row b s) n := by
  rw [val_main_v31_apply, val_main_v30_apply, val_main_call1_v5_apply, val_main_call1_v4_apply, val_main_call1_v3_apply, val_main_call1_v2_apply,
    val_main_call1_cst_0_apply, val_main_call1_cst_apply, val_main_call1_v1_apply, val_main_call1_v0_apply, conv_read, value_read]
  unfold actAt
  refine congrArg (fun l : EReal => convAt h u cw cb (row b s) n * l * valAt h u (row b s) n) ?_
  show Ideal.div (Ideal.ofBits .f32 0x3F800000#32) (Ideal.ofBits .f32 0x3F800000#32 + Ideal.exp (-convAt h u cw cb (row b s) n)) = _
  rw [Ideal.ofBits_one_f32]
  rfl

/-- The reference's result is the mixer of its arguments. -/
theorem res_eq : val_main_v35 (F := Ideal) h x u cw cb wd = mix h x u cw cb wd := funext fun i => by
  rw [val_main_v35_apply, val_main_v34_apply]
  unfold mix
  refine congrArg (fun t : EReal => x i + t) (Finset.sum_congr rfl fun n _ => ?_)
  have hr : (i 0).val < 65536 := (i 0).isLt
  refine congrArg₂ (fun a b : EReal => a * b) ?_ ?_
  · rw [val_main_v32_apply]
    refine (congrArg (val_main_v31 (F := Ideal) h u cw cb) (?_ : _ = ValueIdx.ix3 (⟨(i 0).val / 4096, by omega⟩ : Fin 16) (⟨(i 0).val % 4096, by omega⟩ : Fin 4096) n)).trans ?_
    · funext a; apply Fin.ext
      match a with
      | ⟨0, _⟩ => show ((i 0).val * 2816 + n.val) / 11534336 = (i 0).val / 4096; omega
      | ⟨1, _⟩ => show ((i 0).val * 2816 + n.val) / 2816 % 4096 = (i 0).val % 4096; omega
      | ⟨2, _⟩ => show ((i 0).val * 2816 + n.val) % 2816 = n.val; omega
    · refine (act_read h u cw cb _ _ n).trans (congrArg (fun r => actAt h u cw cb r n) (Fin.ext ?_))
      show (i 0).val / 4096 * 4096 + (i 0).val % 4096 = (i 0).val
      omega
  · rw [val_main_v33_apply]
    exact congrArg wd (ValueIdx.eq_ix2 _)

/-- The reference runs, keeps its arguments, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.FfnRefIdeal.Mixer

end
-- ==== Proof.InProj.Frame.lean ====
module

public import proofs.«01_k».proof.Proof.Gen.InProj.Frame
-- ==== Proof.Conv.Frame.lean ====
module

public import proofs.«01_k».proof.Proof.Gen.Conv.Frame
-- ==== Proof.Rows.Gated.lean ====
module

public import proofs.«01_k».proof.Proof.Rows.Mixer

@[expose] public section

noncomputable section

namespace Cert.Gated

open Idealize.ShloMosaic Idealize.ShloMosaic.ValueIdx
open scoped BigOperators

/-- A matrix of reals and infinities. -/
abbrev Mat (M N : ℕ) : Type := (⟨2, ![M, N]⟩ : Shape).Idx → EReal

/-- An entry of a product of two matrices. -/
def prod {M K N : ℕ} (y : Mat M K) (w : Mat K N) (r : Fin M) (n : Fin N) : EReal := ∑ k : Fin K, y (ix2 r k) * w (ix2 k n)

/-- A branch's column among the gates of the three branches. -/
def lane (b : Fin 3) (n : Fin 1024) : Fin 3072 := ⟨1024 * b.val + n.val, by omega⟩

/-- Twice a branch's part of the merge, by the hyperbolic tangent of half the gate's logit. -/
def part (z d : EReal) : EReal := Ideal.tanh z * d + d

variable {M : ℕ} (ya : Mat M 384) (yb : Mat M 512) (yc : Mat M 256) (gl : Mat M 3072) (gb : Mat 1 3072) (x : Mat M 1024)
  (wa : Mat 384 1024) (wb : Mat 512 1024) (wc : Mat 256 1024) (wo : Mat 1024 1024) (gn : Mat 1 1024)

/-- Half the logit of a branch's gate. -/
def zAt (b : Fin 3) (r : Fin M) (n : Fin 1024) : EReal := gl (ix2 r (lane b n)) + gb (ix2 0 (lane b n))

/-- Twice the merge of the branches. -/
def mergedAt (r : Fin M) (n : Fin 1024) : EReal :=
  (part (zAt gl gb 0 r n) (prod ya wa r n) + part (zAt gl gb 1 r n) (prod yb wb r n)) + part (zAt gl gb 2 r n) (prod yc wc r n)

/-- An entry of the residual stream after the merge. -/
def outAt (r : Fin M) (n : Fin 1024) : EReal :=
  x (ix2 r n) + ∑ k : Fin 1024, mergedAt ya yb yc gl gb wa wb wc r k * wo (ix2 k n)

/-- The residual stream after the merge. -/
def out : Mat M 1024 := fun i => outAt ya yb yc gl gb x wa wb wc wo (i 0) (i 1)

/-- The residual stream after the merge, normalized. -/
def outN : Mat M 1024 := fun i =>
  Rows.nrm (fun j => outAt ya yb yc gl gb x wa wb wc wo (i 0) j) (fun j => gn (ix2 0 j)) (i 1)

/-- A row of the merge depends on the same row of the branches, the gates and the residual only. -/
theorem outAt_row {M' : ℕ} {ya' : Mat M' 384} {yb' : Mat M' 512} {yc' : Mat M' 256} {gl' : Mat M' 3072} {x' : Mat M' 1024} {r : Fin M} {r' : Fin M'}
    (ha : ∀ k, ya (ix2 r k) = ya' (ix2 r' k)) (hb : ∀ k, yb (ix2 r k) = yb' (ix2 r' k)) (hc : ∀ k, yc (ix2 r k) = yc' (ix2 r' k))
    (hg : ∀ k, gl (ix2 r k) = gl' (ix2 r' k)) (hx : ∀ k, x (ix2 r k) = x' (ix2 r' k)) (n : Fin 1024) :
    outAt ya yb yc gl gb x wa wb wc wo r n = outAt ya' yb' yc' gl' gb x' wa wb wc wo r' n := by
  simp only [outAt, mergedAt, zAt, prod, ha, hb, hc, hg, hx]

/-- Two. -/
theorem two : Ideal.ofBits .f32 0x40000000#32 = ((2 : ℝ) : EReal) := by
  simp [Ideal.ofBits, Ideal.ieee]
  refine (EReal.coe_mul _ _).symm.trans (congrArg _ ?_)
  norm_num

/-- The hyperbolic tangent is real everywhere. -/
theorem tanh_real (z : EReal) : ∃ u : ℝ, Ideal.tanh z = (u : EReal) := by
  induction z using EReal.rec with
  | bot => exact ⟨-1, by rw [Ideal.tanh_bot]; norm_num⟩
  | top => exact ⟨1, by rw [Ideal.tanh_top]; norm_num⟩
  | coe r => exact ⟨_, Ideal.tanh_coe r⟩

/-- The logistic function of twice `z` by the hyperbolic tangent of `z`. -/
theorem logistic_double (z : EReal) :
    Ideal.logistic (Ideal.ofBits .f32 0x40000000#32 * z) = ((1 / 2 : ℝ) : EReal) * Ideal.tanh z + ((1 / 2 : ℝ) : EReal) := by
  rw [← Mixer.logistic_tanh, Mixer.half, two, ← mul_assoc, ← EReal.coe_mul]
  norm_num

/-- Three branches with real projections: the doubled merge times a weight is the merge times the doubled weight. -/
theorem double_merge (z₀ z₁ z₂ w : EReal) (d₀ d₁ d₂ : ℝ) :
    ((part z₀ d₀ + part z₁ d₁) + part z₂ d₂) * w
      = ((Ideal.logistic (Ideal.ofBits .f32 0x40000000#32 * z₀) * d₀ + Ideal.logistic (Ideal.ofBits .f32 0x40000000#32 * z₁) * d₁)
          + Ideal.logistic (Ideal.ofBits .f32 0x40000000#32 * z₂) * d₂) * (Ideal.ofBits .f32 0x40000000#32 * w) := by
  rw [logistic_double, logistic_double, logistic_double, two, ← mul_assoc]
  obtain ⟨u₀, h₀⟩ := tanh_real z₀
  obtain ⟨u₁, h₁⟩ := tanh_real z₁
  obtain ⟨u₂, h₂⟩ := tanh_real z₂
  refine congrArg (fun s : EReal => s * w) ?_
  unfold part
  rw [h₀, h₁, h₂]
  simp only [← EReal.coe_mul, ← EReal.coe_add]
  refine congrArg _ ?_
  ring

/-- A sum of reals, taken among the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals is real. -/
theorem prod_real {K N : ℕ} {y : Mat M K} {w : Mat K N} (hy : ∀ i, ∃ u : ℝ, y i = (u : EReal)) (hw : ∀ i, ∃ u : ℝ, w i = (u : EReal))
    (r : Fin M) (n : Fin N) : ∃ u : ℝ, prod y w r n = (u : EReal) := by
  choose f hf using hy
  choose g hg using hw
  refine ⟨∑ k : Fin K, f (ix2 r k) * g (ix2 k n), ?_⟩
  unfold prod
  simp only [hf, hg, ← EReal.coe_mul]
  exact sum_real _ _

end Cert.Gated

end
-- ==== Proof.Rows.Taps.lean ====
module

public import proofs.«01_k».proof.Proof.Rows.Mixer
public import proofs.«01_k».proof.Proof.Rows.Gated

@[expose] public section

noncomputable section

namespace Cert.Taps

open Idealize.ShloMosaic Idealize.ShloMosaic.ValueIdx
open scoped BigOperators

/-- A start and the first taps of a filter, added one after the other. -/
def taps (b : EReal) (w x : ℕ → EReal) : ℕ → EReal
  | 0 => b
  | k + 1 => taps b w x k + w k * x k

/-- The mean of a row. -/
def mean (y : Fin 256 → EReal) : EReal := Ideal.div (∑ j : Fin 256, y j) (Ideal.ofBits .f32 0x43800000#32)

/-- A row less its mean. -/
def mid (y : Fin 256 → EReal) (n : Fin 256) : EReal := y n - mean y

/-- The layer normalization of a row. -/
def lnorm (y g b : Fin 256 → EReal) (n : Fin 256) : EReal :=
  mid y n * Ideal.rsqrt (mean (fun j => mid y j * mid y j) + Ideal.ofBits .f32 0x358637BD#32) * g n + b n

/-- The activation. -/
def silu (z : EReal) : EReal := z * Ideal.logistic z

/-- The activation the way of the hyperbolic tangent. -/
def siluHalf (z : EReal) : EReal :=
  (Ideal.ofBits .f32 0x3F000000#32 * z) * Ideal.tanh (Ideal.ofBits .f32 0x3F000000#32 * z) + Ideal.ofBits .f32 0x3F000000#32 * z

/-- The taps of a filter, by their numbers. -/
def tapW (w : (⟨2, ![31, 256]⟩ : Shape).Idx → EReal) (n : Fin 256) (k : ℕ) : EReal := if h : k < 31 then w (ix2 ⟨k, h⟩ n) else 0

variable (cab : (⟨3, ![16, 4096, 512]⟩ : Shape).Idx → EReal) (w : (⟨2, ![31, 256]⟩ : Shape).Idx → EReal)
  (bias g be : (⟨2, ![1, 256]⟩ : Shape).Idx → EReal)

/-- A token's half times the logistic function of its other half. -/
def glu (b : Fin 16) (t : ℕ) (n : Fin 256) : EReal :=
  if h : t < 4096 then cab (ix3 b ⟨t, h⟩ ⟨n.val, by omega⟩) * Ideal.logistic (cab (ix3 b ⟨t, h⟩ ⟨256 + n.val, by omega⟩)) else 0

/-- The same thirty tokens later, zero before the start. -/
def past (b : Fin 16) (t : ℕ) (n : Fin 256) : EReal := if 30 ≤ t then glu cab b (t - 30) n else 0

/-- The causal filter of a channel. -/
def rowAt (b : Fin 16) (t : ℕ) (n : Fin 256) : EReal :=
  taps (bias (ix2 0 n)) (tapW w n) (fun k => past cab b (t + k) n) 31

/-- The filtered rows, normalized. -/
def normAt (b : Fin 16) (t : ℕ) (n : Fin 256) : EReal :=
  lnorm (rowAt cab w bias b t) (fun j => g (ix2 0 j)) (fun j => be (ix2 0 j)) n

/-- The result. -/
def out : (⟨3, ![16, 4096, 256]⟩ : Shape).Idx → EReal := fun i => silu (normAt cab w bias g be (i 0) (i 1).val (i 2))

/-! ## Reals stay real -/

/-- An extended real that is a real. -/
def Fin' (x : EReal) : Prop := ∃ u : ℝ, x = (u : EReal)

theorem Fin'.add {x y : EReal} : Fin' x → Fin' y → Fin' (x + y) := fun ⟨a, ha⟩ ⟨b, hb⟩ => ⟨a + b, by rw [ha, hb, EReal.coe_add]⟩
theorem Fin'.mul {x y : EReal} : Fin' x → Fin' y → Fin' (x * y) := fun ⟨a, ha⟩ ⟨b, hb⟩ => ⟨a * b, by rw [ha, hb, EReal.coe_mul]⟩
theorem Fin'.sub {x y : EReal} : Fin' x → Fin' y → Fin' (x - y) := fun ⟨a, ha⟩ ⟨b, hb⟩ => ⟨a - b, by rw [ha, hb, EReal.coe_sub]⟩
theorem Fin'.zero : Fin' 0 := ⟨0, rfl⟩

theorem logistic_fin {x : EReal} : Fin' x → Fin' (Ideal.logistic x) := fun ⟨a, ha⟩ => ⟨_, by rw [ha, Ideal.logistic_coe]⟩

theorem taps_fin {b : EReal} {w x : ℕ → EReal} (hb : Fin' b) (hw : ∀ k, Fin' (w k)) (hx : ∀ k, Fin' (x k)) : ∀ k, Fin' (taps b w x k)
  | 0 => hb
  | k + 1 => (taps_fin hb hw hx k).add ((hw k).mul (hx k))

/-- The width of a row. -/
theorem width : Ideal.ofBits .f32 0x43800000#32 = ((256 : ℝ) : EReal) := by
  simp [Ideal.ofBits, Ideal.ieee]
  refine (EReal.coe_mul _ _).symm.trans (congrArg _ ?_)
  norm_num

/-- The small number under the root is a positive real. -/
theorem small : ∃ e : ℝ, 0 < e ∧ Ideal.ofBits .f32 0x358637BD#32 = (e : EReal) := by
  refine ⟨8796093 / 2 ^ 43, by norm_num, ?_⟩
  simp [Ideal.ofBits, Ideal.ieee]
  refine (EReal.coe_mul _ _).symm.trans (congrArg _ ?_)
  norm_num

theorem mean_real {y : Fin 256 → EReal} {f : Fin 256 → ℝ} (h : ∀ j, y j = (f j : EReal)) : mean y = (((∑ j, f j) * (1 / 256) : ℝ) : EReal) := by
  unfold mean
  rw [width, Ideal.div_coe (by norm_num), EReal.coe_mul, ← Gated.sum_real]
  simp only [h]

/-- The normalization of a real row is real. -/
theorem lnorm_real {y g b : Fin 256 → EReal} (hy : ∀ j, Fin' (y j)) (hg : ∀ j, Fin' (g j)) (hb : ∀ j, Fin' (b j)) (n : Fin 256) :
    Fin' (lnorm y g b n) := by
  choose f hf using hy
  have hm := mean_real hf
  have hmid : ∀ j, mid y j = ((f j - (∑ j, f j) * (1 / 256) : ℝ) : EReal) := fun j => by
    unfold mid
    rw [hm, hf, EReal.coe_sub]
  have hsq : mean (fun j => mid y j * mid y j)
      = (((∑ j, (f j - (∑ j, f j) * (1 / 256)) * (f j - (∑ j, f j) * (1 / 256))) * (1 / 256) : ℝ) : EReal) :=
    mean_real fun j => by rw [hmid, EReal.coe_mul]
  have hp : 0 ≤ (∑ j, (f j - (∑ j, f j) * (1 / 256)) * (f j - (∑ j, f j) * (1 / 256))) * (1 / 256 : ℝ) :=
    mul_nonneg (Finset.sum_nonneg fun j _ => mul_self_nonneg _) (by norm_num)
  obtain ⟨e, he, hE⟩ := small
  unfold lnorm
  refine (Fin'.mul (Fin'.mul ⟨_, hmid n⟩ ?_) (hg n)).add (hb n)
  rw [hsq, hE, ← EReal.coe_add, Ideal.rsqrt_coe, if_neg (by linarith), if_neg (by linarith)]
  exact ⟨_, rfl⟩

/-- An extended real that is not a real. -/
def Inf' (x : EReal) : Prop := x = ⊤ ∨ x = ⊥

theorem fin_or_inf (x : EReal) : Fin' x ∨ Inf' x := by
  induction x using EReal.rec with
  | bot => exact .inr (.inr rfl)
  | coe a => exact .inl ⟨a, rfl⟩
  | top => exact .inr (.inl rfl)

theorem Inf'.add {x : EReal} (h : Inf' x) (y : EReal) : Inf' (x + y) := by
  rcases h with rfl | rfl
  · by_cases hy : y = ⊥
    · exact .inr (by rw [hy, EReal.add_bot])
    · exact .inl (EReal.top_add_of_ne_bot hy)
  · exact .inr (EReal.bot_add y)

/-- Less an infinity, everything is infinite. -/
theorem Inf'.sub {x : EReal} (h : Inf' x) (y : EReal) : Inf' (y - x) := by
  rw [sub_eq_add_neg, add_comm]
  refine Inf'.add ?_ y
  rcases h with rfl | rfl
  · exact .inr EReal.neg_top
  · exact .inl EReal.neg_bot

theorem Inf'.sq {x : EReal} (h : Inf' x) : x * x = ⊤ := by
  rcases h with rfl | rfl
  · exact EReal.top_mul_top
  · exact EReal.bot_mul_bot

/-- The mean of a row with an infinity in it is infinite. -/
theorem mean_inf {y : Fin 256 → EReal} (j : Fin 256) (h : Inf' (y j)) : Inf' (mean y) := by
  unfold mean
  rw [width, Ideal.div_coe (by norm_num), ← Finset.add_sum_erase _ y (Finset.mem_univ j)]
  rcases h.add (∑ k ∈ Finset.univ.erase j, y k) with e | e
  · exact .inl (by rw [e]; exact EReal.top_mul_coe_of_pos (by norm_num))
  · exact .inr (by rw [e]; exact EReal.bot_mul_coe_of_pos (by norm_num))

/-- The normalization of any row is real: with an infinity in the row the deviation is infinite, and only the shift is left. -/
theorem lnorm_fin {y g b : Fin 256 → EReal} (hg : ∀ j, Fin' (g j)) (hb : ∀ j, Fin' (b j)) (n : Fin 256) : Fin' (lnorm y g b n) := by
  by_cases hy : ∀ j, Fin' (y j)
  · exact lnorm_real hy hg hb n
  · obtain ⟨j, hj⟩ := not_forall.mp hy
    have hm : Inf' (mean y) := mean_inf j ((fin_or_inf _).resolve_left hj)
    have hs : (fun k => mid y k * mid y k) = fun _ => (⊤ : EReal) := funext fun k => (hm.sub (y k)).sq
    have ht : mean (fun _ => (⊤ : EReal)) = ⊤ := by
      refine (mean_inf (y := fun _ => (⊤ : EReal)) 0 (.inl rfl)).resolve_right fun e => ?_
      have h0 : (0 : EReal) ≤ mean (fun _ => (⊤ : EReal)) := by
        unfold mean
        rw [width, Ideal.div_coe (by norm_num)]
        exact mul_nonneg (Finset.sum_nonneg fun _ _ => le_top) (EReal.coe_nonneg.mpr (by norm_num))
      rw [e] at h0
      exact absurd h0 (by simp)
    obtain ⟨e, -, hE⟩ := small
    unfold lnorm
    rw [hs, ht, hE, EReal.top_add_coe, Ideal.rsqrt_top, mul_zero, zero_mul, zero_add]
    exact hb n

/-- For a real both forms of the activation agree. -/
theorem silu_half {z : EReal} (h : Fin' z) : siluHalf z = silu z := by
  obtain ⟨a, rfl⟩ := h
  unfold silu siluHalf
  rw [← Mixer.logistic_tanh, Mixer.half, ← EReal.coe_mul]
  obtain ⟨u, hu⟩ := Gated.tanh_real ((1 / 2 * a : ℝ) : EReal)
  rw [hu]
  simp only [← EReal.coe_mul, ← EReal.coe_add]
  refine congrArg _ ?_
  ring

theorem normAt_fin (hg : ∀ i, Fin' (g i)) (hb : ∀ i, Fin' (be i)) (b : Fin 16) (t : ℕ) (n : Fin 256) : Fin' (normAt cab w bias g be b t n) :=
  lnorm_fin (fun _ => hg _) (fun _ => hb _) n

theorem taps_congr {b b' : EReal} {w w' x x' : ℕ → EReal} (hb : b = b') (hw : ∀ k, w k = w' k) : ∀ k, (∀ j < k, x j = x' j) → taps b w x k = taps b' w' x' k
  | 0, _ => hb
  | k + 1, h => by
    unfold taps
    rw [taps_congr hb hw k fun j hj => h j (by omega), hw, h k (by omega)]

/-! ## Blocks of rows -/

/-- The sum of a row, as the reduction over the columns gives it. -/
theorem row_sum {M : ℕ} (v : FVec Ideal ⟨2, ![M, 256]⟩ .f32) (hr hφ hacc) (p : Fin M) :
    multiReduction .add [1] ⟨1, ![M]⟩ v 0x00000000#32 hr hφ hacc (ix1 p) = ∑ k : Fin 256, (v (ix2 p k) : EReal) := by
  refine (Ideal.multiReduction_add_single v _ hr hφ hacc (ix1 p)).trans ?_
  refine Finset.sum_congr rfl fun k _ => congrArg v ?_
  funext a; apply Fin.ext
  match a with
  | ⟨0, _⟩ => rfl
  | ⟨1, _⟩ => rfl

/-- The means of a block's rows. -/
theorem means {M : ℕ} (v : FVec Ideal ⟨2, ![M, 256]⟩ .f32) (y : Fin 256 → EReal) (hr hφ hacc hc) (p : Fin M) (h : ∀ k, v (ix2 p k) = y k) :
    divf (shapeCast ⟨2, ![M, 1]⟩ (multiReduction .add [1] ⟨1, ![M]⟩ v 0x00000000#32 hr hφ hacc) hc)
      (broadcast ⟨2, ![M, 1]⟩ (Scalar.ofBits .f32 0x43800000#32)) (ix2 p (0 : Fin 1)) = mean y := by
  show Ideal.div (shapeCast _ _ hc (ix2 p (0 : Fin 1))) _ = _
  rw [Rows.cast_col, row_sum]
  unfold mean
  exact congrArg (fun s : EReal => Ideal.div s _) (Finset.sum_congr rfl fun k _ => h k)

/-- A block of rows less their means. -/
theorem mids {M : ℕ} (v : FVec Ideal ⟨2, ![M, 256]⟩ .f32) (y : Fin 256 → EReal) (hr hφ hacc hc hb) (p : Fin M) (h : ∀ k, v (ix2 p k) = y k) (n : Fin 256) :
    subf v (broadcastTo ⟨2, ![M, 256]⟩ (divf (shapeCast ⟨2, ![M, 1]⟩ (multiReduction .add [1] ⟨1, ![M]⟩ v 0x00000000#32 hr hφ hacc) hc)
      (broadcast ⟨2, ![M, 1]⟩ (Scalar.ofBits .f32 0x43800000#32))) hb) (ix2 p n) = mid y n := by
  show v (ix2 p n) - broadcastTo _ _ hb (ix2 p n) = _
  rw [Rows.spread_col, means v y hr hφ hacc hc p h, h]
  rfl

/-- A block of rows, normalized and given to the activation. -/
theorem acts {M : ℕ} (v : FVec Ideal ⟨2, ![M, 256]⟩ .f32) (gv bv : FVec Ideal ⟨2, ![1, 256]⟩ .f32) (y G B : Fin 256 → EReal) (hr hφ hacc hc hb hg hg' hlt hs) (p : Fin M)
    (h : ∀ k, mid y k = v (ix2 p k)) (hG : ∀ k, gv (ix2 0 k) = G k) (hB : ∀ k, bv (ix2 0 k) = B k) (n : Fin 256) (z : FVec Ideal ⟨2, ![M, 256]⟩ .f32)
    (hz : z = addf (mulf (mulf v (broadcastTo ⟨2, ![M, 256]⟩
        (rsqrt (addf (divf (shapeCast ⟨2, ![M, 1]⟩ (multiReduction .add [1] ⟨1, ![M]⟩ (mulf v v) 0x00000000#32 hr hφ hacc) hc)
          (broadcast ⟨2, ![M, 1]⟩ (Scalar.ofBits .f32 0x43800000#32))) (broadcast ⟨2, ![M, 1]⟩ (Scalar.ofBits .f32 0x358637BD#32)))) hb))
      (broadcastTo ⟨2, ![M, 256]⟩ gv hg)) (broadcastTo ⟨2, ![M, 256]⟩ bv hg')) :
    shapeCast ⟨3, ![1, M, 256]⟩ (truncf .bf16 (addf (mulf (mulf (broadcast ⟨2, ![M, 256]⟩ (Scalar.ofBits .f32 0x3F000000#32)) z)
        (tanh (mulf (broadcast ⟨2, ![M, 256]⟩ (Scalar.ofBits .f32 0x3F000000#32)) z)))
      (mulf (broadcast ⟨2, ![M, 256]⟩ (Scalar.ofBits .f32 0x3F000000#32)) z)) hlt) hs (ix3 (0 : Fin 1) p n)
      = siluHalf (lnorm y G B n) := by
  have e : z (ix2 p n) = lnorm y G B n := by
    subst hz
    show v (ix2 p n) * broadcastTo _ _ hb (ix2 p n) * broadcastTo _ gv hg (ix2 p n) + broadcastTo _ bv hg' (ix2 p n) = _
    rw [Rows.spread_col, broadcastTo_1b_ab_apply, broadcastTo_1b_ab_apply, hG, hB]
    unfold lnorm
    rw [h]
    refine congrArg (fun s : EReal => v (ix2 p n) * Ideal.rsqrt (s + Ideal.ofBits .f32 0x358637BD#32) * G n + B n) ?_
    exact means (mulf v v) _ hr hφ hacc hc p fun k => by
      show v (ix2 p k) * v (ix2 p k) = mid y k * mid y k
      rw [h]
  refine (shapeCast_ab_1ab_apply _ hs 0 p n).trans ?_
  unfold siluHalf
  rw [← e]
  rfl

end Cert.Taps

end
-- ==== Proof.ConvIdeal.Body.lean ====
module

public import proofs.«01_k».proof.Proof.Gen.ConvIdeal.Frame
public import proofs.«01_k».proof.Proof.Rows.Taps
public import proofs.«01_k».proof.Proof.Fox.Reads
public import Idealize.ShloMosaic.Lib.Ring

@[expose] public section

set_option maxRecDepth 16384

noncomputable section

namespace Cert.ConvIdeal.Filter

open Idealize.ShloMosaic Cert.ConvIdeal Cert.ConvIdeal.Gen Cert.Taps

/-- A row of a block: its half times the logistic function of its other half. -/
def gluB (x0 : Vec Ideal S1x256x512 .bf16) (p : ℕ) (n : Fin 256) : EReal :=
  if h : p < 256 then x0 (ValueIdx.ix3 0 ⟨p, h⟩ ⟨n.val, by omega⟩) * Ideal.logistic (x0 (ValueIdx.ix3 0 ⟨p, h⟩ ⟨256 + n.val, by omega⟩)) else 0

/-- The rows a point filters: thirty-two rows from before, then the block's own. -/
def ub (head : ℕ → Fin 256 → EReal) (x0 : Vec Ideal S1x256x512 .bf16) (q : ℕ) (n : Fin 256) : EReal :=
  if q < 32 then head q n else gluB x0 (q - 32) n

/-- No rows before a sequence's start. -/
def none' (_ : ℕ) (_ : Fin 256) : EReal := 0

/-- The rows kept by the point before. -/
def kept (xs0 : Vec Ideal S288x256 .f32) (q : ℕ) (n : Fin 256) : EReal := if h : q < 288 then xs0 (ValueIdx.ix2 ⟨q, h⟩ n) else 0

/-- A row of a block, filtered. -/
def rowB (head : ℕ → Fin 256 → EReal) (x0 : Vec Ideal S1x256x512 .bf16) (x1 : Vec Ideal S31x256 .f32) (x2 : Vec Ideal S1x256 .f32) (q : ℕ) (n : Fin 256) : EReal :=
  taps (x2 (ValueIdx.ix2 0 n)) (tapW x1 n) (fun k => ub head x0 (q + k + 2) n) 31

/-- A place in a matrix, coordinate by coordinate. -/
theorem pos2 {n0 n1 m0 m1 : ℕ} {y0 : Fin n0} {y1 : Fin n1} {x0 : Fin m0} {x1 : Fin m1} {o0 o1 : ℕ} (h0 : y0.val = o0 + x0.val) (h1 : y1.val = o1 + x1.val)
    (a : Fin 2) : (ValueIdx.ix2 y0 y1 a).val = (![o0, o1] : Fin 2 → ℕ) a + (ValueIdx.ix2 x0 x1 a).val :=
  match a with
  | ⟨0, _⟩ => h0
  | ⟨1, _⟩ => h1

variable (c : Dev nD) (x0 : Vec Ideal S1x256x512 .bf16) (x1 : Vec Ideal S31x256 .f32) (x2 : Vec Ideal S1x256 .f32) (xs0 : Vec Ideal S288x256 .f32)
  (arg2 : Memref sig .tc .vmem S1x256x512 .bf16) (harg2 : arg2.IsWhole) (arg3 : Memref sig .tc .vmem S31x256 .f32) (harg3 : arg3.IsWhole)
  (arg4 : Memref sig .tc .vmem S1x256 .f32) (harg4 : arg4.IsWhole) (arg8 : Memref sig .tc .vmem S288x256 .f32) (harg8 : arg8.IsWhole)
  (arg9 : Memref sig .tc .vmem S7x280x256 .f32)

/-- The block's own rows as they are stored. -/
theorem own_apply (inb inb') (p n : Fin 256) :
    k0_pay4 (View.readAt (Elt Ideal) arg2.view (Rect.unit (s := S1x256x512) ![0, 0, 0] S1x256x256.size inb).toLoadRect (harg2.unread x0))
      (View.readAt (Elt Ideal) arg2.view (Rect.unit (s := S1x256x512) ![0, 0, 256] S1x256x256.size inb').toLoadRect (harg2.unread x0)) (ValueIdx.ix2 p n)
      = gluB x0 p.val n := by
  unfold k0_pay4
  refine (shapeCast_apply _ _ (ValueIdx.ix2 p n) (ValueIdx.ix2 p n) rfl).trans ?_
  have e1 := Fox.load_apply harg2 x0 inb rfl (ValueIdx.ix3 (0 : Fin 1) p n) (ValueIdx.ix3 0 p ⟨n.val, by omega⟩)
    (Fox.pos3 rfl (Nat.zero_add _).symm (Nat.zero_add _).symm)
  have e2 := Fox.load_apply harg2 x0 inb' rfl (ValueIdx.ix3 (0 : Fin 1) p n) (ValueIdx.ix3 0 p ⟨256 + n.val, by omega⟩)
    (Fox.pos3 rfl (Nat.zero_add _).symm rfl)
  have f1 := ValueIdx.shapeCast_1ab_ab_apply (View.readAt (Elt Ideal) arg2.view (Rect.unit (s := S1x256x512) ![0, 0, 0] S1x256x256.size inb).toLoadRect (harg2.unread x0))
    shapeCasts_S1x256x256_S256x256 p n
  have f2 := ValueIdx.shapeCast_1ab_ab_apply (View.readAt (Elt Ideal) arg2.view (Rect.unit (s := S1x256x512) ![0, 0, 256] S1x256x256.size inb').toLoadRect (harg2.unread x0))
    shapeCasts_S1x256x256_S256x256 p n
  unfold gluB
  rw [dif_pos p.isLt, ← Mixer.logistic_tanh]
  refine congrArg₂ (fun a b : EReal => a * b) (f1.trans e1) ?_
  exact congrArg (fun a : EReal => Ideal.ofBits .f32 0x3F000000#32 * Ideal.tanh (Ideal.ofBits .f32 0x3F000000#32 * a) + Ideal.ofBits .f32 0x3F000000#32) (f2.trans e2)

/-- The rows of a first point as its buffer holds them. -/
theorem rows_first (f : arg8.view.ty.Contents (Elt Ideal)) (q : Fin 288) (n : Fin 256) :
    arg8.view.read (Elt Ideal) (arg8.view.writes (Elt Ideal) f (kernelRun0_A.sl.HS0_2 c arg2 harg2 x0)) (ValueIdx.ix2 q n) = ub none' x0 q.val n := by
  unfold kernelRun0_A.sl.HS0_2 ub
  have hq := q.isLt
  by_cases h : q.val < 32
  · rw [if_pos h]
    refine (Fox.skip _ _ _ _ _ (ValueIdx.ix2 q n) (0 : Fin 2) (Or.inl h)).trans ?_
    refine (Fox.hit _ _ _ _ _ (ValueIdx.ix2 q n) (ValueIdx.ix2 ⟨q.val, h⟩ n) (pos2 (Nat.zero_add _).symm (Nat.zero_add _).symm)).trans ?_
    unfold k0_pay3
    refine (shapeCast_apply _ _ (ValueIdx.ix2 ⟨q.val, h⟩ n) (ValueIdx.ix2 ⟨q.val, h⟩ n) rfl).trans ?_
    exact Ideal.ofBits_zero_f32
  · rw [if_neg h]
    refine (Fox.hit _ _ _ _ _ (ValueIdx.ix2 q n) (ValueIdx.ix2 ⟨q.val - 32, by omega⟩ n) (pos2 (by show q.val = 32 + (q.val - 32); omega) (Nat.zero_add _).symm)).trans ?_
    exact own_apply x0 arg2 harg2 _ _ ⟨q.val - 32, by omega⟩ n

/-- The block's own rows of a later point as its buffer holds them. -/
theorem rows_own (f : arg8.view.ty.Contents (Elt Ideal)) (head : ℕ → Fin 256 → EReal) (q : Fin 288) (n : Fin 256) (h : 32 ≤ q.val) :
    arg8.view.read (Elt Ideal) (arg8.view.writes (Elt Ideal) f (kernelRun0_B.sl.HS0_1 c arg2 harg2 x0)) (ValueIdx.ix2 q n) = ub head x0 q.val n := by
  unfold kernelRun0_B.sl.HS0_1 ub
  have hq := q.isLt
  rw [if_neg (by omega)]
  refine (Fox.hit _ _ _ _ _ (ValueIdx.ix2 q n) (ValueIdx.ix2 ⟨q.val - 32, by omega⟩ n) (pos2 (by show q.val = 32 + (q.val - 32); omega) (Nat.zero_add _).symm)).trans ?_
  exact own_apply x0 arg2 harg2 _ _ ⟨q.val - 32, by omega⟩ n

/-- The rows of a later point as its buffer holds them. -/
theorem rows_later (q : Fin 288) (n : Fin 256) :
    arg8.view.read (Elt Ideal) (arg8.view.writes (Elt Ideal) (harg8.unread xs0) (kernelRun0_B.sl.HS0_1 c arg2 harg2 x0)) (ValueIdx.ix2 q n) = ub (kept xs0) x0 q.val n := by
  by_cases h : q.val < 32
  · unfold kernelRun0_B.sl.HS0_1 ub kept
    rw [if_pos h, dif_pos q.isLt]
    refine (Fox.skip _ _ _ _ _ (ValueIdx.ix2 q n) (0 : Fin 2) (Or.inl h)).trans ?_
    exact congrFun (harg8.read_unread xs0) _
  · exact rows_own c x0 arg2 harg2 arg8 _ _ q n (by omega)

/-- A load of rows at a first point. -/
theorem load_first {R : ℕ} (o : ℕ) (inb) (p : Fin R) (n : Fin 256) (q : ℕ) (hq : o + p.val = q) :
    arg8.view.readCov (kernelRun0_A.sl.HS0_2 c arg2 harg2 x0) (Rect.unit (s := S288x256) ![o, 0] (⟨2, ![R, 256]⟩ : Shape).size inb).toLoadRect (ValueIdx.ix2 p n)
      = ub none' x0 q n := by
  have h : o + R ≤ 288 := inb 0
  subst hq
  exact (Fox.cov _ _ inb (ValueIdx.ix2 p n) (ValueIdx.ix2 ⟨o + p.val, by omega⟩ n) (pos2 rfl (Nat.zero_add _).symm)).trans
    (rows_first c x0 arg2 harg2 arg8 _ _ n)

/-- A load of own rows at a later point. -/
theorem load_own {R : ℕ} (head : ℕ → Fin 256 → EReal) (o : ℕ) (inb) (p : Fin R) (n : Fin 256) (q : ℕ) (hq : o + p.val = q) (ho : 32 ≤ o) :
    arg8.view.readCov (kernelRun0_B.sl.HS0_1 c arg2 harg2 x0) (Rect.unit (s := S288x256) ![o, 0] (⟨2, ![R, 256]⟩ : Shape).size inb).toLoadRect (ValueIdx.ix2 p n)
      = ub head x0 q n := by
  have h : o + R ≤ 288 := inb 0
  subst hq
  exact (Fox.cov _ _ inb (ValueIdx.ix2 p n) (ValueIdx.ix2 ⟨o + p.val, by omega⟩ n) (pos2 rfl (Nat.zero_add _).symm)).trans
    (rows_own c x0 arg2 harg2 arg8 _ head _ n (by show 32 ≤ o + p.val; omega))

/-- A load of rows at a later point. -/
theorem load_later {R : ℕ} (o : ℕ) (inb) (p : Fin R) (n : Fin 256) (q : ℕ) (hq : o + p.val = q) :
    View.readAt (Elt Ideal) arg8.view (Rect.unit (s := S288x256) ![o, 0] (⟨2, ![R, 256]⟩ : Shape).size inb).toLoadRect
      (arg8.view.writes (Elt Ideal) (harg8.unread xs0) (kernelRun0_B.sl.HS0_1 c arg2 harg2 x0)) (ValueIdx.ix2 p n)
      = ub (kept xs0) x0 q n := by
  have h : o + R ≤ 288 := inb 0
  subst hq
  exact (Fox.readAt_unit_apply _ _ inb (ValueIdx.ix2 p n) (ValueIdx.ix2 ⟨o + p.val, by omega⟩ n) (pos2 rfl (Nat.zero_add _).symm)).trans
    (rows_later c x0 xs0 arg2 harg2 arg8 harg8 _ n)

/-! ## The shifted copies -/

/-- The seven shifted copies of the rows. -/
def shifts (head : ℕ → Fin 256 → EReal) : S7x280x256.Idx → EReal := fun y => ub head x0 ((y 1).val + (y 0).val + 1) (y 2)

/-- One more copy that is its part of them. -/
theorem copies (head : ℕ → Fin 256 → EReal) (s : ℕ) (inb) (w : S1x280x256.Idx → Elt Ideal .f32) (L : List (View.Piece (Elt Ideal) S7x280x256 .f32))
    (hw : ∀ (j : Fin 280) (n : Fin 256), w (ValueIdx.ix3 0 j n) = ub head x0 (j.val + s + 1) n)
    (hL : ∀ pc ∈ L, ∀ x : pc.1.shape.Idx, pc.2 x = shifts x0 head (pc.1.emb x)) :
    ∀ pc ∈ (⟨Rect.unit (s := S7x280x256) ![s, 0, 0] S1x280x256.size inb, w⟩ : View.Piece (Elt Ideal) S7x280x256 .f32) :: L,
      ∀ x : pc.1.shape.Idx, pc.2 x = shifts x0 head (pc.1.emb x) := by
  intro pc hpc
  rcases List.mem_cons.mp hpc with rfl | hpc
  · intro x
    obtain ⟨z, j, n, rfl⟩ : ∃ (z : Fin 1) (j : Fin 280) (n : Fin 256), x = ValueIdx.ix3 z j n := ⟨x 0, x 1, x 2, ValueIdx.eq_ix3 x⟩
    obtain rfl : z = 0 := Subsingleton.elim _ _
    refine (hw j n).trans ?_
    unfold shifts
    congr 1
    · show j.val + s + 1 = (0 + 1 * j.val) + (s + 1 * 0) + 1; omega
    · apply Fin.ext; show n.val = 0 + 1 * n.val; omega
  · exact hL pc hpc

/-- A copy of a load. -/
theorem copy_apply (v : S280x256.Idx → Elt Ideal .f32) (h) (j : Fin 280) (n : Fin 256) : shapeCast S1x280x256 v h (ValueIdx.ix3 0 j n) = v (ValueIdx.ix2 j n) :=
  ValueIdx.shapeCast_ab_1ab_apply v h 0 j n

theorem copies_first : ∀ pc ∈ kernelRun0_A.sl.HS1_7 c arg2 harg2 arg8 x0, ∀ x : pc.1.shape.Idx, pc.2 x = shifts x0 none' (pc.1.emb x) := by
  unfold kernelRun0_A.sl.HS1_7
  refine copies x0 none' 6 _ _ _ (fun j n => (copy_apply _ _ j n).trans (load_first (R := 280) c x0 arg2 harg2 arg8 7 _ j n _ (by omega))) ?_
  refine copies x0 none' 5 _ _ _ (fun j n => (copy_apply _ _ j n).trans (load_first (R := 280) c x0 arg2 harg2 arg8 6 _ j n _ (by omega))) ?_
  refine copies x0 none' 4 _ _ _ (fun j n => (copy_apply _ _ j n).trans (load_first (R := 280) c x0 arg2 harg2 arg8 5 _ j n _ (by omega))) ?_
  refine copies x0 none' 3 _ _ _ (fun j n => (copy_apply _ _ j n).trans (load_first (R := 280) c x0 arg2 harg2 arg8 4 _ j n _ (by omega))) ?_
  refine copies x0 none' 2 _ _ _ (fun j n => (copy_apply _ _ j n).trans (load_first (R := 280) c x0 arg2 harg2 arg8 3 _ j n _ (by omega))) ?_
  refine copies x0 none' 1 _ _ _ (fun j n => (copy_apply _ _ j n).trans (load_first (R := 280) c x0 arg2 harg2 arg8 2 _ j n _ (by omega))) ?_
  refine copies x0 none' 0 _ _ _ (fun j n => (copy_apply _ _ j n).trans (load_first (R := 280) c x0 arg2 harg2 arg8 1 _ j n _ (by omega))) ?_
  intro pc hpc
  nomatch hpc

theorem copies_later : ∀ pc ∈ kernelRun0_B.sl.HS1_7 c arg2 harg2 arg8 harg8 x0 xs0, ∀ x : pc.1.shape.Idx, pc.2 x = shifts x0 (kept xs0) (pc.1.emb x) := by
  unfold kernelRun0_B.sl.HS1_7
  refine copies x0 (kept xs0) 6 _ _ _ (fun j n => (copy_apply _ _ j n).trans (load_later (R := 280) c x0 xs0 arg2 harg2 arg8 harg8 7 _ j n _ (by omega))) ?_
  refine copies x0 (kept xs0) 5 _ _ _ (fun j n => (copy_apply _ _ j n).trans (load_later (R := 280) c x0 xs0 arg2 harg2 arg8 harg8 6 _ j n _ (by omega))) ?_
  refine copies x0 (kept xs0) 4 _ _ _ (fun j n => (copy_apply _ _ j n).trans (load_later (R := 280) c x0 xs0 arg2 harg2 arg8 harg8 5 _ j n _ (by omega))) ?_
  refine copies x0 (kept xs0) 3 _ _ _ (fun j n => (copy_apply _ _ j n).trans (load_later (R := 280) c x0 xs0 arg2 harg2 arg8 harg8 4 _ j n _ (by omega))) ?_
  refine copies x0 (kept xs0) 2 _ _ _ (fun j n => (copy_apply _ _ j n).trans (load_later (R := 280) c x0 xs0 arg2 harg2 arg8 harg8 3 _ j n _ (by omega))) ?_
  refine copies x0 (kept xs0) 1 _ _ _ (fun j n => (copy_apply _ _ j n).trans (load_later (R := 280) c x0 xs0 arg2 harg2 arg8 harg8 2 _ j n _ (by omega))) ?_
  refine copies x0 (kept xs0) 0 _ _ _ (fun j n => (copy_apply _ _ j n).trans (load_later (R := 280) c x0 xs0 arg2 harg2 arg8 harg8 1 _ j n _ (by omega))) ?_
  intro pc hpc
  nomatch hpc

/-- A load of rows of one copy. -/
theorem slot_load (head : ℕ → Fin 256 → EReal) (L : List (View.Piece (Elt Ideal) S7x280x256 .f32))
    (hL : ∀ pc ∈ L, ∀ x : pc.1.shape.Idx, pc.2 x = shifts x0 head (pc.1.emb x)) (hc : ∀ y, ∃ pc ∈ L, y ∈ pc.1.set)
    (s : ℕ) (inb) (h0 : ∀ a, (Rect.unit (s := S7x280x256) ![s, 0, 0] S1x280x256.size inb).stride a = 1)
    (o : ℕ) (inb2) (h1 h2 hR) (p : Fin 64) (n : Fin 256) (q : ℕ) (hq : o + p.val + s + 1 = q) :
    LoadRect.valAlong (lr := (Rect.unit (s := S280x256) ![o, 0] S64x256.size inb2).toLoadRect) hR
      (arg9.view.readCov L ((Rect.unit (s := S7x280x256) ![s, 0, 0] S1x280x256.size inb).withinL
          (LoadRect.consLift (Rect.unit (s := S280x256) ![o, 0] S64x256.size inb2).toLoadRect ![1, 280, 256] h1 h2) h0)) (ValueIdx.ix2 p n)
      = ub head x0 q n := by
  subst hq
  have ho : o + 64 ≤ 280 := inb2 0
  refine (congrFun (View.readCov_eq_canon' arg9.view _ _) _).trans ?_
  refine (View.canon_apply_of_pieces (Val := Elt Ideal) (e := .f32) (shifts x0 head) _ hL _ (hc _)).trans ?_
  refine (congrArg (shifts x0 head) (?_ : _ = (Rect.unit (s := S7x280x256) ![s, 0, 0] S1x280x256.size inb).emb (ValueIdx.ix3 (0 : Fin 1) ⟨o + p.val, by omega⟩ n))).trans ?_
  · refine (Rect.idx_withinL _ _ h0 _).trans (congrArg _ ?_)
    refine (congrArg (LoadRect.idx _) (Shape.reshapeEquiv_cons_one (d := ![64, 256]) hR (ValueIdx.ix2 p n))).trans (funext fun a => Fin.ext ?_)
    match a with
    | ⟨0, _⟩ => rfl
    | ⟨1, _⟩ => show o + 1 * p.val = o + p.val; omega
    | ⟨2, _⟩ => show 0 + 1 * n.val = n.val; omega
  · unfold shifts
    congr 1
    · show (0 + 1 * (o + p.val)) + (s + 1 * 0) + 1 = o + p.val + s + 1; omega
    · apply Fin.ext; show 0 + 1 * n.val = n.val; omega

theorem cover_first (y : S7x280x256.Idx) : ∃ pc ∈ kernelRun0_A.sl.HS1_7 c arg2 harg2 arg8 x0, y ∈ pc.1.set := by
  refine View.cover_of_tiledL (s := S7x280x256) _ ![1, 280, 256] ?_ y
  unfold kernelRun0_A.sl.HS1_7
  rfl

theorem cover_later (y : S7x280x256.Idx) : ∃ pc ∈ kernelRun0_B.sl.HS1_7 c arg2 harg2 arg8 harg8 x0 xs0, y ∈ pc.1.set := by
  refine View.cover_of_tiledL (s := S7x280x256) _ ![1, 280, 256] ?_ y
  unfold kernelRun0_B.sl.HS1_7
  rfl

/-- A load of shifted rows at a first point. -/
theorem slot_first (s : ℕ) (inb h0) (o : ℕ) (inb2) (h1 h2 hR) (p : Fin 64) (n : Fin 256) (q : ℕ) (hq : o + p.val + s + 1 = q) :
    LoadRect.valAlong (lr := (Rect.unit (s := S280x256) ![o, 0] S64x256.size inb2).toLoadRect) hR
      (arg9.view.readCov (kernelRun0_A.sl.HS1_7 c arg2 harg2 arg8 x0) ((Rect.unit (s := S7x280x256) ![s, 0, 0] S1x280x256.size inb).withinL
          (LoadRect.consLift (Rect.unit (s := S280x256) ![o, 0] S64x256.size inb2).toLoadRect ![1, 280, 256] h1 h2) h0)) (ValueIdx.ix2 p n)
      = ub none' x0 q n :=
  slot_load x0 arg9 none' _ (copies_first c x0 arg2 harg2 arg8) (cover_first c x0 arg2 harg2 arg8) s inb h0 o inb2 h1 h2 hR p n q hq

/-- A load of shifted rows at a later point. -/
theorem slot_later (s : ℕ) (inb h0) (o : ℕ) (inb2) (h1 h2 hR) (p : Fin 64) (n : Fin 256) (q : ℕ) (hq : o + p.val + s + 1 = q) :
    LoadRect.valAlong (lr := (Rect.unit (s := S280x256) ![o, 0] S64x256.size inb2).toLoadRect) hR
      (arg9.view.readCov (kernelRun0_B.sl.HS1_7 c arg2 harg2 arg8 harg8 x0 xs0) ((Rect.unit (s := S7x280x256) ![s, 0, 0] S1x280x256.size inb).withinL
          (LoadRect.consLift (Rect.unit (s := S280x256) ![o, 0] S64x256.size inb2).toLoadRect ![1, 280, 256] h1 h2) h0)) (ValueIdx.ix2 p n)
      = ub (kept xs0) x0 q n :=
  slot_load x0 arg9 (kept xs0) _ (copies_later c x0 xs0 arg2 harg2 arg8 harg8) (cover_later c x0 xs0 arg2 harg2 arg8 harg8) s inb h0 o inb2 h1 h2 hR p n q hq

/-! ## One tap -/

/-- A tap more. -/
theorem step (k : ℕ) (acc : FVec Ideal S64x256 .f32) (wv : Vec Ideal S1x256 .f32) (xv : Vec Ideal S64x256 .f32) (hb) (p : Fin 64) (n : Fin 256)
    {b : EReal} {w x : ℕ → EReal} (h : acc (ValueIdx.ix2 p n) = taps b w x k) (hw : wv (ValueIdx.ix2 0 n) = w k) (hx : xv (ValueIdx.ix2 p n) = x k) :
    addf acc (mulf (broadcastTo S64x256 wv hb) xv) (ValueIdx.ix2 p n) = taps b w x (k + 1) := by
  show acc (ValueIdx.ix2 p n) + broadcastTo S64x256 wv hb (ValueIdx.ix2 p n) * xv (ValueIdx.ix2 p n) = _
  rw [ValueIdx.broadcastTo_1b_ab_apply, h, hw, hx]
  rfl

/-- A row of the filter's weights. -/
theorem tap_load (k : ℕ) (hk : k < 31) (inb) (n : Fin 256) :
    View.readAt (Elt Ideal) arg3.view (Rect.unit (s := S31x256) ![k, 0] S1x256.size inb).toLoadRect (harg3.unread x1) (ValueIdx.ix2 (0 : Fin 1) n) = tapW x1 n k := by
  unfold tapW
  rw [dif_pos hk]
  exact Fox.load_apply harg3 x1 inb rfl (ValueIdx.ix2 (0 : Fin 1) n) (ValueIdx.ix2 ⟨k, hk⟩ n) (pos2 rfl (Nat.zero_add _).symm)

/-- A row vector. -/
theorem row_load (inb) (n : Fin 256) :
    View.readAt (Elt Ideal) arg4.view (Rect.unit (s := S1x256) ![0, 0] S1x256.size inb).toLoadRect (harg4.unread x2) (ValueIdx.ix2 (0 : Fin 1) n) = x2 (ValueIdx.ix2 0 n) :=
  Fox.load_apply harg4 x2 inb rfl (ValueIdx.ix2 (0 : Fin 1) n) (ValueIdx.ix2 0 n) (pos2 rfl (Nat.zero_add _).symm)

/-- The start of the taps. -/
theorem start_apply (inb hs hb) (p : Fin 64) (n : Fin 256) :
    broadcastTo S64x256 (shapeCast S1x256 (View.readAt (Elt Ideal) arg4.view (Rect.unit (s := S1x256) ![0, 0] S1x256.size inb).toLoadRect (harg4.unread x2)) hs) hb (ValueIdx.ix2 p n)
      = x2 (ValueIdx.ix2 0 n) := by
  refine (ValueIdx.broadcastTo_1b_ab_apply _ hb p n).trans ?_
  refine (shapeCast_apply _ hs (ValueIdx.ix2 (0 : Fin 1) n) (ValueIdx.ix2 (0 : Fin 1) n) rfl).trans ?_
  exact row_load x2 arg4 harg4 inb n

end Cert.ConvIdeal.Filter

end
-- ==== Proof.ConvIdeal.Out.lean ====
module

public import proofs.«01_k».proof.Proof.ConvIdeal.Body

@[expose] public section

set_option maxRecDepth 16384

noncomputable section

namespace Cert.ConvIdeal.Filter

open Idealize.ShloMosaic Cert.ConvIdeal Cert.ConvIdeal.Gen Cert.Taps

/-- The result of a block, from the rows it filters. -/
def blockOut (head : ℕ → Fin 256 → EReal) (x0 : Vec Ideal S1x256x512 .bf16) (x1 : Vec Ideal S31x256 .f32) (x2 x3 x4 : Vec Ideal S1x256 .f32) : S1x256x256.Idx → EReal :=
  fun y => siluHalf (lnorm (rowB head x0 x1 x2 (y 1).val) (fun j => x3 (ValueIdx.ix2 0 j)) (fun j => x4 (ValueIdx.ix2 0 j)) (y 2))

/-- One more group of rows that is its part of the result. -/
theorem groups (head : ℕ → Fin 256 → EReal) (x0 : Vec Ideal S1x256x512 .bf16) (x1 : Vec Ideal S31x256 .f32) (x2 x3 x4 : Vec Ideal S1x256 .f32)
    (o : ℕ) (inb) (w : S1x64x256.Idx → Elt Ideal .bf16) (L : List (View.Piece (Elt Ideal) S1x256x256 .bf16))
    (hw : ∀ (p : Fin 64) (n : Fin 256), w (ValueIdx.ix3 0 p n)
      = siluHalf (lnorm (rowB head x0 x1 x2 (o + p.val)) (fun j => x3 (ValueIdx.ix2 0 j)) (fun j => x4 (ValueIdx.ix2 0 j)) n))
    (hL : ∀ pc ∈ L, ∀ x : pc.1.shape.Idx, pc.2 x = blockOut head x0 x1 x2 x3 x4 (pc.1.emb x)) :
    ∀ pc ∈ (⟨Rect.unit (s := S1x256x256) ![0, o, 0] S1x64x256.size inb, w⟩ : View.Piece (Elt Ideal) S1x256x256 .bf16) :: L,
      ∀ x : pc.1.shape.Idx, pc.2 x = blockOut head x0 x1 x2 x3 x4 (pc.1.emb x) := by
  intro pc hpc
  rcases List.mem_cons.mp hpc with rfl | hpc
  · intro x
    obtain ⟨z, p, n, rfl⟩ : ∃ (z : Fin 1) (p : Fin 64) (n : Fin 256), x = ValueIdx.ix3 z p n := ⟨x 0, x 1, x 2, ValueIdx.eq_ix3 x⟩
    obtain rfl : z = 0 := Subsingleton.elim _ _
    refine (hw p n).trans ?_
    unfold blockOut
    have e1 : ((Rect.unit (s := S1x256x256) ![0, o, 0] S1x64x256.size inb).emb (ValueIdx.ix3 0 p n) 1).val = o + p.val := by
      show o + 1 * p.val = o + p.val; omega
    have e2 : (Rect.unit (s := S1x256x256) ![0, o, 0] S1x64x256.size inb).emb (ValueIdx.ix3 0 p n) 2 = n := by
      apply Fin.ext; show 0 + 1 * n.val = n.val; omega
    rw [e1, e2]
  · exact hL pc hpc

variable (c : Dev nD) (i : grid0.Coords) (x0 : Vec Ideal S1x256x512 .bf16) (x1 : Vec Ideal S31x256 .f32) (x2 x3 x4 : Vec Ideal S1x256 .f32) (xs0 : Vec Ideal S288x256 .f32)
  (arg2 : Memref sig .tc .vmem S1x256x512 .bf16) (harg2 : arg2.IsWhole) (arg3 : Memref sig .tc .vmem S31x256 .f32) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1x256x256 .bf16) (harg7 : arg7.IsWhole)
  (arg8 : Memref sig .tc .vmem S288x256 .f32) (harg8 : arg8.IsWhole) (arg9 : Memref sig .tc .vmem S7x280x256 .f32) (harg9 : arg9.IsWhole)

theorem groups_first (hc0 : cond0_0 i) : ∀ pc ∈ (kernelRun0_A c i arg2 harg2 arg3 harg3 arg4 harg4 arg5 harg5 arg6 harg6 arg7 harg7 arg8 harg8 arg9 harg9 hc0 x0 x1 x2 x3 x4).1,
    ∀ x : pc.1.shape.Idx, pc.2 x = blockOut none' x0 x1 x2 x3 x4 (pc.1.emb x) := by
  unfold kernelRun0_A
  dsimp only
  refine groups none' x0 x1 x2 x3 x4 192 _ _ _ (fun p n => ?_) ?_
  · unfold kernelRun0_A.sl.r_61 kernelRun0_A.sl.r_62
    refine acts _ _ _ (rowB none' x0 x1 x2 (192 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_first (R := 64) c x0 arg2 harg2 arg8 _ _ p j _ (by omega))
        iterate 7 refine step _ _ _ _ broadcasts_S1x256_S64x256 p j ?_ (tap_load x1 arg3 harg3 _ (by omega) _ j) (slot_first c x0 arg2 harg2 arg8 arg9 _ _ _ _ _ _ _ _ p j _ (by omega))
      refine step _ _ _ _ broadcasts_S1x256_S64x256 p j ?_ (tap_load x1 arg3 harg3 _ (by omega) _ j) (load_first (R := 64) c x0 arg2 harg2 arg8 _ _ p j _ (by omega))
      iterate 6 refine step _ _ _ _ broadcasts_S1x256_S64x256 p j ?_ (tap_load x1 arg3 harg3 _ (by omega) _ j) (slot_first c x0 arg2 harg2 arg8 arg9 _ _ _ _ _ _ _ _ p j _ (by omega))
      exact start_apply x2 arg4 harg4 _ _ _ p j
    · exact fun k => row_load x3 arg5 harg5 _ k
    · exact fun k => row_load x4 arg6 harg6 _ k
  refine groups none' x0 x1 x2 x3 x4 128 _ _ _ (fun p n => ?_) ?_
  · refine acts _ _ _ (rowB none' x0 x1 x2 (128 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_first (R := 64) c x0 arg2 harg2 arg8 _ _ p j _ (by omega))
        iterate 7 refine step _ _ _ _ broadcasts_S1x256_S64x256 p j ?_ (tap_load x1 arg3 harg3 _ (by omega) _ j) (slot_first c x0 arg2 harg2 arg8 arg9 _ _ _ _ _ _ _ _ p j _ (by omega))
      refine step _ _ _ _ broadcasts_S1x256_S64x256 p j ?_ (tap_load x1 arg3 harg3 _ (by omega) _ j) (load_first (R := 64) c x0 arg2 harg2 arg8 _ _ p j _ (by omega))
      iterate 6 refine step _ _ _ _ broadcasts_S1x256_S64x256 p j ?_ (tap_load x1 arg3 harg3 _ (by omega) _ j) (slot_first c x0 arg2 harg2 arg8 arg9 _ _ _ _ _ _ _ _ p j _ (by omega))
      exact start_apply x2 arg4 harg4 _ _ _ p j
    · exact fun k => row_load x3 arg5 harg5 _ k
    · exact fun k => row_load x4 arg6 harg6 _ k
  refine groups none' x0 x1 x2 x3 x4 64 _ _ _ (fun p n => ?_) ?_
  · unfold kernelRun0_A.sl.r_29 kernelRun0_A.sl.r_30
    refine acts _ _ _ (rowB none' x0 x1 x2 (64 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_first (R := 64) c x0 arg2 harg2 arg8 _ _ p j _ (by omega))
        iterate 7 refine step _ _ _ _ broadcasts_S1x256_S64x256 p j ?_ (tap_load x1 arg3 harg3 _ (by omega) _ j) (slot_first c x0 arg2 harg2 arg8 arg9 _ _ _ _ _ _ _ _ p j _ (by omega))
      refine step _ _ _ _ broadcasts_S1x256_S64x256 p j ?_ (tap_load x1 arg3 harg3 _ (by omega) _ j) (load_first (R := 64) c x0 arg2 harg2 arg8 _ _ p j _ (by omega))
      iterate 6 refine step _ _ _ _ broadcasts_S1x256_S64x256 p j ?_ (tap_load x1 arg3 harg3 _ (by omega) _ j) (slot_first c x0 arg2 harg2 arg8 arg9 _ _ _ _ _ _ _ _ p j _ (by omega))
      exact start_apply x2 arg4 harg4 _ _ _ p j
    · exact fun k => row_load x3 arg5 harg5 _ k
    · exact fun k => row_load x4 arg6 harg6 _ k
  refine groups none' x0 x1 x2 x3 x4 0 _ _ _ (fun p n => ?_) ?_
  · refine acts _ _ _ (rowB none' x0 x1 x2 (0 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_first (R := 64) c x0 arg2 harg2 arg8 _ _ p j _ (by omega))
        iterate 7 refine step _ _ _ _ broadcasts_S1x256_S64x256 p j ?_ (tap_load x1 arg3 harg3 _ (by omega) _ j) (slot_first c x0 arg2 harg2 arg8 arg9 _ _ _ _ _ _ _ _ p j _ (by omega))
      refine step _ _ _ _ broadcasts_S1x256_S64x256 p j ?_ (tap_load x1 arg3 harg3 _ (by omega) _ j) (load_first (R := 64) c x0 arg2 harg2 arg8 _ _ p j _ (by omega))
      iterate 6 refine step _ _ _ _ broadcasts_S1x256_S64x256 p j ?_ (tap_load x1 arg3 harg3 _ (by omega) _ j) (slot_first c x0 arg2 harg2 arg8 arg9 _ _ _ _ _ _ _ _ p j _ (by omega))
      exact start_apply x2 arg4 harg4 _ _ _ p j
    · exact fun k => row_load x3 arg5 harg5 _ k
    · exact fun k => row_load x4 arg6 harg6 _ k
  intro pc hpc
  nomatch hpc

theorem groups_later (hc0 : ¬cond0_0 i) : ∀ pc ∈ (kernelRun0_B c i arg2 harg2 arg3 harg3 arg4 harg4 arg5 harg5 arg6 harg6 arg7 harg7 arg8 harg8 arg9 harg9 hc0 x0 x1 x2 x3 x4 xs0).1,
    ∀ x : pc.1.shape.Idx, pc.2 x = blockOut (kept xs0) x0 x1 x2 x3 x4 (pc.1.emb x) := by
  unfold kernelRun0_B
  dsimp only
  refine groups (kept xs0) x0 x1 x2 x3 x4 192 _ _ _ (fun p n => ?_) ?_
  · unfold kernelRun0_B.sl.r_62 kernelRun0_B.sl.r_63
    refine acts _ _ _ (rowB (kept xs0) x0 x1 x2 (192 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_own (R := 64) c x0 arg2 harg2 arg8 (kept xs0) _ _ p j _ (by omega) (by omega))
        iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_own (R := 64) c x0 arg2 harg2 arg8 (kept xs0) _ _ p j _ (by omega) (by omega))
      iterate 6 refine step _ _ _ _ broadcasts_S1x256_S64x256 p j ?_ (tap_load x1 arg3 harg3 _ (by omega) _ j) (slot_later c x0 xs0 arg2 harg2 arg8 harg8 arg9 _ _ _ _ _ _ _ _ p j _ (by omega))
      exact start_apply x2 arg4 harg4 _ _ _ p j
    · exact fun k => row_load x3 arg5 harg5 _ k
    · exact fun k => row_load x4 arg6 harg6 _ k
  refine groups (kept xs0) x0 x1 x2 x3 x4 128 _ _ _ (fun p n => ?_) ?_
  · refine acts _ _ _ (rowB (kept xs0) x0 x1 x2 (128 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_own (R := 64) c x0 arg2 harg2 arg8 (kept xs0) _ _ p j _ (by omega) (by omega))
        iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_own (R := 64) c x0 arg2 harg2 arg8 (kept xs0) _ _ p j _ (by omega) (by omega))
      iterate 6 refine step _ _ _ _ broadcasts_S1x256_S64x256 p j ?_ (tap_load x1 arg3 harg3 _ (by omega) _ j) (slot_later c x0 xs0 arg2 harg2 arg8 harg8 arg9 _ _ _ _ _ _ _ _ p j _ (by omega))
      exact start_apply x2 arg4 harg4 _ _ _ p j
    · exact fun k => row_load x3 arg5 harg5 _ k
    · exact fun k => row_load x4 arg6 harg6 _ k
  refine groups (kept xs0) x0 x1 x2 x3 x4 64 _ _ _ (fun p n => ?_) ?_
  · unfold kernelRun0_B.sl.r_30 kernelRun0_B.sl.r_31
    refine acts _ _ _ (rowB (kept xs0) x0 x1 x2 (64 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      iterate 3
        refine step _ _ _ _ broadcasts_S1x256_S64x256 p j ?_ (tap_load x1 arg3 harg3 _ (by omega) _ j) (load_own (R := 64) c x0 arg2 harg2 arg8 (kept xs0) _ _ p j _ (by omega) (by omega))
        iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_own (R := 64) c x0 arg2 harg2 arg8 (kept xs0) _ _ p j _ (by omega) (by omega))
      iterate 6 refine step _ _ _ _ broadcasts_S1x256_S64x256 p j ?_ (tap_load x1 arg3 harg3 _ (by omega) _ j) (slot_later c x0 xs0 arg2 harg2 arg8 harg8 arg9 _ _ _ _ _ _ _ _ p j _ (by omega))
      exact start_apply x2 arg4 harg4 _ _ _ p j
    · exact fun k => row_load x3 arg5 harg5 _ k
    · exact fun k => row_load x4 arg6 harg6 _ k
  refine groups (kept xs0) x0 x1 x2 x3 x4 0 _ _ _ (fun p n => ?_) ?_
  · refine acts _ _ _ (rowB (kept xs0) x0 x1 x2 (0 + p.val)) (fun j => x3 (ValueIdx.ix2 0 j)) (fun j => x4 (ValueIdx.ix2 0 j)) reduces_S64x256_S64 (.inl rfl) rfl shapeCasts_S64_S64x1 broadcasts_S64x1_S64x256 broadcasts_S1x256_S64x256 broadcasts_S1x256_S64x256 _ _ p ?_ ?_ ?_ n _ rfl
    · intro k
      symm
      refine mids _ _ reduces_S64x256_S64 (.inl rfl) rfl shapeCasts_S64_S64x1 broadcasts_S64x1_S64x256 p (fun j => ?_) k
      refine step _ _ _ _ broadcasts_S1x256_S64x256 p j ?_ (tap_load x1 arg3 harg3 _ (by omega) _ j) (load_own (R := 64) c x0 arg2 harg2 arg8 (kept xs0) _ _ p j _ (by omega) (by omega))
      iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_later (R := 64) c x0 xs0 arg2 harg2 arg8 harg8 _ _ p j _ (by omega))
      iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_later (R := 64) c x0 xs0 arg2 harg2 arg8 harg8 _ _ p j _ (by omega))
      iterate 7 refine step _ _ _ _ broadcasts_S1x256_S64x256 p j ?_ (tap_load x1 arg3 harg3 _ (by omega) _ j) (slot_later c x0 xs0 arg2 harg2 arg8 harg8 arg9 _ _ _ _ _ _ _ _ p j _ (by omega))
      refine step _ _ _ _ broadcasts_S1x256_S64x256 p j ?_ (tap_load x1 arg3 harg3 _ (by omega) _ j) (load_later (R := 64) c x0 xs0 arg2 harg2 arg8 harg8 _ _ p j _ (by omega))
      iterate 6 refine step _ _ _ _ broadcasts_S1x256_S64x256 p j ?_ (tap_load x1 arg3 harg3 _ (by omega) _ j) (slot_later c x0 xs0 arg2 harg2 arg8 harg8 arg9 _ _ _ _ _ _ _ _ p j _ (by omega))
      exact start_apply x2 arg4 harg4 _ _ _ p j
    · exact fun k => row_load x3 arg5 harg5 _ k
    · exact fun k => row_load x4 arg6 harg6 _ k
  intro pc hpc
  nomatch hpc

end Cert.ConvIdeal.Filter

end
-- ==== Proof.ConvIdeal.Value.lean ====
module

public import proofs.«01_k».proof.Proof.ConvIdeal.Out
public import Idealize.ShloMosaic.Lib.Pipeline.ValueKit

@[expose] public section

set_option maxRecDepth 16384

noncomputable section

namespace Cert.ConvIdeal.Filter

open Idealize.ShloMosaic Idealize.ShloMosaic.TcCoe Idealize.SL.Sem
open Cert.ConvIdeal Cert.ConvIdeal.Gen Cert.Taps

section Point

variable (c : Dev nD) (i : grid0.Coords) (x0 : Vec Ideal S1x256x512 .bf16) (x1 : Vec Ideal S31x256 .f32) (x2 x3 x4 : Vec Ideal S1x256 .f32) (xs0 : Vec Ideal S288x256 .f32)
  (arg2 : Memref sig .tc .vmem S1x256x512 .bf16) (harg2 : arg2.IsWhole) (arg3 : Memref sig .tc .vmem S31x256 .f32) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1x256x256 .bf16) (harg7 : arg7.IsWhole)
  (arg8 : Memref sig .tc .vmem S288x256 .f32) (harg8 : arg8.IsWhole) (arg9 : Memref sig .tc .vmem S7x280x256 .f32) (harg9 : arg9.IsWhole)

/-- What a first point leaves in its block of the result. -/
theorem out_first (hc0 : cond0_0 i) (y : S1x256x256.Idx) :
    out0_A_5 c i arg2 harg2 arg3 harg3 arg4 harg4 arg5 harg5 arg6 harg6 arg7 harg7 arg8 harg8 arg9 harg9 hc0 x0 x1 x2 x3 x4 y = blockOut none' x0 x1 x2 x3 x4 y := by
  unfold out0_A_5
  refine Eq.trans ?_ (View.canon_apply_of_pieces (Val := Elt Ideal) (e := .bf16) (blockOut none' x0 x1 x2 x3 x4) _
    (groups_first c i x0 x1 x2 x3 x4 arg2 harg2 arg3 harg3 arg4 harg4 arg5 harg5 arg6 harg6 arg7 harg7 arg8 harg8 arg9 harg9 hc0) y
    (cover0_A_5 c i arg2 harg2 arg3 harg3 arg4 harg4 arg5 harg5 arg6 harg6 arg7 harg7 arg8 harg8 arg9 harg9 hc0 x0 x1 x2 x3 x4 y))
  exact congrFun (View.read_writes_eq_canon VO0_5 _ _ (cover0_A_5 c i arg2 harg2 arg3 harg3 arg4 harg4 arg5 harg5 arg6 harg6 arg7 harg7 arg8 harg8 arg9 harg9 hc0 x0 x1 x2 x3 x4)) y

/-- The rows a first point keeps are its block's last. -/
theorem keep_first (hc0 : cond0_0 i) (q : Fin 288) (hq : q.val < 32) (n : Fin 256) :
    sout0_A_0 c i arg2 harg2 arg3 harg3 arg4 harg4 arg5 harg5 arg6 harg6 arg7 harg7 arg8 harg8 arg9 harg9 hc0 x0 x1 x2 x3 x4 (ValueIdx.ix2 q n) = gluB x0 (224 + q.val) n := by
  unfold sout0_A_0 kernelRun0_A
  dsimp only
  refine (Fox.hit VS0_0 _ _ _ _ (ValueIdx.ix2 q n) (ValueIdx.ix2 ⟨q.val, hq⟩ n) (pos2 (Nat.zero_add _).symm (Nat.zero_add _).symm)).trans ?_
  unfold k0_pay2 kernelRun0_A.sl.v1020
  refine (shapeCast_apply _ _ (ValueIdx.ix2 ⟨q.val, hq⟩ n) (ValueIdx.ix2 ⟨q.val, hq⟩ n) rfl).trans ?_
  refine (load_first (R := 32) c x0 arg2 harg2 arg8 256 _ ⟨q.val, hq⟩ n _ rfl).trans ?_
  unfold ub
  rw [if_neg (by show ¬256 + q.val < 32; omega)]
  exact congrArg (fun k => gluB x0 k n) (by show 256 + q.val - 32 = 224 + q.val; omega)

/-- What a later point leaves in its block of the result. -/
theorem out_later (hc0 : ¬cond0_0 i) (y : S1x256x256.Idx) :
    out0_B_5 c i arg2 harg2 arg3 harg3 arg4 harg4 arg5 harg5 arg6 harg6 arg7 harg7 arg8 harg8 arg9 harg9 hc0 x0 x1 x2 x3 x4 xs0 y = blockOut (kept xs0) x0 x1 x2 x3 x4 y := by
  unfold out0_B_5
  refine Eq.trans ?_ (View.canon_apply_of_pieces (Val := Elt Ideal) (e := .bf16) (blockOut (kept xs0) x0 x1 x2 x3 x4) _
    (groups_later c i x0 x1 x2 x3 x4 xs0 arg2 harg2 arg3 harg3 arg4 harg4 arg5 harg5 arg6 harg6 arg7 harg7 arg8 harg8 arg9 harg9 hc0) y
    (cover0_B_5 c i arg2 harg2 arg3 harg3 arg4 harg4 arg5 harg5 arg6 harg6 arg7 harg7 arg8 harg8 arg9 harg9 hc0 x0 x1 x2 x3 x4 xs0 y))
  exact congrFun (View.read_writes_eq_canon VO0_5 _ _ (cover0_B_5 c i arg2 harg2 arg3 harg3 arg4 harg4 arg5 harg5 arg6 harg6 arg7 harg7 arg8 harg8 arg9 harg9 hc0 x0 x1 x2 x3 x4 xs0)) y

/-- The rows a later point keeps are its block's last. -/
theorem keep_later (hc0 : ¬cond0_0 i) (q : Fin 288) (hq : q.val < 32) (n : Fin 256) :
    sout0_B_0 c i arg2 harg2 arg3 harg3 arg4 harg4 arg5 harg5 arg6 harg6 arg7 harg7 arg8 harg8 arg9 harg9 hc0 x0 x1 x2 x3 x4 xs0 (ValueIdx.ix2 q n) = gluB x0 (224 + q.val) n := by
  unfold sout0_B_0 kernelRun0_B
  dsimp only
  refine (Fox.hit VS0_0 _ _ _ _ (ValueIdx.ix2 q n) (ValueIdx.ix2 ⟨q.val, hq⟩ n) (pos2 (Nat.zero_add _).symm (Nat.zero_add _).symm)).trans ?_
  unfold k0_pay2 kernelRun0_B.sl.v1020
  refine (shapeCast_apply _ _ (ValueIdx.ix2 ⟨q.val, hq⟩ n) (ValueIdx.ix2 ⟨q.val, hq⟩ n) rfl).trans ?_
  refine (load_own (R := 32) c x0 arg2 harg2 arg8 none' 256 _ ⟨q.val, hq⟩ n _ rfl (by omega)).trans ?_
  unfold ub
  rw [if_neg (by show ¬256 + q.val < 32; omega)]
  exact congrArg (fun k => gluB x0 k n) (by show 256 + q.val - 32 = 224 + q.val; omega)

end Point

variable (m : (ℓ : Loc nD τ sig) → Buf (Elt Ideal) ℓ) (ρ : Dev nD → PrngReg)

/-- A number below the grid's extent as a word. -/
theorem word_nat (x : ℕ) (h : x < 16) : (BitVec.ofNat 32 x).toNat = x := by
  rw [BitVec.toNat_ofNat]; exact Nat.mod_eq_of_lt (by omega)

theorem count : cfg0.N = 256 := by decide +kernel

/-- The sequence of a point. -/
def seq (t : Fin cfg0.N) : Fin 16 := ⟨t.val / 16, by have := t.isLt; have := count; omega⟩

theorem coord0 (t : Fin cfg0.N) : (grid0.coords t 0).val = t.val / 16 := by
  refine (Pipeline.Grid.coords_val t 0 (S := 16) (B := 16) (by decide +kernel) rfl).trans ?_
  have := t.isLt; have := count; omega

theorem coord1 (t : Fin cfg0.N) : (grid0.coords t 1).val = t.val % 16 := by
  refine (Pipeline.Grid.coords_val t 1 (S := 1) (B := 16) (by decide +kernel) rfl).trans ?_
  rw [Nat.div_one]

theorem blk_x (c : Dev nD) (t : Fin cfg0.N) (p : Fin 256) (k : Fin 512) (r : Fin 4096) (h : r.val = 256 * (t.val % 16) + p.val) :
    iblk m c 0 t (ValueIdx.ix3 0 p k) = m ((c : Thread nD τ).loc main_arg0) (ValueIdx.ix3 (seq t) r k) := by
  refine congrArg (V m c main_arg0) (funext fun a => Fin.ext ?_)
  refine (win0_0.rect_emb_val t _ a rfl).trans ?_
  match a with
  | ⟨0, _⟩ => show (BitVec.ofNat 32 (grid0.coords t 0).val).toNat * 1 + 0 = t.val / 16
              rw [word_nat _ (grid0.coords t 0).isLt, coord0]; omega
  | ⟨1, _⟩ => show (BitVec.ofNat 32 (grid0.coords t 1).val).toNat * 256 + p.val = r.val
              rw [word_nat _ (grid0.coords t 1).isLt, coord1]; omega
  | ⟨2, _⟩ => show 0 * 512 + k.val = k.val; omega

theorem blk_w (c : Dev nD) (t : Fin cfg0.N) (k : Fin 31) (n : Fin 256) : iblk m c 1 t (ValueIdx.ix2 k n) = m ((c : Thread nD τ).loc main_arg1) (ValueIdx.ix2 k n) := by
  refine congrArg (V m c main_arg1) (funext fun a => Fin.ext ?_)
  refine (win0_1.rect_emb_val t _ a rfl).trans ?_
  match a with
  | ⟨0, _⟩ => show 0 * 31 + k.val = k.val; omega
  | ⟨1, _⟩ => show 0 * 256 + n.val = n.val; omega

theorem blk_b (c : Dev nD) (t : Fin cfg0.N) (n : Fin 256) : iblk m c 2 t (ValueIdx.ix2 0 n) = m ((c : Thread nD τ).loc main_arg2) (ValueIdx.ix2 0 n) := by
  refine congrArg (V m c main_arg2) (funext fun a => Fin.ext ?_)
  refine (win0_2.rect_emb_val t _ a rfl).trans ?_
  match a with
  | ⟨0, _⟩ => rfl
  | ⟨1, _⟩ => show 0 * 256 + n.val = n.val; omega

theorem blk_g (c : Dev nD) (t : Fin cfg0.N) (n : Fin 256) : iblk m c 3 t (ValueIdx.ix2 0 n) = m ((c : Thread nD τ).loc main_arg3) (ValueIdx.ix2 0 n) := by
  refine congrArg (V m c main_arg3) (funext fun a => Fin.ext ?_)
  refine (win0_3.rect_emb_val t _ a rfl).trans ?_
  match a with
  | ⟨0, _⟩ => rfl
  | ⟨1, _⟩ => show 0 * 256 + n.val = n.val; omega

theorem blk_e (c : Dev nD) (t : Fin cfg0.N) (n : Fin 256) : iblk m c 4 t (ValueIdx.ix2 0 n) = m ((c : Thread nD τ).loc main_arg4) (ValueIdx.ix2 0 n) := by
  refine congrArg (V m c main_arg4) (funext fun a => Fin.ext ?_)
  refine (win0_4.rect_emb_val t _ a rfl).trans ?_
  match a with
  | ⟨0, _⟩ => rfl
  | ⟨1, _⟩ => show 0 * 256 + n.val = n.val; omega

/-- A row of a point's block is the row of that token. -/
theorem glu_eq (c : Dev nD) (t : Fin cfg0.N) (p : ℕ) (hp : p < 256) (n : Fin 256) (r : ℕ) (h : r = 256 * (t.val % 16) + p) :
    gluB (iblk m c 0 t) p n = glu (m ((c : Thread nD τ).loc main_arg0)) (seq t) r n := by
  have hr : r < 4096 := by omega
  unfold gluB glu
  rw [dif_pos hp, dif_pos hr]
  exact congrArg₂ (fun a b : EReal => a * Ideal.logistic b) (blk_x m c t ⟨p, hp⟩ _ ⟨r, hr⟩ h) (blk_x m c t ⟨p, hp⟩ _ ⟨r, hr⟩ h)

/-- What a point keeps for the next are the last rows of its tokens. -/
theorem keep_eq (c : Dev nD) (t : Fin cfg0.N) (q : Fin 288) (hq : q.val < 32) (n : Fin 256) :
    (outsAt0 m c t.val t.isLt).2 (ValueIdx.ix2 q n) = glu (m ((c : Thread nD τ).loc main_arg0)) (seq t) (256 * (t.val % 16) + (224 + q.val)) n := by
  refine Eq.trans ?_ (glu_eq m c t (224 + q.val) (by omega) n _ rfl)
  by_cases h0 : t.val % 16 = 0
  · rw [outsAt0_A m c t h0]
    exact keep_first c (grid0.coords t) (iblk m c 0 t) (iblk m c 1 t) (iblk m c 2 t) (iblk m c 3 t) (iblk m c 4 t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) q hq n
  · rw [outsAt0_B m c t h0]
    dsimp only
    generalize (outsAt0 m c (t.val - 1) (Nat.lt_of_le_of_lt (Nat.sub_le _ _) t.isLt)).2 = xs
    exact keep_later c (grid0.coords t) (iblk m c 0 t) (iblk m c 1 t) (iblk m c 2 t) (iblk m c 3 t) (iblk m c 4 t) xs (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) q hq n

/-- The rows a first point filters are those of its sequence. -/
theorem past_first (c : Dev nD) (t : Fin cfg0.N) (h0 : t.val % 16 = 0) (q : ℕ) (hq : q < 288) (n : Fin 256) (r : ℕ) (h : r + 2 = 256 * (t.val % 16) + q) :
    ub none' (iblk m c 0 t) q n = past (m ((c : Thread nD τ).loc main_arg0)) (seq t) r n := by
  unfold ub past
  by_cases h32 : q < 32
  · rw [if_pos h32, if_neg (by omega)]
    rfl
  · rw [if_neg h32, if_pos (by omega)]
    exact glu_eq m c t _ (by omega) n _ (by omega)

/-- The rows a later point filters are those of its sequence. -/
theorem past_later (c : Dev nD) (t : Fin cfg0.N) (h0 : ¬t.val % 16 = 0) (q : ℕ) (hq : q < 288) (n : Fin 256) (r : ℕ) (h : r + 2 = 256 * (t.val % 16) + q) :
    ub (kept (outsAt0 m c (t.val - 1) (Nat.lt_of_le_of_lt (Nat.sub_le _ _) t.isLt)).2) (iblk m c 0 t) q n = past (m ((c : Thread nD τ).loc main_arg0)) (seq t) r n := by
  unfold ub past
  rw [if_pos (show 30 ≤ r by omega)]
  by_cases h32 : q < 32
  · rw [if_pos h32]
    unfold kept
    rw [dif_pos hq]
    refine (keep_eq m c ⟨t.val - 1, Nat.lt_of_le_of_lt (Nat.sub_le _ _) t.isLt⟩ ⟨q, hq⟩ h32 n).trans ?_
    have e1 : seq ⟨t.val - 1, Nat.lt_of_le_of_lt (Nat.sub_le _ _) t.isLt⟩ = seq t := Fin.ext (by show (t.val - 1) / 16 = t.val / 16; omega)
    have e2 : 256 * ((t.val - 1) % 16) + (224 + q) = r - 30 := by omega
    rw [e1]
    exact congrArg (fun k => glu _ (seq t) k n) e2
  · rw [if_neg h32]
    exact glu_eq m c t _ (by omega) n _ (by omega)

/-- A point's filtered row is that of its token. -/
theorem row_eq (c : Dev nD) (t : Fin cfg0.N) (head : ℕ → Fin 256 → EReal)
    (hh : ∀ q < 288, ∀ n r, r + 2 = 256 * (t.val % 16) + q → ub head (iblk m c 0 t) q n = past (m ((c : Thread nD τ).loc main_arg0)) (seq t) r n)
    (p : Fin 256) (n : Fin 256) :
    rowB head (iblk m c 0 t) (iblk m c 1 t) (iblk m c 2 t) p.val n
      = rowAt (m ((c : Thread nD τ).loc main_arg0)) (m ((c : Thread nD τ).loc main_arg1)) (m ((c : Thread nD τ).loc main_arg2)) (seq t) (256 * (t.val % 16) + p.val) n := by
  unfold rowB rowAt
  refine taps_congr (blk_b m c t n) (fun k => ?_) 31 fun j hj => ?_
  · unfold tapW
    by_cases hk : k < 31
    · rw [dif_pos hk, dif_pos hk]
      exact blk_w m c t ⟨k, hk⟩ n
    · rw [dif_neg hk, dif_neg hk]
  · have hp := p.isLt
    exact hh _ (by omega) n _ (by omega)

/-- A point's block of the result. -/
theorem block_eq (c : Dev nD) (t : Fin cfg0.N) (head : ℕ → Fin 256 → EReal)
    (hh : ∀ q < 288, ∀ n r, r + 2 = 256 * (t.val % 16) + q → ub head (iblk m c 0 t) q n = past (m ((c : Thread nD τ).loc main_arg0)) (seq t) r n)
    (p n : Fin 256) :
    blockOut head (iblk m c 0 t) (iblk m c 1 t) (iblk m c 2 t) (iblk m c 3 t) (iblk m c 4 t) (ValueIdx.ix3 0 p n)
      = siluHalf (normAt (m ((c : Thread nD τ).loc main_arg0)) (m ((c : Thread nD τ).loc main_arg1)) (m ((c : Thread nD τ).loc main_arg2))
          (m ((c : Thread nD τ).loc main_arg3)) (m ((c : Thread nD τ).loc main_arg4)) (seq t) (256 * (t.val % 16) + p.val) n) := by
  unfold blockOut normAt
  have e1 : rowB head (iblk m c 0 t) (iblk m c 1 t) (iblk m c 2 t) p.val
      = rowAt (m ((c : Thread nD τ).loc main_arg0)) (m ((c : Thread nD τ).loc main_arg1)) (m ((c : Thread nD τ).loc main_arg2)) (seq t) (256 * (t.val % 16) + p.val) :=
    funext fun n => row_eq m c t head hh p n
  have e2 : (fun j : Fin 256 => iblk m c 3 t (ValueIdx.ix2 0 j)) = fun j => m ((c : Thread nD τ).loc main_arg3) (ValueIdx.ix2 0 j) := funext fun j => blk_g m c t j
  have e3 : (fun j : Fin 256 => iblk m c 4 t (ValueIdx.ix2 0 j)) = fun j => m ((c : Thread nD τ).loc main_arg4) (ValueIdx.ix2 0 j) := funext fun j => blk_e m c t j
  show siluHalf (lnorm (rowB head (iblk m c 0 t) (iblk m c 1 t) (iblk m c 2 t) p.val) (fun j => iblk m c 3 t (ValueIdx.ix2 0 j)) (fun j => iblk m c 4 t (ValueIdx.ix2 0 j)) n) = _
  rw [e1, e2, e3]

/-- The result, in the half form of the activation. -/
def halfOut (cab : (⟨3, ![16, 4096, 512]⟩ : Shape).Idx → EReal) (w : (⟨2, ![31, 256]⟩ : Shape).Idx → EReal)
    (bias g be : (⟨2, ![1, 256]⟩ : Shape).Idx → EReal) : S16x4096x256.Idx → EReal :=
  fun i => siluHalf (normAt cab w bias g be (i 0) (i 1).val (i 2))

/-- What a point leaves in its block of the result is that of its tokens. -/
theorem left_eq (c : Dev nD) (t : Fin cfg0.N) (p n : Fin 256) :
    (outsAt0 m c t.val t.isLt).1 (ValueIdx.ix3 0 p n)
      = siluHalf (normAt (m ((c : Thread nD τ).loc main_arg0)) (m ((c : Thread nD τ).loc main_arg1)) (m ((c : Thread nD τ).loc main_arg2))
          (m ((c : Thread nD τ).loc main_arg3)) (m ((c : Thread nD τ).loc main_arg4)) (seq t) (256 * (t.val % 16) + p.val) n) := by
  by_cases h0 : t.val % 16 = 0
  · rw [outsAt0_A m c t h0]
    dsimp only
    exact (out_first c (grid0.coords t) (iblk m c 0 t) (iblk m c 1 t) (iblk m c 2 t) (iblk m c 3 t) (iblk m c 4 t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) _).trans (block_eq m c t none' (past_first m c t h0) p n)
  · rw [outsAt0_B m c t h0]
    have hp := past_later m c t h0
    dsimp only
    generalize (outsAt0 m c (t.val - 1) (Nat.lt_of_le_of_lt (Nat.sub_le _ _) t.isLt)).2 = xs at hp ⊢
    exact (out_later c (grid0.coords t) (iblk m c 0 t) (iblk m c 1 t) (iblk m c 2 t) (iblk m c 3 t) (iblk m c 4 t) xs (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) _).trans (block_eq m c t _ hp p n)

theorem arr5_eq (c : Dev nD) : (dats m 0 c).arrAt 5 cfg0.N
    = halfOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  obtain ⟨z, p, n, rfl⟩ : ∃ (z : Fin 1) (p n : Fin 256), y = ValueIdx.ix3 z p n := ⟨y 0, y 1, y 2, ValueIdx.eq_ix3 y⟩
  obtain rfl : z = 0 := Subsingleton.elim _ _
  have e0 : (win0_5.blk t).view.emb (ValueIdx.ix3 0 p n) 0 = seq t := Fin.ext (by
    refine (win0_5.rect_emb_val t _ 0 rfl).trans ?_
    show (BitVec.ofNat 32 (grid0.coords t 0).val).toNat * 1 + 0 = t.val / 16
    rw [word_nat _ (grid0.coords t 0).isLt, coord0]; omega)
  have e1 : ((win0_5.blk t).view.emb (ValueIdx.ix3 0 p n) 1 : ℕ) = 256 * (t.val % 16) + p.val := by
    refine (win0_5.rect_emb_val t _ 1 rfl).trans ?_
    show (BitVec.ofNat 32 (grid0.coords t 1).val).toNat * 256 + p.val = _
    rw [word_nat _ (grid0.coords t 1).isLt, coord1]; omega
  have e2 : (win0_5.blk t).view.emb (ValueIdx.ix3 0 p n) 2 = n := Fin.ext (by
    refine (win0_5.rect_emb_val t _ 2 rfl).trans ?_
    show 0 * 256 + n.val = _
    omega)
  show (dats m 0 c).after 5 t (ValueIdx.ix3 0 p n) = halfOut _ _ _ _ _ _
  unfold halfOut
  rw [after0_5, e0, e1, e2]
  exact left_eq m c t p n

/-- The run of the kernel: the filtered rows, and the arguments unchanged. -/
theorem run_value : θ_run defs (onTc (τ := τ) (main (F := Ideal))) ⟨m, fun _ => 0, ρ⟩ (fun r => ∀ c : Dev nD,
      r.2.mem ((c.tc : Thread nD τ).loc main_v0) = halfOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (arr5_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.ConvIdeal.Filter

end
-- ==== Proof.ConvRefIdeal.Value.lean ====
module

public import proofs.«01_k».proof.Proof.Gen.ConvRefIdeal.Read
public import proofs.«01_k».proof.Proof.Gen.Pre_finite_norm
public import proofs.«01_k».proof.Proof.Rows.Taps
public import proofs.«01_k».proof.Proof.Fox.Pre
public import Idealize.ShloMosaic.Lib.IdealHost
public import Idealize.ShloMosaic.Lib.ReduceAll
public import Idealize.ShloMosaic.Lib.KernelVsHost
public import Idealize.ShloMosaic.Lib.Quiescent

@[expose] public section

noncomputable section

namespace Cert.ConvRefIdeal.Filter

open Cert.ConvRefIdeal Cert.ConvRefIdeal.Gen Cert.ConvRefIdeal.Read Cert.Taps Idealize.ShloMosaic Idealize.SL.Sem
open scoped BigOperators

variable {cab : (⟨3, ![16, 4096, 512]⟩ : Shape).Idx → EReal} {w : (⟨2, ![31, 256]⟩ : Shape).Idx → EReal}
  {bias g be : (⟨2, ![1, 256]⟩ : Shape).Idx → EReal}

/-- What the precondition says: the scale and the shift of the normalization are real. -/
theorem pre_read (h : Cert.Pre_finite_norm.fn (F := Ideal) cab w bias g be = fun _ => 1#1) : (∀ i, Fin' (g i)) ∧ (∀ i, Fin' (be i)) := by
  have h0 := congrFun h (fun a => a.elim0)
  unfold Cert.Pre_finite_norm.fn at h0
  obtain ⟨hg, hbe⟩ := IntOp.andi_eq_one.mp h0
  exact ⟨fun i => Fox.real_of_abs (Host.reduce_andi_all _ _ _ _ _ hg i), fun i => Fox.real_of_abs (Host.reduce_andi_all _ _ _ _ _ hbe i)⟩

variable (cab w bias g be)

/-- A token's half times the logistic function of its other half. -/
theorem glu_read (b : Fin 16) (s : Fin 4096) (n : Fin 256) : val_main_v10 (F := Ideal) cab (ValueIdx.ix3 b s n) = glu cab b s.val n := by
  rw [val_main_v10_apply, val_main_v1_apply, val_main_v0_apply, val_main_v9_apply, val_main_v8_apply, val_main_cst_0_apply, val_main_v7_apply,
    val_main_v6_apply, val_main_cst_apply, val_main_v5_apply, val_main_v4_apply, val_main_v3_apply, val_main_v2_apply]
  rw [show idx_main_v0 (ValueIdx.ix3 b s n) = ValueIdx.ix3 b s ⟨n.val, by omega⟩ from ValueIdx.eq_ix3 _,
    show idx_main_v2 (ValueIdx.ix3 b s n) = ValueIdx.ix3 b s ⟨256 + n.val, by omega⟩ from ValueIdx.eq_ix3 _]
  show cab (ValueIdx.ix3 b s ⟨n.val, by omega⟩) * Ideal.div (Ideal.ofBits .f32 0x3F800000#32) (Ideal.ofBits .f32 0x3F800000#32
    + Ideal.exp (-(cab (ValueIdx.ix3 b s ⟨256 + n.val, by omega⟩)))) = _
  rw [Ideal.ofBits_one_f32]
  unfold glu
  rw [dif_pos s.isLt]
  rfl

/-- The same behind the thirty leading zeros. -/
theorem past_read (b : Fin 16) (t : Fin 4126) (n : Fin 256) : val_main_v11 (F := Ideal) cab (ValueIdx.ix3 b t n) = past cab b t.val n := by
  unfold past val_main_v11
  by_cases hs : 30 ≤ t.val
  · rw [if_pos hs]
    refine (pad_apply_of_inside _ _ _ _ _ _ _ _ (ValueIdx.ix3 b (⟨t.val - 30, by omega⟩ : Fin 4096) n) (fun a => ?_)).trans ?_
    · match a with
      | ⟨0, _⟩ => show b.val = 0 + b.val * (0 + 1); omega
      | ⟨1, _⟩ => show t.val = 30 + (t.val - 30) * (0 + 1); omega
      | ⟨2, _⟩ => show n.val = 0 + n.val * (0 + 1); omega
    · exact glu_read cab b ⟨t.val - 30, by omega⟩ n
  · rw [if_neg hs]
    refine (pad_apply_of_not_inside _ _ _ _ _ _ _ _ 1 (fun hh => hs ?_)).trans ?_
    · exact hh.1
    · show (((0#32 : BitVec 32).toInt : ℝ) : EReal) = 0
      simp

/-- An entry of the shifted tokens. -/
theorem past_at (i : S16x4126x256.Idx) (b : Fin 16) (t : ℕ) (n : Fin 256) (h0 : (i 0).val = b.val) (h1 : (i 1).val = t) (h2 : (i 2).val = n.val) :
    val_main_v11 (F := Ideal) cab i = past cab b t n := by
  subst h1
  obtain ⟨p, q, r, rfl⟩ : ∃ (p : Fin 16) (q : Fin 4126) (r : Fin 256), i = ValueIdx.ix3 p q r := ⟨i 0, i 1, i 2, ValueIdx.eq_ix3 i⟩
  obtain rfl : p = b := Fin.ext h0
  obtain rfl : r = n := Fin.ext h2
  exact past_read cab p q r

/-- An entry of the taps. -/
theorem tap_at (i : S31x256.Idx) (k : ℕ) (n : Fin 256) (h0 : (i 0).val = k) (h1 : (i 1).val = n.val) : w i = tapW w n k := by
  subst h0
  obtain ⟨p, q, rfl⟩ : ∃ (p : Fin 31) (q : Fin 256), i = ValueIdx.ix2 p q := ⟨i 0, i 1, ValueIdx.eq_ix2 i⟩
  obtain rfl : q = n := Fin.ext h1
  show w (ValueIdx.ix2 p q) = tapW w q p.val
  unfold tapW
  rw [dif_pos p.isLt]

/-- An entry of a row. -/
theorem row_at (v : (⟨2, ![1, 256]⟩ : Shape).Idx → EReal) (i : S1x256.Idx) (n : Fin 256) (h1 : (i 1).val = n.val) : v i = v (ValueIdx.ix2 0 n) := by
  refine congrArg v (funext fun a => Fin.ext ?_)
  match a with
  | ⟨0, _⟩ => have h : (i 0).val < 1 := (i 0).isLt
              show (i 0).val = 0
              omega
  | ⟨1, _⟩ => exact h1

variable (b : Fin 16) (s : Fin 4096) (n : Fin 256)

/-- The filter after a number of its taps. -/
abbrev upto (k : ℕ) : EReal := taps (bias (ValueIdx.ix2 0 n)) (tapW w n) (fun k => past cab b (s.val + k) n) k

theorem upto1 : val_main_v21 (F := Ideal) cab w bias (ValueIdx.ix3 b s n) = upto cab w bias b s n 1 := by
  rw [val_main_v21_apply, val_main_v20_apply, val_main_v19_apply, val_main_v12_apply, val_main_v18_apply, val_main_v17_apply, val_main_v16_apply, val_main_v14_apply, val_main_v13_apply, val_main_v15_apply,
    row_at bias _ n (Nat.mod_eq_of_lt n.isLt),
    tap_at w _ 0 n rfl (Nat.mod_eq_of_lt n.isLt), past_at cab _ b (s.val + 0) n rfl (rfl) rfl]
  rfl

theorem upto2 : val_main_v28 (F := Ideal) cab w bias (ValueIdx.ix3 b s n) = upto cab w bias b s n 2 := by
  rw [val_main_v28_apply, upto1, val_main_v27_apply, val_main_v26_apply, val_main_v25_apply, val_main_v23_apply, val_main_v22_apply, val_main_v24_apply,
    tap_at w _ 1 n rfl (Nat.mod_eq_of_lt n.isLt), past_at cab _ b (s.val + 1) n rfl (Nat.add_comm 1 s.val) rfl]
  rfl

theorem upto3 : val_main_v35 (F := Ideal) cab w bias (ValueIdx.ix3 b s n) = upto cab w bias b s n 3 := by
  rw [val_main_v35_apply, upto2, val_main_v34_apply, val_main_v33_apply, val_main_v32_apply, val_main_v30_apply, val_main_v29_apply, val_main_v31_apply,
    tap_at w _ 2 n rfl (Nat.mod_eq_of_lt n.isLt), past_at cab _ b (s.val + 2) n rfl (Nat.add_comm 2 s.val) rfl]
  rfl

theorem upto4 : val_main_v42 (F := Ideal) cab w bias (ValueIdx.ix3 b s n) = upto cab w bias b s n 4 := by
  rw [val_main_v42_apply, upto3, val_main_v41_apply, val_main_v40_apply, val_main_v39_apply, val_main_v37_apply, val_main_v36_apply, val_main_v38_apply,
    tap_at w _ 3 n rfl (Nat.mod_eq_of_lt n.isLt), past_at cab _ b (s.val + 3) n rfl (Nat.add_comm 3 s.val) rfl]
  rfl

theorem upto5 : val_main_v49 (F := Ideal) cab w bias (ValueIdx.ix3 b s n) = upto cab w bias b s n 5 := by
  rw [val_main_v49_apply, upto4, val_main_v48_apply, val_main_v47_apply, val_main_v46_apply, val_main_v44_apply, val_main_v43_apply, val_main_v45_apply,
    tap_at w _ 4 n rfl (Nat.mod_eq_of_lt n.isLt), past_at cab _ b (s.val + 4) n rfl (Nat.add_comm 4 s.val) rfl]
  rfl

theorem upto6 : val_main_v56 (F := Ideal) cab w bias (ValueIdx.ix3 b s n) = upto cab w bias b s n 6 := by
  rw [val_main_v56_apply, upto5, val_main_v55_apply, val_main_v54_apply, val_main_v53_apply, val_main_v51_apply, val_main_v50_apply, val_main_v52_apply,
    tap_at w _ 5 n rfl (Nat.mod_eq_of_lt n.isLt), past_at cab _ b (s.val + 5) n rfl (Nat.add_comm 5 s.val) rfl]
  rfl

theorem upto7 : val_main_v63 (F := Ideal) cab w bias (ValueIdx.ix3 b s n) = upto cab w bias b s n 7 := by
  rw [val_main_v63_apply, upto6, val_main_v62_apply, val_main_v61_apply, val_main_v60_apply, val_main_v58_apply, val_main_v57_apply, val_main_v59_apply,
    tap_at w _ 6 n rfl (Nat.mod_eq_of_lt n.isLt), past_at cab _ b (s.val + 6) n rfl (Nat.add_comm 6 s.val) rfl]
  rfl

theorem upto8 : val_main_v70 (F := Ideal) cab w bias (ValueIdx.ix3 b s n) = upto cab w bias b s n 8 := by
  rw [val_main_v70_apply, upto7, val_main_v69_apply, val_main_v68_apply, val_main_v67_apply, val_main_v65_apply, val_main_v64_apply, val_main_v66_apply,
    tap_at w _ 7 n rfl (Nat.mod_eq_of_lt n.isLt), past_at cab _ b (s.val + 7) n rfl (Nat.add_comm 7 s.val) rfl]
  rfl

theorem upto9 : val_main_v77 (F := Ideal) cab w bias (ValueIdx.ix3 b s n) = upto cab w bias b s n 9 := by
  rw [val_main_v77_apply, upto8, val_main_v76_apply, val_main_v75_apply, val_main_v74_apply, val_main_v72_apply, val_main_v71_apply, val_main_v73_apply,
    tap_at w _ 8 n rfl (Nat.mod_eq_of_lt n.isLt), past_at cab _ b (s.val + 8) n rfl (Nat.add_comm 8 s.val) rfl]
  rfl

theorem upto10 : val_main_v84 (F := Ideal) cab w bias (ValueIdx.ix3 b s n) = upto cab w bias b s n 10 := by
  rw [val_main_v84_apply, upto9, val_main_v83_apply, val_main_v82_apply, val_main_v81_apply, val_main_v79_apply, val_main_v78_apply, val_main_v80_apply,
    tap_at w _ 9 n rfl (Nat.mod_eq_of_lt n.isLt), past_at cab _ b (s.val + 9) n rfl (Nat.add_comm 9 s.val) rfl]
  rfl

theorem upto11 : val_main_v91 (F := Ideal) cab w bias (ValueIdx.ix3 b s n) = upto cab w bias b s n 11 := by
  rw [val_main_v91_apply, upto10, val_main_v90_apply, val_main_v89_apply, val_main_v88_apply, val_main_v86_apply, val_main_v85_apply, val_main_v87_apply,
    tap_at w _ 10 n rfl (Nat.mod_eq_of_lt n.isLt), past_at cab _ b (s.val + 10) n rfl (Nat.add_comm 10 s.val) rfl]
  rfl

theorem upto12 : val_main_v98 (F := Ideal) cab w bias (ValueIdx.ix3 b s n) = upto cab w bias b s n 12 := by
  rw [val_main_v98_apply, upto11, val_main_v97_apply, val_main_v96_apply, val_main_v95_apply, val_main_v93_apply, val_main_v92_apply, val_main_v94_apply,
    tap_at w _ 11 n rfl (Nat.mod_eq_of_lt n.isLt), past_at cab _ b (s.val + 11) n rfl (Nat.add_comm 11 s.val) rfl]
  rfl

theorem upto13 : val_main_v105 (F := Ideal) cab w bias (ValueIdx.ix3 b s n) = upto cab w bias b s n 13 := by
  rw [val_main_v105_apply, upto12, val_main_v104_apply, val_main_v103_apply, val_main_v102_apply, val_main_v100_apply, val_main_v99_apply, val_main_v101_apply,
    tap_at w _ 12 n rfl (Nat.mod_eq_of_lt n.isLt), past_at cab _ b (s.val + 12) n rfl (Nat.add_comm 12 s.val) rfl]
  rfl

theorem upto14 : val_main_v112 (F := Ideal) cab w bias (ValueIdx.ix3 b s n) = upto cab w bias b s n 14 := by
  rw [val_main_v112_apply, upto13, val_main_v111_apply, val_main_v110_apply, val_main_v109_apply, val_main_v107_apply, val_main_v106_apply, val_main_v108_apply,
    tap_at w _ 13 n rfl (Nat.mod_eq_of_lt n.isLt), past_at cab _ b (s.val + 13) n rfl (Nat.add_comm 13 s.val) rfl]
  rfl

theorem upto15 : val_main_v119 (F := Ideal) cab w bias (ValueIdx.ix3 b s n) = upto cab w bias b s n 15 := by
  rw [val_main_v119_apply, upto14, val_main_v118_apply, val_main_v117_apply, val_main_v116_apply, val_main_v114_apply, val_main_v113_apply, val_main_v115_apply,
    tap_at w _ 14 n rfl (Nat.mod_eq_of_lt n.isLt), past_at cab _ b (s.val + 14) n rfl (Nat.add_comm 14 s.val) rfl]
  rfl

theorem upto16 : val_main_v126 (F := Ideal) cab w bias (ValueIdx.ix3 b s n) = upto cab w bias b s n 16 := by
  rw [val_main_v126_apply, upto15, val_main_v125_apply, val_main_v124_apply, val_main_v123_apply, val_main_v121_apply, val_main_v120_apply, val_main_v122_apply,
    tap_at w _ 15 n rfl (Nat.mod_eq_of_lt n.isLt), past_at cab _ b (s.val + 15) n rfl (Nat.add_comm 15 s.val) rfl]
  rfl

theorem upto17 : val_main_v133 (F := Ideal) cab w bias (ValueIdx.ix3 b s n) = upto cab w bias b s n 17 := by
  rw [val_main_v133_apply, upto16, val_main_v132_apply, val_main_v131_apply, val_main_v130_apply, val_main_v128_apply, val_main_v127_apply, val_main_v129_apply,
    tap_at w _ 16 n rfl (Nat.mod_eq_of_lt n.isLt), past_at cab _ b (s.val + 16) n rfl (Nat.add_comm 16 s.val) rfl]
  rfl

theorem upto18 : val_main_v140 (F := Ideal) cab w bias (ValueIdx.ix3 b s n) = upto cab w bias b s n 18 := by
  rw [val_main_v140_apply, upto17, val_main_v139_apply, val_main_v138_apply, val_main_v137_apply, val_main_v135_apply, val_main_v134_apply, val_main_v136_apply,
    tap_at w _ 17 n rfl (Nat.mod_eq_of_lt n.isLt), past_at cab _ b (s.val + 17) n rfl (Nat.add_comm 17 s.val) rfl]
  rfl

theorem upto19 : val_main_v147 (F := Ideal) cab w bias (ValueIdx.ix3 b s n) = upto cab w bias b s n 19 := by
  rw [val_main_v147_apply, upto18, val_main_v146_apply, val_main_v145_apply, val_main_v144_apply, val_main_v142_apply, val_main_v141_apply, val_main_v143_apply,
    tap_at w _ 18 n rfl (Nat.mod_eq_of_lt n.isLt), past_at cab _ b (s.val + 18) n rfl (Nat.add_comm 18 s.val) rfl]
  rfl

theorem upto20 : val_main_v154 (F := Ideal) cab w bias (ValueIdx.ix3 b s n) = upto cab w bias b s n 20 := by
  rw [val_main_v154_apply, upto19, val_main_v153_apply, val_main_v152_apply, val_main_v151_apply, val_main_v149_apply, val_main_v148_apply, val_main_v150_apply,
    tap_at w _ 19 n rfl (Nat.mod_eq_of_lt n.isLt), past_at cab _ b (s.val + 19) n rfl (Nat.add_comm 19 s.val) rfl]
  rfl

theorem upto21 : val_main_v161 (F := Ideal) cab w bias (ValueIdx.ix3 b s n) = upto cab w bias b s n 21 := by
  rw [val_main_v161_apply, upto20, val_main_v160_apply, val_main_v159_apply, val_main_v158_apply, val_main_v156_apply, val_main_v155_apply, val_main_v157_apply,
    tap_at w _ 20 n rfl (Nat.mod_eq_of_lt n.isLt), past_at cab _ b (s.val + 20) n rfl (Nat.add_comm 20 s.val) rfl]
  rfl

theorem upto22 : val_main_v168 (F := Ideal) cab w bias (ValueIdx.ix3 b s n) = upto cab w bias b s n 22 := by
  rw [val_main_v168_apply, upto21, val_main_v167_apply, val_main_v166_apply, val_main_v165_apply, val_main_v163_apply, val_main_v162_apply, val_main_v164_apply,
    tap_at w _ 21 n rfl (Nat.mod_eq_of_lt n.isLt), past_at cab _ b (s.val + 21) n rfl (Nat.add_comm 21 s.val) rfl]
  rfl

theorem upto23 : val_main_v175 (F := Ideal) cab w bias (ValueIdx.ix3 b s n) = upto cab w bias b s n 23 := by
  rw [val_main_v175_apply, upto22, val_main_v174_apply, val_main_v173_apply, val_main_v172_apply, val_main_v170_apply, val_main_v169_apply, val_main_v171_apply,
    tap_at w _ 22 n rfl (Nat.mod_eq_of_lt n.isLt), past_at cab _ b (s.val + 22) n rfl (Nat.add_comm 22 s.val) rfl]
  rfl

theorem upto24 : val_main_v182 (F := Ideal) cab w bias (ValueIdx.ix3 b s n) = upto cab w bias b s n 24 := by
  rw [val_main_v182_apply, upto23, val_main_v181_apply, val_main_v180_apply, val_main_v179_apply, val_main_v177_apply, val_main_v176_apply, val_main_v178_apply,
    tap_at w _ 23 n rfl (Nat.mod_eq_of_lt n.isLt), past_at cab _ b (s.val + 23) n rfl (Nat.add_comm 23 s.val) rfl]
  rfl

theorem upto25 : val_main_v189 (F := Ideal) cab w bias (ValueIdx.ix3 b s n) = upto cab w bias b s n 25 := by
  rw [val_main_v189_apply, upto24, val_main_v188_apply, val_main_v187_apply, val_main_v186_apply, val_main_v184_apply, val_main_v183_apply, val_main_v185_apply,
    tap_at w _ 24 n rfl (Nat.mod_eq_of_lt n.isLt), past_at cab _ b (s.val + 24) n rfl (Nat.add_comm 24 s.val) rfl]
  rfl

theorem upto26 : val_main_v196 (F := Ideal) cab w bias (ValueIdx.ix3 b s n) = upto cab w bias b s n 26 := by
  rw [val_main_v196_apply, upto25, val_main_v195_apply, val_main_v194_apply, val_main_v193_apply, val_main_v191_apply, val_main_v190_apply, val_main_v192_apply,
    tap_at w _ 25 n rfl (Nat.mod_eq_of_lt n.isLt), past_at cab _ b (s.val + 25) n rfl (Nat.add_comm 25 s.val) rfl]
  rfl

theorem upto27 : val_main_v203 (F := Ideal) cab w bias (ValueIdx.ix3 b s n) = upto cab w bias b s n 27 := by
  rw [val_main_v203_apply, upto26, val_main_v202_apply, val_main_v201_apply, val_main_v200_apply, val_main_v198_apply, val_main_v197_apply, val_main_v199_apply,
    tap_at w _ 26 n rfl (Nat.mod_eq_of_lt n.isLt), past_at cab _ b (s.val + 26) n rfl (Nat.add_comm 26 s.val) rfl]
  rfl

theorem upto28 : val_main_v210 (F := Ideal) cab w bias (ValueIdx.ix3 b s n) = upto cab w bias b s n 28 := by
  rw [val_main_v210_apply, upto27, val_main_v209_apply, val_main_v208_apply, val_main_v207_apply, val_main_v205_apply, val_main_v204_apply, val_main_v206_apply,
    tap_at w _ 27 n rfl (Nat.mod_eq_of_lt n.isLt), past_at cab _ b (s.val + 27) n rfl (Nat.add_comm 27 s.val) rfl]
  rfl

theorem upto29 : val_main_v217 (F := Ideal) cab w bias (ValueIdx.ix3 b s n) = upto cab w bias b s n 29 := by
  rw [val_main_v217_apply, upto28, val_main_v216_apply, val_main_v215_apply, val_main_v214_apply, val_main_v212_apply, val_main_v211_apply, val_main_v213_apply,
    tap_at w _ 28 n rfl (Nat.mod_eq_of_lt n.isLt), past_at cab _ b (s.val + 28) n rfl (Nat.add_comm 28 s.val) rfl]
  rfl

theorem upto30 : val_main_v224 (F := Ideal) cab w bias (ValueIdx.ix3 b s n) = upto cab w bias b s n 30 := by
  rw [val_main_v224_apply, upto29, val_main_v223_apply, val_main_v222_apply, val_main_v221_apply, val_main_v219_apply, val_main_v218_apply, val_main_v220_apply,
    tap_at w _ 29 n rfl (Nat.mod_eq_of_lt n.isLt), past_at cab _ b (s.val + 29) n rfl (Nat.add_comm 29 s.val) rfl]
  rfl

theorem upto31 : val_main_v231 (F := Ideal) cab w bias (ValueIdx.ix3 b s n) = upto cab w bias b s n 31 := by
  rw [val_main_v231_apply, upto30, val_main_v230_apply, val_main_v229_apply, val_main_v228_apply, val_main_v226_apply, val_main_v225_apply, val_main_v227_apply,
    tap_at w _ 30 n rfl (Nat.mod_eq_of_lt n.isLt), past_at cab _ b (s.val + 30) n rfl (Nat.add_comm 30 s.val) rfl]
  rfl

/-- The filtered rows. -/
theorem row_read : val_main_v231 (F := Ideal) cab w bias (ValueIdx.ix3 b s n) = rowAt cab w bias b s.val n := upto31 cab w bias b s n

/-- The mean of a filtered row. -/
theorem mean_read (z : Fin 1) : val_main_v235 (F := Ideal) cab w bias (ValueIdx.ix3 b s z) = mean (rowAt cab w bias b s.val) := by
  rw [val_main_v235_apply, val_main_v234_apply, val_main_cst_2_apply, val_main_v233_apply, val_main_v232_apply, val_main_cst_1_apply]
  unfold mean
  refine congrArg (fun x : EReal => Ideal.div x (Ideal.ofBits .f32 0x43800000#32)) ?_
  show Ideal.ofBits .f32 0x00000000#32 + _ = _
  rw [Ideal.ofBits_zero_f32, zero_add]
  refine Finset.sum_congr rfl fun k _ => ?_
  rw [show idx_main_v232 (idx_main_v233 (ValueIdx.ix3 b s z)) k = ValueIdx.ix3 b s k from ValueIdx.eq_ix3 _, row_read]

/-- A filtered row less its mean. -/
theorem mid_read : val_main_v237 (F := Ideal) cab w bias (ValueIdx.ix3 b s n) = mid (rowAt cab w bias b s.val) n := by
  rw [val_main_v237_apply, row_read, val_main_v236_apply,
    show idx_main_v236 (ValueIdx.ix3 b s n) = ValueIdx.ix3 b s (0 : Fin 1) from ValueIdx.eq_ix3 _, mean_read]
  rfl

/-- One over the deviation of a filtered row. -/
theorem dev_read (z : Fin 1) : val_main_v245 (F := Ideal) cab w bias (ValueIdx.ix3 b s z)
    = Ideal.rsqrt (mean (fun j => mid (rowAt cab w bias b s.val) j * mid (rowAt cab w bias b s.val) j) + Ideal.ofBits .f32 0x358637BD#32) := by
  rw [val_main_v245_apply, val_main_v244_apply, val_main_v243_apply, val_main_cst_5_apply, val_main_v242_apply, val_main_v241_apply,
    val_main_cst_4_apply, val_main_v240_apply, val_main_v239_apply, val_main_cst_3_apply]
  unfold mean
  refine congrArg (fun x : EReal => Ideal.rsqrt (Ideal.div x (Ideal.ofBits .f32 0x43800000#32) + Ideal.ofBits .f32 0x358637BD#32)) ?_
  show Ideal.ofBits .f32 0x00000000#32 + _ = _
  rw [Ideal.ofBits_zero_f32, zero_add]
  refine Finset.sum_congr rfl fun k _ => ?_
  rw [show idx_main_v239 (idx_main_v240 (ValueIdx.ix3 b s z)) k = ValueIdx.ix3 b s k from ValueIdx.eq_ix3 _, val_main_v238_apply, mid_read]
  rfl

/-- The filtered rows, normalized. -/
theorem norm_read : val_main_v255 (F := Ideal) cab w bias g be (ValueIdx.ix3 b s n) = normAt cab w bias g be b s.val n := by
  rw [val_main_v255_apply, val_main_v254_apply, val_main_v253_apply, val_main_v252_apply, val_main_v251_apply, val_main_v250_apply,
    val_main_v249_apply, val_main_v248_apply, val_main_v247_apply, mid_read, val_main_v246_apply,
    show idx_main_v246 (ValueIdx.ix3 b s n) = ValueIdx.ix3 b s (0 : Fin 1) from ValueIdx.eq_ix3 _, dev_read,
    row_at g _ n (Nat.mod_eq_of_lt n.isLt), row_at be _ n (Nat.mod_eq_of_lt n.isLt)]
  rfl

/-- The result of the reference. -/
theorem res257 : val_main_v257 (F := Ideal) cab w bias g be = out cab w bias g be := by
  funext i
  obtain ⟨b, s, n, rfl⟩ : ∃ (b : Fin 16) (s : Fin 4096) (n : Fin 256), i = ValueIdx.ix3 b s n := ⟨i 0, i 1, i 2, ValueIdx.eq_ix3 i⟩
  rw [val_main_v257_apply, val_main_v256_apply, val_main_call1_v5_apply, val_main_call1_v4_apply, val_main_call1_cst_0_apply,
    val_main_call1_v3_apply, val_main_call1_v2_apply, val_main_call1_cst_apply, val_main_call1_v1_apply, val_main_call1_v0_apply, norm_read]
  show normAt cab w bias g be b s.val n * Ideal.div (Ideal.ofBits .f32 0x3F800000#32) (Ideal.ofBits .f32 0x3F800000#32
    + Ideal.exp (-(normAt cab w bias g be b s.val n))) = _
  rw [Ideal.ofBits_one_f32]
  rfl

/-- The result of the reference, of equal arguments. -/
theorem res_of {cab' : (⟨3, ![16, 4096, 512]⟩ : Shape).Idx → EReal} {w' : (⟨2, ![31, 256]⟩ : Shape).Idx → EReal}
    {bias' g' be' : (⟨2, ![1, 256]⟩ : Shape).Idx → EReal} (h0 : cab = cab') (h1 : w = w') (h2 : bias = bias') (h3 : g = g') (h4 : be = be') :
    val_main_v257 (F := Ideal) cab w bias g be = out cab' w' bias' g' be' := by
  rw [res257, h0, h1, h2, h3, h4]

/-- The reference runs, keeps its arguments, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.ConvRefIdeal.Filter

end
-- ==== Proof.Prep.Frame.lean ====
module

public import proofs.«01_k».proof.Proof.Gen.Prep.Frame
-- ==== Proof.Rows.Columns.lean ====
module

public import proofs.«01_k».proof.Proof.Rows.Ops
public import Idealize.ShloMosaic.Lib.Pipeline.Value

@[expose] public section

noncomputable section

namespace Cert.Columns

open Idealize.ShloMosaic Idealize.ShloMosaic.ValueIdx

/-- A row of the weights, with zeros past its end. -/
def ext (g : Fin 6534 → EReal) (c : ℕ) : EReal := if h : c < 6534 then g ⟨c, h⟩ else 0

theorem ext_of {g : Fin 6534 → EReal} {c : ℕ} (k : Fin 6534) (h : k.val = c) : g k = ext g c := by
  subst h
  unfold ext
  rw [dif_pos k.isLt]

/-- A column of four heads of 96 columns from `o` on, each filled up with zeros to 128. -/
def heads (f : ℕ → EReal) (o j : ℕ) : EReal := if j % 128 < 96 then f (o + (96 * (j / 128) + j % 128)) else 0

/-- A column of the laid-out weights, of a row `f` of the weights. -/
def lay (f : ℕ → EReal) (n : ℕ) : EReal :=
  if n < 1158 then f n
  else if n < 1280 then 0
  else if n < 1792 then f (1158 + (n - 1280))
  else if n < 2304 then heads f 2182 (n - 1792)
  else if n < 2816 then heads f 2566 (n - 2304)
  else if n < 3328 then f (1670 + (n - 2816))
  else if n < 3840 then f (2950 + (n - 3328))
  else Ideal.ofBits .f32 0x3F000000#32 * f (3462 + (n - 3840))

theorem lay_first {f : ℕ → EReal} {n : ℕ} (h : n < 1158) : lay f n = f n := if_pos h

theorem lay_gap {f : ℕ → EReal} {n : ℕ} (h : 1158 ≤ n) (h' : n < 1280) : lay f n = 0 := by
  unfold lay; rw [if_neg (by omega), if_pos h']

theorem lay_q {f : ℕ → EReal} {j : ℕ} (h : j < 512) : lay f (1280 + j) = f (1158 + j) := by
  unfold lay; rw [if_neg (by omega), if_neg (by omega), if_pos (by omega), Nat.add_sub_cancel_left]

theorem lay_i {f : ℕ → EReal} {j : ℕ} (h : j < 512) : lay f (1792 + j) = heads f 2182 j := by
  unfold lay; rw [if_neg (by omega), if_neg (by omega), if_neg (by omega), if_pos (by omega), Nat.add_sub_cancel_left]

theorem lay_g {f : ℕ → EReal} {j : ℕ} (h : j < 512) : lay f (2304 + j) = heads f 2566 j := by
  unfold lay; rw [if_neg (by omega), if_neg (by omega), if_neg (by omega), if_neg (by omega), if_pos (by omega), Nat.add_sub_cancel_left]

theorem lay_f {f : ℕ → EReal} {j : ℕ} (h : j < 512) : lay f (2816 + j) = f (1670 + j) := by
  unfold lay
  rw [if_neg (by omega), if_neg (by omega), if_neg (by omega), if_neg (by omega), if_neg (by omega), if_pos (by omega), Nat.add_sub_cancel_left]

theorem lay_c {f : ℕ → EReal} {j : ℕ} (h : j < 512) : lay f (3328 + j) = f (2950 + j) := by
  unfold lay
  rw [if_neg (by omega), if_neg (by omega), if_neg (by omega), if_neg (by omega), if_neg (by omega), if_neg (by omega), if_pos (by omega), Nat.add_sub_cancel_left]

theorem lay_l {f : ℕ → EReal} {j : ℕ} : lay f (3840 + j) = Ideal.ofBits .f32 0x3F000000#32 * f (3462 + j) := by
  unfold lay
  rw [if_neg (by omega), if_neg (by omega), if_neg (by omega), if_neg (by omega), if_neg (by omega), if_neg (by omega), if_neg (by omega), Nat.add_sub_cancel_left]

/-- The weights of two layers, their columns laid out. -/
def out (w : (⟨3, ![2, 1024, 6534]⟩ : Shape).Idx → EReal) : (⟨3, ![2, 1024, 6912]⟩ : Shape).Idx → EReal :=
  fun i => lay (ext fun k => w (ix3 (i 0) (i 1) k)) (i 2).val

end Cert.Columns

end
-- ==== Proof.PrepIdeal.Value.lean ====
module

public import proofs.«01_k».proof.Proof.Gen.PrepIdeal.Frame
public import proofs.«01_k».proof.Proof.Rows.Columns
public import proofs.«01_k».proof.Proof.Fox.Reads
public import Idealize.ShloMosaic.Lib.Pipeline.ValueKit

@[expose] public section

set_option maxRecDepth 16384

noncomputable section

namespace Cert.PrepIdeal.Columns

open Idealize.ShloMosaic Idealize.ShloMosaic.TcCoe Idealize.SL.Sem
open Cert.PrepIdeal Cert.PrepIdeal.Gen Cert.Columns

/-- Four heads side by side, each filled up with zeros. -/
theorem heads_apply (a0 a1 a2 a3 : FVec Ideal S128x96 .f32) (z0 z1 z2 z3 : FVec Ideal S128x32 .f32) (h) (f : ℕ → EReal) (o : ℕ) (p : Fin 128)
    (h0 : ∀ r : Fin 96, a0 (ValueIdx.ix2 p r) = f (o + r.val)) (h1 : ∀ r : Fin 96, a1 (ValueIdx.ix2 p r) = f (o + (96 + r.val)))
    (h2 : ∀ r : Fin 96, a2 (ValueIdx.ix2 p r) = f (o + (192 + r.val))) (h3 : ∀ r : Fin 96, a3 (ValueIdx.ix2 p r) = f (o + (288 + r.val)))
    (k0 : ∀ r : Fin 32, z0 (ValueIdx.ix2 p r) = 0) (k1 : ∀ r : Fin 32, z1 (ValueIdx.ix2 p r) = 0) (k2 : ∀ r : Fin 32, z2 (ValueIdx.ix2 p r) = 0)
    (k3 : ∀ r : Fin 32, z3 (ValueIdx.ix2 p r) = 0) (n : Fin 512) :
    concatenate S128x512 1 [⟨S128x96, a0⟩, ⟨S128x32, z0⟩, ⟨S128x96, a1⟩, ⟨S128x32, z1⟩, ⟨S128x96, a2⟩, ⟨S128x32, z2⟩, ⟨S128x96, a3⟩, ⟨S128x32, z3⟩] h
      (ValueIdx.ix2 p n) = heads f o n.val := by
  have hn := n.isLt
  have off : ∀ {N : ℕ} (r : Fin N) (b : Fin 2), b ≠ (1 : Fin 2) → (ValueIdx.ix2 p r b).val = (ValueIdx.ix2 p n b).val := fun r b hb =>
    match b with
    | ⟨0, _⟩ => rfl
    | ⟨1, _⟩ => absurd rfl hb
  unfold heads
  rcases (by omega : n.val < 96 ∨ (96 ≤ n.val ∧ n.val < 128) ∨ (128 ≤ n.val ∧ n.val < 224) ∨ (224 ≤ n.val ∧ n.val < 256) ∨ (256 ≤ n.val ∧ n.val < 352)
    ∨ (352 ≤ n.val ∧ n.val < 384) ∨ (384 ≤ n.val ∧ n.val < 480) ∨ 480 ≤ n.val) with c | c | c | c | c | c | c | c
  · rw [if_pos (by omega)]
    refine (concatenate_apply_piece 1 _ h (ValueIdx.ix2 p n) 0 (by simp) S128x96 a0 rfl rfl 0 rfl (ValueIdx.ix2 p ⟨n.val, c⟩) (off _) (Nat.zero_add _)).trans ?_
    rw [h0]; congr 1; show o + n.val = _; omega
  · rw [if_neg (by omega)]
    exact (concatenate_apply_piece 1 _ h (ValueIdx.ix2 p n) 1 (by simp) S128x32 z0 rfl rfl 96 rfl (ValueIdx.ix2 p ⟨n.val - 96, by omega⟩) (off _)
      (by show 96 + (n.val - 96) = n.val; omega)).trans (k0 _)
  · rw [if_pos (by omega)]
    refine (concatenate_apply_piece 1 _ h (ValueIdx.ix2 p n) 2 (by simp) S128x96 a1 rfl rfl 128 rfl (ValueIdx.ix2 p ⟨n.val - 128, by omega⟩) (off _)
      (by show 128 + (n.val - 128) = n.val; omega)).trans ?_
    rw [h1]; congr 1; show o + (96 + (n.val - 128)) = _; omega
  · rw [if_neg (by omega)]
    exact (concatenate_apply_piece 1 _ h (ValueIdx.ix2 p n) 3 (by simp) S128x32 z1 rfl rfl 224 rfl (ValueIdx.ix2 p ⟨n.val - 224, by omega⟩) (off _)
      (by show 224 + (n.val - 224) = n.val; omega)).trans (k1 _)
  · rw [if_pos (by omega)]
    refine (concatenate_apply_piece 1 _ h (ValueIdx.ix2 p n) 4 (by simp) S128x96 a2 rfl rfl 256 rfl (ValueIdx.ix2 p ⟨n.val - 256, by omega⟩) (off _)
      (by show 256 + (n.val - 256) = n.val; omega)).trans ?_
    rw [h2]; congr 1; show o + (192 + (n.val - 256)) = _; omega
  · rw [if_neg (by omega)]
    exact (concatenate_apply_piece 1 _ h (ValueIdx.ix2 p n) 5 (by simp) S128x32 z2 rfl rfl 352 rfl (ValueIdx.ix2 p ⟨n.val - 352, by omega⟩) (off _)
      (by show 352 + (n.val - 352) = n.val; omega)).trans (k2 _)
  · rw [if_pos (by omega)]
    refine (concatenate_apply_piece 1 _ h (ValueIdx.ix2 p n) 6 (by simp) S128x96 a3 rfl rfl 384 rfl (ValueIdx.ix2 p ⟨n.val - 384, by omega⟩) (off _)
      (by show 384 + (n.val - 384) = n.val; omega)).trans ?_
    rw [h3]; congr 1; show o + (288 + (n.val - 384)) = _; omega
  · rw [if_neg (by omega)]
    exact (concatenate_apply_piece 1 _ h (ValueIdx.ix2 p n) 7 (by simp) S128x32 z3 rfl rfl 480 rfl (ValueIdx.ix2 p ⟨n.val - 480, by omega⟩) (off _)
      (by show 480 + (n.val - 480) = n.val; omega)).trans (k3 _)

section Point

variable (c : Dev nD) (i : grid0.Coords) (arg2 : Memref sig .tc .vmem S1x128x6534 .f32) (harg2 : arg2.IsWhole)
  (arg3 : Memref sig .tc .vmem S1x128x6912 .bf16) (harg3 : arg3.IsWhole) (x0 : Vec Ideal S1x128x6534 .f32)

/-- A row of a block. -/
def row (p : Fin 128) : ℕ → EReal := ext fun k => x0 (ValueIdx.ix3 0 p k)

/-- A block with its columns laid out. -/
def blockOut : S1x128x6912.Idx → EReal := fun y => lay (row x0 (y 1)) (y 2).val

/-- A load of columns of the block. -/
theorem load {N : ℕ} (o : ℕ) (inb) (h) (p : Fin 128) (n : Fin N) :
    (shapeCast (⟨2, ![128, N]⟩ : Shape) (View.readAt (Elt Ideal) arg2.view
      (Rect.unit (s := S1x128x6534) ![0, 0, o] (⟨3, ![1, 128, N]⟩ : Shape).size inb).toLoadRect (harg2.unread x0)) h : FVec Ideal ⟨2, ![128, N]⟩ .f32) (ValueIdx.ix2 p n)
      = row x0 p (o + n.val) := by
  have hi : o + N ≤ 6534 := inb 2
  refine (ValueIdx.shapeCast_1ab_ab_apply _ h p n).trans ?_
  refine (Fox.readAt_unit_apply _ _ inb (ValueIdx.ix3 0 p n) (ValueIdx.ix3 0 p ⟨o + n.val, by omega⟩) (Fox.pos3 (Nat.zero_add _).symm (Nat.zero_add _).symm rfl)).trans ?_
  exact (congrFun (harg2.read_unread x0) _).trans (ext_of (g := fun k => x0 (ValueIdx.ix3 0 p k)) _ rfl)

/-- What a store writes, at its place in the block. -/
theorem store {N : ℕ} (o : ℕ) (inb) (h) (v : FVec Ideal ⟨2, ![128, N]⟩ .f32) (hv : ∀ (p : Fin 128) (n : Fin N), v (ValueIdx.ix2 p n) = lay (row x0 p) (o + n.val))
    (x : (⟨3, ![1, 128, N]⟩ : Shape).Idx) :
    (shapeCast (⟨3, ![1, 128, N]⟩ : Shape) (truncf .bf16 v bitsLt_bf16_f32 : FVec Ideal ⟨2, ![128, N]⟩ .bf16) h : FVec Ideal ⟨3, ![1, 128, N]⟩ .bf16) x
      = blockOut x0 ((Rect.unit (s := S1x128x6912) ![0, 0, o] (⟨3, ![1, 128, N]⟩ : Shape).size inb).emb x) := by
  obtain ⟨z, p, n, rfl⟩ : ∃ (z : Fin 1) (p : Fin 128) (n : Fin N), x = ValueIdx.ix3 z p n := ⟨x 0, x 1, x 2, ValueIdx.eq_ix3 x⟩
  refine (ValueIdx.shapeCast_ab_1ab_apply _ h z p n).trans ((hv p n).trans ?_)
  unfold blockOut
  refine congrArg₂ (fun (a : Fin 128) (b : ℕ) => lay (row x0 a) b) (Fin.ext ?_) ?_
  · show p.val = 0 + 1 * p.val; omega
  · show o + n.val = o + 1 * n.val; omega

/-- The constant zero of a block. -/
theorem zero_apply {s : Shape} (x : s.Idx) : (broadcast s (Scalar.ofBits .f32 0x00000000#32 : Ideal .f32) : FVec Ideal s .f32) x = 0 := Ideal.ofBits_zero_f32

theorem forget (p : Fin 128) (n : Fin 128) : kernelRun0_A.sl.r_1 c arg2 harg2 x0 (ValueIdx.ix2 p n) = lay (row x0 p) (1152 + n.val) := by
  have hn := n.isLt
  unfold kernelRun0_A.sl.r_1 k0_pay7
  have off : ∀ {N : ℕ} (r : Fin N) (b : Fin 2), b ≠ (1 : Fin 2) → (ValueIdx.ix2 p r b).val = (ValueIdx.ix2 p n b).val := fun r b hb =>
    match b with
    | ⟨0, _⟩ => rfl
    | ⟨1, _⟩ => absurd rfl hb
  by_cases h : n.val < 6
  · rw [lay_first (by omega)]
    exact (concatenate_apply_piece 1 _ _ (ValueIdx.ix2 p n) 0 (by simp) S128x6 _ rfl rfl 0 rfl (ValueIdx.ix2 p ⟨n.val, h⟩) (off _) (Nat.zero_add _)).trans
      (load arg2 harg2 x0 1152 _ _ p ⟨n.val, h⟩)
  · rw [lay_gap (by omega) (by omega)]
    exact (concatenate_apply_piece 1 _ _ (ValueIdx.ix2 p n) 1 (by simp) S128x122 _ rfl rfl 6 rfl (ValueIdx.ix2 p ⟨n.val - 6, by omega⟩) (off _)
      (by show 6 + (n.val - 6) = n.val; omega)).trans (zero_apply _)

theorem values (p : Fin 128) (n : Fin 512) : kernelRun0_A.sl.r_3 c arg2 harg2 x0 (ValueIdx.ix2 p n) = lay (row x0 p) (1792 + n.val) := by
  unfold kernelRun0_A.sl.r_3 k0_pay9
  rw [lay_i n.isLt]
  refine heads_apply _ _ _ _ _ _ _ _ _ _ 2182 p (fun r => load arg2 harg2 x0 2182 _ _ p r)
    (fun r => (load arg2 harg2 x0 2278 _ _ p r).trans (congrArg _ (Nat.add_assoc 2182 96 _)))
    (fun r => (load arg2 harg2 x0 2374 _ _ p r).trans (congrArg _ (Nat.add_assoc 2182 192 _)))
    (fun r => (load arg2 harg2 x0 2470 _ _ p r).trans (congrArg _ (Nat.add_assoc 2182 288 _)))
    (fun _ => zero_apply _) (fun _ => zero_apply _) (fun _ => zero_apply _) (fun _ => zero_apply _) n

theorem gates (p : Fin 128) (n : Fin 512) : kernelRun0_A.sl.r_6 c arg2 harg2 x0 (ValueIdx.ix2 p n) = lay (row x0 p) (2304 + n.val) := by
  unfold kernelRun0_A.sl.r_6 kernelRun0_A.sl.r_5 kernelRun0_A.sl.r_4 k0_pay12 k0_pay11 k0_pay10
  rw [lay_g n.isLt]
  refine heads_apply _ _ _ _ _ _ _ _ _ _ 2566 p (fun r => load arg2 harg2 x0 2566 _ _ p r)
    (fun r => (load arg2 harg2 x0 2662 _ _ p r).trans (congrArg _ (Nat.add_assoc 2566 96 _)))
    (fun r => (load arg2 harg2 x0 2758 _ _ p r).trans (congrArg _ (Nat.add_assoc 2566 192 _)))
    (fun r => (load arg2 harg2 x0 2854 _ _ p r).trans (congrArg _ (Nat.add_assoc 2566 288 _)))
    (fun _ => zero_apply _) (fun _ => zero_apply _) (fun _ => zero_apply _) (fun _ => zero_apply _) n

theorem halves (p : Fin 128) (n : Fin 3072) : kernelRun0_A.sl.r_9 c arg2 harg2 x0 (ValueIdx.ix2 p n) = lay (row x0 p) (3840 + n.val) := by
  unfold kernelRun0_A.sl.r_9 k0_pay15
  rw [lay_l]
  refine Eq.trans ?_ (mul_comm _ _)
  exact congrArg (fun a : EReal => a * Ideal.ofBits .f32 0x3F000000#32) (load arg2 harg2 x0 3462 _ _ p n)

/-- Each store writes a segment of the laid-out block. -/
theorem segments : ∀ pc ∈ (kernelRun0_A c i arg2 harg2 arg3 harg3 x0).1, ∀ x : pc.1.shape.Idx, pc.2 x = blockOut x0 (pc.1.emb x) := by
  unfold kernelRun0_A
  dsimp only
  intro pc hpc
  rcases List.mem_cons.mp hpc with rfl | hpc
  · exact store x0 3840 inb_S1x128x6912_S1x128x3072_0_0_3840 _ _ (halves c arg2 harg2 x0)
  rcases List.mem_cons.mp hpc with rfl | hpc
  · exact store x0 3328 inb_S1x128x6912_S1x128x512_0_0_3328 _ _ fun p n => (load arg2 harg2 x0 2950 _ _ p n).trans (lay_c n.isLt).symm
  rcases List.mem_cons.mp hpc with rfl | hpc
  · exact store x0 2816 inb_S1x128x6912_S1x128x512_0_0_2816 _ _ fun p n => (load arg2 harg2 x0 1670 _ _ p n).trans (lay_f n.isLt).symm
  rcases List.mem_cons.mp hpc with rfl | hpc
  · exact store x0 2304 inb_S1x128x6912_S1x128x512_0_0_2304 _ _ (gates c arg2 harg2 x0)
  rcases List.mem_cons.mp hpc with rfl | hpc
  · exact store x0 1792 inb_S1x128x6912_S1x128x512_0_0_1792 _ _ (values c arg2 harg2 x0)
  rcases List.mem_cons.mp hpc with rfl | hpc
  · exact store x0 1280 inb_S1x128x6912_S1x128x512_0_0_1280 _ _ fun p n => (load arg2 harg2 x0 1158 _ _ p n).trans (lay_q n.isLt).symm
  rcases List.mem_cons.mp hpc with rfl | hpc
  · exact store x0 1152 inb_S1x128x6912_S1x128x128_0_0_1152 _ _ (forget c arg2 harg2 x0)
  rcases List.mem_cons.mp hpc with rfl | hpc
  · exact store x0 0 inb_S1x128x6912_S1x128x1152_0_0_0 _ _ fun p n => (load arg2 harg2 x0 0 _ _ p n).trans (lay_first (by have := n.isLt; omega)).symm
  nomatch hpc

/-- What a point leaves in its block of the result. -/
theorem left (y : S1x128x6912.Idx) : out0_A_1 c i arg2 harg2 arg3 harg3 x0 y = blockOut x0 y := by
  unfold out0_A_1
  refine Eq.trans ?_ (View.canon_apply_of_pieces (Val := Elt Ideal) (e := .bf16) (blockOut x0) _ (segments c i arg2 harg2 arg3 harg3 x0) y
    (cover0_A_1 c i arg2 harg2 arg3 harg3 x0 y))
  exact congrFun (View.read_writes_eq_canon VO0_1 _ _ (cover0_A_1 c i arg2 harg2 arg3 harg3 x0)) y

end Point

variable (m : (ℓ : Loc nD τ sig) → Buf (Elt Ideal) ℓ) (ρ : Dev nD → PrngReg)

/-- A coordinate of the grid as a word. -/
theorem word_val {n : ℕ} (x : Fin n) (hn : n < 2 ^ 32) : (BitVec.ofNat 32 x.val).toNat = x.val := by
  rw [BitVec.toNat_ofNat]; exact Nat.mod_eq_of_lt (lt_trans x.isLt hn)

/-- The rows of a point. -/
theorem blk_w (c : Dev nD) (t : Fin cfg0.N) (p : Fin 128) (k : Fin 6534) (l : Fin 2) (r : Fin 1024) (hl : l.val = (grid0.coords t 0).val)
    (hr : r.val = 128 * (grid0.coords t 1).val + p.val) : iblk m c 0 t (ValueIdx.ix3 0 p k) = m ((c : Thread nD τ).loc main_arg0) (ValueIdx.ix3 l r k) := by
  refine congrArg (V m c main_arg0) (funext fun a => Fin.ext ?_)
  refine (win0_0.rect_emb_val t _ a rfl).trans ?_
  match a with
  | ⟨0, _⟩ => show (BitVec.ofNat 32 (grid0.coords t 0).val).toNat * 1 + 0 = l.val
              rw [word_val _ (by decide), hl]; omega
  | ⟨1, _⟩ => show (BitVec.ofNat 32 (grid0.coords t 1).val).toNat * 128 + p.val = r.val
              rw [word_val _ (by decide), hr]; omega
  | ⟨2, _⟩ => show 0 * 6534 + k.val = k.val; omega

theorem arr1_eq (c : Dev nD) : (dats m 0 c).arrAt 1 cfg0.N = out (m ((c : Thread nD τ).loc main_arg0)) := by
  refine (dats m 0 c).arrAt_eq_of_covers 1 _ (by decide +kernel) fun t _ y => ?_
  obtain ⟨z, p, n, rfl⟩ : ∃ (z : Fin 1) (p : Fin 128) (n : Fin 6912), y = ValueIdx.ix3 z p n := ⟨y 0, y 1, y 2, ValueIdx.eq_ix3 y⟩
  obtain rfl : z = 0 := Subsingleton.elim _ _
  have e0 : ((win0_1.blk t).view.emb (ValueIdx.ix3 0 p n) 0 : ℕ) = (grid0.coords t 0).val := by
    refine (win0_1.rect_emb_val t _ 0 rfl).trans ?_
    show (BitVec.ofNat 32 (grid0.coords t 0).val).toNat * 1 + 0 = _
    rw [word_val _ (by decide)]; omega
  have e1 : ((win0_1.blk t).view.emb (ValueIdx.ix3 0 p n) 1 : ℕ) = 128 * (grid0.coords t 1).val + p.val := by
    refine (win0_1.rect_emb_val t _ 1 rfl).trans ?_
    show (BitVec.ofNat 32 (grid0.coords t 1).val).toNat * 128 + p.val = _
    rw [word_val _ (by decide)]; omega
  have e2 : ((win0_1.blk t).view.emb (ValueIdx.ix3 0 p n) 2 : ℕ) = n.val := by
    refine (win0_1.rect_emb_val t _ 2 rfl).trans ?_
    show 0 * 6912 + n.val = _
    omega
  show (dats m 0 c).after 1 t (ValueIdx.ix3 0 p n) = lay _ _
  rw [after0_1, e2]
  unfold outsAt0
  refine (left c (grid0.coords t) (ms0_0 t) (hs0_0 t) (ms0_1 t) (hs0_1 t) (iblk m c 0 t) _).trans ?_
  exact congrArg (fun f : Fin 6534 → EReal => lay (ext f) n.val) (funext fun k => blk_w m c t p k _ _ e0 e1)

/-- The run of the kernel: the laid-out weights, and the argument unchanged. -/
theorem run_value : θ_run defs (onTc (τ := τ) (main (F := Ideal))) ⟨m, fun _ => 0, ρ⟩ (fun r => ∀ c : Dev nD,
      r.2.mem ((c.tc : Thread nD τ).loc main_v0) = out (m ((c.tc : Thread nD τ).loc main_arg0))
      ∧ r.2.mem ((c.tc : Thread nD τ).loc main_arg0) = m ((c.tc : Thread nD τ).loc main_arg0)) :=
  (θ_run defs _ _).mono (fun r h c => ⟨((h c).1 1).trans (arr1_eq m c),
      ((h c).1 0).trans (((dats m 0 c).arrAt_in 0 rfl _).trans ((A_eq m c 0).trans (V_main_arg0 m c)))⟩) (run_main m ρ)

end Cert.PrepIdeal.Columns

end
-- ==== Proof.PrepRefIdeal.Value.lean ====
module

public import proofs.«01_k».proof.Proof.Gen.PrepRefIdeal.Read
public import proofs.«01_k».proof.Proof.Rows.Columns
public import Idealize.ShloMosaic.Lib.IdealHost
public import Idealize.ShloMosaic.Lib.KernelVsHost
public import Idealize.ShloMosaic.Lib.Quiescent

@[expose] public section

noncomputable section

namespace Cert.PrepRefIdeal.Columns

open Cert.PrepRefIdeal Cert.PrepRefIdeal.Gen Cert.PrepRefIdeal.Read Cert.Columns Idealize.ShloMosaic Idealize.SL.Sem

variable (w : (⟨3, ![2, 1024, 6534]⟩ : Shape).Idx → EReal)

/-- A row of the weights. -/
def row (l : Fin 2) (r : Fin 1024) : ℕ → EReal := ext fun k => w (ValueIdx.ix3 l r k)

/-- An entry of the weights, coordinate by coordinate. -/
theorem at_row (i : (⟨3, ![2, 1024, 6534]⟩ : Shape).Idx) (l : Fin 2) (r : Fin 1024) (c : ℕ) (h0 : (i 0).val = l.val) (h1 : (i 1).val = r.val) (h2 : (i 2).val = c) :
    w i = row w l r c := by
  obtain ⟨p, q, k, rfl⟩ : ∃ (p : Fin 2) (q : Fin 1024) (k : Fin 6534), i = ValueIdx.ix3 p q k := ⟨i 0, i 1, i 2, ValueIdx.eq_ix3 i⟩
  obtain rfl : p = l := Fin.ext h0
  obtain rfl : q = r := Fin.ext h1
  exact ext_of (g := fun k => w (ValueIdx.ix3 p q k)) k h2

variable (l : Fin 2) (r : Fin 1024)

/-- The forget gates' columns, filled up with zeros. -/
theorem forget (n : Fin 128) : val_main_v11 (F := Ideal) w (ValueIdx.ix3 l r n) = lay (row w l r) (1152 + n.val) := by
  have hn := n.isLt
  unfold val_main_v11
  by_cases h : n.val < 6
  · rw [lay_first (by omega)]
    refine (pad_apply_of_inside _ _ _ _ _ _ _ _ (ValueIdx.ix3 l r (⟨n.val, h⟩ : Fin 6)) (fun a => ?_)).trans ?_
    · match a with
      | ⟨0, _⟩ => show l.val = 0 + l.val * (0 + 1); omega
      | ⟨1, _⟩ => show r.val = 0 + r.val * (0 + 1); omega
      | ⟨2, _⟩ => show n.val = 0 + n.val * (0 + 1); omega
    · exact (val_main_v3_apply (F := Ideal) w _).trans (at_row w _ l r _ rfl rfl rfl)
  · rw [lay_gap (by omega) (by omega)]
    refine (pad_apply_of_not_inside _ _ _ _ _ _ _ _ 2 (fun hh => h ?_)).trans ?_
    · have := hh.2.2
      have e : (n.val - 0) / (0 + 1) < 6 := this
      omega
    · show (((0#32 : BitVec 32).toInt : ℝ) : EReal) = 0
      simp

/-- The columns of the heads' values, each head filled up with zeros. -/
theorem values (n : Fin 512) : val_main_v14 (F := Ideal) w (ValueIdx.ix3 l r n) = heads (row w l r) 2182 n.val := by
  have hn := n.isLt
  have hl := l.isLt
  have hr := r.isLt
  rw [val_main_v14_apply]
  unfold val_main_v13 heads
  by_cases h : n.val % 128 < 96
  · rw [if_pos h]
    refine (pad_apply_of_inside _ _ _ _ _ _ _ _ (ValueIdx.ix4 l r (⟨n.val / 128, by omega⟩ : Fin 4) (⟨n.val % 128, h⟩ : Fin 96)) (fun a => ?_)).trans ?_
    · match a with
      | ⟨0, _⟩ => show ((l.val * 1024 + r.val) * 512 + n.val) / 524288 = 0 + l.val * (0 + 1); omega
      | ⟨1, _⟩ => show ((l.val * 1024 + r.val) * 512 + n.val) / 512 % 1024 = 0 + r.val * (0 + 1); omega
      | ⟨2, _⟩ => show ((l.val * 1024 + r.val) * 512 + n.val) / 128 % 4 = 0 + n.val / 128 * (0 + 1); omega
      | ⟨3, _⟩ => show ((l.val * 1024 + r.val) * 512 + n.val) % 128 = 0 + n.val % 128 * (0 + 1); omega
    · refine ((val_main_v12_apply (F := Ideal) w _).trans (val_main_v6_apply (F := Ideal) w _)).trans (at_row w _ l r _ ?_ ?_ ?_)
      · show (((l.val * 1024 + r.val) * 4 + n.val / 128) * 96 + n.val % 128) / 393216 = l.val; omega
      · show (((l.val * 1024 + r.val) * 4 + n.val / 128) * 96 + n.val % 128) / 384 % 1024 = r.val; omega
      · show 2182 + (((l.val * 1024 + r.val) * 4 + n.val / 128) * 96 + n.val % 128) % 384 = 2182 + (96 * (n.val / 128) + n.val % 128); omega
  · rw [if_neg h]
    refine (pad_apply_of_not_inside _ _ _ _ _ _ _ _ 3 (fun hh => h ?_)).trans ?_
    · have e : (((l.val * 1024 + r.val) * 512 + n.val) % 128 - 0) / (0 + 1) < 96 := hh.2.2
      omega
    · show (((0#32 : BitVec 32).toInt : ℝ) : EReal) = 0
      simp

/-- The columns of the heads' gates, each head filled up with zeros. -/
theorem gates (n : Fin 512) : val_main_v17 (F := Ideal) w (ValueIdx.ix3 l r n) = heads (row w l r) 2566 n.val := by
  have hn := n.isLt
  have hl := l.isLt
  have hr := r.isLt
  rw [val_main_v17_apply]
  unfold val_main_v16 heads
  by_cases h : n.val % 128 < 96
  · rw [if_pos h]
    refine (pad_apply_of_inside _ _ _ _ _ _ _ _ (ValueIdx.ix4 l r (⟨n.val / 128, by omega⟩ : Fin 4) (⟨n.val % 128, h⟩ : Fin 96)) (fun a => ?_)).trans ?_
    · match a with
      | ⟨0, _⟩ => show ((l.val * 1024 + r.val) * 512 + n.val) / 524288 = 0 + l.val * (0 + 1); omega
      | ⟨1, _⟩ => show ((l.val * 1024 + r.val) * 512 + n.val) / 512 % 1024 = 0 + r.val * (0 + 1); omega
      | ⟨2, _⟩ => show ((l.val * 1024 + r.val) * 512 + n.val) / 128 % 4 = 0 + n.val / 128 * (0 + 1); omega
      | ⟨3, _⟩ => show ((l.val * 1024 + r.val) * 512 + n.val) % 128 = 0 + n.val % 128 * (0 + 1); omega
    · refine ((val_main_v15_apply (F := Ideal) w _).trans (val_main_v7_apply (F := Ideal) w _)).trans (at_row w _ l r _ ?_ ?_ ?_)
      · show (((l.val * 1024 + r.val) * 4 + n.val / 128) * 96 + n.val % 128) / 393216 = l.val; omega
      · show (((l.val * 1024 + r.val) * 4 + n.val / 128) * 96 + n.val % 128) / 384 % 1024 = r.val; omega
      · show 2566 + (((l.val * 1024 + r.val) * 4 + n.val / 128) * 96 + n.val % 128) % 384 = 2566 + (96 * (n.val / 128) + n.val % 128); omega
  · rw [if_neg h]
    refine (pad_apply_of_not_inside _ _ _ _ _ _ _ _ 3 (fun hh => h ?_)).trans ?_
    · have e : (((l.val * 1024 + r.val) * 512 + n.val) % 128 - 0) / (0 + 1) < 96 := hh.2.2
      omega
    · show (((0#32 : BitVec 32).toInt : ℝ) : EReal) = 0
      simp

/-- Half the branch gates' columns. -/
theorem halves (n : Fin 3072) : val_main_v19 (F := Ideal) w (ValueIdx.ix3 l r n) = Ideal.ofBits .f32 0x3F000000#32 * row w l r (3462 + n.val) := by
  rw [val_main_v19_apply, val_main_v18_apply, val_main_cst_apply, val_main_v10_apply, at_row w _ l r (3462 + n.val) rfl rfl rfl]
  rfl

/-- Off the columns a place is that of the row. -/
theorem off {N : ℕ} (q : Fin N) (n : Fin 6912) (b : Fin 3) (hb : b ≠ (2 : Fin 3)) : (ValueIdx.ix3 l r q b).val = (ValueIdx.ix3 l r n b).val :=
  match b with
  | ⟨0, _⟩ => rfl
  | ⟨1, _⟩ => rfl
  | ⟨2, _⟩ => absurd rfl hb

/-- The columns side by side. -/
theorem joined (n : Fin 6912) : val_main_v20 (F := Ideal) w (ValueIdx.ix3 l r n) = lay (row w l r) n.val := by
  have hn := n.isLt
  unfold val_main_v20
  rcases (by omega : n.val < 384 ∨ (384 ≤ n.val ∧ n.val < 768) ∨ (768 ≤ n.val ∧ n.val < 1152) ∨ (1152 ≤ n.val ∧ n.val < 1280) ∨ (1280 ≤ n.val ∧ n.val < 1792)
    ∨ (1792 ≤ n.val ∧ n.val < 2304) ∨ (2304 ≤ n.val ∧ n.val < 2816) ∨ (2816 ≤ n.val ∧ n.val < 3328) ∨ (3328 ≤ n.val ∧ n.val < 3584)
    ∨ (3584 ≤ n.val ∧ n.val < 3840) ∨ 3840 ≤ n.val) with c | c | c | c | c | c | c | c | c | c | c
  · rw [lay_first (by omega)]
    refine (concatenate_apply_piece 2 _ _ (ValueIdx.ix3 l r n) 0 (by simp) S2x1024x384 _ rfl rfl 0 (by simp only [List.take_succ_cons, List.take_zero, List.map_cons, List.map_nil]; decide +kernel) (ValueIdx.ix3 l r ⟨n.val, c⟩) (off l r _ n) (Nat.zero_add _)).trans ?_
    exact (val_main_v0_apply (F := Ideal) w _).trans (at_row w _ l r _ rfl rfl rfl)
  · rw [lay_first (by omega)]
    refine (concatenate_apply_piece 2 _ _ (ValueIdx.ix3 l r n) 1 (by simp) S2x1024x384 _ rfl rfl 384 (by simp only [List.take_succ_cons, List.take_zero, List.map_cons, List.map_nil]; decide +kernel) (ValueIdx.ix3 l r ⟨n.val - 384, by omega⟩) (off l r _ n)
      (by show 384 + (n.val - 384) = n.val; omega)).trans ?_
    exact (val_main_v1_apply (F := Ideal) w _).trans (at_row w _ l r _ rfl rfl (by show 384 + (n.val - 384) = n.val; omega))
  · rw [lay_first (by omega)]
    refine (concatenate_apply_piece 2 _ _ (ValueIdx.ix3 l r n) 2 (by simp) S2x1024x384 _ rfl rfl 768 (by simp only [List.take_succ_cons, List.take_zero, List.map_cons, List.map_nil]; decide +kernel) (ValueIdx.ix3 l r ⟨n.val - 768, by omega⟩) (off l r _ n)
      (by show 768 + (n.val - 768) = n.val; omega)).trans ?_
    exact (val_main_v2_apply (F := Ideal) w _).trans (at_row w _ l r _ rfl rfl (by show 768 + (n.val - 768) = n.val; omega))
  · obtain ⟨j, hj⟩ : ∃ j, n.val = 1152 + j := ⟨n.val - 1152, by omega⟩
    rw [hj]
    exact (concatenate_apply_piece 2 _ _ (ValueIdx.ix3 l r n) 3 (by simp) S2x1024x128 _ rfl rfl 1152 (by simp only [List.take_succ_cons, List.take_zero, List.map_cons, List.map_nil]; decide +kernel) (ValueIdx.ix3 l r ⟨j, by omega⟩) (off l r _ n) hj.symm).trans
      (forget w l r _)
  · obtain ⟨j, hj⟩ : ∃ j, n.val = 1280 + j := ⟨n.val - 1280, by omega⟩
    rw [hj, lay_q (by omega)]
    refine (concatenate_apply_piece 2 _ _ (ValueIdx.ix3 l r n) 4 (by simp) S2x1024x512 _ rfl rfl 1280 (by simp only [List.take_succ_cons, List.take_zero, List.map_cons, List.map_nil]; decide +kernel) (ValueIdx.ix3 l r ⟨j, by omega⟩) (off l r _ n) hj.symm).trans ?_
    exact (val_main_v4_apply (F := Ideal) w _).trans (at_row w _ l r _ rfl rfl rfl)
  · obtain ⟨j, hj⟩ : ∃ j, n.val = 1792 + j := ⟨n.val - 1792, by omega⟩
    rw [hj, lay_i (by omega)]
    exact (concatenate_apply_piece 2 _ _ (ValueIdx.ix3 l r n) 5 (by simp) S2x1024x512 _ rfl rfl 1792 (by simp only [List.take_succ_cons, List.take_zero, List.map_cons, List.map_nil]; decide +kernel) (ValueIdx.ix3 l r ⟨j, by omega⟩) (off l r _ n) hj.symm).trans
      (values w l r _)
  · obtain ⟨j, hj⟩ : ∃ j, n.val = 2304 + j := ⟨n.val - 2304, by omega⟩
    rw [hj, lay_g (by omega)]
    exact (concatenate_apply_piece 2 _ _ (ValueIdx.ix3 l r n) 6 (by simp) S2x1024x512 _ rfl rfl 2304 (by simp only [List.take_succ_cons, List.take_zero, List.map_cons, List.map_nil]; decide +kernel) (ValueIdx.ix3 l r ⟨j, by omega⟩) (off l r _ n) hj.symm).trans
      (gates w l r _)
  · obtain ⟨j, hj⟩ : ∃ j, n.val = 2816 + j := ⟨n.val - 2816, by omega⟩
    rw [hj, lay_f (by omega)]
    refine (concatenate_apply_piece 2 _ _ (ValueIdx.ix3 l r n) 7 (by simp) S2x1024x512 _ rfl rfl 2816 (by simp only [List.take_succ_cons, List.take_zero, List.map_cons, List.map_nil]; decide +kernel) (ValueIdx.ix3 l r ⟨j, by omega⟩) (off l r _ n) hj.symm).trans ?_
    exact (val_main_v5_apply (F := Ideal) w _).trans (at_row w _ l r _ rfl rfl rfl)
  · obtain ⟨j, hj⟩ : ∃ j, n.val = 3328 + j := ⟨n.val - 3328, by omega⟩
    rw [hj, lay_c (by omega)]
    refine (concatenate_apply_piece 2 _ _ (ValueIdx.ix3 l r n) 8 (by simp) S2x1024x256 _ rfl rfl 3328 (by simp only [List.take_succ_cons, List.take_zero, List.map_cons, List.map_nil]; decide +kernel) (ValueIdx.ix3 l r ⟨j, by omega⟩) (off l r _ n) hj.symm).trans ?_
    exact (val_main_v8_apply (F := Ideal) w _).trans (at_row w _ l r _ rfl rfl rfl)
  · obtain ⟨j, hj⟩ : ∃ j, n.val = 3584 + j := ⟨n.val - 3584, by omega⟩
    rw [hj, show 3584 + j = 3328 + (256 + j) by omega, lay_c (by omega)]
    refine (concatenate_apply_piece 2 _ _ (ValueIdx.ix3 l r n) 9 (by simp) S2x1024x256 _ rfl rfl 3584 (by simp only [List.take_succ_cons, List.take_zero, List.map_cons, List.map_nil]; decide +kernel) (ValueIdx.ix3 l r ⟨j, by omega⟩) (off l r _ n) hj.symm).trans ?_
    exact (val_main_v9_apply (F := Ideal) w _).trans (at_row w _ l r _ rfl rfl (Nat.add_assoc 2950 256 j))
  · obtain ⟨j, hj⟩ : ∃ j, n.val = 3840 + j := ⟨n.val - 3840, by omega⟩
    rw [hj, lay_l]
    exact (concatenate_apply_piece 2 _ _ (ValueIdx.ix3 l r n) 10 (by simp) S2x1024x3072 _ rfl rfl 3840 (by simp only [List.take_succ_cons, List.take_zero, List.map_cons, List.map_nil]; decide +kernel) (ValueIdx.ix3 l r ⟨j, by omega⟩) (off l r _ n) hj.symm).trans
      (halves w l r _)

/-- The result of the reference, of equal arguments. -/
theorem res_of {w' : (⟨3, ![2, 1024, 6534]⟩ : Shape).Idx → EReal} (h : w = w') : val_main_v21 (F := Ideal) w = out w' := by
  subst h
  funext i
  obtain ⟨l, r, n, rfl⟩ : ∃ (l : Fin 2) (r : Fin 1024) (n : Fin 6912), i = ValueIdx.ix3 l r n := ⟨i 0, i 1, i 2, ValueIdx.eq_ix3 i⟩
  exact (val_main_v21_apply (F := Ideal) w _).trans (joined w l r n)

/-- The reference runs, keeps its argument, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (Value.run m ρ)

end Cert.PrepRefIdeal.Columns

end
-- ==== Proof.FoxPrep.Frame.lean ====
module

public import proofs.«01_k».proof.Proof.Gen.FoxPrep.Frame
-- ==== Proof.Rows.Gates.lean ====
module

public import proofs.«01_k».proof.Proof.Rows.Ops
public import proofs.«01_k».proof.Proof.Rows.Taps

@[expose] public section

noncomputable section

namespace Cert.Gates

open Idealize.ShloMosaic Idealize.ShloMosaic.ValueIdx Cert.Taps
open scoped BigOperators

/-- The logarithm of the logistic function. -/
def lsig (x : EReal) : EReal := min x 0 - Ideal.log1p (Ideal.exp (0 - max x (-x)))

theorem lsig_real (x : ℝ) : lsig (x : EReal) = ((min x 0 - Real.log (1 + Real.exp (0 - max x (-x))) : ℝ) : EReal) := by
  have h1 : (max (x : EReal) (-(x : EReal))) = ((max x (-x) : ℝ) : EReal) := by rw [← EReal.coe_neg]; exact (EReal.coe_strictMono.monotone.map_max).symm
  have h2 : min (x : EReal) 0 = ((min x 0 : ℝ) : EReal) := by rw [← EReal.coe_zero]; exact (EReal.coe_strictMono.monotone.map_min).symm
  unfold lsig
  rw [h1, h2, ← EReal.coe_zero, ← EReal.coe_sub]
  show _ - Ideal.log (1 + ((Real.exp (0 - max x (-x)) : ℝ) : EReal)) = _
  rw [← EReal.coe_one, ← EReal.coe_add]
  show _ - (if 1 + Real.exp (0 - max x (-x)) ≤ 0 then (⊥ : EReal) else ((Real.log (1 + Real.exp (0 - max x (-x))) : ℝ) : EReal)) = _
  rw [if_neg (by have := Real.exp_pos (0 - max x (-x)); linarith), ← EReal.coe_sub]

theorem lsig_fin {x : EReal} (h : Fin' x) : Fin' (lsig x) := by
  obtain ⟨a, rfl⟩ := h
  exact ⟨_, lsig_real a⟩

/-- The same as a negated soft maximum. -/
theorem lsig_soft {x : EReal} (h : Fin' x) : -(max (-x) 0 + Ideal.log1p (Ideal.exp (-(max (-x - 0) (-(-x - 0)))))) = lsig x := by
  obtain ⟨a, rfl⟩ := h
  have e : max (-(a : EReal) - 0) (-(-(a : EReal) - 0)) = max (a : EReal) (-(a : EReal)) := by
    rw [sub_zero, neg_neg, max_comm]
  rw [e]
  have h1 : (max (a : EReal) (-(a : EReal))) = ((max a (-a) : ℝ) : EReal) := by rw [← EReal.coe_neg]; exact (EReal.coe_strictMono.monotone.map_max).symm
  have h2 : max (-(a : EReal)) 0 = ((max (-a) 0 : ℝ) : EReal) := by rw [← EReal.coe_zero, ← EReal.coe_neg]; exact (EReal.coe_strictMono.monotone.map_max).symm
  rw [lsig_real, h1, h2, ← EReal.coe_neg]
  show -(_ + Ideal.log (1 + ((Real.exp (-max a (-a)) : ℝ) : EReal))) = _
  rw [← EReal.coe_one, ← EReal.coe_add]
  show -(_ + (if 1 + Real.exp (-max a (-a)) ≤ 0 then (⊥ : EReal) else ((Real.log (1 + Real.exp (-max a (-a))) : ℝ) : EReal))) = _
  rw [if_neg (by have := Real.exp_pos (-max a (-a)); linarith), ← EReal.coe_add, ← EReal.coe_neg]
  refine congrArg _ ?_
  rw [zero_sub]
  rcases le_total a 0 with h0 | h0
  · rw [min_eq_left h0, max_eq_left (by linarith)]; ring
  · rw [min_eq_right h0, max_eq_right (by linarith)]; ring

theorem fin_sum {ι : Type} (s : Finset ι) {f : ι → EReal} (h : ∀ i, Fin' (f i)) : Fin' (∑ i ∈ s, f i) := by
  classical
  induction s using Finset.induction_on with
  | empty => exact Fin'.zero
  | insert a s ha ih => rw [Finset.sum_insert ha]; exact (h a).add ih

theorem sub_self_fin {x : EReal} (h : Fin' x) : x - x = 0 := by
  obtain ⟨a, rfl⟩ := h
  rw [← EReal.coe_sub, _root_.sub_self, EReal.coe_zero]

/-- A number through its three parts: the first is the number, the others are nothing. -/
theorem part2 {x : EReal} (h : Fin' x) : x - x = 0 ∧ (x - x) - (x - x) = 0 := by
  rw [sub_self_fin h]; exact ⟨rfl, sub_zero _⟩

/-- A 64th part. -/
theorem part64 (x : EReal) : x * Ideal.ofBits .f32 0x3C800000#32 = Ideal.div x (Ideal.ofBits .f32 0x42800000#32) := by
  have e1 : Ideal.ofBits .f32 0x3C800000#32 = ((1 / 64 : ℝ) : EReal) := by
    simp [Ideal.ofBits, Ideal.ieee]
    rw [← EReal.coe_mul]; norm_num
  have e2 : Ideal.ofBits .f32 0x42800000#32 = ((64 : ℝ) : EReal) := by
    simp [Ideal.ofBits, Ideal.ieee]
    rw [← EReal.coe_mul]; norm_num
  rw [e1, e2]
  unfold Ideal.div
  rw [if_neg (by norm_num [EReal.coe_eq_zero]), ← EReal.coe_inv]
  norm_num

/-- An entry of a head divided by the head's root mean square, times a gain and a scale. -/
def nrm (x g : Fin 64 → EReal) (k : EReal) (d : Fin 64) : EReal :=
  x d * Ideal.rsqrt (Ideal.div (∑ e : Fin 64, x e * x e) (Ideal.ofBits .f32 0x42800000#32) + Ideal.ofBits .f32 0x358637BD#32) * (g d * k)

/-- A row of a head's queries: the normed entries, the sum of its token, two zeros, three ones, zeros. -/
def qLane (x : Fin 64 → EReal) (c : EReal) (l : ℕ) : EReal :=
  if h : l < 64 then x ⟨l, h⟩ else if l = 64 then c else if 67 ≤ l ∧ l < 70 then 1 else 0

/-- A row of a head's keys: the normed entries, three ones, the negated sum of its token, zeros. -/
def kLane (x : Fin 64 → EReal) (c : EReal) (l : ℕ) : EReal :=
  if h : l < 64 then x ⟨l, h⟩ else if l < 67 then 1 else if l = 67 then -c else 0

/-- A column of a head's values: the entries, a one, zeros. -/
def vLane (x : Fin 64 → EReal) (l : ℕ) : EReal := if h : l < 64 then x ⟨l, h⟩ else if l = 64 then 1 else 0

variable (qkv : (⟨3, ![16, 4096, 1152]⟩ : Shape).Idx → EReal) (ff : (⟨3, ![16, 4096, 128]⟩ : Shape).Idx → EReal)
  (fb : (⟨2, ![1, 128]⟩ : Shape).Idx → EReal) (gq gk : (⟨2, ![1, 384]⟩ : Shape).Idx → EReal)

/-- The entries of a head in the columns from `o` on. -/
def head (o : ℕ) (ho : o + 384 ≤ 1152) (b : Fin 16) (h : Fin 6) (t : Fin 4096) (d : Fin 64) : EReal :=
  qkv (ix3 b t ⟨o + 64 * h.val + d.val, by omega⟩)

/-- A head's gain. -/
def gain (g : (⟨2, ![1, 384]⟩ : Shape).Idx → EReal) (h : Fin 6) (d : Fin 64) : EReal := g (ix2 0 ⟨64 * h.val + d.val, by omega⟩)

/-- The log of a token's forget gate. -/
def logf (b : Fin 16) (h : Fin 128) (s : Fin 4096) : EReal := lsig (ff (ix3 b s h) + fb (ix2 0 h))

/-- The logs of the forget gates summed up to a token. -/
def cum (b : Fin 16) (h : Fin 128) (t : ℕ) : EReal := ∑ s : Fin 4096, if s.val ≤ t then logf ff fb b h s else 0

/-- The same for the logarithm to base two. -/
def cum2 (b : Fin 16) (h : Fin 6) (t : ℕ) : EReal := cum ff fb b ⟨h.val, by omega⟩ t * Ideal.ofBits .f32 0x3FB8AA3B#32

def qOut : (⟨4, ![16, 6, 4096, 128]⟩ : Shape).Idx → EReal := fun i =>
  qLane (nrm (head qkv 0 (by omega) (i 0) (i 1) (i 2)) (gain gq (i 1)) (Ideal.ofBits .f32 0x3E38AA3B#32)) (cum2 ff fb (i 0) (i 1) (i 2).val) (i 3).val

def kOut : (⟨4, ![16, 6, 4096, 128]⟩ : Shape).Idx → EReal := fun i =>
  kLane (nrm (head qkv 384 (by omega) (i 0) (i 1) (i 2)) (gain gk (i 1)) 1) (cum2 ff fb (i 0) (i 1) (i 2).val) (i 3).val

def vOut : (⟨4, ![16, 6, 80, 4096]⟩ : Shape).Idx → EReal := fun i => vLane (head qkv 768 (by omega) (i 0) (i 1) (i 3)) (i 2).val

/-- What makes the sums real: the logits and the bias of the six heads are. -/
def Gated : Prop := (∀ b s (h : Fin 128), h.val < 6 → Fin' (ff (ix3 b s h))) ∧ (∀ h : Fin 128, h.val < 6 → Fin' (fb (ix2 0 h)))

variable {ff fb}

theorem logf_fin (H : Gated ff fb) (b : Fin 16) (h : Fin 128) (hh : h.val < 6) (s : Fin 4096) : Fin' (logf ff fb b h s) :=
  lsig_fin ((H.1 b s h hh).add (H.2 h hh))

theorem cum_fin (H : Gated ff fb) (b : Fin 16) (h : Fin 128) (hh : h.val < 6) (t : ℕ) : Fin' (cum ff fb b h t) :=
  fin_sum _ fun s => by
    by_cases hs : s.val ≤ t
    · rw [if_pos hs]; exact logf_fin H b h hh s
    · rw [if_neg hs]; exact Fin'.zero

theorem base_fin : Fin' (Ideal.ofBits .f32 0x3FB8AA3B#32) := by
  refine ⟨?_, ?_⟩
  rotate_left
  · simp [Ideal.ofBits, Ideal.ieee]
    norm_cast

theorem cum2_fin (H : Gated ff fb) (b : Fin 16) (h : Fin 6) (t : ℕ) : Fin' (cum2 ff fb b h t) :=
  (cum_fin H b _ h.isLt t).mul base_fin

/-- A tile of tokens adds its own to the sum of the tokens before it. -/
theorem cum_tile (b : Fin 16) (h : Fin 128) (o : ℕ) (ho : o + 512 ≤ 4096) (p : Fin 512) (r : EReal)
    (hr : r = ∑ s : Fin 4096, if s.val < o then logf ff fb b h s else 0) :
    r + ∑ s : Fin 512, (if s.val ≤ p.val then logf ff fb b h ⟨o + s.val, by omega⟩ else 0) = cum ff fb b h (o + p.val) := by
  have e : cum ff fb b h (o + p.val) = ∑ s : Fin 4096, ((if s.val < o then logf ff fb b h s else 0) + if o ≤ s.val ∧ s.val ≤ o + p.val then logf ff fb b h s else 0) := by
    refine Finset.sum_congr rfl fun s _ => ?_
    by_cases h1 : s.val < o
    · rw [if_pos (by omega), if_pos h1, if_neg (by omega), add_zero]
    · rw [if_neg h1, zero_add]
      by_cases h2 : s.val ≤ o + p.val
      · rw [if_pos h2, if_pos ⟨by omega, h2⟩]
      · rw [if_neg h2, if_neg (by omega)]
  rw [e, Finset.sum_add_distrib, hr]
  refine congrArg _ ?_
  rw [← Finset.sum_filter, ← Finset.sum_filter]
  refine Finset.sum_nbij' (fun s : Fin 512 => (⟨o + s.val, by omega⟩ : Fin 4096)) (fun s : Fin 4096 => (⟨(s.val - o) % 512, Nat.mod_lt _ (by omega)⟩ : Fin 512)) ?_ ?_ ?_ ?_ ?_
  · intro s hs
    simp only [Finset.mem_filter, Finset.mem_univ, true_and] at hs ⊢
    omega
  · intro s hs
    simp only [Finset.mem_filter, Finset.mem_univ, true_and] at hs ⊢
    have := p.isLt
    omega
  · intro s hs
    apply Fin.ext
    show (o + s.val - o) % 512 = s.val
    omega
  · intro s hs
    simp only [Finset.mem_filter, Finset.mem_univ, true_and] at hs
    apply Fin.ext
    have := p.isLt
    show o + (s.val - o) % 512 = s.val
    omega
  · intro s _; rfl

/-- The sum of the tokens before a tile is the sum up to the last token before it. -/
theorem cum_before (b : Fin 16) (h : Fin 128) (o : ℕ) (ho : 0 < o) :
    cum ff fb b h (o - 1) = ∑ s : Fin 4096, if s.val < o then logf ff fb b h s else 0 := by
  refine Finset.sum_congr rfl fun s _ => ?_
  by_cases h1 : s.val < o
  · rw [if_pos h1, if_pos (by omega)]
  · rw [if_neg h1, if_neg (by omega)]

theorem before_none (b : Fin 16) (h : Fin 128) : (0 : EReal) = ∑ s : Fin 4096, if s.val < 0 then logf ff fb b h s else 0 :=
  (Finset.sum_eq_zero fun s _ => if_neg (Nat.not_lt_zero _)).symm

end Cert.Gates

end
-- ==== Proof.FoxPrepIdeal.Block.lean ====
module

public import proofs.«01_k».proof.Proof.Gen.FoxPrepIdeal.Frame
public import proofs.«01_k».proof.Proof.Rows.Gates
public import Idealize.ShloMosaic.Lib.KernelVsHost
public import Idealize.ShloMosaic.Lib.IdealHost
public import Idealize.ShloMosaic.Lib.Pointwise.ShapeOpsCore

@[expose] public section

set_option maxRecDepth 16384

noncomputable section

namespace Cert.FoxPrepIdeal.Gates

open Idealize.ShloMosaic Idealize.ShloMosaic.TcCoe
open Cert.FoxPrepIdeal Cert.FoxPrepIdeal.Gen Cert.Gates Cert.Taps
open scoped BigOperators

/-- The number of a lane. -/
def lane : IVec S512x128 32 := iota .tc S512x128 32 [1] iota_S512x128_d1_w32

/-- The lanes of a head's entries. -/
def low : IVec S512x128 1 := cmpi .slt lane (broadcast S512x128 64#32)

theorem lane_apply (p : Fin 512) (l : Fin 128) : lane (ValueIdx.ix2 p l) = BitVec.ofNat 32 l.val := by
  unfold lane
  rw [iota_apply]
  show BitVec.ofNat 32 (0 * 128 + l.val) = _
  rw [Nat.zero_mul, Nat.zero_add]

theorem pick {α : Type} (b : Bool) (x y : α) : Scalar.select (BitVec.ofBool b) x y = if b then x else y := by
  cases b <;> rfl

theorem lt_word : ∀ k l : Fin 128, IntOp.cmpi .slt (BitVec.ofNat 32 l.val) (BitVec.ofNat 32 k.val) = BitVec.ofBool (decide (l.val < k.val)) := by decide +kernel
theorem ge_word : ∀ k l : Fin 128, IntOp.cmpi .sge (BitVec.ofNat 32 l.val) (BitVec.ofNat 32 k.val) = BitVec.ofBool (decide (k.val ≤ l.val)) := by decide +kernel
theorem eq_word : ∀ k l : Fin 128, IntOp.cmpi .eq (BitVec.ofNat 32 l.val) (BitVec.ofNat 32 k.val) = BitVec.ofBool (decide (l.val = k.val)) := by decide +kernel

/-- A choice by a lane against a bound. -/
theorem sel_lt (k : ℕ) (hk : k < 128) (x y : FVec Ideal S512x128 .f32) (p : Fin 512) (l : Fin 128) :
    select (cmpi .slt lane (broadcast S512x128 (BitVec.ofNat 32 k))) x y (ValueIdx.ix2 p l) = if l.val < k then x (ValueIdx.ix2 p l) else y (ValueIdx.ix2 p l) := by
  show Scalar.select (IntOp.cmpi .slt (lane (ValueIdx.ix2 p l)) (BitVec.ofNat 32 k)) _ _ = _
  rw [lane_apply]
  rw [lt_word ⟨k, hk⟩ l, pick]
  simp

/-- A choice by a lane's number. -/
theorem sel_eq (k : ℕ) (hk : k < 128) (x y : FVec Ideal S512x128 .f32) (p : Fin 512) (l : Fin 128) :
    select (cmpi .eq lane (broadcast S512x128 (BitVec.ofNat 32 k))) x y (ValueIdx.ix2 p l) = if l.val = k then x (ValueIdx.ix2 p l) else y (ValueIdx.ix2 p l) := by
  show Scalar.select (IntOp.cmpi .eq (lane (ValueIdx.ix2 p l)) (BitVec.ofNat 32 k)) _ _ = _
  rw [lane_apply]
  rw [eq_word ⟨k, hk⟩ l, pick]
  simp

/-- A choice by a lane between two bounds. -/
theorem sel_in (j k : ℕ) (hj : j < 128) (hk : k < 128) (x y : FVec Ideal S512x128 .f32) (p : Fin 512) (l : Fin 128) :
    select (andi (cmpi .sge lane (broadcast S512x128 (BitVec.ofNat 32 j))) (cmpi .slt lane (broadcast S512x128 (BitVec.ofNat 32 k)))) x y (ValueIdx.ix2 p l)
      = if j ≤ l.val ∧ l.val < k then x (ValueIdx.ix2 p l) else y (ValueIdx.ix2 p l) := by
  show Scalar.select (IntOp.andi (IntOp.cmpi .sge (lane (ValueIdx.ix2 p l)) (BitVec.ofNat 32 j)) (IntOp.cmpi .slt (lane (ValueIdx.ix2 p l)) (BitVec.ofNat 32 k))) _ _ = _
  rw [lane_apply]
  have hb : ∀ a b : Bool, IntOp.andi (BitVec.ofBool a) (BitVec.ofBool b) = BitVec.ofBool (a && b) := by decide
  rw [lt_word ⟨k, hk⟩ l, ge_word ⟨j, hj⟩ l, hb, pick]
  simp

/-- A sum along the lanes. -/
theorem sum_row (v : FVec Ideal S512x128 .f32) (hr hφ hacc) (p : Fin 512) :
    multiReduction .add [1] S512 v 0x00000000#32 hr hφ hacc (ValueIdx.ix1 p) = ∑ k : Fin 128, (v (ValueIdx.ix2 p k) : EReal) := by
  refine (Ideal.multiReduction_add_single v _ hr hφ hacc (ValueIdx.ix1 p)).trans ?_
  refine Finset.sum_congr rfl fun k _ => congrArg v ?_
  funext a; apply Fin.ext
  match a with
  | ⟨0, _⟩ => rfl
  | ⟨1, _⟩ => rfl

/-- A sum over the lanes of two heads, the second left out. -/
theorem sum_low (f : Fin 128 → EReal) : (∑ k : Fin 128, if k.val < 64 then f k else 0) = ∑ e : Fin 64, f ⟨e.val, by omega⟩ := by
  refine (Fin.sum_univ_add (a := 64) (b := 64) (fun k : Fin (64 + 64) => if k.val < 64 then f k else 0)).trans ?_
  rw [Finset.sum_eq_zero (s := (Finset.univ : Finset (Fin 64))) (f := fun i => if (Fin.natAdd 64 i).val < 64 then f (Fin.natAdd 64 i) else 0)
    (fun i _ => if_neg (by show ¬64 + i.val < 64; omega)), add_zero]
  exact Finset.sum_congr rfl fun e _ => if_pos e.isLt

/-- The same, the first left out. -/
theorem sum_high (f : Fin 128 → EReal) : (∑ k : Fin 128, if k.val < 64 then 0 else f k) = ∑ e : Fin 64, f ⟨64 + e.val, by omega⟩ := by
  refine (Fin.sum_univ_add (a := 64) (b := 64) (fun k : Fin (64 + 64) => if k.val < 64 then 0 else f k)).trans ?_
  rw [Finset.sum_eq_zero (s := (Finset.univ : Finset (Fin 64))) (f := fun i => if (Fin.castAdd 64 i).val < 64 then 0 else f (Fin.castAdd 64 i))
    (fun i _ => if_pos i.isLt), zero_add]
  exact Finset.sum_congr rfl fun e _ => if_neg (by show ¬64 + e.val < 64; omega)

/-- The root mean square of a head's row, turned over, in each lane of a block. -/
def root (v : FVec Ideal S512x128 .f32) : FVec Ideal S512x128 .f32 :=
  broadcastTo S512x128 (shapeCast S512x1 (rsqrt (addf (mulf (shapeCast S512x1
    (multiReduction .add [1] S512 v 0x00000000#32 reduces_S512x128_S512 (.inl rfl) rfl) shapeCasts_S512_S512x1)
    (broadcast S512x1 (Scalar.ofBits .f32 0x3C800000#32))) (broadcast S512x1 (Scalar.ofBits .f32 0x358637BD#32)))) shapeCasts_S512x1_S512x1) broadcasts_S512x1_S512x128

theorem root_apply (v : FVec Ideal S512x128 .f32) (p : Fin 512) (l : Fin 128) :
    root v (ValueIdx.ix2 p l) = Ideal.rsqrt (Ideal.div (∑ k : Fin 128, v (ValueIdx.ix2 p k)) (Ideal.ofBits .f32 0x42800000#32) + Ideal.ofBits .f32 0x358637BD#32) := by
  unfold root
  rw [Rows.spread_col]
  refine (shapeCast_apply _ _ (ValueIdx.ix2 p (0 : Fin 1)) (ValueIdx.ix2 p (0 : Fin 1)) rfl).trans ?_
  rw [← part64]
  refine congrArg (fun s : EReal => Ideal.rsqrt (s * Ideal.ofBits .f32 0x3C800000#32 + Ideal.ofBits .f32 0x358637BD#32)) ?_
  exact (Rows.cast_col _ _ p).trans (sum_row v _ _ _ p)

/-- Two heads' entries, each normed. -/
def normed (b : FVec Ideal S512x128 .f32) (g : FVec Ideal S1x128 .f32) (k : Ideal .f32) : FVec Ideal S512x128 .f32 :=
  mulf (mulf b (select low (root (select low (mulf b b) (broadcast S512x128 (Scalar.ofBits .f32 0x00000000#32))))
      (root (select low (broadcast S512x128 (Scalar.ofBits .f32 0x00000000#32)) (mulf b b)))))
    (broadcastTo S512x128 (mulf g (broadcast S1x128 k)) broadcasts_S1x128_S512x128)

theorem normed_low (b : FVec Ideal S512x128 .f32) (g : FVec Ideal S1x128 .f32) (k : Ideal .f32) (p : Fin 512) (d : Fin 64) :
    normed b g k (ValueIdx.ix2 p ⟨d.val, by omega⟩) = nrm (fun e => b (ValueIdx.ix2 p ⟨e.val, by omega⟩)) (fun e => g (ValueIdx.ix2 0 ⟨e.val, by omega⟩)) k d := by
  show b _ * select low _ _ _ * broadcastTo S512x128 _ _ _ = _
  unfold low
  rw [ValueIdx.broadcastTo_1b_ab_apply, sel_lt 64 (by omega), if_pos d.isLt, root_apply]
  unfold nrm
  refine congrArg (fun s : EReal => b (ValueIdx.ix2 p ⟨d.val, by omega⟩) * Ideal.rsqrt (Ideal.div s (Ideal.ofBits .f32 0x42800000#32)
    + Ideal.ofBits .f32 0x358637BD#32) * (g (ValueIdx.ix2 0 ⟨d.val, by omega⟩) * k)) ?_
  refine Eq.trans ?_ (sum_low (fun k => b (ValueIdx.ix2 p k) * b (ValueIdx.ix2 p k)))
  refine Finset.sum_congr rfl fun k _ => ?_
  rw [sel_lt 64 (by omega)]
  refine congrArg (fun z : EReal => if k.val < 64 then b (ValueIdx.ix2 p k) * b (ValueIdx.ix2 p k) else z) ?_
  exact Ideal.ofBits_zero_f32

theorem normed_high (b : FVec Ideal S512x128 .f32) (g : FVec Ideal S1x128 .f32) (k : Ideal .f32) (p : Fin 512) (d : Fin 64) :
    normed b g k (ValueIdx.ix2 p ⟨64 + d.val, by omega⟩)
      = nrm (fun e => b (ValueIdx.ix2 p ⟨64 + e.val, by omega⟩)) (fun e => g (ValueIdx.ix2 0 ⟨64 + e.val, by omega⟩)) k d := by
  show b _ * select low _ _ _ * broadcastTo S512x128 _ _ _ = _
  unfold low
  rw [ValueIdx.broadcastTo_1b_ab_apply, sel_lt 64 (by omega), if_neg (by show ¬64 + d.val < 64; omega), root_apply]
  unfold nrm
  refine congrArg (fun s : EReal => b (ValueIdx.ix2 p ⟨64 + d.val, by omega⟩) * Ideal.rsqrt (Ideal.div s (Ideal.ofBits .f32 0x42800000#32)
    + Ideal.ofBits .f32 0x358637BD#32) * (g (ValueIdx.ix2 0 ⟨64 + d.val, by omega⟩) * k)) ?_
  refine Eq.trans ?_ (sum_high (fun k => b (ValueIdx.ix2 p k) * b (ValueIdx.ix2 p k)))
  refine Finset.sum_congr rfl fun k _ => ?_
  rw [sel_lt 64 (by omega)]
  refine congrArg (fun z : EReal => if k.val < 64 then z else b (ValueIdx.ix2 p k) * b (ValueIdx.ix2 p k)) ?_
  exact Ideal.ofBits_zero_f32

/-- The lanes of a block moved by a head. -/
def moved (b : FVec Ideal S512x128 .f32) : FVec Ideal S512x128 .f32 := dynamicRotate 1 64#32 none b rotates_S512x128_d1

theorem moved_apply (b : FVec Ideal S512x128 .f32) (p : Fin 512) (d : Fin 64) : moved b (ValueIdx.ix2 p ⟨d.val, by omega⟩) = b (ValueIdx.ix2 p ⟨64 + d.val, by omega⟩) := by
  unfold moved
  refine dynamicRotate_apply (1 : Fin 2) 64#32 b _ _ _ fun a => ?_
  match a with
  | ⟨0, _⟩ => rfl
  | ⟨1, _⟩ =>
    show 64 + d.val = (d.val + 128 - 64) % 128
    omega

/-- The column of a head's sums in each lane. -/
def spread (h : ℕ) (hs : S512x128.Slices ![0, h] S512x1) (c : FVec Ideal S512x128 .f32) : FVec Ideal S512x128 .f32 :=
  broadcastTo S512x128 (shapeCast S512x1 (extractStridedSlice S512x1 ![0, h] c hs) shapeCasts_S512x1_S512x1) broadcasts_S512x1_S512x128

theorem spread_apply (h : ℕ) (hh : h < 128) (hs) (c : FVec Ideal S512x128 .f32) (p : Fin 512) (l : Fin 128) :
    spread h hs c (ValueIdx.ix2 p l) = c (ValueIdx.ix2 p ⟨h, hh⟩) := by
  unfold spread
  rw [Rows.spread_col]
  refine (shapeCast_apply _ _ (ValueIdx.ix2 p (0 : Fin 1)) (ValueIdx.ix2 p (0 : Fin 1)) rfl).trans ?_
  exact ValueIdx.slice2_axis1_apply h c hs p (0 : Fin 1) ⟨h, hh⟩ rfl

/-- The three parts of a number. -/
def first (c : FVec Ideal S512x128 .f32) : FVec Ideal S512x128 .f32 := extf .f32 (truncf .bf16 c bitsLt_bf16_f32) bitsLt_bf16_f32
def second (c : FVec Ideal S512x128 .f32) : FVec Ideal S512x128 .f32 := extf .f32 (truncf .bf16 (subf c (first c)) bitsLt_bf16_f32) bitsLt_bf16_f32
def third (c : FVec Ideal S512x128 .f32) : FVec Ideal S512x128 .f32 :=
  extf .f32 (truncf .bf16 (subf (subf c (first c)) (second c)) bitsLt_bf16_f32) bitsLt_bf16_f32

theorem first_apply (c : FVec Ideal S512x128 .f32) (i) : first c i = c i := rfl
theorem second_apply (c : FVec Ideal S512x128 .f32) (i) (h : Fin' (c i)) : second c i = 0 := (part2 h).1
theorem third_apply (c : FVec Ideal S512x128 .f32) (i) (h : Fin' (c i)) : third c i = 0 := (part2 h).2

/-- A head's queries. -/
def qHead (b c : FVec Ideal S512x128 .f32) : FVec Ideal S1x1x512x128 .bf16 :=
  shapeCast S1x1x512x128 (truncf .bf16 (select low b (select (cmpi .eq lane (broadcast S512x128 66#32)) (third c)
    (select (cmpi .eq lane (broadcast S512x128 65#32)) (second c) (select (cmpi .eq lane (broadcast S512x128 64#32)) (first c)
      (select (andi (cmpi .sge lane (broadcast S512x128 67#32)) (cmpi .slt lane (broadcast S512x128 70#32)))
        (broadcast S512x128 (Scalar.ofBits .f32 0x3F800000#32)) (broadcast S512x128 (Scalar.ofBits .f32 0x00000000#32))))))) bitsLt_bf16_f32) shapeCasts_S512x128_S1x1x512x128

/-- A head's keys. -/
def kHead (b c : FVec Ideal S512x128 .f32) : FVec Ideal S1x1x512x128 .bf16 :=
  shapeCast S1x1x512x128 (truncf .bf16 (select low b (select (cmpi .eq lane (broadcast S512x128 69#32)) (subf (broadcast S512x128 (Scalar.ofBits .f32 0x00000000#32)) (third c))
    (select (cmpi .eq lane (broadcast S512x128 68#32)) (subf (broadcast S512x128 (Scalar.ofBits .f32 0x00000000#32)) (second c))
      (select (cmpi .eq lane (broadcast S512x128 67#32)) (subf (broadcast S512x128 (Scalar.ofBits .f32 0x00000000#32)) (first c))
      (select (andi (cmpi .sge lane (broadcast S512x128 64#32)) (cmpi .slt lane (broadcast S512x128 67#32)))
        (broadcast S512x128 (Scalar.ofBits .f32 0x3F800000#32)) (broadcast S512x128 (Scalar.ofBits .f32 0x00000000#32))))))) bitsLt_bf16_f32) shapeCasts_S512x128_S1x1x512x128

/-- A block set up with two leading coordinates. -/
theorem cast_block {α : Type} {a b : ℕ} (v : (⟨2, ![a, b]⟩ : Shape).Idx → α) (h : (⟨2, ![a, b]⟩ : Shape).ShapeCasts ⟨4, ![1, 1, a, b]⟩) (p : Fin a) (l : Fin b) :
    shapeCast ⟨4, ![1, 1, a, b]⟩ v h (ValueIdx.ix4 0 0 p l) = v (ValueIdx.ix2 p l) :=
  shapeCast_apply v h _ _ (by
    rw [Shape.rowMajor_val_two, Shape.rowMajor_val_four]
    show p.val * b + l.val = ((0 * 1 + 0) * a + p.val) * b + l.val
    simp)

theorem qHead_apply (b c : FVec Ideal S512x128 .f32) (p : Fin 512) (l : Fin 128) (h : Fin' (c (ValueIdx.ix2 p l))) :
    qHead b c (ValueIdx.ix4 0 0 p l) = qLane (fun d => b (ValueIdx.ix2 p ⟨d.val, by omega⟩)) (c (ValueIdx.ix2 p l)) l.val := by
  refine (cast_block _ shapeCasts_S512x128_S1x1x512x128 p l).trans ?_
  show select low b _ (ValueIdx.ix2 p l) = _
  unfold low qLane
  rw [sel_lt 64 (by omega), sel_eq 66 (by omega), sel_eq 65 (by omega), sel_eq 64 (by omega), sel_in 67 70 (by omega) (by omega), first_apply, second_apply _ _ h, third_apply _ _ h]
  show (if l.val < 64 then b (ValueIdx.ix2 p l) else if l.val = 66 then 0 else if l.val = 65 then 0 else if l.val = 64 then c (ValueIdx.ix2 p l)
    else if 67 ≤ l.val ∧ l.val < 70 then Ideal.ofBits .f32 0x3F800000#32 else Ideal.ofBits .f32 0x00000000#32) = _
  rw [Ideal.ofBits_one_f32, Ideal.ofBits_zero_f32]
  by_cases h1 : l.val < 64
  · rw [if_pos h1, dif_pos h1]
  · rw [if_neg h1, dif_neg h1]
    by_cases h2 : l.val = 66
    · rw [if_pos h2, if_neg (by omega), if_neg (by omega)]
    · rw [if_neg h2]
      by_cases h3 : l.val = 65
      · rw [if_pos h3, if_neg (by omega), if_neg (by omega)]
      · rw [if_neg h3]

theorem kHead_apply (b c : FVec Ideal S512x128 .f32) (p : Fin 512) (l : Fin 128) (h : Fin' (c (ValueIdx.ix2 p l))) :
    kHead b c (ValueIdx.ix4 0 0 p l) = kLane (fun d => b (ValueIdx.ix2 p ⟨d.val, by omega⟩)) (c (ValueIdx.ix2 p l)) l.val := by
  refine (cast_block _ shapeCasts_S512x128_S1x1x512x128 p l).trans ?_
  show select low b _ (ValueIdx.ix2 p l) = _
  unfold low kLane
  rw [sel_lt 64 (by omega), sel_eq 69 (by omega), sel_eq 68 (by omega), sel_eq 67 (by omega), sel_in 64 67 (by omega) (by omega)]
  show (if l.val < 64 then b (ValueIdx.ix2 p l) else if l.val = 69 then Ideal.ofBits .f32 0x00000000#32 - third c (ValueIdx.ix2 p l)
    else if l.val = 68 then Ideal.ofBits .f32 0x00000000#32 - second c (ValueIdx.ix2 p l) else if l.val = 67 then Ideal.ofBits .f32 0x00000000#32 - c (ValueIdx.ix2 p l)
    else if 64 ≤ l.val ∧ l.val < 67 then Ideal.ofBits .f32 0x3F800000#32 else Ideal.ofBits .f32 0x00000000#32) = _
  rw [second_apply _ _ h, third_apply _ _ h, Ideal.ofBits_one_f32, Ideal.ofBits_zero_f32, sub_zero, zero_sub]
  by_cases h1 : l.val < 64
  · rw [if_pos h1, dif_pos h1]
  · rw [if_neg h1, dif_neg h1]
    by_cases h2 : l.val = 69
    · rw [if_pos h2, if_neg (by omega), if_neg (by omega)]
    · rw [if_neg h2]
      by_cases h3 : l.val = 68
      · rw [if_pos h3, if_neg (by omega), if_neg (by omega)]
      · rw [if_neg h3]
        by_cases h4 : l.val = 67
        · rw [if_pos h4, if_neg (by omega), if_pos h4]
        · rw [if_neg h4]
          by_cases h5 : l.val < 67
          · rw [if_pos ⟨by omega, h5⟩, if_pos h5]
          · rw [if_neg (fun z => h5 z.2), if_neg h5, if_neg h4]

end Cert.FoxPrepIdeal.Gates

end
-- ==== Proof.FoxPrepIdeal.Sums.lean ====
module

public import proofs.«01_k».proof.Proof.FoxPrepIdeal.Block

@[expose] public section

set_option maxRecDepth 16384

noncomputable section

namespace Cert.FoxPrepIdeal.Gates

open Idealize.ShloMosaic Idealize.ShloMosaic.TcCoe
open Cert.FoxPrepIdeal Cert.FoxPrepIdeal.Gen Cert.Gates Cert.Taps
open scoped BigOperators

variable (x1 : Vec Ideal S1x512x128 .f32) (x2 : Vec Ideal S1x128 .f32)

/-- The log of a token's forget gate in a block. -/
def logB (h : Fin 128) (s : Fin 512) : EReal := lsig (x1 (ValueIdx.ix3 0 s h) + x2 (ValueIdx.ix2 0 h))

/-- The same as the kernel's vector. -/
def logV : FVec Ideal S512x128 .f32 :=
  subf (minimumf (addf (shapeCast S512x128 x1 shapeCasts_S1x512x128_S512x128 : FVec Ideal S512x128 .f32) (broadcastTo S512x128 x2 broadcasts_S1x128_S512x128)) (broadcast S512x128 (Scalar.ofBits .f32 0x00000000#32)))
    (log1p (exp (subf (broadcast S512x128 (Scalar.ofBits .f32 0x00000000#32))
      (absf (addf (shapeCast S512x128 x1 shapeCasts_S1x512x128_S512x128 : FVec Ideal S512x128 .f32) (broadcastTo S512x128 x2 broadcasts_S1x128_S512x128))))))

theorem logV_apply (s : Fin 512) (h : Fin 128) : logV x1 x2 (ValueIdx.ix2 s h) = logB x1 x2 h s := by
  have e : (addf (shapeCast S512x128 x1 shapeCasts_S1x512x128_S512x128 : FVec Ideal S512x128 .f32) (broadcastTo S512x128 x2 broadcasts_S1x128_S512x128)) (ValueIdx.ix2 s h)
      = x1 (ValueIdx.ix3 0 s h) + x2 (ValueIdx.ix2 0 h) := by
    show shapeCast S512x128 x1 _ (ValueIdx.ix2 s h) + broadcastTo S512x128 x2 _ (ValueIdx.ix2 s h) = _
    rw [ValueIdx.shapeCast_1ab_ab_apply, ValueIdx.broadcastTo_1b_ab_apply]
  unfold logV logB lsig
  rw [← e, ← Ideal.ofBits_zero_f32]
  rfl

/-- The three parts of the logs side by side. -/
theorem parts_apply (v : FVec Ideal S512x128 .f32) (hc) (s : Fin 512) (h : Fin 128) (hf : Fin' (v (ValueIdx.ix2 s h))) (j : ℕ) (k : Fin 384) (hk : k.val = 128 * j + h.val) :
    concatenate S512x384 1 [⟨S512x128, (truncf .bf16 v bitsLt_bf16_f32 : FVec Ideal S512x128 .bf16)⟩,
      ⟨S512x128, (truncf .bf16 (subf v (first v)) bitsLt_bf16_f32 : FVec Ideal S512x128 .bf16)⟩,
      ⟨S512x128, (truncf .bf16 (subf (subf v (first v)) (second v)) bitsLt_bf16_f32 : FVec Ideal S512x128 .bf16)⟩] hc (ValueIdx.ix2 s k)
      = if j = 0 then v (ValueIdx.ix2 s h) else 0 := by
  have off : ∀ (r : Fin 128) (b : Fin 2), b ≠ (1 : Fin 2) → (ValueIdx.ix2 s r b).val = (ValueIdx.ix2 s k b).val := fun r b hb =>
    match b with
    | ⟨0, _⟩ => rfl
    | ⟨1, _⟩ => absurd rfl hb
  have hlt := k.isLt
  have hh := h.isLt
  rcases (by omega : j = 0 ∨ j = 1 ∨ j = 2) with rfl | rfl | rfl
  · rw [if_pos rfl]
    exact concatenate_apply_piece 1 _ hc (ValueIdx.ix2 s k) 0 (by simp) S512x128 _ rfl rfl 0 rfl (ValueIdx.ix2 s h) (off _) (by show 0 + h.val = k.val; omega)
  · rw [if_neg (by omega)]
    exact (concatenate_apply_piece 1 _ hc (ValueIdx.ix2 s k) 1 (by simp) S512x128 _ rfl rfl 128 rfl (ValueIdx.ix2 s h) (off _) (by show 128 + h.val = k.val; omega)).trans (part2 hf).1
  · rw [if_neg (by omega)]
    exact (concatenate_apply_piece 1 _ hc (ValueIdx.ix2 s k) 2 (by simp) S512x128 _ rfl rfl 256 rfl (ValueIdx.ix2 s h) (off _) (by show 256 + h.val = k.val; omega)).trans (part2 hf).2

/-- The three parts' sums side by side. -/
def mixed (x5 : Vec Ideal S512x512 .bf16) : FVec Ideal S512x384 .f32 :=
  matmul (F := Ideal) dot_S512x512_S512x384_S512x384_1_0_0_1_n_n none
      (shapeCast S512x512 x5 shapeCasts_S512x512_S512x512 : FVec Ideal S512x512 .bf16)
      (concatenate S512x384 1 [⟨S512x128, (truncf .bf16 (logV x1 x2) bitsLt_bf16_f32 : FVec Ideal S512x128 .bf16)⟩,
        ⟨S512x128, (truncf .bf16 (subf (logV x1 x2) (first (logV x1 x2))) bitsLt_bf16_f32 : FVec Ideal S512x128 .bf16)⟩,
        ⟨S512x128, (truncf .bf16 (subf (subf (logV x1 x2) (first (logV x1 x2))) (second (logV x1 x2))) bitsLt_bf16_f32 : FVec Ideal S512x128 .bf16)⟩]
        concatenates_S512x128_S512x128_S512x128_S512x384_d1 : FVec Ideal S512x384 .bf16)
      (constant S512x384 .f32 0x00000000#32)

/-- The sums of a block: what was carried, and the block's own up to a token. -/
theorem sums_apply (x5 : Vec Ideal S512x512 .bf16) (xs : Vec Ideal S1x128 .f32)
    (ht : ∀ p s : Fin 512, x5 (ValueIdx.ix2 p s) = if s.val ≤ p.val then 1 else 0) (p : Fin 512) (h : Fin 128) (hf : ∀ s, Fin' (logB x1 x2 h s)) :
    k0_pay4 x1 x2 x5 xs (ValueIdx.ix2 p h) = xs (ValueIdx.ix2 0 h) + ∑ s : Fin 512, if s.val ≤ p.val then logB x1 x2 h s else 0 := by
  have hh := h.isLt
  have key : ∀ (j : ℕ) (k : Fin 384), k.val = 128 * j + h.val → mixed x1 x2 x5 (ValueIdx.ix2 p k) = ∑ s : Fin 512, if s.val ≤ p.val then (if j = 0 then logB x1 x2 h s else 0) else 0 := by
    intro j k hk
    unfold mixed
    refine (Rows.dot_apply _ _ p k).trans (Finset.sum_congr rfl fun s _ => ?_)
    rw [parts_apply (logV x1 x2) _ s h (by rw [logV_apply]; exact hf s) j k hk, logV_apply,
      shapeCast_apply x5 shapeCasts_S512x512_S512x512 (ValueIdx.ix2 p s) (ValueIdx.ix2 p s) rfl, ht]
    by_cases hs : s.val ≤ p.val
    · rw [if_pos hs, if_pos hs, one_mul]
    · rw [if_neg hs, if_neg hs, zero_mul]
  have none : (∑ s : Fin 512, if s.val ≤ p.val then (0 : EReal) else 0) = 0 := Finset.sum_eq_zero fun s _ => by split <;> rfl
  have e : ∀ (j : ℕ) (hs : S512x384.Slices ![0, 128 * j] S512x128) (k : Fin 384), k.val = 128 * j + h.val →
      extractStridedSlice S512x128 ![0, 128 * j] (mixed x1 x2 x5) hs (ValueIdx.ix2 p h) = ∑ s : Fin 512, if s.val ≤ p.val then (if j = 0 then logB x1 x2 h s else 0) else 0 :=
    fun j hs k hk => (ValueIdx.slice2_axis1_apply (128 * j) _ hs p h k hk).trans (key j k hk)
  have eb : broadcastTo S512x128 xs broadcasts_S1x128_S512x128 (ValueIdx.ix2 p h) = xs (ValueIdx.ix2 0 h) := ValueIdx.broadcastTo_1b_ab_apply _ _ _ _
  refine (congrArg₂ (fun a b : EReal => a + b) (congrArg₂ (fun a b : EReal => a + b) (congrArg₂ (fun a b : EReal => a + b) (e 0 slices_S512x384_o0_0_S512x128 ⟨h.val, by omega⟩ (by show h.val = 128 * 0 + h.val; omega)) eb)
    (e 1 slices_S512x384_o0_128_S512x128 ⟨128 + h.val, by omega⟩ (by show 128 + h.val = 128 * 1 + h.val; omega))) (e 2 slices_S512x384_o0_256_S512x128 ⟨256 + h.val, by omega⟩ (by show 256 + h.val = 128 * 2 + h.val; omega))).trans ?_
  simp only [if_pos rfl, if_neg (show ¬(1 : ℕ) = 0 by decide), if_neg (show ¬(2 : ℕ) = 0 by decide), none, add_zero]
  exact add_comm _ _

/-- What is carried on is the sum up to the block's last token. -/
theorem carry_apply (x5 : Vec Ideal S512x512 .bf16) (xs : Vec Ideal S1x128 .f32) (h : Fin 128) :
    k0_pay6 (k0_pay5 x1 x2 x5 xs) (ValueIdx.ix2 0 h) = k0_pay4 x1 x2 x5 xs (ValueIdx.ix2 (511 : Fin 512) h) := by
  unfold k0_pay6 k0_pay5
  refine (shapeCast_apply _ _ (ValueIdx.ix2 0 h) (ValueIdx.ix2 0 h) rfl).trans ?_
  exact ValueIdx.slice2_axis0_apply 511 _ _ (0 : Fin 1) h (511 : Fin 512) rfl

end Cert.FoxPrepIdeal.Gates

end
-- ==== Proof.FoxPrepIdeal.Stores.lean ====
module

public import proofs.«01_k».proof.Proof.FoxPrepIdeal.Sums
public import proofs.«01_k».proof.Proof.Fox.Reads

@[expose] public section

set_option maxRecDepth 16384

noncomputable section

namespace Cert.FoxPrepIdeal.Gates

open Idealize.ShloMosaic Idealize.ShloMosaic.TcCoe
open Cert.FoxPrepIdeal Cert.FoxPrepIdeal.Gen Cert.Gates Cert.Taps
open scoped BigOperators

variable (x0 : Vec Ideal S1x512x1152 .bf16) (x3 : Vec Ideal S1x384 .f32) (C : FVec Ideal S512x128 .f32)
  (arg2 : Memref sig .tc .vmem S1x512x1152 .bf16) (harg2 : arg2.IsWhole) (arg5 : Memref sig .tc .vmem S1x384 .f32) (harg5 : arg5.IsWhole)

/-- The entries of a head in a block's columns from `b` on. -/
def headB (b : ℕ) (hb : b + 384 ≤ 1152) (h : Fin 6) (p : Fin 512) (e : Fin 64) : EReal := x0 (ValueIdx.ix3 0 p ⟨b + 64 * h.val + e.val, by omega⟩)

/-- A token's sum for the logarithm to base two. -/
def sumB (h : Fin 6) (p : Fin 512) : EReal := C (ValueIdx.ix2 p ⟨h.val, by omega⟩) * Ideal.ofBits .f32 0x3FB8AA3B#32

def qB : S1x6x512x128.Idx → EReal := fun y =>
  qLane (nrm (headB x0 0 (by omega) (y 1) (y 2)) (gain x3 (y 1)) (Ideal.ofBits .f32 0x3E38AA3B#32)) (sumB C (y 1) (y 2)) (y 3).val

def kB : S1x6x512x128.Idx → EReal := fun y =>
  kLane (nrm (headB x0 384 (by omega) (y 1) (y 2)) (gain x3 (y 1)) 1) (sumB C (y 1) (y 2)) (y 3).val

def vB : S1x6x80x512.Idx → EReal := fun y => vLane (headB x0 768 (by omega) (y 1) (y 3)) (y 2).val

/-- A load of a block's columns. -/
theorem load_cols (o : ℕ) (inb) (p : Fin 512) (l : Fin 128) (k : Fin 1152) (hk : k.val = o + l.val) :
    k0_pay8 (View.readAt (Elt Ideal) arg2.view (Rect.unit (s := S1x512x1152) ![0, 0, o] S1x512x128.size inb).toLoadRect (harg2.unread x0)) (ValueIdx.ix2 p l)
      = x0 (ValueIdx.ix3 0 p k) := by
  unfold k0_pay8
  refine Eq.trans (b := shapeCast S512x128 (View.readAt (Elt Ideal) arg2.view (Rect.unit (s := S1x512x1152) ![0, 0, o] S1x512x128.size inb).toLoadRect (harg2.unread x0)) shapeCasts_S1x512x128_S512x128 (ValueIdx.ix2 p l)) rfl ?_
  refine (ValueIdx.shapeCast_1ab_ab_apply _ _ p l).trans ?_
  refine (Fox.readAt_unit_apply _ _ inb (ValueIdx.ix3 0 p l) (ValueIdx.ix3 0 p k) (Fox.pos3 (Nat.zero_add _).symm (Nat.zero_add _).symm hk)).trans ?_
  exact congrFun (harg2.read_unread x0) _

/-- A load of the gains' columns. -/
theorem load_gain (o : ℕ) (inb) (l : Fin 128) (k : Fin 384) (hk : k.val = o + l.val) :
    View.readAt (Elt Ideal) arg5.view (Rect.unit (s := S1x384) ![0, o] S1x128.size inb).toLoadRect (harg5.unread x3) (ValueIdx.ix2 0 l) = x3 (ValueIdx.ix2 0 k) := by
  refine (Fox.readAt_unit_apply _ _ inb (ValueIdx.ix2 0 l) (ValueIdx.ix2 0 k) (fun a => ?_)).trans (congrFun (harg5.read_unread x3) _)
  match a with
  | ⟨0, _⟩ => rfl
  | ⟨1, _⟩ => exact hk

/-- The normed entries of two heads, from a block's loads. -/
def pair (k : Ideal .f32) (o : ℕ) (inb : ∀ a, (![0, 0, o] : Fin 3 → ℕ) a + S1x512x128.size a ≤ S1x512x1152.size a) (g : ℕ)
    (ing : ∀ a, (![0, g] : Fin 2 → ℕ) a + S1x128.size a ≤ S1x384.size a) : FVec Ideal S512x128 .f32 :=
  normed (k0_pay8 (View.readAt (Elt Ideal) arg2.view (Rect.unit (s := S1x512x1152) ![0, 0, o] S1x512x128.size inb).toLoadRect (harg2.unread x0)))
    (View.readAt (Elt Ideal) arg5.view (Rect.unit (s := S1x384) ![0, g] S1x128.size ing).toLoadRect (harg5.unread x3)) k

theorem pair_low (k : Ideal .f32) (b : ℕ) (hb : b + 384 ≤ 1152) (h : Fin 6) (o : ℕ) (inb) (g : ℕ) (ing) (ho : o = b + 64 * h.val) (hg : g = 64 * h.val) (p : Fin 512) :
    (fun d : Fin 64 => pair x0 x3 arg2 harg2 arg5 harg5 k o inb g ing (ValueIdx.ix2 p ⟨d.val, by omega⟩)) = nrm (headB x0 b hb h p) (gain x3 h) k := by
  funext d
  refine (normed_low _ _ _ p d).trans ?_
  refine congrFun (congrArg₂ (fun a c => nrm a c k) (funext fun e => ?_) (funext fun e => ?_)) d
  · exact load_cols x0 arg2 harg2 o inb p _ _ (by show b + 64 * h.val + e.val = o + e.val; omega)
  · exact load_gain x3 arg5 harg5 g ing _ _ (by show 64 * h.val + e.val = g + e.val; omega)

theorem pair_high (k : Ideal .f32) (b : ℕ) (hb : b + 384 ≤ 1152) (h : Fin 6) (o : ℕ) (inb) (g : ℕ) (ing) (ho : o + 64 = b + 64 * h.val) (hg : g + 64 = 64 * h.val) (p : Fin 512) :
    (fun d : Fin 64 => moved (pair x0 x3 arg2 harg2 arg5 harg5 k o inb g ing) (ValueIdx.ix2 p ⟨d.val, by omega⟩)) = nrm (headB x0 b hb h p) (gain x3 h) k := by
  funext d
  refine (moved_apply _ p d).trans ((normed_high _ _ _ p d).trans ?_)
  refine congrFun (congrArg₂ (fun a c => nrm a c k) (funext fun e => ?_) (funext fun e => ?_)) d
  · exact load_cols x0 arg2 harg2 o inb p _ _ (by show b + 64 * h.val + e.val = o + (64 + e.val); omega)
  · exact load_gain x3 arg5 harg5 g ing _ _ (by show 64 * h.val + e.val = g + (64 + e.val); omega)

/-- A head's sums are real. -/
def Real6 : Prop := ∀ (h : Fin 6) (p : Fin 512), Fin' (sumB C h p)

variable {C}

theorem spread_sum (h : Fin 6) (o : ℕ) (ho : o = h.val) (hs) (p : Fin 512) (l : Fin 128) : spread o hs (k0_pay24 C) (ValueIdx.ix2 p l) = sumB C h p := by
  subst ho
  refine (spread_apply h.val (by omega) hs _ p l).trans ?_
  rfl

theorem q_store (HC : Real6 C) (h : Fin 6) (o : ℕ) (ho : o = h.val) (hs) (v : FVec Ideal S512x128 .f32)
    (hv : ∀ p, (fun d : Fin 64 => v (ValueIdx.ix2 p ⟨d.val, by omega⟩)) = nrm (headB x0 0 (by omega) h p) (gain x3 h) (Ideal.ofBits .f32 0x3E38AA3B#32))
    (inb : ∀ a, (![0, o, 0, 0] : Fin 4 → ℕ) a + (![1, 1, 512, 128] : Fin 4 → ℕ) a ≤ S1x6x512x128.size a) (x : S1x1x512x128.Idx) :
    qHead v (spread o hs (k0_pay24 C)) x = qB x0 x3 C ((Rect.unit (s := S1x6x512x128) ![0, o, 0, 0] ![1, 1, 512, 128] inb).emb x) := by
  obtain ⟨z, w, p, l, rfl⟩ : ∃ (z w : Fin 1) (p : Fin 512) (l : Fin 128), x = ValueIdx.ix4 z w p l := ⟨x 0, x 1, x 2, x 3, ValueIdx.eq_ix4 x⟩
  obtain rfl : z = 0 := Subsingleton.elim _ _
  obtain rfl : w = 0 := Subsingleton.elim _ _
  have hsp := spread_sum (C := C) h o ho hs p l
  refine (qHead_apply v _ p l (by rw [hsp]; exact HC h p)).trans ?_
  rw [hsp, hv p]
  have e1 : (Rect.unit (s := S1x6x512x128) ![0, o, 0, 0] ![1, 1, 512, 128] inb).emb (ValueIdx.ix4 0 0 p l) 1 = h := Fin.ext (by show o + 1 * 0 = h.val; omega)
  have e2 : (Rect.unit (s := S1x6x512x128) ![0, o, 0, 0] ![1, 1, 512, 128] inb).emb (ValueIdx.ix4 0 0 p l) 2 = p := Fin.ext (by show 0 + 1 * p.val = p.val; omega)
  have e3 : ((Rect.unit (s := S1x6x512x128) ![0, o, 0, 0] ![1, 1, 512, 128] inb).emb (ValueIdx.ix4 0 0 p l) 3).val = l.val := by show 0 + 1 * l.val = l.val; omega
  unfold qB
  rw [e1, e2, e3]

theorem k_store (HC : Real6 C) (h : Fin 6) (o : ℕ) (ho : o = h.val) (hs) (v : FVec Ideal S512x128 .f32)
    (hv : ∀ p, (fun d : Fin 64 => v (ValueIdx.ix2 p ⟨d.val, by omega⟩)) = nrm (headB x0 384 (by omega) h p) (gain x3 h) (Ideal.ofBits .f32 0x3F800000#32))
    (inb : ∀ a, (![0, o, 0, 0] : Fin 4 → ℕ) a + (![1, 1, 512, 128] : Fin 4 → ℕ) a ≤ S1x6x512x128.size a) (x : S1x1x512x128.Idx) :
    kHead v (spread o hs (k0_pay24 C)) x = kB x0 x3 C ((Rect.unit (s := S1x6x512x128) ![0, o, 0, 0] ![1, 1, 512, 128] inb).emb x) := by
  obtain ⟨z, w, p, l, rfl⟩ : ∃ (z w : Fin 1) (p : Fin 512) (l : Fin 128), x = ValueIdx.ix4 z w p l := ⟨x 0, x 1, x 2, x 3, ValueIdx.eq_ix4 x⟩
  obtain rfl : z = 0 := Subsingleton.elim _ _
  obtain rfl : w = 0 := Subsingleton.elim _ _
  have hsp := spread_sum (C := C) h o ho hs p l
  refine (kHead_apply v _ p l (by rw [hsp]; exact HC h p)).trans ?_
  rw [hsp, hv p, Ideal.ofBits_one_f32]
  have e1 : (Rect.unit (s := S1x6x512x128) ![0, o, 0, 0] ![1, 1, 512, 128] inb).emb (ValueIdx.ix4 0 0 p l) 1 = h := Fin.ext (by show o + 1 * 0 = h.val; omega)
  have e2 : (Rect.unit (s := S1x6x512x128) ![0, o, 0, 0] ![1, 1, 512, 128] inb).emb (ValueIdx.ix4 0 0 p l) 2 = p := Fin.ext (by show 0 + 1 * p.val = p.val; omega)
  have e3 : ((Rect.unit (s := S1x6x512x128) ![0, o, 0, 0] ![1, 1, 512, 128] inb).emb (ValueIdx.ix4 0 0 p l) 3).val = l.val := by show 0 + 1 * l.val = l.val; omega
  unfold kB
  rw [e1, e2, e3]

/-- The values' columns, turned over. -/
theorem turned (inb) (n : Fin 384) (p : Fin 512) :
    k0_pay95 (View.readAt (Elt Ideal) arg2.view (Rect.unit (s := S1x512x1152) ![0, 0, 768] S1x512x384.size inb).toLoadRect (harg2.unread x0)) (ValueIdx.ix2 n p)
      = x0 (ValueIdx.ix3 0 p ⟨768 + n.val, by omega⟩) := by
  unfold k0_pay95
  refine (ValueIdx.transpose_ix2_apply _ _ n p).trans ?_
  refine Eq.trans (b := shapeCast S512x384 (View.readAt (Elt Ideal) arg2.view (Rect.unit (s := S1x512x1152) ![0, 0, 768] S1x512x384.size inb).toLoadRect (harg2.unread x0)) shapeCasts_S1x512x384_S512x384 (ValueIdx.ix2 p n)) rfl ?_
  refine (ValueIdx.shapeCast_1ab_ab_apply _ _ p n).trans ?_
  refine (Fox.readAt_unit_apply _ _ inb (ValueIdx.ix3 0 p n) (ValueIdx.ix3 0 p ⟨768 + n.val, by omega⟩) (Fox.pos3 (Nat.zero_add _).symm (Nat.zero_add _).symm rfl)).trans ?_
  exact congrFun (harg2.read_unread x0) _

theorem v_store (v : FVec Ideal S384x512 .f32) (hv : ∀ (n : Fin 384) (p : Fin 512), v (ValueIdx.ix2 n p) = x0 (ValueIdx.ix3 0 p ⟨768 + n.val, by omega⟩))
    (h : Fin 6) (o r : ℕ) (ho : o = h.val) (hr : r = 64 * h.val) (hs) (hc)
    (inb : ∀ a, (![0, o, 0, 0] : Fin 4 → ℕ) a + (![1, 1, 64, 512] : Fin 4 → ℕ) a ≤ S1x6x80x512.size a) (x : S1x1x64x512.Idx) :
    (shapeCast S1x1x64x512 (truncf .bf16 (extractStridedSlice S64x512 ![r, 0] v hs) bitsLt_bf16_f32 : FVec Ideal S64x512 .bf16) hc : FVec Ideal S1x1x64x512 .bf16) x
      = vB x0 ((Rect.unit (s := S1x6x80x512) ![0, o, 0, 0] ![1, 1, 64, 512] inb).emb x) := by
  obtain ⟨z, w, d, p, rfl⟩ : ∃ (z w : Fin 1) (d : Fin 64) (p : Fin 512), x = ValueIdx.ix4 z w d p := ⟨x 0, x 1, x 2, x 3, ValueIdx.eq_ix4 x⟩
  obtain rfl : z = 0 := Subsingleton.elim _ _
  obtain rfl : w = 0 := Subsingleton.elim _ _
  refine (cast_block _ hc d p).trans ?_
  refine (ValueIdx.slice2_axis0_apply r v hs d p ⟨r + d.val, by omega⟩ rfl).trans ((hv _ p).trans ?_)
  have e1 : (Rect.unit (s := S1x6x80x512) ![0, o, 0, 0] ![1, 1, 64, 512] inb).emb (ValueIdx.ix4 0 0 d p) 1 = h := Fin.ext (by show o + 1 * 0 = h.val; omega)
  have e2 : ((Rect.unit (s := S1x6x80x512) ![0, o, 0, 0] ![1, 1, 64, 512] inb).emb (ValueIdx.ix4 0 0 d p) 2).val = d.val := by show 0 + 1 * d.val = d.val; omega
  have e3 : (Rect.unit (s := S1x6x80x512) ![0, o, 0, 0] ![1, 1, 64, 512] inb).emb (ValueIdx.ix4 0 0 d p) 3 = p := Fin.ext (by show 0 + 1 * p.val = p.val; omega)
  unfold vB
  rw [e1, e2, e3]
  unfold vLane headB
  rw [dif_pos d.isLt]
  exact congrArg (fun k => x0 (ValueIdx.ix3 0 p k)) (Fin.ext (by show 768 + (r + d.val) = 768 + 64 * h.val + d.val; omega))

/-- The rows under the values: a one, then zeros. -/
theorem under_apply (d : Fin 16) (p : Fin 512) : (k0_pay96 : FVec Ideal S16x512 .bf16) (ValueIdx.ix2 d p) = if d.val = 0 then 1 else 0 := by
  have hw : ∀ d : Fin 16, IntOp.cmpi .eq (BitVec.ofNat 32 d.val) 0#32 = BitVec.ofBool (decide (d.val = 0)) := by decide +kernel
  unfold k0_pay96
  show (if IntOp.cmpi .eq (iota .tc S16x512 32 [0] iota_S16x512_d0_w32 (ValueIdx.ix2 d p)) 0#32 = 1 then Ideal.ofBits .f32 0x3F800000#32 else Ideal.ofBits .f32 0x00000000#32) = _
  rw [iota_apply, Ideal.ofBits_one_f32, Ideal.ofBits_zero_f32]
  have e : List.foldl (fun n a => n * S16x512.size a + (ValueIdx.ix2 d p a).val) 0 [(0 : Fin 2)] = d.val := by show 0 * 16 + d.val = d.val; omega
  refine (congrArg (fun n => if IntOp.cmpi .eq (BitVec.ofNat 32 n) 0#32 = 1 then (1 : EReal) else 0) e).trans ?_
  rw [hw]
  by_cases hd : d.val = 0
  · rw [if_pos hd, decide_eq_true hd]; rfl
  · rw [if_neg hd, decide_eq_false hd]; rfl

theorem u_store (h : Fin 6) (o : ℕ) (ho : o = h.val) (hc)
    (inb : ∀ a, (![0, o, 64, 0] : Fin 4 → ℕ) a + (![1, 1, 16, 512] : Fin 4 → ℕ) a ≤ S1x6x80x512.size a) (x : S1x1x16x512.Idx) :
    (shapeCast S1x1x16x512 (k0_pay96 : FVec Ideal S16x512 .bf16) hc : FVec Ideal S1x1x16x512 .bf16) x
      = vB x0 ((Rect.unit (s := S1x6x80x512) ![0, o, 64, 0] ![1, 1, 16, 512] inb).emb x) := by
  obtain ⟨z, w, d, p, rfl⟩ : ∃ (z w : Fin 1) (d : Fin 16) (p : Fin 512), x = ValueIdx.ix4 z w d p := ⟨x 0, x 1, x 2, x 3, ValueIdx.eq_ix4 x⟩
  obtain rfl : z = 0 := Subsingleton.elim _ _
  obtain rfl : w = 0 := Subsingleton.elim _ _
  refine (cast_block _ hc d p).trans ((under_apply d p).trans ?_)
  have e2 : ((Rect.unit (s := S1x6x80x512) ![0, o, 64, 0] ![1, 1, 16, 512] inb).emb (ValueIdx.ix4 0 0 d p) 2).val = 64 + d.val := by show 64 + 1 * d.val = 64 + d.val; omega
  unfold vB
  rw [e2]
  unfold vLane
  rw [dif_neg (by omega)]
  by_cases hd : d.val = 0
  · rw [if_pos hd, if_pos (by omega)]
  · rw [if_neg hd, if_neg (by omega)]

end Cert.FoxPrepIdeal.Gates

end
-- ==== Proof.FoxPrepIdeal.Out.lean ====
module

public import proofs.«01_k».proof.Proof.FoxPrepIdeal.Stores

@[expose] public section

set_option maxRecDepth 16384

noncomputable section

namespace Cert.FoxPrepIdeal.Gates

open Idealize.ShloMosaic Idealize.ShloMosaic.TcCoe
open Cert.FoxPrepIdeal Cert.FoxPrepIdeal.Gen Cert.Gates Cert.Taps
open scoped BigOperators

variable (c : Dev nD) (i : grid0.Coords) (x0 : Vec Ideal S1x512x1152 .bf16) (x1 : Vec Ideal S1x512x128 .f32) (x2 : Vec Ideal S1x128 .f32)
  (x3 x4 : Vec Ideal S1x384 .f32) (x5 : Vec Ideal S512x512 .bf16) (xs0 : Vec Ideal S1x128 .f32)
  (arg2 : Memref sig .tc .vmem S1x512x1152 .bf16) (harg2 : arg2.IsWhole) (arg3 : Memref sig .tc .vmem S1x512x128 .f32) (harg3 : arg3.IsWhole) (arg4 : Memref sig .tc .vmem S1x128 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x512 .bf16) (harg7 : arg7.IsWhole) (arg8 : Memref sig .tc .vmem S1x6x512x128 .bf16) (harg8 : arg8.IsWhole) (arg9 : Memref sig .tc .vmem S1x6x512x128 .bf16) (harg9 : arg9.IsWhole) (arg10 : Memref sig .tc .vmem S1x6x80x512 .bf16) (harg10 : arg10.IsWhole) (arg11 : Memref sig .tc .vmem S1x128 .f32) (harg11 : arg11.IsWhole)

/-- A load of a whole rank-2 memref. -/
theorem whole2 {n0 n1 : ℕ} {e : EltTy} (m : Memref sig .tc .vmem ⟨2, ![n0, n1]⟩ e) (h : m.IsWhole) (X : (⟨2, ![n0, n1]⟩ : Shape).Idx → Elt Ideal e) (inb) :
    View.readAt (Elt Ideal) m.view (Rect.unit (s := ⟨2, ![n0, n1]⟩) ![0, 0] ![n0, n1] inb).toLoadRect (h.unread X) = X :=
  funext fun x => (Fox.readAt_unit_apply _ _ inb x x (fun a => match a with
    | ⟨0, _⟩ => (Nat.zero_add _).symm
    | ⟨1, _⟩ => (Nat.zero_add _).symm)).trans (congrFun (h.read_unread X) x)

/-- A load of a whole rank-3 memref. -/
theorem whole3 {n0 n1 n2 : ℕ} {e : EltTy} (m : Memref sig .tc .vmem ⟨3, ![n0, n1, n2]⟩ e) (h : m.IsWhole) (X : (⟨3, ![n0, n1, n2]⟩ : Shape).Idx → Elt Ideal e) (inb) :
    View.readAt (Elt Ideal) m.view (Rect.unit (s := ⟨3, ![n0, n1, n2]⟩) ![0, 0, 0] ![n0, n1, n2] inb).toLoadRect (h.unread X) = X :=
  funext fun x => (Fox.readAt_unit_apply _ _ inb x x (fun a => match a with
    | ⟨0, _⟩ => (Nat.zero_add _).symm
    | ⟨1, _⟩ => (Nat.zero_add _).symm
    | ⟨2, _⟩ => (Nat.zero_add _).symm)).trans (congrFun (h.read_unread X) x)

/-- Nothing carried. -/
def zero1 : Vec Ideal S1x128 .f32 := fun _ => 0

/-- A first block's sums begin at zero. -/
theorem carried : kernelRun0_A.sl.v31 (F := Ideal) c arg11 = zero1 := by
  funext x
  unfold kernelRun0_A.sl.v31 kernelRun0_A.sl.HS0_1
  refine (Fox.cov _ _ inb_S1x128_S1x128_0_0 x x (fun a => match a with
    | ⟨0, _⟩ => (Nat.zero_add _).symm
    | ⟨1, _⟩ => (Nat.zero_add _).symm)).trans ?_
  refine (Fox.hit _ _ inb_S1x128_S1x128_0_0 _ _ x x (fun a => match a with
    | ⟨0, _⟩ => (Nat.zero_add _).symm
    | ⟨1, _⟩ => (Nat.zero_add _).symm)).trans ?_
  unfold k0_pay2
  refine (shapeCast_apply _ _ x x rfl).trans ?_
  exact Ideal.ofBits_zero_f32

theorem sums_first : kernelRun0_A.sl.r (F := Ideal) c arg3 harg3 arg4 harg4 arg7 harg7 arg11 x1 x2 x5 = k0_pay4 x1 x2 x5 zero1 := by
  unfold kernelRun0_A.sl.r
  rw [carried c arg11]
  exact congr (congrArg₂ (fun a b => k0_pay4 a b) (whole3 arg3 harg3 x1 _) (whole2 arg4 harg4 x2 _) |> fun h => congr h (whole2 arg7 harg7 x5 _)) rfl

theorem sums_later : kernelRun0_B.sl.r (F := Ideal) c arg3 harg3 arg4 harg4 arg7 harg7 arg11 harg11 x1 x2 x5 xs0 = k0_pay4 x1 x2 x5 xs0 := by
  unfold kernelRun0_B.sl.r
  exact congr (congrArg₂ (fun a b => k0_pay4 a b) (whole3 arg3 harg3 x1 _) (whole2 arg4 harg4 x2 _) |> fun h => congr h (whole2 arg7 harg7 x5 _)) (whole2 arg11 harg11 xs0 _)

theorem q_first (hc0 : cond0_0 i) (HC : Real6 (k0_pay4 x1 x2 x5 zero1)) : ∀ pc ∈ (kernelRun0_A (F := Ideal) c i arg2 harg2 arg3 harg3 arg4 harg4 arg5 harg5 arg6 harg6 arg7 harg7 arg8 harg8 arg9 harg9 arg10 harg10 arg11 harg11 hc0 x0 x1 x2 x3 x4 x5).1, ∀ x : pc.1.shape.Idx,
    pc.2 x = qB x0 x3 (k0_pay4 x1 x2 x5 zero1) (pc.1.emb x) := by
  rw [← sums_first c x1 x2 x5 arg3 harg3 arg4 harg4 arg7 harg7 arg11] at HC ⊢
  unfold kernelRun0_A
  dsimp only
  intro pc hpc
  rcases List.mem_cons.mp hpc with rfl | hpc
  · exact q_store x0 x3 (C := kernelRun0_A.sl.r (F := Ideal) c arg3 harg3 arg4 harg4 arg7 harg7 arg11 x1 x2 x5) HC 5 5 rfl slices_S512x128_o0_5_S512x1 (moved (pair x0 x3 arg2 harg2 arg5 harg5 (Ideal.ofBits .f32 0x3E38AA3B#32) 256 inb_S1x512x1152_S1x512x128_0_0_256 256 inb_S1x384_S1x128_0_256))
      (pair_high x0 x3 arg2 harg2 arg5 harg5 _ 0 (by omega) 5 256 _ 256 _ rfl rfl) inb_S1x6x512x128_S1x1x512x128_0_5_0_0
  rcases List.mem_cons.mp hpc with rfl | hpc
  · exact q_store x0 x3 (C := kernelRun0_A.sl.r (F := Ideal) c arg3 harg3 arg4 harg4 arg7 harg7 arg11 x1 x2 x5) HC 4 4 rfl slices_S512x128_o0_4_S512x1 (pair x0 x3 arg2 harg2 arg5 harg5 (Ideal.ofBits .f32 0x3E38AA3B#32) 256 inb_S1x512x1152_S1x512x128_0_0_256 256 inb_S1x384_S1x128_0_256)
      (pair_low x0 x3 arg2 harg2 arg5 harg5 _ 0 (by omega) 4 256 _ 256 _ rfl rfl) inb_S1x6x512x128_S1x1x512x128_0_4_0_0
  rcases List.mem_cons.mp hpc with rfl | hpc
  · exact q_store x0 x3 (C := kernelRun0_A.sl.r (F := Ideal) c arg3 harg3 arg4 harg4 arg7 harg7 arg11 x1 x2 x5) HC 3 3 rfl slices_S512x128_o0_3_S512x1 (moved (pair x0 x3 arg2 harg2 arg5 harg5 (Ideal.ofBits .f32 0x3E38AA3B#32) 128 inb_S1x512x1152_S1x512x128_0_0_128 128 inb_S1x384_S1x128_0_128))
      (pair_high x0 x3 arg2 harg2 arg5 harg5 _ 0 (by omega) 3 128 _ 128 _ rfl rfl) inb_S1x6x512x128_S1x1x512x128_0_3_0_0
  rcases List.mem_cons.mp hpc with rfl | hpc
  · exact q_store x0 x3 (C := kernelRun0_A.sl.r (F := Ideal) c arg3 harg3 arg4 harg4 arg7 harg7 arg11 x1 x2 x5) HC 2 2 rfl slices_S512x128_o0_2_S512x1 (pair x0 x3 arg2 harg2 arg5 harg5 (Ideal.ofBits .f32 0x3E38AA3B#32) 128 inb_S1x512x1152_S1x512x128_0_0_128 128 inb_S1x384_S1x128_0_128)
      (pair_low x0 x3 arg2 harg2 arg5 harg5 _ 0 (by omega) 2 128 _ 128 _ rfl rfl) inb_S1x6x512x128_S1x1x512x128_0_2_0_0
  rcases List.mem_cons.mp hpc with rfl | hpc
  · exact q_store x0 x3 (C := kernelRun0_A.sl.r (F := Ideal) c arg3 harg3 arg4 harg4 arg7 harg7 arg11 x1 x2 x5) HC 1 1 rfl slices_S512x128_o0_1_S512x1 (moved (pair x0 x3 arg2 harg2 arg5 harg5 (Ideal.ofBits .f32 0x3E38AA3B#32) 0 inb_S1x512x1152_S1x512x128_0_0_0 0 inb_S1x384_S1x128_0_0))
      (pair_high x0 x3 arg2 harg2 arg5 harg5 _ 0 (by omega) 1 0 _ 0 _ rfl rfl) inb_S1x6x512x128_S1x1x512x128_0_1_0_0
  rcases List.mem_cons.mp hpc with rfl | hpc
  · exact q_store x0 x3 (C := kernelRun0_A.sl.r (F := Ideal) c arg3 harg3 arg4 harg4 arg7 harg7 arg11 x1 x2 x5) HC 0 0 rfl slices_S512x128_o0_0_S512x1 (pair x0 x3 arg2 harg2 arg5 harg5 (Ideal.ofBits .f32 0x3E38AA3B#32) 0 inb_S1x512x1152_S1x512x128_0_0_0 0 inb_S1x384_S1x128_0_0)
      (pair_low x0 x3 arg2 harg2 arg5 harg5 _ 0 (by omega) 0 0 _ 0 _ rfl rfl) inb_S1x6x512x128_S1x1x512x128_0_0_0_0
  nomatch hpc

theorem k_first (hc0 : cond0_0 i) (HC : Real6 (k0_pay4 x1 x2 x5 zero1)) : ∀ pc ∈ (kernelRun0_A (F := Ideal) c i arg2 harg2 arg3 harg3 arg4 harg4 arg5 harg5 arg6 harg6 arg7 harg7 arg8 harg8 arg9 harg9 arg10 harg10 arg11 harg11 hc0 x0 x1 x2 x3 x4 x5).2.1, ∀ x : pc.1.shape.Idx,
    pc.2 x = kB x0 x4 (k0_pay4 x1 x2 x5 zero1) (pc.1.emb x) := by
  rw [← sums_first c x1 x2 x5 arg3 harg3 arg4 harg4 arg7 harg7 arg11] at HC ⊢
  unfold kernelRun0_A
  dsimp only
  intro pc hpc
  rcases List.mem_cons.mp hpc with rfl | hpc
  · exact k_store x0 x4 (C := kernelRun0_A.sl.r (F := Ideal) c arg3 harg3 arg4 harg4 arg7 harg7 arg11 x1 x2 x5) HC 5 5 rfl slices_S512x128_o0_5_S512x1 (moved (pair x0 x4 arg2 harg2 arg6 harg6 (Ideal.ofBits .f32 0x3F800000#32) 640 inb_S1x512x1152_S1x512x128_0_0_640 256 inb_S1x384_S1x128_0_256))
      (pair_high x0 x4 arg2 harg2 arg6 harg6 _ 384 (by omega) 5 640 _ 256 _ rfl rfl) inb_S1x6x512x128_S1x1x512x128_0_5_0_0
  rcases List.mem_cons.mp hpc with rfl | hpc
  · exact k_store x0 x4 (C := kernelRun0_A.sl.r (F := Ideal) c arg3 harg3 arg4 harg4 arg7 harg7 arg11 x1 x2 x5) HC 4 4 rfl slices_S512x128_o0_4_S512x1 (pair x0 x4 arg2 harg2 arg6 harg6 (Ideal.ofBits .f32 0x3F800000#32) 640 inb_S1x512x1152_S1x512x128_0_0_640 256 inb_S1x384_S1x128_0_256)
      (pair_low x0 x4 arg2 harg2 arg6 harg6 _ 384 (by omega) 4 640 _ 256 _ rfl rfl) inb_S1x6x512x128_S1x1x512x128_0_4_0_0
  rcases List.mem_cons.mp hpc with rfl | hpc
  · exact k_store x0 x4 (C := kernelRun0_A.sl.r (F := Ideal) c arg3 harg3 arg4 harg4 arg7 harg7 arg11 x1 x2 x5) HC 3 3 rfl slices_S512x128_o0_3_S512x1 (moved (pair x0 x4 arg2 harg2 arg6 harg6 (Ideal.ofBits .f32 0x3F800000#32) 512 inb_S1x512x1152_S1x512x128_0_0_512 128 inb_S1x384_S1x128_0_128))
      (pair_high x0 x4 arg2 harg2 arg6 harg6 _ 384 (by omega) 3 512 _ 128 _ rfl rfl) inb_S1x6x512x128_S1x1x512x128_0_3_0_0
  rcases List.mem_cons.mp hpc with rfl | hpc
  · exact k_store x0 x4 (C := kernelRun0_A.sl.r (F := Ideal) c arg3 harg3 arg4 harg4 arg7 harg7 arg11 x1 x2 x5) HC 2 2 rfl slices_S512x128_o0_2_S512x1 (pair x0 x4 arg2 harg2 arg6 harg6 (Ideal.ofBits .f32 0x3F800000#32) 512 inb_S1x512x1152_S1x512x128_0_0_512 128 inb_S1x384_S1x128_0_128)
      (pair_low x0 x4 arg2 harg2 arg6 harg6 _ 384 (by omega) 2 512 _ 128 _ rfl rfl) inb_S1x6x512x128_S1x1x512x128_0_2_0_0
  rcases List.mem_cons.mp hpc with rfl | hpc
  · exact k_store x0 x4 (C := kernelRun0_A.sl.r (F := Ideal) c arg3 harg3 arg4 harg4 arg7 harg7 arg11 x1 x2 x5) HC 1 1 rfl slices_S512x128_o0_1_S512x1 (moved (pair x0 x4 arg2 harg2 arg6 harg6 (Ideal.ofBits .f32 0x3F800000#32) 384 inb_S1x512x1152_S1x512x128_0_0_384 0 inb_S1x384_S1x128_0_0))
      (pair_high x0 x4 arg2 harg2 arg6 harg6 _ 384 (by omega) 1 384 _ 0 _ rfl rfl) inb_S1x6x512x128_S1x1x512x128_0_1_0_0
  rcases List.mem_cons.mp hpc with rfl | hpc
  · exact k_store x0 x4 (C := kernelRun0_A.sl.r (F := Ideal) c arg3 harg3 arg4 harg4 arg7 harg7 arg11 x1 x2 x5) HC 0 0 rfl slices_S512x128_o0_0_S512x1 (pair x0 x4 arg2 harg2 arg6 harg6 (Ideal.ofBits .f32 0x3F800000#32) 384 inb_S1x512x1152_S1x512x128_0_0_384 0 inb_S1x384_S1x128_0_0)
      (pair_low x0 x4 arg2 harg2 arg6 harg6 _ 384 (by omega) 0 384 _ 0 _ rfl rfl) inb_S1x6x512x128_S1x1x512x128_0_0_0_0
  nomatch hpc

theorem v_first (hc0 : cond0_0 i) : ∀ pc ∈ (kernelRun0_A (F := Ideal) c i arg2 harg2 arg3 harg3 arg4 harg4 arg5 harg5 arg6 harg6 arg7 harg7 arg8 harg8 arg9 harg9 arg10 harg10 arg11 harg11 hc0 x0 x1 x2 x3 x4 x5).2.2.1, ∀ x : pc.1.shape.Idx, pc.2 x = vB x0 (pc.1.emb x) := by
  unfold kernelRun0_A
  dsimp only
  intro pc hpc
  rcases List.mem_cons.mp hpc with rfl | hpc
  · exact u_store x0 5 5 rfl shapeCasts_S16x512_S1x1x16x512 inb_S1x6x80x512_S1x1x16x512_0_5_64_0
  rcases List.mem_cons.mp hpc with rfl | hpc
  · exact v_store x0 _ (turned x0 arg2 harg2 inb_S1x512x1152_S1x512x384_0_0_768) 5 5 320 rfl rfl slices_S384x512_o320_0_S64x512 shapeCasts_S64x512_S1x1x64x512 inb_S1x6x80x512_S1x1x64x512_0_5_0_0
  rcases List.mem_cons.mp hpc with rfl | hpc
  · exact u_store x0 4 4 rfl shapeCasts_S16x512_S1x1x16x512 inb_S1x6x80x512_S1x1x16x512_0_4_64_0
  rcases List.mem_cons.mp hpc with rfl | hpc
  · exact v_store x0 _ (turned x0 arg2 harg2 inb_S1x512x1152_S1x512x384_0_0_768) 4 4 256 rfl rfl slices_S384x512_o256_0_S64x512 shapeCasts_S64x512_S1x1x64x512 inb_S1x6x80x512_S1x1x64x512_0_4_0_0
  rcases List.mem_cons.mp hpc with rfl | hpc
  · exact u_store x0 3 3 rfl shapeCasts_S16x512_S1x1x16x512 inb_S1x6x80x512_S1x1x16x512_0_3_64_0
  rcases List.mem_cons.mp hpc with rfl | hpc
  · exact v_store x0 _ (turned x0 arg2 harg2 inb_S1x512x1152_S1x512x384_0_0_768) 3 3 192 rfl rfl slices_S384x512_o192_0_S64x512 shapeCasts_S64x512_S1x1x64x512 inb_S1x6x80x512_S1x1x64x512_0_3_0_0
  rcases List.mem_cons.mp hpc with rfl | hpc
  · exact u_store x0 2 2 rfl shapeCasts_S16x512_S1x1x16x512 inb_S1x6x80x512_S1x1x16x512_0_2_64_0
  rcases List.mem_cons.mp hpc with rfl | hpc
  · exact v_store x0 _ (turned x0 arg2 harg2 inb_S1x512x1152_S1x512x384_0_0_768) 2 2 128 rfl rfl slices_S384x512_o128_0_S64x512 shapeCasts_S64x512_S1x1x64x512 inb_S1x6x80x512_S1x1x64x512_0_2_0_0
  rcases List.mem_cons.mp hpc with rfl | hpc
  · exact u_store x0 1 1 rfl shapeCasts_S16x512_S1x1x16x512 inb_S1x6x80x512_S1x1x16x512_0_1_64_0
  rcases List.mem_cons.mp hpc with rfl | hpc
  · exact v_store x0 _ (turned x0 arg2 harg2 inb_S1x512x1152_S1x512x384_0_0_768) 1 1 64 rfl rfl slices_S384x512_o64_0_S64x512 shapeCasts_S64x512_S1x1x64x512 inb_S1x6x80x512_S1x1x64x512_0_1_0_0
  rcases List.mem_cons.mp hpc with rfl | hpc
  · exact u_store x0 0 0 rfl shapeCasts_S16x512_S1x1x16x512 inb_S1x6x80x512_S1x1x16x512_0_0_64_0
  rcases List.mem_cons.mp hpc with rfl | hpc
  · exact v_store x0 _ (turned x0 arg2 harg2 inb_S1x512x1152_S1x512x384_0_0_768) 0 0 0 rfl rfl slices_S384x512_o0_0_S64x512 shapeCasts_S64x512_S1x1x64x512 inb_S1x6x80x512_S1x1x64x512_0_0_0_0
  nomatch hpc

theorem q_later (hc0 : ¬cond0_0 i) (HC : Real6 (k0_pay4 x1 x2 x5 xs0)) : ∀ pc ∈ (kernelRun0_B (F := Ideal) c i arg2 harg2 arg3 harg3 arg4 harg4 arg5 harg5 arg6 harg6 arg7 harg7 arg8 harg8 arg9 harg9 arg10 harg10 arg11 harg11 hc0 x0 x1 x2 x3 x4 x5 xs0).1, ∀ x : pc.1.shape.Idx,
    pc.2 x = qB x0 x3 (k0_pay4 x1 x2 x5 xs0) (pc.1.emb x) := by
  rw [← sums_later c x1 x2 x5 xs0 arg3 harg3 arg4 harg4 arg7 harg7 arg11 harg11] at HC ⊢
  unfold kernelRun0_B
  dsimp only
  intro pc hpc
  rcases List.mem_cons.mp hpc with rfl | hpc
  · exact q_store x0 x3 (C := kernelRun0_B.sl.r (F := Ideal) c arg3 harg3 arg4 harg4 arg7 harg7 arg11 harg11 x1 x2 x5 xs0) HC 5 5 rfl slices_S512x128_o0_5_S512x1 (moved (pair x0 x3 arg2 harg2 arg5 harg5 (Ideal.ofBits .f32 0x3E38AA3B#32) 256 inb_S1x512x1152_S1x512x128_0_0_256 256 inb_S1x384_S1x128_0_256))
      (pair_high x0 x3 arg2 harg2 arg5 harg5 _ 0 (by omega) 5 256 _ 256 _ rfl rfl) inb_S1x6x512x128_S1x1x512x128_0_5_0_0
  rcases List.mem_cons.mp hpc with rfl | hpc
  · exact q_store x0 x3 (C := kernelRun0_B.sl.r (F := Ideal) c arg3 harg3 arg4 harg4 arg7 harg7 arg11 harg11 x1 x2 x5 xs0) HC 4 4 rfl slices_S512x128_o0_4_S512x1 (pair x0 x3 arg2 harg2 arg5 harg5 (Ideal.ofBits .f32 0x3E38AA3B#32) 256 inb_S1x512x1152_S1x512x128_0_0_256 256 inb_S1x384_S1x128_0_256)
      (pair_low x0 x3 arg2 harg2 arg5 harg5 _ 0 (by omega) 4 256 _ 256 _ rfl rfl) inb_S1x6x512x128_S1x1x512x128_0_4_0_0
  rcases List.mem_cons.mp hpc with rfl | hpc
  · exact q_store x0 x3 (C := kernelRun0_B.sl.r (F := Ideal) c arg3 harg3 arg4 harg4 arg7 harg7 arg11 harg11 x1 x2 x5 xs0) HC 3 3 rfl slices_S512x128_o0_3_S512x1 (moved (pair x0 x3 arg2 harg2 arg5 harg5 (Ideal.ofBits .f32 0x3E38AA3B#32) 128 inb_S1x512x1152_S1x512x128_0_0_128 128 inb_S1x384_S1x128_0_128))
      (pair_high x0 x3 arg2 harg2 arg5 harg5 _ 0 (by omega) 3 128 _ 128 _ rfl rfl) inb_S1x6x512x128_S1x1x512x128_0_3_0_0
  rcases List.mem_cons.mp hpc with rfl | hpc
  · exact q_store x0 x3 (C := kernelRun0_B.sl.r (F := Ideal) c arg3 harg3 arg4 harg4 arg7 harg7 arg11 harg11 x1 x2 x5 xs0) HC 2 2 rfl slices_S512x128_o0_2_S512x1 (pair x0 x3 arg2 harg2 arg5 harg5 (Ideal.ofBits .f32 0x3E38AA3B#32) 128 inb_S1x512x1152_S1x512x128_0_0_128 128 inb_S1x384_S1x128_0_128)
      (pair_low x0 x3 arg2 harg2 arg5 harg5 _ 0 (by omega) 2 128 _ 128 _ rfl rfl) inb_S1x6x512x128_S1x1x512x128_0_2_0_0
  rcases List.mem_cons.mp hpc with rfl | hpc
  · exact q_store x0 x3 (C := kernelRun0_B.sl.r (F := Ideal) c arg3 harg3 arg4 harg4 arg7 harg7 arg11 harg11 x1 x2 x5 xs0) HC 1 1 rfl slices_S512x128_o0_1_S512x1 (moved (pair x0 x3 arg2 harg2 arg5 harg5 (Ideal.ofBits .f32 0x3E38AA3B#32) 0 inb_S1x512x1152_S1x512x128_0_0_0 0 inb_S1x384_S1x128_0_0))
      (pair_high x0 x3 arg2 harg2 arg5 harg5 _ 0 (by omega) 1 0 _ 0 _ rfl rfl) inb_S1x6x512x128_S1x1x512x128_0_1_0_0
  rcases List.mem_cons.mp hpc with rfl | hpc
  · exact q_store x0 x3 (C := kernelRun0_B.sl.r (F := Ideal) c arg3 harg3 arg4 harg4 arg7 harg7 arg11 harg11 x1 x2 x5 xs0) HC 0 0 rfl slices_S512x128_o0_0_S512x1 (pair x0 x3 arg2 harg2 arg5 harg5 (Ideal.ofBits .f32 0x3E38AA3B#32) 0 inb_S1x512x1152_S1x512x128_0_0_0 0 inb_S1x384_S1x128_0_0)
      (pair_low x0 x3 arg2 harg2 arg5 harg5 _ 0 (by omega) 0 0 _ 0 _ rfl rfl) inb_S1x6x512x128_S1x1x512x128_0_0_0_0
  nomatch hpc

theorem k_later (hc0 : ¬cond0_0 i) (HC : Real6 (k0_pay4 x1 x2 x5 xs0)) : ∀ pc ∈ (kernelRun0_B (F := Ideal) c i arg2 harg2 arg3 harg3 arg4 harg4 arg5 harg5 arg6 harg6 arg7 harg7 arg8 harg8 arg9 harg9 arg10 harg10 arg11 harg11 hc0 x0 x1 x2 x3 x4 x5 xs0).2.1, ∀ x : pc.1.shape.Idx,
    pc.2 x = kB x0 x4 (k0_pay4 x1 x2 x5 xs0) (pc.1.emb x) := by
  rw [← sums_later c x1 x2 x5 xs0 arg3 harg3 arg4 harg4 arg7 harg7 arg11 harg11] at HC ⊢
  unfold kernelRun0_B
  dsimp only
  intro pc hpc
  rcases List.mem_cons.mp hpc with rfl | hpc
  · exact k_store x0 x4 (C := kernelRun0_B.sl.r (F := Ideal) c arg3 harg3 arg4 harg4 arg7 harg7 arg11 harg11 x1 x2 x5 xs0) HC 5 5 rfl slices_S512x128_o0_5_S512x1 (moved (pair x0 x4 arg2 harg2 arg6 harg6 (Ideal.ofBits .f32 0x3F800000#32) 640 inb_S1x512x1152_S1x512x128_0_0_640 256 inb_S1x384_S1x128_0_256))
      (pair_high x0 x4 arg2 harg2 arg6 harg6 _ 384 (by omega) 5 640 _ 256 _ rfl rfl) inb_S1x6x512x128_S1x1x512x128_0_5_0_0
  rcases List.mem_cons.mp hpc with rfl | hpc
  · exact k_store x0 x4 (C := kernelRun0_B.sl.r (F := Ideal) c arg3 harg3 arg4 harg4 arg7 harg7 arg11 harg11 x1 x2 x5 xs0) HC 4 4 rfl slices_S512x128_o0_4_S512x1 (pair x0 x4 arg2 harg2 arg6 harg6 (Ideal.ofBits .f32 0x3F800000#32) 640 inb_S1x512x1152_S1x512x128_0_0_640 256 inb_S1x384_S1x128_0_256)
      (pair_low x0 x4 arg2 harg2 arg6 harg6 _ 384 (by omega) 4 640 _ 256 _ rfl rfl) inb_S1x6x512x128_S1x1x512x128_0_4_0_0
  rcases List.mem_cons.mp hpc with rfl | hpc
  · exact k_store x0 x4 (C := kernelRun0_B.sl.r (F := Ideal) c arg3 harg3 arg4 harg4 arg7 harg7 arg11 harg11 x1 x2 x5 xs0) HC 3 3 rfl slices_S512x128_o0_3_S512x1 (moved (pair x0 x4 arg2 harg2 arg6 harg6 (Ideal.ofBits .f32 0x3F800000#32) 512 inb_S1x512x1152_S1x512x128_0_0_512 128 inb_S1x384_S1x128_0_128))
      (pair_high x0 x4 arg2 harg2 arg6 harg6 _ 384 (by omega) 3 512 _ 128 _ rfl rfl) inb_S1x6x512x128_S1x1x512x128_0_3_0_0
  rcases List.mem_cons.mp hpc with rfl | hpc
  · exact k_store x0 x4 (C := kernelRun0_B.sl.r (F := Ideal) c arg3 harg3 arg4 harg4 arg7 harg7 arg11 harg11 x1 x2 x5 xs0) HC 2 2 rfl slices_S512x128_o0_2_S512x1 (pair x0 x4 arg2 harg2 arg6 harg6 (Ideal.ofBits .f32 0x3F800000#32) 512 inb_S1x512x1152_S1x512x128_0_0_512 128 inb_S1x384_S1x128_0_128)
      (pair_low x0 x4 arg2 harg2 arg6 harg6 _ 384 (by omega) 2 512 _ 128 _ rfl rfl) inb_S1x6x512x128_S1x1x512x128_0_2_0_0
  rcases List.mem_cons.mp hpc with rfl | hpc
  · exact k_store x0 x4 (C := kernelRun0_B.sl.r (F := Ideal) c arg3 harg3 arg4 harg4 arg7 harg7 arg11 harg11 x1 x2 x5 xs0) HC 1 1 rfl slices_S512x128_o0_1_S512x1 (moved (pair x0 x4 arg2 harg2 arg6 harg6 (Ideal.ofBits .f32 0x3F800000#32) 384 inb_S1x512x1152_S1x512x128_0_0_384 0 inb_S1x384_S1x128_0_0))
      (pair_high x0 x4 arg2 harg2 arg6 harg6 _ 384 (by omega) 1 384 _ 0 _ rfl rfl) inb_S1x6x512x128_S1x1x512x128_0_1_0_0
  rcases List.mem_cons.mp hpc with rfl | hpc
  · exact k_store x0 x4 (C := kernelRun0_B.sl.r (F := Ideal) c arg3 harg3 arg4 harg4 arg7 harg7 arg11 harg11 x1 x2 x5 xs0) HC 0 0 rfl slices_S512x128_o0_0_S512x1 (pair x0 x4 arg2 harg2 arg6 harg6 (Ideal.ofBits .f32 0x3F800000#32) 384 inb_S1x512x1152_S1x512x128_0_0_384 0 inb_S1x384_S1x128_0_0)
      (pair_low x0 x4 arg2 harg2 arg6 harg6 _ 384 (by omega) 0 384 _ 0 _ rfl rfl) inb_S1x6x512x128_S1x1x512x128_0_0_0_0
  nomatch hpc

theorem v_later (hc0 : ¬cond0_0 i) : ∀ pc ∈ (kernelRun0_B (F := Ideal) c i arg2 harg2 arg3 harg3 arg4 harg4 arg5 harg5 arg6 harg6 arg7 harg7 arg8 harg8 arg9 harg9 arg10 harg10 arg11 harg11 hc0 x0 x1 x2 x3 x4 x5 xs0).2.2.1, ∀ x : pc.1.shape.Idx, pc.2 x = vB x0 (pc.1.emb x) := by
  unfold kernelRun0_B
  dsimp only
  intro pc hpc
  rcases List.mem_cons.mp hpc with rfl | hpc
  · exact u_store x0 5 5 rfl shapeCasts_S16x512_S1x1x16x512 inb_S1x6x80x512_S1x1x16x512_0_5_64_0
  rcases List.mem_cons.mp hpc with rfl | hpc
  · exact v_store x0 _ (turned x0 arg2 harg2 inb_S1x512x1152_S1x512x384_0_0_768) 5 5 320 rfl rfl slices_S384x512_o320_0_S64x512 shapeCasts_S64x512_S1x1x64x512 inb_S1x6x80x512_S1x1x64x512_0_5_0_0
  rcases List.mem_cons.mp hpc with rfl | hpc
  · exact u_store x0 4 4 rfl shapeCasts_S16x512_S1x1x16x512 inb_S1x6x80x512_S1x1x16x512_0_4_64_0
  rcases List.mem_cons.mp hpc with rfl | hpc
  · exact v_store x0 _ (turned x0 arg2 harg2 inb_S1x512x1152_S1x512x384_0_0_768) 4 4 256 rfl rfl slices_S384x512_o256_0_S64x512 shapeCasts_S64x512_S1x1x64x512 inb_S1x6x80x512_S1x1x64x512_0_4_0_0
  rcases List.mem_cons.mp hpc with rfl | hpc
  · exact u_store x0 3 3 rfl shapeCasts_S16x512_S1x1x16x512 inb_S1x6x80x512_S1x1x16x512_0_3_64_0
  rcases List.mem_cons.mp hpc with rfl | hpc
  · exact v_store x0 _ (turned x0 arg2 harg2 inb_S1x512x1152_S1x512x384_0_0_768) 3 3 192 rfl rfl slices_S384x512_o192_0_S64x512 shapeCasts_S64x512_S1x1x64x512 inb_S1x6x80x512_S1x1x64x512_0_3_0_0
  rcases List.mem_cons.mp hpc with rfl | hpc
  · exact u_store x0 2 2 rfl shapeCasts_S16x512_S1x1x16x512 inb_S1x6x80x512_S1x1x16x512_0_2_64_0
  rcases List.mem_cons.mp hpc with rfl | hpc
  · exact v_store x0 _ (turned x0 arg2 harg2 inb_S1x512x1152_S1x512x384_0_0_768) 2 2 128 rfl rfl slices_S384x512_o128_0_S64x512 shapeCasts_S64x512_S1x1x64x512 inb_S1x6x80x512_S1x1x64x512_0_2_0_0
  rcases List.mem_cons.mp hpc with rfl | hpc
  · exact u_store x0 1 1 rfl shapeCasts_S16x512_S1x1x16x512 inb_S1x6x80x512_S1x1x16x512_0_1_64_0
  rcases List.mem_cons.mp hpc with rfl | hpc
  · exact v_store x0 _ (turned x0 arg2 harg2 inb_S1x512x1152_S1x512x384_0_0_768) 1 1 64 rfl rfl slices_S384x512_o64_0_S64x512 shapeCasts_S64x512_S1x1x64x512 inb_S1x6x80x512_S1x1x64x512_0_1_0_0
  rcases List.mem_cons.mp hpc with rfl | hpc
  · exact u_store x0 0 0 rfl shapeCasts_S16x512_S1x1x16x512 inb_S1x6x80x512_S1x1x16x512_0_0_64_0
  rcases List.mem_cons.mp hpc with rfl | hpc
  · exact v_store x0 _ (turned x0 arg2 harg2 inb_S1x512x1152_S1x512x384_0_0_768) 0 0 0 rfl rfl slices_S384x512_o0_0_S64x512 shapeCasts_S64x512_S1x1x64x512 inb_S1x6x80x512_S1x1x64x512_0_0_0_0
  nomatch hpc

theorem q_out_first (hc0 : cond0_0 i) (HC : Real6 (k0_pay4 x1 x2 x5 zero1)) (y : S1x6x512x128.Idx) : out0_A_6 c i arg2 harg2 arg3 harg3 arg4 harg4 arg5 harg5 arg6 harg6 arg7 harg7 arg8 harg8 arg9 harg9 arg10 harg10 arg11 harg11 hc0 x0 x1 x2 x3 x4 x5 y = qB x0 x3 (k0_pay4 x1 x2 x5 zero1) y := by
  unfold out0_A_6
  refine Eq.trans ?_ (View.canon_apply_of_pieces (Val := Elt Ideal) (e := .bf16) (qB x0 x3 (k0_pay4 x1 x2 x5 zero1)) _ (q_first c i x0 x1 x2 x3 x4 x5 arg2 harg2 arg3 harg3 arg4 harg4 arg5 harg5 arg6 harg6 arg7 harg7 arg8 harg8 arg9 harg9 arg10 harg10 arg11 harg11 hc0 HC) y (cover0_A_6 c i arg2 harg2 arg3 harg3 arg4 harg4 arg5 harg5 arg6 harg6 arg7 harg7 arg8 harg8 arg9 harg9 arg10 harg10 arg11 harg11 hc0 x0 x1 x2 x3 x4 x5 y))
  exact congrFun (View.read_writes_eq_canon VO0_6 _ _ (cover0_A_6 c i arg2 harg2 arg3 harg3 arg4 harg4 arg5 harg5 arg6 harg6 arg7 harg7 arg8 harg8 arg9 harg9 arg10 harg10 arg11 harg11 hc0 x0 x1 x2 x3 x4 x5)) y

theorem k_out_first (hc0 : cond0_0 i) (HC : Real6 (k0_pay4 x1 x2 x5 zero1)) (y : S1x6x512x128.Idx) : out0_A_7 c i arg2 harg2 arg3 harg3 arg4 harg4 arg5 harg5 arg6 harg6 arg7 harg7 arg8 harg8 arg9 harg9 arg10 harg10 arg11 harg11 hc0 x0 x1 x2 x3 x4 x5 y = kB x0 x4 (k0_pay4 x1 x2 x5 zero1) y := by
  unfold out0_A_7
  refine Eq.trans ?_ (View.canon_apply_of_pieces (Val := Elt Ideal) (e := .bf16) (kB x0 x4 (k0_pay4 x1 x2 x5 zero1)) _ (k_first c i x0 x1 x2 x3 x4 x5 arg2 harg2 arg3 harg3 arg4 harg4 arg5 harg5 arg6 harg6 arg7 harg7 arg8 harg8 arg9 harg9 arg10 harg10 arg11 harg11 hc0 HC) y (cover0_A_7 c i arg2 harg2 arg3 harg3 arg4 harg4 arg5 harg5 arg6 harg6 arg7 harg7 arg8 harg8 arg9 harg9 arg10 harg10 arg11 harg11 hc0 x0 x1 x2 x3 x4 x5 y))
  exact congrFun (View.read_writes_eq_canon VO0_7 _ _ (cover0_A_7 c i arg2 harg2 arg3 harg3 arg4 harg4 arg5 harg5 arg6 harg6 arg7 harg7 arg8 harg8 arg9 harg9 arg10 harg10 arg11 harg11 hc0 x0 x1 x2 x3 x4 x5)) y

theorem v_out_first (hc0 : cond0_0 i) (y : S1x6x80x512.Idx) : out0_A_8 c i arg2 harg2 arg3 harg3 arg4 harg4 arg5 harg5 arg6 harg6 arg7 harg7 arg8 harg8 arg9 harg9 arg10 harg10 arg11 harg11 hc0 x0 x1 x2 x3 x4 x5 y = vB x0 y := by
  unfold out0_A_8
  refine Eq.trans ?_ (View.canon_apply_of_pieces (Val := Elt Ideal) (e := .bf16) (vB x0) _ (v_first c i x0 x1 x2 x3 x4 x5 arg2 harg2 arg3 harg3 arg4 harg4 arg5 harg5 arg6 harg6 arg7 harg7 arg8 harg8 arg9 harg9 arg10 harg10 arg11 harg11 hc0) y (cover0_A_8 c i arg2 harg2 arg3 harg3 arg4 harg4 arg5 harg5 arg6 harg6 arg7 harg7 arg8 harg8 arg9 harg9 arg10 harg10 arg11 harg11 hc0 x0 x1 x2 x3 x4 x5 y))
  exact congrFun (View.read_writes_eq_canon VO0_8 _ _ (cover0_A_8 c i arg2 harg2 arg3 harg3 arg4 harg4 arg5 harg5 arg6 harg6 arg7 harg7 arg8 harg8 arg9 harg9 arg10 harg10 arg11 harg11 hc0 x0 x1 x2 x3 x4 x5)) y

/-- What is carried on: the last row of the sums. -/
theorem keep_first (hc0 : cond0_0 i) (h : Fin 128) : sout0_A_0 c i arg2 harg2 arg3 harg3 arg4 harg4 arg5 harg5 arg6 harg6 arg7 harg7 arg8 harg8 arg9 harg9 arg10 harg10 arg11 harg11 hc0 x0 x1 x2 x3 x4 x5 (ValueIdx.ix2 0 h) = k0_pay4 x1 x2 x5 zero1 (ValueIdx.ix2 (511 : Fin 512) h) := by
  unfold sout0_A_0 kernelRun0_A
  dsimp only
  refine (Fox.hit VS0_0 _ inb_S1x128_S1x128_0_0 _ _ (ValueIdx.ix2 0 h) (ValueIdx.ix2 0 h) (fun a => match a with
    | ⟨0, _⟩ => (Nat.zero_add _).symm
    | ⟨1, _⟩ => (Nat.zero_add _).symm)).trans ?_
  rw [← sums_first c x1 x2 x5 arg3 harg3 arg4 harg4 arg7 harg7 arg11]
  exact carry_apply _ _ _ _ h

theorem q_out_later (hc0 : ¬cond0_0 i) (HC : Real6 (k0_pay4 x1 x2 x5 xs0)) (y : S1x6x512x128.Idx) : out0_B_6 c i arg2 harg2 arg3 harg3 arg4 harg4 arg5 harg5 arg6 harg6 arg7 harg7 arg8 harg8 arg9 harg9 arg10 harg10 arg11 harg11 hc0 x0 x1 x2 x3 x4 x5 xs0 y = qB x0 x3 (k0_pay4 x1 x2 x5 xs0) y := by
  unfold out0_B_6
  refine Eq.trans ?_ (View.canon_apply_of_pieces (Val := Elt Ideal) (e := .bf16) (qB x0 x3 (k0_pay4 x1 x2 x5 xs0)) _ (q_later c i x0 x1 x2 x3 x4 x5 xs0 arg2 harg2 arg3 harg3 arg4 harg4 arg5 harg5 arg6 harg6 arg7 harg7 arg8 harg8 arg9 harg9 arg10 harg10 arg11 harg11 hc0 HC) y (cover0_B_6 c i arg2 harg2 arg3 harg3 arg4 harg4 arg5 harg5 arg6 harg6 arg7 harg7 arg8 harg8 arg9 harg9 arg10 harg10 arg11 harg11 hc0 x0 x1 x2 x3 x4 x5 xs0 y))
  exact congrFun (View.read_writes_eq_canon VO0_6 _ _ (cover0_B_6 c i arg2 harg2 arg3 harg3 arg4 harg4 arg5 harg5 arg6 harg6 arg7 harg7 arg8 harg8 arg9 harg9 arg10 harg10 arg11 harg11 hc0 x0 x1 x2 x3 x4 x5 xs0)) y

theorem k_out_later (hc0 : ¬cond0_0 i) (HC : Real6 (k0_pay4 x1 x2 x5 xs0)) (y : S1x6x512x128.Idx) : out0_B_7 c i arg2 harg2 arg3 harg3 arg4 harg4 arg5 harg5 arg6 harg6 arg7 harg7 arg8 harg8 arg9 harg9 arg10 harg10 arg11 harg11 hc0 x0 x1 x2 x3 x4 x5 xs0 y = kB x0 x4 (k0_pay4 x1 x2 x5 xs0) y := by
  unfold out0_B_7
  refine Eq.trans ?_ (View.canon_apply_of_pieces (Val := Elt Ideal) (e := .bf16) (kB x0 x4 (k0_pay4 x1 x2 x5 xs0)) _ (k_later c i x0 x1 x2 x3 x4 x5 xs0 arg2 harg2 arg3 harg3 arg4 harg4 arg5 harg5 arg6 harg6 arg7 harg7 arg8 harg8 arg9 harg9 arg10 harg10 arg11 harg11 hc0 HC) y (cover0_B_7 c i arg2 harg2 arg3 harg3 arg4 harg4 arg5 harg5 arg6 harg6 arg7 harg7 arg8 harg8 arg9 harg9 arg10 harg10 arg11 harg11 hc0 x0 x1 x2 x3 x4 x5 xs0 y))
  exact congrFun (View.read_writes_eq_canon VO0_7 _ _ (cover0_B_7 c i arg2 harg2 arg3 harg3 arg4 harg4 arg5 harg5 arg6 harg6 arg7 harg7 arg8 harg8 arg9 harg9 arg10 harg10 arg11 harg11 hc0 x0 x1 x2 x3 x4 x5 xs0)) y

theorem v_out_later (hc0 : ¬cond0_0 i) (y : S1x6x80x512.Idx) : out0_B_8 c i arg2 harg2 arg3 harg3 arg4 harg4 arg5 harg5 arg6 harg6 arg7 harg7 arg8 harg8 arg9 harg9 arg10 harg10 arg11 harg11 hc0 x0 x1 x2 x3 x4 x5 xs0 y = vB x0 y := by
  unfold out0_B_8
  refine Eq.trans ?_ (View.canon_apply_of_pieces (Val := Elt Ideal) (e := .bf16) (vB x0) _ (v_later c i x0 x1 x2 x3 x4 x5 xs0 arg2 harg2 arg3 harg3 arg4 harg4 arg5 harg5 arg6 harg6 arg7 harg7 arg8 harg8 arg9 harg9 arg10 harg10 arg11 harg11 hc0) y (cover0_B_8 c i arg2 harg2 arg3 harg3 arg4 harg4 arg5 harg5 arg6 harg6 arg7 harg7 arg8 harg8 arg9 harg9 arg10 harg10 arg11 harg11 hc0 x0 x1 x2 x3 x4 x5 xs0 y))
  exact congrFun (View.read_writes_eq_canon VO0_8 _ _ (cover0_B_8 c i arg2 harg2 arg3 harg3 arg4 harg4 arg5 harg5 arg6 harg6 arg7 harg7 arg8 harg8 arg9 harg9 arg10 harg10 arg11 harg11 hc0 x0 x1 x2 x3 x4 x5 xs0)) y

/-- What is carried on: the last row of the sums. -/
theorem keep_later (hc0 : ¬cond0_0 i) (h : Fin 128) : sout0_B_0 c i arg2 harg2 arg3 harg3 arg4 harg4 arg5 harg5 arg6 harg6 arg7 harg7 arg8 harg8 arg9 harg9 arg10 harg10 arg11 harg11 hc0 x0 x1 x2 x3 x4 x5 xs0 (ValueIdx.ix2 0 h) = k0_pay4 x1 x2 x5 xs0 (ValueIdx.ix2 (511 : Fin 512) h) := by
  unfold sout0_B_0 kernelRun0_B
  dsimp only
  refine (Fox.hit VS0_0 _ inb_S1x128_S1x128_0_0 _ _ (ValueIdx.ix2 0 h) (ValueIdx.ix2 0 h) (fun a => match a with
    | ⟨0, _⟩ => (Nat.zero_add _).symm
    | ⟨1, _⟩ => (Nat.zero_add _).symm)).trans ?_
  rw [← sums_later c x1 x2 x5 xs0 arg3 harg3 arg4 harg4 arg7 harg7 arg11 harg11]
  exact carry_apply _ _ _ _ h

end Cert.FoxPrepIdeal.Gates

end
-- ==== Proof.Rows.Words.lean ====
module

public import proofs.«01_k».proof.Proof.Fox.Ops

@[expose] public section

noncomputable section

namespace Cert.Gates

open Idealize.ShloMosaic

/-- A choice by the order of two small numbers held as words. -/
theorem pick {α : Type} (a b : ℕ) (ha : a < 4096) (hb : b < 4096) (x y : α) :
    Scalar.select (IntOp.cmpi .sge (BitVec.ofNat 32 a) (BitVec.ofNat 32 b)) x y = if b ≤ a then x else y := by
  have e1 : (BitVec.ofNat 32 a).toInt = a := by
    rw [BitVec.toInt_ofNat', Int.bmod_eq_of_le]
    all_goals simp
    all_goals omega
  have e2 : (BitVec.ofNat 32 b).toInt = b := by
    rw [BitVec.toInt_ofNat', Int.bmod_eq_of_le]
    all_goals simp
    all_goals omega
  have e : (BitVec.ofNat 32 b).sle (BitVec.ofNat 32 a) = decide (b ≤ a) := by
    unfold BitVec.sle
    rw [e1, e2]
    exact decide_eq_decide.mpr Int.ofNat_le
  show (if BitVec.ofBool ((BitVec.ofNat 32 b).sle (BitVec.ofNat 32 a)) = 1 then x else y) = _
  rw [e]
  by_cases h : b ≤ a
  · rw [decide_eq_true h, if_pos h]; exact if_pos rfl
  · rw [decide_eq_false h, if_neg h]; exact if_neg (by decide)

end Cert.Gates

end
-- ==== Proof.FoxPrepIdeal.Value.lean ====
module

public import proofs.«01_k».proof.Proof.FoxPrepIdeal.Out
public import proofs.«01_k».proof.Proof.Rows.Words
public import Idealize.ShloMosaic.Lib.Pipeline.ValueKit
public import Idealize.ShloMosaic.Lib.IdealHost
public import Idealize.ShloMosaic.Lib.Claim

@[expose] public section

set_option maxRecDepth 16384

noncomputable section

namespace Cert.FoxPrepIdeal.Gates

open Idealize.ShloMosaic Idealize.ShloMosaic.TcCoe Idealize.SL.Sem
open Cert.FoxPrepIdeal Cert.FoxPrepIdeal.Gen Cert.Gates Cert.Taps
open scoped BigOperators

variable (m : (ℓ : Loc nD τ sig) → Buf (Elt Ideal) ℓ) (ρ : Dev nD → PrngReg)

/-- A number below the grid's extent as a word. -/
theorem word_nat (x : ℕ) (h : x < 16) : (BitVec.ofNat 32 x).toNat = x := by
  rw [BitVec.toNat_ofNat]; exact Nat.mod_eq_of_lt (by omega)

theorem count : cfg0.N = 128 := by decide +kernel

/-- The sequence of a point. -/
def seq (t : Fin cfg0.N) : Fin 16 := ⟨t.val / 8, by have := t.isLt; have := count; omega⟩

theorem coord0 (t : Fin cfg0.N) : (grid0.coords t 0).val = t.val / 8 := by
  refine (Pipeline.Grid.coords_val t 0 (S := 8) (B := 16) (by decide +kernel) rfl).trans ?_
  have := t.isLt; have := count; omega

theorem coord1 (t : Fin cfg0.N) : (grid0.coords t 1).val = t.val % 8 := by
  refine (Pipeline.Grid.coords_val t 1 (S := 1) (B := 8) (by decide +kernel) rfl).trans ?_
  rw [Nat.div_one]

/-- The lower triangle of ones. -/
theorem tri_host (c : Dev nD) (p s : Fin 512) : @Eq EReal (V m c main_v2 (ValueIdx.ix2 p s)) (if s.val ≤ p.val then 1 else 0) := by
  have e : V m c main_v2 = truncf .bf16 (select (cmpi .sge (addi (iotaInDim S512x512 32 0) (broadcastInDim S512x512 ![] bcast_S_S512x512 (constantI S_ 32 0#32))) (iotaInDim S512x512 32 1))
      (broadcastInDim S512x512 ![] bcast_S_S512x512 (constant (F := Ideal) S_ .f32 0x3F800000#32))
      (broadcastInDim S512x512 ![] bcast_S_S512x512 (constant (F := Ideal) S_ .f32 0x00000000#32))) bitsLt_bf16_f32 := by
    unfold V
    simp only [hostOps0, hostOps0_1, hostOps0_2, List.flatten_cons, List.flatten_nil, List.append_nil, List.cons_append, List.nil_append]
    after_results_simp
    rfl
  rw [e]
  show Scalar.select (IntOp.cmpi .sge (BitVec.ofNat 32 p.val + 0#32) (BitVec.ofNat 32 s.val)) (Ideal.ofBits .f32 0x3F800000#32) (Ideal.ofBits .f32 0x00000000#32) = _
  rw [BitVec.add_zero, Ideal.ofBits_one_f32, Ideal.ofBits_zero_f32]
  exact Cert.Gates.pick p.val s.val (by omega) (by omega) _ _

theorem blk_x (c : Dev nD) (t : Fin cfg0.N) (p : Fin 512) (k : Fin 1152) (r : Fin 4096) (h : r.val = 512 * (t.val % 8) + p.val) :
    iblk m c 0 t (ValueIdx.ix3 0 p k) = m ((c : Thread nD τ).loc main_arg0) (ValueIdx.ix3 (seq t) r k) := by
  refine Eq.trans ?_ (congrFun (V_main_arg0 m c) _)
  refine congrArg (V m c main_arg0) (funext fun a => Fin.ext ?_)
  refine (win0_0.rect_emb_val t _ a rfl).trans ?_
  match a with
  | ⟨0, _⟩ => show (BitVec.ofNat 32 (grid0.coords t 0).val).toNat * 1 + 0 = t.val / 8
              rw [word_nat _ (grid0.coords t 0).isLt, coord0]; omega
  | ⟨1, _⟩ => show (BitVec.ofNat 32 (grid0.coords t 1).val).toNat * 512 + p.val = r.val
              rw [word_nat _ (Nat.lt_of_lt_of_le (grid0.coords t 1).isLt (by decide)), coord1]; omega
  | ⟨2, _⟩ => show 0 * 1152 + k.val = k.val; omega

theorem blk_f (c : Dev nD) (t : Fin cfg0.N) (p : Fin 512) (k : Fin 128) (r : Fin 4096) (h : r.val = 512 * (t.val % 8) + p.val) :
    iblk m c 1 t (ValueIdx.ix3 0 p k) = m ((c : Thread nD τ).loc main_arg1) (ValueIdx.ix3 (seq t) r k) := by
  refine Eq.trans ?_ (congrFun (V_main_arg1 m c) _)
  refine congrArg (V m c main_arg1) (funext fun a => Fin.ext ?_)
  refine (win0_1.rect_emb_val t _ a rfl).trans ?_
  match a with
  | ⟨0, _⟩ => show (BitVec.ofNat 32 (grid0.coords t 0).val).toNat * 1 + 0 = t.val / 8
              rw [word_nat _ (grid0.coords t 0).isLt, coord0]; omega
  | ⟨1, _⟩ => show (BitVec.ofNat 32 (grid0.coords t 1).val).toNat * 512 + p.val = r.val
              rw [word_nat _ (Nat.lt_of_lt_of_le (grid0.coords t 1).isLt (by decide)), coord1]; omega
  | ⟨2, _⟩ => show 0 * 128 + k.val = k.val; omega

theorem blk_b (c : Dev nD) (t : Fin cfg0.N) (n : Fin 128) : iblk m c 2 t (ValueIdx.ix2 0 n) = m ((c : Thread nD τ).loc main_arg2) (ValueIdx.ix2 0 n) := by
  refine Eq.trans ?_ (congrFun (V_main_arg2 m c) _)
  refine congrArg (V m c main_arg2) (funext fun a => Fin.ext ?_)
  refine (win0_2.rect_emb_val t _ a rfl).trans ?_
  match a with
  | ⟨0, _⟩ => rfl
  | ⟨1, _⟩ => show 0 * 128 + n.val = n.val; omega

theorem blk_gq (c : Dev nD) (t : Fin cfg0.N) (n : Fin 384) : iblk m c 3 t (ValueIdx.ix2 0 n) = m ((c : Thread nD τ).loc main_arg3) (ValueIdx.ix2 0 n) := by
  refine Eq.trans ?_ (congrFun (V_main_arg3 m c) _)
  refine congrArg (V m c main_arg3) (funext fun a => Fin.ext ?_)
  refine (win0_3.rect_emb_val t _ a rfl).trans ?_
  match a with
  | ⟨0, _⟩ => rfl
  | ⟨1, _⟩ => show 0 * 384 + n.val = n.val; omega

theorem blk_gk (c : Dev nD) (t : Fin cfg0.N) (n : Fin 384) : iblk m c 4 t (ValueIdx.ix2 0 n) = m ((c : Thread nD τ).loc main_arg4) (ValueIdx.ix2 0 n) := by
  refine Eq.trans ?_ (congrFun (V_main_arg4 m c) _)
  refine congrArg (V m c main_arg4) (funext fun a => Fin.ext ?_)
  refine (win0_4.rect_emb_val t _ a rfl).trans ?_
  match a with
  | ⟨0, _⟩ => rfl
  | ⟨1, _⟩ => show 0 * 384 + n.val = n.val; omega

theorem blk_t (c : Dev nD) (t : Fin cfg0.N) (p s : Fin 512) : @Eq EReal (iblk m c 5 t (ValueIdx.ix2 p s)) (if s.val ≤ p.val then 1 else 0) := by
  refine Eq.trans ?_ (tri_host m c p s)
  refine congrArg (V m c main_v2) (funext fun a => Fin.ext ?_)
  refine (win0_5.rect_emb_val t _ a rfl).trans ?_
  match a with
  | ⟨0, _⟩ => show 0 * 512 + p.val = p.val; omega
  | ⟨1, _⟩ => show 0 * 512 + s.val = s.val; omega

theorem log_eq (c : Dev nD) (t : Fin cfg0.N) (h : Fin 128) (s : Fin 512) (r : Fin 4096) (hr : r.val = 512 * (t.val % 8) + s.val) :
    logB (iblk m c 1 t) (iblk m c 2 t) h s = logf (m ((c : Thread nD τ).loc main_arg1)) (m ((c : Thread nD τ).loc main_arg2)) (seq t) h r :=
  congrArg₂ (fun a b : EReal => lsig (a + b)) (blk_f m c t s h r hr) (blk_b m c t h)

theorem head_eq (c : Dev nD) (t : Fin cfg0.N) (b : ℕ) (hb : b + 384 ≤ 1152) (h : Fin 6) (p : Fin 512) (r : Fin 4096) (hr : r.val = 512 * (t.val % 8) + p.val) :
    headB (iblk m c 0 t) b hb h p = head (m ((c : Thread nD τ).loc main_arg0)) b hb (seq t) h r :=
  funext fun _ => blk_x m c t p _ r hr

/-- The sums at a point, given those of the tokens before it. -/
theorem sums_eq (c : Dev nD) (H : Gated (m ((c : Thread nD τ).loc main_arg1)) (m ((c : Thread nD τ).loc main_arg2))) (t : Fin cfg0.N) (xs : Vec Ideal S1x128 .f32) (h : Fin 128) (hh : h.val < 6)
    (hx : xs (ValueIdx.ix2 0 h) = ∑ s : Fin 4096, if s.val < 512 * (t.val % 8) then logf (m ((c : Thread nD τ).loc main_arg1)) (m ((c : Thread nD τ).loc main_arg2)) (seq t) h s else 0) (p : Fin 512) :
    k0_pay4 (iblk m c 1 t) (iblk m c 2 t) (iblk m c 5 t) xs (ValueIdx.ix2 p h) = cum (m ((c : Thread nD τ).loc main_arg1)) (m ((c : Thread nD τ).loc main_arg2)) (seq t) h (512 * (t.val % 8) + p.val) := by
  have ho : 512 * (t.val % 8) + 512 ≤ 4096 := by omega
  refine (sums_apply (iblk m c 1 t) (iblk m c 2 t) (iblk m c 5 t) xs (blk_t m c t) p h fun s => ?_).trans ?_
  · rw [log_eq m c t h s ⟨512 * (t.val % 8) + s.val, by omega⟩ rfl]
    exact logf_fin H _ h hh _
  · refine Eq.trans (congrArg _ (Finset.sum_congr rfl fun s _ => ?_)) (cum_tile (seq t) h _ ho p _ hx)
    rw [log_eq m c t h s ⟨512 * (t.val % 8) + s.val, by omega⟩ rfl]

/-- What a first point's sums begin from. -/
theorem begin_first (c : Dev nD) (t : Fin cfg0.N) (h0 : t.val % 8 = 0) (h : Fin 128) :
    zero1 (ValueIdx.ix2 0 h) = ∑ s : Fin 4096, if s.val < 512 * (t.val % 8) then logf (m ((c : Thread nD τ).loc main_arg1)) (m ((c : Thread nD τ).loc main_arg2)) (seq t) h s else 0 := by
  rw [h0]
  exact before_none (seq t) h

/-- What a point keeps for the next is the sum up to its last token. -/
theorem kept_eq (c : Dev nD) (H : Gated (m ((c : Thread nD τ).loc main_arg1)) (m ((c : Thread nD τ).loc main_arg2))) (h : Fin 128) (hh : h.val < 6) : ∀ (n : ℕ) (t : Fin cfg0.N), t.val = n →
    (outsAt0 m c t.val t.isLt).2.2.2 (ValueIdx.ix2 0 h) = cum (m ((c : Thread nD τ).loc main_arg1)) (m ((c : Thread nD τ).loc main_arg2)) (seq t) h (512 * (t.val % 8) + 511) := by
  intro n
  induction n with
  | zero =>
    intro t ht
    have h0 : t.val % 8 = 0 := by omega
    rw [outsAt0_A m c t h0]
    exact (keep_first c (grid0.coords t) (iblk m c 0 t) (iblk m c 1 t) (iblk m c 2 t) (iblk m c 3 t) (iblk m c 4 t) (iblk m c 5 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) h).trans
      (sums_eq m c H t zero1 h hh (begin_first m c t h0 h) (511 : Fin 512))
  | succ n ih =>
    intro t ht
    by_cases h0 : t.val % 8 = 0
    · rw [outsAt0_A m c t h0]
      exact (keep_first c (grid0.coords t) (iblk m c 0 t) (iblk m c 1 t) (iblk m c 2 t) (iblk m c 3 t) (iblk m c 4 t) (iblk m c 5 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) h).trans
        (sums_eq m c H t zero1 h hh (begin_first m c t h0 h) (511 : Fin 512))
    · have hk := ih ⟨t.val - 1, Nat.lt_of_le_of_lt (Nat.sub_le _ _) t.isLt⟩ (by show t.val - 1 = n; omega)
      rw [outsAt0_B m c t h0]
      dsimp only at hk ⊢
      generalize (outsAt0 m c (t.val - 1) (Nat.lt_of_le_of_lt (Nat.sub_le _ _) t.isLt)).2.2.2 = xs at hk ⊢
      have e1 : seq ⟨t.val - 1, Nat.lt_of_le_of_lt (Nat.sub_le _ _) t.isLt⟩ = seq t := Fin.ext (by show (t.val - 1) / 8 = t.val / 8; omega)
      have e2 : 512 * ((t.val - 1) % 8) + 511 = 512 * (t.val % 8) - 1 := by omega
      rw [e1, e2] at hk
      exact (keep_later c (grid0.coords t) (iblk m c 0 t) (iblk m c 1 t) (iblk m c 2 t) (iblk m c 3 t) (iblk m c 4 t) (iblk m c 5 t) xs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) h).trans
        (sums_eq m c H t xs h hh (hk.trans (cum_before (seq t) h _ (by omega))) (511 : Fin 512))

/-- What a later point's sums begin from. -/
theorem begin_later (c : Dev nD) (H : Gated (m ((c : Thread nD τ).loc main_arg1)) (m ((c : Thread nD τ).loc main_arg2))) (t : Fin cfg0.N) (h0 : ¬t.val % 8 = 0) (h : Fin 128) (hh : h.val < 6) :
    (outsAt0 m c (t.val - 1) (Nat.lt_of_le_of_lt (Nat.sub_le _ _) t.isLt)).2.2.2 (ValueIdx.ix2 0 h) = ∑ s : Fin 4096, if s.val < 512 * (t.val % 8) then logf (m ((c : Thread nD τ).loc main_arg1)) (m ((c : Thread nD τ).loc main_arg2)) (seq t) h s else 0 := by
  have hk := kept_eq m c H h hh _ ⟨t.val - 1, Nat.lt_of_le_of_lt (Nat.sub_le _ _) t.isLt⟩ rfl
  dsimp only at hk
  have e1 : seq ⟨t.val - 1, Nat.lt_of_le_of_lt (Nat.sub_le _ _) t.isLt⟩ = seq t := Fin.ext (by show (t.val - 1) / 8 = t.val / 8; omega)
  have e2 : 512 * ((t.val - 1) % 8) + 511 = 512 * (t.val % 8) - 1 := by omega
  rw [e1, e2] at hk
  exact hk.trans (cum_before (seq t) h _ (by omega))

/-- A point's sums to base two are those of its tokens. -/
theorem base_eq (c : Dev nD) (H : Gated (m ((c : Thread nD τ).loc main_arg1)) (m ((c : Thread nD τ).loc main_arg2))) (t : Fin cfg0.N) (xs : Vec Ideal S1x128 .f32)
    (hx : ∀ h : Fin 128, h.val < 6 → xs (ValueIdx.ix2 0 h) = ∑ s : Fin 4096, if s.val < 512 * (t.val % 8) then logf (m ((c : Thread nD τ).loc main_arg1)) (m ((c : Thread nD τ).loc main_arg2)) (seq t) h s else 0) (h : Fin 6) (p : Fin 512) :
    sumB (k0_pay4 (iblk m c 1 t) (iblk m c 2 t) (iblk m c 5 t) xs) h p = cum2 (m ((c : Thread nD τ).loc main_arg1)) (m ((c : Thread nD τ).loc main_arg2)) (seq t) h (512 * (t.val % 8) + p.val) :=
  congrArg (fun e : EReal => e * Ideal.ofBits .f32 0x3FB8AA3B#32) (sums_eq m c H t xs ⟨h.val, by omega⟩ h.isLt (hx _ h.isLt) p)

theorem real_eq (c : Dev nD) (H : Gated (m ((c : Thread nD τ).loc main_arg1)) (m ((c : Thread nD τ).loc main_arg2))) (t : Fin cfg0.N) (xs : Vec Ideal S1x128 .f32)
    (hx : ∀ h : Fin 128, h.val < 6 → xs (ValueIdx.ix2 0 h) = ∑ s : Fin 4096, if s.val < 512 * (t.val % 8) then logf (m ((c : Thread nD τ).loc main_arg1)) (m ((c : Thread nD τ).loc main_arg2)) (seq t) h s else 0) :
    Real6 (k0_pay4 (iblk m c 1 t) (iblk m c 2 t) (iblk m c 5 t) xs) := fun h p => by
  rw [base_eq m c H t xs hx h p]
  exact cum2_fin H _ h _

theorem q_block (c : Dev nD) (H : Gated (m ((c : Thread nD τ).loc main_arg1)) (m ((c : Thread nD τ).loc main_arg2))) (t : Fin cfg0.N) (xs : Vec Ideal S1x128 .f32)
    (hx : ∀ h : Fin 128, h.val < 6 → xs (ValueIdx.ix2 0 h) = ∑ s : Fin 4096, if s.val < 512 * (t.val % 8) then logf (m ((c : Thread nD τ).loc main_arg1)) (m ((c : Thread nD τ).loc main_arg2)) (seq t) h s else 0)
    (h : Fin 6) (p : Fin 512) (l : Fin 128) (r : Fin 4096) (hr : r.val = 512 * (t.val % 8) + p.val) :
    qB (iblk m c 0 t) (iblk m c 3 t) (k0_pay4 (iblk m c 1 t) (iblk m c 2 t) (iblk m c 5 t) xs) (ValueIdx.ix4 0 h p l)
      = qOut (m ((c : Thread nD τ).loc main_arg0)) (m ((c : Thread nD τ).loc main_arg1)) (m ((c : Thread nD τ).loc main_arg2)) (m ((c : Thread nD τ).loc main_arg3)) (ValueIdx.ix4 (seq t) h r l) := by
  have e1 := head_eq m c t 0 (by omega) h p r hr
  have e2 : gain (iblk m c 3 t) h = gain (m ((c : Thread nD τ).loc main_arg3)) h := funext fun d => blk_gq m c t _
  have e3 := base_eq m c H t xs hx h p
  show qLane (nrm (headB (iblk m c 0 t) 0 (by omega) h p) (gain (iblk m c 3 t) h) (Ideal.ofBits .f32 0x3E38AA3B#32)) (sumB (k0_pay4 (iblk m c 1 t) (iblk m c 2 t) (iblk m c 5 t) xs) h p) l.val
    = qLane (nrm (head (m ((c : Thread nD τ).loc main_arg0)) 0 (by omega) (seq t) h r) (gain (m ((c : Thread nD τ).loc main_arg3)) h) (Ideal.ofBits .f32 0x3E38AA3B#32)) (cum2 (m ((c : Thread nD τ).loc main_arg1)) (m ((c : Thread nD τ).loc main_arg2)) (seq t) h r.val) l.val
  rw [e1, e2, e3, hr]

theorem q_left (c : Dev nD) (H : Gated (m ((c : Thread nD τ).loc main_arg1)) (m ((c : Thread nD τ).loc main_arg2))) (t : Fin cfg0.N) (h : Fin 6) (p : Fin 512) (l : Fin 128) (r : Fin 4096) (hr : r.val = 512 * (t.val % 8) + p.val) :
    (outsAt0 m c t.val t.isLt).1 (ValueIdx.ix4 0 h p l) = qOut (m ((c : Thread nD τ).loc main_arg0)) (m ((c : Thread nD τ).loc main_arg1)) (m ((c : Thread nD τ).loc main_arg2)) (m ((c : Thread nD τ).loc main_arg3)) (ValueIdx.ix4 (seq t) h r l) := by
  by_cases h0 : t.val % 8 = 0
  · rw [outsAt0_A m c t h0]
    dsimp only
    exact (q_out_first c (grid0.coords t) (iblk m c 0 t) (iblk m c 1 t) (iblk m c 2 t) (iblk m c 3 t) (iblk m c 4 t) (iblk m c 5 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0)
      (real_eq m c H t zero1 fun h _ => begin_first m c t h0 h) _).trans (q_block m c H t zero1 (fun h _ => begin_first m c t h0 h) h p l r hr)
  · rw [outsAt0_B m c t h0]
    have hx := begin_later m c H t h0
    dsimp only
    generalize (outsAt0 m c (t.val - 1) (Nat.lt_of_le_of_lt (Nat.sub_le _ _) t.isLt)).2.2.2 = xs at hx ⊢
    exact (q_out_later c (grid0.coords t) (iblk m c 0 t) (iblk m c 1 t) (iblk m c 2 t) (iblk m c 3 t) (iblk m c 4 t) (iblk m c 5 t) xs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))
      (real_eq m c H t xs hx) _).trans (q_block m c H t xs hx h p l r hr)

theorem k_block (c : Dev nD) (H : Gated (m ((c : Thread nD τ).loc main_arg1)) (m ((c : Thread nD τ).loc main_arg2))) (t : Fin cfg0.N) (xs : Vec Ideal S1x128 .f32)
    (hx : ∀ h : Fin 128, h.val < 6 → xs (ValueIdx.ix2 0 h) = ∑ s : Fin 4096, if s.val < 512 * (t.val % 8) then logf (m ((c : Thread nD τ).loc main_arg1)) (m ((c : Thread nD τ).loc main_arg2)) (seq t) h s else 0)
    (h : Fin 6) (p : Fin 512) (l : Fin 128) (r : Fin 4096) (hr : r.val = 512 * (t.val % 8) + p.val) :
    kB (iblk m c 0 t) (iblk m c 4 t) (k0_pay4 (iblk m c 1 t) (iblk m c 2 t) (iblk m c 5 t) xs) (ValueIdx.ix4 0 h p l)
      = kOut (m ((c : Thread nD τ).loc main_arg0)) (m ((c : Thread nD τ).loc main_arg1)) (m ((c : Thread nD τ).loc main_arg2)) (m ((c : Thread nD τ).loc main_arg4)) (ValueIdx.ix4 (seq t) h r l) := by
  have e1 := head_eq m c t 384 (by omega) h p r hr
  have e2 : gain (iblk m c 4 t) h = gain (m ((c : Thread nD τ).loc main_arg4)) h := funext fun d => blk_gk m c t _
  have e3 := base_eq m c H t xs hx h p
  show kLane (nrm (headB (iblk m c 0 t) 384 (by omega) h p) (gain (iblk m c 4 t) h) 1) (sumB (k0_pay4 (iblk m c 1 t) (iblk m c 2 t) (iblk m c 5 t) xs) h p) l.val
    = kLane (nrm (head (m ((c : Thread nD τ).loc main_arg0)) 384 (by omega) (seq t) h r) (gain (m ((c : Thread nD τ).loc main_arg4)) h) 1) (cum2 (m ((c : Thread nD τ).loc main_arg1)) (m ((c : Thread nD τ).loc main_arg2)) (seq t) h r.val) l.val
  rw [e1, e2, e3, hr]

theorem k_left (c : Dev nD) (H : Gated (m ((c : Thread nD τ).loc main_arg1)) (m ((c : Thread nD τ).loc main_arg2))) (t : Fin cfg0.N) (h : Fin 6) (p : Fin 512) (l : Fin 128) (r : Fin 4096) (hr : r.val = 512 * (t.val % 8) + p.val) :
    (outsAt0 m c t.val t.isLt).2.1 (ValueIdx.ix4 0 h p l) = kOut (m ((c : Thread nD τ).loc main_arg0)) (m ((c : Thread nD τ).loc main_arg1)) (m ((c : Thread nD τ).loc main_arg2)) (m ((c : Thread nD τ).loc main_arg4)) (ValueIdx.ix4 (seq t) h r l) := by
  by_cases h0 : t.val % 8 = 0
  · rw [outsAt0_A m c t h0]
    dsimp only
    exact (k_out_first c (grid0.coords t) (iblk m c 0 t) (iblk m c 1 t) (iblk m c 2 t) (iblk m c 3 t) (iblk m c 4 t) (iblk m c 5 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0)
      (real_eq m c H t zero1 fun h _ => begin_first m c t h0 h) _).trans (k_block m c H t zero1 (fun h _ => begin_first m c t h0 h) h p l r hr)
  · rw [outsAt0_B m c t h0]
    have hx := begin_later m c H t h0
    dsimp only
    generalize (outsAt0 m c (t.val - 1) (Nat.lt_of_le_of_lt (Nat.sub_le _ _) t.isLt)).2.2.2 = xs at hx ⊢
    exact (k_out_later c (grid0.coords t) (iblk m c 0 t) (iblk m c 1 t) (iblk m c 2 t) (iblk m c 3 t) (iblk m c 4 t) (iblk m c 5 t) xs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))
      (real_eq m c H t xs hx) _).trans (k_block m c H t xs hx h p l r hr)

theorem v_block (c : Dev nD) (t : Fin cfg0.N) (h : Fin 6) (l : Fin 80) (p : Fin 512) (r : Fin 4096) (hr : r.val = 512 * (t.val % 8) + p.val) :
    vB (iblk m c 0 t) (ValueIdx.ix4 0 h l p) = vOut (m ((c : Thread nD τ).loc main_arg0)) (ValueIdx.ix4 (seq t) h l r) := by
  have e1 := head_eq m c t 768 (by omega) h p r hr
  show vLane (headB (iblk m c 0 t) 768 (by omega) h p) l.val = vLane (head (m ((c : Thread nD τ).loc main_arg0)) 768 (by omega) (seq t) h r) l.val
  rw [e1]

theorem v_left (c : Dev nD) (t : Fin cfg0.N) (h : Fin 6) (l : Fin 80) (p : Fin 512) (r : Fin 4096) (hr : r.val = 512 * (t.val % 8) + p.val) :
    (outsAt0 m c t.val t.isLt).2.2.1 (ValueIdx.ix4 0 h l p) = vOut (m ((c : Thread nD τ).loc main_arg0)) (ValueIdx.ix4 (seq t) h l r) := by
  by_cases h0 : t.val % 8 = 0
  · rw [outsAt0_A m c t h0]
    dsimp only
    exact (v_out_first c (grid0.coords t) (iblk m c 0 t) (iblk m c 1 t) (iblk m c 2 t) (iblk m c 3 t) (iblk m c 4 t) (iblk m c 5 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) _).trans (v_block m c t h l p r hr)
  · rw [outsAt0_B m c t h0]
    dsimp only
    generalize (outsAt0 m c (t.val - 1) (Nat.lt_of_le_of_lt (Nat.sub_le _ _) t.isLt)).2.2.2 = xs
    exact (v_out_later c (grid0.coords t) (iblk m c 0 t) (iblk m c 1 t) (iblk m c 2 t) (iblk m c 3 t) (iblk m c 4 t) (iblk m c 5 t) xs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) _).trans (v_block m c t h l p r hr)

theorem arr6_eq (c : Dev nD) (H : Gated (m ((c : Thread nD τ).loc main_arg1)) (m ((c : Thread nD τ).loc main_arg2))) : (dats m 0 c).arrAt 6 cfg0.N = qOut (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  obtain ⟨z, h, p, l, rfl⟩ : ∃ (z : Fin 1) (h : Fin 6) (p : Fin 512) (l : Fin 128), y = ValueIdx.ix4 z h p l := ⟨y 0, y 1, y 2, y 3, ValueIdx.eq_ix4 y⟩
  obtain rfl : z = 0 := Subsingleton.elim _ _
  have e0 : (win0_6.blk t).view.emb (ValueIdx.ix4 0 h p l) 0 = seq t := Fin.ext (by
    refine (win0_6.rect_emb_val t _ 0 rfl).trans ?_
    show (BitVec.ofNat 32 (grid0.coords t 0).val).toNat * 1 + 0 = t.val / 8
    rw [word_nat _ (grid0.coords t 0).isLt, coord0]; omega)
  have e1 : (win0_6.blk t).view.emb (ValueIdx.ix4 0 h p l) 1 = h := Fin.ext (by
    refine (win0_6.rect_emb_val t _ 1 rfl).trans ?_
    show 0 * 6 + h.val = _
    omega)
  have e2 : ((win0_6.blk t).view.emb (ValueIdx.ix4 0 h p l) 2 : ℕ) = 512 * (t.val % 8) + p.val := by
    refine (win0_6.rect_emb_val t _ 2 rfl).trans ?_
    show (BitVec.ofNat 32 (grid0.coords t 1).val).toNat * 512 + p.val = _
    rw [word_nat _ (Nat.lt_of_lt_of_le (grid0.coords t 1).isLt (by decide)), coord1]; omega
  have e3 : (win0_6.blk t).view.emb (ValueIdx.ix4 0 h p l) 3 = l := Fin.ext (by
    refine (win0_6.rect_emb_val t _ 3 rfl).trans ?_
    show 0 * 128 + l.val = _
    omega)
  have e : (win0_6.blk t).view.emb (ValueIdx.ix4 0 h p l) = (ValueIdx.ix4 (seq t) h ((win0_6.blk t).view.emb (ValueIdx.ix4 0 h p l) 2) l) := by
    refine (ValueIdx.eq_ix4 _).trans ?_
    rw [e0, e1, e3]
    rfl
  show (dats m 0 c).after 6 t (ValueIdx.ix4 0 h p l) = qOut (m ((c : Thread nD τ).loc main_arg0)) (m ((c : Thread nD τ).loc main_arg1)) (m ((c : Thread nD τ).loc main_arg2)) (m ((c : Thread nD τ).loc main_arg3)) ((win0_6.blk t).view.emb (ValueIdx.ix4 0 h p l))
  rw [after0_6, e]
  exact q_left m c H t h p l _ e2

theorem arr7_eq (c : Dev nD) (H : Gated (m ((c : Thread nD τ).loc main_arg1)) (m ((c : Thread nD τ).loc main_arg2))) : (dats m 0 c).arrAt 7 cfg0.N = kOut (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  obtain ⟨z, h, p, l, rfl⟩ : ∃ (z : Fin 1) (h : Fin 6) (p : Fin 512) (l : Fin 128), y = ValueIdx.ix4 z h p l := ⟨y 0, y 1, y 2, y 3, ValueIdx.eq_ix4 y⟩
  obtain rfl : z = 0 := Subsingleton.elim _ _
  have e0 : (win0_7.blk t).view.emb (ValueIdx.ix4 0 h p l) 0 = seq t := Fin.ext (by
    refine (win0_7.rect_emb_val t _ 0 rfl).trans ?_
    show (BitVec.ofNat 32 (grid0.coords t 0).val).toNat * 1 + 0 = t.val / 8
    rw [word_nat _ (grid0.coords t 0).isLt, coord0]; omega)
  have e1 : (win0_7.blk t).view.emb (ValueIdx.ix4 0 h p l) 1 = h := Fin.ext (by
    refine (win0_7.rect_emb_val t _ 1 rfl).trans ?_
    show 0 * 6 + h.val = _
    omega)
  have e2 : ((win0_7.blk t).view.emb (ValueIdx.ix4 0 h p l) 2 : ℕ) = 512 * (t.val % 8) + p.val := by
    refine (win0_7.rect_emb_val t _ 2 rfl).trans ?_
    show (BitVec.ofNat 32 (grid0.coords t 1).val).toNat * 512 + p.val = _
    rw [word_nat _ (Nat.lt_of_lt_of_le (grid0.coords t 1).isLt (by decide)), coord1]; omega
  have e3 : (win0_7.blk t).view.emb (ValueIdx.ix4 0 h p l) 3 = l := Fin.ext (by
    refine (win0_7.rect_emb_val t _ 3 rfl).trans ?_
    show 0 * 128 + l.val = _
    omega)
  have e : (win0_7.blk t).view.emb (ValueIdx.ix4 0 h p l) = (ValueIdx.ix4 (seq t) h ((win0_7.blk t).view.emb (ValueIdx.ix4 0 h p l) 2) l) := by
    refine (ValueIdx.eq_ix4 _).trans ?_
    rw [e0, e1, e3]
    rfl
  show (dats m 0 c).after 7 t (ValueIdx.ix4 0 h p l) = kOut (m ((c : Thread nD τ).loc main_arg0)) (m ((c : Thread nD τ).loc main_arg1)) (m ((c : Thread nD τ).loc main_arg2)) (m ((c : Thread nD τ).loc main_arg4)) ((win0_7.blk t).view.emb (ValueIdx.ix4 0 h p l))
  rw [after0_7, e]
  exact k_left m c H t h p l _ e2

theorem arr8_eq (c : Dev nD) : (dats m 0 c).arrAt 8 cfg0.N = vOut (m ((c : Thread nD τ).loc main_arg0)) := by
  refine (dats m 0 c).arrAt_eq_of_covers 8 _ (by decide +kernel) fun t _ y => ?_
  obtain ⟨z, h, l, p, rfl⟩ : ∃ (z : Fin 1) (h : Fin 6) (l : Fin 80) (p : Fin 512), y = ValueIdx.ix4 z h l p := ⟨y 0, y 1, y 2, y 3, ValueIdx.eq_ix4 y⟩
  obtain rfl : z = 0 := Subsingleton.elim _ _
  have e0 : (win0_8.blk t).view.emb (ValueIdx.ix4 0 h l p) 0 = seq t := Fin.ext (by
    refine (win0_8.rect_emb_val t _ 0 rfl).trans ?_
    show (BitVec.ofNat 32 (grid0.coords t 0).val).toNat * 1 + 0 = t.val / 8
    rw [word_nat _ (grid0.coords t 0).isLt, coord0]; omega)
  have e1 : (win0_8.blk t).view.emb (ValueIdx.ix4 0 h l p) 1 = h := Fin.ext (by
    refine (win0_8.rect_emb_val t _ 1 rfl).trans ?_
    show 0 * 6 + h.val = _
    omega)
  have e2 : (win0_8.blk t).view.emb (ValueIdx.ix4 0 h l p) 2 = l := Fin.ext (by
    refine (win0_8.rect_emb_val t _ 2 rfl).trans ?_
    show 0 * 80 + l.val = _
    omega)
  have e3 : ((win0_8.blk t).view.emb (ValueIdx.ix4 0 h l p) 3 : ℕ) = 512 * (t.val % 8) + p.val := by
    refine (win0_8.rect_emb_val t _ 3 rfl).trans ?_
    show (BitVec.ofNat 32 (grid0.coords t 1).val).toNat * 512 + p.val = _
    rw [word_nat _ (Nat.lt_of_lt_of_le (grid0.coords t 1).isLt (by decide)), coord1]; omega
  have e : (win0_8.blk t).view.emb (ValueIdx.ix4 0 h l p) = (ValueIdx.ix4 (seq t) h l ((win0_8.blk t).view.emb (ValueIdx.ix4 0 h l p) 3)) := by
    refine (ValueIdx.eq_ix4 _).trans ?_
    rw [e0, e1, e2]
    rfl
  show (dats m 0 c).after 8 t (ValueIdx.ix4 0 h l p) = vOut (m ((c : Thread nD τ).loc main_arg0)) ((win0_8.blk t).view.emb (ValueIdx.ix4 0 h l p))
  rw [after0_8, e]
  exact v_left m c t h l p _ e3

/-- The run of the kernel: the queries, keys and values of the heads, and the arguments unchanged. -/
theorem run_value (H : ∀ c : Dev nD, Gated (m ((c.tc : Thread nD τ).loc main_arg1)) (m ((c.tc : Thread nD τ).loc main_arg2))) : θ_run defs (onTc (τ := τ) (main (F := Ideal))) ⟨m, fun _ => 0, ρ⟩ (fun r => ∀ c : Dev nD,
      r.2.mem ((c.tc : Thread nD τ).loc main_v3_0) = qOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v3_1) = kOut (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v3_2) = vOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 6).trans (arr6_eq m c (H c)), ((h c).1 7).trans (arr7_eq m c (H c)), ((h c).1 8).trans (arr8_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.FoxPrepIdeal.Gates

end
-- ==== Proof.FoxPrepRefIdeal.Value.lean ====
module

public import proofs.«01_k».proof.Proof.Gen.FoxPrepRefIdeal.Read
public import proofs.«01_k».proof.Proof.Gen.Pre_finite_gates
public import proofs.«01_k».proof.Proof.Rows.Gates
public import proofs.«01_k».proof.Proof.Rows.Words
public import proofs.«01_k».proof.Proof.Fox.Pre
public import Idealize.ShloMosaic.Lib.IdealHost
public import Idealize.ShloMosaic.Lib.ReduceAll
public import Idealize.ShloMosaic.Lib.KernelVsHost
public import Idealize.ShloMosaic.Lib.Quiescent

@[expose] public section

noncomputable section

namespace Cert.FoxPrepRefIdeal.Lanes

open Cert.FoxPrepRefIdeal Cert.FoxPrepRefIdeal.Gen Cert.FoxPrepRefIdeal.Read Cert.Gates Cert.Taps Idealize.ShloMosaic Idealize.SL.Sem
open scoped BigOperators

variable {qkv : (⟨3, ![16, 4096, 1152]⟩ : Shape).Idx → EReal} {ff : (⟨3, ![16, 4096, 128]⟩ : Shape).Idx → EReal}
  {fb : (⟨2, ![1, 128]⟩ : Shape).Idx → EReal} {gq gk : (⟨2, ![1, 384]⟩ : Shape).Idx → EReal}

/-- What the precondition says: the logits and the bias of the six heads are real. -/
theorem pre_read (h : Cert.Pre_finite_gates.fn (F := Ideal) qkv ff fb gq gk = fun _ => 1#1) : Gated ff fb := by
  have h0 := congrFun h (fun a => a.elim0)
  unfold Cert.Pre_finite_gates.fn at h0
  obtain ⟨hf, hb⟩ := IntOp.andi_eq_one.mp h0
  refine ⟨fun b s n hn => ?_, fun n hn => ?_⟩
  · have e : extractStridedSlice Cert.Pre_finite_gates.S16x4096x6 ![0, 0, 0] ff Cert.Pre_finite_gates.Facts.slices_S16x4096x128_S16x4096x6_0_0_0 (ValueIdx.ix3 b s (⟨n.val, hn⟩ : Fin 6)) = ff (ValueIdx.ix3 b s n) :=
      extractStridedSlice_apply _ ff _ _ _ (fun a => match a with
        | ⟨0, _⟩ => by show b.val = 0 + b.val; omega
        | ⟨1, _⟩ => by show s.val = 0 + s.val; omega
        | ⟨2, _⟩ => by show n.val = 0 + n.val; omega)
    rw [← e]
    exact Fox.real_of_abs (Host.reduce_andi_all _ _ _ _ _ hf (ValueIdx.ix3 b s (⟨n.val, hn⟩ : Fin 6)))
  · have e : extractStridedSlice Cert.Pre_finite_gates.S1x6 ![0, 0] fb Cert.Pre_finite_gates.Facts.slices_S1x128_S1x6_0_0 (ValueIdx.ix2 (0 : Fin 1) (⟨n.val, hn⟩ : Fin 6)) = fb (ValueIdx.ix2 0 n) :=
      extractStridedSlice_apply _ fb _ _ _ (fun a => match a with
        | ⟨0, _⟩ => rfl
        | ⟨1, _⟩ => by show n.val = 0 + n.val; omega)
    rw [← e]
    exact Fox.real_of_abs (Host.reduce_andi_all _ _ _ _ _ hb (ValueIdx.ix2 (0 : Fin 1) (⟨n.val, hn⟩ : Fin 6)))

variable (qkv ff fb gq gk)

theorem q_head (b : Fin 16) (h : Fin 6) (t : Fin 4096) (d : Fin 64) : val_main_v5 (F := Ideal) qkv (ValueIdx.ix4 b h t d) = head qkv 0 (by omega) b h t d := by
  rw [val_main_v5_apply, val_main_v4_apply, val_main_v1_apply, val_main_v0_apply]
  refine congrArg qkv (funext fun a => Fin.ext ?_)
  have hb := b.isLt
  have hh := h.isLt
  have ht := t.isLt
  have hd := d.isLt
  match a with
  | ⟨0, _⟩ => show (((b.val * 4096 + t.val) * 6 + h.val) * 64 + d.val) / 1572864 = b.val; omega
  | ⟨1, _⟩ => show (((b.val * 4096 + t.val) * 6 + h.val) * 64 + d.val) / 384 % 4096 = t.val; omega
  | ⟨2, _⟩ => show (((b.val * 4096 + t.val) * 6 + h.val) * 64 + d.val) % 384 = 0 + 64 * h.val + d.val; omega

theorem k_head (b : Fin 16) (h : Fin 6) (t : Fin 4096) (d : Fin 64) : val_main_v7 (F := Ideal) qkv (ValueIdx.ix4 b h t d) = head qkv 384 (by omega) b h t d := by
  rw [val_main_v7_apply, val_main_v6_apply, val_main_v2_apply, val_main_v0_apply]
  refine congrArg qkv (funext fun a => Fin.ext ?_)
  have hb := b.isLt
  have hh := h.isLt
  have ht := t.isLt
  have hd := d.isLt
  match a with
  | ⟨0, _⟩ => show (((b.val * 4096 + t.val) * 6 + h.val) * 64 + d.val) / 1572864 = b.val; omega
  | ⟨1, _⟩ => show (((b.val * 4096 + t.val) * 6 + h.val) * 64 + d.val) / 384 % 4096 = t.val; omega
  | ⟨2, _⟩ => show 384 + (((b.val * 4096 + t.val) * 6 + h.val) * 64 + d.val) % 384 = 384 + 64 * h.val + d.val; omega

theorem v_head (b : Fin 16) (h : Fin 6) (t : Fin 4096) (d : Fin 64) : val_main_v9 (F := Ideal) qkv (ValueIdx.ix4 b h t d) = head qkv 768 (by omega) b h t d := by
  rw [val_main_v9_apply, val_main_v8_apply, val_main_v3_apply, val_main_v0_apply]
  refine congrArg qkv (funext fun a => Fin.ext ?_)
  have hb := b.isLt
  have hh := h.isLt
  have ht := t.isLt
  have hd := d.isLt
  match a with
  | ⟨0, _⟩ => show (((b.val * 4096 + t.val) * 6 + h.val) * 64 + d.val) / 1572864 = b.val; omega
  | ⟨1, _⟩ => show (((b.val * 4096 + t.val) * 6 + h.val) * 64 + d.val) / 384 % 4096 = t.val; omega
  | ⟨2, _⟩ => show 768 + (((b.val * 4096 + t.val) * 6 + h.val) * 64 + d.val) % 384 = 768 + 64 * h.val + d.val; omega

/-- A normed entry of a head. -/
theorem q_norm (b : Fin 16) (h : Fin 6) (t : Fin 4096) (d : Fin 64) :
    val_main_v25 (F := Ideal) qkv gq (ValueIdx.ix4 b h t d) = nrm (head qkv 0 (by omega) b h t) (gain gq h) (Ideal.ofBits .f32 0x3E38AA3B#32) d := by
  have hs : ∀ k : Fin 64, val_main_v11 (F := Ideal) qkv (idx_main_v12 (idx_main_v13 (idx_main_v19 (ValueIdx.ix4 b h t d))) k) = head qkv 0 (by omega) b h t k * head qkv 0 (by omega) b h t k := fun k => by
    rw [show idx_main_v12 (idx_main_v13 (idx_main_v19 (ValueIdx.ix4 b h t d))) k = ValueIdx.ix4 b h t k from ValueIdx.eq_ix4 _, val_main_v11_apply, q_head]
    rfl
  have hg : idx_main_v10 (idx_main_v21 (idx_main_v22 (ValueIdx.ix4 b h t d))) = ValueIdx.ix2 0 ⟨64 * h.val + d.val, by omega⟩ := by
    have hh := h.isLt
    have hd := d.isLt
    refine (ValueIdx.eq_ix2 _).trans (congrArg₂ (fun (x : Fin 1) (y : Fin 384) => ValueIdx.ix2 x y) rfl (Fin.ext ?_))
    show ((h.val * 1 + 0) * 64 + d.val) % 384 = 64 * h.val + d.val
    omega
  rw [val_main_v25_apply, val_main_v24_apply, val_main_cst_2_apply, val_main_v23_apply, val_main_v22_apply, val_main_v21_apply, val_main_v10_apply, hg, val_main_v20_apply, val_main_v19_apply, val_main_v18_apply, val_main_v17_apply,
    val_main_v16_apply, val_main_cst_1_apply, val_main_v15_apply, val_main_v14_apply, val_main_cst_0_apply, val_main_v13_apply, val_main_v12_apply, val_main_cst_apply, q_head]
  simp only [hs]
  show head qkv 0 _ b h t d * Ideal.rsqrt (Ideal.div (Ideal.ofBits .f32 0x00000000#32 + ∑ k : Fin 64, head qkv 0 _ b h t k * head qkv 0 _ b h t k) (Ideal.ofBits .f32 0x42800000#32) + Ideal.ofBits .f32 0x358637BD#32)
    * gain gq h d * Ideal.ofBits .f32 0x3E38AA3B#32 = _
  rw [Ideal.ofBits_zero_f32, zero_add]
  unfold nrm
  exact mul_assoc _ _ _

/-- A normed entry of a head. -/
theorem k_norm (b : Fin 16) (h : Fin 6) (t : Fin 4096) (d : Fin 64) :
    val_main_v39 (F := Ideal) qkv gk (ValueIdx.ix4 b h t d) = nrm (head qkv 384 (by omega) b h t) (gain gk h) 1 d := by
  have hs : ∀ k : Fin 64, val_main_v27 (F := Ideal) qkv (idx_main_v28 (idx_main_v29 (idx_main_v35 (ValueIdx.ix4 b h t d))) k) = head qkv 384 (by omega) b h t k * head qkv 384 (by omega) b h t k := fun k => by
    rw [show idx_main_v28 (idx_main_v29 (idx_main_v35 (ValueIdx.ix4 b h t d))) k = ValueIdx.ix4 b h t k from ValueIdx.eq_ix4 _, val_main_v27_apply, k_head]
    rfl
  have hg : idx_main_v26 (idx_main_v37 (idx_main_v38 (ValueIdx.ix4 b h t d))) = ValueIdx.ix2 0 ⟨64 * h.val + d.val, by omega⟩ := by
    have hh := h.isLt
    have hd := d.isLt
    refine (ValueIdx.eq_ix2 _).trans (congrArg₂ (fun (x : Fin 1) (y : Fin 384) => ValueIdx.ix2 x y) rfl (Fin.ext ?_))
    show ((h.val * 1 + 0) * 64 + d.val) % 384 = 64 * h.val + d.val
    omega
  rw [val_main_v39_apply, val_main_v38_apply, val_main_v37_apply, val_main_v26_apply, hg, val_main_v36_apply, val_main_v35_apply, val_main_v34_apply, val_main_v33_apply,
    val_main_v32_apply, val_main_cst_5_apply, val_main_v31_apply, val_main_v30_apply, val_main_cst_4_apply, val_main_v29_apply, val_main_v28_apply, val_main_cst_3_apply, k_head]
  simp only [hs]
  show head qkv 384 _ b h t d * Ideal.rsqrt (Ideal.div (Ideal.ofBits .f32 0x00000000#32 + ∑ k : Fin 64, head qkv 384 _ b h t k * head qkv 384 _ b h t k) (Ideal.ofBits .f32 0x42800000#32) + Ideal.ofBits .f32 0x358637BD#32)
    * gain gk h d = _
  rw [Ideal.ofBits_zero_f32, zero_add]
  unfold nrm
  rw [mul_one]

variable {ff fb}

/-- The log of a token's forget gate. -/
theorem log_read (H : Gated ff fb) (b : Fin 16) (s : Fin 4096) (h : Fin 6) :
    val_main_v46 (F := Ideal) ff fb (ValueIdx.ix3 b s h) = logf ff fb b ⟨h.val, by omega⟩ s := by
  have ex : val_main_v45 (F := Ideal) ff fb (ValueIdx.ix3 b s h) = ff (ValueIdx.ix3 b s ⟨h.val, by omega⟩) + fb (ValueIdx.ix2 0 ⟨h.val, by omega⟩) := by
    rw [val_main_v45_apply, val_main_v40_apply, val_main_v44_apply, val_main_v43_apply, val_main_v42_apply, val_main_v41_apply]
    refine congrArg₂ (fun x y : EReal => x + y) (congrArg ff (ValueIdx.eq_ix3 _)) (congrArg fb ?_)
    refine (ValueIdx.eq_ix2 _).trans (congrArg₂ (fun (x : Fin 1) (y : Fin 128) => ValueIdx.ix2 x y) rfl (Fin.ext ?_))
    exact Nat.mod_eq_of_lt h.isLt
  have e4 : val_main_call0_call0_v4 (F := Ideal) ff fb (ValueIdx.ix3 b s h) = 0#1 := by
    rw [val_main_call0_call0_v4_apply]
    generalize val_main_call0_call0_v3 (F := Ideal) ff fb (ValueIdx.ix3 b s h) = y
    show Ideal.cmp .une y y = 0#1
    simp [Ideal.cmp]
  rw [val_main_v46_apply, val_main_call0_v1_apply, e4]
  refine Eq.trans (congrArg (fun e : EReal => -e) (if_neg (by decide))) ?_
  rw [val_main_call0_call0_v11_apply, val_main_call0_call0_v1_apply, val_main_call0_call0_v0_apply, val_main_call0_call0_v10_apply, val_main_call0_call0_v9_apply, val_main_call0_call0_v8_apply, val_main_call0_call0_v7_apply, val_main_call0_call0_v3_apply, val_main_call0_call0_v2_apply,
    val_main_call0_call0_cst_apply, val_main_call0_v0_apply, ex]
  show -(max (-(ff (ValueIdx.ix3 b s ⟨h.val, by omega⟩) + fb (ValueIdx.ix2 0 ⟨h.val, by omega⟩))) (Ideal.ofBits .f32 0x00000000#32)
    + Ideal.log1p (Ideal.exp (-(max (-(ff (ValueIdx.ix3 b s ⟨h.val, by omega⟩) + fb (ValueIdx.ix2 0 ⟨h.val, by omega⟩)) - Ideal.ofBits .f32 0x00000000#32)
      (-(-(ff (ValueIdx.ix3 b s ⟨h.val, by omega⟩) + fb (ValueIdx.ix2 0 ⟨h.val, by omega⟩)) - Ideal.ofBits .f32 0x00000000#32)))))) = _
  rw [Ideal.ofBits_zero_f32]
  exact lsig_soft ((H.1 b s _ h.isLt).add (H.2 _ h.isLt))

/-- The sum up to a token, to base two. -/
theorem cum_read (H : Gated ff fb) (b : Fin 16) (h : Fin 6) (t : Fin 4096) :
    val_main_v60 (F := Ideal) ff fb (ValueIdx.ix4 b h t 0) = cum2 ff fb b h t.val := by
  have hs : ∀ k : Fin 4096, val_main_v56 (F := Ideal) ff fb (idx_main_v57 (idx_main_v58 (ValueIdx.ix4 b h t 0)) k) = if k.val ≤ t.val then logf ff fb b ⟨h.val, by omega⟩ k else 0 := fun k => by
    rw [show idx_main_v57 (idx_main_v58 (ValueIdx.ix4 b h t 0)) k = ValueIdx.ix4 b h t k from ValueIdx.eq_ix4 _, val_main_v56_apply, val_main_call1_v1_apply, val_main_v54_apply,
      val_main_v52_apply, val_main_v49_apply, val_main_v48_apply, val_main_v53_apply, val_main_v51_apply, val_main_v50_apply, val_main_call1_v2_apply, val_main_v55_apply, val_main_v47_apply,
      val_main_call1_v3_apply, val_main_call1_v0_apply, val_main_cst_6_apply,
      show idx_main_v47 (idx_main_v55 (idx_main_call1_v2 (ValueIdx.ix4 b h t k))) = ValueIdx.ix3 b k h from ValueIdx.eq_ix3 _, log_read H]
    refine (Cert.Gates.pick t.val k.val t.isLt k.isLt _ _).trans ?_
    show (if k.val ≤ t.val then logf ff fb b ⟨h.val, by omega⟩ k else Ideal.ofBits .f32 0x00000000#32) = _
    rw [Ideal.ofBits_zero_f32]
  rw [val_main_v60_apply, val_main_v59_apply, val_main_cst_8_apply, val_main_v58_apply, val_main_v57_apply, val_main_cst_7_apply]
  simp only [hs]
  show (Ideal.ofBits .f32 0x00000000#32 + ∑ k : Fin 4096, if k.val ≤ t.val then logf ff fb b ⟨h.val, by omega⟩ k else 0) * Ideal.ofBits .f32 0x3FB8AA3B#32 = _
  rw [Ideal.ofBits_zero_f32, zero_add]
  rfl

theorem lane_off {W L : ℕ} (b : Fin 16) (h : Fin 6) (t : Fin 4096) (l : Fin L) (k : Fin W) (a : Fin 4) (ha : a ≠ (3 : Fin 4)) :
    (ValueIdx.ix4 b h t k a).val = (ValueIdx.ix4 b h t l a).val :=
  match a with
  | ⟨0, _⟩ => rfl
  | ⟨1, _⟩ => rfl
  | ⟨2, _⟩ => rfl
  | ⟨3, _⟩ => absurd rfl ha

theorem q_read (H : Gated ff fb) : val_main_v73 (F := Ideal) qkv ff fb gq = qOut qkv ff fb gq := by
  funext i
  obtain ⟨b, h, t, l, rfl⟩ : ∃ (b : Fin 16) (h : Fin 6) (t : Fin 4096) (l : Fin 128), i = ValueIdx.ix4 b h t l := ⟨i 0, i 1, i 2, i 3, ValueIdx.eq_ix4 i⟩
  have hl128 := l.isLt
  show val_main_v64 (F := Ideal) qkv ff fb gq (ValueIdx.ix4 b h t l) = qLane (nrm (head qkv 0 (by omega) b h t) (gain gq h) (Ideal.ofBits .f32 0x3E38AA3B#32)) (cum2 ff fb b h t.val) l.val
  unfold val_main_v64 qLane
  rcases (by omega : l.val < 64 ∨ l.val = 64 ∨ (64 < l.val ∧ l.val < 67) ∨ (67 ≤ l.val ∧ l.val < 70) ∨ 70 ≤ l.val) with hl | hl | hl | hl | hl
  · rw [dif_pos hl]
    exact (concatenate_apply_piece 3 _ _ (ValueIdx.ix4 b h t l) 0 (by simp) S16x6x4096x64 _ rfl rfl 0 rfl (ValueIdx.ix4 b h t ⟨l.val, hl⟩) (lane_off b h t l _) (Nat.zero_add _)).trans (q_norm qkv gq b h t ⟨l.val, hl⟩)
  · rw [dif_neg (by omega), if_pos hl]
    refine (concatenate_apply_piece 3 _ _ (ValueIdx.ix4 b h t l) 1 (by simp) S16x6x4096x1 _ rfl rfl 64 rfl (ValueIdx.ix4 b h t ⟨l.val - 64, by omega⟩) (lane_off b h t l _) (by show 64 + (l.val - 64) = l.val; omega)).trans ?_
    rw [show (⟨l.val - 64, by omega⟩ : Fin 1) = 0 from Subsingleton.elim _ _]
    exact cum_read H b h t
  · rw [dif_neg (by omega), if_neg (by omega), if_neg (by omega)]
    refine (concatenate_apply_piece 3 _ _ (ValueIdx.ix4 b h t l) 2 (by simp) S16x6x4096x2 _ rfl rfl 65 rfl (ValueIdx.ix4 b h t ⟨l.val - 65, by omega⟩) (lane_off b h t l _) (by show 65 + (l.val - 65) = l.val; omega)).trans ?_
    rw [val_main_v61_apply, val_main_cst_9_apply]
    exact Ideal.ofBits_zero_f32
  · rw [dif_neg (by omega), if_neg (by omega), if_pos hl]
    refine (concatenate_apply_piece 3 _ _ (ValueIdx.ix4 b h t l) 3 (by simp) S16x6x4096x3 _ rfl rfl 67 rfl (ValueIdx.ix4 b h t ⟨l.val - 67, by omega⟩) (lane_off b h t l _) (by show 67 + (l.val - 67) = l.val; omega)).trans ?_
    rw [val_main_v62_apply, val_main_cst_10_apply]
    exact Ideal.ofBits_one_f32
  · rw [dif_neg (by omega), if_neg (by omega), if_neg (by omega)]
    refine (concatenate_apply_piece 3 _ _ (ValueIdx.ix4 b h t l) 4 (by simp) S16x6x4096x58 _ rfl rfl 70 rfl (ValueIdx.ix4 b h t ⟨l.val - 70, by omega⟩) (lane_off b h t l _) (by show 70 + (l.val - 70) = l.val; omega)).trans ?_
    rw [val_main_v63_apply, val_main_cst_11_apply]
    exact Ideal.ofBits_zero_f32

theorem k_read (H : Gated ff fb) : val_main_v74 (F := Ideal) qkv ff fb gk = kOut qkv ff fb gk := by
  funext i
  obtain ⟨b, h, t, l, rfl⟩ : ∃ (b : Fin 16) (h : Fin 6) (t : Fin 4096) (l : Fin 128), i = ValueIdx.ix4 b h t l := ⟨i 0, i 1, i 2, i 3, ValueIdx.eq_ix4 i⟩
  have hl128 := l.isLt
  show val_main_v68 (F := Ideal) qkv ff fb gk (ValueIdx.ix4 b h t l) = kLane (nrm (head qkv 384 (by omega) b h t) (gain gk h) 1) (cum2 ff fb b h t.val) l.val
  unfold val_main_v68 kLane
  rcases (by omega : l.val < 64 ∨ (64 ≤ l.val ∧ l.val < 67) ∨ l.val = 67 ∨ 68 ≤ l.val) with hl | hl | hl | hl
  · rw [dif_pos hl]
    exact (concatenate_apply_piece 3 _ _ (ValueIdx.ix4 b h t l) 0 (by simp) S16x6x4096x64 _ rfl rfl 0 rfl (ValueIdx.ix4 b h t ⟨l.val, hl⟩) (lane_off b h t l _) (Nat.zero_add _)).trans (k_norm qkv gk b h t ⟨l.val, hl⟩)
  · rw [dif_neg (by omega), if_pos hl.2]
    refine (concatenate_apply_piece 3 _ _ (ValueIdx.ix4 b h t l) 1 (by simp) S16x6x4096x3 _ rfl rfl 64 rfl (ValueIdx.ix4 b h t ⟨l.val - 64, by omega⟩) (lane_off b h t l _) (by show 64 + (l.val - 64) = l.val; omega)).trans ?_
    rw [val_main_v65_apply, val_main_cst_12_apply]
    exact Ideal.ofBits_one_f32
  · rw [dif_neg (by omega), if_neg (by omega), if_pos hl]
    refine (concatenate_apply_piece 3 _ _ (ValueIdx.ix4 b h t l) 2 (by simp) S16x6x4096x1 _ rfl rfl 67 rfl (ValueIdx.ix4 b h t ⟨l.val - 67, by omega⟩) (lane_off b h t l _) (by show 67 + (l.val - 67) = l.val; omega)).trans ?_
    rw [show (⟨l.val - 67, by omega⟩ : Fin 1) = 0 from Subsingleton.elim _ _, val_main_v66_apply, cum_read H b h t]
    rfl
  · rw [dif_neg (by omega), if_neg (by omega), if_neg (by omega)]
    refine (concatenate_apply_piece 3 _ _ (ValueIdx.ix4 b h t l) 3 (by simp) S16x6x4096x60 _ rfl rfl 68 rfl (ValueIdx.ix4 b h t ⟨l.val - 68, by omega⟩) (lane_off b h t l _) (by show 68 + (l.val - 68) = l.val; omega)).trans ?_
    rw [val_main_v67_apply, val_main_cst_13_apply]
    exact Ideal.ofBits_zero_f32

theorem v_read : val_main_v75 (F := Ideal) qkv = vOut qkv := by
  funext i
  obtain ⟨b, h, l, t, rfl⟩ : ∃ (b : Fin 16) (h : Fin 6) (l : Fin 80) (t : Fin 4096), i = ValueIdx.ix4 b h l t := ⟨i 0, i 1, i 2, i 3, ValueIdx.eq_ix4 i⟩
  have hl80 := l.isLt
  show val_main_v72 (F := Ideal) qkv (ValueIdx.ix4 b h l t) = vLane (head qkv 768 (by omega) b h t) l.val
  rw [val_main_v72_apply, show idx_main_v72 (ValueIdx.ix4 b h l t) = ValueIdx.ix4 b h t l from ValueIdx.eq_ix4 _]
  unfold val_main_v71 vLane
  rcases (by omega : l.val < 64 ∨ l.val = 64 ∨ 65 ≤ l.val) with hl | hl | hl
  · rw [dif_pos hl]
    exact (concatenate_apply_piece 3 _ _ (ValueIdx.ix4 b h t l) 0 (by simp) S16x6x4096x64 _ rfl rfl 0 rfl (ValueIdx.ix4 b h t ⟨l.val, hl⟩) (lane_off b h t l _) (Nat.zero_add _)).trans (v_head qkv b h t ⟨l.val, hl⟩)
  · rw [dif_neg (by omega), if_pos hl]
    refine (concatenate_apply_piece 3 _ _ (ValueIdx.ix4 b h t l) 1 (by simp) S16x6x4096x1 _ rfl rfl 64 rfl (ValueIdx.ix4 b h t ⟨l.val - 64, by omega⟩) (lane_off b h t l _) (by show 64 + (l.val - 64) = l.val; omega)).trans ?_
    rw [val_main_v69_apply, val_main_cst_14_apply]
    exact Ideal.ofBits_one_f32
  · rw [dif_neg (by omega), if_neg (by omega)]
    refine (concatenate_apply_piece 3 _ _ (ValueIdx.ix4 b h t l) 2 (by simp) S16x6x4096x15 _ rfl rfl 65 rfl (ValueIdx.ix4 b h t ⟨l.val - 65, by omega⟩) (lane_off b h t l _) (by show 65 + (l.val - 65) = l.val; omega)).trans ?_
    rw [val_main_v70_apply, val_main_cst_15_apply]
    exact Ideal.ofBits_zero_f32

/-- The reference runs, keeps its arguments, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems (by decide) r.2⟩) (Value.run m ρ)

end Cert.FoxPrepRefIdeal.Lanes

end
-- ==== Proof.MergeIdeal.Value.lean ====
module

public import proofs.«01_k».proof.Proof.Gen.MergeIdeal.Frame
public import proofs.«01_k».proof.Proof.Rows.Gated
public import Idealize.ShloMosaic.Lib.Pipeline.ValueKit

@[expose] public section

set_option maxRecDepth 16384

noncomputable section

namespace Cert.MergeIdeal.Gated

open Idealize.ShloMosaic Idealize.ShloMosaic.TcCoe Idealize.SL.Sem
open Cert.MergeIdeal Cert.MergeIdeal.Gen Cert.Gated
open scoped BigOperators

/-- The gates' logits of one branch, through the hyperbolic tangent. -/
theorem gate_apply (gl : Vec Ideal S512x3072 .bf16) (gb : Vec Ideal S1x3072 .f32) (b : Fin 3) (inb) (inb') (hb) (p : Fin 512) (n : Fin 1024) :
    tanh (F := Ideal) (addf (extf .f32 (View.ld gl (Rect.unit (s := S512x3072) ![0, 1024 * b.val] S512x1024.size inb) : Vec Ideal S512x1024 .bf16) bitsLt_bf16_f32)
      (broadcastTo S512x1024 (View.ld gb (Rect.unit (s := S1x3072) ![0, 1024 * b.val] S1x1024.size inb') : Vec Ideal S1x1024 .f32) hb)) (ValueIdx.ix2 p n)
      = Ideal.tanh (zAt gl gb b p n) := by
  show Ideal.tanh (gl _ + broadcastTo S512x1024 _ hb (ValueIdx.ix2 p n)) = _
  rw [ValueIdx.broadcastTo_1b_ab_apply]
  unfold zAt
  refine congrArg₂ (fun u v : EReal => Ideal.tanh (u + v)) (congrArg gl (funext fun a => Fin.ext ?_)) (congrArg gb (funext fun a => Fin.ext ?_))
  · match a with
    | ⟨0, _⟩ => show 0 + 1 * p.val = p.val; omega
    | ⟨1, _⟩ => show 1024 * b.val + 1 * n.val = 1024 * b.val + n.val; omega
  · match a with
    | ⟨0, _⟩ => rfl
    | ⟨1, _⟩ => show 1024 * b.val + 1 * n.val = 1024 * b.val + n.val; omega

section
variable (ya : Vec Ideal S512x384 .bf16) (yb : Vec Ideal S512x512 .bf16) (yc : Vec Ideal S512x256 .bf16) (gl : Vec Ideal S512x3072 .bf16)
  (gb : Vec Ideal S1x3072 .f32) (x : Vec Ideal S512x1024 .f32) (wa : Vec Ideal S384x1024 .bf16) (wb : Vec Ideal S512x1024 .bf16)
  (wc : Vec Ideal S256x1024 .bf16) (wo : Vec Ideal S1024x1024 .bf16) (gn : Vec Ideal S1x1024 .f32)

/-- A load of a whole block. -/
theorem zero_ld {a b : ℕ} {e : EltTy} (v : Vec Ideal ⟨2, ![a, b]⟩ e) (inb) :
    View.ld v (Rect.unit (s := ⟨2, ![a, b]⟩) ![0, 0] (⟨2, ![a, b]⟩ : Shape).size inb) = v :=
  View.ld_unit_zero (by funext x; match x with | ⟨0, _⟩ => rfl | ⟨1, _⟩ => rfl) inb v

/-- The merge of the first two branches. -/
theorem pair_apply (p : Fin 512) (n : Fin 1024) :
    k0_pay6 ya yb yc gl gb x wa wb wc wo gn (ValueIdx.ix2 p n)
      = (part (zAt gl gb 0 p n) (prod ya wa p n) + part (zAt gl gb 1 p n) (prod yb wb p n) : EReal) := by
  unfold k0_pay6
  rw [zero_ld ya, zero_ld yb, zero_ld wa, zero_ld wb]
  unfold k0_pay3 part
  refine congrArg₂ (fun u v : EReal => u + v) ?_ ?_
  · refine congrArg₂ (fun u v : EReal => u * v + v) (gate_apply gl gb 0 _ _ _ p n) (Rows.dot_apply (φ₁ := .bf16) (φ₂ := .bf16) ya wa p n)
  · refine congrArg₂ (fun u v : EReal => u * v + v) (gate_apply gl gb 1 _ _ _ p n) (Rows.dot_apply (φ₁ := .bf16) (φ₂ := .bf16) yb wb p n)

/-- The projection of the third branch. -/
theorem third_apply (p : Fin 512) (n : Fin 1024) : k0_pay7 ya yb yc gl gb x wa wb wc wo gn (ValueIdx.ix2 p n) = prod yc wc p n := by
  unfold k0_pay7
  rw [zero_ld yc, zero_ld wc]
  exact Rows.dot_apply (φ₁ := .bf16) (φ₂ := .bf16) yc wc p n

/-- The merge with its projection and the residual. -/
theorem sum_apply (p : Fin 512) (n : Fin 1024) :
    k0_pay1 (k0_pay6 ya yb yc gl gb x wa wb wc wo gn) (k0_pay7 ya yb yc gl gb x wa wb wc wo gn) (k0_pay8 ya yb yc gl gb x wa wb wc wo gn) x wo (ValueIdx.ix2 p n)
      = outAt ya yb yc gl gb x wa wb wc wo p n := by
  unfold k0_pay1 outAt
  refine congrArg (fun s : EReal => x (ValueIdx.ix2 p n) + s) ?_
  refine (Rows.dot_apply (φ₁ := .bf16) (φ₂ := .bf16) _ wo p n).trans (Finset.sum_congr rfl fun k _ => ?_)
  refine congrArg (fun s : EReal => s * wo (ValueIdx.ix2 k n)) ?_
  unfold mergedAt
  refine congrArg₂ (fun u v : EReal => u + v) (pair_apply ya yb yc gl gb x wa wb wc wo gn p k) ?_
  unfold part
  exact congrArg₂ (fun u v : EReal => u * v + v) (gate_apply gl gb 2 _ _ _ p k) (third_apply ya yb yc gl gb x wa wb wc wo gn p k)

theorem out11_apply (p : Fin 512) (n : Fin 1024) :
    out0_11 ya yb yc gl gb x wa wb wc wo gn (ValueIdx.ix2 p n) = outAt ya yb yc gl gb x wa wb wc wo p n := by
  unfold out0_11
  rw [View.canon_cons_unit_zero (by funext a; match a with | ⟨0, _⟩ => rfl | ⟨1, _⟩ => rfl), zero_ld x, zero_ld wo]
  exact sum_apply ya yb yc gl gb x wa wb wc wo gn p n

theorem out12_apply (p : Fin 512) (n : Fin 1024) :
    out0_12 ya yb yc gl gb x wa wb wc wo gn (ValueIdx.ix2 p n)
      = Rows.nrm (fun j => outAt ya yb yc gl gb x wa wb wc wo p j) (fun j => gn (ValueIdx.ix2 0 j)) n := by
  unfold out0_12
  rw [View.canon_cons_unit_zero (by funext a; match a with | ⟨0, _⟩ => rfl | ⟨1, _⟩ => rfl), zero_ld x, zero_ld wo, zero_ld gn]
  refine (Rows.nrm_apply _ gn _ _ _ _ _ _ p n).trans ?_
  exact congrArg (fun f => Rows.nrm f (fun j => gn (ValueIdx.ix2 0 j)) n) (funext fun j => sum_apply ya yb yc gl gb x wa wb wc wo gn p j)
end

variable (m : (ℓ : Loc nD τ sig) → Buf (Elt Ideal) ℓ) (ρ : Dev nD → PrngReg)

/-- A coordinate of the grid as a word. -/
theorem word_val {n : ℕ} (x : Fin n) (hn : n < 2 ^ 32) : (BitVec.ofNat 32 x.val).toNat = x.val := by
  rw [BitVec.toNat_ofNat]; exact Nat.mod_eq_of_lt (lt_trans x.isLt hn)

theorem blk_a (c : Dev nD) (t : Fin cfg0.N) (p : Fin 512) (r : Fin 65536) (h : r.val = 512 * (grid0.coords t 0).val + p.val) (k : Fin 384) :
    iblk m c 0 t (ValueIdx.ix2 p k) = m ((c : Thread nD τ).loc main_arg0) (ValueIdx.ix2 r k) := by
  refine congrArg (V m c main_arg0) (funext fun a => Fin.ext ?_)
  refine (win0_0.rect_emb_val t _ a rfl).trans ?_
  match a with
  | ⟨0, _⟩ => show (BitVec.ofNat 32 (grid0.coords t 0).val).toNat * 512 + p.val = r.val
              rw [word_val _ (by decide)]; omega
  | ⟨1, _⟩ => show 0 * 384 + k.val = k.val
              omega

theorem blk_b (c : Dev nD) (t : Fin cfg0.N) (p : Fin 512) (r : Fin 65536) (h : r.val = 512 * (grid0.coords t 0).val + p.val) (k : Fin 512) :
    iblk m c 1 t (ValueIdx.ix2 p k) = m ((c : Thread nD τ).loc main_arg1) (ValueIdx.ix2 r k) := by
  refine congrArg (V m c main_arg1) (funext fun a => Fin.ext ?_)
  refine (win0_1.rect_emb_val t _ a rfl).trans ?_
  match a with
  | ⟨0, _⟩ => show (BitVec.ofNat 32 (grid0.coords t 0).val).toNat * 512 + p.val = r.val
              rw [word_val _ (by decide)]; omega
  | ⟨1, _⟩ => show 0 * 512 + k.val = k.val
              omega

theorem blk_c (c : Dev nD) (t : Fin cfg0.N) (p : Fin 512) (r : Fin 65536) (h : r.val = 512 * (grid0.coords t 0).val + p.val) (k : Fin 256) :
    iblk m c 2 t (ValueIdx.ix2 p k) = m ((c : Thread nD τ).loc main_arg2) (ValueIdx.ix2 r k) := by
  refine congrArg (V m c main_arg2) (funext fun a => Fin.ext ?_)
  refine (win0_2.rect_emb_val t _ a rfl).trans ?_
  match a with
  | ⟨0, _⟩ => show (BitVec.ofNat 32 (grid0.coords t 0).val).toNat * 512 + p.val = r.val
              rw [word_val _ (by decide)]; omega
  | ⟨1, _⟩ => show 0 * 256 + k.val = k.val
              omega

theorem blk_g (c : Dev nD) (t : Fin cfg0.N) (p : Fin 512) (r : Fin 65536) (h : r.val = 512 * (grid0.coords t 0).val + p.val) (k : Fin 3072) :
    iblk m c 3 t (ValueIdx.ix2 p k) = m ((c : Thread nD τ).loc main_arg3) (ValueIdx.ix2 r k) := by
  refine congrArg (V m c main_arg3) (funext fun a => Fin.ext ?_)
  refine (win0_3.rect_emb_val t _ a rfl).trans ?_
  match a with
  | ⟨0, _⟩ => show (BitVec.ofNat 32 (grid0.coords t 0).val).toNat * 512 + p.val = r.val
              rw [word_val _ (by decide)]; omega
  | ⟨1, _⟩ => show 0 * 3072 + k.val = k.val
              omega

theorem blk_x (c : Dev nD) (t : Fin cfg0.N) (p : Fin 512) (r : Fin 65536) (h : r.val = 512 * (grid0.coords t 0).val + p.val) (k : Fin 1024) :
    iblk m c 5 t (ValueIdx.ix2 p k) = m ((c : Thread nD τ).loc main_arg5) (ValueIdx.ix2 r k) := by
  refine congrArg (V m c main_arg5) (funext fun a => Fin.ext ?_)
  refine (win0_5.rect_emb_val t _ a rfl).trans ?_
  match a with
  | ⟨0, _⟩ => show (BitVec.ofNat 32 (grid0.coords t 0).val).toNat * 512 + p.val = r.val
              rw [word_val _ (by decide)]; omega
  | ⟨1, _⟩ => show 0 * 1024 + k.val = k.val
              omega

theorem blk_gb (c : Dev nD) (t : Fin cfg0.N) : iblk m c 4 t = m ((c : Thread nD τ).loc main_arg4) := by
  funext y
  refine congrArg (V m c main_arg4) (funext fun a => Fin.ext ?_)
  refine (win0_4.rect_emb_val t _ a rfl).trans ?_
  match a with
  | ⟨0, _⟩ => show 0 * 1 + (y 0).val = (y 0).val; omega
  | ⟨1, _⟩ => show 0 * 3072 + (y 1).val = (y 1).val; omega

theorem blk_wa (c : Dev nD) (t : Fin cfg0.N) : iblk m c 6 t = m ((c : Thread nD τ).loc main_arg6) := by
  funext y
  refine congrArg (V m c main_arg6) (funext fun a => Fin.ext ?_)
  refine (win0_6.rect_emb_val t _ a rfl).trans ?_
  match a with
  | ⟨0, _⟩ => show 0 * 384 + (y 0).val = (y 0).val; omega
  | ⟨1, _⟩ => show 0 * 1024 + (y 1).val = (y 1).val; omega

theorem blk_wb (c : Dev nD) (t : Fin cfg0.N) : iblk m c 7 t = m ((c : Thread nD τ).loc main_arg7) := by
  funext y
  refine congrArg (V m c main_arg7) (funext fun a => Fin.ext ?_)
  refine (win0_7.rect_emb_val t _ a rfl).trans ?_
  match a with
  | ⟨0, _⟩ => show 0 * 512 + (y 0).val = (y 0).val; omega
  | ⟨1, _⟩ => show 0 * 1024 + (y 1).val = (y 1).val; omega

theorem blk_wc (c : Dev nD) (t : Fin cfg0.N) : iblk m c 8 t = m ((c : Thread nD τ).loc main_arg8) := by
  funext y
  refine congrArg (V m c main_arg8) (funext fun a => Fin.ext ?_)
  refine (win0_8.rect_emb_val t _ a rfl).trans ?_
  match a with
  | ⟨0, _⟩ => show 0 * 256 + (y 0).val = (y 0).val; omega
  | ⟨1, _⟩ => show 0 * 1024 + (y 1).val = (y 1).val; omega

theorem blk_wo (c : Dev nD) (t : Fin cfg0.N) : iblk m c 9 t = m ((c : Thread nD τ).loc main_arg9) := by
  funext y
  refine congrArg (V m c main_arg9) (funext fun a => Fin.ext ?_)
  refine (win0_9.rect_emb_val t _ a rfl).trans ?_
  match a with
  | ⟨0, _⟩ => show 0 * 1024 + (y 0).val = (y 0).val; omega
  | ⟨1, _⟩ => show 0 * 1024 + (y 1).val = (y 1).val; omega

theorem blk_gn (c : Dev nD) (t : Fin cfg0.N) : iblk m c 10 t = m ((c : Thread nD τ).loc main_arg10) := by
  funext y
  refine congrArg (V m c main_arg10) (funext fun a => Fin.ext ?_)
  refine (win0_10.rect_emb_val t _ a rfl).trans ?_
  match a with
  | ⟨0, _⟩ => show 0 * 1 + (y 0).val = (y 0).val; omega
  | ⟨1, _⟩ => show 0 * 1024 + (y 1).val = (y 1).val; omega

/-- A point's rows of the merge are those of the whole at the point's tokens. -/
theorem outAt_blk (c : Dev nD) (t : Fin cfg0.N) (p : Fin 512) (r : Fin 65536) (h : r.val = 512 * (grid0.coords t 0).val + p.val) (n : Fin 1024) :
    outAt (iblk m c 0 t) (iblk m c 1 t) (iblk m c 2 t) (iblk m c 3 t) (iblk m c 4 t) (iblk m c 5 t) (iblk m c 6 t) (iblk m c 7 t) (iblk m c 8 t) (iblk m c 9 t) p n
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r n := by
  refine (outAt_row _ _ _ _ _ _ _ _ _ _ (blk_a m c t p r h) (blk_b m c t p r h) (blk_c m c t p r h) (blk_g m c t p r h) (blk_x m c t p r h) n).trans ?_
  rw [blk_gb, blk_wa, blk_wb, blk_wc, blk_wo]

theorem arr11_eq (c : Dev nD) : (dats m 0 c).arrAt 11 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  obtain ⟨p, n, rfl⟩ : ∃ (p : Fin 512) (n : Fin 1024), y = ValueIdx.ix2 p n := ⟨y 0, y 1, ValueIdx.eq_ix2 y⟩
  have e0 : ((win0_11.blk t).view.emb (ValueIdx.ix2 p n) 0 : ℕ) = 512 * (grid0.coords t 0).val + p.val := by
    refine (win0_11.rect_emb_val t _ 0 rfl).trans ?_
    show (BitVec.ofNat 32 (grid0.coords t 0).val).toNat * 512 + p.val = _
    rw [word_val _ (by decide)]; omega
  have e1 : (win0_11.blk t).view.emb (ValueIdx.ix2 p n) 1 = n := by
    refine Fin.ext ((win0_11.rect_emb_val t _ 1 rfl).trans ?_)
    show 0 * 1024 + n.val = _
    omega
  show (dats m 0 c).after 11 t (ValueIdx.ix2 p n) = _
  rw [after0_11]
  refine (out11_apply _ _ _ _ _ _ _ _ _ _ _ p n).trans ?_
  unfold out
  rw [e1]
  exact outAt_blk m c t p _ e0 n

theorem arr12_eq (c : Dev nD) : (dats m 0 c).arrAt 12 cfg0.N
    = outN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  obtain ⟨p, n, rfl⟩ : ∃ (p : Fin 512) (n : Fin 1024), y = ValueIdx.ix2 p n := ⟨y 0, y 1, ValueIdx.eq_ix2 y⟩
  have e0 : ((win0_12.blk t).view.emb (ValueIdx.ix2 p n) 0 : ℕ) = 512 * (grid0.coords t 0).val + p.val := by
    refine (win0_12.rect_emb_val t _ 0 rfl).trans ?_
    show (BitVec.ofNat 32 (grid0.coords t 0).val).toNat * 512 + p.val = _
    rw [word_val _ (by decide)]; omega
  have e1 : (win0_12.blk t).view.emb (ValueIdx.ix2 p n) 1 = n := by
    refine Fin.ext ((win0_12.rect_emb_val t _ 1 rfl).trans ?_)
    show 0 * 1024 + n.val = _
    omega
  show (dats m 0 c).after 12 t (ValueIdx.ix2 p n) = _
  rw [after0_12]
  refine (out12_apply _ _ _ _ _ _ _ _ _ _ _ p n).trans ?_
  unfold outN
  rw [e1]
  rw [blk_gn]
  exact congrArg (fun f => Rows.nrm f _ n) (funext fun j => outAt_blk m c t p _ e0 j)

/-- The run of the kernel: the residual stream after the merge, the same normalized, and the arguments unchanged. -/
theorem run_value : θ_run defs (onTc (τ := τ) (main (F := Ideal))) ⟨m, fun _ => 0, ρ⟩ (fun r => ∀ c : Dev nD,
      r.2.mem ((c.tc : Thread nD τ).loc main_v0_0) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v0_1) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 11).trans (arr11_eq m c),
      ((h c).1 12).trans (arr12_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩) (run_main m ρ)

end Cert.MergeIdeal.Gated

end
-- ==== Proof.Merge.Frame.lean ====
module

public import proofs.«01_k».proof.Proof.Gen.Merge.Frame
-- ==== Proof.MergeRefIdeal.Value.lean ====
module

public import proofs.«01_k».proof.Proof.Gen.MergeRefIdeal.Read
public import proofs.«01_k».proof.Proof.Gen.Pre_finite_branches
public import proofs.«01_k».proof.Proof.Rows.Gated
public import proofs.«01_k».proof.Proof.Fox.Pre
public import Idealize.ShloMosaic.Lib.IdealHost
public import Idealize.ShloMosaic.Lib.ReduceAll
public import Idealize.ShloMosaic.Lib.KernelVsHost
public import Idealize.ShloMosaic.Lib.Quiescent

@[expose] public section

noncomputable section

namespace Cert.MergeRefIdeal.Gated

open Cert.MergeRefIdeal Cert.MergeRefIdeal.Gen Cert.MergeRefIdeal.Read Cert.Gated Idealize.ShloMosaic Idealize.SL.Sem
open scoped BigOperators

/-- What the precondition says: the branches' outputs and the weights of their projections are real. -/
theorem pre_read {ya : Mat 65536 384} {yb : Mat 65536 512} {yc : Mat 65536 256} {gl : Mat 65536 3072} {gb : Mat 1 3072} {x : Mat 65536 1024}
    {wa : Mat 384 1024} {wb : Mat 512 1024} {wc : Mat 256 1024} {wo : Mat 1024 1024} {gn : Mat 1 1024}
    (h : Cert.Pre_finite_branches.fn (F := Ideal) ya yb yc gl gb x wa wb wc wo gn = fun _ => 1#1) :
    ((∀ i, ∃ u : ℝ, ya i = (u : EReal)) ∧ (∀ i, ∃ u : ℝ, wa i = (u : EReal)))
      ∧ ((∀ i, ∃ u : ℝ, yb i = (u : EReal)) ∧ (∀ i, ∃ u : ℝ, wb i = (u : EReal)))
      ∧ ((∀ i, ∃ u : ℝ, yc i = (u : EReal)) ∧ (∀ i, ∃ u : ℝ, wc i = (u : EReal))) := by
  have h0 := congrFun h (fun a => a.elim0)
  unfold Cert.Pre_finite_branches.fn Cert.Pre_finite_branches.fn_part1 at h0
  obtain ⟨h1, hwc⟩ := IntOp.andi_eq_one.mp h0
  obtain ⟨h2, hwb⟩ := IntOp.andi_eq_one.mp h1
  obtain ⟨h3, hwa⟩ := IntOp.andi_eq_one.mp h2
  obtain ⟨h4, hyc⟩ := IntOp.andi_eq_one.mp h3
  obtain ⟨hya, hyb⟩ := IntOp.andi_eq_one.mp h4
  exact ⟨⟨fun i => Fox.real_of_abs (Host.reduce_andi_all _ _ _ _ _ hya i), fun i => Fox.real_of_abs (Host.reduce_andi_all _ _ _ _ _ hwa i)⟩,
    ⟨fun i => Fox.real_of_abs (Host.reduce_andi_all _ _ _ _ _ hyb i), fun i => Fox.real_of_abs (Host.reduce_andi_all _ _ _ _ _ hwb i)⟩,
    ⟨fun i => Fox.real_of_abs (Host.reduce_andi_all _ _ _ _ _ hyc i), fun i => Fox.real_of_abs (Host.reduce_andi_all _ _ _ _ _ hwc i)⟩⟩

variable (ya : Mat 65536 384) (yb : Mat 65536 512) (yc : Mat 65536 256) (gl : Mat 65536 3072) (gb : Mat 1 3072) (x : Mat 65536 1024)
  (wa : Mat 384 1024) (wb : Mat 512 1024) (wc : Mat 256 1024) (wo : Mat 1024 1024) (gn : Mat 1 1024)

/-- The gate of a branch: the logistic function of its logit. -/
theorem gate_read (b : Fin 3) (r : Fin 65536) (n : Fin 1024) :
    val_main_v11 (F := Ideal) gl gb (ValueIdx.ix3 r b n) = Ideal.logistic (Ideal.ofBits .f32 0x40000000#32 * zAt gl gb b r n) := by
  have e : ∀ i : S65536x3072.Idx, i = ValueIdx.ix2 r (lane b n) →
      val_main_v10 (F := Ideal) gl gb i = Ideal.logistic (Ideal.ofBits .f32 0x40000000#32 * zAt gl gb b r n) := by
    intro i hi
    subst hi
    rw [val_main_v10_apply, val_main_v9_apply, val_main_cst_1_apply, val_main_v8_apply, val_main_v7_apply, val_main_cst_0_apply, val_main_v6_apply,
      val_main_v5_apply, val_main_v4_apply, val_main_v3_apply, val_main_cst_apply, val_main_v2_apply, val_main_v0_apply, val_main_v1_apply]
    have e1 : idx_main_v1 (ValueIdx.ix2 r (lane b n)) = ValueIdx.ix2 0 (lane b n) := ValueIdx.eq_ix2 _
    rw [e1]
    show Ideal.div (Ideal.ofBits .f32 0x3F800000#32) (Ideal.ofBits .f32 0x3F800000#32
      + Ideal.exp (-(Ideal.ofBits .f32 0x40000000#32 * (gl (ValueIdx.ix2 r (lane b n)) + gb (ValueIdx.ix2 0 (lane b n)))))) = _
    rw [Ideal.ofBits_one_f32]
    rfl
  rw [val_main_v11_apply]
  refine e _ (funext fun a => Fin.ext ?_)
  match a with
  | ⟨0, _⟩ => show ((r.val * 3 + b.val) * 1024 + n.val) / 3072 = r.val; omega
  | ⟨1, _⟩ => show ((r.val * 3 + b.val) * 1024 + n.val) % 3072 = 1024 * b.val + n.val; omega

theorem gate0 (r : Fin 65536) (n : Fin 1024) :
    val_main_v13 (F := Ideal) gl gb (ValueIdx.ix2 r n) = Ideal.logistic (Ideal.ofBits .f32 0x40000000#32 * zAt gl gb 0 r n) := by
  rw [val_main_v13_apply, val_main_v12_apply]
  refine Eq.trans (congrArg (val_main_v11 (F := Ideal) gl gb) (funext fun a => Fin.ext ?_)) (gate_read gl gb 0 r n)
  match a with
  | ⟨0, _⟩ => show (r.val * 1024 + n.val) / 1024 = r.val; omega
  | ⟨1, _⟩ => rfl
  | ⟨2, _⟩ => show (r.val * 1024 + n.val) % 1024 = n.val; omega

theorem gate1 (r : Fin 65536) (n : Fin 1024) :
    val_main_v19 (F := Ideal) gl gb (ValueIdx.ix2 r n) = Ideal.logistic (Ideal.ofBits .f32 0x40000000#32 * zAt gl gb 1 r n) := by
  rw [val_main_v19_apply, val_main_v18_apply]
  refine Eq.trans (congrArg (val_main_v11 (F := Ideal) gl gb) (funext fun a => Fin.ext ?_)) (gate_read gl gb 1 r n)
  match a with
  | ⟨0, _⟩ => show (r.val * 1024 + n.val) / 1024 = r.val; omega
  | ⟨1, _⟩ => rfl
  | ⟨2, _⟩ => show (r.val * 1024 + n.val) % 1024 = n.val; omega

theorem gate2 (r : Fin 65536) (n : Fin 1024) :
    val_main_v26 (F := Ideal) gl gb (ValueIdx.ix2 r n) = Ideal.logistic (Ideal.ofBits .f32 0x40000000#32 * zAt gl gb 2 r n) := by
  rw [val_main_v26_apply, val_main_v25_apply]
  refine Eq.trans (congrArg (val_main_v11 (F := Ideal) gl gb) (funext fun a => Fin.ext ?_)) (gate_read gl gb 2 r n)
  match a with
  | ⟨0, _⟩ => show (r.val * 1024 + n.val) / 1024 = r.val; omega
  | ⟨1, _⟩ => rfl
  | ⟨2, _⟩ => show (r.val * 1024 + n.val) % 1024 = n.val; omega

theorem proj16 (r : Fin 65536) (n : Fin 1024) : val_main_v16 (F := Ideal) ya wa (ValueIdx.ix2 r n) = prod ya wa r n := by
  rw [val_main_v16_apply]
  refine Finset.sum_congr rfl fun k _ => ?_
  rw [show lidx_main_v16 (ValueIdx.ix2 r n) k = ValueIdx.ix2 r k from ValueIdx.eq_ix2 _,
    show ridx_main_v16 (ValueIdx.ix2 r n) k = ValueIdx.ix2 k n from ValueIdx.eq_ix2 _]
  rfl

theorem proj22 (r : Fin 65536) (n : Fin 1024) : val_main_v22 (F := Ideal) yb wb (ValueIdx.ix2 r n) = prod yb wb r n := by
  rw [val_main_v22_apply]
  refine Finset.sum_congr rfl fun k _ => ?_
  rw [show lidx_main_v22 (ValueIdx.ix2 r n) k = ValueIdx.ix2 r k from ValueIdx.eq_ix2 _,
    show ridx_main_v22 (ValueIdx.ix2 r n) k = ValueIdx.ix2 k n from ValueIdx.eq_ix2 _]
  rfl

theorem proj29 (r : Fin 65536) (n : Fin 1024) : val_main_v29 (F := Ideal) yc wc (ValueIdx.ix2 r n) = prod yc wc r n := by
  rw [val_main_v29_apply]
  refine Finset.sum_congr rfl fun k _ => ?_
  rw [show lidx_main_v29 (ValueIdx.ix2 r n) k = ValueIdx.ix2 r k from ValueIdx.eq_ix2 _,
    show ridx_main_v29 (ValueIdx.ix2 r n) k = ValueIdx.ix2 k n from ValueIdx.eq_ix2 _]
  rfl

/-- An entry of the residual stream after the merge, for real branches and weights. -/
theorem out_read (ha : (∀ i, ∃ u : ℝ, ya i = (u : EReal)) ∧ (∀ i, ∃ u : ℝ, wa i = (u : EReal)))
    (hb : (∀ i, ∃ u : ℝ, yb i = (u : EReal)) ∧ (∀ i, ∃ u : ℝ, wb i = (u : EReal)))
    (hc : (∀ i, ∃ u : ℝ, yc i = (u : EReal)) ∧ (∀ i, ∃ u : ℝ, wc i = (u : EReal))) (r : Fin 65536) (n : Fin 1024) :
    val_main_v36 (F := Ideal) ya yb yc gl gb x wa wb wc wo (ValueIdx.ix2 r n) = outAt ya yb yc gl gb x wa wb wc wo r n := by
  rw [val_main_v36_apply, val_main_v35_apply]
  refine congrArg (fun s : EReal => x (ValueIdx.ix2 r n) + s) (Finset.sum_congr rfl fun k _ => ?_)
  rw [show lidx_main_v35 (ValueIdx.ix2 r n) k = ValueIdx.ix2 r k from ValueIdx.eq_ix2 _,
    show ridx_main_v35 (ValueIdx.ix2 r n) k = ValueIdx.ix2 k n from ValueIdx.eq_ix2 _]
  rw [val_main_v31_apply, val_main_v24_apply, val_main_v30_apply, val_main_v23_apply, val_main_v17_apply, gate0, gate1, gate2, proj16, proj22, proj29,
    val_main_v34_apply, val_main_v33_apply, val_main_cst_2_apply, val_main_v32_apply]
  unfold mergedAt
  obtain ⟨d₀, h₀⟩ := prod_real ha.1 ha.2 r k
  obtain ⟨d₁, h₁⟩ := prod_real hb.1 hb.2 r k
  obtain ⟨d₂, h₂⟩ := prod_real hc.1 hc.2 r k
  rw [h₀, h₁, h₂]
  exact (double_merge _ _ _ (wo (ValueIdx.ix2 k n)) d₀ d₁ d₂).symm

/-- The residual stream after the merge. -/
theorem res36 (ha : (∀ i, ∃ u : ℝ, ya i = (u : EReal)) ∧ (∀ i, ∃ u : ℝ, wa i = (u : EReal)))
    (hb : (∀ i, ∃ u : ℝ, yb i = (u : EReal)) ∧ (∀ i, ∃ u : ℝ, wb i = (u : EReal)))
    (hc : (∀ i, ∃ u : ℝ, yc i = (u : EReal)) ∧ (∀ i, ∃ u : ℝ, wc i = (u : EReal))) :
    val_main_v36 (F := Ideal) ya yb yc gl gb x wa wb wc wo = out ya yb yc gl gb x wa wb wc wo := by
  funext i
  obtain ⟨r, n, rfl⟩ : ∃ (r : Fin 65536) (n : Fin 1024), i = ValueIdx.ix2 r n := ⟨i 0, i 1, ValueIdx.eq_ix2 i⟩
  exact out_read ya yb yc gl gb x wa wb wc wo ha hb hc r n

/-- The residual stream after the merge, normalized. -/
theorem res49 (ha : (∀ i, ∃ u : ℝ, ya i = (u : EReal)) ∧ (∀ i, ∃ u : ℝ, wa i = (u : EReal)))
    (hb : (∀ i, ∃ u : ℝ, yb i = (u : EReal)) ∧ (∀ i, ∃ u : ℝ, wb i = (u : EReal)))
    (hc : (∀ i, ∃ u : ℝ, yc i = (u : EReal)) ∧ (∀ i, ∃ u : ℝ, wc i = (u : EReal))) :
    val_main_v49 (F := Ideal) ya yb yc gl gb x wa wb wc wo gn = outN ya yb yc gl gb x wa wb wc wo gn := by
  funext i
  obtain ⟨r, n, rfl⟩ : ∃ (r : Fin 65536) (n : Fin 1024), i = ValueIdx.ix2 r n := ⟨i 0, i 1, ValueIdx.eq_ix2 i⟩
  have hs : ∀ j : S65536.Idx, j = ValueIdx.ix1 r → val_main_v38 (F := Ideal) ya yb yc gl gb x wa wb wc wo j
      = ∑ k : Fin 1024, outAt ya yb yc gl gb x wa wb wc wo r k * outAt ya yb yc gl gb x wa wb wc wo r k := by
    intro j hj
    subst hj
    rw [val_main_v38_apply, val_main_cst_3_apply]
    show Ideal.ofBits .f32 0x00000000#32 + _ = _
    rw [Ideal.ofBits_zero_f32, zero_add]
    refine Finset.sum_congr rfl fun k _ => ?_
    rw [show idx_main_v38 (ValueIdx.ix1 r) k = ValueIdx.ix2 r k from ValueIdx.eq_ix2 _, val_main_v37_apply,
      out_read ya yb yc gl gb x wa wb wc wo ha hb hc r k]
    rfl
  rw [val_main_v49_apply, val_main_v48_apply, val_main_v46_apply, val_main_v47_apply, val_main_v45_apply, val_main_v44_apply, val_main_v43_apply,
    val_main_v42_apply, val_main_cst_5_apply, val_main_v41_apply, val_main_v40_apply, val_main_cst_4_apply, val_main_v39_apply,
    out_read ya yb yc gl gb x wa wb wc wo ha hb hc r n, hs _ (ValueIdx.eq_ix1 _)]
  unfold outN Rows.nrm
  exact congrArg (fun b : EReal => outAt ya yb yc gl gb x wa wb wc wo r n * Ideal.rsqrt (Ideal.div
    (∑ k : Fin 1024, outAt ya yb yc gl gb x wa wb wc wo r k * outAt ya yb yc gl gb x wa wb wc wo r k) (Ideal.ofBits .f32 0x44800000#32)
    + Ideal.ofBits .f32 0x358637BD#32) * b) (congrArg gn (ValueIdx.eq_ix2 _))

/-- The reference runs, keeps its arguments, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2, sem_eq_zero_of_no_sems (by decide) r.2⟩) (Value.run m ρ)

end Cert.MergeRefIdeal.Gated

end
-- ==== Proof.Rows.Spec.lean ====
module

public import proofs.«01_k».proof.Proof.Rows.Ops

@[expose] public section

noncomputable section

namespace Cert.Rows

open Idealize.ShloMosaic Idealize.ShloMosaic.ValueIdx
open scoped BigOperators

/-- The tokens, as rows. -/
abbrev SX : Shape := ⟨2, ![65536, 1024]⟩

/-- One row of gains. -/
abbrev SG : Shape := ⟨2, ![1, 1024]⟩

/-- The combined projection's weights, of two layers. -/
abbrev SW : Shape := ⟨3, ![2, 1024, 6912]⟩

/-- An entry of the combined projection of the second layer: a normalized token with a column of the weights. -/
def projAt (x : SX.Idx → EReal) (g : SG.Idx → EReal) (w : SW.Idx → EReal) (r : Fin 65536) (n : Fin 6912) : EReal :=
  ∑ k : Fin 1024, nrm (fun j => x (ix2 r j)) (fun j => g (ix2 0 j)) k * w (ix3 1 k n)

/-- The columns of the combined projection from `o` on that one branch takes. -/
def projCols (W o : ℕ) (h : o + W ≤ 6912) (x : SX.Idx → EReal) (g : SG.Idx → EReal) (w : SW.Idx → EReal) :
    (⟨2, ![65536, W]⟩ : Shape).Idx → EReal :=
  fun i => projAt x g w (i 0) ⟨o + (i 1).val, lt_of_lt_of_le (Nat.add_lt_add_left (idx2_lt1 i) o) h⟩

end Cert.Rows

end
-- ==== Proof.InProjIdeal.Value.lean ====
module

public import proofs.«01_k».proof.Proof.Gen.InProjIdeal.Frame
public import proofs.«01_k».proof.Proof.Rows.Spec
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Cert.InProjIdeal Cert.InProjIdeal.Gen Cert.Rows
open scoped BigOperators

/-- The normalized rows of a block. -/
theorem rows_apply (x : Vec Ideal S512x1024 .f32) (g : Vec Ideal S1x1024 .f32) (p : Fin 512) (k : Fin 1024) :
    k0_pay4 x g (ValueIdx.ix2 p k) = nrm (fun j => x (ValueIdx.ix2 p j)) (fun j => g (ValueIdx.ix2 0 j)) k :=
  nrm_apply x g _ _ _ _ _ _ p k

/-- Rows with a block of the weights' columns. -/
theorem cols_apply {N : ℕ} (a : FVec Ideal ⟨2, ![512, 1024]⟩ .bf16) (b : Vec Ideal ⟨3, ![1, 1024, N]⟩ .bf16) (h) (p : Fin 512) (n : Fin N) :
    matmul (F := Ideal) (DotDims.plain 512 1024 N) none a (shapeCast ⟨2, ![1024, N]⟩ b h : FVec Ideal ⟨2, ![1024, N]⟩ .bf16) (constant ⟨2, ![512, N]⟩ .f32 0x00000000#32)
      (ValueIdx.ix2 p n) = ∑ k : Fin 1024, (a (ValueIdx.ix2 p k) * b (ValueIdx.ix3 0 k n) : EReal) := by
  refine (dot_apply (φ₂ := .bf16) a _ p n).trans (Finset.sum_congr rfl fun k _ => ?_)
  exact congrArg (fun s : EReal => a (ValueIdx.ix2 p k) * s) (ValueIdx.shapeCast_1ab_ab_apply b h k n)

/-- An entry of a block's projection, from the block's own rows and weights. -/
def blkAt (x : Vec Ideal S512x1024 .f32) (g : Vec Ideal S1x1024 .f32) (w : Vec Ideal S1x1024x6912 .bf16) (p : Fin 512) (n : Fin 6912) : EReal :=
  ∑ k : Fin 1024, nrm (fun j => x (ValueIdx.ix2 p j)) (fun j => g (ValueIdx.ix2 0 j)) k * w (ValueIdx.ix3 0 k n)

variable (x : Vec Ideal S512x1024 .f32) (g : Vec Ideal S1x1024 .f32) (w : Vec Ideal S1x1024x6912 .bf16)

theorem ld_x : View.ld x r0_0 = x := View.ld_unit_zero (by funext a; match a with | ⟨0, _⟩ => rfl | ⟨1, _⟩ => rfl) _ x
theorem ld_g : View.ld g r0_1 = g := View.ld_unit_zero (by funext a; match a with | ⟨0, _⟩ => rfl | ⟨1, _⟩ => rfl) _ g

/-- The weights' columns that one product takes. -/
theorem ld_w {N : ℕ} (o : ℕ) (inb) (k : Fin 1024) (n : Fin N) (hn : o + n.val < 6912) :
    View.ld w (Rect.unit (s := S1x1024x6912) ![0, 0, o] (⟨3, ![1, 1024, N]⟩ : Shape).size inb) (ValueIdx.ix3 0 k n)
      = w (ValueIdx.ix3 0 k ⟨o + n.val, hn⟩) := by
  refine congrArg w (funext fun a => Fin.ext ?_)
  match a with
  | ⟨0, _⟩ => rfl
  | ⟨1, _⟩ => show 0 + 1 * k.val = k.val; omega
  | ⟨2, _⟩ => show o + 1 * n.val = o + n.val; omega

/-- One product of the body, from the loads. -/
theorem prod_apply {N : ℕ} (o : ℕ) (inb) (h) (p : Fin 512) (n : Fin N) (hn : o + n.val < 6912) :
    matmul (F := Ideal) (DotDims.plain 512 1024 N) none (k0_pay4 (View.ld x r0_0) (View.ld g r0_1) : FVec Ideal ⟨2, ![512, 1024]⟩ .bf16)
      (shapeCast ⟨2, ![1024, N]⟩ (View.ld w (Rect.unit (s := S1x1024x6912) ![0, 0, o] (⟨3, ![1, 1024, N]⟩ : Shape).size inb)) h : FVec Ideal ⟨2, ![1024, N]⟩ .bf16)
      (constant ⟨2, ![512, N]⟩ .f32 0x00000000#32) (ValueIdx.ix2 p n) = blkAt x g w p ⟨o + n.val, hn⟩ := by
  rw [ld_x, ld_g]
  refine (cols_apply _ _ h p n).trans (Finset.sum_congr rfl fun k _ => ?_)
  exact congrArg₂ (fun a b : EReal => a * b) (rows_apply x g p k) (ld_w w o inb k n hn)

theorem out3_apply (p : Fin 512) (n : Fin 1152) : out0_3 x g w (ValueIdx.ix2 p n) = blkAt x g w p ⟨0 + n.val, by omega⟩ := by
  unfold out0_3
  rw [View.canon_cons_unit_zero (by funext a; match a with | ⟨0, _⟩ => rfl | ⟨1, _⟩ => rfl)]
  unfold k0_pay6
  refine (ValueIdx.slice2_axis1_apply 0 (k0_pay5 (View.ld x r0_0) (View.ld g r0_1) (View.ld w r0_2)) slices_S512x1280_o0_0_S512x1152 p n (⟨0 + n.val, by omega⟩ : Fin 1280) rfl).trans ?_
  refine (prod_apply x g w (N := 1280) 0 _ _ p ⟨0 + n.val, by omega⟩ (by show 0 + (0 + n.val) < 6912; omega)).trans ?_
  congr 1; apply Fin.ext; show 0 + (0 + n.val) = 0 + n.val; omega

theorem out4_apply (p : Fin 512) (n : Fin 128) : out0_4 x g w (ValueIdx.ix2 p n) = blkAt x g w p ⟨1152 + n.val, by omega⟩ := by
  unfold out0_4
  rw [View.canon_cons_unit_zero (by funext a; match a with | ⟨0, _⟩ => rfl | ⟨1, _⟩ => rfl)]
  unfold k0_pay7
  refine (ValueIdx.slice2_axis1_apply 1152 (k0_pay5 (View.ld x r0_0) (View.ld g r0_1) (View.ld w r0_2)) _ p n (⟨1152 + n.val, by omega⟩ : Fin 1280) rfl).trans ?_
  refine (prod_apply x g w (N := 1280) 0 _ _ p ⟨1152 + n.val, by omega⟩ (by show 0 + (1152 + n.val) < 6912; omega)).trans ?_
  congr 1; apply Fin.ext; show 0 + (1152 + n.val) = 1152 + n.val; omega

theorem out5_apply (p : Fin 512) (n : Fin 1536) : out0_5 x g w (ValueIdx.ix2 p n) = blkAt x g w p ⟨1280 + n.val, by omega⟩ := by
  unfold out0_5
  rw [View.canon_cons_unit_zero (by funext a; match a with | ⟨0, _⟩ => rfl | ⟨1, _⟩ => rfl)]
  exact prod_apply x g w 1280 _ _ p n _

theorem out6_apply (p : Fin 512) (n : Fin 512) : out0_6 x g w (ValueIdx.ix2 p n) = blkAt x g w p ⟨2816 + n.val, by omega⟩ := by
  unfold out0_6
  rw [View.canon_cons_unit_zero (by funext a; match a with | ⟨0, _⟩ => rfl | ⟨1, _⟩ => rfl)]
  exact prod_apply x g w 2816 _ _ p n _

theorem out7_apply (p : Fin 512) (n : Fin 512) : out0_7 x g w (ValueIdx.ix2 p n) = blkAt x g w p ⟨3328 + n.val, by omega⟩ := by
  unfold out0_7
  rw [View.canon_cons_unit_zero (by funext a; match a with | ⟨0, _⟩ => rfl | ⟨1, _⟩ => rfl)]
  exact prod_apply x g w 3328 _ _ p n _

theorem out8_apply (p : Fin 512) (n : Fin 3072) : out0_8 x g w (ValueIdx.ix2 p n) = blkAt x g w p ⟨3840 + n.val, by omega⟩ := by
  refine View.canon_apply_of_pieces (Val := Elt Ideal) (e := .bf16) (fun y : S512x3072.Idx => (blkAt x g w (y 0) ⟨3840 + (y 1).val, by have : (y 1).val < 3072 := (y 1).isLt; omega⟩ : EReal))
    _ ?_ (ValueIdx.ix2 p n) (cover0_8 _ _ _)
  intro pc hpc
  rcases List.mem_cons.mp hpc with rfl | hpc
  · intro y
    obtain ⟨p, n, rfl⟩ : ∃ (p : Fin 512) (n : Fin 1536), y = ValueIdx.ix2 p n := ⟨y 0, y 1, ValueIdx.eq_ix2 y⟩
    refine (prod_apply x g w 5376 _ _ p n (by omega)).trans ?_
    congr 1 <;> apply Fin.ext
    · show p.val = 0 + 1 * p.val; omega
    · show 5376 + n.val = 3840 + (1536 + 1 * n.val); omega
  · rcases List.mem_cons.mp hpc with rfl | hpc
    · intro y
      obtain ⟨p, n, rfl⟩ : ∃ (p : Fin 512) (n : Fin 1536), y = ValueIdx.ix2 p n := ⟨y 0, y 1, ValueIdx.eq_ix2 y⟩
      refine (prod_apply x g w 3840 _ _ p n (by omega)).trans ?_
      congr 1 <;> apply Fin.ext
      · show p.val = 0 + 1 * p.val; omega
      · show 3840 + n.val = 3840 + (0 + 1 * n.val); omega
    · nomatch hpc

variable (m : (ℓ : Loc nD τ sig) → Buf (Elt Ideal) ℓ) (ρ : Dev nD → PrngReg)

/-- A coordinate of the grid as a word. -/
theorem word_val {n : ℕ} (x : Fin n) (hn : n < 2 ^ 32) : (BitVec.ofNat 32 x.val).toNat = x.val := by
  rw [BitVec.toNat_ofNat]; exact Nat.mod_eq_of_lt (lt_trans x.isLt hn)

/-- The tokens of a point. -/
theorem blk_x (c : Dev nD) (t : Fin cfg0.N) (p : Fin 512) (k : Fin 1024) (h : 512 * (grid0.coords t 0).val + p.val < 65536) :
    iblk m c 0 t (ValueIdx.ix2 p k) = m ((c : Thread nD τ).loc main_arg0) (ValueIdx.ix2 ⟨512 * (grid0.coords t 0).val + p.val, h⟩ k) := by
  refine congrArg (V m c main_arg0) (funext fun a => Fin.ext ?_)
  refine (win0_0.rect_emb_val t _ a rfl).trans ?_
  match a with
  | ⟨0, _⟩ => show (BitVec.ofNat 32 (grid0.coords t 0).val).toNat * 512 + p.val = _
              rw [word_val _ (by decide)]; show _ = 512 * (grid0.coords t 0).val + p.val; omega
  | ⟨1, _⟩ => show 0 * 1024 + k.val = k.val
              omega

/-- The gains of a point. -/
theorem blk_g (c : Dev nD) (t : Fin cfg0.N) (k : Fin 1024) :
    iblk m c 1 t (ValueIdx.ix2 0 k) = m ((c : Thread nD τ).loc main_arg1) (ValueIdx.ix2 0 k) := by
  refine congrArg (V m c main_arg1) (funext fun a => Fin.ext ?_)
  refine (win0_1.rect_emb_val t _ a rfl).trans ?_
  match a with
  | ⟨0, _⟩ => rfl
  | ⟨1, _⟩ => show 0 * 1024 + k.val = k.val
              omega

/-- The weights of a point. -/
theorem blk_w (c : Dev nD) (t : Fin cfg0.N) (k : Fin 1024) (n : Fin 6912) :
    iblk m c 2 t (ValueIdx.ix3 0 k n) = m ((c : Thread nD τ).loc main_arg2) (ValueIdx.ix3 1 k n) := by
  refine congrArg (V m c main_arg2) (funext fun a => Fin.ext ?_)
  refine (win0_2.rect_emb_val t _ a rfl).trans ?_
  match a with
  | ⟨0, _⟩ => rfl
  | ⟨1, _⟩ => show 0 * 1024 + k.val = k.val
              omega
  | ⟨2, _⟩ => show 0 * 6912 + n.val = n.val
              omega

/-- A point's projection is that of the whole at the point's tokens. -/
theorem blkAt_eq (c : Dev nD) (t : Fin cfg0.N) (p : Fin 512) (n : Fin 6912) (r : Fin 65536) (h : r.val = 512 * (grid0.coords t 0).val + p.val) :
    blkAt (iblk m c 0 t) (iblk m c 1 t) (iblk m c 2 t) p n
      = projAt (m ((c : Thread nD τ).loc main_arg0)) (m ((c : Thread nD τ).loc main_arg1)) (m ((c : Thread nD τ).loc main_arg2)) r n := by
  have hr : 512 * (grid0.coords t 0).val + p.val < 65536 := h ▸ r.isLt
  obtain rfl : (⟨512 * (grid0.coords t 0).val + p.val, hr⟩ : Fin 65536) = r := Fin.ext h.symm
  unfold blkAt projAt
  refine Finset.sum_congr rfl fun k _ => ?_
  rw [funext fun j => blk_x m c t p j hr, funext fun j => blk_g m c t j]
  exact congrArg _ (blk_w m c t k n)

theorem arr3_eq (c : Dev nD) : (dats m 0 c).arrAt 3 cfg0.N
    = projCols 1152 0 (by decide) (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨p, n, rfl⟩ : ∃ (p : Fin 512) (n : Fin 1152), y = ValueIdx.ix2 p n := ⟨y 0, y 1, ValueIdx.eq_ix2 y⟩
  have e0 : ((win0_3.blk t).view.emb (ValueIdx.ix2 p n) 0 : ℕ) = 512 * (grid0.coords t 0).val + p.val := by
    refine (win0_3.rect_emb_val t _ 0 rfl).trans ?_
    show (BitVec.ofNat 32 (grid0.coords t 0).val).toNat * 512 + p.val = _
    rw [word_val _ (by decide)]; omega
  have e1 : ((win0_3.blk t).view.emb (ValueIdx.ix2 p n) 1 : ℕ) = n.val := by
    refine (win0_3.rect_emb_val t _ 1 rfl).trans ?_
    show 0 * 1152 + n.val = _
    omega
  show (dats m 0 c).after 3 t (ValueIdx.ix2 p n) = projAt _ _ _ _ _
  rw [after0_3]
  refine (out3_apply _ _ _ p n).trans ?_
  refine (blkAt_eq m c t p _ _ e0).trans (congrArg (projAt _ _ _ _) (Fin.ext ?_))
  show 0 + n.val = 0 + _
  rw [e1]

theorem arr4_eq (c : Dev nD) : (dats m 0 c).arrAt 4 cfg0.N
    = projCols 128 1152 (by decide) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨p, n, rfl⟩ : ∃ (p : Fin 512) (n : Fin 128), y = ValueIdx.ix2 p n := ⟨y 0, y 1, ValueIdx.eq_ix2 y⟩
  have e0 : ((win0_4.blk t).view.emb (ValueIdx.ix2 p n) 0 : ℕ) = 512 * (grid0.coords t 0).val + p.val := by
    refine (win0_4.rect_emb_val t _ 0 rfl).trans ?_
    show (BitVec.ofNat 32 (grid0.coords t 0).val).toNat * 512 + p.val = _
    rw [word_val _ (by decide)]; omega
  have e1 : ((win0_4.blk t).view.emb (ValueIdx.ix2 p n) 1 : ℕ) = n.val := by
    refine (win0_4.rect_emb_val t _ 1 rfl).trans ?_
    show 0 * 128 + n.val = _
    omega
  show (dats m 0 c).after 4 t (ValueIdx.ix2 p n) = projAt _ _ _ _ _
  rw [after0_4]
  refine (out4_apply _ _ _ p n).trans ?_
  refine (blkAt_eq m c t p _ _ e0).trans (congrArg (projAt _ _ _ _) (Fin.ext ?_))
  show 1152 + n.val = 1152 + _
  rw [e1]

theorem arr5_eq (c : Dev nD) : (dats m 0 c).arrAt 5 cfg0.N
    = projCols 1536 1280 (by decide) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨p, n, rfl⟩ : ∃ (p : Fin 512) (n : Fin 1536), y = ValueIdx.ix2 p n := ⟨y 0, y 1, ValueIdx.eq_ix2 y⟩
  have e0 : ((win0_5.blk t).view.emb (ValueIdx.ix2 p n) 0 : ℕ) = 512 * (grid0.coords t 0).val + p.val := by
    refine (win0_5.rect_emb_val t _ 0 rfl).trans ?_
    show (BitVec.ofNat 32 (grid0.coords t 0).val).toNat * 512 + p.val = _
    rw [word_val _ (by decide)]; omega
  have e1 : ((win0_5.blk t).view.emb (ValueIdx.ix2 p n) 1 : ℕ) = n.val := by
    refine (win0_5.rect_emb_val t _ 1 rfl).trans ?_
    show 0 * 1536 + n.val = _
    omega
  show (dats m 0 c).after 5 t (ValueIdx.ix2 p n) = projAt _ _ _ _ _
  rw [after0_5]
  refine (out5_apply _ _ _ p n).trans ?_
  refine (blkAt_eq m c t p _ _ e0).trans (congrArg (projAt _ _ _ _) (Fin.ext ?_))
  show 1280 + n.val = 1280 + _
  rw [e1]

theorem arr6_eq (c : Dev nD) : (dats m 0 c).arrAt 6 cfg0.N
    = projCols 512 2816 (by decide) (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨p, n, rfl⟩ : ∃ (p : Fin 512) (n : Fin 512), y = ValueIdx.ix2 p n := ⟨y 0, y 1, ValueIdx.eq_ix2 y⟩
  have e0 : ((win0_6.blk t).view.emb (ValueIdx.ix2 p n) 0 : ℕ) = 512 * (grid0.coords t 0).val + p.val := by
    refine (win0_6.rect_emb_val t _ 0 rfl).trans ?_
    show (BitVec.ofNat 32 (grid0.coords t 0).val).toNat * 512 + p.val = _
    rw [word_val _ (by decide)]; omega
  have e1 : ((win0_6.blk t).view.emb (ValueIdx.ix2 p n) 1 : ℕ) = n.val := by
    refine (win0_6.rect_emb_val t _ 1 rfl).trans ?_
    show 0 * 512 + n.val = _
    omega
  show (dats m 0 c).after 6 t (ValueIdx.ix2 p n) = projAt _ _ _ _ _
  rw [after0_6]
  refine (out6_apply _ _ _ p n).trans ?_
  refine (blkAt_eq m c t p _ _ e0).trans (congrArg (projAt _ _ _ _) (Fin.ext ?_))
  show 2816 + n.val = 2816 + _
  rw [e1]

theorem arr7_eq (c : Dev nD) : (dats m 0 c).arrAt 7 cfg0.N
    = projCols 512 3328 (by decide) (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨p, n, rfl⟩ : ∃ (p : Fin 512) (n : Fin 512), y = ValueIdx.ix2 p n := ⟨y 0, y 1, ValueIdx.eq_ix2 y⟩
  have e0 : ((win0_7.blk t).view.emb (ValueIdx.ix2 p n) 0 : ℕ) = 512 * (grid0.coords t 0).val + p.val := by
    refine (win0_7.rect_emb_val t _ 0 rfl).trans ?_
    show (BitVec.ofNat 32 (grid0.coords t 0).val).toNat * 512 + p.val = _
    rw [word_val _ (by decide)]; omega
  have e1 : ((win0_7.blk t).view.emb (ValueIdx.ix2 p n) 1 : ℕ) = n.val := by
    refine (win0_7.rect_emb_val t _ 1 rfl).trans ?_
    show 0 * 512 + n.val = _
    omega
  show (dats m 0 c).after 7 t (ValueIdx.ix2 p n) = projAt _ _ _ _ _
  rw [after0_7]
  refine (out7_apply _ _ _ p n).trans ?_
  refine (blkAt_eq m c t p _ _ e0).trans (congrArg (projAt _ _ _ _) (Fin.ext ?_))
  show 3328 + n.val = 3328 + _
  rw [e1]

theorem arr8_eq (c : Dev nD) : (dats m 0 c).arrAt 8 cfg0.N
    = projCols 3072 3840 (by decide) (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨p, n, rfl⟩ : ∃ (p : Fin 512) (n : Fin 3072), y = ValueIdx.ix2 p n := ⟨y 0, y 1, ValueIdx.eq_ix2 y⟩
  have e0 : ((win0_8.blk t).view.emb (ValueIdx.ix2 p n) 0 : ℕ) = 512 * (grid0.coords t 0).val + p.val := by
    refine (win0_8.rect_emb_val t _ 0 rfl).trans ?_
    show (BitVec.ofNat 32 (grid0.coords t 0).val).toNat * 512 + p.val = _
    rw [word_val _ (by decide)]; omega
  have e1 : ((win0_8.blk t).view.emb (ValueIdx.ix2 p n) 1 : ℕ) = n.val := by
    refine (win0_8.rect_emb_val t _ 1 rfl).trans ?_
    show 0 * 3072 + n.val = _
    omega
  show (dats m 0 c).after 8 t (ValueIdx.ix2 p n) = projAt _ _ _ _ _
  rw [after0_8]
  refine (out8_apply _ _ _ p n).trans ?_
  refine (blkAt_eq m c t p _ _ e0).trans (congrArg (projAt _ _ _ _) (Fin.ext ?_))
  show 3840 + n.val = 3840 + _
  rw [e1]

/-- The run of the kernel: each branch's columns of the projection, and the arguments unchanged. -/
theorem run_value : θ_run defs (onTc (τ := τ) (main (F := Ideal))) ⟨m, fun _ => 0, ρ⟩ (fun r => ∀ c : Dev nD,
      r.2.mem ((c.tc : Thread nD τ).loc main_v0_0) = projCols 1152 0 (by decide) (m ((c.tc : Thread nD τ).loc main_arg0)) (m ((c.tc : Thread nD τ).loc main_arg1)) (m ((c.tc : Thread nD τ).loc main_arg2))
      ∧ r.2.mem ((c.tc : Thread nD τ).loc main_v0_1) = projCols 128 1152 (by decide) (m ((c.tc : Thread nD τ).loc main_arg0)) (m ((c.tc : Thread nD τ).loc main_arg1)) (m ((c.tc : Thread nD τ).loc main_arg2))
      ∧ r.2.mem ((c.tc : Thread nD τ).loc main_v0_2) = projCols 1536 1280 (by decide) (m ((c.tc : Thread nD τ).loc main_arg0)) (m ((c.tc : Thread nD τ).loc main_arg1)) (m ((c.tc : Thread nD τ).loc main_arg2))
      ∧ r.2.mem ((c.tc : Thread nD τ).loc main_v0_3) = projCols 512 2816 (by decide) (m ((c.tc : Thread nD τ).loc main_arg0)) (m ((c.tc : Thread nD τ).loc main_arg1)) (m ((c.tc : Thread nD τ).loc main_arg2))
      ∧ r.2.mem ((c.tc : Thread nD τ).loc main_v0_4) = projCols 512 3328 (by decide) (m ((c.tc : Thread nD τ).loc main_arg0)) (m ((c.tc : Thread nD τ).loc main_arg1)) (m ((c.tc : Thread nD τ).loc main_arg2))
      ∧ r.2.mem ((c.tc : Thread nD τ).loc main_v0_5) = projCols 3072 3840 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (arr3_eq m c),
      ((h c).1 4).trans (arr4_eq m c),
      ((h c).1 5).trans (arr5_eq m c),
      ((h c).1 6).trans (arr6_eq m c),
      ((h c).1 7).trans (arr7_eq m c),
      ((h c).1 8).trans (arr8_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.InProjIdeal.Rows

end
-- ==== Proof.InProjRefIdeal.Value.lean ====
module

public import proofs.«01_k».proof.Proof.Gen.InProjRefIdeal.Read
public import proofs.«01_k».proof.Proof.Rows.Spec
public import Idealize.ShloMosaic.Lib.IdealHost
public import Idealize.ShloMosaic.Lib.Quiescent

@[expose] public section

noncomputable section

namespace Cert.InProjRefIdeal.Rows

open Cert.InProjRefIdeal Cert.InProjRefIdeal.Gen Cert.InProjRefIdeal.Read Cert.Rows Idealize.ShloMosaic Idealize.SL.Sem
open scoped BigOperators

variable (x : SX.Idx → EReal) (g : SG.Idx → EReal) (w : SW.Idx → EReal)

/-- The normalized tokens. -/
theorem rows_read (r : Fin 65536) (k : Fin 1024) :
    val_main_v11 (F := Ideal) x g (ValueIdx.ix2 r k) = nrm (fun j => x (ValueIdx.ix2 r j)) (fun j => g (ValueIdx.ix2 0 j)) k := by
  rw [val_main_v11_apply, val_main_v9_apply, val_main_v10_apply, val_main_v8_apply, val_main_v7_apply, val_main_v6_apply, val_main_v5_apply,
    val_main_cst_1_apply, val_main_v4_apply, val_main_v3_apply, val_main_cst_0_apply, val_main_v2_apply, val_main_v1_apply, val_main_cst_apply]
  unfold nrm
  refine congrArg₂ (fun a b : EReal => x (ValueIdx.ix2 r k) * Ideal.rsqrt (Ideal.div a (Ideal.ofBits .f32 0x44800000#32)
    + Ideal.ofBits .f32 0x358637BD#32) * b) ?_ (congrArg g (ValueIdx.eq_ix2 _))
  show Ideal.ofBits .f32 0x00000000#32 + _ = _
  rw [Ideal.ofBits_zero_f32, zero_add]
  refine Finset.sum_congr rfl fun j _ => ?_
  rw [val_main_v0_apply]
  have e : ∀ i : S65536.Idx, i = ValueIdx.ix1 r → idx_main_v1 i j = ValueIdx.ix2 r j := by
    intro i h; subst h; exact ValueIdx.eq_ix2 _
  rw [e _ (ValueIdx.eq_ix1 _)]
  rfl

/-- The weights of the second layer. -/
theorem weights_read (k : Fin 1024) (n : Fin 6912) : val_main_v14 (F := Ideal) w (ValueIdx.ix2 k n) = w (ValueIdx.ix3 1 k n) := by
  rw [val_main_v14_apply, val_main_v13_apply, val_main_v12_apply]
  refine congrArg w (funext fun a => Fin.ext ?_)
  match a with
  | ⟨0, _⟩ => rfl
  | ⟨1, _⟩ => show (k.val * 6912 + n.val) / 6912 % 1024 = k.val; omega
  | ⟨2, _⟩ => show (k.val * 6912 + n.val) % 6912 = n.val; omega

/-- The combined projection. -/
theorem proj_read (r : Fin 65536) (n : Fin 6912) : val_main_v15 (F := Ideal) x g w (ValueIdx.ix2 r n) = projAt x g w r n := by
  rw [val_main_v15_apply]
  refine Finset.sum_congr rfl fun k _ => ?_
  rw [show lidx_main_v15 (ValueIdx.ix2 r n) k = ValueIdx.ix2 r k from ValueIdx.eq_ix2 _,
    show ridx_main_v15 (ValueIdx.ix2 r n) k = ValueIdx.ix2 k n from ValueIdx.eq_ix2 _, rows_read, weights_read]

/-- The combined projection at any index. -/
theorem proj_at (i : S65536x6912.Idx) : val_main_v15 (F := Ideal) x g w i = projAt x g w (i 0) (i 1) := by
  rw [ValueIdx.eq_ix2 i]; exact proj_read x g w _ _

theorem res22 : val_main_v22 (F := Ideal) x g w = projCols 1152 0 (by decide) x g w := funext fun i => by
  rw [val_main_v22_apply, val_main_v16_apply, proj_at]
  exact congrArg (projAt x g w _) (Fin.ext (Nat.zero_add _).symm)
theorem res17 : val_main_v17 (F := Ideal) x g w = projCols 128 1152 (by decide) x g w := funext fun i => by
  rw [val_main_v17_apply, proj_at]; rfl
theorem res23 : val_main_v23 (F := Ideal) x g w = projCols 1536 1280 (by decide) x g w := funext fun i => by
  rw [val_main_v23_apply, val_main_v18_apply, proj_at]; rfl
theorem res19 : val_main_v19 (F := Ideal) x g w = projCols 512 2816 (by decide) x g w := funext fun i => by
  rw [val_main_v19_apply, proj_at]; rfl
theorem res24 : val_main_v24 (F := Ideal) x g w = projCols 512 3328 (by decide) x g w := funext fun i => by
  rw [val_main_v24_apply, val_main_v20_apply, proj_at]; rfl
theorem res25 : val_main_v25 (F := Ideal) x g w = projCols 3072 3840 (by decide) x g w := funext fun i => by
  rw [val_main_v25_apply, val_main_v21_apply, proj_at]; rfl

/-- The reference runs, keeps its arguments, and has no counter to leave nonzero. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2, sem_eq_zero_of_no_sems (by decide) r.2⟩) (Value.run m ρ)

end Cert.InProjRefIdeal.Rows

end
-- ==== Proof.lean ====
module

public import proofs.«01_k».proof.Defs
public import proofs.«01_k».proof.Proof.Kernel.Frame
public import proofs.«01_k».proof.Proof.KernelIdeal.Frame
public import proofs.«01_k».proof.Proof.KernelIdeal.Value
public import proofs.«01_k».proof.Proof.ReferenceIdeal.Frame
public import proofs.«01_k».proof.Proof.ReferenceIdeal.Value
public import proofs.«01_k».proof.Proof.Fox.Pre
public import proofs.«01_k».proof.Proof.Ffn.Frame
public import proofs.«01_k».proof.Proof.FfnIdeal.Value
public import proofs.«01_k».proof.Proof.FfnRefIdeal.Value
public import proofs.«01_k».proof.Proof.InProj.Frame
public import proofs.«01_k».proof.Proof.Conv.Frame
public import proofs.«01_k».proof.Proof.ConvIdeal.Value
public import proofs.«01_k».proof.Proof.ConvRefIdeal.Value
public import proofs.«01_k».proof.Proof.Prep.Frame
public import proofs.«01_k».proof.Proof.PrepIdeal.Value
public import proofs.«01_k».proof.Proof.PrepRefIdeal.Value
public import proofs.«01_k».proof.Proof.FoxPrep.Frame
public import proofs.«01_k».proof.Proof.FoxPrepIdeal.Value
public import proofs.«01_k».proof.Proof.FoxPrepRefIdeal.Value
public import proofs.«01_k».proof.Proof.MergeIdeal.Value
public import proofs.«01_k».proof.Proof.Merge.Frame
public import proofs.«01_k».proof.Proof.MergeRefIdeal.Value
public import proofs.«01_k».proof.Proof.InProjIdeal.Value
public import proofs.«01_k».proof.Proof.InProjRefIdeal.Value
public import Idealize.ShloMosaic.Adequacy
public import Idealize.ShloMosaic.Init

@[expose] public section

noncomputable section

namespace Cert.Proof

open Idealize.ShloMosaic Idealize.SL.Sem

/-- The kernel and the reference end with the same result: both hold the attention of their arguments. -/
theorem fox_algebraic : Cert.algebraic_KernelIdeal_ReferenceIdeal_pre_ones_row := by
  intro m g m' g' hpre hm
  refine ⟨fun c => Cert.Fox.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), Cert.KernelIdeal.Fox.run_value m g, ?_⟩
  refine (θ_run Cert.ReferenceIdeal.defs _ _).mono (fun r hr c => ?_) (Cert.ReferenceIdeal.Value.run m' g')
  obtain ⟨h0, h⟩ := hr c
  refine ⟨h0.trans ?_, h⟩
  obtain ⟨e0, e1, e2⟩ := hm c
  obtain ⟨hq, hk, hv⟩ := Cert.Fox.pre_read (hpre c)
  rw [Cert.ReferenceIdeal.Read.val_main_v31_eq, e0, e1, e2]
  exact Cert.ReferenceIdeal.Fox.res_eq _ _ _ hq hk hv

/-- The kernel and the reference end with the same result: the mixer of their arguments added to the residual. -/
theorem ffn_algebraic : Cert.algebraic_FfnIdeal_FfnRefIdeal := by
  intro m g m' g' hpre hm
  refine ⟨fun c => Cert.Mixer.mix (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)),
    Cert.FfnIdeal.Mixer.run_value m g, ?_⟩
  refine (θ_run Cert.FfnRefIdeal.defs _ _).mono (fun r hr c => ?_) (Cert.FfnRefIdeal.Value.run m' g')
  obtain ⟨h0, h⟩ := hr c
  obtain ⟨e0, e1, e2, e3, e4, e5⟩ := hm c
  refine ⟨h0.trans ?_, h⟩
  rw [Cert.FfnRefIdeal.Read.val_main_v35_eq, e0, e1, e2, e3, e4, e5]
  exact Cert.FfnRefIdeal.Mixer.res_eq _ _ _ _ _ _

/-- The kernel and the reference end with the same six results: the columns of the projection of the normalized tokens. -/
theorem in_proj_algebraic : Cert.algebraic_InProjIdeal_InProjRefIdeal := by
  intro m g m' g' hpre hm
  refine ⟨fun c => Cert.Rows.projCols 1152 0 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.Rows.projCols 128 1152 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.Rows.projCols 1536 1280 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.Rows.projCols 512 2816 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.Rows.projCols 512 3328 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.Rows.projCols 3072 3840 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    Cert.InProjIdeal.Rows.run_value m g, ?_⟩
  refine (θ_run Cert.InProjRefIdeal.defs _ _).mono (fun r hr c => ?_) (Cert.InProjRefIdeal.Value.run m' g')
  obtain ⟨h0, h1, h2, h3, h4, h5, h⟩ := hr c
  obtain ⟨e0, e1, e2⟩ := hm c
  refine ⟨h0.trans ?_, h1.trans ?_, h2.trans ?_, h3.trans ?_, h4.trans ?_, h5.trans ?_, h⟩
  · rw [Cert.InProjRefIdeal.Read.val_main_v22_eq, e0, e1, e2]; exact Cert.InProjRefIdeal.Rows.res22 _ _ _
  · rw [Cert.InProjRefIdeal.Read.val_main_v17_eq, e0, e1, e2]; exact Cert.InProjRefIdeal.Rows.res17 _ _ _
  · rw [Cert.InProjRefIdeal.Read.val_main_v23_eq, e0, e1, e2]; exact Cert.InProjRefIdeal.Rows.res23 _ _ _
  · rw [Cert.InProjRefIdeal.Read.val_main_v19_eq, e0, e1, e2]; exact Cert.InProjRefIdeal.Rows.res19 _ _ _
  · rw [Cert.InProjRefIdeal.Read.val_main_v24_eq, e0, e1, e2]; exact Cert.InProjRefIdeal.Rows.res24 _ _ _
  · rw [Cert.InProjRefIdeal.Read.val_main_v25_eq, e0, e1, e2]; exact Cert.InProjRefIdeal.Rows.res25 _ _ _

/-- The kernel and the reference end with the same two results: the residual stream after the merge, and the same normalized. -/
theorem merge_algebraic : Cert.algebraic_MergeIdeal_MergeRefIdeal_pre_finite_branches := by
  intro m g m' g' hpre hm
  refine ⟨fun c => Cert.Gated.out (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)),
    fun c => Cert.Gated.outN (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)),
    Cert.MergeIdeal.Gated.run_value m g, ?_⟩
  refine (θ_run Cert.MergeRefIdeal.defs _ _).mono (fun r hr c => ?_) (Cert.MergeRefIdeal.Value.run m' g')
  obtain ⟨h0, h1, h⟩ := hr c
  obtain ⟨e0, e1, e2, e3, e4, e5, e6, e7, e8, e9, e10⟩ := hm c
  obtain ⟨ha, hb, hc⟩ := Cert.MergeRefIdeal.Gated.pre_read (hpre c)
  refine ⟨h0.trans ?_, h1.trans ?_, h⟩
  · rw [Cert.MergeRefIdeal.Read.val_main_v36_eq, e0, e1, e2, e3, e4, e5, e6, e7, e8, e9]
    exact Cert.MergeRefIdeal.Gated.res36 _ _ _ _ _ _ _ _ _ _ ha hb hc
  · rw [Cert.MergeRefIdeal.Read.val_main_v49_eq, e0, e1, e2, e3, e4, e5, e6, e7, e8, e9, e10]
    exact Cert.MergeRefIdeal.Gated.res49 _ _ _ _ _ _ _ _ _ _ _ ha hb hc

/-- The kernel and the reference of the convolution end with the same result. -/
theorem conv_algebraic : Cert.algebraic_ConvIdeal_ConvRefIdeal_pre_finite_norm := by
  intro m g m' g' hpre hm
  refine ⟨fun c => Cert.ConvIdeal.Filter.halfOut (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)),
    Cert.ConvIdeal.Filter.run_value m g, ?_⟩
  refine (θ_run Cert.ConvRefIdeal.defs _ _).mono (fun r hr c => ?_) (Cert.ConvRefIdeal.Value.run m' g')
  obtain ⟨h0, h⟩ := hr c
  obtain ⟨e0, e1, e2, e3, e4⟩ := hm c
  obtain ⟨hg, hb⟩ := Cert.ConvRefIdeal.Filter.pre_read (hpre c)
  refine ⟨h0.trans ?_, h⟩
  rw [Cert.ConvRefIdeal.Read.val_main_v257_eq]
  exact (Cert.ConvRefIdeal.Filter.res_of _ _ _ _ _ e0 e1 e2 e3 e4).trans
    (funext fun i => (Cert.Taps.silu_half (Cert.Taps.normAt_fin _ _ _ _ _ hg hb (i 0) (i 1).val (i 2))).symm)

/-- The kernel and the reference of the weights' preparation end with the same laid-out weights. -/
theorem prep_algebraic : Cert.algebraic_PrepIdeal_PrepRefIdeal := by
  intro m g m' g' hpre hm
  refine ⟨fun c => Cert.Columns.out (m ((c.tc : Thread Cert.PrepIdeal.nD Cert.PrepIdeal.τ).loc Cert.PrepIdeal.main_arg0)),
    Cert.PrepIdeal.Columns.run_value m g, ?_⟩
  refine (θ_run Cert.PrepRefIdeal.defs _ _).mono (fun r hr c => ?_) (Cert.PrepRefIdeal.Value.run m' g')
  obtain ⟨h0, h⟩ := hr c
  refine ⟨h0.trans ?_, h⟩
  rw [Cert.PrepRefIdeal.Read.val_main_v21_eq]
  exact Cert.PrepRefIdeal.Columns.res_of _ (hm c)

/-- The kernel and the reference of the heads' preparation end with the same three results: the queries, the keys and the values of the attention. -/
theorem fox_prep_algebraic : Cert.algebraic_FoxPrepIdeal_FoxPrepRefIdeal_pre_finite_gates := by
  intro m g m' g' hpre hm
  refine ⟨fun c => Cert.Gates.qOut (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1)) (m ((c.tc : Thread Cert.FoxPrepIdeal.nD Cert.FoxPrepIdeal.τ).loc Cert.FoxPrepIdeal.main_arg2)) (m ((c.tc : Thread Cert.FoxPrepIdeal.nD Cert.FoxPrepIdeal.τ).loc Cert.FoxPrepIdeal.main_arg3)),
    fun c => Cert.Gates.kOut (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1)) (m ((c.tc : Thread Cert.FoxPrepIdeal.nD Cert.FoxPrepIdeal.τ).loc Cert.FoxPrepIdeal.main_arg2)) (m ((c.tc : Thread Cert.FoxPrepIdeal.nD Cert.FoxPrepIdeal.τ).loc Cert.FoxPrepIdeal.main_arg4)),
    fun c => Cert.Gates.vOut (m ((c.tc : Thread Cert.FoxPrepIdeal.nD Cert.FoxPrepIdeal.τ).loc Cert.FoxPrepIdeal.main_arg0)),
    Cert.FoxPrepIdeal.Gates.run_value m g (fun c => Cert.FoxPrepRefIdeal.Lanes.pre_read (hpre c)), ?_⟩
  refine (θ_run Cert.FoxPrepRefIdeal.defs _ _).mono (fun r hr c => ?_) (Cert.FoxPrepRefIdeal.Value.run m' g')
  obtain ⟨h0, h1, h2, h⟩ := hr c
  obtain ⟨e0, e1, e2, e3, e4⟩ := hm c
  have H := Cert.FoxPrepRefIdeal.Lanes.pre_read (hpre c)
  refine ⟨h0.trans ?_, h1.trans ?_, h2.trans ?_, h⟩
  · rw [Cert.FoxPrepRefIdeal.Read.val_main_v73_eq, e0, e1, e2, e3]; exact Cert.FoxPrepRefIdeal.Lanes.q_read _ _ H
  · rw [Cert.FoxPrepRefIdeal.Read.val_main_v74_eq, e0, e1, e2, e4]; exact Cert.FoxPrepRefIdeal.Lanes.k_read _ _ H
  · rw [Cert.FoxPrepRefIdeal.Read.val_main_v75_eq, e0]; exact Cert.FoxPrepRefIdeal.Lanes.v_read _

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.Conv.Gen.facts, Cert.ConvIdeal.Gen.facts, Cert.ConvRefIdeal.Gen.facts,
  Cert.Prep.Gen.facts, Cert.PrepIdeal.Gen.facts, Cert.PrepRefIdeal.Gen.facts,
  Cert.FoxPrep.Gen.facts, Cert.FoxPrepIdeal.Gen.facts, Cert.FoxPrepRefIdeal.Gen.facts,
  Cert.Pre_ones_row.Gen.facts, Cert.Pre_finite_branches.Gen.facts, Cert.Pre_finite_norm.Gen.facts, Cert.Pre_finite_gates.Gen.facts,
  fun m ρ _ => Cert.Kernel.Fox.frame_all m ρ,
  fun m ρ _ => Cert.KernelIdeal.Fox.frame_all m ρ,
  fun m ρ _ => Cert.KernelIdeal.Fox.frame_all m ρ,
  fun m ρ _ => Cert.ReferenceIdeal.Fox.frame_all m ρ,
  fun m ρ _ => Cert.ReferenceIdeal.Fox.frame_all m ρ,
  fun m ρ _ => Cert.Ffn.Gen.frame m ρ,
  fun m ρ _ => Cert.FfnIdeal.Gen.frame m ρ,
  fun m ρ _ => Cert.FfnRefIdeal.Mixer.frame_all m ρ,
  fun m ρ _ => Cert.InProj.Gen.frame m ρ,
  fun m ρ _ => Cert.InProjIdeal.Gen.frame m ρ,
  fun m ρ _ => Cert.InProjRefIdeal.Rows.frame_all m ρ,
  fun m ρ _ => Cert.Merge.Gen.frame m ρ,
  fun m ρ _ => Cert.MergeIdeal.Gen.frame m ρ,
  fun m ρ _ => Cert.MergeIdeal.Gen.frame m ρ,
  fun m ρ _ => Cert.MergeRefIdeal.Gated.frame_all m ρ,
  fun m ρ _ => Cert.MergeRefIdeal.Gated.frame_all m ρ,
  fun m ρ _ => Cert.Conv.Gen.frame m ρ,
  fun m ρ _ => Cert.ConvIdeal.Gen.frame m ρ,
  fun m ρ _ => Cert.ConvIdeal.Gen.frame m ρ,
  fun m ρ _ => Cert.ConvRefIdeal.Filter.frame_all m ρ,
  fun m ρ _ => Cert.ConvRefIdeal.Filter.frame_all m ρ,
  fun m ρ _ => Cert.Prep.Gen.frame m ρ,
  fun m ρ _ => Cert.PrepIdeal.Gen.frame m ρ,
  fun m ρ _ => Cert.PrepRefIdeal.Columns.frame_all m ρ,
  fun m ρ _ => Cert.FoxPrep.Gen.frame m ρ,
  fun m ρ _ => Cert.FoxPrepIdeal.Gen.frame m ρ,
  fun m ρ _ => Cert.FoxPrepIdeal.Gen.frame m ρ,
  fun m ρ _ => Cert.FoxPrepRefIdeal.Lanes.frame_all m ρ,
  fun m ρ _ => Cert.FoxPrepRefIdeal.Lanes.frame_all m ρ,
  IdealRules.named_const.statement Cert.KernelIdeal.κ "mask" .f32 0xF149F2CA#32 ⊥ rfl,
  fox_algebraic,
  trivial,
  ffn_algebraic,
  trivial,
  in_proj_algebraic,
  trivial,
  merge_algebraic,
  trivial,
  conv_algebraic,
  trivial,
  prep_algebraic,
  trivial,
  fox_prep_algebraic⟩

end Cert.Proof

end
